-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))) = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))) = (fun _ => 1#1)

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguRefIdeal (m : (ℓ : Loc Cert.DguRefIdeal.nD Cert.DguRefIdeal.τ Cert.DguRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Pin (m : (ℓ : Loc Cert.Pin.nD Cert.Pin.τ Cert.Pin.sig) → Buf (Elt Bits) ℓ) : Prop :=
  True

def Pre_PinIdeal (m : (ℓ : Loc Cert.PinIdeal.nD Cert.PinIdeal.τ Cert.PinIdeal.sig) → Buf (Elt Ideal) ℓ) : Prop :=
  True

def Pre_PinRefIdeal (m : (ℓ : Loc Cert.PinRefIdeal.nD Cert.PinRefIdeal.τ Cert.PinRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_Aob (m : (ℓ : Loc Cert.Aob.nD Cert.Aob.τ Cert.Aob.sig) → Buf (Elt Bits) ℓ) : Prop :=
  True

def Pre_AobIdeal (m : (ℓ : Loc Cert.AobIdeal.nD Cert.AobIdeal.τ Cert.AobIdeal.sig) → Buf (Elt Ideal) ℓ) : Prop :=
  True

def Pre_AobRefIdeal (m : (ℓ : Loc Cert.AobRefIdeal.nD Cert.AobRefIdeal.τ Cert.AobRefIdeal.sig) → Buf (Elt Ideal) ℓ) : Prop :=
  True

def Pre_Gao (m : (ℓ : Loc Cert.Gao.nD Cert.Gao.τ Cert.Gao.sig) → Buf (Elt Bits) ℓ) : Prop :=
  True

def Pre_GaoIdeal (m : (ℓ : Loc Cert.GaoIdeal.nD Cert.GaoIdeal.τ Cert.GaoIdeal.sig) → Buf (Elt Ideal) ℓ) : Prop :=
  True

def Pre_GaoRefIdeal (m : (ℓ : Loc Cert.GaoRefIdeal.nD Cert.GaoRefIdeal.τ Cert.GaoRefIdeal.sig) → Buf (Elt Ideal) ℓ) : Prop :=
  True

def Pre_Gqkv (m : (ℓ : Loc Cert.Gqkv.nD Cert.Gqkv.τ Cert.Gqkv.sig) → Buf (Elt Bits) ℓ) : Prop :=
  True

def Pre_GqkvIdeal (m : (ℓ : Loc Cert.GqkvIdeal.nD Cert.GqkvIdeal.τ Cert.GqkvIdeal.sig) → Buf (Elt Ideal) ℓ) : Prop :=
  True

def Pre_GqkvRefIdeal (m : (ℓ : Loc Cert.GqkvRefIdeal.nD Cert.GqkvRefIdeal.τ Cert.GqkvRefIdeal.sig) → Buf (Elt Ideal) ℓ) : Prop :=
  True

def Pre_Gsq (m : (ℓ : Loc Cert.Gsq.nD Cert.Gsq.τ Cert.Gsq.sig) → Buf (Elt Bits) ℓ) : Prop :=
  True

def Pre_GsqIdeal (m : (ℓ : Loc Cert.GsqIdeal.nD Cert.GsqIdeal.τ Cert.GsqIdeal.sig) → Buf (Elt Ideal) ℓ) : Prop :=
  True

def Pre_GsqRefIdeal (m : (ℓ : Loc Cert.GsqRefIdeal.nD Cert.GsqRefIdeal.τ Cert.GsqRefIdeal.sig) → Buf (Elt Ideal) ℓ) : Prop :=
  True

def Pre_Gpp (m : (ℓ : Loc Cert.Gpp.nD Cert.Gpp.τ Cert.Gpp.sig) → Buf (Elt Bits) ℓ) : Prop :=
  True

def Pre_GppIdeal (m : (ℓ : Loc Cert.GppIdeal.nD Cert.GppIdeal.τ Cert.GppIdeal.sig) → Buf (Elt Ideal) ℓ) : Prop :=
  True

def Pre_GppRefIdeal (m : (ℓ : Loc Cert.GppRefIdeal.nD Cert.GppRefIdeal.τ Cert.GppRefIdeal.sig) → Buf (Elt Ideal) ℓ) : Prop :=
  True

def Pre_Qdh (m : (ℓ : Loc Cert.Qdh.nD Cert.Qdh.τ Cert.Qdh.sig) → Buf (Elt Bits) ℓ) : Prop :=
  True

def Pre_QdhIdeal (m : (ℓ : Loc Cert.QdhIdeal.nD Cert.QdhIdeal.τ Cert.QdhIdeal.sig) → Buf (Elt Ideal) ℓ) : Prop :=
  True

def Pre_QdhIdeal_qkv_dh_finite [hPre_qkv_dh_finite : Cert.Pre_qkv_dh_finite.Facts] (m : (ℓ : Loc Cert.QdhIdeal.nD Cert.QdhIdeal.τ Cert.QdhIdeal.sig) → Buf (Elt Ideal) ℓ) : Prop :=
  ∀ c : Dev Cert.QdhIdeal.nD,
    (Cert.Pre_qkv_dh_finite.fn (F := Ideal) (m ((c.tc : Thread Cert.QdhIdeal.nD Cert.QdhIdeal.τ).loc Cert.QdhIdeal.main_arg0)) (m ((c.tc : Thread Cert.QdhIdeal.nD Cert.QdhIdeal.τ).loc Cert.QdhIdeal.main_arg1)) (m ((c.tc : Thread Cert.QdhIdeal.nD Cert.QdhIdeal.τ).loc Cert.QdhIdeal.main_arg2)) (m ((c.tc : Thread Cert.QdhIdeal.nD Cert.QdhIdeal.τ).loc Cert.QdhIdeal.main_arg3)) (m ((c.tc : Thread Cert.QdhIdeal.nD Cert.QdhIdeal.τ).loc Cert.QdhIdeal.main_arg4))) = (fun _ => 1#1)

def Pre_QdhRefIdeal (m : (ℓ : Loc Cert.QdhRefIdeal.nD Cert.QdhRefIdeal.τ Cert.QdhRefIdeal.sig) → Buf (Elt Ideal) ℓ) : Prop :=
  True

def Pre_QdhRefIdeal_qkv_dh_finite [hPre_qkv_dh_finite : Cert.Pre_qkv_dh_finite.Facts] (m : (ℓ : Loc Cert.QdhRefIdeal.nD Cert.QdhRefIdeal.τ Cert.QdhRefIdeal.sig) → Buf (Elt Ideal) ℓ) : Prop :=
  ∀ c : Dev Cert.QdhRefIdeal.nD,
    (Cert.Pre_qkv_dh_finite.fn (F := Ideal) (m ((c.tc : Thread Cert.QdhRefIdeal.nD Cert.QdhRefIdeal.τ).loc Cert.QdhRefIdeal.main_arg0)) (m ((c.tc : Thread Cert.QdhRefIdeal.nD Cert.QdhRefIdeal.τ).loc Cert.QdhRefIdeal.main_arg1)) (m ((c.tc : Thread Cert.QdhRefIdeal.nD Cert.QdhRefIdeal.τ).loc Cert.QdhRefIdeal.main_arg2)) (m ((c.tc : Thread Cert.QdhRefIdeal.nD Cert.QdhRefIdeal.τ).loc Cert.QdhRefIdeal.main_arg3)) (m ((c.tc : Thread Cert.QdhRefIdeal.nD Cert.QdhRefIdeal.τ).loc Cert.QdhRefIdeal.main_arg4))) = (fun _ => 1#1)

def Pre_Sdh (m : (ℓ : Loc Cert.Sdh.nD Cert.Sdh.τ Cert.Sdh.sig) → Buf (Elt Bits) ℓ) : Prop :=
  True

def Pre_SdhIdeal (m : (ℓ : Loc Cert.SdhIdeal.nD Cert.SdhIdeal.τ Cert.SdhIdeal.sig) → Buf (Elt Ideal) ℓ) : Prop :=
  True

def Pre_SdhIdeal_square_dh_finite [hPre_square_dh_finite : Cert.Pre_square_dh_finite.Facts] (m : (ℓ : Loc Cert.SdhIdeal.nD Cert.SdhIdeal.τ Cert.SdhIdeal.sig) → Buf (Elt Ideal) ℓ) : Prop :=
  ∀ c : Dev Cert.SdhIdeal.nD,
    (Cert.Pre_square_dh_finite.fn (F := Ideal) (m ((c.tc : Thread Cert.SdhIdeal.nD Cert.SdhIdeal.τ).loc Cert.SdhIdeal.main_arg0)) (m ((c.tc : Thread Cert.SdhIdeal.nD Cert.SdhIdeal.τ).loc Cert.SdhIdeal.main_arg1)) (m ((c.tc : Thread Cert.SdhIdeal.nD Cert.SdhIdeal.τ).loc Cert.SdhIdeal.main_arg2)) (m ((c.tc : Thread Cert.SdhIdeal.nD Cert.SdhIdeal.τ).loc Cert.SdhIdeal.main_arg3)) (m ((c.tc : Thread Cert.SdhIdeal.nD Cert.SdhIdeal.τ).loc Cert.SdhIdeal.main_arg4))) = (fun _ => 1#1)

def Pre_SdhRefIdeal (m : (ℓ : Loc Cert.SdhRefIdeal.nD Cert.SdhRefIdeal.τ Cert.SdhRefIdeal.sig) → Buf (Elt Ideal) ℓ) : Prop :=
  True

def Pre_SdhRefIdeal_square_dh_finite [hPre_square_dh_finite : Cert.Pre_square_dh_finite.Facts] (m : (ℓ : Loc Cert.SdhRefIdeal.nD Cert.SdhRefIdeal.τ Cert.SdhRefIdeal.sig) → Buf (Elt Ideal) ℓ) : Prop :=
  ∀ c : Dev Cert.SdhRefIdeal.nD,
    (Cert.Pre_square_dh_finite.fn (F := Ideal) (m ((c.tc : Thread Cert.SdhRefIdeal.nD Cert.SdhRefIdeal.τ).loc Cert.SdhRefIdeal.main_arg0)) (m ((c.tc : Thread Cert.SdhRefIdeal.nD Cert.SdhRefIdeal.τ).loc Cert.SdhRefIdeal.main_arg1)) (m ((c.tc : Thread Cert.SdhRefIdeal.nD Cert.SdhRefIdeal.τ).loc Cert.SdhRefIdeal.main_arg2)) (m ((c.tc : Thread Cert.SdhRefIdeal.nD Cert.SdhRefIdeal.τ).loc Cert.SdhRefIdeal.main_arg3)) (m ((c.tc : Thread Cert.SdhRefIdeal.nD Cert.SdhRefIdeal.τ).loc Cert.SdhRefIdeal.main_arg4))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Pgt (m : (ℓ : Loc Cert.Pgt.nD Cert.Pgt.τ Cert.Pgt.sig) → Buf (Elt Bits) ℓ) : Prop :=
  True

def Pre_PgtIdeal (m : (ℓ : Loc Cert.PgtIdeal.nD Cert.PgtIdeal.τ Cert.PgtIdeal.sig) → Buf (Elt Ideal) ℓ) : Prop :=
  True

def Pre_PgtRefIdeal (m : (ℓ : Loc Cert.PgtRefIdeal.nD Cert.PgtRefIdeal.τ Cert.PgtRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_attention_finite [hPre_attention_finite : Cert.Pre_attention_finite.Facts] (m : (ℓ : Loc Cert.AttIdeal.nD Cert.AttIdeal.τ Cert.AttIdeal.sig) → Buf (Elt Ideal) ℓ) : Prop :=
  ∀ c : Dev Cert.AttIdeal.nD,
    (Cert.Pre_attention_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_attention_finite [hPre_attention_finite : Cert.Pre_attention_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_attention_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Pgr (m : (ℓ : Loc Cert.Pgr.nD Cert.Pgr.τ Cert.Pgr.sig) → Buf (Elt Bits) ℓ) : Prop :=
  True

def Pre_PgrIdeal (m : (ℓ : Loc Cert.PgrIdeal.nD Cert.PgrIdeal.τ Cert.PgrIdeal.sig) → Buf (Elt Ideal) ℓ) : Prop :=
  True

def Pre_PgrRefIdeal (m : (ℓ : Loc Cert.PgrRefIdeal.nD Cert.PgrRefIdeal.τ Cert.PgrRefIdeal.sig) → Buf (Elt Ideal) ℓ) : Prop :=
  True

def Pre_Los (m : (ℓ : Loc Cert.Los.nD Cert.Los.τ Cert.Los.sig) → Buf (Elt Bits) ℓ) : Prop :=
  True

def Pre_LosIdeal (m : (ℓ : Loc Cert.LosIdeal.nD Cert.LosIdeal.τ Cert.LosIdeal.sig) → Buf (Elt Ideal) ℓ) : Prop :=
  True

def Pre_LosRefIdeal (m : (ℓ : Loc Cert.LosRefIdeal.nD Cert.LosRefIdeal.τ Cert.LosRefIdeal.sig) → Buf (Elt Ideal) ℓ) : Prop :=
  True

def Pre_Ads (m : (ℓ : Loc Cert.Ads.nD Cert.Ads.τ Cert.Ads.sig) → Buf (Elt Bits) ℓ) : Prop :=
  True

def Pre_AdsIdeal (m : (ℓ : Loc Cert.AdsIdeal.nD Cert.AdsIdeal.τ Cert.AdsIdeal.sig) → Buf (Elt Ideal) ℓ) : Prop :=
  True

def Pre_AdsRefIdeal (m : (ℓ : Loc Cert.AdsRefIdeal.nD Cert.AdsRefIdeal.τ Cert.AdsRefIdeal.sig) → Buf (Elt Ideal) ℓ) : Prop :=
  True

def Pre_Hnm (m : (ℓ : Loc Cert.Hnm.nD Cert.Hnm.τ Cert.Hnm.sig) → Buf (Elt Bits) ℓ) : Prop :=
  True

def Pre_HnmIdeal (m : (ℓ : Loc Cert.HnmIdeal.nD Cert.HnmIdeal.τ Cert.HnmIdeal.sig) → Buf (Elt Ideal) ℓ) : Prop :=
  True

def Pre_HnmRefIdeal (m : (ℓ : Loc Cert.HnmRefIdeal.nD Cert.HnmRefIdeal.τ Cert.HnmRefIdeal.sig) → Buf (Elt Ideal) ℓ) : Prop :=
  True

def Pre_Hnb (m : (ℓ : Loc Cert.Hnb.nD Cert.Hnb.τ Cert.Hnb.sig) → Buf (Elt Bits) ℓ) : Prop :=
  True

def Pre_HnbIdeal (m : (ℓ : Loc Cert.HnbIdeal.nD Cert.HnbIdeal.τ Cert.HnbIdeal.sig) → Buf (Elt Ideal) ℓ) : Prop :=
  True

def Pre_HnbIdeal_qk_norm_finite [hPre_qk_norm_finite : Cert.Pre_qk_norm_finite.Facts] (m : (ℓ : Loc Cert.HnbIdeal.nD Cert.HnbIdeal.τ Cert.HnbIdeal.sig) → Buf (Elt Ideal) ℓ) : Prop :=
  ∀ c : Dev Cert.HnbIdeal.nD,
    (Cert.Pre_qk_norm_finite.fn (F := Ideal) (m ((c.tc : Thread Cert.HnbIdeal.nD Cert.HnbIdeal.τ).loc Cert.HnbIdeal.main_arg0)) (m ((c.tc : Thread Cert.HnbIdeal.nD Cert.HnbIdeal.τ).loc Cert.HnbIdeal.main_arg1)) (m ((c.tc : Thread Cert.HnbIdeal.nD Cert.HnbIdeal.τ).loc Cert.HnbIdeal.main_arg2)) (m ((c.tc : Thread Cert.HnbIdeal.nD Cert.HnbIdeal.τ).loc Cert.HnbIdeal.main_arg3)) (m ((c.tc : Thread Cert.HnbIdeal.nD Cert.HnbIdeal.τ).loc Cert.HnbIdeal.main_arg4)) (m ((c.tc : Thread Cert.HnbIdeal.nD Cert.HnbIdeal.τ).loc Cert.HnbIdeal.main_arg5))) = (fun _ => 1#1)

def Pre_HnbRefIdeal (m : (ℓ : Loc Cert.HnbRefIdeal.nD Cert.HnbRefIdeal.τ Cert.HnbRefIdeal.sig) → Buf (Elt Ideal) ℓ) : Prop :=
  True

def Pre_HnbRefIdeal_qk_norm_finite [hPre_qk_norm_finite : Cert.Pre_qk_norm_finite.Facts] (m : (ℓ : Loc Cert.HnbRefIdeal.nD Cert.HnbRefIdeal.τ Cert.HnbRefIdeal.sig) → Buf (Elt Ideal) ℓ) : Prop :=
  ∀ c : Dev Cert.HnbRefIdeal.nD,
    (Cert.Pre_qk_norm_finite.fn (F := Ideal) (m ((c.tc : Thread Cert.HnbRefIdeal.nD Cert.HnbRefIdeal.τ).loc Cert.HnbRefIdeal.main_arg0)) (m ((c.tc : Thread Cert.HnbRefIdeal.nD Cert.HnbRefIdeal.τ).loc Cert.HnbRefIdeal.main_arg1)) (m ((c.tc : Thread Cert.HnbRefIdeal.nD Cert.HnbRefIdeal.τ).loc Cert.HnbRefIdeal.main_arg2)) (m ((c.tc : Thread Cert.HnbRefIdeal.nD Cert.HnbRefIdeal.τ).loc Cert.HnbRefIdeal.main_arg3)) (m ((c.tc : Thread Cert.HnbRefIdeal.nD Cert.HnbRefIdeal.τ).loc Cert.HnbRefIdeal.main_arg4)) (m ((c.tc : Thread Cert.HnbRefIdeal.nD Cert.HnbRefIdeal.τ).loc Cert.HnbRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Pin [hPin : Cert.Pin.Facts] : Prop :=
  ∀ (m : (ℓ : Loc Cert.Pin.nD Cert.Pin.τ Cert.Pin.sig) → Buf (Elt Bits) ℓ) (g : Dev Cert.Pin.nD → PrngReg), Pre_Pin m →
    θ_run (Cert.Pin.defs (F := Bits)) (onTc (τ := Cert.Pin.τ) (Cert.Pin.main (F := Bits))) ⟨m, fun _ => 0, g⟩ (fun r => (∀ c : Dev Cert.Pin.nD,
      r.2.mem ((c.tc : Thread Cert.Pin.nD Cert.Pin.τ).loc Cert.Pin.main_arg0) = m ((c.tc : Thread Cert.Pin.nD Cert.Pin.τ).loc Cert.Pin.main_arg0)
      ∧ r.2.mem ((c.tc : Thread Cert.Pin.nD Cert.Pin.τ).loc Cert.Pin.main_arg1) = m ((c.tc : Thread Cert.Pin.nD Cert.Pin.τ).loc Cert.Pin.main_arg1)
      ∧ r.2.mem ((c.tc : Thread Cert.Pin.nD Cert.Pin.τ).loc Cert.Pin.main_arg2) = m ((c.tc : Thread Cert.Pin.nD Cert.Pin.τ).loc Cert.Pin.main_arg2))
      ∧ r.2.sem = fun _ => 0)

def quiescent_PinIdeal [hPinIdeal : Cert.PinIdeal.Facts] : Prop :=
  ∀ (m : (ℓ : Loc Cert.PinIdeal.nD Cert.PinIdeal.τ Cert.PinIdeal.sig) → Buf (Elt Ideal) ℓ) (g : Dev Cert.PinIdeal.nD → PrngReg), Pre_PinIdeal m →
    θ_run (Cert.PinIdeal.defs (F := Ideal)) (onTc (τ := Cert.PinIdeal.τ) (Cert.PinIdeal.main (F := Ideal))) ⟨m, fun _ => 0, g⟩ (fun r => (∀ c : Dev Cert.PinIdeal.nD,
      r.2.mem ((c.tc : Thread Cert.PinIdeal.nD Cert.PinIdeal.τ).loc Cert.PinIdeal.main_arg0) = m ((c.tc : Thread Cert.PinIdeal.nD Cert.PinIdeal.τ).loc Cert.PinIdeal.main_arg0)
      ∧ r.2.mem ((c.tc : Thread Cert.PinIdeal.nD Cert.PinIdeal.τ).loc Cert.PinIdeal.main_arg1) = m ((c.tc : Thread Cert.PinIdeal.nD Cert.PinIdeal.τ).loc Cert.PinIdeal.main_arg1)
      ∧ r.2.mem ((c.tc : Thread Cert.PinIdeal.nD Cert.PinIdeal.τ).loc Cert.PinIdeal.main_arg2) = m ((c.tc : Thread Cert.PinIdeal.nD Cert.PinIdeal.τ).loc Cert.PinIdeal.main_arg2))
      ∧ r.2.sem = fun _ => 0)

def quiescent_PinRefIdeal [hPinRefIdeal : Cert.PinRefIdeal.Facts] : Prop :=
  ∀ (m : (ℓ : Loc Cert.PinRefIdeal.nD Cert.PinRefIdeal.τ Cert.PinRefIdeal.sig) → Buf (Elt Ideal) ℓ) (g : Dev Cert.PinRefIdeal.nD → PrngReg), Pre_PinRefIdeal m →
    θ_run (Cert.PinRefIdeal.defs (F := Ideal)) (onTc (τ := Cert.PinRefIdeal.τ) (Cert.PinRefIdeal.main (F := Ideal))) ⟨m, fun _ => 0, g⟩ (fun r => (∀ c : Dev Cert.PinRefIdeal.nD,
      r.2.mem ((c.tc : Thread Cert.PinRefIdeal.nD Cert.PinRefIdeal.τ).loc Cert.PinRefIdeal.main_arg0) = m ((c.tc : Thread Cert.PinRefIdeal.nD Cert.PinRefIdeal.τ).loc Cert.PinRefIdeal.main_arg0)
      ∧ r.2.mem ((c.tc : Thread Cert.PinRefIdeal.nD Cert.PinRefIdeal.τ).loc Cert.PinRefIdeal.main_arg1) = m ((c.tc : Thread Cert.PinRefIdeal.nD Cert.PinRefIdeal.τ).loc Cert.PinRefIdeal.main_arg1)
      ∧ r.2.mem ((c.tc : Thread Cert.PinRefIdeal.nD Cert.PinRefIdeal.τ).loc Cert.PinRefIdeal.main_arg2) = m ((c.tc : Thread Cert.PinRefIdeal.nD Cert.PinRefIdeal.τ).loc Cert.PinRefIdeal.main_arg2))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2))
      ∧ r.2.sem = fun _ => 0)

def quiescent_Aob [hAob : Cert.Aob.Facts] : Prop :=
  ∀ (m : (ℓ : Loc Cert.Aob.nD Cert.Aob.τ Cert.Aob.sig) → Buf (Elt Bits) ℓ) (g : Dev Cert.Aob.nD → PrngReg), Pre_Aob m →
    θ_run (Cert.Aob.defs (F := Bits)) (onTc (τ := Cert.Aob.τ) (Cert.Aob.main (F := Bits))) ⟨m, fun _ => 0, g⟩ (fun r => (∀ c : Dev Cert.Aob.nD,
      r.2.mem ((c.tc : Thread Cert.Aob.nD Cert.Aob.τ).loc Cert.Aob.main_arg0) = m ((c.tc : Thread Cert.Aob.nD Cert.Aob.τ).loc Cert.Aob.main_arg0)
      ∧ r.2.mem ((c.tc : Thread Cert.Aob.nD Cert.Aob.τ).loc Cert.Aob.main_arg1) = m ((c.tc : Thread Cert.Aob.nD Cert.Aob.τ).loc Cert.Aob.main_arg1))
      ∧ r.2.sem = fun _ => 0)

def quiescent_AobIdeal [hAobIdeal : Cert.AobIdeal.Facts] : Prop :=
  ∀ (m : (ℓ : Loc Cert.AobIdeal.nD Cert.AobIdeal.τ Cert.AobIdeal.sig) → Buf (Elt Ideal) ℓ) (g : Dev Cert.AobIdeal.nD → PrngReg), Pre_AobIdeal m →
    θ_run (Cert.AobIdeal.defs (F := Ideal)) (onTc (τ := Cert.AobIdeal.τ) (Cert.AobIdeal.main (F := Ideal))) ⟨m, fun _ => 0, g⟩ (fun r => (∀ c : Dev Cert.AobIdeal.nD,
      r.2.mem ((c.tc : Thread Cert.AobIdeal.nD Cert.AobIdeal.τ).loc Cert.AobIdeal.main_arg0) = m ((c.tc : Thread Cert.AobIdeal.nD Cert.AobIdeal.τ).loc Cert.AobIdeal.main_arg0)
      ∧ r.2.mem ((c.tc : Thread Cert.AobIdeal.nD Cert.AobIdeal.τ).loc Cert.AobIdeal.main_arg1) = m ((c.tc : Thread Cert.AobIdeal.nD Cert.AobIdeal.τ).loc Cert.AobIdeal.main_arg1))
      ∧ r.2.sem = fun _ => 0)

def quiescent_AobRefIdeal [hAobRefIdeal : Cert.AobRefIdeal.Facts] : Prop :=
  ∀ (m : (ℓ : Loc Cert.AobRefIdeal.nD Cert.AobRefIdeal.τ Cert.AobRefIdeal.sig) → Buf (Elt Ideal) ℓ) (g : Dev Cert.AobRefIdeal.nD → PrngReg), Pre_AobRefIdeal m →
    θ_run (Cert.AobRefIdeal.defs (F := Ideal)) (onTc (τ := Cert.AobRefIdeal.τ) (Cert.AobRefIdeal.main (F := Ideal))) ⟨m, fun _ => 0, g⟩ (fun r => (∀ c : Dev Cert.AobRefIdeal.nD,
      r.2.mem ((c.tc : Thread Cert.AobRefIdeal.nD Cert.AobRefIdeal.τ).loc Cert.AobRefIdeal.main_arg0) = m ((c.tc : Thread Cert.AobRefIdeal.nD Cert.AobRefIdeal.τ).loc Cert.AobRefIdeal.main_arg0)
      ∧ r.2.mem ((c.tc : Thread Cert.AobRefIdeal.nD Cert.AobRefIdeal.τ).loc Cert.AobRefIdeal.main_arg1) = m ((c.tc : Thread Cert.AobRefIdeal.nD Cert.AobRefIdeal.τ).loc Cert.AobRefIdeal.main_arg1))
      ∧ r.2.sem = fun _ => 0)

def quiescent_Gao [hGao : Cert.Gao.Facts] : Prop :=
  ∀ (m : (ℓ : Loc Cert.Gao.nD Cert.Gao.τ Cert.Gao.sig) → Buf (Elt Bits) ℓ) (g : Dev Cert.Gao.nD → PrngReg), Pre_Gao m →
    θ_run (Cert.Gao.defs (F := Bits)) (onTc (τ := Cert.Gao.τ) (Cert.Gao.main (F := Bits))) ⟨m, fun _ => 0, g⟩ (fun r => (∀ c : Dev Cert.Gao.nD,
      r.2.mem ((c.tc : Thread Cert.Gao.nD Cert.Gao.τ).loc Cert.Gao.main_arg0) = m ((c.tc : Thread Cert.Gao.nD Cert.Gao.τ).loc Cert.Gao.main_arg0)
      ∧ r.2.mem ((c.tc : Thread Cert.Gao.nD Cert.Gao.τ).loc Cert.Gao.main_arg1) = m ((c.tc : Thread Cert.Gao.nD Cert.Gao.τ).loc Cert.Gao.main_arg1))
      ∧ r.2.sem = fun _ => 0)

def quiescent_GaoIdeal [hGaoIdeal : Cert.GaoIdeal.Facts] : Prop :=
  ∀ (m : (ℓ : Loc Cert.GaoIdeal.nD Cert.GaoIdeal.τ Cert.GaoIdeal.sig) → Buf (Elt Ideal) ℓ) (g : Dev Cert.GaoIdeal.nD → PrngReg), Pre_GaoIdeal m →
    θ_run (Cert.GaoIdeal.defs (F := Ideal)) (onTc (τ := Cert.GaoIdeal.τ) (Cert.GaoIdeal.main (F := Ideal))) ⟨m, fun _ => 0, g⟩ (fun r => (∀ c : Dev Cert.GaoIdeal.nD,
      r.2.mem ((c.tc : Thread Cert.GaoIdeal.nD Cert.GaoIdeal.τ).loc Cert.GaoIdeal.main_arg0) = m ((c.tc : Thread Cert.GaoIdeal.nD Cert.GaoIdeal.τ).loc Cert.GaoIdeal.main_arg0)
      ∧ r.2.mem ((c.tc : Thread Cert.GaoIdeal.nD Cert.GaoIdeal.τ).loc Cert.GaoIdeal.main_arg1) = m ((c.tc : Thread Cert.GaoIdeal.nD Cert.GaoIdeal.τ).loc Cert.GaoIdeal.main_arg1))
      ∧ r.2.sem = fun _ => 0)

def quiescent_GaoRefIdeal [hGaoRefIdeal : Cert.GaoRefIdeal.Facts] : Prop :=
  ∀ (m : (ℓ : Loc Cert.GaoRefIdeal.nD Cert.GaoRefIdeal.τ Cert.GaoRefIdeal.sig) → Buf (Elt Ideal) ℓ) (g : Dev Cert.GaoRefIdeal.nD → PrngReg), Pre_GaoRefIdeal m →
    θ_run (Cert.GaoRefIdeal.defs (F := Ideal)) (onTc (τ := Cert.GaoRefIdeal.τ) (Cert.GaoRefIdeal.main (F := Ideal))) ⟨m, fun _ => 0, g⟩ (fun r => (∀ c : Dev Cert.GaoRefIdeal.nD,
      r.2.mem ((c.tc : Thread Cert.GaoRefIdeal.nD Cert.GaoRefIdeal.τ).loc Cert.GaoRefIdeal.main_arg0) = m ((c.tc : Thread Cert.GaoRefIdeal.nD Cert.GaoRefIdeal.τ).loc Cert.GaoRefIdeal.main_arg0)
      ∧ r.2.mem ((c.tc : Thread Cert.GaoRefIdeal.nD Cert.GaoRefIdeal.τ).loc Cert.GaoRefIdeal.main_arg1) = m ((c.tc : Thread Cert.GaoRefIdeal.nD Cert.GaoRefIdeal.τ).loc Cert.GaoRefIdeal.main_arg1))
      ∧ r.2.sem = fun _ => 0)

def quiescent_Gqkv [hGqkv : Cert.Gqkv.Facts] : Prop :=
  ∀ (m : (ℓ : Loc Cert.Gqkv.nD Cert.Gqkv.τ Cert.Gqkv.sig) → Buf (Elt Bits) ℓ) (g : Dev Cert.Gqkv.nD → PrngReg), Pre_Gqkv m →
    θ_run (Cert.Gqkv.defs (F := Bits)) (onTc (τ := Cert.Gqkv.τ) (Cert.Gqkv.main (F := Bits))) ⟨m, fun _ => 0, g⟩ (fun r => (∀ c : Dev Cert.Gqkv.nD,
      r.2.mem ((c.tc : Thread Cert.Gqkv.nD Cert.Gqkv.τ).loc Cert.Gqkv.main_arg0) = m ((c.tc : Thread Cert.Gqkv.nD Cert.Gqkv.τ).loc Cert.Gqkv.main_arg0)
      ∧ r.2.mem ((c.tc : Thread Cert.Gqkv.nD Cert.Gqkv.τ).loc Cert.Gqkv.main_arg1) = m ((c.tc : Thread Cert.Gqkv.nD Cert.Gqkv.τ).loc Cert.Gqkv.main_arg1))
      ∧ r.2.sem = fun _ => 0)

def quiescent_GqkvIdeal [hGqkvIdeal : Cert.GqkvIdeal.Facts] : Prop :=
  ∀ (m : (ℓ : Loc Cert.GqkvIdeal.nD Cert.GqkvIdeal.τ Cert.GqkvIdeal.sig) → Buf (Elt Ideal) ℓ) (g : Dev Cert.GqkvIdeal.nD → PrngReg), Pre_GqkvIdeal m →
    θ_run (Cert.GqkvIdeal.defs (F := Ideal)) (onTc (τ := Cert.GqkvIdeal.τ) (Cert.GqkvIdeal.main (F := Ideal))) ⟨m, fun _ => 0, g⟩ (fun r => (∀ c : Dev Cert.GqkvIdeal.nD,
      r.2.mem ((c.tc : Thread Cert.GqkvIdeal.nD Cert.GqkvIdeal.τ).loc Cert.GqkvIdeal.main_arg0) = m ((c.tc : Thread Cert.GqkvIdeal.nD Cert.GqkvIdeal.τ).loc Cert.GqkvIdeal.main_arg0)
      ∧ r.2.mem ((c.tc : Thread Cert.GqkvIdeal.nD Cert.GqkvIdeal.τ).loc Cert.GqkvIdeal.main_arg1) = m ((c.tc : Thread Cert.GqkvIdeal.nD Cert.GqkvIdeal.τ).loc Cert.GqkvIdeal.main_arg1))
      ∧ r.2.sem = fun _ => 0)

def quiescent_GqkvRefIdeal [hGqkvRefIdeal : Cert.GqkvRefIdeal.Facts] : Prop :=
  ∀ (m : (ℓ : Loc Cert.GqkvRefIdeal.nD Cert.GqkvRefIdeal.τ Cert.GqkvRefIdeal.sig) → Buf (Elt Ideal) ℓ) (g : Dev Cert.GqkvRefIdeal.nD → PrngReg), Pre_GqkvRefIdeal m →
    θ_run (Cert.GqkvRefIdeal.defs (F := Ideal)) (onTc (τ := Cert.GqkvRefIdeal.τ) (Cert.GqkvRefIdeal.main (F := Ideal))) ⟨m, fun _ => 0, g⟩ (fun r => (∀ c : Dev Cert.GqkvRefIdeal.nD,
      r.2.mem ((c.tc : Thread Cert.GqkvRefIdeal.nD Cert.GqkvRefIdeal.τ).loc Cert.GqkvRefIdeal.main_arg0) = m ((c.tc : Thread Cert.GqkvRefIdeal.nD Cert.GqkvRefIdeal.τ).loc Cert.GqkvRefIdeal.main_arg0)
      ∧ r.2.mem ((c.tc : Thread Cert.GqkvRefIdeal.nD Cert.GqkvRefIdeal.τ).loc Cert.GqkvRefIdeal.main_arg1) = m ((c.tc : Thread Cert.GqkvRefIdeal.nD Cert.GqkvRefIdeal.τ).loc Cert.GqkvRefIdeal.main_arg1))
      ∧ r.2.sem = fun _ => 0)

def quiescent_Gsq [hGsq : Cert.Gsq.Facts] : Prop :=
  ∀ (m : (ℓ : Loc Cert.Gsq.nD Cert.Gsq.τ Cert.Gsq.sig) → Buf (Elt Bits) ℓ) (g : Dev Cert.Gsq.nD → PrngReg), Pre_Gsq m →
    θ_run (Cert.Gsq.defs (F := Bits)) (onTc (τ := Cert.Gsq.τ) (Cert.Gsq.main (F := Bits))) ⟨m, fun _ => 0, g⟩ (fun r => (∀ c : Dev Cert.Gsq.nD,
      r.2.mem ((c.tc : Thread Cert.Gsq.nD Cert.Gsq.τ).loc Cert.Gsq.main_arg0) = m ((c.tc : Thread Cert.Gsq.nD Cert.Gsq.τ).loc Cert.Gsq.main_arg0)
      ∧ r.2.mem ((c.tc : Thread Cert.Gsq.nD Cert.Gsq.τ).loc Cert.Gsq.main_arg1) = m ((c.tc : Thread Cert.Gsq.nD Cert.Gsq.τ).loc Cert.Gsq.main_arg1))
      ∧ r.2.sem = fun _ => 0)

def quiescent_GsqIdeal [hGsqIdeal : Cert.GsqIdeal.Facts] : Prop :=
  ∀ (m : (ℓ : Loc Cert.GsqIdeal.nD Cert.GsqIdeal.τ Cert.GsqIdeal.sig) → Buf (Elt Ideal) ℓ) (g : Dev Cert.GsqIdeal.nD → PrngReg), Pre_GsqIdeal m →
    θ_run (Cert.GsqIdeal.defs (F := Ideal)) (onTc (τ := Cert.GsqIdeal.τ) (Cert.GsqIdeal.main (F := Ideal))) ⟨m, fun _ => 0, g⟩ (fun r => (∀ c : Dev Cert.GsqIdeal.nD,
      r.2.mem ((c.tc : Thread Cert.GsqIdeal.nD Cert.GsqIdeal.τ).loc Cert.GsqIdeal.main_arg0) = m ((c.tc : Thread Cert.GsqIdeal.nD Cert.GsqIdeal.τ).loc Cert.GsqIdeal.main_arg0)
      ∧ r.2.mem ((c.tc : Thread Cert.GsqIdeal.nD Cert.GsqIdeal.τ).loc Cert.GsqIdeal.main_arg1) = m ((c.tc : Thread Cert.GsqIdeal.nD Cert.GsqIdeal.τ).loc Cert.GsqIdeal.main_arg1))
      ∧ r.2.sem = fun _ => 0)

def quiescent_GsqRefIdeal [hGsqRefIdeal : Cert.GsqRefIdeal.Facts] : Prop :=
  ∀ (m : (ℓ : Loc Cert.GsqRefIdeal.nD Cert.GsqRefIdeal.τ Cert.GsqRefIdeal.sig) → Buf (Elt Ideal) ℓ) (g : Dev Cert.GsqRefIdeal.nD → PrngReg), Pre_GsqRefIdeal m →
    θ_run (Cert.GsqRefIdeal.defs (F := Ideal)) (onTc (τ := Cert.GsqRefIdeal.τ) (Cert.GsqRefIdeal.main (F := Ideal))) ⟨m, fun _ => 0, g⟩ (fun r => (∀ c : Dev Cert.GsqRefIdeal.nD,
      r.2.mem ((c.tc : Thread Cert.GsqRefIdeal.nD Cert.GsqRefIdeal.τ).loc Cert.GsqRefIdeal.main_arg0) = m ((c.tc : Thread Cert.GsqRefIdeal.nD Cert.GsqRefIdeal.τ).loc Cert.GsqRefIdeal.main_arg0)
      ∧ r.2.mem ((c.tc : Thread Cert.GsqRefIdeal.nD Cert.GsqRefIdeal.τ).loc Cert.GsqRefIdeal.main_arg1) = m ((c.tc : Thread Cert.GsqRefIdeal.nD Cert.GsqRefIdeal.τ).loc Cert.GsqRefIdeal.main_arg1))
      ∧ r.2.sem = fun _ => 0)

def quiescent_Gpp [hGpp : Cert.Gpp.Facts] : Prop :=
  ∀ (m : (ℓ : Loc Cert.Gpp.nD Cert.Gpp.τ Cert.Gpp.sig) → Buf (Elt Bits) ℓ) (g : Dev Cert.Gpp.nD → PrngReg), Pre_Gpp m →
    θ_run (Cert.Gpp.defs (F := Bits)) (onTc (τ := Cert.Gpp.τ) (Cert.Gpp.main (F := Bits))) ⟨m, fun _ => 0, g⟩ (fun r => (∀ c : Dev Cert.Gpp.nD,
      r.2.mem ((c.tc : Thread Cert.Gpp.nD Cert.Gpp.τ).loc Cert.Gpp.main_arg0) = m ((c.tc : Thread Cert.Gpp.nD Cert.Gpp.τ).loc Cert.Gpp.main_arg0)
      ∧ r.2.mem ((c.tc : Thread Cert.Gpp.nD Cert.Gpp.τ).loc Cert.Gpp.main_arg1) = m ((c.tc : Thread Cert.Gpp.nD Cert.Gpp.τ).loc Cert.Gpp.main_arg1))
      ∧ r.2.sem = fun _ => 0)

def quiescent_GppIdeal [hGppIdeal : Cert.GppIdeal.Facts] : Prop :=
  ∀ (m : (ℓ : Loc Cert.GppIdeal.nD Cert.GppIdeal.τ Cert.GppIdeal.sig) → Buf (Elt Ideal) ℓ) (g : Dev Cert.GppIdeal.nD → PrngReg), Pre_GppIdeal m →
    θ_run (Cert.GppIdeal.defs (F := Ideal)) (onTc (τ := Cert.GppIdeal.τ) (Cert.GppIdeal.main (F := Ideal))) ⟨m, fun _ => 0, g⟩ (fun r => (∀ c : Dev Cert.GppIdeal.nD,
      r.2.mem ((c.tc : Thread Cert.GppIdeal.nD Cert.GppIdeal.τ).loc Cert.GppIdeal.main_arg0) = m ((c.tc : Thread Cert.GppIdeal.nD Cert.GppIdeal.τ).loc Cert.GppIdeal.main_arg0)
      ∧ r.2.mem ((c.tc : Thread Cert.GppIdeal.nD Cert.GppIdeal.τ).loc Cert.GppIdeal.main_arg1) = m ((c.tc : Thread Cert.GppIdeal.nD Cert.GppIdeal.τ).loc Cert.GppIdeal.main_arg1))
      ∧ r.2.sem = fun _ => 0)

def quiescent_GppRefIdeal [hGppRefIdeal : Cert.GppRefIdeal.Facts] : Prop :=
  ∀ (m : (ℓ : Loc Cert.GppRefIdeal.nD Cert.GppRefIdeal.τ Cert.GppRefIdeal.sig) → Buf (Elt Ideal) ℓ) (g : Dev Cert.GppRefIdeal.nD → PrngReg), Pre_GppRefIdeal m →
    θ_run (Cert.GppRefIdeal.defs (F := Ideal)) (onTc (τ := Cert.GppRefIdeal.τ) (Cert.GppRefIdeal.main (F := Ideal))) ⟨m, fun _ => 0, g⟩ (fun r => (∀ c : Dev Cert.GppRefIdeal.nD,
      r.2.mem ((c.tc : Thread Cert.GppRefIdeal.nD Cert.GppRefIdeal.τ).loc Cert.GppRefIdeal.main_arg0) = m ((c.tc : Thread Cert.GppRefIdeal.nD Cert.GppRefIdeal.τ).loc Cert.GppRefIdeal.main_arg0)
      ∧ r.2.mem ((c.tc : Thread Cert.GppRefIdeal.nD Cert.GppRefIdeal.τ).loc Cert.GppRefIdeal.main_arg1) = m ((c.tc : Thread Cert.GppRefIdeal.nD Cert.GppRefIdeal.τ).loc Cert.GppRefIdeal.main_arg1))
      ∧ r.2.sem = fun _ => 0)

def quiescent_Qdh [hQdh : Cert.Qdh.Facts] : Prop :=
  ∀ (m : (ℓ : Loc Cert.Qdh.nD Cert.Qdh.τ Cert.Qdh.sig) → Buf (Elt Bits) ℓ) (g : Dev Cert.Qdh.nD → PrngReg), Pre_Qdh m →
    θ_run (Cert.Qdh.defs (F := Bits)) (onTc (τ := Cert.Qdh.τ) (Cert.Qdh.main (F := Bits))) ⟨m, fun _ => 0, g⟩ (fun r => (∀ c : Dev Cert.Qdh.nD,
      r.2.mem ((c.tc : Thread Cert.Qdh.nD Cert.Qdh.τ).loc Cert.Qdh.main_arg0) = m ((c.tc : Thread Cert.Qdh.nD Cert.Qdh.τ).loc Cert.Qdh.main_arg0)
      ∧ r.2.mem ((c.tc : Thread Cert.Qdh.nD Cert.Qdh.τ).loc Cert.Qdh.main_arg1) = m ((c.tc : Thread Cert.Qdh.nD Cert.Qdh.τ).loc Cert.Qdh.main_arg1)
      ∧ r.2.mem ((c.tc : Thread Cert.Qdh.nD Cert.Qdh.τ).loc Cert.Qdh.main_arg2) = m ((c.tc : Thread Cert.Qdh.nD Cert.Qdh.τ).loc Cert.Qdh.main_arg2)
      ∧ r.2.mem ((c.tc : Thread Cert.Qdh.nD Cert.Qdh.τ).loc Cert.Qdh.main_arg3) = m ((c.tc : Thread Cert.Qdh.nD Cert.Qdh.τ).loc Cert.Qdh.main_arg3)
      ∧ r.2.mem ((c.tc : Thread Cert.Qdh.nD Cert.Qdh.τ).loc Cert.Qdh.main_arg4) = m ((c.tc : Thread Cert.Qdh.nD Cert.Qdh.τ).loc Cert.Qdh.main_arg4))
      ∧ r.2.sem = fun _ => 0)

def quiescent_QdhIdeal [hQdhIdeal : Cert.QdhIdeal.Facts] : Prop :=
  ∀ (m : (ℓ : Loc Cert.QdhIdeal.nD Cert.QdhIdeal.τ Cert.QdhIdeal.sig) → Buf (Elt Ideal) ℓ) (g : Dev Cert.QdhIdeal.nD → PrngReg), Pre_QdhIdeal m →
    θ_run (Cert.QdhIdeal.defs (F := Ideal)) (onTc (τ := Cert.QdhIdeal.τ) (Cert.QdhIdeal.main (F := Ideal))) ⟨m, fun _ => 0, g⟩ (fun r => (∀ c : Dev Cert.QdhIdeal.nD,
      r.2.mem ((c.tc : Thread Cert.QdhIdeal.nD Cert.QdhIdeal.τ).loc Cert.QdhIdeal.main_arg0) = m ((c.tc : Thread Cert.QdhIdeal.nD Cert.QdhIdeal.τ).loc Cert.QdhIdeal.main_arg0)
      ∧ r.2.mem ((c.tc : Thread Cert.QdhIdeal.nD Cert.QdhIdeal.τ).loc Cert.QdhIdeal.main_arg1) = m ((c.tc : Thread Cert.QdhIdeal.nD Cert.QdhIdeal.τ).loc Cert.QdhIdeal.main_arg1)
      ∧ r.2.mem ((c.tc : Thread Cert.QdhIdeal.nD Cert.QdhIdeal.τ).loc Cert.QdhIdeal.main_arg2) = m ((c.tc : Thread Cert.QdhIdeal.nD Cert.QdhIdeal.τ).loc Cert.QdhIdeal.main_arg2)
      ∧ r.2.mem ((c.tc : Thread Cert.QdhIdeal.nD Cert.QdhIdeal.τ).loc Cert.QdhIdeal.main_arg3) = m ((c.tc : Thread Cert.QdhIdeal.nD Cert.QdhIdeal.τ).loc Cert.QdhIdeal.main_arg3)
      ∧ r.2.mem ((c.tc : Thread Cert.QdhIdeal.nD Cert.QdhIdeal.τ).loc Cert.QdhIdeal.main_arg4) = m ((c.tc : Thread Cert.QdhIdeal.nD Cert.QdhIdeal.τ).loc Cert.QdhIdeal.main_arg4))
      ∧ r.2.sem = fun _ => 0)

def quiescent_QdhIdeal_pre_qkv_dh_finite [hQdhIdeal : Cert.QdhIdeal.Facts] [hPre_qkv_dh_finite : Cert.Pre_qkv_dh_finite.Facts] : Prop :=
  ∀ (m : (ℓ : Loc Cert.QdhIdeal.nD Cert.QdhIdeal.τ Cert.QdhIdeal.sig) → Buf (Elt Ideal) ℓ) (g : Dev Cert.QdhIdeal.nD → PrngReg), Pre_QdhIdeal_qkv_dh_finite m →
    θ_run (Cert.QdhIdeal.defs (F := Ideal)) (onTc (τ := Cert.QdhIdeal.τ) (Cert.QdhIdeal.main (F := Ideal))) ⟨m, fun _ => 0, g⟩ (fun r => (∀ c : Dev Cert.QdhIdeal.nD,
      r.2.mem ((c.tc : Thread Cert.QdhIdeal.nD Cert.QdhIdeal.τ).loc Cert.QdhIdeal.main_arg0) = m ((c.tc : Thread Cert.QdhIdeal.nD Cert.QdhIdeal.τ).loc Cert.QdhIdeal.main_arg0)
      ∧ r.2.mem ((c.tc : Thread Cert.QdhIdeal.nD Cert.QdhIdeal.τ).loc Cert.QdhIdeal.main_arg1) = m ((c.tc : Thread Cert.QdhIdeal.nD Cert.QdhIdeal.τ).loc Cert.QdhIdeal.main_arg1)
      ∧ r.2.mem ((c.tc : Thread Cert.QdhIdeal.nD Cert.QdhIdeal.τ).loc Cert.QdhIdeal.main_arg2) = m ((c.tc : Thread Cert.QdhIdeal.nD Cert.QdhIdeal.τ).loc Cert.QdhIdeal.main_arg2)
      ∧ r.2.mem ((c.tc : Thread Cert.QdhIdeal.nD Cert.QdhIdeal.τ).loc Cert.QdhIdeal.main_arg3) = m ((c.tc : Thread Cert.QdhIdeal.nD Cert.QdhIdeal.τ).loc Cert.QdhIdeal.main_arg3)
      ∧ r.2.mem ((c.tc : Thread Cert.QdhIdeal.nD Cert.QdhIdeal.τ).loc Cert.QdhIdeal.main_arg4) = m ((c.tc : Thread Cert.QdhIdeal.nD Cert.QdhIdeal.τ).loc Cert.QdhIdeal.main_arg4))
      ∧ r.2.sem = fun _ => 0)

def quiescent_QdhRefIdeal [hQdhRefIdeal : Cert.QdhRefIdeal.Facts] : Prop :=
  ∀ (m : (ℓ : Loc Cert.QdhRefIdeal.nD Cert.QdhRefIdeal.τ Cert.QdhRefIdeal.sig) → Buf (Elt Ideal) ℓ) (g : Dev Cert.QdhRefIdeal.nD → PrngReg), Pre_QdhRefIdeal m →
    θ_run (Cert.QdhRefIdeal.defs (F := Ideal)) (onTc (τ := Cert.QdhRefIdeal.τ) (Cert.QdhRefIdeal.main (F := Ideal))) ⟨m, fun _ => 0, g⟩ (fun r => (∀ c : Dev Cert.QdhRefIdeal.nD,
      r.2.mem ((c.tc : Thread Cert.QdhRefIdeal.nD Cert.QdhRefIdeal.τ).loc Cert.QdhRefIdeal.main_arg0) = m ((c.tc : Thread Cert.QdhRefIdeal.nD Cert.QdhRefIdeal.τ).loc Cert.QdhRefIdeal.main_arg0)
      ∧ r.2.mem ((c.tc : Thread Cert.QdhRefIdeal.nD Cert.QdhRefIdeal.τ).loc Cert.QdhRefIdeal.main_arg1) = m ((c.tc : Thread Cert.QdhRefIdeal.nD Cert.QdhRefIdeal.τ).loc Cert.QdhRefIdeal.main_arg1)
      ∧ r.2.mem ((c.tc : Thread Cert.QdhRefIdeal.nD Cert.QdhRefIdeal.τ).loc Cert.QdhRefIdeal.main_arg2) = m ((c.tc : Thread Cert.QdhRefIdeal.nD Cert.QdhRefIdeal.τ).loc Cert.QdhRefIdeal.main_arg2)
      ∧ r.2.mem ((c.tc : Thread Cert.QdhRefIdeal.nD Cert.QdhRefIdeal.τ).loc Cert.QdhRefIdeal.main_arg3) = m ((c.tc : Thread Cert.QdhRefIdeal.nD Cert.QdhRefIdeal.τ).loc Cert.QdhRefIdeal.main_arg3)
      ∧ r.2.mem ((c.tc : Thread Cert.QdhRefIdeal.nD Cert.QdhRefIdeal.τ).loc Cert.QdhRefIdeal.main_arg4) = m ((c.tc : Thread Cert.QdhRefIdeal.nD Cert.QdhRefIdeal.τ).loc Cert.QdhRefIdeal.main_arg4))
      ∧ r.2.sem = fun _ => 0)

def quiescent_QdhRefIdeal_pre_qkv_dh_finite [hQdhRefIdeal : Cert.QdhRefIdeal.Facts] [hPre_qkv_dh_finite : Cert.Pre_qkv_dh_finite.Facts] : Prop :=
  ∀ (m : (ℓ : Loc Cert.QdhRefIdeal.nD Cert.QdhRefIdeal.τ Cert.QdhRefIdeal.sig) → Buf (Elt Ideal) ℓ) (g : Dev Cert.QdhRefIdeal.nD → PrngReg), Pre_QdhRefIdeal_qkv_dh_finite m →
    θ_run (Cert.QdhRefIdeal.defs (F := Ideal)) (onTc (τ := Cert.QdhRefIdeal.τ) (Cert.QdhRefIdeal.main (F := Ideal))) ⟨m, fun _ => 0, g⟩ (fun r => (∀ c : Dev Cert.QdhRefIdeal.nD,
      r.2.mem ((c.tc : Thread Cert.QdhRefIdeal.nD Cert.QdhRefIdeal.τ).loc Cert.QdhRefIdeal.main_arg0) = m ((c.tc : Thread Cert.QdhRefIdeal.nD Cert.QdhRefIdeal.τ).loc Cert.QdhRefIdeal.main_arg0)
      ∧ r.2.mem ((c.tc : Thread Cert.QdhRefIdeal.nD Cert.QdhRefIdeal.τ).loc Cert.QdhRefIdeal.main_arg1) = m ((c.tc : Thread Cert.QdhRefIdeal.nD Cert.QdhRefIdeal.τ).loc Cert.QdhRefIdeal.main_arg1)
      ∧ r.2.mem ((c.tc : Thread Cert.QdhRefIdeal.nD Cert.QdhRefIdeal.τ).loc Cert.QdhRefIdeal.main_arg2) = m ((c.tc : Thread Cert.QdhRefIdeal.nD Cert.QdhRefIdeal.τ).loc Cert.QdhRefIdeal.main_arg2)
      ∧ r.2.mem ((c.tc : Thread Cert.QdhRefIdeal.nD Cert.QdhRefIdeal.τ).loc Cert.QdhRefIdeal.main_arg3) = m ((c.tc : Thread Cert.QdhRefIdeal.nD Cert.QdhRefIdeal.τ).loc Cert.QdhRefIdeal.main_arg3)
      ∧ r.2.mem ((c.tc : Thread Cert.QdhRefIdeal.nD Cert.QdhRefIdeal.τ).loc Cert.QdhRefIdeal.main_arg4) = m ((c.tc : Thread Cert.QdhRefIdeal.nD Cert.QdhRefIdeal.τ).loc Cert.QdhRefIdeal.main_arg4))
      ∧ r.2.sem = fun _ => 0)

def quiescent_Sdh [hSdh : Cert.Sdh.Facts] : Prop :=
  ∀ (m : (ℓ : Loc Cert.Sdh.nD Cert.Sdh.τ Cert.Sdh.sig) → Buf (Elt Bits) ℓ) (g : Dev Cert.Sdh.nD → PrngReg), Pre_Sdh m →
    θ_run (Cert.Sdh.defs (F := Bits)) (onTc (τ := Cert.Sdh.τ) (Cert.Sdh.main (F := Bits))) ⟨m, fun _ => 0, g⟩ (fun r => (∀ c : Dev Cert.Sdh.nD,
      r.2.mem ((c.tc : Thread Cert.Sdh.nD Cert.Sdh.τ).loc Cert.Sdh.main_arg0) = m ((c.tc : Thread Cert.Sdh.nD Cert.Sdh.τ).loc Cert.Sdh.main_arg0)
      ∧ r.2.mem ((c.tc : Thread Cert.Sdh.nD Cert.Sdh.τ).loc Cert.Sdh.main_arg1) = m ((c.tc : Thread Cert.Sdh.nD Cert.Sdh.τ).loc Cert.Sdh.main_arg1)
      ∧ r.2.mem ((c.tc : Thread Cert.Sdh.nD Cert.Sdh.τ).loc Cert.Sdh.main_arg2) = m ((c.tc : Thread Cert.Sdh.nD Cert.Sdh.τ).loc Cert.Sdh.main_arg2)
      ∧ r.2.mem ((c.tc : Thread Cert.Sdh.nD Cert.Sdh.τ).loc Cert.Sdh.main_arg3) = m ((c.tc : Thread Cert.Sdh.nD Cert.Sdh.τ).loc Cert.Sdh.main_arg3)
      ∧ r.2.mem ((c.tc : Thread Cert.Sdh.nD Cert.Sdh.τ).loc Cert.Sdh.main_arg4) = m ((c.tc : Thread Cert.Sdh.nD Cert.Sdh.τ).loc Cert.Sdh.main_arg4))
      ∧ r.2.sem = fun _ => 0)

def quiescent_SdhIdeal [hSdhIdeal : Cert.SdhIdeal.Facts] : Prop :=
  ∀ (m : (ℓ : Loc Cert.SdhIdeal.nD Cert.SdhIdeal.τ Cert.SdhIdeal.sig) → Buf (Elt Ideal) ℓ) (g : Dev Cert.SdhIdeal.nD → PrngReg), Pre_SdhIdeal m →
    θ_run (Cert.SdhIdeal.defs (F := Ideal)) (onTc (τ := Cert.SdhIdeal.τ) (Cert.SdhIdeal.main (F := Ideal))) ⟨m, fun _ => 0, g⟩ (fun r => (∀ c : Dev Cert.SdhIdeal.nD,
      r.2.mem ((c.tc : Thread Cert.SdhIdeal.nD Cert.SdhIdeal.τ).loc Cert.SdhIdeal.main_arg0) = m ((c.tc : Thread Cert.SdhIdeal.nD Cert.SdhIdeal.τ).loc Cert.SdhIdeal.main_arg0)
      ∧ r.2.mem ((c.tc : Thread Cert.SdhIdeal.nD Cert.SdhIdeal.τ).loc Cert.SdhIdeal.main_arg1) = m ((c.tc : Thread Cert.SdhIdeal.nD Cert.SdhIdeal.τ).loc Cert.SdhIdeal.main_arg1)
      ∧ r.2.mem ((c.tc : Thread Cert.SdhIdeal.nD Cert.SdhIdeal.τ).loc Cert.SdhIdeal.main_arg2) = m ((c.tc : Thread Cert.SdhIdeal.nD Cert.SdhIdeal.τ).loc Cert.SdhIdeal.main_arg2)
      ∧ r.2.mem ((c.tc : Thread Cert.SdhIdeal.nD Cert.SdhIdeal.τ).loc Cert.SdhIdeal.main_arg3) = m ((c.tc : Thread Cert.SdhIdeal.nD Cert.SdhIdeal.τ).loc Cert.SdhIdeal.main_arg3)
      ∧ r.2.mem ((c.tc : Thread Cert.SdhIdeal.nD Cert.SdhIdeal.τ).loc Cert.SdhIdeal.main_arg4) = m ((c.tc : Thread Cert.SdhIdeal.nD Cert.SdhIdeal.τ).loc Cert.SdhIdeal.main_arg4))
      ∧ r.2.sem = fun _ => 0)

def quiescent_SdhIdeal_pre_square_dh_finite [hSdhIdeal : Cert.SdhIdeal.Facts] [hPre_square_dh_finite : Cert.Pre_square_dh_finite.Facts] : Prop :=
  ∀ (m : (ℓ : Loc Cert.SdhIdeal.nD Cert.SdhIdeal.τ Cert.SdhIdeal.sig) → Buf (Elt Ideal) ℓ) (g : Dev Cert.SdhIdeal.nD → PrngReg), Pre_SdhIdeal_square_dh_finite m →
    θ_run (Cert.SdhIdeal.defs (F := Ideal)) (onTc (τ := Cert.SdhIdeal.τ) (Cert.SdhIdeal.main (F := Ideal))) ⟨m, fun _ => 0, g⟩ (fun r => (∀ c : Dev Cert.SdhIdeal.nD,
      r.2.mem ((c.tc : Thread Cert.SdhIdeal.nD Cert.SdhIdeal.τ).loc Cert.SdhIdeal.main_arg0) = m ((c.tc : Thread Cert.SdhIdeal.nD Cert.SdhIdeal.τ).loc Cert.SdhIdeal.main_arg0)
      ∧ r.2.mem ((c.tc : Thread Cert.SdhIdeal.nD Cert.SdhIdeal.τ).loc Cert.SdhIdeal.main_arg1) = m ((c.tc : Thread Cert.SdhIdeal.nD Cert.SdhIdeal.τ).loc Cert.SdhIdeal.main_arg1)
      ∧ r.2.mem ((c.tc : Thread Cert.SdhIdeal.nD Cert.SdhIdeal.τ).loc Cert.SdhIdeal.main_arg2) = m ((c.tc : Thread Cert.SdhIdeal.nD Cert.SdhIdeal.τ).loc Cert.SdhIdeal.main_arg2)
      ∧ r.2.mem ((c.tc : Thread Cert.SdhIdeal.nD Cert.SdhIdeal.τ).loc Cert.SdhIdeal.main_arg3) = m ((c.tc : Thread Cert.SdhIdeal.nD Cert.SdhIdeal.τ).loc Cert.SdhIdeal.main_arg3)
      ∧ r.2.mem ((c.tc : Thread Cert.SdhIdeal.nD Cert.SdhIdeal.τ).loc Cert.SdhIdeal.main_arg4) = m ((c.tc : Thread Cert.SdhIdeal.nD Cert.SdhIdeal.τ).loc Cert.SdhIdeal.main_arg4))
      ∧ r.2.sem = fun _ => 0)

def quiescent_SdhRefIdeal [hSdhRefIdeal : Cert.SdhRefIdeal.Facts] : Prop :=
  ∀ (m : (ℓ : Loc Cert.SdhRefIdeal.nD Cert.SdhRefIdeal.τ Cert.SdhRefIdeal.sig) → Buf (Elt Ideal) ℓ) (g : Dev Cert.SdhRefIdeal.nD → PrngReg), Pre_SdhRefIdeal m →
    θ_run (Cert.SdhRefIdeal.defs (F := Ideal)) (onTc (τ := Cert.SdhRefIdeal.τ) (Cert.SdhRefIdeal.main (F := Ideal))) ⟨m, fun _ => 0, g⟩ (fun r => (∀ c : Dev Cert.SdhRefIdeal.nD,
      r.2.mem ((c.tc : Thread Cert.SdhRefIdeal.nD Cert.SdhRefIdeal.τ).loc Cert.SdhRefIdeal.main_arg0) = m ((c.tc : Thread Cert.SdhRefIdeal.nD Cert.SdhRefIdeal.τ).loc Cert.SdhRefIdeal.main_arg0)
      ∧ r.2.mem ((c.tc : Thread Cert.SdhRefIdeal.nD Cert.SdhRefIdeal.τ).loc Cert.SdhRefIdeal.main_arg1) = m ((c.tc : Thread Cert.SdhRefIdeal.nD Cert.SdhRefIdeal.τ).loc Cert.SdhRefIdeal.main_arg1)
      ∧ r.2.mem ((c.tc : Thread Cert.SdhRefIdeal.nD Cert.SdhRefIdeal.τ).loc Cert.SdhRefIdeal.main_arg2) = m ((c.tc : Thread Cert.SdhRefIdeal.nD Cert.SdhRefIdeal.τ).loc Cert.SdhRefIdeal.main_arg2)
      ∧ r.2.mem ((c.tc : Thread Cert.SdhRefIdeal.nD Cert.SdhRefIdeal.τ).loc Cert.SdhRefIdeal.main_arg3) = m ((c.tc : Thread Cert.SdhRefIdeal.nD Cert.SdhRefIdeal.τ).loc Cert.SdhRefIdeal.main_arg3)
      ∧ r.2.mem ((c.tc : Thread Cert.SdhRefIdeal.nD Cert.SdhRefIdeal.τ).loc Cert.SdhRefIdeal.main_arg4) = m ((c.tc : Thread Cert.SdhRefIdeal.nD Cert.SdhRefIdeal.τ).loc Cert.SdhRefIdeal.main_arg4))
      ∧ r.2.sem = fun _ => 0)

def quiescent_SdhRefIdeal_pre_square_dh_finite [hSdhRefIdeal : Cert.SdhRefIdeal.Facts] [hPre_square_dh_finite : Cert.Pre_square_dh_finite.Facts] : Prop :=
  ∀ (m : (ℓ : Loc Cert.SdhRefIdeal.nD Cert.SdhRefIdeal.τ Cert.SdhRefIdeal.sig) → Buf (Elt Ideal) ℓ) (g : Dev Cert.SdhRefIdeal.nD → PrngReg), Pre_SdhRefIdeal_square_dh_finite m →
    θ_run (Cert.SdhRefIdeal.defs (F := Ideal)) (onTc (τ := Cert.SdhRefIdeal.τ) (Cert.SdhRefIdeal.main (F := Ideal))) ⟨m, fun _ => 0, g⟩ (fun r => (∀ c : Dev Cert.SdhRefIdeal.nD,
      r.2.mem ((c.tc : Thread Cert.SdhRefIdeal.nD Cert.SdhRefIdeal.τ).loc Cert.SdhRefIdeal.main_arg0) = m ((c.tc : Thread Cert.SdhRefIdeal.nD Cert.SdhRefIdeal.τ).loc Cert.SdhRefIdeal.main_arg0)
      ∧ r.2.mem ((c.tc : Thread Cert.SdhRefIdeal.nD Cert.SdhRefIdeal.τ).loc Cert.SdhRefIdeal.main_arg1) = m ((c.tc : Thread Cert.SdhRefIdeal.nD Cert.SdhRefIdeal.τ).loc Cert.SdhRefIdeal.main_arg1)
      ∧ r.2.mem ((c.tc : Thread Cert.SdhRefIdeal.nD Cert.SdhRefIdeal.τ).loc Cert.SdhRefIdeal.main_arg2) = m ((c.tc : Thread Cert.SdhRefIdeal.nD Cert.SdhRefIdeal.τ).loc Cert.SdhRefIdeal.main_arg2)
      ∧ r.2.mem ((c.tc : Thread Cert.SdhRefIdeal.nD Cert.SdhRefIdeal.τ).loc Cert.SdhRefIdeal.main_arg3) = m ((c.tc : Thread Cert.SdhRefIdeal.nD Cert.SdhRefIdeal.τ).loc Cert.SdhRefIdeal.main_arg3)
      ∧ r.2.mem ((c.tc : Thread Cert.SdhRefIdeal.nD Cert.SdhRefIdeal.τ).loc Cert.SdhRefIdeal.main_arg4) = m ((c.tc : Thread Cert.SdhRefIdeal.nD Cert.SdhRefIdeal.τ).loc Cert.SdhRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Pgt [hPgt : Cert.Pgt.Facts] : Prop :=
  ∀ (m : (ℓ : Loc Cert.Pgt.nD Cert.Pgt.τ Cert.Pgt.sig) → Buf (Elt Bits) ℓ) (g : Dev Cert.Pgt.nD → PrngReg), Pre_Pgt m →
    θ_run (Cert.Pgt.defs (F := Bits)) (onTc (τ := Cert.Pgt.τ) (Cert.Pgt.main (F := Bits))) ⟨m, fun _ => 0, g⟩ (fun r => (∀ c : Dev Cert.Pgt.nD,
      r.2.mem ((c.tc : Thread Cert.Pgt.nD Cert.Pgt.τ).loc Cert.Pgt.main_arg0) = m ((c.tc : Thread Cert.Pgt.nD Cert.Pgt.τ).loc Cert.Pgt.main_arg0)
      ∧ r.2.mem ((c.tc : Thread Cert.Pgt.nD Cert.Pgt.τ).loc Cert.Pgt.main_arg1) = m ((c.tc : Thread Cert.Pgt.nD Cert.Pgt.τ).loc Cert.Pgt.main_arg1)
      ∧ r.2.mem ((c.tc : Thread Cert.Pgt.nD Cert.Pgt.τ).loc Cert.Pgt.main_arg2) = m ((c.tc : Thread Cert.Pgt.nD Cert.Pgt.τ).loc Cert.Pgt.main_arg2))
      ∧ r.2.sem = fun _ => 0)

def quiescent_PgtIdeal [hPgtIdeal : Cert.PgtIdeal.Facts] : Prop :=
  ∀ (m : (ℓ : Loc Cert.PgtIdeal.nD Cert.PgtIdeal.τ Cert.PgtIdeal.sig) → Buf (Elt Ideal) ℓ) (g : Dev Cert.PgtIdeal.nD → PrngReg), Pre_PgtIdeal m →
    θ_run (Cert.PgtIdeal.defs (F := Ideal)) (onTc (τ := Cert.PgtIdeal.τ) (Cert.PgtIdeal.main (F := Ideal))) ⟨m, fun _ => 0, g⟩ (fun r => (∀ c : Dev Cert.PgtIdeal.nD,
      r.2.mem ((c.tc : Thread Cert.PgtIdeal.nD Cert.PgtIdeal.τ).loc Cert.PgtIdeal.main_arg0) = m ((c.tc : Thread Cert.PgtIdeal.nD Cert.PgtIdeal.τ).loc Cert.PgtIdeal.main_arg0)
      ∧ r.2.mem ((c.tc : Thread Cert.PgtIdeal.nD Cert.PgtIdeal.τ).loc Cert.PgtIdeal.main_arg1) = m ((c.tc : Thread Cert.PgtIdeal.nD Cert.PgtIdeal.τ).loc Cert.PgtIdeal.main_arg1)
      ∧ r.2.mem ((c.tc : Thread Cert.PgtIdeal.nD Cert.PgtIdeal.τ).loc Cert.PgtIdeal.main_arg2) = m ((c.tc : Thread Cert.PgtIdeal.nD Cert.PgtIdeal.τ).loc Cert.PgtIdeal.main_arg2))
      ∧ r.2.sem = fun _ => 0)

def quiescent_PgtRefIdeal [hPgtRefIdeal : Cert.PgtRefIdeal.Facts] : Prop :=
  ∀ (m : (ℓ : Loc Cert.PgtRefIdeal.nD Cert.PgtRefIdeal.τ Cert.PgtRefIdeal.sig) → Buf (Elt Ideal) ℓ) (g : Dev Cert.PgtRefIdeal.nD → PrngReg), Pre_PgtRefIdeal m →
    θ_run (Cert.PgtRefIdeal.defs (F := Ideal)) (onTc (τ := Cert.PgtRefIdeal.τ) (Cert.PgtRefIdeal.main (F := Ideal))) ⟨m, fun _ => 0, g⟩ (fun r => (∀ c : Dev Cert.PgtRefIdeal.nD,
      r.2.mem ((c.tc : Thread Cert.PgtRefIdeal.nD Cert.PgtRefIdeal.τ).loc Cert.PgtRefIdeal.main_arg0) = m ((c.tc : Thread Cert.PgtRefIdeal.nD Cert.PgtRefIdeal.τ).loc Cert.PgtRefIdeal.main_arg0)
      ∧ r.2.mem ((c.tc : Thread Cert.PgtRefIdeal.nD Cert.PgtRefIdeal.τ).loc Cert.PgtRefIdeal.main_arg1) = m ((c.tc : Thread Cert.PgtRefIdeal.nD Cert.PgtRefIdeal.τ).loc Cert.PgtRefIdeal.main_arg1)
      ∧ r.2.mem ((c.tc : Thread Cert.PgtRefIdeal.nD Cert.PgtRefIdeal.τ).loc Cert.PgtRefIdeal.main_arg2) = m ((c.tc : Thread Cert.PgtRefIdeal.nD Cert.PgtRefIdeal.τ).loc Cert.PgtRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_attention_finite [hAttIdeal : Cert.AttIdeal.Facts] [hPre_attention_finite : Cert.Pre_attention_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_attention_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_attention_finite [hAttRefIdeal : Cert.AttRefIdeal.Facts] [hPre_attention_finite : Cert.Pre_attention_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_attention_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Pgr [hPgr : Cert.Pgr.Facts] : Prop :=
  ∀ (m : (ℓ : Loc Cert.Pgr.nD Cert.Pgr.τ Cert.Pgr.sig) → Buf (Elt Bits) ℓ) (g : Dev Cert.Pgr.nD → PrngReg), Pre_Pgr m →
    θ_run (Cert.Pgr.defs (F := Bits)) (onTc (τ := Cert.Pgr.τ) (Cert.Pgr.main (F := Bits))) ⟨m, fun _ => 0, g⟩ (fun r => (∀ c : Dev Cert.Pgr.nD,
      r.2.mem ((c.tc : Thread Cert.Pgr.nD Cert.Pgr.τ).loc Cert.Pgr.main_arg0) = m ((c.tc : Thread Cert.Pgr.nD Cert.Pgr.τ).loc Cert.Pgr.main_arg0)
      ∧ r.2.mem ((c.tc : Thread Cert.Pgr.nD Cert.Pgr.τ).loc Cert.Pgr.main_arg1) = m ((c.tc : Thread Cert.Pgr.nD Cert.Pgr.τ).loc Cert.Pgr.main_arg1)
      ∧ r.2.mem ((c.tc : Thread Cert.Pgr.nD Cert.Pgr.τ).loc Cert.Pgr.main_arg2) = m ((c.tc : Thread Cert.Pgr.nD Cert.Pgr.τ).loc Cert.Pgr.main_arg2)
      ∧ r.2.mem ((c.tc : Thread Cert.Pgr.nD Cert.Pgr.τ).loc Cert.Pgr.main_arg3) = m ((c.tc : Thread Cert.Pgr.nD Cert.Pgr.τ).loc Cert.Pgr.main_arg3))
      ∧ r.2.sem = fun _ => 0)

def quiescent_PgrIdeal [hPgrIdeal : Cert.PgrIdeal.Facts] : Prop :=
  ∀ (m : (ℓ : Loc Cert.PgrIdeal.nD Cert.PgrIdeal.τ Cert.PgrIdeal.sig) → Buf (Elt Ideal) ℓ) (g : Dev Cert.PgrIdeal.nD → PrngReg), Pre_PgrIdeal m →
    θ_run (Cert.PgrIdeal.defs (F := Ideal)) (onTc (τ := Cert.PgrIdeal.τ) (Cert.PgrIdeal.main (F := Ideal))) ⟨m, fun _ => 0, g⟩ (fun r => (∀ c : Dev Cert.PgrIdeal.nD,
      r.2.mem ((c.tc : Thread Cert.PgrIdeal.nD Cert.PgrIdeal.τ).loc Cert.PgrIdeal.main_arg0) = m ((c.tc : Thread Cert.PgrIdeal.nD Cert.PgrIdeal.τ).loc Cert.PgrIdeal.main_arg0)
      ∧ r.2.mem ((c.tc : Thread Cert.PgrIdeal.nD Cert.PgrIdeal.τ).loc Cert.PgrIdeal.main_arg1) = m ((c.tc : Thread Cert.PgrIdeal.nD Cert.PgrIdeal.τ).loc Cert.PgrIdeal.main_arg1)
      ∧ r.2.mem ((c.tc : Thread Cert.PgrIdeal.nD Cert.PgrIdeal.τ).loc Cert.PgrIdeal.main_arg2) = m ((c.tc : Thread Cert.PgrIdeal.nD Cert.PgrIdeal.τ).loc Cert.PgrIdeal.main_arg2)
      ∧ r.2.mem ((c.tc : Thread Cert.PgrIdeal.nD Cert.PgrIdeal.τ).loc Cert.PgrIdeal.main_arg3) = m ((c.tc : Thread Cert.PgrIdeal.nD Cert.PgrIdeal.τ).loc Cert.PgrIdeal.main_arg3))
      ∧ r.2.sem = fun _ => 0)

def quiescent_PgrRefIdeal [hPgrRefIdeal : Cert.PgrRefIdeal.Facts] : Prop :=
  ∀ (m : (ℓ : Loc Cert.PgrRefIdeal.nD Cert.PgrRefIdeal.τ Cert.PgrRefIdeal.sig) → Buf (Elt Ideal) ℓ) (g : Dev Cert.PgrRefIdeal.nD → PrngReg), Pre_PgrRefIdeal m →
    θ_run (Cert.PgrRefIdeal.defs (F := Ideal)) (onTc (τ := Cert.PgrRefIdeal.τ) (Cert.PgrRefIdeal.main (F := Ideal))) ⟨m, fun _ => 0, g⟩ (fun r => (∀ c : Dev Cert.PgrRefIdeal.nD,
      r.2.mem ((c.tc : Thread Cert.PgrRefIdeal.nD Cert.PgrRefIdeal.τ).loc Cert.PgrRefIdeal.main_arg0) = m ((c.tc : Thread Cert.PgrRefIdeal.nD Cert.PgrRefIdeal.τ).loc Cert.PgrRefIdeal.main_arg0)
      ∧ r.2.mem ((c.tc : Thread Cert.PgrRefIdeal.nD Cert.PgrRefIdeal.τ).loc Cert.PgrRefIdeal.main_arg1) = m ((c.tc : Thread Cert.PgrRefIdeal.nD Cert.PgrRefIdeal.τ).loc Cert.PgrRefIdeal.main_arg1)
      ∧ r.2.mem ((c.tc : Thread Cert.PgrRefIdeal.nD Cert.PgrRefIdeal.τ).loc Cert.PgrRefIdeal.main_arg2) = m ((c.tc : Thread Cert.PgrRefIdeal.nD Cert.PgrRefIdeal.τ).loc Cert.PgrRefIdeal.main_arg2)
      ∧ r.2.mem ((c.tc : Thread Cert.PgrRefIdeal.nD Cert.PgrRefIdeal.τ).loc Cert.PgrRefIdeal.main_arg3) = m ((c.tc : Thread Cert.PgrRefIdeal.nD Cert.PgrRefIdeal.τ).loc Cert.PgrRefIdeal.main_arg3))
      ∧ r.2.sem = fun _ => 0)

def quiescent_Los [hLos : Cert.Los.Facts] : Prop :=
  ∀ (m : (ℓ : Loc Cert.Los.nD Cert.Los.τ Cert.Los.sig) → Buf (Elt Bits) ℓ) (g : Dev Cert.Los.nD → PrngReg), Pre_Los m →
    θ_run (Cert.Los.defs (F := Bits)) (onTc (τ := Cert.Los.τ) (Cert.Los.main (F := Bits))) ⟨m, fun _ => 0, g⟩ (fun r => (∀ c : Dev Cert.Los.nD,
      r.2.mem ((c.tc : Thread Cert.Los.nD Cert.Los.τ).loc Cert.Los.main_arg0) = m ((c.tc : Thread Cert.Los.nD Cert.Los.τ).loc Cert.Los.main_arg0)
      ∧ r.2.mem ((c.tc : Thread Cert.Los.nD Cert.Los.τ).loc Cert.Los.main_arg1) = m ((c.tc : Thread Cert.Los.nD Cert.Los.τ).loc Cert.Los.main_arg1))
      ∧ r.2.sem = fun _ => 0)

def quiescent_LosIdeal [hLosIdeal : Cert.LosIdeal.Facts] : Prop :=
  ∀ (m : (ℓ : Loc Cert.LosIdeal.nD Cert.LosIdeal.τ Cert.LosIdeal.sig) → Buf (Elt Ideal) ℓ) (g : Dev Cert.LosIdeal.nD → PrngReg), Pre_LosIdeal m →
    θ_run (Cert.LosIdeal.defs (F := Ideal)) (onTc (τ := Cert.LosIdeal.τ) (Cert.LosIdeal.main (F := Ideal))) ⟨m, fun _ => 0, g⟩ (fun r => (∀ c : Dev Cert.LosIdeal.nD,
      r.2.mem ((c.tc : Thread Cert.LosIdeal.nD Cert.LosIdeal.τ).loc Cert.LosIdeal.main_arg0) = m ((c.tc : Thread Cert.LosIdeal.nD Cert.LosIdeal.τ).loc Cert.LosIdeal.main_arg0)
      ∧ r.2.mem ((c.tc : Thread Cert.LosIdeal.nD Cert.LosIdeal.τ).loc Cert.LosIdeal.main_arg1) = m ((c.tc : Thread Cert.LosIdeal.nD Cert.LosIdeal.τ).loc Cert.LosIdeal.main_arg1))
      ∧ r.2.sem = fun _ => 0)

def quiescent_LosRefIdeal [hLosRefIdeal : Cert.LosRefIdeal.Facts] : Prop :=
  ∀ (m : (ℓ : Loc Cert.LosRefIdeal.nD Cert.LosRefIdeal.τ Cert.LosRefIdeal.sig) → Buf (Elt Ideal) ℓ) (g : Dev Cert.LosRefIdeal.nD → PrngReg), Pre_LosRefIdeal m →
    θ_run (Cert.LosRefIdeal.defs (F := Ideal)) (onTc (τ := Cert.LosRefIdeal.τ) (Cert.LosRefIdeal.main (F := Ideal))) ⟨m, fun _ => 0, g⟩ (fun r => (∀ c : Dev Cert.LosRefIdeal.nD,
      r.2.mem ((c.tc : Thread Cert.LosRefIdeal.nD Cert.LosRefIdeal.τ).loc Cert.LosRefIdeal.main_arg0) = m ((c.tc : Thread Cert.LosRefIdeal.nD Cert.LosRefIdeal.τ).loc Cert.LosRefIdeal.main_arg0)
      ∧ r.2.mem ((c.tc : Thread Cert.LosRefIdeal.nD Cert.LosRefIdeal.τ).loc Cert.LosRefIdeal.main_arg1) = m ((c.tc : Thread Cert.LosRefIdeal.nD Cert.LosRefIdeal.τ).loc Cert.LosRefIdeal.main_arg1))
      ∧ r.2.sem = fun _ => 0)

def quiescent_Ads [hAds : Cert.Ads.Facts] : Prop :=
  ∀ (m : (ℓ : Loc Cert.Ads.nD Cert.Ads.τ Cert.Ads.sig) → Buf (Elt Bits) ℓ) (g : Dev Cert.Ads.nD → PrngReg), Pre_Ads m →
    θ_run (Cert.Ads.defs (F := Bits)) (onTc (τ := Cert.Ads.τ) (Cert.Ads.main (F := Bits))) ⟨m, fun _ => 0, g⟩ (fun r => (∀ c : Dev Cert.Ads.nD,
      r.2.mem ((c.tc : Thread Cert.Ads.nD Cert.Ads.τ).loc Cert.Ads.main_arg0) = m ((c.tc : Thread Cert.Ads.nD Cert.Ads.τ).loc Cert.Ads.main_arg0)
      ∧ r.2.mem ((c.tc : Thread Cert.Ads.nD Cert.Ads.τ).loc Cert.Ads.main_arg1) = m ((c.tc : Thread Cert.Ads.nD Cert.Ads.τ).loc Cert.Ads.main_arg1)
      ∧ r.2.mem ((c.tc : Thread Cert.Ads.nD Cert.Ads.τ).loc Cert.Ads.main_arg2) = m ((c.tc : Thread Cert.Ads.nD Cert.Ads.τ).loc Cert.Ads.main_arg2)
      ∧ r.2.mem ((c.tc : Thread Cert.Ads.nD Cert.Ads.τ).loc Cert.Ads.main_arg3) = m ((c.tc : Thread Cert.Ads.nD Cert.Ads.τ).loc Cert.Ads.main_arg3))
      ∧ r.2.sem = fun _ => 0)

def quiescent_AdsIdeal [hAdsIdeal : Cert.AdsIdeal.Facts] : Prop :=
  ∀ (m : (ℓ : Loc Cert.AdsIdeal.nD Cert.AdsIdeal.τ Cert.AdsIdeal.sig) → Buf (Elt Ideal) ℓ) (g : Dev Cert.AdsIdeal.nD → PrngReg), Pre_AdsIdeal m →
    θ_run (Cert.AdsIdeal.defs (F := Ideal)) (onTc (τ := Cert.AdsIdeal.τ) (Cert.AdsIdeal.main (F := Ideal))) ⟨m, fun _ => 0, g⟩ (fun r => (∀ c : Dev Cert.AdsIdeal.nD,
      r.2.mem ((c.tc : Thread Cert.AdsIdeal.nD Cert.AdsIdeal.τ).loc Cert.AdsIdeal.main_arg0) = m ((c.tc : Thread Cert.AdsIdeal.nD Cert.AdsIdeal.τ).loc Cert.AdsIdeal.main_arg0)
      ∧ r.2.mem ((c.tc : Thread Cert.AdsIdeal.nD Cert.AdsIdeal.τ).loc Cert.AdsIdeal.main_arg1) = m ((c.tc : Thread Cert.AdsIdeal.nD Cert.AdsIdeal.τ).loc Cert.AdsIdeal.main_arg1)
      ∧ r.2.mem ((c.tc : Thread Cert.AdsIdeal.nD Cert.AdsIdeal.τ).loc Cert.AdsIdeal.main_arg2) = m ((c.tc : Thread Cert.AdsIdeal.nD Cert.AdsIdeal.τ).loc Cert.AdsIdeal.main_arg2)
      ∧ r.2.mem ((c.tc : Thread Cert.AdsIdeal.nD Cert.AdsIdeal.τ).loc Cert.AdsIdeal.main_arg3) = m ((c.tc : Thread Cert.AdsIdeal.nD Cert.AdsIdeal.τ).loc Cert.AdsIdeal.main_arg3))
      ∧ r.2.sem = fun _ => 0)

def quiescent_AdsRefIdeal [hAdsRefIdeal : Cert.AdsRefIdeal.Facts] : Prop :=
  ∀ (m : (ℓ : Loc Cert.AdsRefIdeal.nD Cert.AdsRefIdeal.τ Cert.AdsRefIdeal.sig) → Buf (Elt Ideal) ℓ) (g : Dev Cert.AdsRefIdeal.nD → PrngReg), Pre_AdsRefIdeal m →
    θ_run (Cert.AdsRefIdeal.defs (F := Ideal)) (onTc (τ := Cert.AdsRefIdeal.τ) (Cert.AdsRefIdeal.main (F := Ideal))) ⟨m, fun _ => 0, g⟩ (fun r => (∀ c : Dev Cert.AdsRefIdeal.nD,
      r.2.mem ((c.tc : Thread Cert.AdsRefIdeal.nD Cert.AdsRefIdeal.τ).loc Cert.AdsRefIdeal.main_arg0) = m ((c.tc : Thread Cert.AdsRefIdeal.nD Cert.AdsRefIdeal.τ).loc Cert.AdsRefIdeal.main_arg0)
      ∧ r.2.mem ((c.tc : Thread Cert.AdsRefIdeal.nD Cert.AdsRefIdeal.τ).loc Cert.AdsRefIdeal.main_arg1) = m ((c.tc : Thread Cert.AdsRefIdeal.nD Cert.AdsRefIdeal.τ).loc Cert.AdsRefIdeal.main_arg1)
      ∧ r.2.mem ((c.tc : Thread Cert.AdsRefIdeal.nD Cert.AdsRefIdeal.τ).loc Cert.AdsRefIdeal.main_arg2) = m ((c.tc : Thread Cert.AdsRefIdeal.nD Cert.AdsRefIdeal.τ).loc Cert.AdsRefIdeal.main_arg2)
      ∧ r.2.mem ((c.tc : Thread Cert.AdsRefIdeal.nD Cert.AdsRefIdeal.τ).loc Cert.AdsRefIdeal.main_arg3) = m ((c.tc : Thread Cert.AdsRefIdeal.nD Cert.AdsRefIdeal.τ).loc Cert.AdsRefIdeal.main_arg3))
      ∧ r.2.sem = fun _ => 0)

def quiescent_Hnm [hHnm : Cert.Hnm.Facts] : Prop :=
  ∀ (m : (ℓ : Loc Cert.Hnm.nD Cert.Hnm.τ Cert.Hnm.sig) → Buf (Elt Bits) ℓ) (g : Dev Cert.Hnm.nD → PrngReg), Pre_Hnm m →
    θ_run (Cert.Hnm.defs (F := Bits)) (onTc (τ := Cert.Hnm.τ) (Cert.Hnm.main (F := Bits))) ⟨m, fun _ => 0, g⟩ (fun r => (∀ c : Dev Cert.Hnm.nD,
      r.2.mem ((c.tc : Thread Cert.Hnm.nD Cert.Hnm.τ).loc Cert.Hnm.main_arg0) = m ((c.tc : Thread Cert.Hnm.nD Cert.Hnm.τ).loc Cert.Hnm.main_arg0)
      ∧ r.2.mem ((c.tc : Thread Cert.Hnm.nD Cert.Hnm.τ).loc Cert.Hnm.main_arg1) = m ((c.tc : Thread Cert.Hnm.nD Cert.Hnm.τ).loc Cert.Hnm.main_arg1)
      ∧ r.2.mem ((c.tc : Thread Cert.Hnm.nD Cert.Hnm.τ).loc Cert.Hnm.main_arg2) = m ((c.tc : Thread Cert.Hnm.nD Cert.Hnm.τ).loc Cert.Hnm.main_arg2))
      ∧ r.2.sem = fun _ => 0)

def quiescent_HnmIdeal [hHnmIdeal : Cert.HnmIdeal.Facts] : Prop :=
  ∀ (m : (ℓ : Loc Cert.HnmIdeal.nD Cert.HnmIdeal.τ Cert.HnmIdeal.sig) → Buf (Elt Ideal) ℓ) (g : Dev Cert.HnmIdeal.nD → PrngReg), Pre_HnmIdeal m →
    θ_run (Cert.HnmIdeal.defs (F := Ideal)) (onTc (τ := Cert.HnmIdeal.τ) (Cert.HnmIdeal.main (F := Ideal))) ⟨m, fun _ => 0, g⟩ (fun r => (∀ c : Dev Cert.HnmIdeal.nD,
      r.2.mem ((c.tc : Thread Cert.HnmIdeal.nD Cert.HnmIdeal.τ).loc Cert.HnmIdeal.main_arg0) = m ((c.tc : Thread Cert.HnmIdeal.nD Cert.HnmIdeal.τ).loc Cert.HnmIdeal.main_arg0)
      ∧ r.2.mem ((c.tc : Thread Cert.HnmIdeal.nD Cert.HnmIdeal.τ).loc Cert.HnmIdeal.main_arg1) = m ((c.tc : Thread Cert.HnmIdeal.nD Cert.HnmIdeal.τ).loc Cert.HnmIdeal.main_arg1)
      ∧ r.2.mem ((c.tc : Thread Cert.HnmIdeal.nD Cert.HnmIdeal.τ).loc Cert.HnmIdeal.main_arg2) = m ((c.tc : Thread Cert.HnmIdeal.nD Cert.HnmIdeal.τ).loc Cert.HnmIdeal.main_arg2))
      ∧ r.2.sem = fun _ => 0)

def quiescent_HnmRefIdeal [hHnmRefIdeal : Cert.HnmRefIdeal.Facts] : Prop :=
  ∀ (m : (ℓ : Loc Cert.HnmRefIdeal.nD Cert.HnmRefIdeal.τ Cert.HnmRefIdeal.sig) → Buf (Elt Ideal) ℓ) (g : Dev Cert.HnmRefIdeal.nD → PrngReg), Pre_HnmRefIdeal m →
    θ_run (Cert.HnmRefIdeal.defs (F := Ideal)) (onTc (τ := Cert.HnmRefIdeal.τ) (Cert.HnmRefIdeal.main (F := Ideal))) ⟨m, fun _ => 0, g⟩ (fun r => (∀ c : Dev Cert.HnmRefIdeal.nD,
      r.2.mem ((c.tc : Thread Cert.HnmRefIdeal.nD Cert.HnmRefIdeal.τ).loc Cert.HnmRefIdeal.main_arg0) = m ((c.tc : Thread Cert.HnmRefIdeal.nD Cert.HnmRefIdeal.τ).loc Cert.HnmRefIdeal.main_arg0)
      ∧ r.2.mem ((c.tc : Thread Cert.HnmRefIdeal.nD Cert.HnmRefIdeal.τ).loc Cert.HnmRefIdeal.main_arg1) = m ((c.tc : Thread Cert.HnmRefIdeal.nD Cert.HnmRefIdeal.τ).loc Cert.HnmRefIdeal.main_arg1)
      ∧ r.2.mem ((c.tc : Thread Cert.HnmRefIdeal.nD Cert.HnmRefIdeal.τ).loc Cert.HnmRefIdeal.main_arg2) = m ((c.tc : Thread Cert.HnmRefIdeal.nD Cert.HnmRefIdeal.τ).loc Cert.HnmRefIdeal.main_arg2))
      ∧ r.2.sem = fun _ => 0)

def quiescent_Hnb [hHnb : Cert.Hnb.Facts] : Prop :=
  ∀ (m : (ℓ : Loc Cert.Hnb.nD Cert.Hnb.τ Cert.Hnb.sig) → Buf (Elt Bits) ℓ) (g : Dev Cert.Hnb.nD → PrngReg), Pre_Hnb m →
    θ_run (Cert.Hnb.defs (F := Bits)) (onTc (τ := Cert.Hnb.τ) (Cert.Hnb.main (F := Bits))) ⟨m, fun _ => 0, g⟩ (fun r => (∀ c : Dev Cert.Hnb.nD,
      r.2.mem ((c.tc : Thread Cert.Hnb.nD Cert.Hnb.τ).loc Cert.Hnb.main_arg0) = m ((c.tc : Thread Cert.Hnb.nD Cert.Hnb.τ).loc Cert.Hnb.main_arg0)
      ∧ r.2.mem ((c.tc : Thread Cert.Hnb.nD Cert.Hnb.τ).loc Cert.Hnb.main_arg1) = m ((c.tc : Thread Cert.Hnb.nD Cert.Hnb.τ).loc Cert.Hnb.main_arg1)
      ∧ r.2.mem ((c.tc : Thread Cert.Hnb.nD Cert.Hnb.τ).loc Cert.Hnb.main_arg2) = m ((c.tc : Thread Cert.Hnb.nD Cert.Hnb.τ).loc Cert.Hnb.main_arg2)
      ∧ r.2.mem ((c.tc : Thread Cert.Hnb.nD Cert.Hnb.τ).loc Cert.Hnb.main_arg3) = m ((c.tc : Thread Cert.Hnb.nD Cert.Hnb.τ).loc Cert.Hnb.main_arg3)
      ∧ r.2.mem ((c.tc : Thread Cert.Hnb.nD Cert.Hnb.τ).loc Cert.Hnb.main_arg4) = m ((c.tc : Thread Cert.Hnb.nD Cert.Hnb.τ).loc Cert.Hnb.main_arg4)
      ∧ r.2.mem ((c.tc : Thread Cert.Hnb.nD Cert.Hnb.τ).loc Cert.Hnb.main_arg5) = m ((c.tc : Thread Cert.Hnb.nD Cert.Hnb.τ).loc Cert.Hnb.main_arg5))
      ∧ r.2.sem = fun _ => 0)

def quiescent_HnbIdeal [hHnbIdeal : Cert.HnbIdeal.Facts] : Prop :=
  ∀ (m : (ℓ : Loc Cert.HnbIdeal.nD Cert.HnbIdeal.τ Cert.HnbIdeal.sig) → Buf (Elt Ideal) ℓ) (g : Dev Cert.HnbIdeal.nD → PrngReg), Pre_HnbIdeal m →
    θ_run (Cert.HnbIdeal.defs (F := Ideal)) (onTc (τ := Cert.HnbIdeal.τ) (Cert.HnbIdeal.main (F := Ideal))) ⟨m, fun _ => 0, g⟩ (fun r => (∀ c : Dev Cert.HnbIdeal.nD,
      r.2.mem ((c.tc : Thread Cert.HnbIdeal.nD Cert.HnbIdeal.τ).loc Cert.HnbIdeal.main_arg0) = m ((c.tc : Thread Cert.HnbIdeal.nD Cert.HnbIdeal.τ).loc Cert.HnbIdeal.main_arg0)
      ∧ r.2.mem ((c.tc : Thread Cert.HnbIdeal.nD Cert.HnbIdeal.τ).loc Cert.HnbIdeal.main_arg1) = m ((c.tc : Thread Cert.HnbIdeal.nD Cert.HnbIdeal.τ).loc Cert.HnbIdeal.main_arg1)
      ∧ r.2.mem ((c.tc : Thread Cert.HnbIdeal.nD Cert.HnbIdeal.τ).loc Cert.HnbIdeal.main_arg2) = m ((c.tc : Thread Cert.HnbIdeal.nD Cert.HnbIdeal.τ).loc Cert.HnbIdeal.main_arg2)
      ∧ r.2.mem ((c.tc : Thread Cert.HnbIdeal.nD Cert.HnbIdeal.τ).loc Cert.HnbIdeal.main_arg3) = m ((c.tc : Thread Cert.HnbIdeal.nD Cert.HnbIdeal.τ).loc Cert.HnbIdeal.main_arg3)
      ∧ r.2.mem ((c.tc : Thread Cert.HnbIdeal.nD Cert.HnbIdeal.τ).loc Cert.HnbIdeal.main_arg4) = m ((c.tc : Thread Cert.HnbIdeal.nD Cert.HnbIdeal.τ).loc Cert.HnbIdeal.main_arg4)
      ∧ r.2.mem ((c.tc : Thread Cert.HnbIdeal.nD Cert.HnbIdeal.τ).loc Cert.HnbIdeal.main_arg5) = m ((c.tc : Thread Cert.HnbIdeal.nD Cert.HnbIdeal.τ).loc Cert.HnbIdeal.main_arg5))
      ∧ r.2.sem = fun _ => 0)

def quiescent_HnbIdeal_pre_qk_norm_finite [hHnbIdeal : Cert.HnbIdeal.Facts] [hPre_qk_norm_finite : Cert.Pre_qk_norm_finite.Facts] : Prop :=
  ∀ (m : (ℓ : Loc Cert.HnbIdeal.nD Cert.HnbIdeal.τ Cert.HnbIdeal.sig) → Buf (Elt Ideal) ℓ) (g : Dev Cert.HnbIdeal.nD → PrngReg), Pre_HnbIdeal_qk_norm_finite m →
    θ_run (Cert.HnbIdeal.defs (F := Ideal)) (onTc (τ := Cert.HnbIdeal.τ) (Cert.HnbIdeal.main (F := Ideal))) ⟨m, fun _ => 0, g⟩ (fun r => (∀ c : Dev Cert.HnbIdeal.nD,
      r.2.mem ((c.tc : Thread Cert.HnbIdeal.nD Cert.HnbIdeal.τ).loc Cert.HnbIdeal.main_arg0) = m ((c.tc : Thread Cert.HnbIdeal.nD Cert.HnbIdeal.τ).loc Cert.HnbIdeal.main_arg0)
      ∧ r.2.mem ((c.tc : Thread Cert.HnbIdeal.nD Cert.HnbIdeal.τ).loc Cert.HnbIdeal.main_arg1) = m ((c.tc : Thread Cert.HnbIdeal.nD Cert.HnbIdeal.τ).loc Cert.HnbIdeal.main_arg1)
      ∧ r.2.mem ((c.tc : Thread Cert.HnbIdeal.nD Cert.HnbIdeal.τ).loc Cert.HnbIdeal.main_arg2) = m ((c.tc : Thread Cert.HnbIdeal.nD Cert.HnbIdeal.τ).loc Cert.HnbIdeal.main_arg2)
      ∧ r.2.mem ((c.tc : Thread Cert.HnbIdeal.nD Cert.HnbIdeal.τ).loc Cert.HnbIdeal.main_arg3) = m ((c.tc : Thread Cert.HnbIdeal.nD Cert.HnbIdeal.τ).loc Cert.HnbIdeal.main_arg3)
      ∧ r.2.mem ((c.tc : Thread Cert.HnbIdeal.nD Cert.HnbIdeal.τ).loc Cert.HnbIdeal.main_arg4) = m ((c.tc : Thread Cert.HnbIdeal.nD Cert.HnbIdeal.τ).loc Cert.HnbIdeal.main_arg4)
      ∧ r.2.mem ((c.tc : Thread Cert.HnbIdeal.nD Cert.HnbIdeal.τ).loc Cert.HnbIdeal.main_arg5) = m ((c.tc : Thread Cert.HnbIdeal.nD Cert.HnbIdeal.τ).loc Cert.HnbIdeal.main_arg5))
      ∧ r.2.sem = fun _ => 0)

def quiescent_HnbRefIdeal [hHnbRefIdeal : Cert.HnbRefIdeal.Facts] : Prop :=
  ∀ (m : (ℓ : Loc Cert.HnbRefIdeal.nD Cert.HnbRefIdeal.τ Cert.HnbRefIdeal.sig) → Buf (Elt Ideal) ℓ) (g : Dev Cert.HnbRefIdeal.nD → PrngReg), Pre_HnbRefIdeal m →
    θ_run (Cert.HnbRefIdeal.defs (F := Ideal)) (onTc (τ := Cert.HnbRefIdeal.τ) (Cert.HnbRefIdeal.main (F := Ideal))) ⟨m, fun _ => 0, g⟩ (fun r => (∀ c : Dev Cert.HnbRefIdeal.nD,
      r.2.mem ((c.tc : Thread Cert.HnbRefIdeal.nD Cert.HnbRefIdeal.τ).loc Cert.HnbRefIdeal.main_arg0) = m ((c.tc : Thread Cert.HnbRefIdeal.nD Cert.HnbRefIdeal.τ).loc Cert.HnbRefIdeal.main_arg0)
      ∧ r.2.mem ((c.tc : Thread Cert.HnbRefIdeal.nD Cert.HnbRefIdeal.τ).loc Cert.HnbRefIdeal.main_arg1) = m ((c.tc : Thread Cert.HnbRefIdeal.nD Cert.HnbRefIdeal.τ).loc Cert.HnbRefIdeal.main_arg1)
      ∧ r.2.mem ((c.tc : Thread Cert.HnbRefIdeal.nD Cert.HnbRefIdeal.τ).loc Cert.HnbRefIdeal.main_arg2) = m ((c.tc : Thread Cert.HnbRefIdeal.nD Cert.HnbRefIdeal.τ).loc Cert.HnbRefIdeal.main_arg2)
      ∧ r.2.mem ((c.tc : Thread Cert.HnbRefIdeal.nD Cert.HnbRefIdeal.τ).loc Cert.HnbRefIdeal.main_arg3) = m ((c.tc : Thread Cert.HnbRefIdeal.nD Cert.HnbRefIdeal.τ).loc Cert.HnbRefIdeal.main_arg3)
      ∧ r.2.mem ((c.tc : Thread Cert.HnbRefIdeal.nD Cert.HnbRefIdeal.τ).loc Cert.HnbRefIdeal.main_arg4) = m ((c.tc : Thread Cert.HnbRefIdeal.nD Cert.HnbRefIdeal.τ).loc Cert.HnbRefIdeal.main_arg4)
      ∧ r.2.mem ((c.tc : Thread Cert.HnbRefIdeal.nD Cert.HnbRefIdeal.τ).loc Cert.HnbRefIdeal.main_arg5) = m ((c.tc : Thread Cert.HnbRefIdeal.nD Cert.HnbRefIdeal.τ).loc Cert.HnbRefIdeal.main_arg5))
      ∧ r.2.sem = fun _ => 0)

def quiescent_HnbRefIdeal_pre_qk_norm_finite [hHnbRefIdeal : Cert.HnbRefIdeal.Facts] [hPre_qk_norm_finite : Cert.Pre_qk_norm_finite.Facts] : Prop :=
  ∀ (m : (ℓ : Loc Cert.HnbRefIdeal.nD Cert.HnbRefIdeal.τ Cert.HnbRefIdeal.sig) → Buf (Elt Ideal) ℓ) (g : Dev Cert.HnbRefIdeal.nD → PrngReg), Pre_HnbRefIdeal_qk_norm_finite m →
    θ_run (Cert.HnbRefIdeal.defs (F := Ideal)) (onTc (τ := Cert.HnbRefIdeal.τ) (Cert.HnbRefIdeal.main (F := Ideal))) ⟨m, fun _ => 0, g⟩ (fun r => (∀ c : Dev Cert.HnbRefIdeal.nD,
      r.2.mem ((c.tc : Thread Cert.HnbRefIdeal.nD Cert.HnbRefIdeal.τ).loc Cert.HnbRefIdeal.main_arg0) = m ((c.tc : Thread Cert.HnbRefIdeal.nD Cert.HnbRefIdeal.τ).loc Cert.HnbRefIdeal.main_arg0)
      ∧ r.2.mem ((c.tc : Thread Cert.HnbRefIdeal.nD Cert.HnbRefIdeal.τ).loc Cert.HnbRefIdeal.main_arg1) = m ((c.tc : Thread Cert.HnbRefIdeal.nD Cert.HnbRefIdeal.τ).loc Cert.HnbRefIdeal.main_arg1)
      ∧ r.2.mem ((c.tc : Thread Cert.HnbRefIdeal.nD Cert.HnbRefIdeal.τ).loc Cert.HnbRefIdeal.main_arg2) = m ((c.tc : Thread Cert.HnbRefIdeal.nD Cert.HnbRefIdeal.τ).loc Cert.HnbRefIdeal.main_arg2)
      ∧ r.2.mem ((c.tc : Thread Cert.HnbRefIdeal.nD Cert.HnbRefIdeal.τ).loc Cert.HnbRefIdeal.main_arg3) = m ((c.tc : Thread Cert.HnbRefIdeal.nD Cert.HnbRefIdeal.τ).loc Cert.HnbRefIdeal.main_arg3)
      ∧ r.2.mem ((c.tc : Thread Cert.HnbRefIdeal.nD Cert.HnbRefIdeal.τ).loc Cert.HnbRefIdeal.main_arg4) = m ((c.tc : Thread Cert.HnbRefIdeal.nD Cert.HnbRefIdeal.τ).loc Cert.HnbRefIdeal.main_arg4)
      ∧ r.2.mem ((c.tc : Thread Cert.HnbRefIdeal.nD Cert.HnbRefIdeal.τ).loc Cert.HnbRefIdeal.main_arg5) = m ((c.tc : Thread Cert.HnbRefIdeal.nD Cert.HnbRefIdeal.τ).loc Cert.HnbRefIdeal.main_arg5))
      ∧ r.2.sem = fun _ => 0)

def preserves_Kernel_KernelIdeal : Prop :=
  IdealRules.named_const.Statement Cert.KernelIdeal.κ "log_zero" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v1_0)) (v1 : (c : Dev Cert.ActIdeal.nD) → Buf (Elt Ideal) ((c.tc : Thread Cert.ActIdeal.nD Cert.ActIdeal.τ).loc Cert.ActIdeal.main_v1_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1_0) = v0 c
          ∧ r.2.mem ((c.tc : Thread Cert.ActIdeal.nD Cert.ActIdeal.τ).loc Cert.ActIdeal.main_v1_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v13) = v0 c
          ∧ r.2.mem ((c.tc : Thread Cert.ActRefIdeal.nD Cert.ActRefIdeal.τ).loc Cert.ActRefIdeal.main_v14) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v9) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v38) = v0 c
          ∧ r.2.mem ((c.tc : Thread Cert.DhRefIdeal.nD Cert.DhRefIdeal.τ).loc Cert.DhRefIdeal.main_v21) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5))

def preserves_Dgu_DguIdeal : Prop :=
  True

def algebraic_DguIdeal_DguRefIdeal [hDguIdeal : Cert.DguIdeal.Facts] [hDguRefIdeal : Cert.DguRefIdeal.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)
      ∧ m' ((c.tc : Thread Cert.DguRefIdeal.nD Cert.DguRefIdeal.τ).loc Cert.DguRefIdeal.main_arg2) = m ((c.tc : Thread Cert.DguIdeal.nD Cert.DguIdeal.τ).loc Cert.DguIdeal.main_arg2)) →
    ∃ (v0 : (c : Dev Cert.DguIdeal.nD) → Buf (Elt Ideal) ((c.tc : Thread Cert.DguIdeal.nD Cert.DguIdeal.τ).loc Cert.DguIdeal.main_v0)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v0) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v8) = v0 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1)
          ∧ r.2.mem ((c.tc : Thread Cert.DguRefIdeal.nD Cert.DguRefIdeal.τ).loc Cert.DguRefIdeal.main_arg2) = m' ((c.tc : Thread Cert.DguRefIdeal.nD Cert.DguRefIdeal.τ).loc Cert.DguRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)) (v3 : (c : Dev Cert.UpIdeal.nD) → Buf (Elt Ideal) ((c.tc : Thread Cert.UpIdeal.nD Cert.UpIdeal.τ).loc Cert.UpIdeal.main_v2_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_v2_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v17) = v0 c
          ∧ r.2.mem ((c.tc : Thread Cert.UpRefIdeal.nD Cert.UpRefIdeal.τ).loc Cert.UpRefIdeal.main_v18) = v1 c
          ∧ r.2.mem ((c.tc : Thread Cert.UpRefIdeal.nD Cert.UpRefIdeal.τ).loc Cert.UpRefIdeal.main_v19) = v2 c
          ∧ r.2.mem ((c.tc : Thread Cert.UpRefIdeal.nD Cert.UpRefIdeal.τ).loc Cert.UpRefIdeal.main_v20) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Pin_PinIdeal : Prop :=
  True

def algebraic_PinIdeal_PinRefIdeal [hPinIdeal : Cert.PinIdeal.Facts] [hPinRefIdeal : Cert.PinRefIdeal.Facts] : Prop :=
  ∀ (m : (ℓ : Loc Cert.PinIdeal.nD Cert.PinIdeal.τ Cert.PinIdeal.sig) → Buf (Elt Ideal) ℓ) (g : Dev Cert.PinIdeal.nD → PrngReg)
    (m' : (ℓ : Loc Cert.PinRefIdeal.nD Cert.PinRefIdeal.τ Cert.PinRefIdeal.sig) → Buf (Elt Ideal) ℓ) (g' : Dev Cert.PinRefIdeal.nD → PrngReg), Pre_PinIdeal m →
    (∀ c : Dev Cert.PinIdeal.nD,
      m' ((c.tc : Thread Cert.PinRefIdeal.nD Cert.PinRefIdeal.τ).loc Cert.PinRefIdeal.main_arg0) = m ((c.tc : Thread Cert.PinIdeal.nD Cert.PinIdeal.τ).loc Cert.PinIdeal.main_arg0)
      ∧ m' ((c.tc : Thread Cert.PinRefIdeal.nD Cert.PinRefIdeal.τ).loc Cert.PinRefIdeal.main_arg1) = m ((c.tc : Thread Cert.PinIdeal.nD Cert.PinIdeal.τ).loc Cert.PinIdeal.main_arg1)
      ∧ m' ((c.tc : Thread Cert.PinRefIdeal.nD Cert.PinRefIdeal.τ).loc Cert.PinRefIdeal.main_arg2) = m ((c.tc : Thread Cert.PinIdeal.nD Cert.PinIdeal.τ).loc Cert.PinIdeal.main_arg2)) →
    ∃ (v0 : (c : Dev Cert.PinIdeal.nD) → Buf (Elt Ideal) ((c.tc : Thread Cert.PinIdeal.nD Cert.PinIdeal.τ).loc Cert.PinIdeal.main_v1_0)) (v1 : (c : Dev Cert.PinIdeal.nD) → Buf (Elt Ideal) ((c.tc : Thread Cert.PinIdeal.nD Cert.PinIdeal.τ).loc Cert.PinIdeal.main_v1_1)),
      θ_run (Cert.PinIdeal.defs (F := Ideal)) (onTc (τ := Cert.PinIdeal.τ) (Cert.PinIdeal.main (F := Ideal))) ⟨m, fun _ => 0, g⟩ (fun r => ∀ c : Dev Cert.PinIdeal.nD,
          r.2.mem ((c.tc : Thread Cert.PinIdeal.nD Cert.PinIdeal.τ).loc Cert.PinIdeal.main_v1_0) = v0 c
          ∧ r.2.mem ((c.tc : Thread Cert.PinIdeal.nD Cert.PinIdeal.τ).loc Cert.PinIdeal.main_v1_1) = v1 c
          ∧ r.2.mem ((c.tc : Thread Cert.PinIdeal.nD Cert.PinIdeal.τ).loc Cert.PinIdeal.main_arg0) = m ((c.tc : Thread Cert.PinIdeal.nD Cert.PinIdeal.τ).loc Cert.PinIdeal.main_arg0)
          ∧ r.2.mem ((c.tc : Thread Cert.PinIdeal.nD Cert.PinIdeal.τ).loc Cert.PinIdeal.main_arg1) = m ((c.tc : Thread Cert.PinIdeal.nD Cert.PinIdeal.τ).loc Cert.PinIdeal.main_arg1)
          ∧ r.2.mem ((c.tc : Thread Cert.PinIdeal.nD Cert.PinIdeal.τ).loc Cert.PinIdeal.main_arg2) = m ((c.tc : Thread Cert.PinIdeal.nD Cert.PinIdeal.τ).loc Cert.PinIdeal.main_arg2))
      ∧ θ_run (Cert.PinRefIdeal.defs (F := Ideal)) (onTc (τ := Cert.PinRefIdeal.τ) (Cert.PinRefIdeal.main (F := Ideal))) ⟨m', fun _ => 0, g'⟩ (fun r => ∀ c : Dev Cert.PinRefIdeal.nD,
          r.2.mem ((c.tc : Thread Cert.PinRefIdeal.nD Cert.PinRefIdeal.τ).loc Cert.PinRefIdeal.main_v12) = v0 c
          ∧ r.2.mem ((c.tc : Thread Cert.PinRefIdeal.nD Cert.PinRefIdeal.τ).loc Cert.PinRefIdeal.main_v13) = v1 c
          ∧ r.2.mem ((c.tc : Thread Cert.PinRefIdeal.nD Cert.PinRefIdeal.τ).loc Cert.PinRefIdeal.main_arg0) = m' ((c.tc : Thread Cert.PinRefIdeal.nD Cert.PinRefIdeal.τ).loc Cert.PinRefIdeal.main_arg0)
          ∧ r.2.mem ((c.tc : Thread Cert.PinRefIdeal.nD Cert.PinRefIdeal.τ).loc Cert.PinRefIdeal.main_arg1) = m' ((c.tc : Thread Cert.PinRefIdeal.nD Cert.PinRefIdeal.τ).loc Cert.PinRefIdeal.main_arg1)
          ∧ r.2.mem ((c.tc : Thread Cert.PinRefIdeal.nD Cert.PinRefIdeal.τ).loc Cert.PinRefIdeal.main_arg2) = m' ((c.tc : Thread Cert.PinRefIdeal.nD Cert.PinRefIdeal.τ).loc Cert.PinRefIdeal.main_arg2))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)) →
    ∃ (v0 : (c : Dev Cert.AoIdeal.nD) → Buf (Elt Ideal) ((c.tc : Thread Cert.AoIdeal.nD Cert.AoIdeal.τ).loc Cert.AoIdeal.main_v1)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v1) = v0 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v1) = v0 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2))

def preserves_Aob_AobIdeal : Prop :=
  True

def algebraic_AobIdeal_AobRefIdeal [hAobIdeal : Cert.AobIdeal.Facts] [hAobRefIdeal : Cert.AobRefIdeal.Facts] : Prop :=
  ∀ (m : (ℓ : Loc Cert.AobIdeal.nD Cert.AobIdeal.τ Cert.AobIdeal.sig) → Buf (Elt Ideal) ℓ) (g : Dev Cert.AobIdeal.nD → PrngReg)
    (m' : (ℓ : Loc Cert.AobRefIdeal.nD Cert.AobRefIdeal.τ Cert.AobRefIdeal.sig) → Buf (Elt Ideal) ℓ) (g' : Dev Cert.AobRefIdeal.nD → PrngReg), Pre_AobIdeal m →
    (∀ c : Dev Cert.AobIdeal.nD,
      m' ((c.tc : Thread Cert.AobRefIdeal.nD Cert.AobRefIdeal.τ).loc Cert.AobRefIdeal.main_arg0) = m ((c.tc : Thread Cert.AobIdeal.nD Cert.AobIdeal.τ).loc Cert.AobIdeal.main_arg0)
      ∧ m' ((c.tc : Thread Cert.AobRefIdeal.nD Cert.AobRefIdeal.τ).loc Cert.AobRefIdeal.main_arg1) = m ((c.tc : Thread Cert.AobIdeal.nD Cert.AobIdeal.τ).loc Cert.AobIdeal.main_arg1)) →
    ∃ (v0 : (c : Dev Cert.AobIdeal.nD) → Buf (Elt Ideal) ((c.tc : Thread Cert.AobIdeal.nD Cert.AobIdeal.τ).loc Cert.AobIdeal.main_v1)),
      θ_run (Cert.AobIdeal.defs (F := Ideal)) (onTc (τ := Cert.AobIdeal.τ) (Cert.AobIdeal.main (F := Ideal))) ⟨m, fun _ => 0, g⟩ (fun r => ∀ c : Dev Cert.AobIdeal.nD,
          r.2.mem ((c.tc : Thread Cert.AobIdeal.nD Cert.AobIdeal.τ).loc Cert.AobIdeal.main_v1) = v0 c
          ∧ r.2.mem ((c.tc : Thread Cert.AobIdeal.nD Cert.AobIdeal.τ).loc Cert.AobIdeal.main_arg0) = m ((c.tc : Thread Cert.AobIdeal.nD Cert.AobIdeal.τ).loc Cert.AobIdeal.main_arg0)
          ∧ r.2.mem ((c.tc : Thread Cert.AobIdeal.nD Cert.AobIdeal.τ).loc Cert.AobIdeal.main_arg1) = m ((c.tc : Thread Cert.AobIdeal.nD Cert.AobIdeal.τ).loc Cert.AobIdeal.main_arg1))
      ∧ θ_run (Cert.AobRefIdeal.defs (F := Ideal)) (onTc (τ := Cert.AobRefIdeal.τ) (Cert.AobRefIdeal.main (F := Ideal))) ⟨m', fun _ => 0, g'⟩ (fun r => ∀ c : Dev Cert.AobRefIdeal.nD,
          r.2.mem ((c.tc : Thread Cert.AobRefIdeal.nD Cert.AobRefIdeal.τ).loc Cert.AobRefIdeal.main_v3) = v0 c
          ∧ r.2.mem ((c.tc : Thread Cert.AobRefIdeal.nD Cert.AobRefIdeal.τ).loc Cert.AobRefIdeal.main_arg0) = m' ((c.tc : Thread Cert.AobRefIdeal.nD Cert.AobRefIdeal.τ).loc Cert.AobRefIdeal.main_arg0)
          ∧ r.2.mem ((c.tc : Thread Cert.AobRefIdeal.nD Cert.AobRefIdeal.τ).loc Cert.AobRefIdeal.main_arg1) = m' ((c.tc : Thread Cert.AobRefIdeal.nD Cert.AobRefIdeal.τ).loc Cert.AobRefIdeal.main_arg1))

def preserves_Gao_GaoIdeal : Prop :=
  True

def algebraic_GaoIdeal_GaoRefIdeal [hGaoIdeal : Cert.GaoIdeal.Facts] [hGaoRefIdeal : Cert.GaoRefIdeal.Facts] : Prop :=
  ∀ (m : (ℓ : Loc Cert.GaoIdeal.nD Cert.GaoIdeal.τ Cert.GaoIdeal.sig) → Buf (Elt Ideal) ℓ) (g : Dev Cert.GaoIdeal.nD → PrngReg)
    (m' : (ℓ : Loc Cert.GaoRefIdeal.nD Cert.GaoRefIdeal.τ Cert.GaoRefIdeal.sig) → Buf (Elt Ideal) ℓ) (g' : Dev Cert.GaoRefIdeal.nD → PrngReg), Pre_GaoIdeal m →
    (∀ c : Dev Cert.GaoIdeal.nD,
      m' ((c.tc : Thread Cert.GaoRefIdeal.nD Cert.GaoRefIdeal.τ).loc Cert.GaoRefIdeal.main_arg0) = m ((c.tc : Thread Cert.GaoIdeal.nD Cert.GaoIdeal.τ).loc Cert.GaoIdeal.main_arg0)
      ∧ m' ((c.tc : Thread Cert.GaoRefIdeal.nD Cert.GaoRefIdeal.τ).loc Cert.GaoRefIdeal.main_arg1) = m ((c.tc : Thread Cert.GaoIdeal.nD Cert.GaoIdeal.τ).loc Cert.GaoIdeal.main_arg1)) →
    ∃ (v0 : (c : Dev Cert.GaoIdeal.nD) → Buf (Elt Ideal) ((c.tc : Thread Cert.GaoIdeal.nD Cert.GaoIdeal.τ).loc Cert.GaoIdeal.main_v0)),
      θ_run (Cert.GaoIdeal.defs (F := Ideal)) (onTc (τ := Cert.GaoIdeal.τ) (Cert.GaoIdeal.main (F := Ideal))) ⟨m, fun _ => 0, g⟩ (fun r => ∀ c : Dev Cert.GaoIdeal.nD,
          r.2.mem ((c.tc : Thread Cert.GaoIdeal.nD Cert.GaoIdeal.τ).loc Cert.GaoIdeal.main_v0) = v0 c
          ∧ r.2.mem ((c.tc : Thread Cert.GaoIdeal.nD Cert.GaoIdeal.τ).loc Cert.GaoIdeal.main_arg0) = m ((c.tc : Thread Cert.GaoIdeal.nD Cert.GaoIdeal.τ).loc Cert.GaoIdeal.main_arg0)
          ∧ r.2.mem ((c.tc : Thread Cert.GaoIdeal.nD Cert.GaoIdeal.τ).loc Cert.GaoIdeal.main_arg1) = m ((c.tc : Thread Cert.GaoIdeal.nD Cert.GaoIdeal.τ).loc Cert.GaoIdeal.main_arg1))
      ∧ θ_run (Cert.GaoRefIdeal.defs (F := Ideal)) (onTc (τ := Cert.GaoRefIdeal.τ) (Cert.GaoRefIdeal.main (F := Ideal))) ⟨m', fun _ => 0, g'⟩ (fun r => ∀ c : Dev Cert.GaoRefIdeal.nD,
          r.2.mem ((c.tc : Thread Cert.GaoRefIdeal.nD Cert.GaoRefIdeal.τ).loc Cert.GaoRefIdeal.main_v4) = v0 c
          ∧ r.2.mem ((c.tc : Thread Cert.GaoRefIdeal.nD Cert.GaoRefIdeal.τ).loc Cert.GaoRefIdeal.main_arg0) = m' ((c.tc : Thread Cert.GaoRefIdeal.nD Cert.GaoRefIdeal.τ).loc Cert.GaoRefIdeal.main_arg0)
          ∧ r.2.mem ((c.tc : Thread Cert.GaoRefIdeal.nD Cert.GaoRefIdeal.τ).loc Cert.GaoRefIdeal.main_arg1) = m' ((c.tc : Thread Cert.GaoRefIdeal.nD Cert.GaoRefIdeal.τ).loc Cert.GaoRefIdeal.main_arg1))

def preserves_Gqkv_GqkvIdeal : Prop :=
  True

def algebraic_GqkvIdeal_GqkvRefIdeal [hGqkvIdeal : Cert.GqkvIdeal.Facts] [hGqkvRefIdeal : Cert.GqkvRefIdeal.Facts] : Prop :=
  ∀ (m : (ℓ : Loc Cert.GqkvIdeal.nD Cert.GqkvIdeal.τ Cert.GqkvIdeal.sig) → Buf (Elt Ideal) ℓ) (g : Dev Cert.GqkvIdeal.nD → PrngReg)
    (m' : (ℓ : Loc Cert.GqkvRefIdeal.nD Cert.GqkvRefIdeal.τ Cert.GqkvRefIdeal.sig) → Buf (Elt Ideal) ℓ) (g' : Dev Cert.GqkvRefIdeal.nD → PrngReg), Pre_GqkvIdeal m →
    (∀ c : Dev Cert.GqkvIdeal.nD,
      m' ((c.tc : Thread Cert.GqkvRefIdeal.nD Cert.GqkvRefIdeal.τ).loc Cert.GqkvRefIdeal.main_arg0) = m ((c.tc : Thread Cert.GqkvIdeal.nD Cert.GqkvIdeal.τ).loc Cert.GqkvIdeal.main_arg0)
      ∧ m' ((c.tc : Thread Cert.GqkvRefIdeal.nD Cert.GqkvRefIdeal.τ).loc Cert.GqkvRefIdeal.main_arg1) = m ((c.tc : Thread Cert.GqkvIdeal.nD Cert.GqkvIdeal.τ).loc Cert.GqkvIdeal.main_arg1)) →
    ∃ (v0 : (c : Dev Cert.GqkvIdeal.nD) → Buf (Elt Ideal) ((c.tc : Thread Cert.GqkvIdeal.nD Cert.GqkvIdeal.τ).loc Cert.GqkvIdeal.main_v0)),
      θ_run (Cert.GqkvIdeal.defs (F := Ideal)) (onTc (τ := Cert.GqkvIdeal.τ) (Cert.GqkvIdeal.main (F := Ideal))) ⟨m, fun _ => 0, g⟩ (fun r => ∀ c : Dev Cert.GqkvIdeal.nD,
          r.2.mem ((c.tc : Thread Cert.GqkvIdeal.nD Cert.GqkvIdeal.τ).loc Cert.GqkvIdeal.main_v0) = v0 c
          ∧ r.2.mem ((c.tc : Thread Cert.GqkvIdeal.nD Cert.GqkvIdeal.τ).loc Cert.GqkvIdeal.main_arg0) = m ((c.tc : Thread Cert.GqkvIdeal.nD Cert.GqkvIdeal.τ).loc Cert.GqkvIdeal.main_arg0)
          ∧ r.2.mem ((c.tc : Thread Cert.GqkvIdeal.nD Cert.GqkvIdeal.τ).loc Cert.GqkvIdeal.main_arg1) = m ((c.tc : Thread Cert.GqkvIdeal.nD Cert.GqkvIdeal.τ).loc Cert.GqkvIdeal.main_arg1))
      ∧ θ_run (Cert.GqkvRefIdeal.defs (F := Ideal)) (onTc (τ := Cert.GqkvRefIdeal.τ) (Cert.GqkvRefIdeal.main (F := Ideal))) ⟨m', fun _ => 0, g'⟩ (fun r => ∀ c : Dev Cert.GqkvRefIdeal.nD,
          r.2.mem ((c.tc : Thread Cert.GqkvRefIdeal.nD Cert.GqkvRefIdeal.τ).loc Cert.GqkvRefIdeal.main_v6) = v0 c
          ∧ r.2.mem ((c.tc : Thread Cert.GqkvRefIdeal.nD Cert.GqkvRefIdeal.τ).loc Cert.GqkvRefIdeal.main_arg0) = m' ((c.tc : Thread Cert.GqkvRefIdeal.nD Cert.GqkvRefIdeal.τ).loc Cert.GqkvRefIdeal.main_arg0)
          ∧ r.2.mem ((c.tc : Thread Cert.GqkvRefIdeal.nD Cert.GqkvRefIdeal.τ).loc Cert.GqkvRefIdeal.main_arg1) = m' ((c.tc : Thread Cert.GqkvRefIdeal.nD Cert.GqkvRefIdeal.τ).loc Cert.GqkvRefIdeal.main_arg1))

def preserves_Gsq_GsqIdeal : Prop :=
  True

def algebraic_GsqIdeal_GsqRefIdeal [hGsqIdeal : Cert.GsqIdeal.Facts] [hGsqRefIdeal : Cert.GsqRefIdeal.Facts] : Prop :=
  ∀ (m : (ℓ : Loc Cert.GsqIdeal.nD Cert.GsqIdeal.τ Cert.GsqIdeal.sig) → Buf (Elt Ideal) ℓ) (g : Dev Cert.GsqIdeal.nD → PrngReg)
    (m' : (ℓ : Loc Cert.GsqRefIdeal.nD Cert.GsqRefIdeal.τ Cert.GsqRefIdeal.sig) → Buf (Elt Ideal) ℓ) (g' : Dev Cert.GsqRefIdeal.nD → PrngReg), Pre_GsqIdeal m →
    (∀ c : Dev Cert.GsqIdeal.nD,
      m' ((c.tc : Thread Cert.GsqRefIdeal.nD Cert.GsqRefIdeal.τ).loc Cert.GsqRefIdeal.main_arg0) = m ((c.tc : Thread Cert.GsqIdeal.nD Cert.GsqIdeal.τ).loc Cert.GsqIdeal.main_arg0)
      ∧ m' ((c.tc : Thread Cert.GsqRefIdeal.nD Cert.GsqRefIdeal.τ).loc Cert.GsqRefIdeal.main_arg1) = m ((c.tc : Thread Cert.GsqIdeal.nD Cert.GsqIdeal.τ).loc Cert.GsqIdeal.main_arg1)) →
    ∃ (v0 : (c : Dev Cert.GsqIdeal.nD) → Buf (Elt Ideal) ((c.tc : Thread Cert.GsqIdeal.nD Cert.GsqIdeal.τ).loc Cert.GsqIdeal.main_v0)),
      θ_run (Cert.GsqIdeal.defs (F := Ideal)) (onTc (τ := Cert.GsqIdeal.τ) (Cert.GsqIdeal.main (F := Ideal))) ⟨m, fun _ => 0, g⟩ (fun r => ∀ c : Dev Cert.GsqIdeal.nD,
          r.2.mem ((c.tc : Thread Cert.GsqIdeal.nD Cert.GsqIdeal.τ).loc Cert.GsqIdeal.main_v0) = v0 c
          ∧ r.2.mem ((c.tc : Thread Cert.GsqIdeal.nD Cert.GsqIdeal.τ).loc Cert.GsqIdeal.main_arg0) = m ((c.tc : Thread Cert.GsqIdeal.nD Cert.GsqIdeal.τ).loc Cert.GsqIdeal.main_arg0)
          ∧ r.2.mem ((c.tc : Thread Cert.GsqIdeal.nD Cert.GsqIdeal.τ).loc Cert.GsqIdeal.main_arg1) = m ((c.tc : Thread Cert.GsqIdeal.nD Cert.GsqIdeal.τ).loc Cert.GsqIdeal.main_arg1))
      ∧ θ_run (Cert.GsqRefIdeal.defs (F := Ideal)) (onTc (τ := Cert.GsqRefIdeal.τ) (Cert.GsqRefIdeal.main (F := Ideal))) ⟨m', fun _ => 0, g'⟩ (fun r => ∀ c : Dev Cert.GsqRefIdeal.nD,
          r.2.mem ((c.tc : Thread Cert.GsqRefIdeal.nD Cert.GsqRefIdeal.τ).loc Cert.GsqRefIdeal.main_v6) = v0 c
          ∧ r.2.mem ((c.tc : Thread Cert.GsqRefIdeal.nD Cert.GsqRefIdeal.τ).loc Cert.GsqRefIdeal.main_arg0) = m' ((c.tc : Thread Cert.GsqRefIdeal.nD Cert.GsqRefIdeal.τ).loc Cert.GsqRefIdeal.main_arg0)
          ∧ r.2.mem ((c.tc : Thread Cert.GsqRefIdeal.nD Cert.GsqRefIdeal.τ).loc Cert.GsqRefIdeal.main_arg1) = m' ((c.tc : Thread Cert.GsqRefIdeal.nD Cert.GsqRefIdeal.τ).loc Cert.GsqRefIdeal.main_arg1))

def preserves_Gpp_GppIdeal : Prop :=
  True

def algebraic_GppIdeal_GppRefIdeal [hGppIdeal : Cert.GppIdeal.Facts] [hGppRefIdeal : Cert.GppRefIdeal.Facts] : Prop :=
  ∀ (m : (ℓ : Loc Cert.GppIdeal.nD Cert.GppIdeal.τ Cert.GppIdeal.sig) → Buf (Elt Ideal) ℓ) (g : Dev Cert.GppIdeal.nD → PrngReg)
    (m' : (ℓ : Loc Cert.GppRefIdeal.nD Cert.GppRefIdeal.τ Cert.GppRefIdeal.sig) → Buf (Elt Ideal) ℓ) (g' : Dev Cert.GppRefIdeal.nD → PrngReg), Pre_GppIdeal m →
    (∀ c : Dev Cert.GppIdeal.nD,
      m' ((c.tc : Thread Cert.GppRefIdeal.nD Cert.GppRefIdeal.τ).loc Cert.GppRefIdeal.main_arg0) = m ((c.tc : Thread Cert.GppIdeal.nD Cert.GppIdeal.τ).loc Cert.GppIdeal.main_arg0)
      ∧ m' ((c.tc : Thread Cert.GppRefIdeal.nD Cert.GppRefIdeal.τ).loc Cert.GppRefIdeal.main_arg1) = m ((c.tc : Thread Cert.GppIdeal.nD Cert.GppIdeal.τ).loc Cert.GppIdeal.main_arg1)) →
    ∃ (v0 : (c : Dev Cert.GppIdeal.nD) → Buf (Elt Ideal) ((c.tc : Thread Cert.GppIdeal.nD Cert.GppIdeal.τ).loc Cert.GppIdeal.main_v0)),
      θ_run (Cert.GppIdeal.defs (F := Ideal)) (onTc (τ := Cert.GppIdeal.τ) (Cert.GppIdeal.main (F := Ideal))) ⟨m, fun _ => 0, g⟩ (fun r => ∀ c : Dev Cert.GppIdeal.nD,
          r.2.mem ((c.tc : Thread Cert.GppIdeal.nD Cert.GppIdeal.τ).loc Cert.GppIdeal.main_v0) = v0 c
          ∧ r.2.mem ((c.tc : Thread Cert.GppIdeal.nD Cert.GppIdeal.τ).loc Cert.GppIdeal.main_arg0) = m ((c.tc : Thread Cert.GppIdeal.nD Cert.GppIdeal.τ).loc Cert.GppIdeal.main_arg0)
          ∧ r.2.mem ((c.tc : Thread Cert.GppIdeal.nD Cert.GppIdeal.τ).loc Cert.GppIdeal.main_arg1) = m ((c.tc : Thread Cert.GppIdeal.nD Cert.GppIdeal.τ).loc Cert.GppIdeal.main_arg1))
      ∧ θ_run (Cert.GppRefIdeal.defs (F := Ideal)) (onTc (τ := Cert.GppRefIdeal.τ) (Cert.GppRefIdeal.main (F := Ideal))) ⟨m', fun _ => 0, g'⟩ (fun r => ∀ c : Dev Cert.GppRefIdeal.nD,
          r.2.mem ((c.tc : Thread Cert.GppRefIdeal.nD Cert.GppRefIdeal.τ).loc Cert.GppRefIdeal.main_v5) = v0 c
          ∧ r.2.mem ((c.tc : Thread Cert.GppRefIdeal.nD Cert.GppRefIdeal.τ).loc Cert.GppRefIdeal.main_arg0) = m' ((c.tc : Thread Cert.GppRefIdeal.nD Cert.GppRefIdeal.τ).loc Cert.GppRefIdeal.main_arg0)
          ∧ r.2.mem ((c.tc : Thread Cert.GppRefIdeal.nD Cert.GppRefIdeal.τ).loc Cert.GppRefIdeal.main_arg1) = m' ((c.tc : Thread Cert.GppRefIdeal.nD Cert.GppRefIdeal.τ).loc Cert.GppRefIdeal.main_arg1))

def preserves_Qdh_QdhIdeal : Prop :=
  True

def algebraic_QdhIdeal_QdhRefIdeal_pre_qkv_dh_finite [hQdhIdeal : Cert.QdhIdeal.Facts] [hQdhRefIdeal : Cert.QdhRefIdeal.Facts] [hPre_qkv_dh_finite : Cert.Pre_qkv_dh_finite.Facts] : Prop :=
  ∀ (m : (ℓ : Loc Cert.QdhIdeal.nD Cert.QdhIdeal.τ Cert.QdhIdeal.sig) → Buf (Elt Ideal) ℓ) (g : Dev Cert.QdhIdeal.nD → PrngReg)
    (m' : (ℓ : Loc Cert.QdhRefIdeal.nD Cert.QdhRefIdeal.τ Cert.QdhRefIdeal.sig) → Buf (Elt Ideal) ℓ) (g' : Dev Cert.QdhRefIdeal.nD → PrngReg), Pre_QdhIdeal_qkv_dh_finite m →
    (∀ c : Dev Cert.QdhIdeal.nD,
      m' ((c.tc : Thread Cert.QdhRefIdeal.nD Cert.QdhRefIdeal.τ).loc Cert.QdhRefIdeal.main_arg0) = m ((c.tc : Thread Cert.QdhIdeal.nD Cert.QdhIdeal.τ).loc Cert.QdhIdeal.main_arg0)
      ∧ m' ((c.tc : Thread Cert.QdhRefIdeal.nD Cert.QdhRefIdeal.τ).loc Cert.QdhRefIdeal.main_arg1) = m ((c.tc : Thread Cert.QdhIdeal.nD Cert.QdhIdeal.τ).loc Cert.QdhIdeal.main_arg1)
      ∧ m' ((c.tc : Thread Cert.QdhRefIdeal.nD Cert.QdhRefIdeal.τ).loc Cert.QdhRefIdeal.main_arg2) = m ((c.tc : Thread Cert.QdhIdeal.nD Cert.QdhIdeal.τ).loc Cert.QdhIdeal.main_arg2)
      ∧ m' ((c.tc : Thread Cert.QdhRefIdeal.nD Cert.QdhRefIdeal.τ).loc Cert.QdhRefIdeal.main_arg3) = m ((c.tc : Thread Cert.QdhIdeal.nD Cert.QdhIdeal.τ).loc Cert.QdhIdeal.main_arg3)
      ∧ m' ((c.tc : Thread Cert.QdhRefIdeal.nD Cert.QdhRefIdeal.τ).loc Cert.QdhRefIdeal.main_arg4) = m ((c.tc : Thread Cert.QdhIdeal.nD Cert.QdhIdeal.τ).loc Cert.QdhIdeal.main_arg4)) →
    ∃ (v0 : (c : Dev Cert.QdhIdeal.nD) → Buf (Elt Ideal) ((c.tc : Thread Cert.QdhIdeal.nD Cert.QdhIdeal.τ).loc Cert.QdhIdeal.main_v1_0)) (v1 : (c : Dev Cert.QdhIdeal.nD) → Buf (Elt Ideal) ((c.tc : Thread Cert.QdhIdeal.nD Cert.QdhIdeal.τ).loc Cert.QdhIdeal.main_v1_1)),
      θ_run (Cert.QdhIdeal.defs (F := Ideal)) (onTc (τ := Cert.QdhIdeal.τ) (Cert.QdhIdeal.main (F := Ideal))) ⟨m, fun _ => 0, g⟩ (fun r => ∀ c : Dev Cert.QdhIdeal.nD,
          r.2.mem ((c.tc : Thread Cert.QdhIdeal.nD Cert.QdhIdeal.τ).loc Cert.QdhIdeal.main_v1_0) = v0 c
          ∧ r.2.mem ((c.tc : Thread Cert.QdhIdeal.nD Cert.QdhIdeal.τ).loc Cert.QdhIdeal.main_v1_1) = v1 c
          ∧ r.2.mem ((c.tc : Thread Cert.QdhIdeal.nD Cert.QdhIdeal.τ).loc Cert.QdhIdeal.main_arg0) = m ((c.tc : Thread Cert.QdhIdeal.nD Cert.QdhIdeal.τ).loc Cert.QdhIdeal.main_arg0)
          ∧ r.2.mem ((c.tc : Thread Cert.QdhIdeal.nD Cert.QdhIdeal.τ).loc Cert.QdhIdeal.main_arg1) = m ((c.tc : Thread Cert.QdhIdeal.nD Cert.QdhIdeal.τ).loc Cert.QdhIdeal.main_arg1)
          ∧ r.2.mem ((c.tc : Thread Cert.QdhIdeal.nD Cert.QdhIdeal.τ).loc Cert.QdhIdeal.main_arg2) = m ((c.tc : Thread Cert.QdhIdeal.nD Cert.QdhIdeal.τ).loc Cert.QdhIdeal.main_arg2)
          ∧ r.2.mem ((c.tc : Thread Cert.QdhIdeal.nD Cert.QdhIdeal.τ).loc Cert.QdhIdeal.main_arg3) = m ((c.tc : Thread Cert.QdhIdeal.nD Cert.QdhIdeal.τ).loc Cert.QdhIdeal.main_arg3)
          ∧ r.2.mem ((c.tc : Thread Cert.QdhIdeal.nD Cert.QdhIdeal.τ).loc Cert.QdhIdeal.main_arg4) = m ((c.tc : Thread Cert.QdhIdeal.nD Cert.QdhIdeal.τ).loc Cert.QdhIdeal.main_arg4))
      ∧ θ_run (Cert.QdhRefIdeal.defs (F := Ideal)) (onTc (τ := Cert.QdhRefIdeal.τ) (Cert.QdhRefIdeal.main (F := Ideal))) ⟨m', fun _ => 0, g'⟩ (fun r => ∀ c : Dev Cert.QdhRefIdeal.nD,
          r.2.mem ((c.tc : Thread Cert.QdhRefIdeal.nD Cert.QdhRefIdeal.τ).loc Cert.QdhRefIdeal.main_v37) = v0 c
          ∧ r.2.mem ((c.tc : Thread Cert.QdhRefIdeal.nD Cert.QdhRefIdeal.τ).loc Cert.QdhRefIdeal.main_v20) = v1 c
          ∧ r.2.mem ((c.tc : Thread Cert.QdhRefIdeal.nD Cert.QdhRefIdeal.τ).loc Cert.QdhRefIdeal.main_arg0) = m' ((c.tc : Thread Cert.QdhRefIdeal.nD Cert.QdhRefIdeal.τ).loc Cert.QdhRefIdeal.main_arg0)
          ∧ r.2.mem ((c.tc : Thread Cert.QdhRefIdeal.nD Cert.QdhRefIdeal.τ).loc Cert.QdhRefIdeal.main_arg1) = m' ((c.tc : Thread Cert.QdhRefIdeal.nD Cert.QdhRefIdeal.τ).loc Cert.QdhRefIdeal.main_arg1)
          ∧ r.2.mem ((c.tc : Thread Cert.QdhRefIdeal.nD Cert.QdhRefIdeal.τ).loc Cert.QdhRefIdeal.main_arg2) = m' ((c.tc : Thread Cert.QdhRefIdeal.nD Cert.QdhRefIdeal.τ).loc Cert.QdhRefIdeal.main_arg2)
          ∧ r.2.mem ((c.tc : Thread Cert.QdhRefIdeal.nD Cert.QdhRefIdeal.τ).loc Cert.QdhRefIdeal.main_arg3) = m' ((c.tc : Thread Cert.QdhRefIdeal.nD Cert.QdhRefIdeal.τ).loc Cert.QdhRefIdeal.main_arg3)
          ∧ r.2.mem ((c.tc : Thread Cert.QdhRefIdeal.nD Cert.QdhRefIdeal.τ).loc Cert.QdhRefIdeal.main_arg4) = m' ((c.tc : Thread Cert.QdhRefIdeal.nD Cert.QdhRefIdeal.τ).loc Cert.QdhRefIdeal.main_arg4))

def preserves_Sdh_SdhIdeal : Prop :=
  True

def algebraic_SdhIdeal_SdhRefIdeal_pre_square_dh_finite [hSdhIdeal : Cert.SdhIdeal.Facts] [hSdhRefIdeal : Cert.SdhRefIdeal.Facts] [hPre_square_dh_finite : Cert.Pre_square_dh_finite.Facts] : Prop :=
  ∀ (m : (ℓ : Loc Cert.SdhIdeal.nD Cert.SdhIdeal.τ Cert.SdhIdeal.sig) → Buf (Elt Ideal) ℓ) (g : Dev Cert.SdhIdeal.nD → PrngReg)
    (m' : (ℓ : Loc Cert.SdhRefIdeal.nD Cert.SdhRefIdeal.τ Cert.SdhRefIdeal.sig) → Buf (Elt Ideal) ℓ) (g' : Dev Cert.SdhRefIdeal.nD → PrngReg), Pre_SdhIdeal_square_dh_finite m →
    (∀ c : Dev Cert.SdhIdeal.nD,
      m' ((c.tc : Thread Cert.SdhRefIdeal.nD Cert.SdhRefIdeal.τ).loc Cert.SdhRefIdeal.main_arg0) = m ((c.tc : Thread Cert.SdhIdeal.nD Cert.SdhIdeal.τ).loc Cert.SdhIdeal.main_arg0)
      ∧ m' ((c.tc : Thread Cert.SdhRefIdeal.nD Cert.SdhRefIdeal.τ).loc Cert.SdhRefIdeal.main_arg1) = m ((c.tc : Thread Cert.SdhIdeal.nD Cert.SdhIdeal.τ).loc Cert.SdhIdeal.main_arg1)
      ∧ m' ((c.tc : Thread Cert.SdhRefIdeal.nD Cert.SdhRefIdeal.τ).loc Cert.SdhRefIdeal.main_arg2) = m ((c.tc : Thread Cert.SdhIdeal.nD Cert.SdhIdeal.τ).loc Cert.SdhIdeal.main_arg2)
      ∧ m' ((c.tc : Thread Cert.SdhRefIdeal.nD Cert.SdhRefIdeal.τ).loc Cert.SdhRefIdeal.main_arg3) = m ((c.tc : Thread Cert.SdhIdeal.nD Cert.SdhIdeal.τ).loc Cert.SdhIdeal.main_arg3)
      ∧ m' ((c.tc : Thread Cert.SdhRefIdeal.nD Cert.SdhRefIdeal.τ).loc Cert.SdhRefIdeal.main_arg4) = m ((c.tc : Thread Cert.SdhIdeal.nD Cert.SdhIdeal.τ).loc Cert.SdhIdeal.main_arg4)) →
    ∃ (v0 : (c : Dev Cert.SdhIdeal.nD) → Buf (Elt Ideal) ((c.tc : Thread Cert.SdhIdeal.nD Cert.SdhIdeal.τ).loc Cert.SdhIdeal.main_v1_0)) (v1 : (c : Dev Cert.SdhIdeal.nD) → Buf (Elt Ideal) ((c.tc : Thread Cert.SdhIdeal.nD Cert.SdhIdeal.τ).loc Cert.SdhIdeal.main_v1_1)),
      θ_run (Cert.SdhIdeal.defs (F := Ideal)) (onTc (τ := Cert.SdhIdeal.τ) (Cert.SdhIdeal.main (F := Ideal))) ⟨m, fun _ => 0, g⟩ (fun r => ∀ c : Dev Cert.SdhIdeal.nD,
          r.2.mem ((c.tc : Thread Cert.SdhIdeal.nD Cert.SdhIdeal.τ).loc Cert.SdhIdeal.main_v1_0) = v0 c
          ∧ r.2.mem ((c.tc : Thread Cert.SdhIdeal.nD Cert.SdhIdeal.τ).loc Cert.SdhIdeal.main_v1_1) = v1 c
          ∧ r.2.mem ((c.tc : Thread Cert.SdhIdeal.nD Cert.SdhIdeal.τ).loc Cert.SdhIdeal.main_arg0) = m ((c.tc : Thread Cert.SdhIdeal.nD Cert.SdhIdeal.τ).loc Cert.SdhIdeal.main_arg0)
          ∧ r.2.mem ((c.tc : Thread Cert.SdhIdeal.nD Cert.SdhIdeal.τ).loc Cert.SdhIdeal.main_arg1) = m ((c.tc : Thread Cert.SdhIdeal.nD Cert.SdhIdeal.τ).loc Cert.SdhIdeal.main_arg1)
          ∧ r.2.mem ((c.tc : Thread Cert.SdhIdeal.nD Cert.SdhIdeal.τ).loc Cert.SdhIdeal.main_arg2) = m ((c.tc : Thread Cert.SdhIdeal.nD Cert.SdhIdeal.τ).loc Cert.SdhIdeal.main_arg2)
          ∧ r.2.mem ((c.tc : Thread Cert.SdhIdeal.nD Cert.SdhIdeal.τ).loc Cert.SdhIdeal.main_arg3) = m ((c.tc : Thread Cert.SdhIdeal.nD Cert.SdhIdeal.τ).loc Cert.SdhIdeal.main_arg3)
          ∧ r.2.mem ((c.tc : Thread Cert.SdhIdeal.nD Cert.SdhIdeal.τ).loc Cert.SdhIdeal.main_arg4) = m ((c.tc : Thread Cert.SdhIdeal.nD Cert.SdhIdeal.τ).loc Cert.SdhIdeal.main_arg4))
      ∧ θ_run (Cert.SdhRefIdeal.defs (F := Ideal)) (onTc (τ := Cert.SdhRefIdeal.τ) (Cert.SdhRefIdeal.main (F := Ideal))) ⟨m', fun _ => 0, g'⟩ (fun r => ∀ c : Dev Cert.SdhRefIdeal.nD,
          r.2.mem ((c.tc : Thread Cert.SdhRefIdeal.nD Cert.SdhRefIdeal.τ).loc Cert.SdhRefIdeal.main_v37) = v0 c
          ∧ r.2.mem ((c.tc : Thread Cert.SdhRefIdeal.nD Cert.SdhRefIdeal.τ).loc Cert.SdhRefIdeal.main_v20) = v1 c
          ∧ r.2.mem ((c.tc : Thread Cert.SdhRefIdeal.nD Cert.SdhRefIdeal.τ).loc Cert.SdhRefIdeal.main_arg0) = m' ((c.tc : Thread Cert.SdhRefIdeal.nD Cert.SdhRefIdeal.τ).loc Cert.SdhRefIdeal.main_arg0)
          ∧ r.2.mem ((c.tc : Thread Cert.SdhRefIdeal.nD Cert.SdhRefIdeal.τ).loc Cert.SdhRefIdeal.main_arg1) = m' ((c.tc : Thread Cert.SdhRefIdeal.nD Cert.SdhRefIdeal.τ).loc Cert.SdhRefIdeal.main_arg1)
          ∧ r.2.mem ((c.tc : Thread Cert.SdhRefIdeal.nD Cert.SdhRefIdeal.τ).loc Cert.SdhRefIdeal.main_arg2) = m' ((c.tc : Thread Cert.SdhRefIdeal.nD Cert.SdhRefIdeal.τ).loc Cert.SdhRefIdeal.main_arg2)
          ∧ r.2.mem ((c.tc : Thread Cert.SdhRefIdeal.nD Cert.SdhRefIdeal.τ).loc Cert.SdhRefIdeal.main_arg3) = m' ((c.tc : Thread Cert.SdhRefIdeal.nD Cert.SdhRefIdeal.τ).loc Cert.SdhRefIdeal.main_arg3)
          ∧ r.2.mem ((c.tc : Thread Cert.SdhRefIdeal.nD Cert.SdhRefIdeal.τ).loc Cert.SdhRefIdeal.main_arg4) = m' ((c.tc : Thread Cert.SdhRefIdeal.nD Cert.SdhRefIdeal.τ).loc Cert.SdhRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v21) = v0 c
          ∧ r.2.mem ((c.tc : Thread Cert.PleRefIdeal.nD Cert.PleRefIdeal.τ).loc Cert.PleRefIdeal.main_v22) = v1 c
          ∧ r.2.mem ((c.tc : Thread Cert.PleRefIdeal.nD Cert.PleRefIdeal.τ).loc Cert.PleRefIdeal.main_v23) = v2 c
          ∧ r.2.mem ((c.tc : Thread Cert.PleRefIdeal.nD Cert.PleRefIdeal.τ).loc Cert.PleRefIdeal.main_v24) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Pgt_PgtIdeal : Prop :=
  True

def algebraic_PgtIdeal_PgtRefIdeal [hPgtIdeal : Cert.PgtIdeal.Facts] [hPgtRefIdeal : Cert.PgtRefIdeal.Facts] : Prop :=
  ∀ (m : (ℓ : Loc Cert.PgtIdeal.nD Cert.PgtIdeal.τ Cert.PgtIdeal.sig) → Buf (Elt Ideal) ℓ) (g : Dev Cert.PgtIdeal.nD → PrngReg)
    (m' : (ℓ : Loc Cert.PgtRefIdeal.nD Cert.PgtRefIdeal.τ Cert.PgtRefIdeal.sig) → Buf (Elt Ideal) ℓ) (g' : Dev Cert.PgtRefIdeal.nD → PrngReg), Pre_PgtIdeal m →
    (∀ c : Dev Cert.PgtIdeal.nD,
      m' ((c.tc : Thread Cert.PgtRefIdeal.nD Cert.PgtRefIdeal.τ).loc Cert.PgtRefIdeal.main_arg0) = m ((c.tc : Thread Cert.PgtIdeal.nD Cert.PgtIdeal.τ).loc Cert.PgtIdeal.main_arg0)
      ∧ m' ((c.tc : Thread Cert.PgtRefIdeal.nD Cert.PgtRefIdeal.τ).loc Cert.PgtRefIdeal.main_arg1) = m ((c.tc : Thread Cert.PgtIdeal.nD Cert.PgtIdeal.τ).loc Cert.PgtIdeal.main_arg1)
      ∧ m' ((c.tc : Thread Cert.PgtRefIdeal.nD Cert.PgtRefIdeal.τ).loc Cert.PgtRefIdeal.main_arg2) = m ((c.tc : Thread Cert.PgtIdeal.nD Cert.PgtIdeal.τ).loc Cert.PgtIdeal.main_arg2)) →
    ∃ (v0 : (c : Dev Cert.PgtIdeal.nD) → Buf (Elt Ideal) ((c.tc : Thread Cert.PgtIdeal.nD Cert.PgtIdeal.τ).loc Cert.PgtIdeal.main_v7_0)) (v1 : (c : Dev Cert.PgtIdeal.nD) → Buf (Elt Ideal) ((c.tc : Thread Cert.PgtIdeal.nD Cert.PgtIdeal.τ).loc Cert.PgtIdeal.main_v7_1)),
      θ_run (Cert.PgtIdeal.defs (F := Ideal)) (onTc (τ := Cert.PgtIdeal.τ) (Cert.PgtIdeal.main (F := Ideal))) ⟨m, fun _ => 0, g⟩ (fun r => ∀ c : Dev Cert.PgtIdeal.nD,
          r.2.mem ((c.tc : Thread Cert.PgtIdeal.nD Cert.PgtIdeal.τ).loc Cert.PgtIdeal.main_v7_0) = v0 c
          ∧ r.2.mem ((c.tc : Thread Cert.PgtIdeal.nD Cert.PgtIdeal.τ).loc Cert.PgtIdeal.main_v7_1) = v1 c
          ∧ r.2.mem ((c.tc : Thread Cert.PgtIdeal.nD Cert.PgtIdeal.τ).loc Cert.PgtIdeal.main_arg0) = m ((c.tc : Thread Cert.PgtIdeal.nD Cert.PgtIdeal.τ).loc Cert.PgtIdeal.main_arg0)
          ∧ r.2.mem ((c.tc : Thread Cert.PgtIdeal.nD Cert.PgtIdeal.τ).loc Cert.PgtIdeal.main_arg1) = m ((c.tc : Thread Cert.PgtIdeal.nD Cert.PgtIdeal.τ).loc Cert.PgtIdeal.main_arg1)
          ∧ r.2.mem ((c.tc : Thread Cert.PgtIdeal.nD Cert.PgtIdeal.τ).loc Cert.PgtIdeal.main_arg2) = m ((c.tc : Thread Cert.PgtIdeal.nD Cert.PgtIdeal.τ).loc Cert.PgtIdeal.main_arg2))
      ∧ θ_run (Cert.PgtRefIdeal.defs (F := Ideal)) (onTc (τ := Cert.PgtRefIdeal.τ) (Cert.PgtRefIdeal.main (F := Ideal))) ⟨m', fun _ => 0, g'⟩ (fun r => ∀ c : Dev Cert.PgtRefIdeal.nD,
          r.2.mem ((c.tc : Thread Cert.PgtRefIdeal.nD Cert.PgtRefIdeal.τ).loc Cert.PgtRefIdeal.main_v14) = v0 c
          ∧ r.2.mem ((c.tc : Thread Cert.PgtRefIdeal.nD Cert.PgtRefIdeal.τ).loc Cert.PgtRefIdeal.main_v15) = v1 c
          ∧ r.2.mem ((c.tc : Thread Cert.PgtRefIdeal.nD Cert.PgtRefIdeal.τ).loc Cert.PgtRefIdeal.main_arg0) = m' ((c.tc : Thread Cert.PgtRefIdeal.nD Cert.PgtRefIdeal.τ).loc Cert.PgtRefIdeal.main_arg0)
          ∧ r.2.mem ((c.tc : Thread Cert.PgtRefIdeal.nD Cert.PgtRefIdeal.τ).loc Cert.PgtRefIdeal.main_arg1) = m' ((c.tc : Thread Cert.PgtRefIdeal.nD Cert.PgtRefIdeal.τ).loc Cert.PgtRefIdeal.main_arg1)
          ∧ r.2.mem ((c.tc : Thread Cert.PgtRefIdeal.nD Cert.PgtRefIdeal.τ).loc Cert.PgtRefIdeal.main_arg2) = m' ((c.tc : Thread Cert.PgtRefIdeal.nD Cert.PgtRefIdeal.τ).loc Cert.PgtRefIdeal.main_arg2))

def preserves_Att_AttIdeal : Prop :=
  IdealRules.named_const.Statement Cert.AttIdeal.κ "log_zero" .f32 0xC2D00000#32 ⊥

def algebraic_AttIdeal_AttRefIdeal_pre_attention_finite [hAttIdeal : Cert.AttIdeal.Facts] [hAttRefIdeal : Cert.AttRefIdeal.Facts] [hPre_attention_finite : Cert.Pre_attention_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_attention_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v5)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v5) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v27) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v12) = v0 c
          ∧ r.2.mem ((c.tc : Thread Cert.QkvRefIdeal.nD Cert.QkvRefIdeal.τ).loc Cert.QkvRefIdeal.main_v13) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Pgr_PgrIdeal : Prop :=
  True

def algebraic_PgrIdeal_PgrRefIdeal [hPgrIdeal : Cert.PgrIdeal.Facts] [hPgrRefIdeal : Cert.PgrRefIdeal.Facts] : Prop :=
  ∀ (m : (ℓ : Loc Cert.PgrIdeal.nD Cert.PgrIdeal.τ Cert.PgrIdeal.sig) → Buf (Elt Ideal) ℓ) (g : Dev Cert.PgrIdeal.nD → PrngReg)
    (m' : (ℓ : Loc Cert.PgrRefIdeal.nD Cert.PgrRefIdeal.τ Cert.PgrRefIdeal.sig) → Buf (Elt Ideal) ℓ) (g' : Dev Cert.PgrRefIdeal.nD → PrngReg), Pre_PgrIdeal m →
    (∀ c : Dev Cert.PgrIdeal.nD,
      m' ((c.tc : Thread Cert.PgrRefIdeal.nD Cert.PgrRefIdeal.τ).loc Cert.PgrRefIdeal.main_arg0) = m ((c.tc : Thread Cert.PgrIdeal.nD Cert.PgrIdeal.τ).loc Cert.PgrIdeal.main_arg0)
      ∧ m' ((c.tc : Thread Cert.PgrRefIdeal.nD Cert.PgrRefIdeal.τ).loc Cert.PgrRefIdeal.main_arg1) = m ((c.tc : Thread Cert.PgrIdeal.nD Cert.PgrIdeal.τ).loc Cert.PgrIdeal.main_arg1)
      ∧ m' ((c.tc : Thread Cert.PgrRefIdeal.nD Cert.PgrRefIdeal.τ).loc Cert.PgrRefIdeal.main_arg2) = m ((c.tc : Thread Cert.PgrIdeal.nD Cert.PgrIdeal.τ).loc Cert.PgrIdeal.main_arg2)
      ∧ m' ((c.tc : Thread Cert.PgrRefIdeal.nD Cert.PgrRefIdeal.τ).loc Cert.PgrRefIdeal.main_arg3) = m ((c.tc : Thread Cert.PgrIdeal.nD Cert.PgrIdeal.τ).loc Cert.PgrIdeal.main_arg3)) →
    ∃ (v0 : (c : Dev Cert.PgrIdeal.nD) → Buf (Elt Ideal) ((c.tc : Thread Cert.PgrIdeal.nD Cert.PgrIdeal.τ).loc Cert.PgrIdeal.main_v1_0)) (v1 : (c : Dev Cert.PgrIdeal.nD) → Buf (Elt Ideal) ((c.tc : Thread Cert.PgrIdeal.nD Cert.PgrIdeal.τ).loc Cert.PgrIdeal.main_v1_1)) (v2 : (c : Dev Cert.PgrIdeal.nD) → Buf (Elt Ideal) ((c.tc : Thread Cert.PgrIdeal.nD Cert.PgrIdeal.τ).loc Cert.PgrIdeal.main_v1_2)),
      θ_run (Cert.PgrIdeal.defs (F := Ideal)) (onTc (τ := Cert.PgrIdeal.τ) (Cert.PgrIdeal.main (F := Ideal))) ⟨m, fun _ => 0, g⟩ (fun r => ∀ c : Dev Cert.PgrIdeal.nD,
          r.2.mem ((c.tc : Thread Cert.PgrIdeal.nD Cert.PgrIdeal.τ).loc Cert.PgrIdeal.main_v1_0) = v0 c
          ∧ r.2.mem ((c.tc : Thread Cert.PgrIdeal.nD Cert.PgrIdeal.τ).loc Cert.PgrIdeal.main_v1_1) = v1 c
          ∧ r.2.mem ((c.tc : Thread Cert.PgrIdeal.nD Cert.PgrIdeal.τ).loc Cert.PgrIdeal.main_v1_2) = v2 c
          ∧ r.2.mem ((c.tc : Thread Cert.PgrIdeal.nD Cert.PgrIdeal.τ).loc Cert.PgrIdeal.main_arg0) = m ((c.tc : Thread Cert.PgrIdeal.nD Cert.PgrIdeal.τ).loc Cert.PgrIdeal.main_arg0)
          ∧ r.2.mem ((c.tc : Thread Cert.PgrIdeal.nD Cert.PgrIdeal.τ).loc Cert.PgrIdeal.main_arg1) = m ((c.tc : Thread Cert.PgrIdeal.nD Cert.PgrIdeal.τ).loc Cert.PgrIdeal.main_arg1)
          ∧ r.2.mem ((c.tc : Thread Cert.PgrIdeal.nD Cert.PgrIdeal.τ).loc Cert.PgrIdeal.main_arg2) = m ((c.tc : Thread Cert.PgrIdeal.nD Cert.PgrIdeal.τ).loc Cert.PgrIdeal.main_arg2)
          ∧ r.2.mem ((c.tc : Thread Cert.PgrIdeal.nD Cert.PgrIdeal.τ).loc Cert.PgrIdeal.main_arg3) = m ((c.tc : Thread Cert.PgrIdeal.nD Cert.PgrIdeal.τ).loc Cert.PgrIdeal.main_arg3))
      ∧ θ_run (Cert.PgrRefIdeal.defs (F := Ideal)) (onTc (τ := Cert.PgrRefIdeal.τ) (Cert.PgrRefIdeal.main (F := Ideal))) ⟨m', fun _ => 0, g'⟩ (fun r => ∀ c : Dev Cert.PgrRefIdeal.nD,
          r.2.mem ((c.tc : Thread Cert.PgrRefIdeal.nD Cert.PgrRefIdeal.τ).loc Cert.PgrRefIdeal.main_v18) = v0 c
          ∧ r.2.mem ((c.tc : Thread Cert.PgrRefIdeal.nD Cert.PgrRefIdeal.τ).loc Cert.PgrRefIdeal.main_v19) = v1 c
          ∧ r.2.mem ((c.tc : Thread Cert.PgrRefIdeal.nD Cert.PgrRefIdeal.τ).loc Cert.PgrRefIdeal.main_v9) = v2 c
          ∧ r.2.mem ((c.tc : Thread Cert.PgrRefIdeal.nD Cert.PgrRefIdeal.τ).loc Cert.PgrRefIdeal.main_arg0) = m' ((c.tc : Thread Cert.PgrRefIdeal.nD Cert.PgrRefIdeal.τ).loc Cert.PgrRefIdeal.main_arg0)
          ∧ r.2.mem ((c.tc : Thread Cert.PgrRefIdeal.nD Cert.PgrRefIdeal.τ).loc Cert.PgrRefIdeal.main_arg1) = m' ((c.tc : Thread Cert.PgrRefIdeal.nD Cert.PgrRefIdeal.τ).loc Cert.PgrRefIdeal.main_arg1)
          ∧ r.2.mem ((c.tc : Thread Cert.PgrRefIdeal.nD Cert.PgrRefIdeal.τ).loc Cert.PgrRefIdeal.main_arg2) = m' ((c.tc : Thread Cert.PgrRefIdeal.nD Cert.PgrRefIdeal.τ).loc Cert.PgrRefIdeal.main_arg2)
          ∧ r.2.mem ((c.tc : Thread Cert.PgrRefIdeal.nD Cert.PgrRefIdeal.τ).loc Cert.PgrRefIdeal.main_arg3) = m' ((c.tc : Thread Cert.PgrRefIdeal.nD Cert.PgrRefIdeal.τ).loc Cert.PgrRefIdeal.main_arg3))

def preserves_Los_LosIdeal : Prop :=
  True

def algebraic_LosIdeal_LosRefIdeal [hLosIdeal : Cert.LosIdeal.Facts] [hLosRefIdeal : Cert.LosRefIdeal.Facts] : Prop :=
  ∀ (m : (ℓ : Loc Cert.LosIdeal.nD Cert.LosIdeal.τ Cert.LosIdeal.sig) → Buf (Elt Ideal) ℓ) (g : Dev Cert.LosIdeal.nD → PrngReg)
    (m' : (ℓ : Loc Cert.LosRefIdeal.nD Cert.LosRefIdeal.τ Cert.LosRefIdeal.sig) → Buf (Elt Ideal) ℓ) (g' : Dev Cert.LosRefIdeal.nD → PrngReg), Pre_LosIdeal m →
    (∀ c : Dev Cert.LosIdeal.nD,
      m' ((c.tc : Thread Cert.LosRefIdeal.nD Cert.LosRefIdeal.τ).loc Cert.LosRefIdeal.main_arg0) = m ((c.tc : Thread Cert.LosIdeal.nD Cert.LosIdeal.τ).loc Cert.LosIdeal.main_arg0)
      ∧ m' ((c.tc : Thread Cert.LosRefIdeal.nD Cert.LosRefIdeal.τ).loc Cert.LosRefIdeal.main_arg1) = m ((c.tc : Thread Cert.LosIdeal.nD Cert.LosIdeal.τ).loc Cert.LosIdeal.main_arg1)) →
    ∃ (v0 : (c : Dev Cert.LosIdeal.nD) → Buf (Elt Ideal) ((c.tc : Thread Cert.LosIdeal.nD Cert.LosIdeal.τ).loc Cert.LosIdeal.main_v0_0)) (v1 : (c : Dev Cert.LosIdeal.nD) → Buf (Elt Ideal) ((c.tc : Thread Cert.LosIdeal.nD Cert.LosIdeal.τ).loc Cert.LosIdeal.main_v0_1)),
      θ_run (Cert.LosIdeal.defs (F := Ideal)) (onTc (τ := Cert.LosIdeal.τ) (Cert.LosIdeal.main (F := Ideal))) ⟨m, fun _ => 0, g⟩ (fun r => ∀ c : Dev Cert.LosIdeal.nD,
          r.2.mem ((c.tc : Thread Cert.LosIdeal.nD Cert.LosIdeal.τ).loc Cert.LosIdeal.main_v0_0) = v0 c
          ∧ r.2.mem ((c.tc : Thread Cert.LosIdeal.nD Cert.LosIdeal.τ).loc Cert.LosIdeal.main_v0_1) = v1 c
          ∧ r.2.mem ((c.tc : Thread Cert.LosIdeal.nD Cert.LosIdeal.τ).loc Cert.LosIdeal.main_arg0) = m ((c.tc : Thread Cert.LosIdeal.nD Cert.LosIdeal.τ).loc Cert.LosIdeal.main_arg0)
          ∧ r.2.mem ((c.tc : Thread Cert.LosIdeal.nD Cert.LosIdeal.τ).loc Cert.LosIdeal.main_arg1) = m ((c.tc : Thread Cert.LosIdeal.nD Cert.LosIdeal.τ).loc Cert.LosIdeal.main_arg1))
      ∧ θ_run (Cert.LosRefIdeal.defs (F := Ideal)) (onTc (τ := Cert.LosRefIdeal.τ) (Cert.LosRefIdeal.main (F := Ideal))) ⟨m', fun _ => 0, g'⟩ (fun r => ∀ c : Dev Cert.LosRefIdeal.nD,
          r.2.mem ((c.tc : Thread Cert.LosRefIdeal.nD Cert.LosRefIdeal.τ).loc Cert.LosRefIdeal.main_v14) = v0 c
          ∧ r.2.mem ((c.tc : Thread Cert.LosRefIdeal.nD Cert.LosRefIdeal.τ).loc Cert.LosRefIdeal.main_v15) = v1 c
          ∧ r.2.mem ((c.tc : Thread Cert.LosRefIdeal.nD Cert.LosRefIdeal.τ).loc Cert.LosRefIdeal.main_arg0) = m' ((c.tc : Thread Cert.LosRefIdeal.nD Cert.LosRefIdeal.τ).loc Cert.LosRefIdeal.main_arg0)
          ∧ r.2.mem ((c.tc : Thread Cert.LosRefIdeal.nD Cert.LosRefIdeal.τ).loc Cert.LosRefIdeal.main_arg1) = m' ((c.tc : Thread Cert.LosRefIdeal.nD Cert.LosRefIdeal.τ).loc Cert.LosRefIdeal.main_arg1))

def preserves_Ads_AdsIdeal : Prop :=
  True

def algebraic_AdsIdeal_AdsRefIdeal [hAdsIdeal : Cert.AdsIdeal.Facts] [hAdsRefIdeal : Cert.AdsRefIdeal.Facts] : Prop :=
  ∀ (m : (ℓ : Loc Cert.AdsIdeal.nD Cert.AdsIdeal.τ Cert.AdsIdeal.sig) → Buf (Elt Ideal) ℓ) (g : Dev Cert.AdsIdeal.nD → PrngReg)
    (m' : (ℓ : Loc Cert.AdsRefIdeal.nD Cert.AdsRefIdeal.τ Cert.AdsRefIdeal.sig) → Buf (Elt Ideal) ℓ) (g' : Dev Cert.AdsRefIdeal.nD → PrngReg), Pre_AdsIdeal m →
    (∀ c : Dev Cert.AdsIdeal.nD,
      m' ((c.tc : Thread Cert.AdsRefIdeal.nD Cert.AdsRefIdeal.τ).loc Cert.AdsRefIdeal.main_arg0) = m ((c.tc : Thread Cert.AdsIdeal.nD Cert.AdsIdeal.τ).loc Cert.AdsIdeal.main_arg0)
      ∧ m' ((c.tc : Thread Cert.AdsRefIdeal.nD Cert.AdsRefIdeal.τ).loc Cert.AdsRefIdeal.main_arg1) = m ((c.tc : Thread Cert.AdsIdeal.nD Cert.AdsIdeal.τ).loc Cert.AdsIdeal.main_arg1)
      ∧ m' ((c.tc : Thread Cert.AdsRefIdeal.nD Cert.AdsRefIdeal.τ).loc Cert.AdsRefIdeal.main_arg2) = m ((c.tc : Thread Cert.AdsIdeal.nD Cert.AdsIdeal.τ).loc Cert.AdsIdeal.main_arg2)
      ∧ m' ((c.tc : Thread Cert.AdsRefIdeal.nD Cert.AdsRefIdeal.τ).loc Cert.AdsRefIdeal.main_arg3) = m ((c.tc : Thread Cert.AdsIdeal.nD Cert.AdsIdeal.τ).loc Cert.AdsIdeal.main_arg3)) →
    ∃ (v0 : (c : Dev Cert.AdsIdeal.nD) → Buf (Elt Ideal) ((c.tc : Thread Cert.AdsIdeal.nD Cert.AdsIdeal.τ).loc Cert.AdsIdeal.main_v0_0)) (v1 : (c : Dev Cert.AdsIdeal.nD) → Buf (Elt Ideal) ((c.tc : Thread Cert.AdsIdeal.nD Cert.AdsIdeal.τ).loc Cert.AdsIdeal.main_v0_1)) (v2 : (c : Dev Cert.AdsIdeal.nD) → Buf (Elt Ideal) ((c.tc : Thread Cert.AdsIdeal.nD Cert.AdsIdeal.τ).loc Cert.AdsIdeal.main_v0_2)) (v3 : (c : Dev Cert.AdsIdeal.nD) → Buf (Elt Ideal) ((c.tc : Thread Cert.AdsIdeal.nD Cert.AdsIdeal.τ).loc Cert.AdsIdeal.main_v0_3)),
      θ_run (Cert.AdsIdeal.defs (F := Ideal)) (onTc (τ := Cert.AdsIdeal.τ) (Cert.AdsIdeal.main (F := Ideal))) ⟨m, fun _ => 0, g⟩ (fun r => ∀ c : Dev Cert.AdsIdeal.nD,
          r.2.mem ((c.tc : Thread Cert.AdsIdeal.nD Cert.AdsIdeal.τ).loc Cert.AdsIdeal.main_v0_0) = v0 c
          ∧ r.2.mem ((c.tc : Thread Cert.AdsIdeal.nD Cert.AdsIdeal.τ).loc Cert.AdsIdeal.main_v0_1) = v1 c
          ∧ r.2.mem ((c.tc : Thread Cert.AdsIdeal.nD Cert.AdsIdeal.τ).loc Cert.AdsIdeal.main_v0_2) = v2 c
          ∧ r.2.mem ((c.tc : Thread Cert.AdsIdeal.nD Cert.AdsIdeal.τ).loc Cert.AdsIdeal.main_v0_3) = v3 c
          ∧ r.2.mem ((c.tc : Thread Cert.AdsIdeal.nD Cert.AdsIdeal.τ).loc Cert.AdsIdeal.main_arg0) = m ((c.tc : Thread Cert.AdsIdeal.nD Cert.AdsIdeal.τ).loc Cert.AdsIdeal.main_arg0)
          ∧ r.2.mem ((c.tc : Thread Cert.AdsIdeal.nD Cert.AdsIdeal.τ).loc Cert.AdsIdeal.main_arg1) = m ((c.tc : Thread Cert.AdsIdeal.nD Cert.AdsIdeal.τ).loc Cert.AdsIdeal.main_arg1)
          ∧ r.2.mem ((c.tc : Thread Cert.AdsIdeal.nD Cert.AdsIdeal.τ).loc Cert.AdsIdeal.main_arg2) = m ((c.tc : Thread Cert.AdsIdeal.nD Cert.AdsIdeal.τ).loc Cert.AdsIdeal.main_arg2)
          ∧ r.2.mem ((c.tc : Thread Cert.AdsIdeal.nD Cert.AdsIdeal.τ).loc Cert.AdsIdeal.main_arg3) = m ((c.tc : Thread Cert.AdsIdeal.nD Cert.AdsIdeal.τ).loc Cert.AdsIdeal.main_arg3))
      ∧ θ_run (Cert.AdsRefIdeal.defs (F := Ideal)) (onTc (τ := Cert.AdsRefIdeal.τ) (Cert.AdsRefIdeal.main (F := Ideal))) ⟨m', fun _ => 0, g'⟩ (fun r => ∀ c : Dev Cert.AdsRefIdeal.nD,
          r.2.mem ((c.tc : Thread Cert.AdsRefIdeal.nD Cert.AdsRefIdeal.τ).loc Cert.AdsRefIdeal.main_v1) = v0 c
          ∧ r.2.mem ((c.tc : Thread Cert.AdsRefIdeal.nD Cert.AdsRefIdeal.τ).loc Cert.AdsRefIdeal.main_v25) = v1 c
          ∧ r.2.mem ((c.tc : Thread Cert.AdsRefIdeal.nD Cert.AdsRefIdeal.τ).loc Cert.AdsRefIdeal.main_v6) = v2 c
          ∧ r.2.mem ((c.tc : Thread Cert.AdsRefIdeal.nD Cert.AdsRefIdeal.τ).loc Cert.AdsRefIdeal.main_v12) = v3 c
          ∧ r.2.mem ((c.tc : Thread Cert.AdsRefIdeal.nD Cert.AdsRefIdeal.τ).loc Cert.AdsRefIdeal.main_arg0) = m' ((c.tc : Thread Cert.AdsRefIdeal.nD Cert.AdsRefIdeal.τ).loc Cert.AdsRefIdeal.main_arg0)
          ∧ r.2.mem ((c.tc : Thread Cert.AdsRefIdeal.nD Cert.AdsRefIdeal.τ).loc Cert.AdsRefIdeal.main_arg1) = m' ((c.tc : Thread Cert.AdsRefIdeal.nD Cert.AdsRefIdeal.τ).loc Cert.AdsRefIdeal.main_arg1)
          ∧ r.2.mem ((c.tc : Thread Cert.AdsRefIdeal.nD Cert.AdsRefIdeal.τ).loc Cert.AdsRefIdeal.main_arg2) = m' ((c.tc : Thread Cert.AdsRefIdeal.nD Cert.AdsRefIdeal.τ).loc Cert.AdsRefIdeal.main_arg2)
          ∧ r.2.mem ((c.tc : Thread Cert.AdsRefIdeal.nD Cert.AdsRefIdeal.τ).loc Cert.AdsRefIdeal.main_arg3) = m' ((c.tc : Thread Cert.AdsRefIdeal.nD Cert.AdsRefIdeal.τ).loc Cert.AdsRefIdeal.main_arg3))

def preserves_Hnm_HnmIdeal : Prop :=
  True

def algebraic_HnmIdeal_HnmRefIdeal [hHnmIdeal : Cert.HnmIdeal.Facts] [hHnmRefIdeal : Cert.HnmRefIdeal.Facts] : Prop :=
  ∀ (m : (ℓ : Loc Cert.HnmIdeal.nD Cert.HnmIdeal.τ Cert.HnmIdeal.sig) → Buf (Elt Ideal) ℓ) (g : Dev Cert.HnmIdeal.nD → PrngReg)
    (m' : (ℓ : Loc Cert.HnmRefIdeal.nD Cert.HnmRefIdeal.τ Cert.HnmRefIdeal.sig) → Buf (Elt Ideal) ℓ) (g' : Dev Cert.HnmRefIdeal.nD → PrngReg), Pre_HnmIdeal m →
    (∀ c : Dev Cert.HnmIdeal.nD,
      m' ((c.tc : Thread Cert.HnmRefIdeal.nD Cert.HnmRefIdeal.τ).loc Cert.HnmRefIdeal.main_arg0) = m ((c.tc : Thread Cert.HnmIdeal.nD Cert.HnmIdeal.τ).loc Cert.HnmIdeal.main_arg0)
      ∧ m' ((c.tc : Thread Cert.HnmRefIdeal.nD Cert.HnmRefIdeal.τ).loc Cert.HnmRefIdeal.main_arg1) = m ((c.tc : Thread Cert.HnmIdeal.nD Cert.HnmIdeal.τ).loc Cert.HnmIdeal.main_arg1)
      ∧ m' ((c.tc : Thread Cert.HnmRefIdeal.nD Cert.HnmRefIdeal.τ).loc Cert.HnmRefIdeal.main_arg2) = m ((c.tc : Thread Cert.HnmIdeal.nD Cert.HnmIdeal.τ).loc Cert.HnmIdeal.main_arg2)) →
    ∃ (v0 : (c : Dev Cert.HnmIdeal.nD) → Buf (Elt Ideal) ((c.tc : Thread Cert.HnmIdeal.nD Cert.HnmIdeal.τ).loc Cert.HnmIdeal.main_v8_0)) (v1 : (c : Dev Cert.HnmIdeal.nD) → Buf (Elt Ideal) ((c.tc : Thread Cert.HnmIdeal.nD Cert.HnmIdeal.τ).loc Cert.HnmIdeal.main_v8_1)) (v2 : (c : Dev Cert.HnmIdeal.nD) → Buf (Elt Ideal) ((c.tc : Thread Cert.HnmIdeal.nD Cert.HnmIdeal.τ).loc Cert.HnmIdeal.main_v8_2)),
      θ_run (Cert.HnmIdeal.defs (F := Ideal)) (onTc (τ := Cert.HnmIdeal.τ) (Cert.HnmIdeal.main (F := Ideal))) ⟨m, fun _ => 0, g⟩ (fun r => ∀ c : Dev Cert.HnmIdeal.nD,
          r.2.mem ((c.tc : Thread Cert.HnmIdeal.nD Cert.HnmIdeal.τ).loc Cert.HnmIdeal.main_v8_0) = v0 c
          ∧ r.2.mem ((c.tc : Thread Cert.HnmIdeal.nD Cert.HnmIdeal.τ).loc Cert.HnmIdeal.main_v8_1) = v1 c
          ∧ r.2.mem ((c.tc : Thread Cert.HnmIdeal.nD Cert.HnmIdeal.τ).loc Cert.HnmIdeal.main_v8_2) = v2 c
          ∧ r.2.mem ((c.tc : Thread Cert.HnmIdeal.nD Cert.HnmIdeal.τ).loc Cert.HnmIdeal.main_arg0) = m ((c.tc : Thread Cert.HnmIdeal.nD Cert.HnmIdeal.τ).loc Cert.HnmIdeal.main_arg0)
          ∧ r.2.mem ((c.tc : Thread Cert.HnmIdeal.nD Cert.HnmIdeal.τ).loc Cert.HnmIdeal.main_arg1) = m ((c.tc : Thread Cert.HnmIdeal.nD Cert.HnmIdeal.τ).loc Cert.HnmIdeal.main_arg1)
          ∧ r.2.mem ((c.tc : Thread Cert.HnmIdeal.nD Cert.HnmIdeal.τ).loc Cert.HnmIdeal.main_arg2) = m ((c.tc : Thread Cert.HnmIdeal.nD Cert.HnmIdeal.τ).loc Cert.HnmIdeal.main_arg2))
      ∧ θ_run (Cert.HnmRefIdeal.defs (F := Ideal)) (onTc (τ := Cert.HnmRefIdeal.τ) (Cert.HnmRefIdeal.main (F := Ideal))) ⟨m', fun _ => 0, g'⟩ (fun r => ∀ c : Dev Cert.HnmRefIdeal.nD,
          r.2.mem ((c.tc : Thread Cert.HnmRefIdeal.nD Cert.HnmRefIdeal.τ).loc Cert.HnmRefIdeal.main_v35) = v0 c
          ∧ r.2.mem ((c.tc : Thread Cert.HnmRefIdeal.nD Cert.HnmRefIdeal.τ).loc Cert.HnmRefIdeal.main_v36) = v1 c
          ∧ r.2.mem ((c.tc : Thread Cert.HnmRefIdeal.nD Cert.HnmRefIdeal.τ).loc Cert.HnmRefIdeal.main_v37) = v2 c
          ∧ r.2.mem ((c.tc : Thread Cert.HnmRefIdeal.nD Cert.HnmRefIdeal.τ).loc Cert.HnmRefIdeal.main_arg0) = m' ((c.tc : Thread Cert.HnmRefIdeal.nD Cert.HnmRefIdeal.τ).loc Cert.HnmRefIdeal.main_arg0)
          ∧ r.2.mem ((c.tc : Thread Cert.HnmRefIdeal.nD Cert.HnmRefIdeal.τ).loc Cert.HnmRefIdeal.main_arg1) = m' ((c.tc : Thread Cert.HnmRefIdeal.nD Cert.HnmRefIdeal.τ).loc Cert.HnmRefIdeal.main_arg1)
          ∧ r.2.mem ((c.tc : Thread Cert.HnmRefIdeal.nD Cert.HnmRefIdeal.τ).loc Cert.HnmRefIdeal.main_arg2) = m' ((c.tc : Thread Cert.HnmRefIdeal.nD Cert.HnmRefIdeal.τ).loc Cert.HnmRefIdeal.main_arg2))

def preserves_Hnb_HnbIdeal : Prop :=
  True

def algebraic_HnbIdeal_HnbRefIdeal_pre_qk_norm_finite [hHnbIdeal : Cert.HnbIdeal.Facts] [hHnbRefIdeal : Cert.HnbRefIdeal.Facts] [hPre_qk_norm_finite : Cert.Pre_qk_norm_finite.Facts] : Prop :=
  ∀ (m : (ℓ : Loc Cert.HnbIdeal.nD Cert.HnbIdeal.τ Cert.HnbIdeal.sig) → Buf (Elt Ideal) ℓ) (g : Dev Cert.HnbIdeal.nD → PrngReg)
    (m' : (ℓ : Loc Cert.HnbRefIdeal.nD Cert.HnbRefIdeal.τ Cert.HnbRefIdeal.sig) → Buf (Elt Ideal) ℓ) (g' : Dev Cert.HnbRefIdeal.nD → PrngReg), Pre_HnbIdeal_qk_norm_finite m →
    (∀ c : Dev Cert.HnbIdeal.nD,
      m' ((c.tc : Thread Cert.HnbRefIdeal.nD Cert.HnbRefIdeal.τ).loc Cert.HnbRefIdeal.main_arg0) = m ((c.tc : Thread Cert.HnbIdeal.nD Cert.HnbIdeal.τ).loc Cert.HnbIdeal.main_arg0)
      ∧ m' ((c.tc : Thread Cert.HnbRefIdeal.nD Cert.HnbRefIdeal.τ).loc Cert.HnbRefIdeal.main_arg1) = m ((c.tc : Thread Cert.HnbIdeal.nD Cert.HnbIdeal.τ).loc Cert.HnbIdeal.main_arg1)
      ∧ m' ((c.tc : Thread Cert.HnbRefIdeal.nD Cert.HnbRefIdeal.τ).loc Cert.HnbRefIdeal.main_arg2) = m ((c.tc : Thread Cert.HnbIdeal.nD Cert.HnbIdeal.τ).loc Cert.HnbIdeal.main_arg2)
      ∧ m' ((c.tc : Thread Cert.HnbRefIdeal.nD Cert.HnbRefIdeal.τ).loc Cert.HnbRefIdeal.main_arg3) = m ((c.tc : Thread Cert.HnbIdeal.nD Cert.HnbIdeal.τ).loc Cert.HnbIdeal.main_arg3)
      ∧ m' ((c.tc : Thread Cert.HnbRefIdeal.nD Cert.HnbRefIdeal.τ).loc Cert.HnbRefIdeal.main_arg4) = m ((c.tc : Thread Cert.HnbIdeal.nD Cert.HnbIdeal.τ).loc Cert.HnbIdeal.main_arg4)
      ∧ m' ((c.tc : Thread Cert.HnbRefIdeal.nD Cert.HnbRefIdeal.τ).loc Cert.HnbRefIdeal.main_arg5) = m ((c.tc : Thread Cert.HnbIdeal.nD Cert.HnbIdeal.τ).loc Cert.HnbIdeal.main_arg5)) →
    ∃ (v0 : (c : Dev Cert.HnbIdeal.nD) → Buf (Elt Ideal) ((c.tc : Thread Cert.HnbIdeal.nD Cert.HnbIdeal.τ).loc Cert.HnbIdeal.main_v8_0)) (v1 : (c : Dev Cert.HnbIdeal.nD) → Buf (Elt Ideal) ((c.tc : Thread Cert.HnbIdeal.nD Cert.HnbIdeal.τ).loc Cert.HnbIdeal.main_v8_1)) (v2 : (c : Dev Cert.HnbIdeal.nD) → Buf (Elt Ideal) ((c.tc : Thread Cert.HnbIdeal.nD Cert.HnbIdeal.τ).loc Cert.HnbIdeal.main_v8_2)),
      θ_run (Cert.HnbIdeal.defs (F := Ideal)) (onTc (τ := Cert.HnbIdeal.τ) (Cert.HnbIdeal.main (F := Ideal))) ⟨m, fun _ => 0, g⟩ (fun r => ∀ c : Dev Cert.HnbIdeal.nD,
          r.2.mem ((c.tc : Thread Cert.HnbIdeal.nD Cert.HnbIdeal.τ).loc Cert.HnbIdeal.main_v8_0) = v0 c
          ∧ r.2.mem ((c.tc : Thread Cert.HnbIdeal.nD Cert.HnbIdeal.τ).loc Cert.HnbIdeal.main_v8_1) = v1 c
          ∧ r.2.mem ((c.tc : Thread Cert.HnbIdeal.nD Cert.HnbIdeal.τ).loc Cert.HnbIdeal.main_v8_2) = v2 c
          ∧ r.2.mem ((c.tc : Thread Cert.HnbIdeal.nD Cert.HnbIdeal.τ).loc Cert.HnbIdeal.main_arg0) = m ((c.tc : Thread Cert.HnbIdeal.nD Cert.HnbIdeal.τ).loc Cert.HnbIdeal.main_arg0)
          ∧ r.2.mem ((c.tc : Thread Cert.HnbIdeal.nD Cert.HnbIdeal.τ).loc Cert.HnbIdeal.main_arg1) = m ((c.tc : Thread Cert.HnbIdeal.nD Cert.HnbIdeal.τ).loc Cert.HnbIdeal.main_arg1)
          ∧ r.2.mem ((c.tc : Thread Cert.HnbIdeal.nD Cert.HnbIdeal.τ).loc Cert.HnbIdeal.main_arg2) = m ((c.tc : Thread Cert.HnbIdeal.nD Cert.HnbIdeal.τ).loc Cert.HnbIdeal.main_arg2)
          ∧ r.2.mem ((c.tc : Thread Cert.HnbIdeal.nD Cert.HnbIdeal.τ).loc Cert.HnbIdeal.main_arg3) = m ((c.tc : Thread Cert.HnbIdeal.nD Cert.HnbIdeal.τ).loc Cert.HnbIdeal.main_arg3)
          ∧ r.2.mem ((c.tc : Thread Cert.HnbIdeal.nD Cert.HnbIdeal.τ).loc Cert.HnbIdeal.main_arg4) = m ((c.tc : Thread Cert.HnbIdeal.nD Cert.HnbIdeal.τ).loc Cert.HnbIdeal.main_arg4)
          ∧ r.2.mem ((c.tc : Thread Cert.HnbIdeal.nD Cert.HnbIdeal.τ).loc Cert.HnbIdeal.main_arg5) = m ((c.tc : Thread Cert.HnbIdeal.nD Cert.HnbIdeal.τ).loc Cert.HnbIdeal.main_arg5))
      ∧ θ_run (Cert.HnbRefIdeal.defs (F := Ideal)) (onTc (τ := Cert.HnbRefIdeal.τ) (Cert.HnbRefIdeal.main (F := Ideal))) ⟨m', fun _ => 0, g'⟩ (fun r => ∀ c : Dev Cert.HnbRefIdeal.nD,
          r.2.mem ((c.tc : Thread Cert.HnbRefIdeal.nD Cert.HnbRefIdeal.τ).loc Cert.HnbRefIdeal.main_v84) = v0 c
          ∧ r.2.mem ((c.tc : Thread Cert.HnbRefIdeal.nD Cert.HnbRefIdeal.τ).loc Cert.HnbRefIdeal.main_v88) = v1 c
          ∧ r.2.mem ((c.tc : Thread Cert.HnbRefIdeal.nD Cert.HnbRefIdeal.τ).loc Cert.HnbRefIdeal.main_v92) = v2 c
          ∧ r.2.mem ((c.tc : Thread Cert.HnbRefIdeal.nD Cert.HnbRefIdeal.τ).loc Cert.HnbRefIdeal.main_arg0) = m' ((c.tc : Thread Cert.HnbRefIdeal.nD Cert.HnbRefIdeal.τ).loc Cert.HnbRefIdeal.main_arg0)
          ∧ r.2.mem ((c.tc : Thread Cert.HnbRefIdeal.nD Cert.HnbRefIdeal.τ).loc Cert.HnbRefIdeal.main_arg1) = m' ((c.tc : Thread Cert.HnbRefIdeal.nD Cert.HnbRefIdeal.τ).loc Cert.HnbRefIdeal.main_arg1)
          ∧ r.2.mem ((c.tc : Thread Cert.HnbRefIdeal.nD Cert.HnbRefIdeal.τ).loc Cert.HnbRefIdeal.main_arg2) = m' ((c.tc : Thread Cert.HnbRefIdeal.nD Cert.HnbRefIdeal.τ).loc Cert.HnbRefIdeal.main_arg2)
          ∧ r.2.mem ((c.tc : Thread Cert.HnbRefIdeal.nD Cert.HnbRefIdeal.τ).loc Cert.HnbRefIdeal.main_arg3) = m' ((c.tc : Thread Cert.HnbRefIdeal.nD Cert.HnbRefIdeal.τ).loc Cert.HnbRefIdeal.main_arg3)
          ∧ r.2.mem ((c.tc : Thread Cert.HnbRefIdeal.nD Cert.HnbRefIdeal.τ).loc Cert.HnbRefIdeal.main_arg4) = m' ((c.tc : Thread Cert.HnbRefIdeal.nD Cert.HnbRefIdeal.τ).loc Cert.HnbRefIdeal.main_arg4)
          ∧ r.2.mem ((c.tc : Thread Cert.HnbRefIdeal.nD Cert.HnbRefIdeal.τ).loc Cert.HnbRefIdeal.main_arg5) = m' ((c.tc : Thread Cert.HnbRefIdeal.nD Cert.HnbRefIdeal.τ).loc Cert.HnbRefIdeal.main_arg5))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hDwd : Cert.Dwd.Facts) (hDwdIdeal : Cert.DwdIdeal.Facts) (hDwdRefIdeal : Cert.DwdRefIdeal.Facts) (hDh : Cert.Dh.Facts) (hDhIdeal : Cert.DhIdeal.Facts) (hDhRefIdeal : Cert.DhRefIdeal.Facts) (hDgu : Cert.Dgu.Facts) (hDguIdeal : Cert.DguIdeal.Facts) (hDguRefIdeal : Cert.DguRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPin : Cert.Pin.Facts) (hPinIdeal : Cert.PinIdeal.Facts) (hPinRefIdeal : Cert.PinRefIdeal.Facts) (hAo : Cert.Ao.Facts) (hAoIdeal : Cert.AoIdeal.Facts) (hAoRefIdeal : Cert.AoRefIdeal.Facts) (hAob : Cert.Aob.Facts) (hAobIdeal : Cert.AobIdeal.Facts) (hAobRefIdeal : Cert.AobRefIdeal.Facts) (hGao : Cert.Gao.Facts) (hGaoIdeal : Cert.GaoIdeal.Facts) (hGaoRefIdeal : Cert.GaoRefIdeal.Facts) (hGqkv : Cert.Gqkv.Facts) (hGqkvIdeal : Cert.GqkvIdeal.Facts) (hGqkvRefIdeal : Cert.GqkvRefIdeal.Facts) (hGsq : Cert.Gsq.Facts) (hGsqIdeal : Cert.GsqIdeal.Facts) (hGsqRefIdeal : Cert.GsqRefIdeal.Facts) (hGpp : Cert.Gpp.Facts) (hGppIdeal : Cert.GppIdeal.Facts) (hGppRefIdeal : Cert.GppRefIdeal.Facts) (hQdh : Cert.Qdh.Facts) (hQdhIdeal : Cert.QdhIdeal.Facts) (hQdhRefIdeal : Cert.QdhRefIdeal.Facts) (hSdh : Cert.Sdh.Facts) (hSdhIdeal : Cert.SdhIdeal.Facts) (hSdhRefIdeal : Cert.SdhRefIdeal.Facts) (hPle : Cert.Ple.Facts) (hPleIdeal : Cert.PleIdeal.Facts) (hPleRefIdeal : Cert.PleRefIdeal.Facts) (hPgt : Cert.Pgt.Facts) (hPgtIdeal : Cert.PgtIdeal.Facts) (hPgtRefIdeal : Cert.PgtRefIdeal.Facts) (hAtt : Cert.Att.Facts) (hAttIdeal : Cert.AttIdeal.Facts) (hAttRefIdeal : Cert.AttRefIdeal.Facts) (hQkv : Cert.Qkv.Facts) (hQkvIdeal : Cert.QkvIdeal.Facts) (hQkvRefIdeal : Cert.QkvRefIdeal.Facts) (hPgr : Cert.Pgr.Facts) (hPgrIdeal : Cert.PgrIdeal.Facts) (hPgrRefIdeal : Cert.PgrRefIdeal.Facts) (hLos : Cert.Los.Facts) (hLosIdeal : Cert.LosIdeal.Facts) (hLosRefIdeal : Cert.LosRefIdeal.Facts) (hAds : Cert.Ads.Facts) (hAdsIdeal : Cert.AdsIdeal.Facts) (hAdsRefIdeal : Cert.AdsRefIdeal.Facts) (hHnm : Cert.Hnm.Facts) (hHnmIdeal : Cert.HnmIdeal.Facts) (hHnmRefIdeal : Cert.HnmRefIdeal.Facts) (hHnb : Cert.Hnb.Facts) (hHnbIdeal : Cert.HnbIdeal.Facts) (hHnbRefIdeal : Cert.HnbRefIdeal.Facts) (hPre_finite : Cert.Pre_finite.Facts) (hPre_act_finite : Cert.Pre_act_finite.Facts) (hPre_dh_finite : Cert.Pre_dh_finite.Facts) (hPre_qkv_dh_finite : Cert.Pre_qkv_dh_finite.Facts) (hPre_square_dh_finite : Cert.Pre_square_dh_finite.Facts) (hPre_attention_finite : Cert.Pre_attention_finite.Facts) (hPre_qk_norm_finite : Cert.Pre_qk_norm_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Dwd (hDwd := hDwd)
    ∧ quiescent_DwdIdeal (hDwdIdeal := hDwdIdeal)
    ∧ quiescent_DwdRefIdeal (hDwdRefIdeal := hDwdRefIdeal)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Dgu (hDgu := hDgu)
    ∧ quiescent_DguIdeal (hDguIdeal := hDguIdeal)
    ∧ quiescent_DguRefIdeal (hDguRefIdeal := hDguRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Pin (hPin := hPin)
    ∧ quiescent_PinIdeal (hPinIdeal := hPinIdeal)
    ∧ quiescent_PinRefIdeal (hPinRefIdeal := hPinRefIdeal)
    ∧ quiescent_Ao (hAo := hAo)
    ∧ quiescent_AoIdeal (hAoIdeal := hAoIdeal)
    ∧ quiescent_AoRefIdeal (hAoRefIdeal := hAoRefIdeal)
    ∧ quiescent_Aob (hAob := hAob)
    ∧ quiescent_AobIdeal (hAobIdeal := hAobIdeal)
    ∧ quiescent_AobRefIdeal (hAobRefIdeal := hAobRefIdeal)
    ∧ quiescent_Gao (hGao := hGao)
    ∧ quiescent_GaoIdeal (hGaoIdeal := hGaoIdeal)
    ∧ quiescent_GaoRefIdeal (hGaoRefIdeal := hGaoRefIdeal)
    ∧ quiescent_Gqkv (hGqkv := hGqkv)
    ∧ quiescent_GqkvIdeal (hGqkvIdeal := hGqkvIdeal)
    ∧ quiescent_GqkvRefIdeal (hGqkvRefIdeal := hGqkvRefIdeal)
    ∧ quiescent_Gsq (hGsq := hGsq)
    ∧ quiescent_GsqIdeal (hGsqIdeal := hGsqIdeal)
    ∧ quiescent_GsqRefIdeal (hGsqRefIdeal := hGsqRefIdeal)
    ∧ quiescent_Gpp (hGpp := hGpp)
    ∧ quiescent_GppIdeal (hGppIdeal := hGppIdeal)
    ∧ quiescent_GppRefIdeal (hGppRefIdeal := hGppRefIdeal)
    ∧ quiescent_Qdh (hQdh := hQdh)
    ∧ quiescent_QdhIdeal (hQdhIdeal := hQdhIdeal)
    ∧ quiescent_QdhIdeal_pre_qkv_dh_finite (hQdhIdeal := hQdhIdeal) (hPre_qkv_dh_finite := hPre_qkv_dh_finite)
    ∧ quiescent_QdhRefIdeal (hQdhRefIdeal := hQdhRefIdeal)
    ∧ quiescent_QdhRefIdeal_pre_qkv_dh_finite (hQdhRefIdeal := hQdhRefIdeal) (hPre_qkv_dh_finite := hPre_qkv_dh_finite)
    ∧ quiescent_Sdh (hSdh := hSdh)
    ∧ quiescent_SdhIdeal (hSdhIdeal := hSdhIdeal)
    ∧ quiescent_SdhIdeal_pre_square_dh_finite (hSdhIdeal := hSdhIdeal) (hPre_square_dh_finite := hPre_square_dh_finite)
    ∧ quiescent_SdhRefIdeal (hSdhRefIdeal := hSdhRefIdeal)
    ∧ quiescent_SdhRefIdeal_pre_square_dh_finite (hSdhRefIdeal := hSdhRefIdeal) (hPre_square_dh_finite := hPre_square_dh_finite)
    ∧ quiescent_Ple (hPle := hPle)
    ∧ quiescent_PleIdeal (hPleIdeal := hPleIdeal)
    ∧ quiescent_PleRefIdeal (hPleRefIdeal := hPleRefIdeal)
    ∧ quiescent_Pgt (hPgt := hPgt)
    ∧ quiescent_PgtIdeal (hPgtIdeal := hPgtIdeal)
    ∧ quiescent_PgtRefIdeal (hPgtRefIdeal := hPgtRefIdeal)
    ∧ quiescent_Att (hAtt := hAtt)
    ∧ quiescent_AttIdeal (hAttIdeal := hAttIdeal)
    ∧ quiescent_AttIdeal_pre_attention_finite (hAttIdeal := hAttIdeal) (hPre_attention_finite := hPre_attention_finite)
    ∧ quiescent_AttRefIdeal (hAttRefIdeal := hAttRefIdeal)
    ∧ quiescent_AttRefIdeal_pre_attention_finite (hAttRefIdeal := hAttRefIdeal) (hPre_attention_finite := hPre_attention_finite)
    ∧ quiescent_Qkv (hQkv := hQkv)
    ∧ quiescent_QkvIdeal (hQkvIdeal := hQkvIdeal)
    ∧ quiescent_QkvRefIdeal (hQkvRefIdeal := hQkvRefIdeal)
    ∧ quiescent_Pgr (hPgr := hPgr)
    ∧ quiescent_PgrIdeal (hPgrIdeal := hPgrIdeal)
    ∧ quiescent_PgrRefIdeal (hPgrRefIdeal := hPgrRefIdeal)
    ∧ quiescent_Los (hLos := hLos)
    ∧ quiescent_LosIdeal (hLosIdeal := hLosIdeal)
    ∧ quiescent_LosRefIdeal (hLosRefIdeal := hLosRefIdeal)
    ∧ quiescent_Ads (hAds := hAds)
    ∧ quiescent_AdsIdeal (hAdsIdeal := hAdsIdeal)
    ∧ quiescent_AdsRefIdeal (hAdsRefIdeal := hAdsRefIdeal)
    ∧ quiescent_Hnm (hHnm := hHnm)
    ∧ quiescent_HnmIdeal (hHnmIdeal := hHnmIdeal)
    ∧ quiescent_HnmRefIdeal (hHnmRefIdeal := hHnmRefIdeal)
    ∧ quiescent_Hnb (hHnb := hHnb)
    ∧ quiescent_HnbIdeal (hHnbIdeal := hHnbIdeal)
    ∧ quiescent_HnbIdeal_pre_qk_norm_finite (hHnbIdeal := hHnbIdeal) (hPre_qk_norm_finite := hPre_qk_norm_finite)
    ∧ quiescent_HnbRefIdeal (hHnbRefIdeal := hHnbRefIdeal)
    ∧ quiescent_HnbRefIdeal_pre_qk_norm_finite (hHnbRefIdeal := hHnbRefIdeal) (hPre_qk_norm_finite := hPre_qk_norm_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal_pre_act_finite (hActIdeal := hActIdeal) (hActRefIdeal := hActRefIdeal) (hPre_act_finite := hPre_act_finite)
    ∧ preserves_Dwd_DwdIdeal
    ∧ algebraic_DwdIdeal_DwdRefIdeal (hDwdIdeal := hDwdIdeal) (hDwdRefIdeal := hDwdRefIdeal)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Dgu_DguIdeal
    ∧ algebraic_DguIdeal_DguRefIdeal (hDguIdeal := hDguIdeal) (hDguRefIdeal := hDguRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Pin_PinIdeal
    ∧ algebraic_PinIdeal_PinRefIdeal (hPinIdeal := hPinIdeal) (hPinRefIdeal := hPinRefIdeal)
    ∧ preserves_Ao_AoIdeal
    ∧ algebraic_AoIdeal_AoRefIdeal (hAoIdeal := hAoIdeal) (hAoRefIdeal := hAoRefIdeal)
    ∧ preserves_Aob_AobIdeal
    ∧ algebraic_AobIdeal_AobRefIdeal (hAobIdeal := hAobIdeal) (hAobRefIdeal := hAobRefIdeal)
    ∧ preserves_Gao_GaoIdeal
    ∧ algebraic_GaoIdeal_GaoRefIdeal (hGaoIdeal := hGaoIdeal) (hGaoRefIdeal := hGaoRefIdeal)
    ∧ preserves_Gqkv_GqkvIdeal
    ∧ algebraic_GqkvIdeal_GqkvRefIdeal (hGqkvIdeal := hGqkvIdeal) (hGqkvRefIdeal := hGqkvRefIdeal)
    ∧ preserves_Gsq_GsqIdeal
    ∧ algebraic_GsqIdeal_GsqRefIdeal (hGsqIdeal := hGsqIdeal) (hGsqRefIdeal := hGsqRefIdeal)
    ∧ preserves_Gpp_GppIdeal
    ∧ algebraic_GppIdeal_GppRefIdeal (hGppIdeal := hGppIdeal) (hGppRefIdeal := hGppRefIdeal)
    ∧ preserves_Qdh_QdhIdeal
    ∧ algebraic_QdhIdeal_QdhRefIdeal_pre_qkv_dh_finite (hQdhIdeal := hQdhIdeal) (hQdhRefIdeal := hQdhRefIdeal) (hPre_qkv_dh_finite := hPre_qkv_dh_finite)
    ∧ preserves_Sdh_SdhIdeal
    ∧ algebraic_SdhIdeal_SdhRefIdeal_pre_square_dh_finite (hSdhIdeal := hSdhIdeal) (hSdhRefIdeal := hSdhRefIdeal) (hPre_square_dh_finite := hPre_square_dh_finite)
    ∧ preserves_Ple_PleIdeal
    ∧ algebraic_PleIdeal_PleRefIdeal (hPleIdeal := hPleIdeal) (hPleRefIdeal := hPleRefIdeal)
    ∧ preserves_Pgt_PgtIdeal
    ∧ algebraic_PgtIdeal_PgtRefIdeal (hPgtIdeal := hPgtIdeal) (hPgtRefIdeal := hPgtRefIdeal)
    ∧ preserves_Att_AttIdeal
    ∧ algebraic_AttIdeal_AttRefIdeal_pre_attention_finite (hAttIdeal := hAttIdeal) (hAttRefIdeal := hAttRefIdeal) (hPre_attention_finite := hPre_attention_finite)
    ∧ preserves_Qkv_QkvIdeal
    ∧ algebraic_QkvIdeal_QkvRefIdeal (hQkvIdeal := hQkvIdeal) (hQkvRefIdeal := hQkvRefIdeal)
    ∧ preserves_Pgr_PgrIdeal
    ∧ algebraic_PgrIdeal_PgrRefIdeal (hPgrIdeal := hPgrIdeal) (hPgrRefIdeal := hPgrRefIdeal)
    ∧ preserves_Los_LosIdeal
    ∧ algebraic_LosIdeal_LosRefIdeal (hLosIdeal := hLosIdeal) (hLosRefIdeal := hLosRefIdeal)
    ∧ preserves_Ads_AdsIdeal
    ∧ algebraic_AdsIdeal_AdsRefIdeal (hAdsIdeal := hAdsIdeal) (hAdsRefIdeal := hAdsRefIdeal)
    ∧ preserves_Hnm_HnmIdeal
    ∧ algebraic_HnmIdeal_HnmRefIdeal (hHnmIdeal := hHnmIdeal) (hHnmRefIdeal := hHnmRefIdeal)
    ∧ preserves_Hnb_HnbIdeal
    ∧ algebraic_HnbIdeal_HnbRefIdeal_pre_qk_norm_finite (hHnbIdeal := hHnbIdeal) (hHnbRefIdeal := hHnbRefIdeal) (hPre_qk_norm_finite := hPre_qk_norm_finite)
-- ==== Pre_act_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v14 : IVec S_ 1) (main_v16 : FVec F S8192x2816 .f32) (main_cst_4 : FVec F S_ .f32) : IVec S_ 1 :=
  let main_v17 : FVec F S8192x2816 .f32 := broadcastInDim S8192x2816 ![] bcast_S_S8192x2816 main_cst_4
  let main_v18 : IVec S8192x2816 1 := cmpf .olt main_v16 main_v17
  let main_c_5 : IVec S_ 1 := constantI S_ 1 1#1
  let main_v19 : IVec S_ 1 := (fun x v => Host.reduce IntOp.andi x v reducesTo_S8192x2816_S_d0_1 h_S_) main_v18 main_c_5
  let main_v20 : IVec S_ 1 := andi main_v14 main_v19
  main_v20

def fn {F : FTy → Type} [FloatOps F] (main_arg0 : FVec F S8192x1024 .f32) (main_arg1 : FVec F S2816x1024 .f32) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .f32 := (extf .f32 · bitsLt_bf16_f32) main_arg2
  let main_v10 : FVec F S8192x2816 .f32 := Host.absf main_v9
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : IVec S_ 1 := andi main_v8 main_v13
  let main_v15 : FVec F S8192x2816 .f32 := (extf .f32 · bitsLt_bf16_f32) main_arg3
  let main_v16 : FVec F S8192x2816 .f32 := Host.absf main_v15
  let main_cst_4 : FVec F S_ .f32 := constant S_ .f32 0x7F800000#32
  fn_part1 (F := F) main_v14 main_v16 main_cst_4
-- ==== Pre_attention_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_dh_finite.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S8192x2816 .bf16) (main_arg1 : FVec F S8192x2816 .bf16) (main_arg2 : FVec F S1024x5632 .f32) (main_arg3 : FVec F S8192x1024 .f32) (main_arg4 : FVec F S1x1024 .f32) (main_arg5 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : IVec S_ 1 := andi main_v4 main_v9
  let main_v11 : FVec F S1024x5632 .f32 := Host.absf main_arg2
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Pre_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : IVec S8192x1024 1 := andi main_v6 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : IVec S8192x1024 1 := andi main_v10 main_v13
  main_v14
-- ==== Pre_qk_norm_finite.lean ====
abbrev S8192x3072 : Shape := ⟨2, ![8192, 3072]⟩
abbrev S8192x1024 : Shape := ⟨2, ![8192, 1024]⟩
abbrev S64 : Shape := ⟨1, ![64]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x3072 .f32) (main_arg1 : FVec F S8192x1024 .f32) (main_arg2 : FVec F S8192x1024 .f32) (main_arg3 : FVec F S8192x1024 .f32) (main_arg4 : FVec F S64 .f32) (main_arg5 : FVec F S64 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Pre_qkv_dh_finite.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S8192x3072 .bf16) (main_arg1 : FVec F S1024x3072 .f32) (main_arg2 : FVec F S8192x1024 .f32) (main_arg3 : FVec F S1x1024 .f32) (main_arg4 : FVec F S8192x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S1024x3072 .f32 := Host.absf main_arg1
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_c_1 : IVec S_ 1 := constantI S_ 1 1#1
  let main_v8 : IVec S_ 1 := (fun x v => Host.reduce IntOp.andi x v reducesTo_S1024x3072_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_square_dh_finite.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S8192x1024 .bf16) (main_arg1 : FVec F S1024x1024 .f32) (main_arg2 : FVec F S8192x1024 .f32) (main_arg3 : FVec F S1x1024 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Kernel.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S256x128 : Shape := ⟨2, ![256, 128]⟩
abbrev S8192x128 : Shape := ⟨2, ![8192, 128]⟩
abbrev S256x256 : Shape := ⟨2, ![256, 256]⟩
abbrev S512x256 : Shape := ⟨2, ![512, 256]⟩
abbrev S512x128 : Shape := ⟨2, ![512, 128]⟩
abbrev S256 : Shape := ⟨1, ![256]⟩
abbrev S256x1 : Shape := ⟨2, ![256, 1]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 83
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S8192x16x64, .f32⟩
  | .hbm, ⟨7, _⟩ => ⟨S16x8192x64, .f32⟩
  | .hbm, ⟨8, _⟩ => ⟨S8192x16x64, .f32⟩
  | .hbm, ⟨9, _⟩ => ⟨S16x8192x64, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S_, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .i1⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S_, .f32⟩
  | .hbm, ⟨67, _⟩ => ⟨S16x8192x8192, .i1⟩
  | .hbm, ⟨68, _⟩ => ⟨S16x8192x8192, .f32⟩
  | .hbm, ⟨69, _⟩ => ⟨S16x8192x8192, .f32⟩
  | .hbm, ⟨70, _⟩ => ⟨S16x8192x64, .f32⟩
  | .hbm, ⟨71, _⟩ => ⟨S8192x16x64, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S8192x1024, .f32⟩
  | .hbm, ⟨81, _⟩ => ⟨S8192x1024, .f32⟩
  | .hbm, ⟨82, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_2 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34_0 : Ref sig .tc := ⟨.hbm, 80, rfl⟩
abbrev main_v34_1 : Ref sig .tc := ⟨.hbm, 81, rfl⟩
abbrev main_v34_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32_21 : BitVec 32 := 256#32
  let v65 : BitVec 32 := Scalar.muli arg1 c256_i32_21
  v65
def k0_off1 (i : grid0.Coords) : Fin 2 → Nat :=
  let arg1 : BitVec 32 := BitVec.ofNat 32 (i 1).val
  let c256_i32_21 : BitVec 32 := 256#32
  let v65 : BitVec 32 := Scalar.muli arg1 c256_i32_21
  let v66 : BitVec 32 := v65
  let v67 : Index := Scalar.indexCast v66
  let c0_22 : Index := 0#32
  ![v67.toNat, 0]
def k0_mult2 (i : grid0.Coords) : BitVec 32 :=
  let arg1 : BitVec 32 := BitVec.ofNat 32 (i 1).val
  let c1_i32 : BitVec 32 := 1#32
  let v148 : BitVec 32 := Scalar.subi arg1 c1_i32
  let c0_i32_47 : BitVec 32 := 0#32
  let v149 : BitVec 32 := Scalar.maxsi v148 c0_i32_47
  let c256_i32_49 : BitVec 32 := 256#32
  let v152 : BitVec 32 := Scalar.muli v149 c256_i32_49
  v152
def k0_off2 (i : grid0.Coords) : Fin 2 → Nat :=
  let arg1 : BitVec 32 := BitVec.ofNat 32 (i 1).val
  let c1_i32 : BitVec 32 := 1#32
  let v148 : BitVec 32 := Scalar.subi arg1 c1_i32
  let c0_i32_47 : BitVec 32 := 0#32
  let v149 : BitVec 32 := Scalar.maxsi v148 c0_i32_47
  let c256_i32_49 : BitVec 32 := 256#32
  let v152 : BitVec 32 := Scalar.muli v149 c256_i32_49
  let v153 : BitVec 32 := v152
  let v154 : Index := Scalar.indexCast v153
  let c0_50 : Index := 0#32
  ![v154.toNat, 0]
def k0_mult3 (arg10 : BitVec 32) : BitVec 32 :=
  let c256_i32_80 : BitVec 32 := 256#32
  let v250 : BitVec 32 := Scalar.muli arg10 c256_i32_80
  v250

def k0_off3 (arg10 : BitVec 32) : Fin 2 → Nat :=
  let c256_i32_80 : BitVec 32 := 256#32
  let v250 : BitVec 32 := Scalar.muli arg10 c256_i32_80
  let v251 : BitVec 32 := v250
  let v252 : Index := Scalar.indexCast v251
  let c0_81 : Index := 0#32
  ![v252.toNat, 0]

def k0_chk1 (arg10 : BitVec 32) : Prop :=
  (256 ∣ (k0_mult3 arg10).toNat) ∧
  (∀ a, (k0_off3 arg10) a + S256x128.size a ≤ S8192x128.size a)
theorem k0_mult3_dvd : ∀ (arg10 : BitVec 32) (k0_hw1 : k0_chk1 arg10), 256 ∣ (k0_mult3 arg10).toNat := fun arg10 k0_hw1 => k0_hw1.1
theorem k0_off3_inb : ∀ (arg10 : BitVec 32) (k0_hw1 : k0_chk1 arg10), ∀ a, (k0_off3 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log_zero" => some ⊥
  | _ => none
-- ==== ReferenceIdeal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x16x64, .f32⟩
  | 5 => ⟨S16x8192x64, .f32⟩
  | 6 => ⟨S8192x16x64, .f32⟩
  | 7 => ⟨S16x8192x64, .f32⟩
  | 8 => ⟨S8192x16x64, .f32⟩
  | 9 => ⟨S16x8192x64, .f32⟩
  | 10 => ⟨S16x8192x8192, .f32⟩
  | 11 => ⟨S_, .f32⟩
  | 12 => ⟨S16x8192x8192, .f32⟩
  | 13 => ⟨S16x8192x8192, .f32⟩
  | 14 => ⟨S8192, .i32⟩
  | 15 => ⟨S1x8192, .i32⟩
  | 16 => ⟨S8192, .i32⟩
  | 17 => ⟨S8192x1, .i32⟩
  | 18 => ⟨S8192x8192, .i32⟩
  | 19 => ⟨S8192x8192, .i32⟩
  | 20 => ⟨S8192x8192, .i1⟩
  | 21 => ⟨S16x8192x8192, .f32⟩
  | 22 => ⟨S16x8192x8192, .f32⟩
  | 23 => ⟨S_, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .i1⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S_, .f32⟩
  | 38 => ⟨S16x8192x8192, .f32⟩
  | 39 => ⟨S16x8192x8192, .i1⟩
  | 40 => ⟨S_, .f32⟩
  | 41 => ⟨S16x8192x8192, .f32⟩
  | 42 => ⟨S16x8192x8192, .f32⟩
  | 43 => ⟨S_, .f32⟩
  | 44 => ⟨S16x8192x8192, .f32⟩
  | 45 => ⟨S16x8192x8192, .i1⟩
  | 46 => ⟨S_, .f32⟩
  | 47 => ⟨S16x8192x8192, .f32⟩
  | 48 => ⟨S16x8192x8192, .f32⟩
  | 49 => ⟨S16x8192x8192, .f32⟩
  | 50 => ⟨S16x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x8192x8192, .f32⟩
  | 59 => ⟨S16x8192x8192, .i1⟩
  | 60 => ⟨S_, .f32⟩
  | 61 => ⟨S16x8192x8192, .f32⟩
  | 62 => ⟨S16x8192x8192, .f32⟩
  | 63 => ⟨S16x8192x8192, .f32⟩
  | 64 => ⟨S16x8192x8192, .f32⟩
  | 65 => ⟨S16x8192x8192, .f32⟩
  | 66 => ⟨S_, .f32⟩
  | 67 => ⟨S16x8192x8192, .f32⟩
  | 68 => ⟨S16x8192x8192, .f32⟩
  | 69 => ⟨S16x8192x8192, .f32⟩
  | 70 => ⟨S_, .f32⟩
  | 71 => ⟨S_, .f32⟩
  | 72 => ⟨S16x8192x8192, .i1⟩
  | 73 => ⟨S16x8192x8192, .f32⟩
  | 74 => ⟨S16x8192x8192, .f32⟩
  | 75 => ⟨S_, .f32⟩
  | 76 => ⟨S16x8192x8192, .f32⟩
  | 77 => ⟨S_, .f32⟩
  | 78 => ⟨S_, .f32⟩
  | 79 => ⟨S16x8192x8192, .f32⟩
  | 80 => ⟨S16x8192x8192, .f32⟩
  | 81 => ⟨S16x8192x8192, .f32⟩
  | 82 => ⟨S_, .f32⟩
  | 83 => ⟨S16x8192x8192, .f32⟩
  | 84 => ⟨S16x8192x8192, .f32⟩
  | 85 => ⟨S16x8192x8192, .f32⟩
  | 86 => ⟨S16x8192x8192, .f32⟩
  | 87 => ⟨S16x8192x8192, .i1⟩
  | 88 => ⟨S16x8192x8192, .f32⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S16x8192x8192, .f32⟩
  | 96 => ⟨S_, .f32⟩
  | 97 => ⟨S16x8192x8192, .f32⟩
  | 98 => ⟨S16x8192x8192, .i1⟩
  | 99 => ⟨S_, .f32⟩
  | 100 => ⟨S16x8192x8192, .f32⟩
  | 101 => ⟨S16x8192x8192, .f32⟩
  | 102 => ⟨S_, .f32⟩
  | 103 => ⟨S16x8192x8192, .f32⟩
  | 104 => ⟨S16x8192x8192, .i1⟩
  | 105 => ⟨S_, .f32⟩
  | 106 => ⟨S16x8192x8192, .f32⟩
  | 107 => ⟨S16x8192x8192, .f32⟩
  | 108 => ⟨S16x8192x8192, .f32⟩
  | 109 => ⟨S16x8192x8192, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x8192x8192, .f32⟩
  | 118 => ⟨S16x8192x8192, .i1⟩
  | 119 => ⟨S_, .f32⟩
  | 120 => ⟨S16x8192x8192, .f32⟩
  | 121 => ⟨S16x8192x8192, .f32⟩
  | 122 => ⟨S16x8192x8192, .f32⟩
  | 123 => ⟨S16x8192x8192, .f32⟩
  | 124 => ⟨S16x8192x8192, .f32⟩
  | 125 => ⟨S_, .f32⟩
  | 126 => ⟨S16x8192x8192, .f32⟩
  | 127 => ⟨S16x8192x8192, .f32⟩
  | _ => ⟨S8192x1024, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S_, .f32⟩
  | 4 => ⟨S_, .f32⟩
  | 5 => ⟨S16x8192x8192, .i1⟩
  | 6 => ⟨S16x8192x8192, .f32⟩
  | 7 => ⟨S16x8192x8192, .f32⟩
  | 8 => ⟨S_, .f32⟩
  | 9 => ⟨S16x8192x8192, .f32⟩
  | 10 => ⟨S16x8192x64, .f32⟩
  | 11 => ⟨S8192x16x64, .f32⟩
  | 12 => ⟨S8192x1024, .f32⟩
  | 13 => ⟨S8192x16x64, .f32⟩
  | 14 => ⟨S16x8192x64, .f32⟩
  | 15 => ⟨S16x64x8192, .f32⟩
  | 16 => ⟨S16x8192x64, .f32⟩
  | 17 => ⟨S16x8192x8192, .f32⟩
  | 18 => ⟨S_, .f32⟩
  | 19 => ⟨S16x8192x8192, .f32⟩
  | 20 => ⟨S16x8192x8192, .f32⟩
  | 21 => ⟨S16x8192x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S_, .f32⟩
  | 27 => ⟨S_, .f32⟩
  | 28 => ⟨S16x8192x8192, .f32⟩
  | 29 => ⟨S16x8192x8192, .f32⟩
  | 30 => ⟨S_, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .f32⟩
  | 41 => ⟨S16x8192x64, .f32⟩
  | 42 => ⟨S16x8192x64, .f32⟩
  | 43 => ⟨S8192x16x64, .f32⟩
  | 44 => ⟨S8192x1024, .f32⟩
  | 45 => ⟨S8192x16x64, .f32⟩
  | 46 => ⟨S8192x1024, .f32⟩
  | 47 => ⟨S8192x16x64, .f32⟩
  | 48 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩

abbrev nD : Nat := 1
abbrev τ : Topo := Topo.v7x

variable {F : FTy → Type} [FloatOps F]
-- ==== Act.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Dwd.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_7 : BitVec 32 := 3#32
  let v14 : BitVec 1 := Scalar.cmpi .eq arg1 c3_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dh.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S5632x1024, .f32⟩
  | .hbm, ⟨7, _⟩ => ⟨S5632x1024, .bf16⟩
  | .hbm, ⟨8, _⟩ => ⟨S8192x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_10 : BitVec 32 := 0#32
  let v14 : BitVec 1 := Scalar.cmpi .eq arg1 c0_i32_10
  let v15 : BitVec 32 := Scalar.extui v14
  let c0_i32_11 : BitVec 32 := 0#32
  let v16 : BitVec 1 := Scalar.cmpi .ne v15 c0_i32_11
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DhRefIdeal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .bf16⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Dgu.lean ====
abbrev S8192x1024 : Shape := ⟨2, ![8192, 1024]⟩
abbrev S8192x2816 : Shape := ⟨2, ![8192, 2816]⟩
abbrev S5632x1024 : Shape := ⟨2, ![5632, 1024]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S5632x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg1 : BitVec 32 := BitVec.ofNat 32 (i 1).val
  let c7_i32_9 : BitVec 32 := 7#32
  let v17 : BitVec 1 := Scalar.cmpi .eq arg1 c7_i32_9
  let v18 : BitVec 32 := Scalar.extui v17
  let c0_i32_10 : BitVec 32 := 0#32
  let v19 : BitVec 1 := Scalar.cmpi .ne v18 c0_i32_10
  v19

def k0_cond5 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg1 : BitVec 32 := BitVec.ofNat 32 (i 1).val
  let c7_i32_9 : BitVec 32 := 7#32
  let v17 : BitVec 1 := Scalar.cmpi .eq arg1 c7_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DguRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x1024, .bf16⟩
  | .hbm, ⟨32, _⟩ => ⟨S8192x2816, .bf16⟩
  | .hbm, ⟨33, _⟩ => ⟨S8192x2816, .bf16⟩
  | .hbm, ⟨34, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Pin.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S8192x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PinRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ao.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AoRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Aob.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AobRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gao.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_7 : BitVec 32 := 3#32
  let v15 : BitVec 1 := Scalar.cmpi .eq arg1 c3_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GaoRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gqkv.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond3 (i : grid0.Coords) : BitVec 1 :=
  let arg1 : BitVec 32 := BitVec.ofNat 32 (i 1).val
  let c3_i32_6 : BitVec 32 := 3#32
  let v11 : BitVec 1 := Scalar.cmpi .eq arg1 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GqkvRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gsq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_6 : BitVec 32 := 3#32
  let v11 : BitVec 1 := Scalar.cmpi .eq arg1 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GsqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gpp.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_7 : BitVec 32 := 3#32
  let v14 : BitVec 1 := Scalar.cmpi .eq arg1 c3_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GppRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qdh.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x3072, .bf16⟩
  | .hbm, ⟨6, _⟩ => ⟨S8192x1024, .f32⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_5 : BitVec 32 := 0#32
  let v9 : BitVec 1 := Scalar.cmpi .eq arg1 c0_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== QdhRefIdeal.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Sdh.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_5 : BitVec 32 := 0#32
  let v9 : BitVec 1 := Scalar.cmpi .eq arg1 c0_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== SdhRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Ple.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleRefIdeal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Pgt.lean ====
abbrev S8192x1024 : Shape := ⟨2, ![8192, 1024]⟩
abbrev S_ : Shape := ⟨0, ![]⟩
abbrev S512x1024 : Shape := ⟨2, ![512, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PgtRefIdeal.lean ====
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Att.lean ====
abbrev S8192x1024 : Shape := ⟨2, ![8192, 1024]⟩
abbrev S_ : Shape := ⟨0, ![]⟩
abbrev S256x128 : Shape := ⟨2, ![256, 128]⟩
abbrev S8192x128 : Shape := ⟨2, ![8192, 128]⟩
abbrev S256x256 : Shape := ⟨2, ![256, 256]⟩
abbrev S512x256 : Shape := ⟨2, ![512, 256]⟩
abbrev S512x128 : Shape := ⟨2, ![512, 128]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32_5 : BitVec 32 := 256#32
  let v27 : BitVec 32 := Scalar.muli arg1 c256_i32_5
  v27
def k0_off1 (i : grid0.Coords) : Fin 2 → Nat :=
  let arg1 : BitVec 32 := BitVec.ofNat 32 (i 1).val
  let c256_i32_5 : BitVec 32 := 256#32
  let v27 : BitVec 32 := Scalar.muli arg1 c256_i32_5
  let v28 : BitVec 32 := v27
  let v29 : Index := Scalar.indexCast v28
  let c0_6 : Index := 0#32
  ![v29.toNat, 0]
def k0_mult2 (i : grid0.Coords) : BitVec 32 :=
  let arg1 : BitVec 32 := BitVec.ofNat 32 (i 1).val
  let c1_i32 : BitVec 32 := 1#32
  let v70 : BitVec 32 := Scalar.subi arg1 c1_i32
  let c0_i32 : BitVec 32 := 0#32
  let v71 : BitVec 32 := Scalar.maxsi v70 c0_i32
  let c256_i32_20 : BitVec 32 := 256#32
  let v74 : BitVec 32 := Scalar.muli v71 c256_i32_20
  v74
def k0_off2 (i : grid0.Coords) : Fin 2 → Nat :=
  let arg1 : BitVec 32 := BitVec.ofNat 32 (i 1).val
  let c1_i32 : BitVec 32 := 1#32
  let v70 : BitVec 32 := Scalar.subi arg1 c1_i32
  let c0_i32 : BitVec 32 := 0#32
  let v71 : BitVec 32 := Scalar.maxsi v70 c0_i32
  let c256_i32_20 : BitVec 32 := 256#32
  let v74 : BitVec 32 := Scalar.muli v71 c256_i32_20
  let v75 : BitVec 32 := v74
  let v76 : Index := Scalar.indexCast v75
  let c0_21 : Index := 0#32
  ![v76.toNat, 0]
def k0_mult3 (arg6 : BitVec 32) : BitVec 32 :=
  let c256_i32_38 : BitVec 32 := 256#32
  let v130 : BitVec 32 := Scalar.muli arg6 c256_i32_38
  v130

def k0_off3 (arg6 : BitVec 32) : Fin 2 → Nat :=
  let c256_i32_38 : BitVec 32 := 256#32
  let v130 : BitVec 32 := Scalar.muli arg6 c256_i32_38
  let v131 : BitVec 32 := v130
  let v132 : Index := Scalar.indexCast v131
  let c0_39 : Index := 0#32
  ![v132.toNat, 0]

def k0_chk1 (arg6 : BitVec 32) : Prop :=
  (256 ∣ (k0_mult3 arg6).toNat) ∧
  (∀ a, (k0_off3 arg6) a + S256x128.size a ≤ S8192x128.size a)
theorem k0_mult3_dvd : ∀ (arg6 : BitVec 32) (k0_hw1 : k0_chk1 arg6), 256 ∣ (k0_mult3 arg6).toNat := fun arg6 k0_hw1 => k0_hw1.1
theorem k0_off3_inb : ∀ (arg6 : BitVec 32) (k0_hw1 : k0_chk1 arg6), ∀ a, (k0_off3 arg6) a + S256x128.size a ≤ S8192x128.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttIdeal.lean ====
variable {F : FTy → Type} [FloatOps F] [Named F]
def κ : String → Option EReal := fun
  | "log_zero" => some ⊥
  | _ => none
-- ==== AttRefIdeal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16x64, .f32⟩
  | .hbm, ⟨4, _⟩ => ⟨S16x8192x64, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S_, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .i1⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S_, .f32⟩
  | .hbm, ⟨66, _⟩ => ⟨S16x8192x8192, .i1⟩
  | .hbm, ⟨67, _⟩ => ⟨S16x8192x8192, .f32⟩
  | .hbm, ⟨68, _⟩ => ⟨S16x8192x8192, .f32⟩
  | .hbm, ⟨69, _⟩ => ⟨S16x8192x64, .f32⟩
  | .hbm, ⟨70, _⟩ => ⟨S8192x16x64, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Qkv.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S8192x1024, .bf16⟩
  | .hbm, ⟨5, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Pgr.lean ====
abbrev S8192x1024 : Shape := ⟨2, ![8192, 1024]⟩
abbrev S4x256x256 : Shape := ⟨3, ![4, 256, 256]⟩
abbrev S1x1024 : Shape := ⟨2, ![1, 1024]⟩
abbrev S256x1024 : Shape := ⟨2, ![256, 1024]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x256x256, .f32⟩
  | .hbm, ⟨3, _⟩ => ⟨S1x1024, .f32⟩
  | .hbm, ⟨4, _⟩ => ⟨S4x256x256, .bf16⟩
  | .hbm, ⟨5, _⟩ => ⟨S8192x1024, .f32⟩
  | .hbm, ⟨6, _⟩ => ⟨S4x256x256, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S4x256x256, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S4x256x256, .bf16⟩
  | .local _ .vmem, ⟨9, _⟩ => ⟨S1x1024, .f32⟩
  | .local _ .vmem, ⟨10, _⟩ => ⟨S4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v111 : BitVec 1 := Scalar.cmpi .eq arg0 c31_i32
  let v112 : BitVec 32 := Scalar.extui v111
  let c0_i32_105 : BitVec 32 := 0#32
  let v113 : BitVec 1 := Scalar.cmpi .ne v112 c0_i32_105
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PgrRefIdeal.lean ====
abbrev S8192x1024 : Shape := ⟨2, ![8192, 1024]⟩
abbrev S4x256x256 : Shape := ⟨3, ![4, 256, 256]⟩
abbrev S1x1024 : Shape := ⟨2, ![1, 1024]⟩
abbrev S8192x4x256 : Shape := ⟨3, ![8192, 4, 256]⟩
abbrev S4x256x8192 : Shape := ⟨3, ![4, 256, 8192]⟩
abbrev S_ : Shape := ⟨0, ![]⟩
abbrev S1024 : Shape := ⟨1, ![1024]⟩
abbrev S4x8192x256 : Shape := ⟨3, ![4, 8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x256x256, .f32⟩
  | .hbm, ⟨3, _⟩ => ⟨S1x1024, .f32⟩
  | .hbm, ⟨4, _⟩ => ⟨S8192x1024, .f32⟩
  | .hbm, ⟨5, _⟩ => ⟨S8192x4x256, .f32⟩
  | .hbm, ⟨6, _⟩ => ⟨S4x256x8192, .f32⟩
  | .hbm, ⟨7, _⟩ => ⟨S8192x4x256, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x4x256, .f32⟩
  | .hbm, ⟨18, _⟩ => ⟨S4x256x8192, .f32⟩
  | .hbm, ⟨19, _⟩ => ⟨S4x8192x256, .f32⟩
  | .hbm, ⟨20, _⟩ => ⟨S8192x4x256, .f32⟩
  | .hbm, ⟨21, _⟩ => ⟨S4x256x256, .f32⟩
  | .hbm, ⟨22, _⟩ => ⟨S4x256x256, .f32⟩
  | .hbm, ⟨23, _⟩ => ⟨S8192x1024, .f32⟩
  | .hbm, ⟨24, _⟩ => ⟨S4x256x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Los.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LosRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Ads.lean ====
abbrev S192x1024 : Shape := ⟨2, ![192, 1024]⟩
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S192x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S192x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdsRefIdeal.lean ====
abbrev S192x1024 : Shape := ⟨2, ![192, 1024]⟩
abbrev S24x1024 : Shape := ⟨2, ![24, 1024]⟩
abbrev S8x24x1024 : Shape := ⟨3, ![8, 24, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S8x24x1024, .f32⟩
  | .hbm, ⟨5, _⟩ => ⟨S_, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S_, .f32⟩
  | .hbm, ⟨15, _⟩ => ⟨S24x1024, .f32⟩
  | .hbm, ⟨16, _⟩ => ⟨S24x1024, .f32⟩
  | .hbm, ⟨17, _⟩ => ⟨S24x1024, .f32⟩
  | .hbm, ⟨18, _⟩ => ⟨S_, .f32⟩
  | .hbm, ⟨19, _⟩ => ⟨S24x1024, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S_, .f32⟩
  | .hbm, ⟨30, _⟩ => ⟨S24x1024, .f32⟩
  | .hbm, ⟨31, _⟩ => ⟨S24x1024, .f32⟩
  | .hbm, ⟨32, _⟩ => ⟨S24x1024, .f32⟩
  | .hbm, ⟨33, _⟩ => ⟨S_, .f32⟩
  | .hbm, ⟨34, _⟩ => ⟨S24x1024, .f32⟩
  | .hbm, ⟨35, _⟩ => ⟨S24x1024, .f32⟩
  | .hbm, ⟨36, _⟩ => ⟨S24x1024, .f32⟩
  | .hbm, ⟨37, _⟩ => ⟨S_, .f32⟩
  | .hbm, ⟨38, _⟩ => ⟨S24x1024, .f32⟩
  | .hbm, ⟨39, _⟩ => ⟨S24x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Hnm.lean ====
abbrev S8192x3072 : Shape := ⟨2, ![8192, 3072]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S128x128 : Shape := ⟨2, ![128, 128]⟩
abbrev S512x128 : Shape := ⟨2, ![512, 128]⟩
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HnmRefIdeal.lean ====
abbrev S8192x3072 : Shape := ⟨2, ![8192, 3072]⟩
abbrev S64 : Shape := ⟨1, ![64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x64, .f32⟩
  | .hbm, ⟨19, _⟩ => ⟨S8192x16x64, .f32⟩
  | .hbm, ⟨20, _⟩ => ⟨S1x1x64, .f32⟩
  | .hbm, ⟨21, _⟩ => ⟨S8192x16x64, .f32⟩
  | .hbm, ⟨22, _⟩ => ⟨S8192x16x64, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x16x64, .f32⟩
  | .hbm, ⟨28, _⟩ => ⟨S8192x16x64, .f32⟩
  | .hbm, ⟨29, _⟩ => ⟨S_, .f32⟩
  | .hbm, ⟨30, _⟩ => ⟨S8192x16, .f32⟩
  | .hbm, ⟨31, _⟩ => ⟨S8192x16x1, .f32⟩
  | .hbm, ⟨32, _⟩ => ⟨S_, .f32⟩
  | .hbm, ⟨33, _⟩ => ⟨S8192x16x1, .f32⟩
  | .hbm, ⟨34, _⟩ => ⟨S8192x16x1, .f32⟩
  | .hbm, ⟨35, _⟩ => ⟨S_, .f32⟩
  | .hbm, ⟨36, _⟩ => ⟨S8192x16x1, .f32⟩
  | .hbm, ⟨37, _⟩ => ⟨S8192x16x1, .f32⟩
  | .hbm, ⟨38, _⟩ => ⟨S8192x16x1, .f32⟩
  | .hbm, ⟨39, _⟩ => ⟨S8192x16x64, .f32⟩
  | .hbm, ⟨40, _⟩ => ⟨S8192x16x64, .f32⟩
  | .hbm, ⟨41, _⟩ => ⟨S1x1x64, .f32⟩
  | .hbm, ⟨42, _⟩ => ⟨S8192x16x64, .f32⟩
  | .hbm, ⟨43, _⟩ => ⟨S8192x16x64, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Hnb.lean ====
abbrev S8192x3072 : Shape := ⟨2, ![8192, 3072]⟩
abbrev S8192x1024 : Shape := ⟨2, ![8192, 1024]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512x3072 : Shape := ⟨2, ![512, 3072]⟩
abbrev S128x128 : Shape := ⟨2, ![128, 128]⟩
abbrev S512x128 : Shape := ⟨2, ![512, 128]⟩
abbrev S1x128 : Shape := ⟨2, ![1, 128]⟩
abbrev S128 : Shape := ⟨1, ![128]⟩

abbrev nBuf : Space → Nat
  | .hbm => 17
  | .vmem => 17
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x1024, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S1x1024, .f32⟩
  | .hbm, ⟨14, _⟩ => ⟨S8192x3072, .bf16⟩
  | .hbm, ⟨15, _⟩ => ⟨S8x128, .f32⟩
  | .hbm, ⟨16, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x3072, .bf16⟩
  | .local _ .vmem, ⟨13, _⟩ => ⟨S512x3072, .bf16⟩
  | .local _ .vmem, ⟨14, _⟩ => ⟨S8x128, .f32⟩
  | .local _ .vmem, ⟨15, _⟩ => ⟨S8x128, .f32⟩
  | .local _ .vmem, ⟨16, _⟩ => ⟨S8x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v492 : BitVec 1 := Scalar.cmpi .eq arg0 c15_i32
  let v493 : BitVec 32 := Scalar.extui v492
  let c0_i32_256 : BitVec 32 := 0#32
  let v494 : BitVec 1 := Scalar.cmpi .ne v493 c0_i32_256
  v494

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HnbRefIdeal.lean ====
abbrev S8192x3072 : Shape := ⟨2, ![8192, 3072]⟩
abbrev S8192x1024 : Shape := ⟨2, ![8192, 1024]⟩
abbrev S64 : Shape := ⟨1, ![64]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S1x64 : Shape := ⟨2, ![1, 64]⟩
abbrev S2x64 : Shape := ⟨2, ![2, 64]⟩
abbrev S128 : Shape := ⟨1, ![128]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S64, .f32⟩
  | .hbm, ⟨5, _⟩ => ⟨S64, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x16x64, .f32⟩
  | .hbm, ⟨10, _⟩ => ⟨S8192x16x64, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x64, .f32⟩
  | .hbm, ⟨26, _⟩ => ⟨S8192x16x64, .f32⟩
  | .hbm, ⟨27, _⟩ => ⟨S1x1x64, .f32⟩
  | .hbm, ⟨28, _⟩ => ⟨S8192x16x64, .f32⟩
  | .hbm, ⟨29, _⟩ => ⟨S8192x16x64, .f32⟩
  | .hbm, ⟨30, _⟩ => ⟨S8192x1024, .f32⟩
  | .hbm, ⟨31, _⟩ => ⟨S8192x16x64, .f32⟩
  | .hbm, ⟨32, _⟩ => ⟨S8192x16x64, .f32⟩
  | .hbm, ⟨33, _⟩ => ⟨S_, .f32⟩
  | .hbm, ⟨34, _⟩ => ⟨S64, .f32⟩
  | .hbm, ⟨35, _⟩ => ⟨S1x1x64, .f32⟩
  | .hbm, ⟨36, _⟩ => ⟨S8192x16x64, .f32⟩
  | .hbm, ⟨37, _⟩ => ⟨S8192x16x64, .f32⟩
  | .hbm, ⟨38, _⟩ => ⟨S_, .f32⟩
  | .hbm, ⟨39, _⟩ => ⟨S64, .f32⟩
  | .hbm, ⟨40, _⟩ => ⟨S8192x16x64, .f32⟩
  | .hbm, ⟨41, _⟩ => ⟨S_, .f32⟩
  | .hbm, ⟨42, _⟩ => ⟨S8192x16, .f32⟩
  | .hbm, ⟨43, _⟩ => ⟨S8192x16x1, .f32⟩
  | .hbm, ⟨44, _⟩ => ⟨S8192x16x64, .f32⟩
  | .hbm, ⟨45, _⟩ => ⟨S8192x16x64, .f32⟩
  | .hbm, ⟨46, _⟩ => ⟨S8192x16x1, .f32⟩
  | .hbm, ⟨47, _⟩ => ⟨S_, .f32⟩
  | .hbm, ⟨48, _⟩ => ⟨S8192x16x1, .f32⟩
  | .hbm, ⟨49, _⟩ => ⟨S8192x16x1, .f32⟩
  | .hbm, ⟨50, _⟩ => ⟨S_, .f32⟩
  | .hbm, ⟨51, _⟩ => ⟨S8192x16, .f32⟩
  | .hbm, ⟨52, _⟩ => ⟨S8192x16x64, .f32⟩
  | .hbm, ⟨53, _⟩ => ⟨S8192x16x64, .f32⟩
  | .hbm, ⟨54, _⟩ => ⟨S8192x16x64, .f32⟩
  | .hbm, ⟨55, _⟩ => ⟨S8192x16x64, .f32⟩
  | .hbm, ⟨56, _⟩ => ⟨S8192x16x64, .f32⟩
  | .hbm, ⟨57, _⟩ => ⟨S8192x1024, .f32⟩
  | .hbm, ⟨58, _⟩ => ⟨S8192x16x64, .f32⟩
  | .hbm, ⟨59, _⟩ => ⟨S8192x16x64, .f32⟩
  | .hbm, ⟨60, _⟩ => ⟨S_, .f32⟩
  | .hbm, ⟨61, _⟩ => ⟨S8192x16, .f32⟩
  | .hbm, ⟨62, _⟩ => ⟨S8192x16x1, .f32⟩
  | .hbm, ⟨63, _⟩ => ⟨S_, .f32⟩
  | .hbm, ⟨64, _⟩ => ⟨S8192x16x1, .f32⟩
  | .hbm, ⟨65, _⟩ => ⟨S8192x16x1, .f32⟩
  | .hbm, ⟨66, _⟩ => ⟨S_, .f32⟩
  | .hbm, ⟨67, _⟩ => ⟨S8192x16x1, .f32⟩
  | .hbm, ⟨68, _⟩ => ⟨S8192x16x1, .f32⟩
  | .hbm, ⟨69, _⟩ => ⟨S8192x16x1, .f32⟩
  | .hbm, ⟨70, _⟩ => ⟨S8192x16x1, .f32⟩
  | .hbm, ⟨71, _⟩ => ⟨S_, .f32⟩
  | .hbm, ⟨72, _⟩ => ⟨S8192x16x1, .f32⟩
  | .hbm, ⟨73, _⟩ => ⟨S8192x16x1, .f32⟩
  | .hbm, ⟨74, _⟩ => ⟨S8192x16x64, .f32⟩
  | .hbm, ⟨75, _⟩ => ⟨S8192x16x64, .f32⟩
  | .hbm, ⟨76, _⟩ => ⟨S1x1x64, .f32⟩
  | .hbm, ⟨77, _⟩ => ⟨S8192x16x64, .f32⟩
  | .hbm, ⟨78, _⟩ => ⟨S8192x16x64, .f32⟩
  | .hbm, ⟨79, _⟩ => ⟨S8192x1024, .f32⟩
  | .hbm, ⟨80, _⟩ => ⟨S8192x16x64, .f32⟩
  | .hbm, ⟨81, _⟩ => ⟨S8192x16x64, .f32⟩
  | .hbm, ⟨82, _⟩ => ⟨S_, .f32⟩
  | .hbm, ⟨83, _⟩ => ⟨S64, .f32⟩
  | .hbm, ⟨84, _⟩ => ⟨S1x1x64, .f32⟩
  | .hbm, ⟨85, _⟩ => ⟨S8192x16x64, .f32⟩
  | .hbm, ⟨86, _⟩ => ⟨S8192x16x64, .f32⟩
  | .hbm, ⟨87, _⟩ => ⟨S_, .f32⟩
  | .hbm, ⟨88, _⟩ => ⟨S64, .f32⟩
  | .hbm, ⟨89, _⟩ => ⟨S8192x16x64, .f32⟩
  | .hbm, ⟨90, _⟩ => ⟨S_, .f32⟩
  | .hbm, ⟨91, _⟩ => ⟨S8192x16, .f32⟩
  | .hbm, ⟨92, _⟩ => ⟨S8192x16x1, .f32⟩
  | .hbm, ⟨93, _⟩ => ⟨S8192x16x64, .f32⟩
  | .hbm, ⟨94, _⟩ => ⟨S8192x16x64, .f32⟩
  | .hbm, ⟨95, _⟩ => ⟨S8192x16x1, .f32⟩
  | .hbm, ⟨96, _⟩ => ⟨S_, .f32⟩
  | .hbm, ⟨97, _⟩ => ⟨S8192x16x1, .f32⟩
  | .hbm, ⟨98, _⟩ => ⟨S8192x16x1, .f32⟩
  | .hbm, ⟨99, _⟩ => ⟨S_, .f32⟩
  | .hbm, ⟨100, _⟩ => ⟨S8192x16, .f32⟩
  | .hbm, ⟨101, _⟩ => ⟨S8192x16x64, .f32⟩
  | .hbm, ⟨102, _⟩ => ⟨S8192x16x64, .f32⟩
  | .hbm, ⟨103, _⟩ => ⟨S8192x16x64, .f32⟩
  | .hbm, ⟨104, _⟩ => ⟨S8192x16x64, .f32⟩
  | .hbm, ⟨105, _⟩ => ⟨S8192x16x64, .f32⟩
  | .hbm, ⟨106, _⟩ => ⟨S8192x1024, .f32⟩
  | .hbm, ⟨107, _⟩ => ⟨S8192x3072, .f32⟩
  | .hbm, ⟨108, _⟩ => ⟨S8192x3072, .bf16⟩
  | .hbm, ⟨109, _⟩ => ⟨S1x64, .f32⟩
  | .hbm, ⟨110, _⟩ => ⟨S2x64, .f32⟩
  | .hbm, ⟨111, _⟩ => ⟨S128, .f32⟩
  | .hbm, ⟨112, _⟩ => ⟨S8x128, .f32⟩
  | .hbm, ⟨113, _⟩ => ⟨S1x64, .f32⟩
  | .hbm, ⟨114, _⟩ => ⟨S2x64, .f32⟩
  | .hbm, ⟨115, _⟩ => ⟨S128, .f32⟩
  | .hbm, ⟨116, _⟩ => ⟨S8x128, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Proof.Rows.lean ====
/-
  Row blocks of a staged array. `rowsOf X n` is block `n` of 256 rows of an 8192×128 array, `putRows X n w` the array
  with `w` over that block. A load through a memref held at `X`, at the rectangle of block `n`, continues at
  `rowsOf X n`; a store there leaves `putRows X n w`; a load or store of the whole reads `X`, leaves `w`.
-/
module

public import Idealize.ShloMosaic.Lib.Pipeline.FrameBody
public import Idealize.ShloMosaic.Lib.VecWindow
public import Idealize.ShloMosaic.Lib.ValueIdxCore
public import Idealize.ShloMosaic.Lib.Tactic

@[expose] public section

noncomputable section

namespace Cert.Rows

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The staged array. -/
abbrev Big : Shape := ⟨2, ![8192, 128]⟩
/-- One block of its rows. -/
abbrev Blk : Shape := ⟨2, ![256, 128]⟩

variable {α : Type}

/-- Block `n` of the rows of `X`. -/
def rowsOf (X : Big.Idx → α) (n : ℕ) : Blk.Idx → α :=
  fun y => X (ix2 ⟨(256 * n + (y 0).val) % 8192, Nat.mod_lt _ (by norm_num)⟩ (y 1))

/-- `X` with `w` over block `n` of its rows. -/
def putRows (X : Big.Idx → α) (n : ℕ) (w : Blk.Idx → α) : Big.Idx → α :=
  fun y => if (y 0).val / 256 = n then w (ix2 ⟨(y 0).val % 256, Nat.mod_lt _ (by norm_num)⟩ (y 1)) else X y

theorem window_eq_rowsOf (X : Big.Idx → α) (n : ℕ) (hn : n < 32) (off : Fin 2 → ℕ) (ho : off = ![256 * n, 0])
    (inb : ∀ a, off a + Blk.size a ≤ Big.size a) : VecWindow.window X off Blk.size inb = rowsOf X n := by
  subst ho
  funext y
  have h0 : (y 0).val < 256 := (y 0).isLt
  refine congrArg X (funext fun a => ?_)
  match a with
  | ⟨0, _⟩ => exact Fin.ext (show 256 * n + 1 * (y 0).val = (256 * n + (y 0).val) % 8192 by omega)
  | ⟨1, _⟩ => exact Fin.ext (show 0 + 1 * (y 1).val = (y 1).val by omega)

theorem put_eq_putRows (X : Big.Idx → α) (n : ℕ) (off : Fin 2 → ℕ) (ho : off = ![256 * n, 0]) (w : Blk.Idx → α) :
    VecWindow.put X off Blk.size w = putRows X n w := by
  subst ho
  funext y
  have h1 : (y 1).val < 128 := (y 1).isLt
  unfold VecWindow.put putRows
  by_cases h : (y 0).val / 256 = n
  · have hh : ∀ a, (![256 * n, 0] : Fin 2 → ℕ) a ≤ (y a).val ∧ (y a).val < (![256 * n, 0] : Fin 2 → ℕ) a + Blk.size a := fun a => by
      match a with
      | ⟨0, _⟩ => show 256 * n ≤ (y 0).val ∧ (y 0).val < 256 * n + 256; omega
      | ⟨1, _⟩ => show 0 ≤ (y 1).val ∧ (y 1).val < 0 + 128; omega
    rw [dif_pos hh, if_pos h]
    refine congrArg w (funext fun a => ?_)
    match a with
    | ⟨0, _⟩ => exact Fin.ext (show (y 0).val - 256 * n = (y 0).val % 256 by omega)
    | ⟨1, _⟩ => exact Fin.ext (show (y 1).val - 0 = (y 1).val by omega)
  · rw [if_neg h, dif_neg fun hh => h (by have := hh 0; change 256 * n ≤ (y 0).val ∧ (y 0).val < 256 * n + 256 at this; omega)]

section Rules

variable {nD : Nat} {τ : Topo} {sig : RefSig} {Ix : Type} [DecidableEq Ix]
variable {Val : EltTy → Type} {Name : Type} [DecidableEq Name]
variable {U : Type} [URA U]
variable {Lvl : Type} {Λ : Labels} [Preorder Lvl]
variable {defs : Defs nD τ sig Val Λ} (𝒱 : Variants) (c : Thread nD τ) (bd : Option 𝒱.V) (E : Set Name)
variable {cs : CoreSpace} {e : EltTy} {β : Type} {Q : β → sProp (MT nD τ sig Ix Val Name U Lvl)}

/-- A load through a memref held at `X`. -/
theorem wp_load_owns {s : Shape} {m : Memref sig c.2.kind cs s e} {r : LoadRect s} {hl : m.view.LoadsAt r}
    {k : (r.shape.Idx → Val e) → Prog (TpuEff nD τ sig Val Λ c.2) β} {q : PosShare TreeShare} (X : s.Idx → Val e)
    (Y : r.shape.Idx → Val e) (hY : (fun y => X (r.idx y)) = Y) :
    owns c m q X ⊢ iprop((owns c m q X -∗ wp frame (wpE defs 𝒱 c bd) E (k Y) Q)
        -∗ wp frame (wpE defs 𝒱 c bd) E (.op (.load m r hl) k) Q) := by
  subst hY
  unfold owns
  iintro ⟨%f, %hf, H⟩ Hk
  subst hf
  iapply (wp_load 𝒱 c bd E (m := m) (r := r) (S := m.view.set) (View.setOn_subset_set _ _)) $$ H
  iintro H
  iapply Hk
  iexists f
  isplitr; · ipureintro; rfl
  iexact H

/-- A store through a memref held at `X`. -/
theorem wp_store_owns {s : Shape} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) β} (X Y : s.Idx → Val e)
    (hY : ∀ f, m.view.read Val f = X → m.view.read Val ((m.access r).write Val f w Finset.univ) = Y) :
    owns c m fullShare X ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (S := m.view.set) (View.set_slice_subset _ _)) $$ H
  iintro H
  iapply Hk
  iexists _
  isplitr
  · ipureintro; exact hY f hf
  iexact H

/-- A load of block `n` of the rows. -/
theorem wp_load_rows {m : Memref sig c.2.kind cs Big e} {off : Fin 2 → ℕ} {inb : ∀ a, off a + Blk.size a ≤ Big.size a}
    {hl : m.view.LoadsAt (Rect.unit (s := Big) off Blk.size inb).toLoadRect}
    {k : (Blk.Idx → Val e) → Prog (TpuEff nD τ sig Val Λ c.2) β} {q : PosShare TreeShare} (X : Big.Idx → Val e)
    (n : ℕ) (hn : n < 32) (ho : off = ![256 * n, 0]) :
    owns c m q X ⊢ iprop((owns c m q X -∗ wp frame (wpE defs 𝒱 c bd) E (k (rowsOf X n)) Q)
        -∗ wp frame (wpE defs 𝒱 c bd) E (.op (.load m (Rect.unit (s := Big) off Blk.size inb).toLoadRect hl) k) Q) :=
  wp_load_owns 𝒱 c bd E (r := (Rect.unit (s := Big) off Blk.size inb).toLoadRect) X (rowsOf X n)
    (window_eq_rowsOf X n hn off ho inb)

/-- A store over block `n` of the rows. -/
theorem wp_store_rows {m : Memref sig c.2.kind cs Big e} {off : Fin 2 → ℕ} {inb : ∀ a, off a + Blk.size a ≤ Big.size a}
    {w : Blk.Idx → Val e} {hx : (m.access (Rect.unit (s := Big) off Blk.size inb)).Stores Finset.univ}
    {hm : (Finset.univ : Finset Blk.Idx) = Finset.univ ∨ ∀ a, (Rect.unit (s := Big) off Blk.size inb).stride a = 1}
    {k : PUnit → Prog (TpuEff nD τ sig Val Λ c.2) β} (X : Big.Idx → Val e)
    (n : ℕ) (ho : off = ![256 * n, 0]) :
    owns c m fullShare X ⊢ iprop((owns c m fullShare (putRows X n w) -∗ wp frame (wpE defs 𝒱 c bd) E (k ⟨⟩) Q)
        -∗ wp frame (wpE defs 𝒱 c bd) E (.op (.store m (Rect.unit (s := Big) off Blk.size inb) w Finset.univ hx hm) k) Q) :=
  wp_store_owns 𝒱 c bd E (r := Rect.unit (s := Big) off Blk.size inb) X (putRows X n w) (fun f hf => by
    have h := View.read_writes_cons_put m.view f inb w [] (off' := off) rfl
    rw [View.writes_nil, hf] at h
    exact h.trans (put_eq_putRows X n off ho w))

/-- A load of the whole. -/
theorem wp_load_all {n0 n1 : ℕ} {m : Memref sig c.2.kind cs ⟨2, ![n0, n1]⟩ e}
    {inb : ∀ a, (![0, 0] : Fin 2 → ℕ) a + (⟨2, ![n0, n1]⟩ : Shape).size a ≤ (⟨2, ![n0, n1]⟩ : Shape).size a}
    {hl : m.view.LoadsAt (Rect.unit (s := ⟨2, ![n0, n1]⟩) ![0, 0] (⟨2, ![n0, n1]⟩ : Shape).size inb).toLoadRect}
    {k : ((⟨2, ![n0, n1]⟩ : Shape).Idx → Val e) → Prog (TpuEff nD τ sig Val Λ c.2) β} {q : PosShare TreeShare}
    (X : (⟨2, ![n0, n1]⟩ : Shape).Idx → Val e) :
    owns c m q X ⊢ iprop((owns c m q X -∗ wp frame (wpE defs 𝒱 c bd) E (k X) Q)
        -∗ wp frame (wpE defs 𝒱 c bd) E (.op (.load m (Rect.unit (s := ⟨2, ![n0, n1]⟩) ![0, 0] (⟨2, ![n0, n1]⟩ : Shape).size inb).toLoadRect hl) k) Q) :=
  wp_load_owns 𝒱 c bd E (r := (Rect.unit (s := ⟨2, ![n0, n1]⟩) ![0, 0] (⟨2, ![n0, n1]⟩ : Shape).size inb).toLoadRect) X X
    (funext fun y => congrArg X (Rect.emb_unit_full inb y))

/-- A store over the whole. -/
theorem wp_store_all {n0 n1 : ℕ} {m : Memref sig c.2.kind cs ⟨2, ![n0, n1]⟩ e}
    {inb : ∀ a, (![0, 0] : Fin 2 → ℕ) a + (⟨2, ![n0, n1]⟩ : Shape).size a ≤ (⟨2, ![n0, n1]⟩ : Shape).size a}
    {w : (⟨2, ![n0, n1]⟩ : Shape).Idx → Val e}
    {hx : (m.access (Rect.unit (s := ⟨2, ![n0, n1]⟩) ![0, 0] (⟨2, ![n0, n1]⟩ : Shape).size inb)).Stores Finset.univ}
    {hm : (Finset.univ : Finset (⟨2, ![n0, n1]⟩ : Shape).Idx) = Finset.univ
      ∨ ∀ a, (Rect.unit (s := ⟨2, ![n0, n1]⟩) ![0, 0] (⟨2, ![n0, n1]⟩ : Shape).size inb).stride a = 1}
    {k : PUnit → Prog (TpuEff nD τ sig Val Λ c.2) β} (X : (⟨2, ![n0, n1]⟩ : Shape).Idx → Val e) :
    owns c m fullShare X ⊢ iprop((owns c m fullShare w -∗ wp frame (wpE defs 𝒱 c bd) E (k ⟨⟩) Q)
        -∗ wp frame (wpE defs 𝒱 c bd) E (.op (.store m (Rect.unit (s := ⟨2, ![n0, n1]⟩) ![0, 0] (⟨2, ![n0, n1]⟩ : Shape).size inb) w Finset.univ hx hm) k) Q) :=
  wp_store_owns 𝒱 c bd E (r := Rect.unit (s := ⟨2, ![n0, n1]⟩) ![0, 0] (⟨2, ![n0, n1]⟩ : Shape).size inb) X w (fun f _ =>
    View.read_writes_full m.view f inb w [])

end Rules

end Cert.Rows

end
-- ==== Proof.KI.Loop.lean ====
/-
  The sweep over the earlier key blocks. `sweep n` is what the loop computes with `n` blocks left (blocks `n-1`, …, `0`):
  it stops when no block is left or when the largest carried sum is no longer above the bound, and otherwise takes block
  `n-1` of the keys and values, adds that block's terms to the gradients of the keys and values, and goes on. `spec_le`
  says the loop's function computes it, by induction on `n`.
-/
module

public import proofs.«01_k».proof.Proof.Gen.KernelIdeal.Skeleton
public import proofs.«01_k».proof.Proof.Gen.KernelIdeal.Launch
public import proofs.«01_k».proof.Proof.Rows

@[expose] public section

noncomputable section

namespace Cert.KernelIdeal.Hand

open Cert.KernelIdeal Cert.KernelIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants: the trips a loop may still make. -/
abbrev trips : Variants := Variants.nat

/-- The loop's test on the largest carried sum. -/
def goes (mx : F .f32) : Prop := Scalar.cmpf .ogt mx (Named.named κ "log_zero" 0xC2D00000#32 : F .f32) = 1#1

instance (mx : F .f32) : Decidable (goes mx) := by unfold goes; infer_instance

section Sweep

variable (K V : Vec F S8192x128 .bf16) (q2 : FVec F S512x128 .bf16) (aft : FVec F S256x256 .bf16) (do2 : FVec F S512x128 .bf16)
  (frm : FVec F S256x256 .bf16) (total : FVec F S512x1 .f32)

/-- The sweep with `n` key blocks left: from the largest carried sum, the carried sums, the weighted sums seen, the
    gradient of the queries and the gradients of the keys and values, the last three at the end. -/
def sweep : ℕ → F .f32 → FVec F S512x1 .f32 → FVec F S512x1 .f32 → FVec F S512x128 .f32 → Vec F S8192x128 .f32 → Vec F S8192x128 .f32 →
    FVec F S512x128 .f32 × Vec F S8192x128 .f32 × Vec F S8192x128 .f32
  | 0, _, _, _, a, dk, dv => (a, dk, dv)
  | n + 1, mx, c, s, a, dk, dv =>
    if goes mx then
      sweep n (k0_pay13 c (k0_pay53 q2 (rowsOf K n))) (k0_pay10 c (k0_pay53 q2 (rowsOf K n)))
        (k0_pay11 s (k0_pay56 q2 aft do2 c (rowsOf K n) (rowsOf V n)))
        (k0_pay12 total a (k0_pay50 (rowsOf K n)) (k0_pay54 q2 (rowsOf K n)) (k0_pay56 q2 aft do2 c (rowsOf K n) (rowsOf V n))
          (k0_pay57 q2 aft do2 frm c s (rowsOf K n) (rowsOf V n)))
        (putRows dk n (k0_pay8 q2 total (k0_pay54 q2 (rowsOf K n)) (k0_pay56 q2 aft do2 c (rowsOf K n) (rowsOf V n))
          (k0_pay57 q2 aft do2 frm c s (rowsOf K n) (rowsOf V n)) (rowsOf dk n)))
        (putRows dv n (k0_pay9 do2 (k0_pay55 q2 aft c (rowsOf K n)) (rowsOf dv n)))
    else (a, dk, dv)

end Sweep

/-! ### The counter -/

/-- The counter word with `n` blocks left. -/
def Ctr : ℕ → BitVec 32 → Prop
  | 0, a => ¬Scalar.cmpi .sge a 0#32 = 1#1
  | k + 1, a => k < 32 ∧ a = BitVec.ofNat 32 k

theorem ctr_test {k : ℕ} {a : BitVec 32} (h : Ctr (k + 1) a) : Scalar.cmpi .sge a 0#32 = 1#1 := by
  obtain ⟨hk, rfl⟩ := h
  exact (by decide : ∀ k : Fin 32, Scalar.cmpi .sge (BitVec.ofNat 32 k.val) 0#32 = 1#1) ⟨k, hk⟩

theorem ctr_next {k : ℕ} {a : BitVec 32} (h : Ctr (k + 1) a) : Ctr k (Scalar.subi a 1#32) := by
  obtain ⟨hk, rfl⟩ := h
  cases k with
  | zero => exact (by decide : ¬Scalar.cmpi .sge (Scalar.subi (BitVec.ofNat 32 0) 1#32) 0#32 = 1#1)
  | succ k =>
    exact ⟨by omega, (by decide : ∀ k : Fin 31, Scalar.subi (BitVec.ofNat 32 (k.val + 1)) 1#32 = BitVec.ofNat 32 k.val) ⟨k, by omega⟩⟩

theorem ctr_off {k : ℕ} {a : BitVec 32} (h : Ctr (k + 1) a) : k0_off3 a = ![256 * k, 0] := by
  obtain ⟨hk, rfl⟩ := h
  exact (by decide : ∀ k : Fin 32, k0_off3 (BitVec.ofNat 32 k.val) = ![256 * k.val, 0]) ⟨k, hk⟩

theorem ctr_chk {k : ℕ} {a : BitVec 32} (h : Ctr (k + 1) a) : k0_chk1 a := by
  have ho := ctr_off h
  obtain ⟨hk, rfl⟩ := h
  refine ⟨(by decide : ∀ k : Fin 32, 256 ∣ (k0_mult3 (BitVec.ofNat 32 k.val)).toNat) ⟨k, hk⟩, fun x => ?_⟩
  rw [ho]
  match x with
  | ⟨0, _⟩ => show 256 * k + 256 ≤ 8192; omega
  | ⟨1, _⟩ => show 0 + 128 ≤ 128; omega

theorem ctr_start (n : ℕ) (hn : n < 32) : Ctr (n - 1) (Scalar.subi (BitVec.ofNat 32 n) 2#32) := by
  match n with
  | 0 => exact (by decide : ¬Scalar.cmpi .sge (Scalar.subi (BitVec.ofNat 32 0) 2#32) 0#32 = 1#1)
  | 1 => exact (by decide : ¬Scalar.cmpi .sge (Scalar.subi (BitVec.ofNat 32 1) 2#32) 0#32 = 1#1)
  | n + 2 =>
    exact ⟨by omega, (by decide : ∀ k : Fin 30, Scalar.subi (BitVec.ofNat 32 (k.val + 2)) 2#32 = BitVec.ofNat 32 k.val) ⟨n, by omega⟩⟩

theorem andi_one (x : BitVec 1) : Scalar.andi 1#1 x = x := by revert x; decide

theorem andi_one_iff (x y : BitVec 1) (hx : ¬x = 1#1) : ¬Scalar.andi x y = 1#1 := by revert x y; decide

/-! ### The loop's function -/

section Label

variable (c : Dev nD) (i : grid0.Coords)
  (arg3 : Memref sig .tc .vmem S8192x128 .bf16) (harg3 : arg3.IsWhole) (arg4 : Memref sig .tc .vmem S8192x128 .bf16) (harg4 : arg4.IsWhole)
  (arg8 : Memref sig .tc .vmem S8192x128 .f32) (harg8 : arg8.IsWhole) (arg9 : Memref sig .tc .vmem S8192x128 .f32) (harg9 : arg9.IsWhole)
  (K V : Vec F S8192x128 .bf16) (q2 : FVec F S512x128 .bf16) (aft : FVec F S256x256 .bf16) (do2 : FVec F S512x128 .bf16)
  (frm : FVec F S256x256 .bf16) (total : FVec F S512x1 .f32)

/-- The four arrays the loop touches, held whole. -/
def held (dk dv : Vec F S8192x128 .f32) : sProp 𝕄 :=
  iprop(owns (c : Thread nD τ) arg3 fullShare K ∗ owns (c : Thread nD τ) arg4 fullShare V
    ∗ owns (c : Thread nD τ) arg8 fullShare dk ∗ owns (c : Thread nD τ) arg9 fullShare dv)

/-- What the loop gives back: its last component the gradient of the queries, the arrays at the sweep's. -/
def spec (R : FVec F S512x128 .f32 × Vec F S8192x128 .f32 × Vec F S8192x128 .f32) (dk dv : Vec F S8192x128 .f32) :
    sWPT 𝕄 (BitVec 32 × F .f32 × FVec F S512x1 .f32 × FVec F S512x1 .f32 × FVec F S512x128 .f32) := do
  sWPT.consume (held c arg3 arg4 arg8 arg9 K V dk dv)
  let r ← sWPT.arbitrary
  sWPT.assume (r.2.2.2.2 = R.1)
  sWPT.produce (held c arg3 arg4 arg8 arg9 K V R.2.1 R.2.2)
  pure r

theorem spec_apply (R : FVec F S512x128 .f32 × Vec F S8192x128 .f32 × Vec F S8192x128 .f32) (dk dv : Vec F S8192x128 .f32)
    (Q : BitVec 32 × F .f32 × FVec F S512x1 .f32 × FVec F S512x1 .f32 × FVec F S512x128 .f32 → sProp 𝕄) :
    spec c arg3 arg4 arg8 arg9 K V R dk dv Q
      = iprop(held c arg3 arg4 arg8 arg9 K V dk dv ∗ ∀ r, ⌜r.2.2.2.2 = R.1⌝ -∗ (held c arg3 arg4 arg8 arg9 K V R.2.1 R.2.2 -∗ Q r)) := rfl

theorem spec_le (E : Set ℕ) :
    ∀ n w, Ctr n w → ∀ mx cr sn a dk dv Q, spec c arg3 arg4 arg8 arg9 K V (sweep K V q2 aft do2 frm total n mx cr sn a dk dv) dk dv Q
      ⊢ wp frame (wpE (defs₀ (F := F)) trips (c : Thread nD τ) (some n)) E
          (defs₀ (F := F) .tc 1 ⟨i, arg3, harg3, arg4, harg4, q2, aft, do2, frm, total, arg8, harg8, arg9, harg9, w, mx, cr, sn, a⟩) Q := by
  intro n
  induction n with
  | zero =>
    intro w hw mx cr sn a dk dv Q
    rw [spec_apply]
    show _ ⊢ wp frame (wpE (defs₀ (F := F)) trips (c : Thread nD τ) (some 0)) E
      (cc0_while1 i arg3 harg3 arg4 harg4 q2 aft do2 frm total arg8 harg8 arg9 harg9 w mx cr sn a) Q
    simp only [cc0_while1_eq_skeleton]; unfold cc0_while1_skel
    have ht := andi_one_iff _ (Scalar.cmpf .ogt mx (Named.named κ "log_zero" 0xC2D00000#32 : F .f32)) hw
    simp only [ht, ↓reduceIte, Prog.pure_eq_ret]
    iintro ⟨H, Hk⟩
    rw [wp_ret]; imodintro
    iapply Hk
    · ipureintro; rfl
    · iexact H
  | succ n ih =>
    intro w hw mx cr sn a dk dv Q
    rw [spec_apply]
    show _ ⊢ wp frame (wpE (defs₀ (F := F)) trips (c : Thread nD τ) (some (n + 1))) E
      (cc0_while1 i arg3 harg3 arg4 harg4 q2 aft do2 frm total arg8 harg8 arg9 harg9 w mx cr sn a) Q
    simp only [cc0_while1_eq_skeleton]; unfold cc0_while1_skel
    by_cases hg : goes mx
    · have ht : Scalar.andi (Scalar.cmpi .sge w 0#32) (Scalar.cmpf .ogt mx (Named.named κ "log_zero" 0xC2D00000#32 : F .f32)) = 1#1 := by
        rw [ctr_test hw, andi_one]; exact hg
      have ho := ctr_off hw
      have hn : n < 32 := hw.1
      simp only [ht, ↓reduceIte, k0_part6_eq_skeleton]
      unfold k0_part6_skel
      simp only [Prog.lift, Prog.bind_op, Prog.bind_ret, Prog.pure_eq_ret]
      unfold held
      iintro ⟨⟨HK, HV, Hdk, Hdv⟩, Hk⟩
      iapply (wp_assume trips (c : Thread nD τ) (some (n + 1)) E (ctr_chk hw))
      iapply (wp_load_rows trips (c : Thread nD τ) (some (n + 1)) E K n hn ho) $$ HK; iintro HK
      iapply (wp_load_rows trips (c : Thread nD τ) (some (n + 1)) E V n hn ho) $$ HV; iintro HV
      iapply (wp_load_rows trips (c : Thread nD τ) (some (n + 1)) E dk n hn ho) $$ Hdk; iintro Hdk
      iapply (wp_load_rows trips (c : Thread nD τ) (some (n + 1)) E dk n hn ho) $$ Hdk; iintro Hdk
      iapply (wp_store_rows trips (c : Thread nD τ) (some (n + 1)) E dk n ho) $$ Hdk; iintro Hdk
      iapply (wp_load_rows trips (c : Thread nD τ) (some (n + 1)) E dv n hn ho) $$ Hdv; iintro Hdv
      iapply (wp_load_rows trips (c : Thread nD τ) (some (n + 1)) E dv n hn ho) $$ Hdv; iintro Hdv
      iapply (wp_store_rows trips (c : Thread nD τ) (some (n + 1)) E dv n ho) $$ Hdv; iintro Hdv
      iapply (wp_call_spec trips (c : Thread nD τ) (some (n + 1)) E
        (spec c arg3 arg4 arg8 arg9 K V (sweep K V q2 aft do2 frm total n _ _ _ _ _ _) _ _) n
        (fun u hu => by cases hu; exact Nat.lt_succ_self n) (ih _ (ctr_next hw) _ _ _ _ _ _))
      rw [spec_apply]; unfold held
      isplitl [HK HV Hdk Hdv]
      · isplitl [HK]; · iexact HK
        isplitl [HV]; · iexact HV
        isplitl [Hdk]; · iexact Hdk
        iexact Hdv
      iintro %r %hr H
      rw [wp_ret]; imodintro
      rw [sweep, if_pos hg]
      iapply Hk
      · ipureintro; exact hr
      · iexact H
    · have ht : ¬Scalar.andi (Scalar.cmpi .sge w 0#32) (Scalar.cmpf .ogt mx (Named.named κ "log_zero" 0xC2D00000#32 : F .f32)) = 1#1 := by
        rw [ctr_test hw, andi_one]; exact hg
      simp only [ht, ↓reduceIte, Prog.pure_eq_ret]
      iintro ⟨H, Hk⟩
      rw [wp_ret]; imodintro
      rw [sweep, if_neg hg]
      iapply Hk
      · ipureintro; rfl
      · iexact H

end Label

end Cert.KernelIdeal.Hand

end
-- ==== Proof.KI.Host.lean ====
/-
  What surrounds the kernel's grid: the host operations before it, the arrays as the grid finds them (`V`), the four
  arguments untouched by those operations, the blocks the windows stage, the frame read off a run, and the test that
  picks the first query block of a head pair.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The arrays of core `c` as the grid finds them: the launch contents after every host operation. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- The program up to the grid. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, of its array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from any run that leaves the other buffers as the grid found them. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide : ∀ w, (spec0 w).arr.view.ref ≠ main_arg0))).trans (V_main_arg0 m c),
      ((h c).2 main_arg1 (Pipeline.mem_restRefs_of main_arg1 (by decide) (by decide : ∀ w, (spec0 w).arr.view.ref ≠ main_arg1))).trans (V_main_arg1 m c),
      ((h c).2 main_arg2 (Pipeline.mem_restRefs_of main_arg2 (by decide) (by decide : ∀ w, (spec0 w).arr.view.ref ≠ main_arg2))).trans (V_main_arg2 m c),
      ((h c).2 main_arg3 (Pipeline.mem_restRefs_of main_arg3 (by decide) (by decide : ∀ w, (spec0 w).arr.view.ref ≠ main_arg3))).trans (V_main_arg3 m c)⟩) h

/-- The point is the first query block of its head pair. -/
abbrev cond0_0 (i : grid0.Coords) : Prop := (Scalar.cmpi .ne (Scalar.extui (Scalar.cmpi .eq (BitVec.ofNat 32 (i 1).val) 0#32)) 0#32) = 1#1
theorem hcond0_0 : ∀ t : Fin (cfg0 (F := F)).N, cond0_0 (grid0.coords t) ↔ t.val % 32 = 0 :=
  (fun t => by
    have ht : t.val < 256 := Nat.lt_of_lt_of_eq t.isLt N_0
    have e0 : (grid0.coords t 0).val = t.val / 32 % 8 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- The staging memrefs at point `t`, and their wholeness. -/
abbrev ms0_0 (t : Fin (cfg0 (F := F)).N) : Memref sig .tc .vmem S256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S256x128 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S8192x128 .f32 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S8192x128 .f32 := win0_7.stage ((cfg0 (F := F)).slots t 7)
abbrev hs0_7 (t : Fin (cfg0 (F := F)).N) : (ms0_7 t).IsWhole := hstage0_7 (((cfg0 (F := F)).slots t 7).cast nbuf0_7)

end Cert.KernelIdeal.Hand

end
-- ==== Proof.KI.Body.lean ====
/-
  One grid point. `point i q K V d o dk dv` is what the body leaves for query block `i`: from the blocks of the queries,
  of the output's gradient and of the output, the keys and values of the head pair, and the gradients of keys and values
  so far, the query gradient's block and the two gradients after the diagonal block, the block before it, and the sweep
  over the earlier ones. `body_wp` says the body computes it.
-/
module

public import proofs.«01_k».proof.Proof.KI.Loop
public import proofs.«01_k».proof.Proof.KI.Host

@[expose] public section

set_option maxRecDepth 16384

noncomputable section

namespace Cert.KernelIdeal.Hand

open Cert.KernelIdeal Cert.KernelIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Point

variable (i : ℕ) (q : Vec F S256x128 .bf16) (K V : Vec F S8192x128 .bf16) (d : Vec F S256x128 .bf16) (o : Vec F S256x128 .f32)

/-- The carried sums after the diagonal block. -/
def carry1 : FVec F S512x1 .f32 :=
  k0_pay35 (k0_pay22 (F := F)) (k0_pay28 k0_pay16 (k0_pay27 (k0_pay19 q) (rowsOf K i)))

/-- The weighted sums seen in the diagonal block. -/
def seen1 : FVec F S512x1 .f32 :=
  k0_pay36 (k0_pay22 (F := F)) (k0_pay31 k0_pay16 k0_pay17 (k0_pay20 d) k0_pay22 (k0_pay25 (rowsOf V i)) (k0_pay26 (k0_pay19 q) (rowsOf K i))
    (k0_pay27 (k0_pay19 q) (rowsOf K i)))

/-- The query gradient from the diagonal block. -/
def dq1 : FVec F S512x128 .f32 :=
  k0_pay37 (k0_pay23 (F := F)) (k0_pay24 (rowsOf K i)) (k0_pay32 k0_pay16 k0_pay17 k0_pay18 (k0_pay20 d) (k0_pay21 d o) k0_pay22
    (k0_pay25 (rowsOf V i)) (k0_pay26 (k0_pay19 q) (rowsOf K i)) (k0_pay27 (k0_pay19 q) (rowsOf K i)))

/-- The key gradient with the diagonal block's terms. -/
def dk1 (dk : Vec F S8192x128 .f32) : Vec F S8192x128 .f32 :=
  putRows dk i (k0_pay33 k0_pay16 k0_pay17 k0_pay18 (k0_pay19 q) (k0_pay20 d) (k0_pay21 d o) k0_pay22 (k0_pay25 (rowsOf V i))
    (k0_pay26 (k0_pay19 q) (rowsOf K i)) (k0_pay27 (k0_pay19 q) (rowsOf K i)) (rowsOf dk i))

/-- The value gradient with the diagonal block's terms. -/
def dv1 (dv : Vec F S8192x128 .f32) : Vec F S8192x128 .f32 :=
  putRows dv i (k0_pay34 (k0_pay20 d) (k0_pay30 k0_pay16 k0_pay17 k0_pay22 (k0_pay26 (k0_pay19 q) (rowsOf K i))
    (k0_pay27 (k0_pay19 q) (rowsOf K i))) (rowsOf dv i))

/-- The mask of the block before the diagonal: nothing at the first query block. -/
abbrev msk : IVec S512x256 1 := k0_pay38 (BitVec.ofNat 32 i)

/-- The key gradient with the terms of the block before the diagonal. -/
def dk2 (dk : Vec F S8192x128 .f32) : Vec F S8192x128 .f32 :=
  putRows dk (i - 1) (k0_pay49 k0_pay17 k0_pay18 (k0_pay19 q) (k0_pay20 d) (k0_pay21 d o) (carry1 i q K) (seen1 i q K V d) (msk i)
    (k0_pay40 (rowsOf V (i - 1))) (k0_pay41 (k0_pay19 q) (rowsOf K (i - 1))) (k0_pay42 (k0_pay19 q) (rowsOf K (i - 1))) k0_pay43 (rowsOf dk (i - 1)))

/-- The value gradient with the terms of the block before the diagonal. -/
def dv2 (dv : Vec F S8192x128 .f32) : Vec F S8192x128 .f32 :=
  putRows dv (i - 1) (k0_pay1 (k0_pay20 d) (k0_pay46 k0_pay17 (carry1 i q K) (msk i) (k0_pay41 (k0_pay19 q) (rowsOf K (i - 1)))
    (k0_pay42 (k0_pay19 q) (rowsOf K (i - 1))) k0_pay43) (rowsOf dv (i - 1)))

/-- The masked log-probabilities of staying, of the block before the diagonal. -/
abbrev stay2 : FVec F S512x256 .f32 := k0_pay44 (msk i) (k0_pay42 (k0_pay19 q) (rowsOf K (i - 1))) k0_pay43

/-- The weighted sums seen in both blocks. -/
def seen2 : FVec F S512x1 .f32 :=
  k0_pay3 (seen1 i q K V d) (k0_pay47 k0_pay17 (k0_pay20 d) (carry1 i q K) (msk i) (k0_pay40 (rowsOf V (i - 1)))
    (k0_pay41 (k0_pay19 q) (rowsOf K (i - 1))) (k0_pay42 (k0_pay19 q) (rowsOf K (i - 1))) k0_pay43)

/-- The query gradient from both blocks. -/
def dq2 : FVec F S512x128 .f32 :=
  k0_pay4 (dq1 i q K V d o) (k0_pay39 (rowsOf K (i - 1))) (k0_pay48 k0_pay17 k0_pay18 (k0_pay20 d) (k0_pay21 d o) (carry1 i q K) (seen1 i q K V d) (msk i)
    (k0_pay40 (rowsOf V (i - 1))) (k0_pay41 (k0_pay19 q) (rowsOf K (i - 1))) (k0_pay42 (k0_pay19 q) (rowsOf K (i - 1))) k0_pay43)

/-- The sweep over the blocks before those two. -/
def rest (dk dv : Vec F S8192x128 .f32) : FVec F S512x128 .f32 × Vec F S8192x128 .f32 × Vec F S8192x128 .f32 :=
  sweep K V (k0_pay19 q) k0_pay17 (k0_pay20 d) k0_pay18 (k0_pay21 d o) (i - 1) (k0_pay5 (carry1 i q K) (stay2 i q K))
    (k0_pay2 (carry1 i q K) (stay2 i q K)) (seen2 i q K V d) (dq2 i q K V d o)
    (dk2 i q K V d o (dk1 i q K V d o dk)) (dv2 i q K d (dv1 i q K d dv))

/-- What the body leaves: the query gradient's block, the gradients of the keys and of the values. -/
def point (dk dv : Vec F S8192x128 .f32) : Vec F S256x128 .f32 × Vec F S8192x128 .f32 × Vec F S8192x128 .f32 :=
  (k0_pay6 (rest i q K V d o dk dv).1, (rest i q K V d o dk dv).2.1, (rest i q K V d o dk dv).2.2)

end Point

theorem off2_eq (i : grid0.Coords) : k0_off2 i = ![256 * ((i 1).val - 1), 0] :=
  (by decide : ∀ n : Fin 32, (![(Scalar.indexCast (Scalar.muli (Scalar.maxsi (Scalar.subi (BitVec.ofNat 32 n.val) 1#32) 0#32) 256#32)).toNat, (0#32 : BitVec 32).toNat] : Fin 2 → ℕ)
    = ![256 * (n.val - 1), 0]) (i 1)

section Wp

variable (c : Dev nD) (i : grid0.Coords)
  (arg2 : Memref sig .tc .vmem S256x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S256x128 .bf16) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S8192x128 .f32) (harg8 : arg8.IsWhole) (arg9 : Memref sig .tc .vmem S8192x128 .f32) (harg9 : arg9.IsWhole)
  (q : Vec F S256x128 .bf16) (K V : Vec F S8192x128 .bf16) (d : Vec F S256x128 .bf16) (o : Vec F S256x128 .f32)

/-- The gradients of keys and values a point starts from: zero at the first query block. -/
def from0 (dk : Vec F S8192x128 .f32) : Vec F S8192x128 .f32 := if cond0_0 i then k0_pay14 else dk

theorem pay15_eq : (k0_pay15 : FVec F S8192x128 .f32) = k0_pay14 := rfl

set_option maxHeartbeats 4000000 in
theorem body_wp (E : Set ℕ) (dq : Vec F S256x128 .f32) (dk dv : Vec F S8192x128 .f32) (Q : PUnit → sProp 𝕄) :
    iprop(owns (c : Thread nD τ) arg2 fullShare q ∗ owns (c : Thread nD τ) arg3 fullShare K ∗ owns (c : Thread nD τ) arg4 fullShare V
      ∗ owns (c : Thread nD τ) arg5 fullShare d ∗ owns (c : Thread nD τ) arg6 fullShare o ∗ owns (c : Thread nD τ) arg7 fullShare dq
      ∗ owns (c : Thread nD τ) arg8 fullShare dk ∗ owns (c : Thread nD τ) arg9 fullShare dv
      ∗ ((owns (c : Thread nD τ) arg2 fullShare q ∗ owns (c : Thread nD τ) arg3 fullShare K ∗ owns (c : Thread nD τ) arg4 fullShare V
        ∗ owns (c : Thread nD τ) arg5 fullShare d ∗ owns (c : Thread nD τ) arg6 fullShare o
        ∗ owns (c : Thread nD τ) arg7 fullShare (point (i 1).val q K V d o (from0 i dk) (from0 i dv)).1
        ∗ owns (c : Thread nD τ) arg8 fullShare (point (i 1).val q K V d o (from0 i dk) (from0 i dv)).2.1
        ∗ owns (c : Thread nD τ) arg9 fullShare (point (i 1).val q K V d o (from0 i dk) (from0 i dv)).2.2) -∗ Q ⟨⟩))
      ⊢ wp frame (wpE (defs₀ (F := F)) trips (c : Thread nD τ) none) E
          (cc0_attention_bwd i arg2 harg2 arg3 harg3 arg4 harg4 arg5 harg5 arg6 harg6 arg7 harg7 arg8 harg8 arg9 harg9) Q := by
  have hi : (i 1).val < 32 := (i 1).isLt
  have ho1 := k0_off1_eq i
  have ho2 := off2_eq i
  simp only [cc0_attention_bwd_eq_skeleton]; unfold cc0_attention_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have hi' : (i 1).val - 1 < 32 := by omega
  by_cases hc : cond0_0 i
  case' pos =>
    have e8 : from0 i dk = k0_pay14 := if_pos hc
    have e9 : from0 i dv = k0_pay15 := if_pos hc
    unfold cond0_0 at hc
    rw [e8, e9]
    simp only [hc, ↓reduceDIte, Prog.lift, Prog.bind_op, Prog.bind_ret, Prog.pure_eq_ret]
    iintro ⟨H2, H3, H4, H5, H6, H7, H8, H9, Hk⟩
    iapply (wp_load_all trips (c : Thread nD τ) none E _) $$ H8; iintro H8
    iapply (wp_store_all trips (c : Thread nD τ) none E _) $$ H8; iintro H8
    iapply (wp_load_all trips (c : Thread nD τ) none E _) $$ H9; iintro H9
    iapply (wp_store_all trips (c : Thread nD τ) none E _) $$ H9; iintro H9
  case' neg =>
    have e8 : from0 i dk = dk := if_neg hc
    have e9 : from0 i dv = dv := if_neg hc
    unfold cond0_0 at hc
    rw [e8, e9]
    simp only [hc, ↓reduceDIte, Prog.lift, Prog.bind_op, Prog.bind_ret, Prog.pure_eq_ret]
    iintro ⟨H2, H3, H4, H5, H6, H7, H8, H9, Hk⟩
  all_goals
    iapply (wp_load_all trips (c : Thread nD τ) none E _) $$ H2; iintro H2
    iapply (wp_load_all trips (c : Thread nD τ) none E _) $$ H5; iintro H5
    iapply (wp_load_all trips (c : Thread nD τ) none E _) $$ H5; iintro H5
    iapply (wp_load_all trips (c : Thread nD τ) none E _) $$ H6; iintro H6
    iapply (wp_load_rows trips (c : Thread nD τ) none E _ (i 1).val hi ho1) $$ H3; iintro H3
    iapply (wp_load_rows trips (c : Thread nD τ) none E _ (i 1).val hi ho1) $$ H4; iintro H4
    iapply (wp_load_rows trips (c : Thread nD τ) none E _ (i 1).val hi ho1) $$ H8; iintro H8
    iapply (wp_load_rows trips (c : Thread nD τ) none E _ (i 1).val hi ho1) $$ H8; iintro H8
    iapply (wp_store_rows trips (c : Thread nD τ) none E _ (i 1).val ho1) $$ H8; iintro H8
    iapply (wp_load_rows trips (c : Thread nD τ) none E _ (i 1).val hi ho1) $$ H9; iintro H9
    iapply (wp_load_rows trips (c : Thread nD τ) none E _ (i 1).val hi ho1) $$ H9; iintro H9
    iapply (wp_store_rows trips (c : Thread nD τ) none E _ (i 1).val ho1) $$ H9; iintro H9
    iapply (wp_load_rows trips (c : Thread nD τ) none E _ ((i 1).val - 1) hi' ho2) $$ H3; iintro H3
    iapply (wp_load_rows trips (c : Thread nD τ) none E _ ((i 1).val - 1) hi' ho2) $$ H4; iintro H4
    iapply (wp_load_rows trips (c : Thread nD τ) none E _ ((i 1).val - 1) hi' ho2) $$ H8; iintro H8
    iapply (wp_load_rows trips (c : Thread nD τ) none E _ ((i 1).val - 1) hi' ho2) $$ H8; iintro H8
    iapply (wp_store_rows trips (c : Thread nD τ) none E _ ((i 1).val - 1) ho2) $$ H8; iintro H8
    iapply (wp_load_rows trips (c : Thread nD τ) none E _ ((i 1).val - 1) hi' ho2) $$ H9; iintro H9
    iapply (wp_load_rows trips (c : Thread nD τ) none E _ ((i 1).val - 1) hi' ho2) $$ H9; iintro H9
    iapply (wp_store_rows trips (c : Thread nD τ) none E _ ((i 1).val - 1) ho2) $$ H9; iintro H9
    iapply (wp_call_spec trips (c : Thread nD τ) none E
      (spec c arg3 arg4 arg8 arg9 K V (sweep K V _ _ _ _ _ ((i 1).val - 1) _ _ _ _ _ _) _ _) ((i 1).val - 1)
      (fun u hu => nomatch hu) (spec_le c i arg3 harg3 arg4 harg4 arg8 harg8 arg9 harg9 K V _ _ _ _ _ E _ _ (ctr_start _ hi) _ _ _ _ _ _))
    rw [spec_apply]; unfold held
    isplitl [H3 H4 H8 H9]
    · isplitl [H3]; · iexact H3
      isplitl [H4]; · iexact H4
      isplitl [H8]; · iexact H8
      iexact H9
    iintro %r %hr ⟨H3, H4, H8, H9⟩
    rw [hr]
    iapply (wp_load_all trips (c : Thread nD τ) none E _) $$ H7; iintro H7
    iapply (wp_store_all trips (c : Thread nD τ) none E _) $$ H7; iintro H7
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Wp

end Cert.KernelIdeal.Hand

end
-- ==== Proof.KI.Run.lean ====
/-
  The run. After the body at each point the output windows hold `outs`: the query gradient's block, and the gradients of
  keys and values accumulated over the head pair's points so far. The body meets the pipeline's obligation at every point,
  so the program runs, ends with every counter at zero and the arguments unchanged (`frame`), and leaves each output
  array at what the points wrote back (`run_main`).
-/
module

public import proofs.«01_k».proof.Proof.KI.Body
public import Idealize.ShloMosaic.Lib.Claim

@[expose] public section

set_option maxRecDepth 16384

noncomputable section

namespace Cert.KernelIdeal.Hand

open Cert.KernelIdeal Cert.KernelIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves at point `t` over gradients `dk`, `dv` of keys and values so far. -/
def pointAt (c : Dev nD) (t : Fin (cfg0 (F := F)).N) (dk dv : Vec F S8192x128 .f32) :
    Vec F S256x128 .f32 × Vec F S8192x128 .f32 × Vec F S8192x128 .f32 :=
  point (grid0.coords t 1).val (iblk m c 0 t) (iblk m c 1 t) (iblk m c 2 t) (iblk m c 3 t) (iblk m c 4 t)
    (from0 (grid0.coords t) dk) (from0 (grid0.coords t) dv)

/-- What the output windows hold after each point. -/
def outs (c : Dev nD) : (n : ℕ) → n < (cfg0 (F := F)).N → Vec F S256x128 .f32 × Vec F S8192x128 .f32 × Vec F S8192x128 .f32
  | 0, hn => pointAt m c ⟨0, hn⟩ k0_pay14 k0_pay14
  | n + 1, hn => pointAt m c ⟨n + 1, hn⟩ (outs c n (Nat.lt_of_succ_lt hn)).2.1 (outs c n (Nat.lt_of_succ_lt hn)).2.2

/-- At the first query block of a head pair what the windows held does not matter. -/
theorem outs_first (c : Dev nD) (t : Fin (cfg0 (F := F)).N) (h0 : t.val % 32 = 0) (dk dv : Vec F S8192x128 .f32) :
    outs m c t.val t.isLt = pointAt m c t dk dv := by
  have e : ∀ x y : Vec F S8192x128 .f32, from0 (F := F) (grid0.coords t) x = from0 (grid0.coords t) y := fun x y =>
    (if_pos ((hcond0_0 t).mpr h0)).trans (if_pos ((hcond0_0 t).mpr h0)).symm
  have hp : ∀ x y, pointAt m c t x y = pointAt m c t dk dv := fun x y => by unfold pointAt; rw [e x dk, e y dv]
  obtain ⟨n, hn⟩ := t
  cases n with
  | zero => exact hp _ _
  | succ n => exact hp _ _

theorem outs_next (c : Dev nD) (t : Fin (cfg0 (F := F)).N) (h0 : ¬t.val % 32 = 0) :
    outs m c t.val t.isLt = pointAt m c t (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd (Nat.zero_mod _) h0
  | succ n => rfl

/-- The pipeline's proof data: the inputs at their blocks, the outputs at `outs`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2
  Φ _ := Pipeline.ΦA spec0 c
  q _ := fullShare
  owed _ := 0

theorem A_eq (c : Dev nD) (w : Fin (cfg0 (F := F)).W) : (dats m 0 c).A w = V m c (Pipeline.arrRef spec0 w) := by
  (dsimp only [dats]) <;> rfl

theorem after0_0 (c : Dev nD) (t : Fin (cfg0 (F := F)).N) : (dats m 0 c).after 0 t = iblk m c 0 t := by (dsimp only [dats]) <;> rfl
theorem after0_1 (c : Dev nD) (t : Fin (cfg0 (F := F)).N) : (dats m 0 c).after 1 t = iblk m c 1 t := by (dsimp only [dats]) <;> rfl
theorem after0_2 (c : Dev nD) (t : Fin (cfg0 (F := F)).N) : (dats m 0 c).after 2 t = iblk m c 2 t := by (dsimp only [dats]) <;> rfl
theorem after0_3 (c : Dev nD) (t : Fin (cfg0 (F := F)).N) : (dats m 0 c).after 3 t = iblk m c 3 t := by (dsimp only [dats]) <;> rfl
theorem after0_4 (c : Dev nD) (t : Fin (cfg0 (F := F)).N) : (dats m 0 c).after 4 t = iblk m c 4 t := by (dsimp only [dats]) <;> rfl
theorem after0_5 (c : Dev nD) (t : Fin (cfg0 (F := F)).N) : (dats m 0 c).after 5 t = (outs m c t.val t.isLt).1 := by (dsimp only [dats]) <;> rfl
theorem after0_6 (c : Dev nD) (t : Fin (cfg0 (F := F)).N) : (dats m 0 c).after 6 t = (outs m c t.val t.isLt).2.1 := by (dsimp only [dats]) <;> rfl
theorem after0_7 (c : Dev nD) (t : Fin (cfg0 (F := F)).N) : (dats m 0 c).after 7 t = (outs m c t.val t.isLt).2.2 := by (dsimp only [dats]) <;> rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

theorem before0_6_next (c : Dev nD) (t : Fin (cfg0 (F := F)).N) (h0 : ¬t.val % 32 = 0) (d) :
    (dats m 0 c).before 6 t d = (outs m c (t.val - 1) (Nat.lt_of_le_of_lt (Nat.sub_le _ _) t.isLt)).2.1 := by
  have hN : t.val < 256 := lt_of_lt_of_eq t.isLt (show (cfg0 (F := F)).N = 256 from N_0)
  rw [Dat.before_out_kept _ 6 rfl t (by omega) (Bool.eq_false_iff.mpr fun h => by have := (flush0_6 _).mp h; dsimp only at this; omega)
    (fun _ => rfl) (fun _ _ => rfl)]
  (dsimp only [dats]) <;> rfl

theorem before0_7_next (c : Dev nD) (t : Fin (cfg0 (F := F)).N) (h0 : ¬t.val % 32 = 0) (d) :
    (dats m 0 c).before 7 t d = (outs m c (t.val - 1) (Nat.lt_of_le_of_lt (Nat.sub_le _ _) t.isLt)).2.2 := by
  have hN : t.val < 256 := lt_of_lt_of_eq t.isLt (show (cfg0 (F := F)).N = 256 from N_0)
  rw [Dat.before_out_kept _ 7 rfl t (by omega) (Bool.eq_false_iff.mpr fun h => by have := (flush0_7 _).mp h; dsimp only at this; omega)
    (fun _ => rfl) (fun _ _ => rfl)]
  (dsimp only [dats]) <;> rfl

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin (cfg0 (F := F)).N) :
    bodyPre m c t ⊢ wp frame (wpE (defs₀ (F := F)) trips c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 32 = 0
  case' pos =>
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    rw [outs_first m c t h0 ((dats m 0 c).before 6 t d6) ((dats m 0 c).before 7 t d7)]
  case' neg =>
    simp only [before0_6_next m c t h0, before0_7_next m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    rw [outs_next m c t h0]
  all_goals
    unfold pointAt
    iapply (body_wp c (grid0.coords t) _ _ _ _ _ _ _ _ _ _ _ _ _ _ _ _ (iblk m c 0 t) (iblk m c 1 t) (iblk m c 2 t) (iblk m c 3 t) (iblk m c 4 t) Set.univ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The obligation the pipeline asks of the body, at every point. -/
theorem body_obligation (c : Dev nD) : BodyObligation (dats (F := F) m 0 c) (defs₀ (F := F)) trips () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
/-- Every execution ends with each array of the pipeline at what the points wrote back and every counter at zero. -/
theorem run_main_quiescent : θ_run defs (onTc (τ := τ) (main (F := F))) (s₀ m ρ)
    (fun r => (Pipeline.FramePost (cfgs (F := F)) (dats m) 0 (V m)) r ∧ r.2.sem = fun _ => 0) :=
  Pipeline.θ_run_frame (Q' := _) (cfgs (F := F)) (dats m) (0 : Fin 1) launch0 defs₀ trips m ρ main
    (hbody := fun c => (body_obligation m c).loose) (hshare := fun c => (dats m 0 c).share_full fun _ => rfl)
    (howed := fun _ _ => rfl) (V := V m) (hmain := hmain m trips) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.R.Ops.lean ====
/-
  The reference's values by name: scores, softplus, the weights, the output, the gradient of the scores, the three
  gradients. `dq_eq`, `dk_eq`, `dv_eq` say that the results its run leaves are these.
-/
module

public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

/-- A head's scores. -/
abbrev T3 (F : FTy → Type) := FVec F S16x8192x8192 .f32
/-- A head's rows. -/
abbrev H3 (F : FTy → Type) := FVec F S16x8192x64 .f32
/-- An argument. -/
abbrev A2 (F : FTy → Type) := FVec F S8192x1024 .f32

/-- A constant everywhere. -/
def cst (b : BitVec 32) : T3 F := broadcastInDim S16x8192x8192 ![] bcast_S_S16x8192x8192 (constant S_ .f32 b)
/-- Head by head. -/
def hd (x : A2 F) : H3 F := transpose S16x8192x64 [1, 0, 2] (shapeCast S8192x16x64 x shapeCasts_S8192x1024_S8192x16x64) transposes_S8192x16x64_S16x8192x64_1_0_2
/-- The heads side by side again. -/
def unhd (x : H3 F) : A2 F := shapeCast S8192x1024 (transpose S8192x16x64 [1, 0, 2] x transposes_S16x8192x64_S8192x16x64_1_0_2) shapeCasts_S8192x16x64_S8192x1024
/-- The scores. -/
def zed (q k : A2 F) : T3 F := mulf (Host.dotGeneral dot_S16x8192x64_S16x8192x64_S16x8192x8192_2_2_1_1_0_0 none (hd q) (hd k)) (cst 0x3E000000#32)
/-- Which keys a query sees. -/
def causal : IVec S16x8192x8192 1 :=
  broadcastInDim S16x8192x8192 ![1, 2] bcast_S8192x8192_S16x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- The softplus. -/
def spl (x : T3 F) : T3 F :=
  select (cmpf .une (subf x (cst 0x00000000#32)) (subf x (cst 0x00000000#32))) (addf x (cst 0x00000000#32))
    (addf (maximumf x (cst 0x00000000#32)) (Host.log1p (Host.exp (Host.negf (Host.absf (subf x (cst 0x00000000#32)))))))
/-- Its derivative. -/
def dspl (x : T3 F) : T3 F :=
  Host.exp (subf (select (cmpf .oeq x (cst 0x7F800000#32)) (cst 0x00000000#32) x) (select (cmpf .oeq (spl x) (cst 0x7F800000#32)) (cst 0x00000000#32) (spl x)))
/-- The logarithms of the probabilities of staying. -/
def stay (z : T3 F) : T3 F := select causal (Host.negf (spl (Host.negf (Host.negf z)))) (cst 0x00000000#32)
/-- Sums from a key on. -/
def cumr (x : T3 F) : T3 F :=
  Host.reduceWindowAdd ![1, 1, 8192] ![1, 1, 1] ![0, 0, 0] ![0, 0, 8191] x (broadcastInDim S_ ![] bcast_S_S_ (constant S_ .f32 0x00000000#32)) reduceWindows_S16x8192x8192_S16x8192x8192_w1s1p0_0_w1s1p0_0_w8192s1p0_8191 h_S_
/-- Sums up to a key. -/
def cumf (x : T3 F) : T3 F :=
  Host.reduceWindowAdd ![1, 1, 8192] ![1, 1, 1] ![0, 0, 8191] ![0, 0, 0] x (broadcastInDim S_ ![] bcast_S_S_ (constant S_ .f32 0x00000000#32)) reduceWindows_S16x8192x8192_S16x8192x8192_w1s1p0_0_w1s1p0_0_w8192s1p8191_0 h_S_
/-- The weights before the mask. -/
def wraw (z : T3 F) : T3 F := Host.exp (addf (Host.negf (spl (Host.negf z))) (subf (cumr (stay z)) (stay z)))
/-- The weights. -/
def wts (z : T3 F) : T3 F := select causal (wraw z) (cst 0x00000000#32)
/-- The forward's output. -/
def outp (q k v : A2 F) : A2 F := unhd (Host.dotGeneral dot_S16x8192x8192_S16x8192x64_S16x8192x64_2_1_1_2_0_0 none (wts (zed q k)) (hd v))
/-- The weighted products. -/
def gpr (z : T3 F) (v d : A2 F) : T3 F :=
  mulf (select causal (Host.dotGeneral dot_S16x8192x64_S16x8192x64_S16x8192x8192_2_2_1_1_0_0 none (hd d) (hd v)) (cst 0x00000000#32)) (wraw z)
/-- The gradient of the logarithms of staying. -/
def dst (g : T3 F) : T3 F := select causal (addf (Host.negf g) (cumf g)) (cst 0x00000000#32)
/-- The gradient of the scores. -/
def dzed (z g : T3 F) : T3 F :=
  mulf (addf (Host.negf (mulf (Host.negf g) (dspl (Host.negf z)))) (Host.negf (Host.negf (mulf (Host.negf (dst g)) (dspl (Host.negf (Host.negf z))))))) (cst 0x3E000000#32)
/-- The gradient of the queries. -/
def dq (q k v d : A2 F) : A2 F :=
  unhd (Host.dotGeneral dot_S16x8192x8192_S16x8192x64_S16x8192x64_2_1_1_2_0_0 none (dzed (zed q k) (gpr (zed q k) v d)) (hd k))
/-- The gradient of the keys. -/
def dk (q k v d : A2 F) : A2 F :=
  unhd (Host.dotGeneral dot_S16x8192x8192_S16x8192x64_S16x8192x64_1_1_2_2_0_0 none (dzed (zed q k) (gpr (zed q k) v d)) (hd q))
/-- The gradient of the values. -/
def dv (q k d : A2 F) : A2 F :=
  unhd (transpose S16x8192x64 [0, 2, 1] (Host.dotGeneral dot_S16x8192x64_S16x8192x8192_S16x64x8192_1_1_2_2_0_0 none (hd d) (wts (zed q k))) transposes_S16x64x8192_S16x8192x64_0_2_1)

variable (m : (ℓ : Loc nD τ sig) → Buf (Elt F) ℓ) (c : Dev nD)

set_option maxHeartbeats 4000000 in
theorem dv_eq : Value.res_out2 m c = dv (F := F) (m ((c.tc : Thread nD τ).loc main_arg0)) (m ((c.tc : Thread nD τ).loc main_arg1)) (m ((c.tc : Thread nD τ).loc main_arg3)) := rfl
set_option maxHeartbeats 4000000 in
theorem dk_eq : Value.res_out1 m c = dk (F := F) (m ((c.tc : Thread nD τ).loc main_arg0)) (m ((c.tc : Thread nD τ).loc main_arg1)) (m ((c.tc : Thread nD τ).loc main_arg2)) (m ((c.tc : Thread nD τ).loc main_arg3)) := rfl
set_option maxHeartbeats 4000000 in
theorem dq_eq : Value.res_out0 m c = dq (F := F) (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Hand
end
-- ==== Proof.KI.Arr.lean ====
/-
  The arrays the grid reads, as the host leaves them: the queries over eight, the keys, values and output gradient as
  given, and the forward's output, which is the reference's.
-/
module

public import proofs.«01_k».proof.Proof.KI.Host
public import proofs.«01_k».proof.Proof.R.Ops
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (m : (ℓ : Loc nD τ sig) → Buf (Elt F) ℓ) (c : Dev nD)

theorem V_q : V m c main_v30 = truncf .bf16 (mulf (m ((c.tc : Thread nD τ).loc main_arg0) : FVec F S8192x1024 .f32)
    (broadcastInDim S8192x1024 ![] bcast_S_S8192x1024 (constant S_ .f32 0x3E000000#32))) bitsLt_bf16_f32 := by
  rfl
theorem V_k : V m c main_v31 = truncf .bf16 (m ((c.tc : Thread nD τ).loc main_arg1) : FVec F S8192x1024 .f32) bitsLt_bf16_f32 := by
  rfl
theorem V_v : V m c main_v32 = truncf .bf16 (m ((c.tc : Thread nD τ).loc main_arg2) : FVec F S8192x1024 .f32) bitsLt_bf16_f32 := by
  rfl
theorem V_d : V m c main_v33 = truncf .bf16 (m ((c.tc : Thread nD τ).loc main_arg3) : FVec F S8192x1024 .f32) bitsLt_bf16_f32 := by
  rfl
set_option maxHeartbeats 2000000 in
theorem V_o : V m c main_v27 = ReferenceIdeal.Hand.outp (F := F) (m ((c.tc : Thread nD τ).loc main_arg0)) (m ((c.tc : Thread nD τ).loc main_arg1))
    (m ((c.tc : Thread nD τ).loc main_arg2)) := by
  rfl

end Cert.KernelIdeal.Hand
end
-- ==== Proof.Rl.lean ====
/-
  Real numbers among the extended reals. `Is2 X x` says the matrix `X` of extended reals holds the real numbers `x`;
  sums, choices, the exponential and the logarithm of reals are reals. `sp` is the softplus.
-/
module

public import Idealize.ShloMosaic.Lib.Pointwise
public import Idealize.ShloMosaic.Lib.IdealHost

@[expose] public section

noncomputable section

namespace Cert.Rl

open Idealize.ShloMosaic
open scoped BigOperators

theorem coe_sum {ι : Type*} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

theorem coe_ite (b : Bool) (x y : ℝ) : ((if b then x else y : ℝ) : EReal) = if b then (x : EReal) else (y : EReal) := by
  cases b <;> rfl

theorem select_ofBool {α : Type} (b : Bool) (x y : α) : Scalar.select (BitVec.ofBool b) x y = if b then x else y := by
  cases b <;> rfl

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

theorem coe_max (x y : ℝ) : ((max x y : ℝ) : EReal) = max (x : EReal) (y : EReal) :=
  (EReal.coe_strictMono.monotone.map_max)

theorem abs_coe (x : ℝ) : max (x : EReal) (-(x : EReal)) = ((|x| : ℝ) : EReal) := by
  rw [← EReal.coe_neg, ← coe_max]; rfl

/-- The softplus. -/
def sp (z : ℝ) : ℝ := max z 0 + Real.log (1 + Real.exp (-|z|))

theorem one_add_exp_pos (x : ℝ) : 0 < 1 + Real.exp x := by positivity

theorem exp_sp (z : ℝ) : Real.exp (sp z) = 1 + Real.exp z := by
  unfold sp
  rw [Real.exp_add, Real.exp_log (one_add_exp_pos _)]
  rcases le_total 0 z with h | h
  · rw [max_eq_left h, abs_of_nonneg h, mul_add, ← Real.exp_add]; simp [add_comm]
  · rw [max_eq_right h, abs_of_nonpos h]; simp

theorem sp_eq (z : ℝ) : sp z = Real.log (1 + Real.exp z) := by rw [← exp_sp, Real.log_exp]

/-- `-softplus(-z) = z - softplus z`. -/
theorem sp_neg (z : ℝ) : sp (-z) = sp z - z := by
  unfold sp; rw [abs_neg]
  rcases le_total 0 z with h | h
  · rw [max_eq_left h, max_eq_right (by linarith)]; ring
  · rw [max_eq_right h, max_eq_left (by linarith)]; ring

/-- The probability of staying is one less that of stopping. -/
theorem exp_neg_sp (z : ℝ) : Real.exp (-sp z) = 1 - Real.exp (z - sp z) := by
  have h := exp_sp z
  have hp := Real.exp_pos (sp z)
  rw [Real.exp_neg, Real.exp_sub, h]
  have : (1 + Real.exp z) ≠ 0 := (one_add_exp_pos z).ne'
  field_simp; ring

/-- The softplus as a program computes it of a real number. -/
theorem sp_coe (z : ℝ) : max (z : EReal) 0 + Ideal.log (1 + Ideal.exp (0 - max (z : EReal) (-(z : EReal)))) = ((sp z : ℝ) : EReal) := by
  rw [abs_coe, ← EReal.coe_zero, ← EReal.coe_one, ← EReal.coe_sub, exp_coe, ← EReal.coe_add, log_coe (one_add_exp_pos _), ← coe_max,
    ← EReal.coe_add]
  unfold sp; rw [zero_sub]

/-- A matrix that holds real numbers. -/
def Is2 {n m : ℕ} (X : (⟨2, ![n, m]⟩ : Shape).Idx → EReal) (x : ℕ → ℕ → ℝ) : Prop :=
  ∀ (r : Fin n) (c : Fin m), X (ix2 r c) = ((x r.val c.val : ℝ) : EReal)

/-- A matrix of bits that holds truth values. -/
def IsB {n m : ℕ} (X : IVec ⟨2, ![n, m]⟩ 1) (x : ℕ → ℕ → Bool) : Prop :=
  ∀ (r : Fin n) (c : Fin m), X (ix2 r c) = BitVec.ofBool (x r.val c.val)

theorem Is2.congr {n m : ℕ} {X : (⟨2, ![n, m]⟩ : Shape).Idx → EReal} {x y : ℕ → ℕ → ℝ} (h : Is2 X x)
    (e : ∀ r < n, ∀ c < m, x r c = y r c) : Is2 X y := fun r c => by rw [h r c, e _ r.isLt _ c.isLt]

end Cert.Rl

end
-- ==== Proof.KI.Step.lean ====
/-
  One key block of the gradient, over the reals. The three copies of the step that the body spells (the diagonal block,
  the one before it, the loop's) are one step under a mask; of matrices of real numbers each of its values is a matrix
  of real numbers, written out here.
-/
module

public import proofs.«01_k».proof.Proof.KI.Body
public import proofs.«01_k».proof.Proof.Rl

@[expose] public section

set_option maxRecDepth 16384

noncomputable section

namespace Cert.KernelIdeal.Hand

open Cert.KernelIdeal Cert.KernelIdeal.Gen Cert.Rows Cert.Rl
open Idealize.ShloMosaic
open scoped BigOperators

/-! ### The step's real values -/

/-- Row by row inner products over a head pair's lanes. -/
def zr (q k : ℕ → ℕ → ℝ) (r c : ℕ) : ℝ := ∑ x : Fin 128, q r x * k c x
/-- One where the row lies after the column. -/
def aftR (x c : ℕ) : ℝ := if decide (c < x) then 1 else 0
/-- One where the row lies at the column or after it. -/
def frmR (x c : ℕ) : ℝ := if decide (c ≤ x) then 1 else 0
/-- Logarithms of the probabilities of staying, zero where masked. -/
def stayR (M : ℕ → ℕ → Bool) (z : ℕ → ℕ → ℝ) (r c : ℕ) : ℝ := if M r c then -sp (z r c) else 0
/-- The weights. -/
def wR (M : ℕ → ℕ → Bool) (z : ℕ → ℕ → ℝ) (C : ℕ → ℝ) (r c : ℕ) : ℝ :=
  if M r c then Real.exp (z r c - sp (z r c) + ∑ x : Fin 256, stayR M z r x * aftR x c + C r) else 0
/-- The weights times the products of the output's gradient with the values. -/
def gR (w u : ℕ → ℕ → ℝ) (r c : ℕ) : ℝ := w r c * u r c
/-- The gradient of the scores. -/
def daR (M : ℕ → ℕ → Bool) (z g : ℕ → ℕ → ℝ) (T S : ℕ → ℝ) (r c : ℕ) : ℝ :=
  if M r c then g r c * (1 - Real.exp (z r c - sp (z r c)))
    - (T r - (∑ x : Fin 256, g r x * frmR x c + S r)) * Real.exp (z r c - sp (z r c)) else 0

/-! ### The masks -/

theorem bit_real (b : Bool) : FloatOps.sitofp (F := Ideal) .f32 (BitVec.setWidth 32 (BitVec.ofBool b)) = (((if b then 1 else 0 : ℝ)) : EReal) := by
  show ((((BitVec.ofBool b).setWidth 32).toInt : ℝ) : EReal) = _
  cases b <;> simp

theorem toInt_small {a : ℕ} (ha : a < 8192) : (BitVec.ofNat 32 a).toInt = (a : ℤ) := by
  rw [BitVec.toInt_eq_toNat_cond, BitVec.toNat_ofNat]
  rw [Nat.mod_eq_of_lt (by omega), if_pos (by omega)]

theorem slt_small {a b : ℕ} (ha : a < 8192) (hb : b < 8192) : IntOp.cmpi .slt (BitVec.ofNat 32 a) (BitVec.ofNat 32 b) = BitVec.ofBool (decide (a < b)) := by
  show BitVec.ofBool (BitVec.slt _ _) = _
  rw [BitVec.slt, toInt_small ha, toInt_small hb]; simp

theorem sge_small {a b : ℕ} (ha : a < 8192) (hb : b < 8192) : IntOp.cmpi .sge (BitVec.ofNat 32 a) (BitVec.ofNat 32 b) = BitVec.ofBool (decide (b ≤ a)) := by
  show BitVec.ofBool (BitVec.sle _ _) = _
  rw [BitVec.sle, toInt_small ha, toInt_small hb]; simp

theorem sgt_small {a b : ℕ} (ha : a < 8192) (hb : b < 8192) : IntOp.cmpi .sgt (BitVec.ofNat 32 a) (BitVec.ofNat 32 b) = BitVec.ofBool (decide (b < a)) := by
  show BitVec.ofBool (BitVec.slt _ _) = _
  rw [BitVec.slt, toInt_small ha, toInt_small hb]; simp

theorem pay17_is : Is2 (k0_pay17 (F := Ideal)) aftR := by
  intro r c
  pointwise [k0_pay17]
  rw [sgt_small (by omega) (by omega), bit_real]; rfl

theorem pay18_is : Is2 (k0_pay18 (F := Ideal)) frmR := by
  intro r c
  pointwise [k0_pay18]
  rw [sge_small (by omega) (by omega), bit_real]; rfl

theorem pay16_is : IsB k0_pay16 (fun r c => decide (c < r % 256)) := by
  intro r c
  pointwise [k0_pay16]
  rw [show (256#32 : BitVec 32) = BitVec.ofNat 32 256 from rfl, sge_small (by omega) (by omega), select_ofBool]
  have hr := r.isLt
  by_cases h : 256 ≤ r.val
  · rw [if_pos (by simpa using h)]
    have e : BitVec.ofNat 32 r.val - BitVec.ofNat 32 256 = BitVec.ofNat 32 (r.val - 256) := by
      apply BitVec.eq_of_toNat_eq; simp [BitVec.toNat_sub]; omega
    rw [show IntOp.subi (BitVec.ofNat 32 r.val) (BitVec.ofNat 32 256) = _ from e, slt_small (by omega) (by omega)]
    rw [show r.val % 256 = r.val - 256 by omega]
  · rw [if_neg (by simpa using h), slt_small (by omega) (by omega), Nat.mod_eq_of_lt (by omega)]

theorem pay38_is {i : ℕ} (hi : i < 32) : IsB (k0_pay38 (BitVec.ofNat 32 i)) (fun _ _ => decide (0 < i)) := by
  intro r c
  pointwise [k0_pay38]
  exact sgt_small (by omega) (by omega)

/-! ### The payloads -/

variable {q2 do2 : FVec Ideal S512x128 .bf16} {K V : Vec Ideal S256x128 .bf16} {q d k v : ℕ → ℕ → ℝ}

theorem pay41_is (hq : Is2 q2 q) (hk : Is2 K k) : Is2 (k0_pay41 (F := Ideal) q2 K) (zr q k) := by
  intro r c
  pointwise [k0_pay41, k0_pay39]
  simp only [hq _ _, hk _ _, ← EReal.coe_mul, ← coe_sum]; rfl

theorem pay42_is (hq : Is2 q2 q) (hk : Is2 K k) : Is2 (k0_pay42 (F := Ideal) q2 K) (fun r c => sp (zr q k r c)) := by
  intro r c
  have e := pay41_is hq hk r c
  pointwise [k0_pay42]
  rw [e]
  exact sp_coe _

variable {aft frm : FVec Ideal S256x256 .bf16} {msk : IVec S512x256 1} {M : ℕ → ℕ → Bool} {Z SP : FVec Ideal S512x256 .f32} {z : ℕ → ℕ → ℝ}
  {C S T : FVec Ideal S512x1 .f32} {cc ss tt : ℕ → ℝ}

theorem pay44_is (hm : IsB msk M) (hs : Is2 SP (fun r c => sp (z r c))) : Is2 (k0_pay44 (F := Ideal) msk SP k0_pay43) (stayR M z) := by
  intro r c
  pointwise [k0_pay44, k0_pay43]
  rw [hm r c, hs r c, select_ofBool, stayR, coe_ite, EReal.coe_neg, EReal.coe_zero, zero_sub]

theorem pay46_is (ha : Is2 aft aftR) (hm : IsB msk M) (hz : Is2 Z z) (hs : Is2 SP (fun r c => sp (z r c)))
    (hc : Is2 C (fun r _ => cc r)) : Is2 (k0_pay46 (F := Ideal) aft C msk Z SP k0_pay43) (wR M z cc) := by
  intro r c
  have e := fun x => pay44_is hm hs r x
  pointwise [k0_pay46, k0_pay45]
  simp only [e, hm r c, hz r c, hs r c, hc r 0, ha _ _, select_ofBool, wR, coe_ite, EReal.coe_zero, ← EReal.coe_sub, sub_self, ← EReal.coe_mul, zero_mul,
    ← coe_sum, ← EReal.coe_add, exp_coe, Finset.sum_const_zero, add_zero]

theorem pay47_is (ha : Is2 aft aftR) (hm : IsB msk M) (hz : Is2 Z z) (hs : Is2 SP (fun r c => sp (z r c)))
    (hc : Is2 C (fun r _ => cc r)) (hd : Is2 do2 d) (hv : Is2 V v) :
    Is2 (k0_pay47 (F := Ideal) aft do2 C msk (k0_pay40 V) Z SP k0_pay43) (gR (wR M z cc) (zr d v)) := by
  intro r c
  have e := pay46_is ha hm hz hs hc r c
  pointwise [k0_pay47, k0_pay40]
  simp only [e, hd _ _, hv _ _, ← EReal.coe_mul, ← coe_sum]; rfl

theorem pay48_is (ha : Is2 aft aftR) (hf : Is2 frm frmR) (hm : IsB msk M) (hz : Is2 Z z) (hs : Is2 SP (fun r c => sp (z r c)))
    (hc : Is2 C (fun r _ => cc r)) (hS : Is2 S (fun r _ => ss r)) (hT : Is2 T (fun r _ => tt r)) (hd : Is2 do2 d) (hv : Is2 V v) :
    Is2 (k0_pay48 (F := Ideal) aft frm do2 T C S msk (k0_pay40 V) Z SP k0_pay43) (daR M z (gR (wR M z cc) (zr d v)) tt ss) := by
  intro r c
  have e := fun x => pay47_is ha hm hz hs hc hd hv r x
  pointwise [k0_pay48, k0_pay45]
  simp only [e, hm r c, hz r c, hs r c, hS r 0, hT r 0, hf _ _, select_ofBool, daR, coe_ite, EReal.coe_zero, ← EReal.coe_one, ← EReal.coe_sub, sub_self, ← EReal.coe_mul,
    zero_mul, ← coe_sum, ← EReal.coe_add, exp_coe, Finset.sum_const_zero, add_zero]

theorem pay49_is {dk : Vec Ideal S256x128 .f32} {dkr : ℕ → ℕ → ℝ} {da : ℕ → ℕ → ℝ} (hq : Is2 q2 q)
    (e : Is2 (k0_pay48 (F := Ideal) aft frm do2 T C S msk (k0_pay40 V) Z SP k0_pay43) da) (hdk : Is2 dk dkr) :
    Is2 (k0_pay49 (F := Ideal) aft frm q2 do2 T C S msk (k0_pay40 V) Z SP k0_pay43 dk) (fun r l => dkr r l + ∑ x : Fin 512, da x r * q x l) := by
  intro r l
  pointwise [k0_pay49]
  simp only [e _ _, hq _ _, hdk _ _, ← EReal.coe_mul, ← coe_sum, ← EReal.coe_add]

theorem pay1_is {dv : Vec Ideal S256x128 .f32} {dvr : ℕ → ℕ → ℝ} {W : FVec Ideal S512x256 .bf16} {w : ℕ → ℕ → ℝ} (hd : Is2 do2 d)
    (e : Is2 W w) (hdv : Is2 dv dvr) :
    Is2 (k0_pay1 (F := Ideal) do2 W dv) (fun r l => dvr r l + ∑ x : Fin 512, w x r * d x l) := by
  intro r l
  pointwise [k0_pay1]
  simp only [e _ _, hd _ _, hdv _ _, ← EReal.coe_mul, ← coe_sum, ← EReal.coe_add]

theorem pay2_is {W : FVec Ideal S512x256 .f32} {w : ℕ → ℕ → ℝ} (hc : Is2 C (fun r _ => cc r)) (e : Is2 W w) :
    Is2 (k0_pay2 (F := Ideal) C W) (fun r _ => cc r + ∑ x : Fin 256, w r x) := by
  intro r l
  pointwise [k0_pay2]
  simp only [e _ _, hc _ _, ← coe_sum, ← EReal.coe_add]

theorem pay4_is {A : FVec Ideal S512x128 .f32} {a : ℕ → ℕ → ℝ} {W : FVec Ideal S512x256 .bf16} {w : ℕ → ℕ → ℝ} (hA : Is2 A a) (hk : Is2 K k) (e : Is2 W w) :
    Is2 (k0_pay4 (F := Ideal) A (k0_pay39 K) W) (fun r l => a r l + ∑ x : Fin 256, w r x * k x l) := by
  intro r l
  pointwise [k0_pay4, k0_pay39]
  simp only [e _ _, hA _ _, hk _ _, ← EReal.coe_mul, ← coe_sum, ← EReal.coe_add]

theorem pay22_is : Is2 (k0_pay22 (F := Ideal)) (fun _ _ => 0) := by
  intro r l
  pointwise [k0_pay22]
  rfl

theorem pay23_is : Is2 (k0_pay23 (F := Ideal)) (fun _ _ => 0) := by
  intro r l
  pointwise [k0_pay23]
  rfl

theorem pay14_is : Is2 (k0_pay14 (F := Ideal)) (fun _ _ => 0) := by
  intro r l
  pointwise [k0_pay14]
  rfl

/-! ### The largest carried sum is above the bound that stands for minus infinity -/

theorem goes_of_lt {x : Ideal .f32} (h : (⊥ : EReal) < x) : goes (F := Ideal) x := by
  show Scalar.cmpf .ogt x (Named.named κ "log_zero" 0xC2D00000#32 : Ideal .f32) = 1#1
  have e : (Named.named κ "log_zero" 0xC2D00000#32 : Ideal .f32) = (⊥ : EReal) := by
    simp [Named.named, κ]
  rw [e]
  show BitVec.ofBool (decide ((⊥ : EReal) < x)) = 1#1
  simp [h]

theorem pay5_goes {W : FVec Ideal S512x256 .f32} {w : ℕ → ℕ → ℝ} (hc : Is2 C (fun r _ => cc r)) (e : Is2 W w) :
    goes (F := Ideal) (k0_pay5 (F := Ideal) C W) := by
  have h := pay2_is hc e
  pointwise [k0_pay5]
  refine goes_of_lt ((Finset.lt_fold_max _).mpr (Or.inr ⟨(0, 0), Finset.mem_univ _, ?_⟩))
  show (⊥ : EReal) < k0_pay2 C W (ix2 0 0)
  rw [h 0 0]; exact EReal.bot_lt_coe _

/-! ### One step -/

/-- What a step leaves: carried sums, weighted sums seen, the gradients of the queries, keys and values. -/
structure St where
  c : FVec Ideal S512x1 .f32
  s : FVec Ideal S512x1 .f32
  a : FVec Ideal S512x128 .f32
  dk : Vec Ideal S8192x128 .f32
  dv : Vec Ideal S8192x128 .f32

/-- The same over the reals. -/
structure Rt where
  c : ℕ → ℝ
  s : ℕ → ℝ
  a : ℕ → ℕ → ℝ
  dk : ℕ → ℕ → ℝ
  dv : ℕ → ℕ → ℝ

/-- The matrices hold the reals. -/
structure St.Is (X : St) (x : Rt) : Prop where
  c : Is2 X.c (fun r _ => x.c r)
  s : Is2 X.s (fun r _ => x.s r)
  a : Is2 X.a x.a
  dk : Is2 X.dk x.dk
  dv : Is2 X.dv x.dv

section Gstep

variable (q2 do2 : FVec Ideal S512x128 .bf16) (T : FVec Ideal S512x1 .f32) (K V : Vec Ideal S8192x128 .bf16)

/-- A step on key block `n` under a mask. -/
def gstep (msk : IVec S512x256 1) (n : ℕ) (X : St) : St where
  c := k0_pay2 X.c (k0_pay44 msk (k0_pay42 q2 (rowsOf K n)) k0_pay43)
  s := k0_pay3 X.s (k0_pay47 k0_pay17 do2 X.c msk (k0_pay40 (rowsOf V n)) (k0_pay41 q2 (rowsOf K n)) (k0_pay42 q2 (rowsOf K n)) k0_pay43)
  a := k0_pay4 X.a (k0_pay39 (rowsOf K n)) (k0_pay48 k0_pay17 k0_pay18 do2 T X.c X.s msk (k0_pay40 (rowsOf V n)) (k0_pay41 q2 (rowsOf K n))
    (k0_pay42 q2 (rowsOf K n)) k0_pay43)
  dk := putRows X.dk n (k0_pay49 k0_pay17 k0_pay18 q2 do2 T X.c X.s msk (k0_pay40 (rowsOf V n)) (k0_pay41 q2 (rowsOf K n))
    (k0_pay42 q2 (rowsOf K n)) k0_pay43 (rowsOf X.dk n))
  dv := putRows X.dv n (k0_pay1 do2 (k0_pay46 k0_pay17 X.c msk (k0_pay41 q2 (rowsOf K n)) (k0_pay42 q2 (rowsOf K n)) k0_pay43) (rowsOf X.dv n))

variable (q d : ℕ → ℕ → ℝ) (t : ℕ → ℝ) (k v : ℕ → ℕ → ℝ)

/-- The rows of block `n`. -/
def blkR (x : ℕ → ℕ → ℝ) (n r c : ℕ) : ℝ := x (256 * n + r) c
/-- Scores of block `n`. -/
abbrev zN (n : ℕ) : ℕ → ℕ → ℝ := zr q (blkR k n)
/-- Weights of block `n`. -/
abbrev wN (M : ℕ → ℕ → Bool) (n : ℕ) (c : ℕ → ℝ) : ℕ → ℕ → ℝ := wR M (zN q k n) c
/-- Weighted products of block `n`. -/
abbrev gN (M : ℕ → ℕ → Bool) (n : ℕ) (c : ℕ → ℝ) : ℕ → ℕ → ℝ := gR (wN q k M n c) (zr d (blkR v n))
/-- Gradients of the scores of block `n`. -/
abbrev daN (M : ℕ → ℕ → Bool) (n : ℕ) (c s : ℕ → ℝ) : ℕ → ℕ → ℝ := daR M (zN q k n) (gN q d k v M n c) t s

/-- A step over the reals. -/
def rstep (M : ℕ → ℕ → Bool) (n : ℕ) (x : Rt) : Rt where
  c := fun r => x.c r + ∑ j : Fin 256, stayR M (zN q k n) r j
  s := fun r => x.s r + ∑ j : Fin 256, gN q d k v M n x.c r j
  a := fun r l => x.a r l + ∑ j : Fin 256, daN q d t k v M n x.c x.s r j * blkR k n j l
  dk := fun J l => if J / 256 = n then x.dk J l + ∑ r : Fin 512, daN q d t k v M n x.c x.s r (J % 256) * q r l else x.dk J l
  dv := fun J l => if J / 256 = n then x.dv J l + ∑ r : Fin 512, wN q k M n x.c r (J % 256) * d r l else x.dv J l

variable {q2 do2 T K V q d t k v}

theorem rowsOf_is {X : Big.Idx → EReal} {x : ℕ → ℕ → ℝ} (h : Is2 X x) {n : ℕ} (hn : n < 32) : Is2 (rowsOf X n) (blkR x n) := by
  intro r c
  have hr := r.isLt
  show X (ix2 ⟨(256 * n + r.val) % 8192, _⟩ c) = _
  rw [h _ c]
  show ((x ((256 * n + r.val) % 8192) c.val : ℝ) : EReal) = _
  rw [Nat.mod_eq_of_lt (by omega)]; rfl

theorem putRows_is {X : Big.Idx → EReal} {W : Blk.Idx → EReal} {x w : ℕ → ℕ → ℝ} (h : Is2 X x) (hw : Is2 W w) {n : ℕ} :
    Is2 (putRows X n W) (fun J l => if J / 256 = n then w (J % 256) l else x J l) := by
  intro J l
  show (if J.val / 256 = n then W (ix2 ⟨J.val % 256, _⟩ l) else X (ix2 J l)) = ((if J.val / 256 = n then w (J.val % 256) l.val else x J.val l.val : ℝ) : EReal)
  split_ifs
  · exact hw _ _
  · exact h _ _

theorem gstep_is {msk : IVec S512x256 1} {M : ℕ → ℕ → Bool} {n : ℕ} {X : St} {x : Rt} (hn : n < 32) (hq : Is2 q2 q) (hd : Is2 do2 d) (hT : Is2 T (fun r _ => t r))
    (hK : Is2 K k) (hV : Is2 V v) (hm : IsB msk M) (h : X.Is x) :
    (gstep q2 do2 T K V msk n X).Is (rstep q d t k v M n x) := by
  have hk := rowsOf_is hK hn
  have hv := rowsOf_is hV hn
  have h41 := pay41_is hq hk
  have h42 := pay42_is hq hk
  have h48 := pay48_is pay17_is pay18_is hm h41 h42 h.c h.s hT hd hv
  refine ⟨pay2_is h.c (pay44_is hm h42), pay2_is h.s (pay47_is pay17_is hm h41 h42 h.c hd hv), pay4_is h.a hk h48, ?_, ?_⟩
  · refine (putRows_is h.dk (pay49_is hq h48 (rowsOf_is h.dk hn))).congr fun J _ l _ => ?_
    show (if J / 256 = n then x.dk (256 * n + J % 256) l + _ else x.dk J l) = (if J / 256 = n then _ else _)
    split_ifs with hJ
    · rw [show 256 * n + J % 256 = J by omega]
    · rfl
  · refine (putRows_is h.dv (pay1_is hd (pay46_is pay17_is hm h41 h42 h.c) (rowsOf_is h.dv hn))).congr fun J _ l _ => ?_
    show (if J / 256 = n then x.dv (256 * n + J % 256) l + _ else x.dv J l) = (if J / 256 = n then _ else _)
    split_ifs with hJ
    · rw [show 256 * n + J % 256 = J by omega]
    · rfl

end Gstep

/-! ### The body's steps are that step -/

/-- Nothing masked. -/
def ones : IVec S512x256 1 := fun _ => 1#1

theorem ones_is : IsB ones (fun _ _ => true) := fun _ _ => rfl

section Forms

variable (i : ℕ) (q : Vec Ideal S256x128 .bf16) (K V : Vec Ideal S8192x128 .bf16) (d : Vec Ideal S256x128 .bf16) (o : Vec Ideal S256x128 .f32)
  (dk dv : Vec Ideal S8192x128 .f32)

/-- The start of a point. -/
def st0 : St := ⟨k0_pay22, k0_pay22, k0_pay23, dk, dv⟩
/-- After the diagonal block. -/
def st1 : St := gstep (k0_pay19 q) (k0_pay20 d) (k0_pay21 d o) K V k0_pay16 i (st0 dk dv)
/-- After the block before it. -/
def st2 : St := gstep (k0_pay19 q) (k0_pay20 d) (k0_pay21 d o) K V (k0_pay38 (BitVec.ofNat 32 i)) (i - 1) (st1 i q K V d o dk dv)

theorem st1_eq : st1 i q K V d o dk dv = ⟨carry1 i q K, seen1 i q K V d, dq1 i q K V d o, dk1 i q K V d o dk, dv1 i q K d dv⟩ := rfl

theorem st2_eq : st2 i q K V d o dk dv = ⟨k0_pay2 (carry1 i q K) (stay2 i q K), seen2 i q K V d, dq2 i q K V d o,
    dk2 i q K V d o (dk1 i q K V d o dk), dv2 i q K d (dv1 i q K d dv)⟩ := by
  rw [st2, st1_eq]; rfl

/-- The steps of the loop with `n` blocks left. -/
def run (q2 do2 : FVec Ideal S512x128 .bf16) (T : FVec Ideal S512x1 .f32) (K V : Vec Ideal S8192x128 .bf16) : ℕ → St → St
  | 0, X => X
  | n + 1, X => run q2 do2 T K V n (gstep q2 do2 T K V ones n X)

end Forms

section Loop

variable {q2 do2 : FVec Ideal S512x128 .bf16} {T : FVec Ideal S512x1 .f32} {K V : Vec Ideal S8192x128 .bf16} {q d : ℕ → ℕ → ℝ} {t : ℕ → ℝ} {k v : ℕ → ℕ → ℝ}

theorem select_ones {α : Type} (x y : α) : Scalar.select (1#1) x y = x := rfl

theorem pay53_eq (B : Vec Ideal S256x128 .bf16) : k0_pay53 (F := Ideal) q2 B = k0_pay44 ones (k0_pay42 q2 B) k0_pay43 := by
  funext j; rfl

theorem pay55_eq (A : FVec Ideal S256x256 .bf16) (C : FVec Ideal S512x1 .f32) (B : Vec Ideal S256x128 .bf16) :
    k0_pay55 (F := Ideal) q2 A C B = k0_pay46 A C ones (k0_pay41 q2 B) (k0_pay42 q2 B) k0_pay43 := rfl

theorem sweep_eq (hq : Is2 q2 q) (hd : Is2 do2 d) (hT : Is2 T (fun r _ => t r)) (hK : Is2 K k) (hV : Is2 V v) :
    ∀ n ≤ 32, ∀ (X : St) (x : Rt) (mx : Ideal .f32), goes mx → X.Is x →
      sweep K V q2 k0_pay17 do2 k0_pay18 T n mx X.c X.s X.a X.dk X.dv
        = ((run q2 do2 T K V n X).a, (run q2 do2 T K V n X).dk, (run q2 do2 T K V n X).dv) := by
  intro n
  induction n with
  | zero => intro _ X x mx hg hX; rfl
  | succ n ih =>
    intro hn X x mx hg hX
    rw [sweep, if_pos hg, run]
    exact ih (by omega) (gstep q2 do2 T K V ones n X) _ _ (pay5_goes hX.c (pay44_is ones_is (pay42_is hq (rowsOf_is hK (by omega)))))
      (gstep_is (by omega) hq hd hT hK hV ones_is hX)

/-- The loop's steps over the reals. -/
def rrun (q d : ℕ → ℕ → ℝ) (t : ℕ → ℝ) (k v : ℕ → ℕ → ℝ) : ℕ → Rt → Rt
  | 0, x => x
  | n + 1, x => rrun q d t k v n (rstep q d t k v (fun _ _ => true) n x)

theorem run_is (hq : Is2 q2 q) (hd : Is2 do2 d) (hT : Is2 T (fun r _ => t r)) (hK : Is2 K k) (hV : Is2 V v) :
    ∀ n ≤ 32, ∀ (X : St) (x : Rt), X.Is x → (run q2 do2 T K V n X).Is (rrun q d t k v n x) := by
  intro n
  induction n with
  | zero => intro _ X x h; exact h
  | succ n ih => intro hn X x h; exact ih (by omega) _ _ (gstep_is (by omega) hq hd hT hK hV ones_is h)

end Loop

/-! ### A point over the reals -/

section RPoint

variable (q d : ℕ → ℕ → ℝ) (t : ℕ → ℝ) (k v : ℕ → ℕ → ℝ)

/-- After the diagonal block. -/
def rst1 (i : ℕ) (dk dv : ℕ → ℕ → ℝ) : Rt :=
  rstep q d t k v (fun r c => decide (c < r % 256)) i ⟨fun _ => 0, fun _ => 0, fun _ _ => 0, dk, dv⟩
/-- After the block before it. -/
def rst2 (i : ℕ) (dk dv : ℕ → ℕ → ℝ) : Rt := rstep q d t k v (fun _ _ => decide (0 < i)) (i - 1) (rst1 q d t k v i dk dv)
/-- After the sweep. -/
def rst3 (i : ℕ) (dk dv : ℕ → ℕ → ℝ) : Rt := rrun q d t k v (i - 1) (rst2 q d t k v i dk dv)

variable {q d t k v}

/-- Of matrices of reals a point leaves matrices of reals. -/
theorem rest_is {i : ℕ} (hi : i < 32) {Q D : Vec Ideal S256x128 .bf16} {O : Vec Ideal S256x128 .f32} {K V : Vec Ideal S8192x128 .bf16}
    {DK DV : Vec Ideal S8192x128 .f32} {dk dv : ℕ → ℕ → ℝ}
    (hq : Is2 (k0_pay19 (F := Ideal) Q) q) (hd : Is2 (k0_pay20 (F := Ideal) D) d) (hT : Is2 (k0_pay21 (F := Ideal) D O) (fun r _ => t r))
    (hK : Is2 K k) (hV : Is2 V v) (hdk : Is2 DK dk) (hdv : Is2 DV dv) :
    Is2 (rest i Q K V D O DK DV).1 (rst3 q d t k v i dk dv).a ∧ Is2 (rest i Q K V D O DK DV).2.1 (rst3 q d t k v i dk dv).dk
      ∧ Is2 (rest i Q K V D O DK DV).2.2 (rst3 q d t k v i dk dv).dv := by
  have h0 : (st0 DK DV).Is ⟨fun _ => 0, fun _ => 0, fun _ _ => 0, dk, dv⟩ := ⟨pay22_is, pay22_is, pay23_is, hdk, hdv⟩
  have h1 : (st1 i Q K V D O DK DV).Is (rst1 q d t k v i dk dv) := gstep_is hi hq hd hT hK hV pay16_is h0
  have hm2 := pay38_is hi
  have h2 : (st2 i Q K V D O DK DV).Is (rst2 q d t k v i dk dv) := gstep_is (by omega) hq hd hT hK hV hm2 h1
  have hg : goes (F := Ideal) (k0_pay5 (carry1 i Q K) (stay2 i Q K)) := by
    have e := h1.c
    rw [st1_eq] at e
    exact pay5_goes e (pay44_is hm2 (pay42_is hq (rowsOf_is hK (by omega))))
  have e := sweep_eq hq hd hT hK hV (i - 1) (by omega) _ _ _ hg h2
  rw [st2_eq] at e
  have h3 := run_is hq hd hT hK hV (i - 1) (by omega) _ _ h2
  rw [st2_eq] at h3
  rw [rest, e]
  exact ⟨h3.a, h3.dk, h3.dv⟩

end RPoint

end Cert.KernelIdeal.Hand
end
-- ==== Proof.Row.lean ====
/-
  Stick breaking along one row, over the reals. For a row with scores `z`, limit `I` (keys before `I` are seen) and
  products `u` of the output's gradient with the values: the logarithms of staying, their sums after a key, the weights,
  the weighted products and the gradient of the scores.
-/
module

public import proofs.«01_k».proof.Proof.Rl

@[expose] public section

noncomputable section

namespace Cert.Rl

open scoped BigOperators

section Row

variable (I : ℕ) (z u : ℕ → ℝ)

/-- The logarithm of staying at a key. -/
def ls (J : ℕ) : ℝ := if J < I then -sp (z J) else 0
/-- The sum of those after a key. -/
def af (J : ℕ) : ℝ := ∑ x ∈ Finset.Ico (J + 1) 8192, ls I z x
/-- The weight of a key. -/
def wt (J : ℕ) : ℝ := if J < I then Real.exp (z J - sp (z J) + af I z J) else 0
/-- The weighted product at a key. -/
def gg (J : ℕ) : ℝ := wt I z J * u J
/-- The gradient of a score. -/
def da (J : ℕ) : ℝ :=
  if J < I then gg I z u J * (1 - Real.exp (z J - sp (z J))) - (∑ x ∈ Finset.range J, gg I z u x) * Real.exp (z J - sp (z J)) else 0
/-- The sum of all weighted products. -/
def tot : ℝ := ∑ x ∈ Finset.range 8192, gg I z u x

variable {I z u}

theorem ls_off {J : ℕ} (h : I ≤ J) : ls I z J = 0 := if_neg (by omega)
theorem wt_off {J : ℕ} (h : I ≤ J) : wt I z J = 0 := if_neg (by omega)
theorem gg_off {J : ℕ} (h : I ≤ J) : gg I z u J = 0 := by rw [gg, wt_off h, zero_mul]
theorem da_off {J : ℕ} (h : I ≤ J) : da I z u J = 0 := if_neg (by omega)

end Row

/-! ### Heads -/

section Heads

variable (q k v d : ℕ → ℕ → ℝ)

/-- A head's scores: the inner products of its 64 lanes, over eight. -/
def zz (h I J : ℕ) : ℝ := (∑ x : Fin 64, q I (64 * h + x.val) * k J (64 * h + x.val)) * 0.125
/-- A head's products of the output's gradient with the values. -/
def uu (h I J : ℕ) : ℝ := ∑ x : Fin 64, d I (64 * h + x.val) * v J (64 * h + x.val)
/-- A head's gradient of the scores. -/
def dz (h I J : ℕ) : ℝ := da I (zz q k h I) (uu v d h I) J
/-- The output. -/
def oR (I c : ℕ) : ℝ := ∑ J ∈ Finset.range 8192, wt I (zz q k (c / 64) I) J * v J c
/-- The gradient of the queries. -/
def dqR (I c : ℕ) : ℝ := ∑ J ∈ Finset.range 8192, dz q k v d (c / 64) I J * 0.125 * k J c
/-- The gradient of the keys. -/
def dkR (J c : ℕ) : ℝ := ∑ I ∈ Finset.range 8192, dz q k v d (c / 64) I J * 0.125 * q I c
/-- The gradient of the values. -/
def dvR (J c : ℕ) : ℝ := ∑ I ∈ Finset.range 8192, wt I (zz q k (c / 64) I) J * d I c

end Heads

end Cert.Rl

end
-- ==== Proof.KI.Seq.lean ====
/-
  The values of a row (Row.lean) come out of the blocks. `Inv n` says what a point holds once the blocks from `n` on are
  done; a step on block `n` carries `Inv (n + 1)` to `Inv n`, so a point ends with the sums over all keys.
-/
module

public import proofs.«01_k».proof.Proof.KI.Step
public import proofs.«01_k».proof.Proof.Row

@[expose] public section

noncomputable section

namespace Cert.KernelIdeal.Hand

open Cert.KernelIdeal Cert.KernelIdeal.Gen Cert.Rows Cert.Rl
open Idealize.ShloMosaic
open scoped BigOperators

/-! ### Sums over a block -/

theorem blk_sum (f : ℕ → ℝ) (n : ℕ) : ∑ x : Fin 256, f (256 * n + x.val) = ∑ J ∈ Finset.Ico (256 * n) (256 * (n + 1)), f J := by
  rw [Fin.sum_univ_eq_sum_range (fun x => f (256 * n + x)) 256, Finset.sum_Ico_eq_sum_range, show 256 * (n + 1) - 256 * n = 256 by omega]

theorem blk_aft (f : ℕ → ℝ) (n c : ℕ) (hc : c < 256) :
    ∑ x : Fin 256, f (256 * n + x.val) * aftR x.val c = ∑ J ∈ Finset.Ico (256 * n + c + 1) (256 * (n + 1)), f J := by
  rw [Fin.sum_univ_eq_sum_range (fun x => f (256 * n + x) * aftR x c) 256, Finset.range_eq_Ico,
    ← Finset.sum_Ico_consecutive _ (Nat.zero_le (c + 1)) (show c + 1 ≤ 256 by omega)]
  rw [Finset.sum_eq_zero fun x hx => ?_, zero_add, show 256 * (n + 1) = 256 + 256 * n by omega, show 256 * n + c + 1 = c + 1 + 256 * n by omega,
    ← Finset.sum_Ico_add f (c + 1) 256 (256 * n)]
  · refine Finset.sum_congr rfl fun x hx => ?_
    rw [aftR, if_pos (by have := (Finset.mem_Ico.mp hx).1; simpa using this), mul_one]
  · rw [aftR, if_neg (by have := (Finset.mem_Ico.mp hx).2; simp; omega), mul_zero]

theorem blk_frm (f : ℕ → ℝ) (n c : ℕ) (hc : c < 256) :
    ∑ x : Fin 256, f (256 * n + x.val) * frmR x.val c = ∑ J ∈ Finset.Ico (256 * n + c) (256 * (n + 1)), f J := by
  rw [Fin.sum_univ_eq_sum_range (fun x => f (256 * n + x) * frmR x c) 256, Finset.range_eq_Ico,
    ← Finset.sum_Ico_consecutive _ (Nat.zero_le c) (show c ≤ 256 by omega)]
  rw [Finset.sum_eq_zero fun x hx => ?_, zero_add, show 256 * (n + 1) = 256 + 256 * n by omega, show 256 * n + c = c + 256 * n by omega,
    ← Finset.sum_Ico_add f c 256 (256 * n)]
  · refine Finset.sum_congr rfl fun x hx => ?_
    rw [frmR, if_pos (by have := (Finset.mem_Ico.mp hx).1; simpa using this), mul_one]
  · rw [frmR, if_neg (by have := (Finset.mem_Ico.mp hx).2; simp; omega), mul_zero]

theorem ico_blk (f : ℕ → ℝ) {n : ℕ} (hn : n < 32) :
    ∑ J ∈ Finset.Ico (256 * (n + 1)) 8192, f J + ∑ x : Fin 256, f (256 * n + x.val) = ∑ J ∈ Finset.Ico (256 * n) 8192, f J := by
  rw [blk_sum, add_comm, Finset.sum_Ico_consecutive _ (by omega) (by omega)]

/-! ### The invariant of a point -/

section Point

variable (q d : ℕ → ℕ → ℝ) (t : ℕ → ℝ) (k v : ℕ → ℕ → ℝ) (I : ℕ → ℕ) (dk0 dv0 : ℕ → ℕ → ℝ)

/-- The blocks from `n` on are done. -/
structure Inv (n : ℕ) (x : Rt) : Prop where
  c : ∀ r < 512, x.c r = ∑ J ∈ Finset.Ico (256 * n) 8192, ls (I r) (zr q k r) J
  s : ∀ r < 512, x.s r = ∑ J ∈ Finset.Ico (256 * n) 8192, gg (I r) (zr q k r) (zr d v r) J
  a : ∀ r < 512, ∀ l, x.a r l = ∑ J ∈ Finset.Ico (256 * n) 8192, da (I r) (zr q k r) (zr d v r) J * k J l
  dk : ∀ J < 8192, ∀ l, x.dk J l = dk0 J l + if 256 * n ≤ J then ∑ r : Fin 512, da (I r) (zr q k r) (zr d v r) J * q r l else 0
  dv : ∀ J < 8192, ∀ l, x.dv J l = dv0 J l + if 256 * n ≤ J then ∑ r : Fin 512, wt (I r) (zr q k r) J * d r l else 0

variable {q d t k v I dk0 dv0}

theorem zN_eq (n r j : ℕ) : zN q k n r j = zr q k r (256 * n + j) := rfl

section Step

variable {M : ℕ → ℕ → Bool} {n : ℕ} {x : Rt} (hn : n < 32) (hM : ∀ r < 512, ∀ c < 256, M r c = decide (256 * n + c < I r))
  (ht : ∀ r < 512, t r = tot (I r) (zr q k r) (zr d v r)) (h : Inv q d k v I dk0 dv0 (n + 1) x)

include hM in
theorem stay_eq {r j : ℕ} (hr : r < 512) (hj : j < 256) : stayR M (zN q k n) r j = ls (I r) (zr q k r) (256 * n + j) := by
  rw [stayR, ls, hM r hr j hj, zN_eq]
  simp only [decide_eq_true_eq]

include hn hM h in
theorem w_eq {r j : ℕ} (hr : r < 512) (hj : j < 256) : wN q k M n x.c r j = wt (I r) (zr q k r) (256 * n + j) := by
  rw [wN, wR, wt, hM r hr j hj, zN_eq]
  simp only [decide_eq_true_eq]
  refine if_congr Iff.rfl ?_ rfl
  congr 1
  rw [add_assoc]; congr 1
  rw [Finset.sum_congr (s₁ := (Finset.univ : Finset (Fin 256))) rfl fun y _ => by rw [stay_eq hM hr y.isLt], blk_aft _ _ _ hj, h.c r hr, af,
    Finset.sum_Ico_consecutive _ (by omega) (by omega)]

include hn hM h in
theorem g_eq {r j : ℕ} (hr : r < 512) (hj : j < 256) : gN q d k v M n x.c r j = gg (I r) (zr q k r) (zr d v r) (256 * n + j) := by
  rw [gN, gR, gg, w_eq hn hM h hr hj]; rfl

include hn hM h ht in
theorem da_eq {r j : ℕ} (hr : r < 512) (hj : j < 256) :
    daN q d t k v M n x.c x.s r j = da (I r) (zr q k r) (zr d v r) (256 * n + j) := by
  rw [daN, daR, da, hM r hr j hj, zN_eq, g_eq hn hM h hr hj]
  simp only [decide_eq_true_eq]
  refine if_congr Iff.rfl ?_ rfl
  congr 2
  rw [Finset.sum_congr (s₁ := (Finset.univ : Finset (Fin 256))) rfl fun y _ => by rw [g_eq hn hM h hr y.isLt], blk_frm _ _ _ hj, h.s r hr,
    Finset.sum_Ico_consecutive _ (by omega) (by omega), ht r hr, tot, Finset.range_eq_Ico,
    ← Finset.sum_Ico_consecutive _ (Nat.zero_le (256 * n + j)) (show 256 * n + j ≤ 8192 by omega), Finset.range_eq_Ico]
  ring

include hn hM h ht in
/-- A step takes in its block. -/
theorem inv_step : Inv q d k v I dk0 dv0 n (rstep q d t k v M n x) := by
  refine ⟨fun r hr => ?_, fun r hr => ?_, fun r hr l => ?_, fun J hJ l => ?_, fun J hJ l => ?_⟩
  · show x.c r + _ = _
    rw [h.c r hr, Finset.sum_congr (s₁ := (Finset.univ : Finset (Fin 256))) rfl fun y _ => by rw [stay_eq hM hr y.isLt]]
    exact ico_blk _ hn
  · show x.s r + _ = _
    rw [h.s r hr, Finset.sum_congr (s₁ := (Finset.univ : Finset (Fin 256))) rfl fun y _ => by rw [g_eq hn hM h hr y.isLt]]
    exact ico_blk _ hn
  · show x.a r l + _ = _
    rw [h.a r hr l, Finset.sum_congr (s₁ := (Finset.univ : Finset (Fin 256))) rfl fun y _ => by rw [da_eq hn hM ht h hr y.isLt, blkR]]
    exact ico_blk (fun J => da (I r) (zr q k r) (zr d v r) J * k J l) hn
  · show (if J / 256 = n then x.dk J l + _ else x.dk J l) = _
    rw [h.dk J hJ l]
    by_cases e : J / 256 = n
    · rw [if_pos e, if_neg (by omega), if_pos (by omega), add_zero]
      congr 1
      refine Finset.sum_congr rfl fun r _ => ?_
      rw [da_eq hn hM ht h r.isLt (Nat.mod_lt _ (by omega)), show 256 * n + J % 256 = J by omega]
    · rw [if_neg e]
      by_cases e' : 256 * n ≤ J
      · rw [if_pos (by omega), if_pos (by omega)]
      · rw [if_neg (by omega), if_neg (by omega)]
  · show (if J / 256 = n then x.dv J l + _ else x.dv J l) = _
    rw [h.dv J hJ l]
    by_cases e : J / 256 = n
    · rw [if_pos e, if_neg (by omega), if_pos (by omega), add_zero]
      congr 1
      refine Finset.sum_congr rfl fun r _ => ?_
      rw [w_eq hn hM h r.isLt (Nat.mod_lt _ (by omega)), show 256 * n + J % 256 = J by omega]
    · rw [if_neg e]
      by_cases e' : 256 * n ≤ J
      · rw [if_pos (by omega), if_pos (by omega)]
      · rw [if_neg (by omega), if_neg (by omega)]

end Step

/-- A step with everything masked changes nothing. -/
theorem rstep_off (n : ℕ) (x : Rt) : rstep q d t k v (fun _ _ => false) n x = x := by
  have hs : ∀ r j, stayR (fun _ _ => false) (zN q k n) r j = 0 := fun r j => rfl
  have hw : ∀ r j, wN q k (fun _ _ => false) n x.c r j = 0 := fun r j => rfl
  have hg : ∀ r j, gN q d k v (fun _ _ => false) n x.c r j = 0 := fun r j => by rw [gN, gR, hw, zero_mul]
  have hd : ∀ r j, daN q d t k v (fun _ _ => false) n x.c x.s r j = 0 := fun r j => rfl
  unfold rstep
  simp only [hs, hw, hg, hd, zero_mul, Finset.sum_const_zero, add_zero, ite_self]

theorem inv_run (ht : ∀ r < 512, t r = tot (I r) (zr q k r) (zr d v r)) :
    ∀ n ≤ 32, (∀ r < 512, 256 * n ≤ I r) → ∀ x, Inv q d k v I dk0 dv0 n x → Inv q d k v I dk0 dv0 0 (rrun q d t k v n x) := by
  intro n
  induction n with
  | zero => intro _ _ x h; exact h
  | succ n ih =>
    intro hn hI x h
    exact ih (by omega) (fun r hr => by have := hI r hr; omega) _
      (inv_step (by omega) (fun r hr c hc => by have := hI r hr; simp; omega) ht h)

/-- A point ends with the sums over all keys. -/
theorem inv_point {i : ℕ} (hi : i < 32) (hI : ∀ r < 512, I r = 256 * i + r % 256)
    (ht : ∀ r < 512, t r = tot (I r) (zr q k r) (zr d v r)) : Inv q d k v I dk0 dv0 0 (rst3 q d t k v i dk0 dv0) := by
  have h0 : Inv q d k v I dk0 dv0 (i + 1) ⟨fun _ => 0, fun _ => 0, fun _ _ => 0, dk0, dv0⟩ := by
    have hz : ∀ r < 512, ∀ J, 256 * (i + 1) ≤ J → I r ≤ J := fun r hr J hJ => by rw [hI r hr]; omega
    refine ⟨fun r hr => ?_, fun r hr => ?_, fun r hr l => ?_, fun J hJ l => ?_, fun J hJ l => ?_⟩
    · exact (Finset.sum_eq_zero fun J hJ => ls_off (hz r hr J (Finset.mem_Ico.mp hJ).1)).symm
    · exact (Finset.sum_eq_zero fun J hJ => gg_off (hz r hr J (Finset.mem_Ico.mp hJ).1)).symm
    · exact (Finset.sum_eq_zero fun J hJ => by rw [da_off (hz r hr J (Finset.mem_Ico.mp hJ).1), zero_mul]).symm
    · split_ifs with e
      · rw [Finset.sum_eq_zero fun r _ => by rw [da_off (hz r r.isLt J e), zero_mul], add_zero]
      · rw [add_zero]
    · split_ifs with e
      · rw [Finset.sum_eq_zero fun r _ => by rw [wt_off (hz r r.isLt J e), zero_mul], add_zero]
      · rw [add_zero]
  have h1 : Inv q d k v I dk0 dv0 i (rst1 q d t k v i dk0 dv0) :=
    inv_step hi (fun r hr c hc => by rw [hI r hr]; simp) ht h0
  have h2 : Inv q d k v I dk0 dv0 (i - 1) (rst2 q d t k v i dk0 dv0) := by
    unfold rst2
    by_cases hp : 0 < i
    · rw [show i = i - 1 + 1 by omega] at h1
      exact inv_step (by omega) (fun r hr c hc => by rw [hI r hr]; simp [hp]; omega) ht (by rw [← show i = i - 1 + 1 by omega] at h1 ⊢; exact h1)
    · have e : (fun (_ _ : ℕ) => decide (0 < i)) = fun _ _ => false := by funext _ _; simp [hp]
      rw [e, rstep_off]
      rw [show i - 1 = i by omega]; exact h1
  exact inv_run ht (i - 1) (by omega) (fun r hr => by rw [hI r hr]; omega) _ h2

end Point

end Cert.KernelIdeal.Hand
end
-- ==== Proof.Pair.lean ====
/-
  A unit of two heads holds their queries in one tile of 512 rows: the first head's 256 queries with the second head's lanes
  cleared, then the second head's with the first head's lanes cleared. A row's products over the unit's 128 lanes are so its
  own head's, and a sum over the rows is, at a lane, a sum over the queries of that lane's head.
-/
module

public import proofs.«01_k».proof.Proof.Row

@[expose] public section

noncomputable section

namespace Cert.Rl

open scoped BigOperators

/-- The tile of a unit's block of queries, of an array over all rows and lanes. -/
def tile (h i : ℕ) (x : ℕ → ℕ → ℝ) (r l : ℕ) : ℝ := if l / 64 = r / 256 then x (256 * i + r % 256) (128 * h + l) else 0
/-- A unit's lanes of an array. -/
def lanes (h : ℕ) (x : ℕ → ℕ → ℝ) (J l : ℕ) : ℝ := x J (128 * h + l)
/-- An array over eight. -/
def eighth (x : ℕ → ℕ → ℝ) (r l : ℕ) : ℝ := x r l * 0.125

theorem sum_lanes (f : ℕ → ℝ) {s : ℕ} (hs : s < 2) :
    ∑ l : Fin 128, (if l.val / 64 = s then f l.val else 0) = ∑ x : Fin 64, f (64 * s + x.val) := by
  rw [Fin.sum_univ_eq_sum_range (fun l => if l / 64 = s then f l else 0) 128, ← Finset.sum_filter,
    Fin.sum_univ_eq_sum_range (fun x => f (64 * s + x)) 64]
  refine (Finset.sum_bij (fun x _ => 64 * s + x) (fun x hx => ?_) (fun x _ y _ e => by omega) (fun y hy => ?_) fun x _ => rfl).symm
  · simp only [Finset.mem_range] at hx; simp only [Finset.mem_filter, Finset.mem_range]; omega
  · simp only [Finset.mem_filter, Finset.mem_range] at hy
    exact ⟨y - 64 * s, by simp only [Finset.mem_range]; omega, by omega⟩

theorem sum_rows (f : ℕ → ℝ) {s : ℕ} (hs : s < 2) :
    ∑ r : Fin 512, (if s = r.val / 256 then f r.val else 0) = ∑ x : Fin 256, f (256 * s + x.val) := by
  rw [Fin.sum_univ_eq_sum_range (fun r => if s = r / 256 then f r else 0) 512, ← Finset.sum_filter,
    Fin.sum_univ_eq_sum_range (fun x => f (256 * s + x)) 256]
  refine (Finset.sum_bij (fun x _ => 256 * s + x) (fun x hx => ?_) (fun x _ y _ e => by omega) (fun y hy => ?_) fun x _ => rfl).symm
  · simp only [Finset.mem_range] at hx; simp only [Finset.mem_filter, Finset.mem_range]; omega
  · simp only [Finset.mem_filter, Finset.mem_range] at hy
    exact ⟨y - 256 * s, by simp only [Finset.mem_range]; omega, by omega⟩

/-- A sum over a block of rows, of a sum that has taken the rows before it. -/
theorem sum_block (f : ℕ → ℝ) (i : ℕ) :
    ∑ I ∈ Finset.range (256 * i), f I + ∑ x : Fin 256, f (256 * i + x.val) = ∑ I ∈ Finset.range (256 * (i + 1)), f I := by
  rw [Fin.sum_univ_eq_sum_range (fun x => f (256 * i + x)) 256, ← Finset.sum_range_add, Nat.mul_succ]

variable (q k v d : ℕ → ℕ → ℝ) (h i : ℕ)

theorem tile_dot (x : ℕ → ℕ → ℝ) (y : ℕ → ℕ → ℝ) {r : ℕ} (hr : r < 512) (J : ℕ) :
    ∑ l : Fin 128, tile h i x r l.val * lanes h y J l.val
    = ∑ l : Fin 64, x (256 * i + r % 256) (64 * (2 * h + r / 256) + l.val) * y J (64 * (2 * h + r / 256) + l.val) := by
  rw [Finset.sum_congr (s₁ := (Finset.univ : Finset (Fin 128))) rfl fun l _ =>
    show tile h i x r l.val * lanes h y J l.val
      = if l.val / 64 = r / 256 then (fun l => x (256 * i + r % 256) (128 * h + l) * y J (128 * h + l)) l.val else 0 by
        unfold tile lanes; split_ifs <;> simp, sum_lanes (fun l => x (256 * i + r % 256) (128 * h + l) * y J (128 * h + l)) (by omega)]
  refine Finset.sum_congr rfl fun l _ => ?_
  rw [show 128 * h + (64 * (r / 256) + l.val) = 64 * (2 * h + r / 256) + l.val by ring]

/-- A row's scores are its head's. -/
theorem tile_zz {r : ℕ} (hr : r < 512) :
    (fun J => ∑ l : Fin 128, tile h i (eighth q) r l.val * lanes h k J l.val) = zz q k (2 * h + r / 256) (256 * i + r % 256) := by
  funext J
  rw [tile_dot h i _ _ hr, zz, Finset.sum_mul]
  exact Finset.sum_congr rfl fun l _ => by unfold eighth; ring

theorem tile_uu {r : ℕ} (hr : r < 512) :
    (fun J => ∑ l : Fin 128, tile h i d r l.val * lanes h v J l.val) = uu v d (2 * h + r / 256) (256 * i + r % 256) := by
  funext J
  exact tile_dot h i _ _ hr J

/-- The product of the output with its gradient, over a head's lanes: the sum of all weighted products. -/
theorem head_tot (hh I : ℕ) :
    ∑ x : Fin 64, d I (64 * hh + x.val) * oR q k v I (64 * hh + x.val) = tot I (zz q k hh I) (uu v d hh I) := by
  have e : ∀ x : Fin 64, d I (64 * hh + x.val) * oR q k v I (64 * hh + x.val)
      = ∑ J ∈ Finset.range 8192, wt I (zz q k hh I) J * (d I (64 * hh + x.val) * v J (64 * hh + x.val)) := fun x => by
    rw [oR, show (64 * hh + x.val) / 64 = hh by omega, Finset.mul_sum]
    exact Finset.sum_congr rfl fun J _ => by ring
  rw [Finset.sum_congr rfl fun x _ => e x, Finset.sum_comm, tot]
  refine Finset.sum_congr rfl fun J _ => ?_
  rw [gg, uu, Finset.mul_sum]

/-- A sum over a tile's rows, at a lane, is over the queries of the lane's head. -/
theorem rows_sum (f : ℕ → ℕ → ℝ) (x : ℕ → ℕ → ℝ) {l : ℕ} (hl : l < 128) :
    ∑ r : Fin 512, f (2 * h + r.val / 256) (256 * i + r.val % 256) * tile h i x r.val l
    = ∑ y : Fin 256, f ((128 * h + l) / 64) (256 * i + y.val) * x (256 * i + y.val) (128 * h + l) := by
  rw [Finset.sum_congr (s₁ := (Finset.univ : Finset (Fin 512))) rfl fun r _ =>
    show f (2 * h + r.val / 256) (256 * i + r.val % 256) * tile h i x r.val l
      = if l / 64 = r.val / 256 then (fun r => f (2 * h + r / 256) (256 * i + r % 256) * x (256 * i + r % 256) (128 * h + l)) r.val else 0 by
        unfold tile; split_ifs <;> simp,
    sum_rows (fun r => f (2 * h + r / 256) (256 * i + r % 256) * x (256 * i + r % 256) (128 * h + l)) (by omega)]
  refine Finset.sum_congr rfl fun y _ => ?_
  have hy := y.isLt
  rw [show 2 * h + (256 * (l / 64) + y.val) / 256 = (128 * h + l) / 64 by omega, show (256 * (l / 64) + y.val) % 256 = y.val by omega]

end Cert.Rl

end
-- ==== Proof.R.Win.lean ====
/-
  The reference's values of real arguments are real: each named value of Ops.lean, read at an index.
-/
module

public import proofs.«01_k».proof.Proof.R.Ops
public import proofs.«01_k».proof.Proof.Row

@[expose] public section

set_option maxRecDepth 16384

noncomputable section

namespace Cert.ReferenceIdeal.Hand

open Cert.ReferenceIdeal Cert.ReferenceIdeal.Gen Cert.Rl
open Idealize.ShloMosaic
open scoped BigOperators

/-- A stack of matrices that holds real numbers. -/
def Is3 {l n m : ℕ} (X : (⟨3, ![l, n, m]⟩ : Shape).Idx → EReal) (x : ℕ → ℕ → ℕ → ℝ) : Prop :=
  ∀ (h : Fin l) (r : Fin n) (c : Fin m), X (ix3 h r c) = ((x h.val r.val c.val : ℝ) : EReal)

/-! ### Sums over a window -/

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem foldl_fin {N : ℕ} (g : Fin N → EReal) (v : EReal) : (List.finRange N).foldl (fun r n => r + g n) v = v + ∑ n, g n := by
  rw [foldl_add, Fin.sum_univ_def]

theorem win_term {l n N : ℕ} (lo hi : Fin 3 → ℕ) (X : (⟨3, ![l, n, N]⟩ : Shape).Idx → EReal) (w : EReal) (h0 : lo 0 = 0) (h1 : lo 1 = 0)
    (H : (⟨3, ![l, n, N]⟩ : Shape).ReduceWindows ![1, 1, N] ![1, 1, 1] lo hi ⟨3, ![l, n, N]⟩) (h : Fin l) (I : Fin n) (J : Fin N)
    (p : (⟨3, ![1, 1, N]⟩ : Shape).Idx)
    {D : Decidable (∀ a : Fin 3, lo a ≤ (ix3 h I J (a.cast H.1.symm)).val * (![1, 1, 1] : Fin 3 → ℕ) a + (p a).val ∧
          (ix3 h I J (a.cast H.1.symm)).val * (![1, 1, 1] : Fin 3 → ℕ) a + (p a).val - lo a < (⟨3, ![l, n, N]⟩ : Shape).size a)} :
    (@dite _ _ D (fun hin => X (fun a => ⟨(ix3 h I J (a.cast H.1.symm)).val * (![1, 1, 1] : Fin 3 → ℕ) a + (p a).val - lo a, (hin a).2⟩)) fun _ => w)
      = if e : lo 2 ≤ J.val + (p 2).val ∧ J.val + (p 2).val - lo 2 < N then X (ix3 h I ⟨J.val + (p 2).val - lo 2, e.2⟩) else w := by
  have p0 : (p 0).val = 0 := by have := (p 0).isLt; change (p 0).val < 1 at this; omega
  have p1 : (p 1).val = 0 := by have := (p 1).isLt; change (p 1).val < 1 at this; omega
  by_cases e : lo 2 ≤ J.val + (p 2).val ∧ J.val + (p 2).val - lo 2 < N
  · rw [dif_pos e, dif_pos]
    · congr 1
      funext a
      match a with
      | ⟨0, _⟩ => exact Fin.ext (by show h.val * 1 + (p 0).val - lo 0 = h.val; rw [h0, p0]; omega)
      | ⟨1, _⟩ => exact Fin.ext (by show I.val * 1 + (p 1).val - lo 1 = I.val; rw [h1, p1]; omega)
      | ⟨2, _⟩ => exact Fin.ext (by show J.val * 1 + (p 2).val - lo 2 = J.val + (p 2).val - lo 2; rw [mul_one])
    · intro a
      match a with
      | ⟨0, _⟩ => show lo 0 ≤ h.val * 1 + (p 0).val ∧ h.val * 1 + (p 0).val - lo 0 < l; rw [h0, p0]; have := h.isLt; omega
      | ⟨1, _⟩ => show lo 1 ≤ I.val * 1 + (p 1).val ∧ I.val * 1 + (p 1).val - lo 1 < n; rw [h1, p1]; have := I.isLt; omega
      | ⟨2, _⟩ => show lo 2 ≤ J.val * 1 + (p 2).val ∧ J.val * 1 + (p 2).val - lo 2 < N; rw [mul_one]; exact e
  · rw [dif_neg e, dif_neg]
    intro hin
    apply e
    have := hin 2
    change lo 2 ≤ J.val * 1 + (p 2).val ∧ J.val * 1 + (p 2).val - lo 2 < N at this
    rwa [mul_one] at this

theorem win_sum {l n N : ℕ} (lo hi : Fin 3 → ℕ) (X : FVec Ideal (⟨3, ![l, n, N]⟩ : Shape) .f32) {u : Shape} (w : FVec Ideal u .f32)
    (hu : 0 < u.numel) (hw : (w (Shape.Idx.first hu) : EReal) = 0) (h0 : lo 0 = 0) (h1 : lo 1 = 0)
    (H : (⟨3, ![l, n, N]⟩ : Shape).ReduceWindows ![1, 1, N] ![1, 1, 1] lo hi ⟨3, ![l, n, N]⟩) (h : Fin l) (I : Fin n) (J : Fin N) :
    Host.reduceWindowAdd (F := Ideal) (s := ⟨3, ![l, n, N]⟩) ![1, 1, N] ![1, 1, 1] lo hi X w H hu (ix3 h I J)
      = ∑ y : Fin N, if e : lo 2 ≤ J.val + y.val ∧ J.val + y.val - lo 2 < N then (X (ix3 h I ⟨J.val + y.val - lo 2, e.2⟩) : EReal) else 0 := by
  show Ideal.hostReduceWindowAdd ![1, 1, N] ![1, 1, 1] lo hi H X (w (Shape.Idx.first hu)) (ix3 h I J) = _
  unfold Ideal.hostReduceWindowAdd Host.reduceWindow
  rw [foldl_fin, hw, zero_add]
  refine (Fintype.sum_equiv (Shape.rowMajor (⟨3, ![1, 1, N]⟩ : Shape)).symm _ (fun p : (⟨3, ![1, 1, N]⟩ : Shape).Idx =>
      if e : lo 2 ≤ J.val + (p 2).val ∧ J.val + (p 2).val - lo 2 < N then (X (ix3 h I ⟨J.val + (p 2).val - lo 2, e.2⟩) : EReal) else 0) fun k =>
    win_term lo hi X 0 h0 h1 H h I J _).trans ?_
  rw [sum_idx3, Fin.sum_univ_one, Fin.sum_univ_one]; rfl

variable {X : T3 Ideal} {x : ℕ → ℕ → ℕ → ℝ} {z g : ℕ → ℕ → ℕ → ℝ} {Z G : T3 Ideal}

theorem zero_at : (broadcastInDim S_ ![] bcast_S_S_ (constant (F := Ideal) S_ .f32 0x00000000#32)) (Shape.Idx.first h_S_) = (0 : EReal) := by
  show Ideal.ofBits .f32 0x00000000#32 = 0
  exact Ideal.ofBits_zero_f32

/-- Sums from a key on. -/
theorem cumr_is (hX : Is3 X x) : Is3 (cumr (F := Ideal) X) (fun h I J => ∑ y ∈ Finset.Ico J 8192, x h I y) := by
  intro h I J
  refine (win_sum ![0, 0, 0] ![0, 0, 8191] X _ h_S_ zero_at rfl rfl reduceWindows_S16x8192x8192_S16x8192x8192_w1s1p0_0_w1s1p0_0_w8192s1p0_8191 h I J).trans ?_
  show _ = ((∑ y ∈ Finset.Ico J.val 8192, x h.val I.val y : ℝ) : EReal)
  have e : ∀ y : Fin 8192, (if e : (![0, 0, 0] : Fin 3 → ℕ) 2 ≤ J.val + y.val ∧ J.val + y.val - (![0, 0, 0] : Fin 3 → ℕ) 2 < 8192 then
      X (ix3 h I ⟨J.val + y.val - (![0, 0, 0] : Fin 3 → ℕ) 2, e.2⟩) else 0)
      = ((if J.val + y.val < 8192 then x h.val I.val (J.val + y.val) else 0 : ℝ) : EReal) := by
    intro y
    by_cases e : J.val + y.val < 8192
    · rw [dif_pos ⟨Nat.zero_le _, e⟩, if_pos e]; exact hX h I _
    · rw [dif_neg fun h => e h.2, if_neg e]; rfl
  rw [Finset.sum_congr rfl fun y _ => e y, ← coe_sum]
  congr 1
  rw [Fin.sum_univ_eq_sum_range (fun y => if J.val + y < 8192 then x h.val I.val (J.val + y) else 0) 8192, Finset.sum_Ico_eq_sum_range]
  have hJ := J.isLt
  rw [← Finset.sum_range_add_sum_Ico _ (show 8192 - J.val ≤ 8192 by omega), Finset.sum_eq_zero (s := Finset.Ico _ _) fun y hy => if_neg (by
    have := (Finset.mem_Ico.mp hy).1; omega), add_zero]
  exact Finset.sum_congr rfl fun y hy => if_pos (by have := Finset.mem_range.mp hy; omega)

/-- Sums up to a key. -/
theorem cumf_is (hX : Is3 X x) : Is3 (cumf (F := Ideal) X) (fun h I J => ∑ y ∈ Finset.range (J + 1), x h I y) := by
  intro h I J
  refine (win_sum ![0, 0, 8191] ![0, 0, 0] X _ h_S_ zero_at rfl rfl reduceWindows_S16x8192x8192_S16x8192x8192_w1s1p0_0_w1s1p0_0_w8192s1p8191_0 h I J).trans ?_
  show _ = ((∑ y ∈ Finset.range (J.val + 1), x h.val I.val y : ℝ) : EReal)
  have e : ∀ y : Fin 8192, (if e : (![0, 0, 8191] : Fin 3 → ℕ) 2 ≤ J.val + y.val ∧ J.val + y.val - (![0, 0, 8191] : Fin 3 → ℕ) 2 < 8192 then
      X (ix3 h I ⟨J.val + y.val - (![0, 0, 8191] : Fin 3 → ℕ) 2, e.2⟩) else 0)
      = ((if 8191 ≤ J.val + y.val then x h.val I.val (J.val + y.val - 8191) else 0 : ℝ) : EReal) := by
    intro y
    have hJ := J.isLt
    have hy := y.isLt
    by_cases e : 8191 ≤ J.val + y.val
    · rw [dif_pos ⟨e, by show J.val + y.val - 8191 < 8192; omega⟩, if_pos e]; exact hX h I _
    · rw [dif_neg fun h => e h.1, if_neg e]; rfl
  rw [Finset.sum_congr rfl fun y _ => e y, ← coe_sum]
  congr 1
  rw [Fin.sum_univ_eq_sum_range (fun y => if 8191 ≤ J.val + y then x h.val I.val (J.val + y - 8191) else 0) 8192]
  have hJ := J.isLt
  rw [← Finset.sum_range_add_sum_Ico _ (show 8191 - J.val ≤ 8192 by omega), Finset.sum_eq_zero (s := Finset.range _) fun y hy => if_neg (by
    have := Finset.mem_range.mp hy; omega), zero_add, Finset.sum_Ico_eq_sum_range, show 8192 - (8191 - J.val) = J.val + 1 by omega]
  exact Finset.sum_congr rfl fun y hy => by rw [if_pos (by omega)]; exact congrArg (x h.val I.val) (by omega)

end Cert.ReferenceIdeal.Hand
end
-- ==== Proof.R.Read.lean ====
/-
  The reference's values of real arguments are real: each named value of Ops.lean, read at an index.
-/
module

public import proofs.«01_k».proof.Proof.R.Win

@[expose] public section

set_option maxRecDepth 16384

noncomputable section

namespace Cert.ReferenceIdeal.Hand

open Cert.ReferenceIdeal Cert.ReferenceIdeal.Gen Cert.Rl
open Idealize.ShloMosaic
open scoped BigOperators

variable {X : T3 Ideal} {x : ℕ → ℕ → ℕ → ℝ} {z g : ℕ → ℕ → ℕ → ℝ} {Z G : T3 Ideal}

/-! ### Values read one index at a time -/

theorem cst0 (i) : cst (F := Ideal) 0x00000000#32 i = (0 : EReal) := Ideal.ofBits_zero_f32
theorem cstInf (i) : cst (F := Ideal) 0x7F800000#32 i = (⊤ : EReal) := by
  show Ideal.ofBits .f32 0x7F800000#32 = ⊤
  simp [Ideal.ofBits, Ideal.ieee]
theorem cstEighth (i) : cst (F := Ideal) 0x3E000000#32 i = ((0.125 : ℝ) : EReal) := by
  show Ideal.ofBits .f32 0x3E000000#32 = _
  simp [Ideal.ofBits, Ideal.ieee]
  rw [← EReal.coe_mul]
  norm_num

theorem hd_at (x : A2 Ideal) (h : Fin 16) (I : Fin 8192) (l : Fin 64) :
    hd (F := Ideal) x (ix3 h I l) = x (ix2 I ⟨64 * h.val + l.val, by omega⟩) := by
  unfold hd
  pointwise
  exact congrArg x (congrArg (ix2 I) (Fin.ext (by show h.val * 64 + l.val = 64 * h.val + l.val; omega)))

theorem unhd_at (x : H3 Ideal) (I : Fin 8192) (c : Fin 1024) :
    unhd (F := Ideal) x (ix2 I c) = x (ix3 (⟨c.val / 64, by omega⟩ : Fin 16) I (⟨c.val % 64, by omega⟩ : Fin 64)) := by
  unfold unhd
  pointwise

theorem toInt_lt {a : ℕ} (h : a < 8192) : (BitVec.ofNat 32 a).toInt = a := by
  rw [BitVec.toInt_eq_toNat_of_lt (by rw [BitVec.toNat_ofNat]; omega), BitVec.toNat_ofNat]; omega

theorem causal_at (h : Fin 16) (I J : Fin 8192) : causal (ix3 h I J) = BitVec.ofBool (decide (J.val < I.val)) := by
  unfold causal
  pointwise
  show BitVec.ofBool (BitVec.slt _ _) = _
  rw [BitVec.slt, toInt_lt J.isLt, toInt_lt I.isLt]; simp

/-! ### Real values -/

section Args

variable {Q K V D : A2 Ideal} {q k v d : ℕ → ℕ → ℝ}

theorem hd_is (hQ : Is2 Q q) : Is3 (hd (F := Ideal) Q) (fun h I l => q I (64 * h + l)) := fun h I l => by rw [hd_at]; exact hQ _ _

theorem dot_lanes (hQ : Is2 Q q) (hK : Is2 K k) (h : Fin 16) (I J : Fin 8192) :
    Host.dotGeneral (F := Ideal) dot_S16x8192x64_S16x8192x64_S16x8192x8192_2_2_1_1_0_0 none (hd Q) (hd K) (ix3 h I J)
      = ((∑ x : Fin 64, q I (64 * h + x.val) * k J (64 * h + x.val) : ℝ) : EReal) := by
  pointwise
  rw [coe_sum]
  refine Finset.sum_congr rfl fun x _ => ?_
  rw [hd_is hQ, hd_is hK, EReal.coe_mul]

/-- The scores. -/
theorem zed_is (hQ : Is2 Q q) (hK : Is2 K k) : Is3 (zed (F := Ideal) Q K) (zz q k) := by
  intro h I J
  show (Host.dotGeneral (F := Ideal) dot_S16x8192x64_S16x8192x64_S16x8192x8192_2_2_1_1_0_0 none (hd Q) (hd K) (ix3 h I J) : EReal)
    * cst (F := Ideal) 0x3E000000#32 (ix3 h I J) = _
  rw [dot_lanes hQ hK, cstEighth, ← EReal.coe_mul]; rfl

theorem neg_is (hX : Is3 X x) : Is3 (Host.negf (F := Ideal) (φ := .f32) X) (fun h I J => -x h I J) := by
  intro h I J
  show -(X (ix3 h I J) : EReal) = _
  rw [hX, ← EReal.coe_neg]

theorem mask_is (hX : Is3 X x) : Is3 (select causal X (cst (F := Ideal) 0x00000000#32)) (fun h I J => if J < I then x h I J else 0) := by
  intro h I J
  show Scalar.select (causal (ix3 h I J)) (X (ix3 h I J)) (cst (F := Ideal) 0x00000000#32 (ix3 h I J)) = _
  rw [causal_at, select_ofBool, cst0, hX]
  show _ = (((if J.val < I.val then x h I J else 0) : ℝ) : EReal)
  by_cases e : J.val < I.val
  · rw [if_pos e, if_pos (by simpa using e)]
  · rw [if_neg e, if_neg (by simpa using e)]; rfl

/-- The softplus. -/
theorem spl_is (hX : Is3 X x) : Is3 (spl (F := Ideal) X) (fun h I J => sp (x h I J)) := by
  intro h I J
  unfold spl
  pointwise
  rw [cst0, hX, if_neg (fun e => e rfl), sub_zero]
  show max _ 0 + Ideal.log (1 + Ideal.exp (-(max _ (-_)))) = _
  rw [← sp_coe, zero_sub]

/-- Its derivative. -/
theorem dspl_is (hX : Is3 X x) : Is3 (dspl (F := Ideal) X) (fun h I J => Real.exp (x h I J - sp (x h I J))) := by
  intro h I J
  unfold dspl
  pointwise
  rw [cstInf, hX, spl_is hX, if_neg (EReal.coe_ne_top _), if_neg (EReal.coe_ne_top _), ← EReal.coe_sub]
  rfl

theorem stay_is (hZ : Is3 Z z) : Is3 (stay (F := Ideal) Z) (fun h I J => ls I (z h I) J) := by
  intro h I J
  refine (mask_is (neg_is (spl_is (neg_is (neg_is hZ)))) h I J).trans ?_
  simp only [neg_neg]
  rfl

theorem add_is (hX : Is3 X x) {Y : T3 Ideal} {y : ℕ → ℕ → ℕ → ℝ} (hY : Is3 Y y) : Is3 (addf (F := Ideal) (φ := .f32) X Y) (fun h I J => x h I J + y h I J) := by
  intro h I J
  show (X (ix3 h I J) : EReal) + Y (ix3 h I J) = _
  rw [hX, hY, ← EReal.coe_add]

theorem mul_is (hX : Is3 X x) {Y : T3 Ideal} {y : ℕ → ℕ → ℕ → ℝ} (hY : Is3 Y y) : Is3 (mulf (F := Ideal) (φ := .f32) X Y) (fun h I J => x h I J * y h I J) := by
  intro h I J
  show (X (ix3 h I J) : EReal) * Y (ix3 h I J) = _
  rw [hX, hY, ← EReal.coe_mul]

theorem sub_is (hX : Is3 X x) {Y : T3 Ideal} {y : ℕ → ℕ → ℕ → ℝ} (hY : Is3 Y y) : Is3 (subf (F := Ideal) (φ := .f32) X Y) (fun h I J => x h I J - y h I J) := by
  intro h I J
  show (X (ix3 h I J) : EReal) - Y (ix3 h I J) = _
  rw [hX, hY, ← EReal.coe_sub]

theorem is3_congr {l n m : ℕ} {X : (⟨3, ![l, n, m]⟩ : Shape).Idx → EReal} {x y : ℕ → ℕ → ℕ → ℝ} (hX : Is3 X x)
    (e : ∀ h < l, ∀ r < n, ∀ c < m, x h r c = y h r c) : Is3 X y := fun h r c => by rw [hX, e _ h.isLt _ r.isLt _ c.isLt]

/-- The weights before the mask. -/
theorem wraw_is (hZ : Is3 Z z) : Is3 (wraw (F := Ideal) Z) (fun h I J => Real.exp (z h I J - sp (z h I J) + af I (z h I) J)) := by
  have h1 := add_is (neg_is (spl_is (neg_is hZ))) (sub_is (cumr_is (stay_is hZ)) (stay_is hZ))
  intro h I J
  show Ideal.exp (addf (F := Ideal) (φ := .f32) _ _ (ix3 h I J)) = _
  rw [h1, exp_coe]
  congr 2
  have hJ := J.isLt
  show -sp (-z h I J) + (∑ y ∈ Finset.Ico J.val 8192, ls I (z h I) y - ls I (z h I) J) = _
  rw [sp_neg, ← Finset.sum_Ico_consecutive _ (show J.val ≤ J.val + 1 by omega) (by omega), Nat.Ico_succ_singleton, Finset.sum_singleton, af]
  ring

/-- The weights. -/
theorem wts_is (hZ : Is3 Z z) : Is3 (wts (F := Ideal) Z) (fun h I J => wt I (z h I) J) := mask_is (wraw_is hZ)

/-- The weighted products. -/
theorem gpr_is (hZ : Is3 Z z) (hV : Is2 V v) (hD : Is2 D d) : Is3 (gpr (F := Ideal) Z V D) (fun h I J => gg I (z h I) (uu v d h I) J) := by
  refine is3_congr (mul_is (mask_is (x := uu v d) fun h I J => dot_lanes hD hV h I J) (wraw_is hZ)) fun h _ I _ J _ => ?_
  rw [gg, wt]
  by_cases e : J < I
  · rw [if_pos e, if_pos e]; ring
  · rw [if_neg e, if_neg e, zero_mul, zero_mul]

/-- The gradient of the scores. -/
theorem dzed_is (hZ : Is3 Z z) {u : ℕ → ℕ → ℕ → ℝ} (hG : Is3 G (fun h I J => gg I (z h I) (u h I) J)) :
    Is3 (dzed (F := Ideal) Z G) (fun h I J => da I (z h I) (u h I) J * 0.125) := by
  have hs := mask_is (add_is (neg_is hG) (cumf_is hG))
  refine is3_congr (mul_is (add_is (neg_is (mul_is (neg_is hG) (dspl_is (neg_is hZ))))
    (neg_is (neg_is (mul_is (neg_is hs) (dspl_is (neg_is (neg_is hZ))))))) (y := fun _ _ _ => 0.125) fun h I J => cstEighth _) fun h _ I _ J _ => ?_
  simp only [neg_neg]
  congr 1
  rw [sp_neg, show -z h I J - (sp (z h I J) - z h I J) = -sp (z h I J) by ring, exp_neg_sp, da]
  by_cases e : J < I
  · rw [if_pos e, if_pos e, Finset.sum_range_succ]; ring
  · rw [if_neg e, if_neg e, gg_off (by omega)]; ring

/-! ### The results -/

theorem sum_keys (hX : Is3 X x) (hV : Is2 V v) (I : Fin 8192) (c : Fin 1024) :
    unhd (F := Ideal) (Host.dotGeneral dot_S16x8192x8192_S16x8192x64_S16x8192x64_2_1_1_2_0_0 none X (hd V)) (ix2 I c)
      = ((∑ J ∈ Finset.range 8192, x (c.val / 64) I J * v J c : ℝ) : EReal) := by
  rw [unhd_at]
  pointwise
  rw [← Fin.sum_univ_eq_sum_range (fun J => x (c.val / 64) I J * v J c), coe_sum]
  refine Finset.sum_congr rfl fun J _ => ?_
  rw [hX, hd_is hV, EReal.coe_mul]
  simp only [Nat.div_add_mod]

theorem sum_queries (hX : Is3 X x) (hV : Is2 V v) (I : Fin 8192) (c : Fin 1024) :
    unhd (F := Ideal) (Host.dotGeneral dot_S16x8192x8192_S16x8192x64_S16x8192x64_1_1_2_2_0_0 none X (hd V)) (ix2 I c)
      = ((∑ J ∈ Finset.range 8192, x (c.val / 64) J I * v J c : ℝ) : EReal) := by
  rw [unhd_at]
  pointwise
  rw [← Fin.sum_univ_eq_sum_range (fun J => x (c.val / 64) J I * v J c), coe_sum]
  refine Finset.sum_congr rfl fun J _ => ?_
  rw [hX, hd_is hV, EReal.coe_mul]
  simp only [Nat.div_add_mod]

variable (hQ : Is2 Q q) (hK : Is2 K k) (hV : Is2 V v) (hD : Is2 D d)
include hQ hK hV

theorem outp_is : Is2 (outp (F := Ideal) Q K V) (oR q k v) := fun I c => sum_keys (wts_is (zed_is hQ hK)) hV I c

include hD

theorem dz_is : Is3 (dzed (F := Ideal) (zed Q K) (gpr (zed Q K) V D)) (fun h I J => dz q k v d h I J * 0.125) :=
  dzed_is (zed_is hQ hK) (gpr_is (zed_is hQ hK) hV hD)

theorem dq_is : Is2 (dq (F := Ideal) Q K V D) (dqR q k v d) := fun I c => sum_keys (dz_is hQ hK hV hD) hK I c

theorem dk_is : Is2 (dk (F := Ideal) Q K V D) (dkR q k v d) := fun I c => sum_queries (dz_is hQ hK hV hD) hQ I c

omit hV in
theorem dv_is : Is2 (dv (F := Ideal) Q K D) (dvR q k d) := by
  intro J c
  unfold dv
  rw [unhd_at]
  pointwise
  rw [dvR, ← Fin.sum_univ_eq_sum_range (fun I => wt I (zz q k (c / 64) I) J * d I c), coe_sum]
  refine Finset.sum_congr rfl fun I _ => ?_
  rw [wts_is (zed_is hQ hK), hd_is hD, ← EReal.coe_mul, mul_comm]
  simp only [Nat.div_add_mod]

end Args

end Cert.ReferenceIdeal.Hand
end
-- ==== Proof.KI.Pair.lean ====
/-
  What the launch leaves over the reals. A point's blocks are blocks of the arguments; a unit's points add up, query block by
  query block, the gradients of its keys and values; each leaves its block of the queries' gradient.
-/
module

public import proofs.«01_k».proof.Proof.KI.Run
public import proofs.«01_k».proof.Proof.KI.Arr
public import proofs.«01_k».proof.Proof.KI.Seq
public import proofs.«01_k».proof.Proof.Pair
public import proofs.«01_k».proof.Proof.R.Read
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen Cert.Rows Cert.Rl
open Idealize.ShloMosaic Idealize.ShloMosaic.TcCoe
open Idealize.ShloMosaic.Pipeline (Dat Cfg Window BodyObligation cellOf)
open scoped BigOperators

/-! ### Where the windows lie -/

theorem coords_at : ∀ t : Fin grid0.N, (grid0.coords t 0).val = t.val / 32 ∧ (grid0.coords t 1).val = t.val % 32 := by decide +kernel

theorem row0_0 : ∀ t : Fin grid0.N, win0_0.index t 0 = t.val % 32 := by decide +kernel
theorem col0_0 : ∀ t : Fin grid0.N, win0_0.index t 1 = t.val / 32 := by decide +kernel
theorem row0_1 : ∀ t : Fin grid0.N, win0_1.index t 0 = 0 := by decide +kernel
theorem col0_1 : ∀ t : Fin grid0.N, win0_1.index t 1 = t.val / 32 := by decide +kernel
theorem row0_2 : ∀ t : Fin grid0.N, win0_2.index t 0 = 0 := by decide +kernel
theorem col0_2 : ∀ t : Fin grid0.N, win0_2.index t 1 = t.val / 32 := by decide +kernel
theorem row0_3 : ∀ t : Fin grid0.N, win0_3.index t 0 = t.val % 32 := by decide +kernel
theorem col0_3 : ∀ t : Fin grid0.N, win0_3.index t 1 = t.val / 32 := by decide +kernel
theorem row0_4 : ∀ t : Fin grid0.N, win0_4.index t 0 = t.val % 32 := by decide +kernel
theorem col0_4 : ∀ t : Fin grid0.N, win0_4.index t 1 = t.val / 32 := by decide +kernel
theorem row0_5 : ∀ t : Fin grid0.N, win0_5.index t 0 = t.val % 32 := by decide +kernel
theorem col0_5 : ∀ t : Fin grid0.N, win0_5.index t 1 = t.val / 32 := by decide +kernel
theorem row0_6 : ∀ t : Fin grid0.N, win0_6.index t 0 = 0 := by decide +kernel
theorem col0_6 : ∀ t : Fin grid0.N, win0_6.index t 1 = t.val / 32 := by decide +kernel
theorem row0_7 : ∀ t : Fin grid0.N, win0_7.index t 0 = 0 := by decide +kernel
theorem col0_7 : ∀ t : Fin grid0.N, win0_7.index t 1 = t.val / 32 := by decide +kernel

section Blocks

variable {F : FTy → Type} [FloatOps F] [Named F]
variable (m : (ℓ : Loc nD τ sig) → Buf (Elt F) ℓ) (c : Dev nD) (t : Fin (cfg0 (F := F)).N) (l : Fin 128)

theorem iblk0_0 (r : Fin 256) (h1 : 256 * (t.val % 32) + r.val < 8192) (h2 : 128 * (t.val / 32) + l.val < 1024) :
    iblk m c 0 t (ix2 r l) = V m c main_v30 (ix2 ⟨256 * (t.val % 32) + r.val, h1⟩ ⟨128 * (t.val / 32) + l.val, h2⟩) := by
  unfold iblk
  blk_ext
  · exact (congrArg (fun x => x * 256 + r.val) (row0_0 t)).trans (by omega)
  · exact (congrArg (fun x => x * 128 + l.val) (col0_0 t)).trans (by omega)

theorem iblk0_1 (r : Fin 8192) (h2 : 128 * (t.val / 32) + l.val < 1024) :
    iblk m c 1 t (ix2 r l) = V m c main_v31 (ix2 r ⟨128 * (t.val / 32) + l.val, h2⟩) := by
  unfold iblk
  blk_ext
  · exact (congrArg (fun x => x * 8192 + r.val) (row0_1 t)).trans (by omega)
  · exact (congrArg (fun x => x * 128 + l.val) (col0_1 t)).trans (by omega)

theorem iblk0_2 (r : Fin 8192) (h2 : 128 * (t.val / 32) + l.val < 1024) :
    iblk m c 2 t (ix2 r l) = V m c main_v32 (ix2 r ⟨128 * (t.val / 32) + l.val, h2⟩) := by
  unfold iblk
  blk_ext
  · exact (congrArg (fun x => x * 8192 + r.val) (row0_2 t)).trans (by omega)
  · exact (congrArg (fun x => x * 128 + l.val) (col0_2 t)).trans (by omega)

theorem iblk0_3 (r : Fin 256) (h1 : 256 * (t.val % 32) + r.val < 8192) (h2 : 128 * (t.val / 32) + l.val < 1024) :
    iblk m c 3 t (ix2 r l) = V m c main_v33 (ix2 ⟨256 * (t.val % 32) + r.val, h1⟩ ⟨128 * (t.val / 32) + l.val, h2⟩) := by
  unfold iblk
  blk_ext
  · exact (congrArg (fun x => x * 256 + r.val) (row0_3 t)).trans (by omega)
  · exact (congrArg (fun x => x * 128 + l.val) (col0_3 t)).trans (by omega)

theorem iblk0_4 (r : Fin 256) (h1 : 256 * (t.val % 32) + r.val < 8192) (h2 : 128 * (t.val / 32) + l.val < 1024) :
    iblk m c 4 t (ix2 r l) = V m c main_v27 (ix2 ⟨256 * (t.val % 32) + r.val, h1⟩ ⟨128 * (t.val / 32) + l.val, h2⟩) := by
  unfold iblk
  blk_ext
  · exact (congrArg (fun x => x * 256 + r.val) (row0_4 t)).trans (by omega)
  · exact (congrArg (fun x => x * 128 + l.val) (col0_4 t)).trans (by omega)

end Blocks

/-! ### One point -/

section Point

variable {h i : ℕ}

theorem lane_select {l : ℕ} (hl : l < 128) {α : Type} (x y : α) :
    Scalar.select (IntOp.cmpi .slt (BitVec.ofNat 32 l) 64#32) x y = if l < 64 then x else y := by
  rw [show (64#32 : BitVec 32) = BitVec.ofNat 32 64 from rfl, slt_small (by omega) (by omega), select_ofBool]
  simp

theorem pay19_tile {Q : Vec Ideal S256x128 .bf16} {x : ℕ → ℕ → ℝ} (hQ : Is2 Q fun r l => x (256 * i + r) (128 * h + l)) :
    Is2 (k0_pay19 (F := Ideal) Q) (tile h i x) := by
  intro r l
  pointwise [k0_pay19]
  simp only [lane_select l.isLt, hQ _ _, tile]
  have hl := l.isLt
  have hr := r.isLt
  by_cases e : r.val < 256 <;> by_cases e' : l.val < 64
  · rw [dif_pos e, if_pos e', if_pos (by omega), Nat.mod_eq_of_lt e]
  · rw [dif_pos e, if_neg e', if_neg (by omega), EReal.coe_zero]
  · rw [dif_neg e, if_pos e', if_neg (by omega), EReal.coe_zero]
  · rw [dif_neg e, if_neg e', if_pos (by omega), show r.val % 256 = r.val - 256 by omega]

theorem pay20_tile {Q : Vec Ideal S256x128 .bf16} {x : ℕ → ℕ → ℝ} (hQ : Is2 Q fun r l => x (256 * i + r) (128 * h + l)) :
    Is2 (k0_pay20 (F := Ideal) Q) (tile h i x) := pay19_tile hQ

theorem pay21_tile {D : Vec Ideal S256x128 .bf16} {O : Vec Ideal S256x128 .f32} {x o : ℕ → ℕ → ℝ}
    (hD : Is2 D fun r l => x (256 * i + r) (128 * h + l)) (hO : Is2 O fun r l => o (256 * i + r) (128 * h + l)) :
    Is2 (k0_pay21 (F := Ideal) D O) (fun r _ => ∑ l : Fin 128, tile h i x r l.val * lanes h o (256 * i + r % 256) l.val) := by
  intro r l
  pointwise [k0_pay21]
  have hr := r.isLt
  simp only [coe_sum]
  by_cases e : r.val < 256
  · rw [dif_pos e]
    refine Finset.sum_congr rfl fun l _ => ?_
    have hl := l.isLt
    simp only [lane_select l.isLt, hD _ _, hO _ _, tile, lanes, ← EReal.coe_mul]
    rw [Nat.mod_eq_of_lt e]
    by_cases e' : l.val < 64
    · rw [if_pos e', if_pos (by omega)]
    · rw [if_neg e', if_neg (by omega), zero_mul, EReal.coe_zero]
  · rw [dif_neg e]
    refine Finset.sum_congr rfl fun l _ => ?_
    have hl := l.isLt
    simp only [lane_select l.isLt, hD _ _, hO _ _, tile, lanes, ← EReal.coe_mul]
    rw [show r.val % 256 = r.val - 256 by omega]
    by_cases e' : l.val < 64
    · rw [if_pos e', if_neg (by omega), zero_mul, EReal.coe_zero]
    · rw [if_neg e', if_pos (by omega)]

theorem bits_eighth : Ideal.ofBits .f32 0x3E000000#32 = ((0.125 : ℝ) : EReal) :=
  ReferenceIdeal.Hand.cstEighth (ix3 (0 : Fin 16) (0 : Fin 8192) (0 : Fin 8192))

theorem pay6_is {A : FVec Ideal S512x128 .f32} {a : ℕ → ℕ → ℝ} (hA : Is2 A a) :
    Is2 (k0_pay6 (F := Ideal) A) (fun r l => 0.125 * a (256 * (l / 64) + r) l) := by
  intro r l
  pointwise [k0_pay6]
  have hl := l.isLt
  rw [lane_select hl, hA _ _, hA _ _, bits_eighth, EReal.coe_mul]
  by_cases e : l.val < 64
  · rw [if_pos e, show l.val / 64 = 0 by omega, Nat.mul_zero, Nat.zero_add]
  · rw [if_neg e, show l.val / 64 = 1 by omega, Nat.mul_one]

variable {q k v d dk dv : ℕ → ℕ → ℝ}

/-- Of blocks of reals a point leaves its block of the queries' gradient, and adds what its queries give the keys and values. -/
theorem point_is (hi : i < 32) {Q D : Vec Ideal S256x128 .bf16} {O : Vec Ideal S256x128 .f32} {K V : Vec Ideal S8192x128 .bf16}
    {DK DV : Vec Ideal S8192x128 .f32} (hQ : Is2 Q fun r l => eighth q (256 * i + r) (128 * h + l)) (hK : Is2 K (lanes h k))
    (hV : Is2 V (lanes h v)) (hD : Is2 D fun r l => d (256 * i + r) (128 * h + l))
    (hO : Is2 O fun r l => oR q k v (256 * i + r) (128 * h + l)) (hdk : Is2 DK dk) (hdv : Is2 DV dv) :
    Is2 (point i Q K V D O DK DV).1 (fun r l => dqR q k v d (256 * i + r) (128 * h + l))
    ∧ Is2 (point i Q K V D O DK DV).2.1 (fun J l => dk J l
        + ∑ y : Fin 256, dz q k v d ((128 * h + l) / 64) (256 * i + y.val) J * 0.125 * q (256 * i + y.val) (128 * h + l))
    ∧ Is2 (point i Q K V D O DK DV).2.2 (fun J l => dv J l
        + ∑ y : Fin 256, wt (256 * i + y.val) (zz q k ((128 * h + l) / 64) (256 * i + y.val)) J * d (256 * i + y.val) (128 * h + l)) := by
  obtain ⟨h1, h2, h3⟩ := rest_is hi (pay19_tile hQ) (pay20_tile hD) (pay21_tile hD hO) hK hV hdk hdv
  have ez : ∀ r < 512, zr (tile h i (eighth q)) (lanes h k) r = zz q k (2 * h + r / 256) (256 * i + r % 256) := fun r hr => tile_zz q k h i hr
  have eu : ∀ r < 512, zr (tile h i d) (lanes h v) r = uu v d (2 * h + r / 256) (256 * i + r % 256) := fun r hr => tile_uu v d h i hr
  have hn := inv_point (q := tile h i (eighth q)) (d := tile h i d) (k := lanes h k) (v := lanes h v) (dk0 := dk) (dv0 := dv)
    (t := fun r => ∑ l : Fin 128, tile h i d r l.val * lanes h (oR q k v) (256 * i + r % 256) l.val)
    (I := fun r => 256 * i + r % 256) hi (fun _ _ => rfl) fun r hr => by
      rw [ez r hr, eu r hr, ← head_tot, tile_dot h i _ _ hr]
  refine ⟨(pay6_is h1).congr fun r hr l hl => ?_, h2.congr fun J hJ l hl => ?_, h3.congr fun J hJ l hl => ?_⟩
  · have hr5 : 256 * (l / 64) + r < 512 := by omega
    rw [hn.a _ hr5, ez _ hr5, eu _ hr5, dqR, Finset.range_eq_Ico, Finset.mul_sum]
    refine Finset.sum_congr rfl fun J _ => ?_
    rw [show (256 * (l / 64) + r) / 256 = l / 64 by omega, show (256 * (l / 64) + r) % 256 = r by omega,
      show (128 * h + l) / 64 = 2 * h + l / 64 by omega, dz, lanes]
    ring
  · rw [hn.dk J hJ l, if_pos (by omega), Finset.sum_congr (s₁ := (Finset.univ : Finset (Fin 512))) rfl fun r _ => by
      rw [ez _ r.isLt, eu _ r.isLt]]
    refine congrArg (dk J l + ·) ((rows_sum h i (fun hh I => da I (zz q k hh I) (uu v d hh I) J) (eighth q) hl).trans ?_)
    exact Finset.sum_congr rfl fun y _ => by unfold eighth dz; ring
  · rw [hn.dv J hJ l, if_pos (by omega), Finset.sum_congr (s₁ := (Finset.univ : Finset (Fin 512))) rfl fun r _ => by
      rw [ez _ r.isLt]]
    exact congrArg (dv J l + ·) (rows_sum h i (fun hh I => wt I (zz q k hh I) J) d hl)

end Point

/-! ### All points -/

section Launch

variable {m : (ℓ : Loc nD τ sig) → Buf (Elt Ideal) ℓ} {c : Dev nD} {q k v d : ℕ → ℕ → ℝ}

/-- The four arguments are arrays of reals. -/
structure Reals (m : (ℓ : Loc nD τ sig) → Buf (Elt Ideal) ℓ) (c : Dev nD) (q k v d : ℕ → ℕ → ℝ) : Prop where
  q : Is2 (n := 8192) (m := 1024) (m (c.tc.loc main_arg0)) q
  k : Is2 (n := 8192) (m := 1024) (m (c.tc.loc main_arg1)) k
  v : Is2 (n := 8192) (m := 1024) (m (c.tc.loc main_arg2)) v
  d : Is2 (n := 8192) (m := 1024) (m (c.tc.loc main_arg3)) d

variable (H : Reals m c q k v d)
include H

theorem in_q (t : Fin (cfg0 (F := Ideal)).N) :
    Is2 (n := 256) (m := 128) (iblk m c 0 t) fun r l => eighth q (256 * (t.val % 32) + r) (128 * (t.val / 32) + l) := by
  intro r l
  have hN : t.val < 256 := Nat.lt_of_lt_of_eq t.isLt N_0
  rw [iblk0_0 m c t l r (by omega) (by omega), V_q]
  have e := H.q ⟨256 * (t.val % 32) + r.val, by omega⟩ ⟨128 * (t.val / 32) + l.val, by omega⟩
  show (_ : EReal) * Ideal.ofBits .f32 0x3E000000#32 = ((q (256 * (t.val % 32) + r.val) (128 * (t.val / 32) + l.val) * 0.125 : ℝ) : EReal)
  rw [bits_eighth, EReal.coe_mul]
  exact congrArg (· * ((0.125 : ℝ) : EReal)) e

theorem in_k (t : Fin (cfg0 (F := Ideal)).N) : Is2 (n := 8192) (m := 128) (iblk m c 1 t) (lanes (t.val / 32) k) := by
  intro r l
  have hN : t.val < 256 := Nat.lt_of_lt_of_eq t.isLt N_0
  rw [iblk0_1 m c t l r (by omega), V_k]
  exact H.k r ⟨128 * (t.val / 32) + l.val, by omega⟩

theorem in_v (t : Fin (cfg0 (F := Ideal)).N) : Is2 (n := 8192) (m := 128) (iblk m c 2 t) (lanes (t.val / 32) v) := by
  intro r l
  have hN : t.val < 256 := Nat.lt_of_lt_of_eq t.isLt N_0
  rw [iblk0_2 m c t l r (by omega), V_v]
  exact H.v r ⟨128 * (t.val / 32) + l.val, by omega⟩

theorem in_d (t : Fin (cfg0 (F := Ideal)).N) :
    Is2 (n := 256) (m := 128) (iblk m c 3 t) fun r l => d (256 * (t.val % 32) + r) (128 * (t.val / 32) + l) := by
  intro r l
  have hN : t.val < 256 := Nat.lt_of_lt_of_eq t.isLt N_0
  rw [iblk0_3 m c t l r (by omega) (by omega), V_d]
  exact H.d ⟨256 * (t.val % 32) + r.val, by omega⟩ ⟨128 * (t.val / 32) + l.val, by omega⟩

theorem in_o (t : Fin (cfg0 (F := Ideal)).N) :
    Is2 (n := 256) (m := 128) (iblk m c 4 t) fun r l => oR q k v (256 * (t.val % 32) + r) (128 * (t.val / 32) + l) := by
  intro r l
  have hN : t.val < 256 := Nat.lt_of_lt_of_eq t.isLt N_0
  rw [iblk0_4 m c t l r (by omega) (by omega), V_o]
  exact ReferenceIdeal.Hand.outp_is H.q H.k H.v ⟨256 * (t.val % 32) + r.val, by omega⟩ ⟨128 * (t.val / 32) + l.val, by omega⟩

/-- One point of the launch. -/
theorem pointAt_is (t : Fin (cfg0 (F := Ideal)).N) {DK DV : Vec Ideal S8192x128 .f32} {dk dv : ℕ → ℕ → ℝ}
    (hdk : Is2 (from0 (grid0.coords t) DK) dk) (hdv : Is2 (from0 (grid0.coords t) DV) dv) :
    Is2 (pointAt m c t DK DV).1 (fun r l => dqR q k v d (256 * (t.val % 32) + r) (128 * (t.val / 32) + l))
    ∧ Is2 (pointAt m c t DK DV).2.1 (fun J l => dk J l
        + ∑ y : Fin 256, dz q k v d ((128 * (t.val / 32) + l) / 64) (256 * (t.val % 32) + y.val) J * 0.125 * q (256 * (t.val % 32) + y.val) (128 * (t.val / 32) + l))
    ∧ Is2 (pointAt m c t DK DV).2.2 (fun J l => dv J l
        + ∑ y : Fin 256, wt (256 * (t.val % 32) + y.val) (zz q k ((128 * (t.val / 32) + l) / 64) (256 * (t.val % 32) + y.val)) J * d (256 * (t.val % 32) + y.val) (128 * (t.val / 32) + l)) := by
  unfold pointAt
  rw [(coords_at t).2]
  exact point_is (Nat.mod_lt _ (by decide)) (in_q H t) (in_k H t) (in_v H t) (in_d H t) (in_o H t) hdk hdv

/-- What the windows hold after a point: the sums over the queries seen so far. -/
theorem outs_is : ∀ (n : ℕ) (hn : n < (cfg0 (F := Ideal)).N),
    Is2 (outs m c n hn).1 (fun r l => dqR q k v d (256 * (n % 32) + r) (128 * (n / 32) + l))
    ∧ Is2 (outs m c n hn).2.1 (fun J l => ∑ I ∈ Finset.range (256 * (n % 32 + 1)),
        dz q k v d ((128 * (n / 32) + l) / 64) I J * 0.125 * q I (128 * (n / 32) + l))
    ∧ Is2 (outs m c n hn).2.2 (fun J l => ∑ I ∈ Finset.range (256 * (n % 32 + 1)),
        wt I (zz q k ((128 * (n / 32) + l) / 64) I) J * d I (128 * (n / 32) + l)) := by
  intro n
  induction n with
  | zero =>
    intro hn
    have z : ∀ D, Is2 (from0 (F := Ideal) (grid0.coords ⟨0, hn⟩) D) (fun _ _ => 0) := fun D => by
      rw [from0, if_pos ((hcond0_0 ⟨0, hn⟩).mpr rfl)]; exact pay14_is
    have e := pointAt_is H ⟨0, hn⟩ (z (k0_pay14 (F := Ideal))) (z (k0_pay14 (F := Ideal)))
    refine ⟨e.1, e.2.1.congr fun J _ l _ => ?_, e.2.2.congr fun J _ l _ => ?_⟩
    · exact (congrArg (· + _) (by simp)).trans (sum_block (fun I => dz q k v d ((128 * (0 / 32) + l) / 64) I J * 0.125 * q I (128 * (0 / 32) + l)) (0 % 32))
    · exact (congrArg (· + _) (by simp)).trans (sum_block (fun I => wt I (zz q k ((128 * (0 / 32) + l) / 64) I) J * d I (128 * (0 / 32) + l)) (0 % 32))
  | succ n ih =>
    intro hn
    by_cases h0 : (n + 1) % 32 = 0
    · have z : ∀ D, Is2 (from0 (F := Ideal) (grid0.coords ⟨n + 1, hn⟩) D) (fun _ _ => 0) := fun D => by
        rw [from0, if_pos ((hcond0_0 ⟨n + 1, hn⟩).mpr h0)]; exact pay14_is
      have e := pointAt_is H ⟨n + 1, hn⟩ (z (outs m c n (Nat.lt_of_succ_lt hn)).2.1) (z (outs m c n (Nat.lt_of_succ_lt hn)).2.2)
      refine ⟨e.1, e.2.1.congr fun J _ l _ => ?_, e.2.2.congr fun J _ l _ => ?_⟩
      · refine Eq.trans ?_ (sum_block (fun I => dz q k v d ((128 * ((n + 1) / 32) + l) / 64) I J * 0.125 * q I (128 * ((n + 1) / 32) + l)) ((n + 1) % 32))
        rw [show Finset.range (256 * ((n + 1) % 32)) = ∅ by rw [h0]; rfl, Finset.sum_empty]
      · refine Eq.trans ?_ (sum_block (fun I => wt I (zz q k ((128 * ((n + 1) / 32) + l) / 64) I) J * d I (128 * ((n + 1) / 32) + l)) ((n + 1) % 32))
        rw [show Finset.range (256 * ((n + 1) % 32)) = ∅ by rw [h0]; rfl, Finset.sum_empty]
    · obtain ⟨_, p2, p3⟩ := ih (Nat.lt_of_succ_lt hn)
      have hk : ∀ D, from0 (F := Ideal) (grid0.coords ⟨n + 1, hn⟩) D = D := fun D => if_neg fun h => h0 ((hcond0_0 ⟨n + 1, hn⟩).mp h)
      have e := pointAt_is H ⟨n + 1, hn⟩ ((hk (outs m c n (Nat.lt_of_succ_lt hn)).2.1).symm ▸ p2) ((hk (outs m c n (Nat.lt_of_succ_lt hn)).2.2).symm ▸ p3)
      have a1 : n / 32 = (n + 1) / 32 := by omega
      have a2 : n % 32 + 1 = (n + 1) % 32 := by omega
      refine ⟨e.1, e.2.1.congr fun J _ l _ => ?_, e.2.2.congr fun J _ l _ => ?_⟩
      · rw [a1, a2]
        exact sum_block (fun I => dz q k v d ((128 * ((n + 1) / 32) + l) / 64) I J * 0.125 * q I (128 * ((n + 1) / 32) + l)) ((n + 1) % 32)
      · rw [a1, a2]
        exact sum_block (fun I => wt I (zz q k ((128 * ((n + 1) / 32) + l) / 64) I) J * d I (128 * ((n + 1) / 32) + l)) ((n + 1) % 32)

/-! The gradients' arrays after the launch. -/

omit H in
theorem cover0_5 : ((cfg0 (F := Ideal)).win 5).Covers := by
  refine ((cfg0 (F := Ideal)).win 5).covers_of_index_surj rfl (by decide) fun β => ?_
  have b0 : (β 0).val < 32 := (β 0).isLt
  have b1 : (β 1).val < 8 := (β 1).isLt
  refine ⟨⟨32 * (β 1).val + (β 0).val, Nat.lt_of_lt_of_eq (by omega) N_0.symm⟩, fun a => ?_⟩
  match a with
  | 0 => exact (row0_5 _).trans (by simp only []; omega)
  | 1 => exact (col0_5 _).trans (by simp only []; omega)

theorem arr_q : (dats m 0 c).arrAt 5 (cfg0 (F := Ideal)).N = fun y => ((dqR q k v d (y 0).val (y 1).val : ℝ) : EReal) := by
  refine (dats m 0 c).arrAt_eq_of_covers 5 _ cover0_5 fun t hf y => ?_
  blk_simp
  rw [after0_5]
  have e := (outs_is H t.val t.isLt).1 (y 0) (y 1)
  rw [row0_5 t, col0_5 t, Nat.mul_comm _ 256, Nat.mul_comm _ 128]
  exact (congrArg _ (eq_ix2 y)).trans e

omit H in
theorem cover0_6 : ((cfg0 (F := Ideal)).win 6).Covers := by
  refine ((cfg0 (F := Ideal)).win 6).covers_of_index_surj rfl (by decide) fun β => ?_
  have b0 : (β 0).val < 1 := (β 0).isLt
  have b1 : (β 1).val < 8 := (β 1).isLt
  refine ⟨⟨32 * (β 1).val, Nat.lt_of_lt_of_eq (by omega) N_0.symm⟩, fun a => ?_⟩
  match a with
  | 0 => exact (row0_6 _).trans (by omega)
  | 1 => exact (col0_6 _).trans (by simp only []; omega)

theorem arr_k : (dats m 0 c).arrAt 6 (cfg0 (F := Ideal)).N = fun y => ((dkR q k v d (y 0).val (y 1).val : ℝ) : EReal) := by
  refine (dats m 0 c).arrAt_eq_of_covers 6 _ cover0_6 fun t hf y => ?_
  have h31 := (flush0_6 t).mp hf
  blk_simp
  rw [after0_6]
  have e := (outs_is H t.val t.isLt).2.1 (y 0) (y 1)
  rw [row0_6 t, col0_6 t, Nat.zero_mul, Nat.zero_add, Nat.mul_comm _ 128]
  rw [h31] at e
  exact (congrArg _ (eq_ix2 y)).trans e

omit H in
theorem cover0_7 : ((cfg0 (F := Ideal)).win 7).Covers := by
  refine ((cfg0 (F := Ideal)).win 7).covers_of_index_surj rfl (by decide) fun β => ?_
  have b0 : (β 0).val < 1 := (β 0).isLt
  have b1 : (β 1).val < 8 := (β 1).isLt
  refine ⟨⟨32 * (β 1).val, Nat.lt_of_lt_of_eq (by omega) N_0.symm⟩, fun a => ?_⟩
  match a with
  | 0 => exact (row0_7 _).trans (by omega)
  | 1 => exact (col0_7 _).trans (by simp only []; omega)

theorem arr_v : (dats m 0 c).arrAt 7 (cfg0 (F := Ideal)).N = fun y => ((dvR q k d (y 0).val (y 1).val : ℝ) : EReal) := by
  refine (dats m 0 c).arrAt_eq_of_covers 7 _ cover0_7 fun t hf y => ?_
  have h31 := (flush0_7 t).mp hf
  blk_simp
  rw [after0_7]
  have e := (outs_is H t.val t.isLt).2.2 (y 0) (y 1)
  rw [row0_7 t, col0_7 t, Nat.zero_mul, Nat.zero_add, Nat.mul_comm _ 128]
  rw [h31] at e
  exact (congrArg _ (eq_ix2 y)).trans e

end Launch

end Cert.KernelIdeal.Hand
end
-- ==== Proof.Value.lean ====
/-
  The value claim: of arguments that are arrays of reals the kernel's launch and the reference leave the same three gradients.
-/
module

public import proofs.«01_k».proof.Defs
public import proofs.«01_k».proof.Proof.Gen.ReferenceIdeal.Run
public import proofs.«01_k».proof.Proof.KI.Pair

@[expose] public section

noncomputable section

namespace Cert.Finite

open Idealize.ShloMosaic Cert.Rl

instance facts : Cert.Pre_finite.Facts := ⟨by decide⟩

theorem bits_inf : Ideal.ofBits .f32 0x7F800000#32 = (⊤ : EReal) := by simp [Ideal.ofBits, Ideal.ieee]

/-- An extended real whose absolute value is below infinity is a real. -/
theorem real_of_lt {x : EReal} (h : max x (-x) < ⊤) : x = ((x.toReal : ℝ) : EReal) := by
  have h1 := (max_lt_iff.mp h).1
  have h2 := (max_lt_iff.mp h).2
  refine (EReal.coe_toReal h1.ne fun e => ?_).symm
  rw [e, EReal.neg_bot] at h2
  exact lt_irrefl _ h2

theorem and_one {x y : BitVec 1} (h : IntOp.andi x y = 1#1) : x = 1#1 ∧ y = 1#1 := by
  revert x y; decide

theorem lt_of_bit {x : EReal} (h : BitVec.ofBool (decide ((FloatOps.absf (F := Ideal) (φ := .f32) x : EReal) < Ideal.ofBits .f32 0x7F800000#32)) = 1#1) :
    x = ((x.toReal : ℝ) : EReal) := by
  rw [bits_inf] at h
  refine real_of_lt (x := x) ?_
  by_contra e
  rw [show decide ((FloatOps.absf (F := Ideal) (φ := .f32) x : EReal) < ⊤) = false from decide_eq_false e] at h
  exact absurd h (by decide)

/-- Where the check is one, the four entries are reals. -/
theorem reals {Q K V D : FVec Ideal Cert.Pre_finite.S8192x1024 .f32} {i : Cert.Pre_finite.S8192x1024.Idx}
    (h : Cert.Pre_finite.fn (F := Ideal) Q K V D i = 1#1) :
    (Q i : EReal) = (EReal.toReal (Q i) : ℝ) ∧ (K i : EReal) = (EReal.toReal (K i) : ℝ)
      ∧ (V i : EReal) = (EReal.toReal (V i) : ℝ) ∧ (D i : EReal) = (EReal.toReal (D i) : ℝ) := by
  unfold Cert.Pre_finite.fn at h
  pointwise at h
  obtain ⟨h, hd⟩ := and_one h
  obtain ⟨h, hv⟩ := and_one h
  obtain ⟨hq, hk⟩ := and_one h
  exact ⟨lt_of_bit hq, lt_of_bit hk, lt_of_bit hv, lt_of_bit hd⟩

end Cert.Finite

namespace Cert.KernelIdeal.Hand

open Cert.KernelIdeal Cert.KernelIdeal.Gen Cert.Rl
open Idealize.ShloMosaic Idealize.ShloMosaic.TcCoe Idealize.SL.Sem

variable (m : (ℓ : Loc nD τ sig) → Buf (Elt Ideal) ℓ) (ρ : Dev nD → PrngReg)

/-- The entries of an array as reals, by their coordinates. -/
def entries (x : FVec Ideal S8192x1024 .f32) (r l : ℕ) : ℝ :=
  if h : r < 8192 ∧ l < 1024 then EReal.toReal (x (ix2 (n0 := 8192) (n1 := 1024) ⟨r, h.1⟩ ⟨l, h.2⟩)) else 0

theorem entries_is {x : FVec Ideal S8192x1024 .f32} (h : ∀ i, (x i : EReal) = (EReal.toReal (x i) : ℝ)) :
    Is2 (n := 8192) (m := 1024) x (entries x) := fun r l => by
  rw [entries, dif_pos ⟨r.isLt, l.isLt⟩]; exact h _

theorem reals_of_pre (h : Cert.Pre_KernelIdeal_finite m) (c : Dev nD) :
    Reals m c (entries (m (c.tc.loc main_arg0))) (entries (m (c.tc.loc main_arg1))) (entries (m (c.tc.loc main_arg2)))
      (entries (m (c.tc.loc main_arg3))) := by
  have e := fun i => Cert.Finite.reals (congrFun (h c) i)
  exact ⟨entries_is fun i => (e i).1, entries_is fun i => (e i).2.1, entries_is fun i => (e i).2.2.1, entries_is fun i => (e i).2.2.2⟩

/-- The launch leaves the three gradients' arrays and the arguments as they were. -/
theorem run_arrays : θ_run defs (onTc (τ := τ) (main (F := Ideal))) ⟨m, fun _ => 0, ρ⟩ fun r => ∀ c : Dev nD,
      r.2.mem ((c.tc : Thread nD τ).loc main_v34_0) = (dats m 0 c).arrAt 5 (cfg0 (F := Ideal)).N
      ∧ r.2.mem ((c.tc : Thread nD τ).loc main_v34_1) = (dats m 0 c).arrAt 6 (cfg0 (F := Ideal)).N
      ∧ r.2.mem ((c.tc : Thread nD τ).loc main_v34_2) = (dats m 0 c).arrAt 7 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 5, (h.1 c).1 6, (h.1 c).1 7, h.2.1 c⟩) (θ_run_and (run_main m ρ) (frame m ρ))

end Cert.KernelIdeal.Hand

namespace Cert.Proof

open Idealize.ShloMosaic Idealize.SL.Sem Cert.Rl

theorem algebraic : Cert.algebraic_KernelIdeal_ReferenceIdeal_pre_finite := by
  intro m g m' g' hpre hagree
  refine ⟨_, _, _, Cert.KernelIdeal.Hand.run_arrays m g, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' g')
  all_goals
    have H := Cert.KernelIdeal.Hand.reals_of_pre m hpre c
    obtain ⟨e0, e1, e2, e3⟩ := hagree c
  · rw [Cert.KernelIdeal.Hand.arr_q H]
    refine (Cert.ReferenceIdeal.Hand.dq_eq m' c).trans ?_
    rw [e0, e1, e2, e3]
    funext y
    exact (congrArg _ (eq_ix2 y)).trans (Cert.ReferenceIdeal.Hand.dq_is H.q H.k H.v H.d (y 0) (y 1))
  · rw [Cert.KernelIdeal.Hand.arr_k H]
    refine (Cert.ReferenceIdeal.Hand.dk_eq m' c).trans ?_
    rw [e0, e1, e2, e3]
    funext y
    exact (congrArg _ (eq_ix2 y)).trans (Cert.ReferenceIdeal.Hand.dk_is H.q H.k H.v H.d (y 0) (y 1))
  · rw [Cert.KernelIdeal.Hand.arr_v H]
    refine (Cert.ReferenceIdeal.Hand.dv_eq m' c).trans ?_
    rw [e0, e1, e3]
    funext y
    exact (congrArg _ (eq_ix2 y)).trans (Cert.ReferenceIdeal.Hand.dv_is H.q H.k H.d (y 0) (y 1))

end Cert.Proof

end
-- ==== Proof.F.Fin.lean ====
/-
  Extended reals that are reals: what a check of finiteness gives, and that products, sums and the like of reals are reals.
-/
module

public import Idealize.ShloMosaic.Lib.Pointwise
public import Idealize.ShloMosaic.Lib.IdealHost
public import Idealize.ShloMosaic.Lib.ReduceAll

@[expose] public section

noncomputable section

namespace Cert.Fin

open Idealize.ShloMosaic
open scoped BigOperators

/-- An extended real that is a real. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.mul {x y : EReal} : IsR x → IsR y → IsR (x * y) := fun ⟨a, ha⟩ ⟨b, hb⟩ => ⟨a * b, by rw [ha, hb, EReal.coe_mul]⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.neg {x : EReal} : IsR x → IsR (-x) := fun ⟨a, ha⟩ => ⟨-a, by rw [ha, EReal.coe_neg]⟩

theorem coe_sum {ι : Type*} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

theorem IsR.sum {ι : Type*} {s : Finset ι} {f : ι → EReal} (h : ∀ i, IsR (f i)) : IsR (∑ i ∈ s, f i) := by
  choose g hg using h
  exact ⟨∑ i ∈ s, g i, by rw [coe_sum]; exact Finset.sum_congr rfl fun i _ => hg i⟩

theorem bits_inf : Ideal.ofBits .f32 0x7F800000#32 = (⊤ : EReal) := by simp [Ideal.ofBits, Ideal.ieee]

/-- The pattern of a half. -/
theorem bits_half : Ideal.ofBits .f32 0x3F000000#32 = ((2⁻¹ : ℝ) : EReal) := by
  simp [Ideal.ofBits, Ideal.ieee, -EReal.coe_mul]; norm_num

theorem IsR.half : IsR (Ideal.ofBits .f32 0x3F000000#32) := ⟨_, bits_half⟩

theorem and_one {x y : BitVec 1} (h : IntOp.andi x y = 1#1) : x = 1#1 ∧ y = 1#1 := by
  revert x y; decide

theorem isR_of_bit {x : EReal} (h : BitVec.ofBool (decide ((FloatOps.absf (F := Ideal) (φ := .f32) x : EReal) < Ideal.ofBits .f32 0x7F800000#32)) = 1#1) : IsR x := by
  rw [bits_inf] at h
  have e : max x (-x) < ⊤ := by
    by_contra e
    rw [show decide ((FloatOps.absf (F := Ideal) (φ := .f32) x : EReal) < ⊤) = false from decide_eq_false e] at h
    exact absurd h (by decide)
  have h1 := (max_lt_iff.mp e).1
  have h2 := (max_lt_iff.mp e).2
  refine ⟨x.toReal, (EReal.coe_toReal h1.ne fun e => ?_).symm⟩
  rw [e, EReal.neg_bot] at h2
  exact lt_irrefl _ h2

abbrev unit : Shape := ⟨0, ![]⟩

instance : Subsingleton unit.Idx := ⟨fun _ _ => funext fun a => Fin.elim0 a⟩

/-- Where the check of an array is one, its entries are reals. -/
theorem isR_of_all {s : Shape} {axes : List (Fin s.rank)} {x : FVec Ideal s .f32} {init : unit.Idx → BitVec 1} {hb : unit.BroadcastsInDim s (![] : Fin 0 → Fin s.rank)}
    {hr : s.ReducesTo axes unit} {hu : 0 < unit.numel} {j : unit.Idx}
    (h : Host.reduce IntOp.andi (cmpf .olt (Host.absf x) (broadcastInDim s ![] hb (constant unit .f32 0x7F800000#32))) init hr hu j = 1#1) (i : s.Idx) : IsR (x i) :=
  isR_of_bit (Host.reduce_andi_all _ init hr hu j h i)

end Cert.Fin

end
-- ==== Proof.F.Act.lean ====
/-
  The gradients of the feed-forward block's gate and of its other half: `dact = (dx / 2) · wᵀ`; `dup = dact · silu(gate)`
  and `dgate = dact · up · silu'(gate)`, which the reference writes as a sum of two.
-/
module

public import proofs.«01_k».proof.Defs
public import proofs.«01_k».proof.Proof.F.Fin
public import proofs.«01_k».proof.Proof.Gen.ActIdeal.Value
public import proofs.«01_k».proof.Proof.Gen.ActRefIdeal.Run
public import Idealize.ShloMosaic.Lib.Pipeline.ValueKit

@[expose] public section

set_option maxRecDepth 16384

noncomputable section

namespace Cert.Pre_act_finite

open Idealize.ShloMosaic Cert.Fin

instance facts : Cert.Pre_act_finite.Facts := ⟨by decide, by decide, by decide, by decide, by decide, by decide, by decide, by decide⟩

/-- Where the check is one, the arrays hold reals. -/
theorem reals {X : FVec Ideal S8192x1024 .f32} {W : FVec Ideal S2816x1024 .f32} {G U : FVec Ideal S8192x2816 .bf16} {j : S_.Idx}
    (h : fn (F := Ideal) X W G U j = 1#1) : (∀ i, IsR (X i)) ∧ (∀ i, IsR (W i)) ∧ (∀ i, IsR (G i)) ∧ ∀ i, IsR (U i) := by
  dsimp only [fn, fn_part1] at h
  obtain ⟨h, hu⟩ := and_one h
  obtain ⟨h, hg⟩ := and_one h
  obtain ⟨hx, hw⟩ := and_one h
  exact ⟨isR_of_all hx, isR_of_all hw, isR_of_all hg, isR_of_all hu⟩

end Cert.Pre_act_finite

namespace Cert.ActRefIdeal.Hand

open Cert.ActRefIdeal Cert.ActRefIdeal.Gen Idealize.ShloMosaic

variable {F : FTy → Type} [FloatOps F] (x : FVec F S8192x1024 .f32) (w : FVec F S2816x1024 .f32) (g u : FVec F S8192x2816 .bf16)

/-- The gradient of the block's activation. -/
def dact : FVec F S8192x2816 .f32 :=
  Host.dotGeneral dot_S8192x1024_S2816x1024_S8192x2816_1_1_0_0_n_n none (mulf (broadcastInDim S8192x1024 ![] bcast_S_S8192x1024 (constant S_ .f32 0x3F000000#32)) x) w

def one : FVec F S8192x2816 .f32 := broadcastInDim S8192x2816 ![] bcast_S_S8192x2816 (constant S_ .f32 0x3F800000#32)

/-- The logistic of the gate. -/
def sig : FVec F S8192x2816 .f32 := Host.divf one (addf one (Host.exp (Host.negf (extf .f32 g bitsLt_bf16_f32))))

/-- The two results. -/
def out0 : FVec F S8192x2816 .bf16 :=
  truncf .bf16 (addf (mulf (mulf (dact x w) (extf .f32 u bitsLt_bf16_f32)) (sig g))
    (mulf (mulf (extf .f32 g bitsLt_bf16_f32) (mulf (dact x w) (extf .f32 u bitsLt_bf16_f32))) (mulf (sig g) (subf one (sig g))))) bitsLt_bf16_f32
def out1 : FVec F S8192x2816 .bf16 := truncf .bf16 (mulf (mulf (extf .f32 g bitsLt_bf16_f32) (sig g)) (dact x w)) bitsLt_bf16_f32

end Cert.ActRefIdeal.Hand

namespace Cert.ActIdeal.Hand

open Cert.ActIdeal Cert.ActIdeal.Gen Cert.Fin
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = win0_4.index t 0 ∧ win0_0.index t 1 = 0 ∧ win0_1.index t 0 = win0_4.index t 1 ∧ win0_1.index t 1 = 0
      ∧ win0_2.index t 0 = win0_4.index t 0 ∧ win0_2.index t 1 = win0_4.index t 1 ∧ win0_3.index t 0 = win0_4.index t 0 ∧ win0_3.index t 1 = win0_4.index t 1
      ∧ win0_5.index t 0 = win0_4.index t 0 ∧ win0_5.index t 1 = win0_4.index t 1 :=
  (by decide +kernel : ∀ t : Fin grid0.N, win0_0.index t 0 = win0_4.index t 0 ∧ win0_0.index t 1 = 0 ∧ win0_1.index t 0 = win0_4.index t 1 ∧ win0_1.index t 1 = 0
      ∧ win0_2.index t 0 = win0_4.index t 0 ∧ win0_2.index t 1 = win0_4.index t 1 ∧ win0_3.index t 0 = win0_4.index t 0 ∧ win0_3.index t 1 = win0_4.index t 1
      ∧ win0_5.index t 0 = win0_4.index t 0 ∧ win0_5.index t 1 = win0_4.index t 1) t

theorem V_w : V m c main_v0 = truncf (F := Ideal) (s := S2816x1024) .bf16 (m ((c.tc : Thread nD τ).loc main_arg1)) bitsLt_bf16_f32 := by
  rfl

/-- The gate's gradient, with its common factor and without. -/
theorem grad_eq {A g u s : EReal} (hA : IsR A) (hg : IsR g) (hu : IsR u) (hs : s = Ideal.logistic g) :
    A * u * (s + g * s * (1 - s)) = A * u * s + g * (A * u) * (s * (1 - s)) := by
  obtain ⟨A, rfl⟩ := hA
  obtain ⟨g, rfl⟩ := hg
  obtain ⟨u, rfl⟩ := hu
  rw [hs, Ideal.logistic_coe, ← EReal.coe_one]
  simp only [← EReal.coe_mul, ← EReal.coe_sub, ← EReal.coe_add]
  congr 1
  ring

theorem arr1 : (dats m 0 c).arrAt 5 cfg0.N = Cert.ActRefIdeal.Hand.out1 (F := Ideal) (m ((c.tc : Thread nD τ).loc main_arg0))
    (m ((c.tc : Thread nD τ).loc main_arg1)) (m ((c.tc : Thread nD τ).loc main_arg2)) := by
  refine (dats m 0 c).arrAt_eq_of_covers 5 _ (by decide +kernel) fun t hf y => ?_
  obtain ⟨a0, a0', a1, a1', a2, a2', a3, a3', a5, a5'⟩ := idx t
  blk_simp
  rw [after0_5]
  frame_out
  unfold k0_pay6 k0_pay4 k0_pay3 k0_pay2 k0_pay1 Cert.ActRefIdeal.Hand.out1 Cert.ActRefIdeal.Hand.dact Cert.ActRefIdeal.Hand.sig Cert.ActRefIdeal.Hand.one
  pointwise
  simp only [Ideal.logistic, Ideal.ofBits_one_f32]
  refine (EReal.mul_comm _ _).trans ?_
  blk_point [iblk, V_w, a0, a0', a1, a1', a2, a2', a3, a3', a5, a5']

theorem arr0 (hx : ∀ i, IsR (m ((c.tc : Thread nD τ).loc main_arg0) i)) (hw : ∀ i, IsR (m ((c.tc : Thread nD τ).loc main_arg1) i))
    (hg : ∀ i, IsR (m ((c.tc : Thread nD τ).loc main_arg2) i)) (hu : ∀ i, IsR (m ((c.tc : Thread nD τ).loc main_arg3) i)) :
    (dats m 0 c).arrAt 4 cfg0.N = Cert.ActRefIdeal.Hand.out0 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨a0, a0', a1, a1', a2, a2', a3, a3', a5, a5'⟩ := idx t
  blk_simp
  rw [after0_4]
  frame_out
  unfold k0_pay5 k0_pay4 k0_pay3 k0_pay2 k0_pay1 Cert.ActRefIdeal.Hand.out0 Cert.ActRefIdeal.Hand.dact Cert.ActRefIdeal.Hand.sig Cert.ActRefIdeal.Hand.one
  pointwise
  simp only [Ideal.logistic, Ideal.ofBits_one_f32]
  refine Eq.trans ?_ (grad_eq (IsR.sum fun k => (IsR.half.mul (hx _)).mul (hw _)) (hg _) (hu _) rfl)
  blk_point [iblk, V_w, a0, a0', a1, a1', a2, a2', a3, a3', a5, a5']

end Cert.ActIdeal.Hand

namespace Cert.Proof

open Idealize.ShloMosaic Idealize.SL.Sem

theorem algebraic_act : Cert.algebraic_ActIdeal_ActRefIdeal_pre_act_finite := by
  intro m g m' g' hpre hagree
  refine ⟨_, _, Cert.ActIdeal.Value.run_blocks m g, ?_⟩
  refine (θ_run Cert.ActRefIdeal.defs _ _).mono (fun _ h c => ⟨(h c).1.trans ?_, (h c).2.1.trans ?_, (h c).2.2⟩)
    (Cert.ActRefIdeal.Value.run (F := Ideal) m' g')
  all_goals obtain ⟨e0, e1, e2, e3⟩ := hagree c
  · obtain ⟨hx, hw, hg, hu⟩ := Cert.Pre_act_finite.reals (congrFun (hpre c) (fun a => Fin.elim0 a))
    rw [Cert.ActIdeal.Hand.arr0 m c hx hw hg hu, ← e0, ← e1, ← e2, ← e3]; rfl
  · rw [Cert.ActIdeal.Hand.arr1, ← e0, ← e1, ← e2]; rfl

end Cert.Proof
end
-- ==== Proof.F.Dwd.lean ====
/-
  The gradient of the feed-forward block's second weight: four stretches of rows are added up in a scratch, and the sum
  over all the rows of `act · (dx / 2)` is the reference's product.
-/
module

public import proofs.«01_k».proof.Defs
public import proofs.«01_k».proof.Proof.Gen.DwdIdeal.Value
public import proofs.«01_k».proof.Proof.Gen.DwdRefIdeal.Run
public import Idealize.ShloMosaic.Lib.Pipeline.ValueKit
public import Idealize.ShloMosaic.Lib.Pipeline.ReadBack

@[expose] public section

set_option maxRecDepth 16384

noncomputable section

namespace Cert.DwdRefIdeal.Hand

open Cert.DwdRefIdeal Cert.DwdRefIdeal.Gen Idealize.ShloMosaic

/-- The reference's result. -/
def out {F : FTy → Type} [FloatOps F] (a : FVec F S8192x2816 .bf16) (x : FVec F S8192x1024 .f32) : FVec F S2816x1024 .bf16 :=
  truncf .bf16 (transpose S2816x1024 [1, 0] (Host.dotGeneral dot_S8192x1024_S8192x2816_S1024x2816_0_0_1_1_n_n none
    (mulf (broadcastInDim S8192x1024 ![] bcast_S_S8192x1024 (constant S_ .f32 0x3F000000#32)) x) (extf .f32 a bitsLt_bf16_f32))
      transposes_S1024x2816_S2816x1024_1_0) bitsLt_bf16_f32

end Cert.DwdRefIdeal.Hand

namespace Cert.DwdIdeal.Hand

open Cert.DwdIdeal Cert.DwdIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 4 ∧ win0_0.index t 1 = t.val / 4 ∧ win0_1.index t 0 = t.val % 4 ∧ win0_1.index t 1 = 0
      ∧ win0_2.index t 0 = t.val / 4 ∧ win0_2.index t 1 = 0 :=
  (by decide +kernel : ∀ t : Fin grid0.N, win0_0.index t 0 = t.val % 4 ∧ win0_0.index t 1 = t.val / 4 ∧ win0_1.index t 0 = t.val % 4 ∧ win0_1.index t 1 = 0
      ∧ win0_2.index t 0 = t.val / 4 ∧ win0_2.index t 1 = 0) t

theorem prod_apply (a : Vec Ideal S2048x1408 .bf16) (x : Vec Ideal S2048x1024 .f32) (i : S1408x1024.Idx) :
    k0_pay1 a x i = (∑ k : Fin 2048, (a (ix2 (n0 := 2048) (n1 := 1408) k (i 0)) : EReal) * (Ideal.ofBits .f32 0x3F000000#32 * x (ix2 (n0 := 2048) (n1 := 1024) k (i 1))) : EReal) := by
  unfold k0_pay1
  pointwise

/-- One stretch's product. -/
def term (t : Fin cfg0.N) (i : S1408x1024.Idx) : EReal := k0_pay1 (F := Ideal) (iblk m c 0 t) (iblk m c 1 t) i

/-- What is being added up: the scratch, and at the last stretch what is written out. -/
def held (n : ℕ) (h : n < cfg0.N) (i : S1408x1024.Idx) : EReal := if n % 4 = 3 then (outsAt0 m c n h).1 i else (outsAt0 m c n h).2 i

theorem held_first (t : Fin cfg0.N) (h : t.val % 4 = 0) (i : S1408x1024.Idx) : held m c t.val t.isLt i = 0 + term m c t i := by
  rw [held, if_neg (by omega), outsAt0_A m c t h (by omega) (by omega), zero_add]
  frame_out
  unfold k0_pay2
  pointwise
  rfl

theorem held_next (t : Fin cfg0.N) (h : ¬t.val % 4 = 0) (i : S1408x1024.Idx) :
    held m c t.val t.isLt i = held m c (t.val - 1) (Nat.lt_of_le_of_lt (Nat.sub_le _ _) t.isLt) i + term m c t i := by
  rw [held, held, if_neg (by omega : ¬(t.val - 1) % 4 = 3)]
  by_cases h3 : t.val % 4 = 3
  · rw [if_pos h3, outsAt0_C m c t h (by omega) h3]
    frame_out
    unfold k0_pay4
    pointwise
    simp only [read_unread_whole]
    rfl
  · rw [if_neg h3, outsAt0_B m c t h (by omega) h3]
    frame_out
    unfold k0_pay3
    pointwise
    simp only [read_unread_whole]
    rfl

/-- The array after the launch. -/
theorem arr : (dats m 0 c).arrAt 2 cfg0.N = Cert.DwdRefIdeal.Hand.out (F := Ideal) (m ((c.tc : Thread nD τ).loc main_arg0))
    (m ((c.tc : Thread nD τ).loc main_arg1)) := by
  refine (dats m 0 c).arrAt_eq_of_covers 2 _ (by decide +kernel) fun t hf y => ?_
  have h3 := (flush0_2 t).mp hf
  have e := Pipeline.eq_sum_fin_of_reset_step_apply_of_flush (held m c) 4 (fun _ => 0) (term m c) (held_first m c) (held_next m c) t h3 y
  rw [held, if_pos h3] at e
  obtain ⟨-, -, -, -, e2, e2'⟩ := idx t
  blk_simp
  rw [after0_2]
  refine e.trans ?_
  rw [zero_add]
  simp only [term, prod_apply]
  unfold Cert.DwdRefIdeal.Hand.out
  pointwise
  refine Fin.sum_mul_add_congr (S := 4) (n := 2048) fun s k hl => ?_
  refine (EReal.mul_comm _ _).trans ?_
  generalize hu : (⟨4 * (t.val / 4) + s.val, _⟩ : Fin cfg0.N) = u
  have hv : u.val = 4 * (t.val / 4) + s.val := by rw [← hu]
  obtain ⟨a0, a0', a1, a1', -, -⟩ := idx u
  blk_point [iblk, a0, a0', a1, a1', e2, e2']

end Cert.DwdIdeal.Hand

namespace Cert.Proof

open Idealize.ShloMosaic Idealize.SL.Sem

theorem algebraic_dwd : Cert.algebraic_DwdIdeal_DwdRefIdeal := by
  intro m g m' g' _ hagree
  refine ⟨_, Cert.DwdIdeal.Value.run_blocks m g, ?_⟩
  refine (θ_run Cert.DwdRefIdeal.defs _ _).mono (fun _ h c => ⟨(h c).1.trans ?_, (h c).2⟩) (Cert.DwdRefIdeal.Value.run (F := Ideal) m' g')
  obtain ⟨e0, e1⟩ := hagree c
  rw [Cert.DwdIdeal.Hand.arr, ← e0, ← e1]
  rfl

end Cert.Proof
end
-- ==== Proof.F.NormBwd.lean ====
/-
  The gradient of the division of a row by its root mean square, in the two ways it is written, over the reals.
-/
module

public import proofs.«01_k».proof.Proof.F.Fin

@[expose] public section

noncomputable section

namespace Cert.Fin

open Idealize.ShloMosaic
open scoped BigOperators

/-- The pattern of 1024. -/
theorem bits_1024 : Ideal.ofBits .f32 0x44800000#32 = ((1024 : ℝ) : EReal) := by
  simp [Ideal.ofBits, Ideal.ieee, -EReal.coe_mul]; norm_num

/-- The pattern of minus a half. -/
theorem bits_neg_half : Ideal.ofBits .f32 0xBF000000#32 = ((-2⁻¹ : ℝ) : EReal) := by
  simp [Ideal.ofBits, Ideal.ieee, -EReal.coe_mul, -EReal.coe_neg]; norm_num

/-- The pattern of the small number under the root is a positive real. -/
theorem bits_eps : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

/-- One over the root mean square of a row. -/
def rms {n : ℕ} (x : Fin n → EReal) : EReal :=
  Ideal.rsqrt (Ideal.div (∑ i, x i * x i) (Ideal.ofBits .f32 0x44800000#32) + Ideal.ofBits .f32 0x358637BD#32)

/-- Of reals it is the real that one expects. -/
theorem rms_coe {n : ℕ} (x : Fin n → ℝ) : ∃ v r : ℝ, r * r * v = 1
    ∧ Ideal.div (∑ i, (x i : EReal) * (x i : EReal)) (Ideal.ofBits .f32 0x44800000#32) + Ideal.ofBits .f32 0x358637BD#32 = (v : EReal)
    ∧ rms (fun i => (x i : EReal)) = (r : EReal) := by
  obtain ⟨e, he, hb⟩ := bits_eps
  have hv : Ideal.div (∑ i, (x i : EReal) * (x i : EReal)) (Ideal.ofBits .f32 0x44800000#32) + Ideal.ofBits .f32 0x358637BD#32
      = (((∑ i, x i * x i) * (1 / 1024) + e : ℝ) : EReal) := by
    rw [hb, bits_1024, Ideal.div_coe (by norm_num)]
    simp only [← EReal.coe_mul, ← coe_sum, ← EReal.coe_add]
  have h0 : 0 < (∑ i, x i * x i) * (1 / 1024) + e := by
    have := Finset.sum_nonneg fun (i : Fin n) (_ : i ∈ Finset.univ) => mul_self_nonneg (x i)
    positivity
  refine ⟨_, (Real.sqrt ((∑ i, x i * x i) * (1 / 1024) + e))⁻¹, ?_, hv, ?_⟩
  · rw [← mul_inv, Real.mul_self_sqrt h0.le, inv_mul_cancel₀ h0.ne']
  · rw [rms, hv, Ideal.rsqrt_coe, if_neg (not_lt.mpr h0.le), if_neg h0.ne']

theorem IsR.rms {n : ℕ} {x : Fin n → EReal} (hx : ∀ i, IsR (x i)) : IsR (rms x) := by
  choose u hu using hx
  obtain rfl := funext hu
  obtain ⟨v, r, -, -, hr⟩ := rms_coe u
  exact ⟨r, hr⟩

/-- The two ways of writing the gradient. -/
theorem norm_bwd {n : ℕ} (x b : Fin n → EReal) (hx : ∀ i, IsR (x i)) (hb : ∀ i, IsR (b i)) (j : Fin n) (z : EReal) :
    z + rms x * (b j - x j * rms x * Ideal.div (∑ i, b i * (x i * rms x)) (Ideal.ofBits .f32 0x44800000#32))
    = z + ((b j * rms x + x j * Ideal.div ((∑ i, x i * b i) * (Ideal.ofBits .f32 0xBF000000#32 * Ideal.div (rms x)
          (Ideal.div (∑ i, x i * x i) (Ideal.ofBits .f32 0x44800000#32) + Ideal.ofBits .f32 0x358637BD#32))) (Ideal.ofBits .f32 0x44800000#32))
        + Ideal.div ((∑ i, x i * b i) * (Ideal.ofBits .f32 0xBF000000#32 * Ideal.div (rms x)
          (Ideal.div (∑ i, x i * x i) (Ideal.ofBits .f32 0x44800000#32) + Ideal.ofBits .f32 0x358637BD#32))) (Ideal.ofBits .f32 0x44800000#32) * x j) := by
  choose u hu using hx
  choose w hw using hb
  obtain rfl := funext hu
  obtain rfl := funext hw
  obtain ⟨v, r, h1, hv, hr⟩ := rms_coe u
  have h0 : v ≠ 0 := by rintro rfl; simp at h1
  rw [hr, hv, bits_1024, bits_neg_half, Ideal.div_coe h0]
  simp only [Ideal.div_coe (show (1024 : ℝ) ≠ 0 by norm_num)]
  simp only [← EReal.coe_mul, ← coe_sum, ← EReal.coe_sub, ← EReal.coe_add]
  congr 2
  have e1 : ∑ i, w i * (u i * r) = (∑ i, u i * w i) * r := by
    rw [Finset.sum_mul]
    exact Finset.sum_congr rfl fun i _ => by ring
  have e2 : 1 / v = r * r := by field_simp; linarith
  rw [e1, e2]
  ring

end Cert.Fin

end
-- ==== Proof.F.Dh.lean ====
/-
  The gradient at the feed-forward block's input: the two gradients' products with the weight's halves, carried back
  through the normalisation of the rows, added to the gradient that comes past the block; and the gradient of the
  normalisation's own weight, summed over the rows.
-/
module

public import proofs.«01_k».proof.Defs
public import proofs.«01_k».proof.Proof.F.NormBwd
public import proofs.«01_k».proof.Proof.Gen.DhIdeal.Value
public import proofs.«01_k».proof.Proof.Gen.DhRefIdeal.Run
public import Idealize.ShloMosaic.Lib.Pipeline.ValueKit
public import Idealize.ShloMosaic.Lib.Pipeline.ReadBack

@[expose] public section

set_option maxRecDepth 16384

noncomputable section

namespace Cert.Pre_dh_finite

open Idealize.ShloMosaic Cert.Fin

instance facts : Cert.Pre_dh_finite.Facts := ⟨by decide, by decide, by decide, by decide, by decide, by decide, by decide, by decide, by decide, by decide⟩

/-- Where the check is one, the arrays hold reals. -/
theorem reals {A B : FVec Ideal S8192x2816 .bf16} {W : FVec Ideal S1024x5632 .f32} {X Z : FVec Ideal S8192x1024 .f32} {G : FVec Ideal S1x1024 .f32} {j : S_.Idx}
    (h : fn (F := Ideal) A B W X G Z j = 1#1) :
    (∀ i, IsR (A i)) ∧ (∀ i, IsR (B i)) ∧ (∀ i, IsR (W i)) ∧ (∀ i, IsR (X i)) ∧ ∀ i, IsR (G i) := by
  dsimp only [fn, fn_part1] at h
  obtain ⟨h, hg⟩ := and_one h
  obtain ⟨h, hx⟩ := and_one h
  obtain ⟨h, hw⟩ := and_one h
  obtain ⟨ha, hb⟩ := and_one h
  exact ⟨isR_of_all ha, isR_of_all hb, isR_of_all hw, isR_of_all hx, isR_of_all hg⟩

end Cert.Pre_dh_finite

namespace Cert.DhRefIdeal.Hand

open Cert.DhRefIdeal Cert.DhRefIdeal.Gen Idealize.ShloMosaic

variable {F : FTy → Type} [FloatOps F] (a b : FVec F S8192x2816 .bf16) (w : FVec F S1024x5632 .f32) (x : FVec F S8192x1024 .f32) (g : FVec F S1x1024 .f32) (z : FVec F S8192x1024 .f32)

/-- The gradient of the normalised rows. -/
def dy : FVec F S8192x1024 .f32 :=
  Host.dotGeneral dot_S8192x5632_S1024x5632_S8192x1024_1_1_0_0_n_n none (extf .f32 (concatenate S8192x5632 1 [⟨S8192x2816, a⟩, ⟨S8192x2816, b⟩]
    concatenates_S8192x2816_S8192x2816_S8192x5632_d1) bitsLt_bf16_f32) w

/-- The mean of the squares of each row, and a small number. -/
def var : FVec F S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The gradient, weighed. -/
def dyg : FVec F S8192x1024 .f32 := mulf (dy a b w) (broadcastInDim S8192x1024 ![0, 1] bcast_S1x1024_S8192x1024_0_1 g)

/-- What the root mean square contributes to each entry of a row. -/
def back : FVec F S8192x1024 .f32 :=
  broadcastInDim S8192x1024 ![0] bcast_S8192_S8192x1024_0 (Host.reduceAdd (Host.divf (mulf (shapeCast _ (Host.reduceAdd (mulf x (dyg a b w g))
    (constant S_ .f32 0x00000000#32) reducesTo_S8192x1024_S8192_d1 h_S_) shapeCasts_S8192_S8192x1) (mulf (broadcastInDim S8192x1 ![] bcast_S_S8192x1 (constant S_ .f32 0xBF000000#32))
      (Host.divf (Host.rsqrt (var x)) (var x)))) (broadcastInDim S8192x1 ![] bcast_S_S8192x1 (constant S_ .f32 0x44800000#32)))
        (constant S_ .f32 0x00000000#32) reducesTo_S8192x1_S8192_d1 h_S_)

/-- The two results. -/
def out0 : FVec F S8192x1024 .f32 :=
  addf z (addf (addf (mulf (dyg a b w g) (broadcastInDim S8192x1024 ![0, 1] bcast_S8192x1_S8192x1024_0_1 (Host.rsqrt (var x)))) (mulf x (back a b w x g))) (mulf (back a b w x g) x))
def out1 : FVec F S1x1024 .f32 :=
  shapeCast _ (Host.reduceAdd (mulf (mulf x (broadcastInDim S8192x1024 ![0, 1] bcast_S8192x1_S8192x1024_0_1 (Host.rsqrt (var x)))) (dy a b w))
    (constant S_ .f32 0x00000000#32) reducesTo_S8192x1024_S1024_d0 h_S_) shapeCasts_S1024_S1x1024

end Cert.DhRefIdeal.Hand

namespace Cert.DhIdeal.Hand

open Cert.DhIdeal Cert.DhIdeal.Gen Cert.Fin
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0 ∧ win0_1.index t 0 = t.val ∧ win0_1.index t 1 = 0 ∧ win0_2.index t 0 = 0 ∧ win0_2.index t 1 = 0
      ∧ win0_3.index t 0 = 1 ∧ win0_3.index t 1 = 0 ∧ win0_4.index t 0 = t.val ∧ win0_4.index t 1 = 0
      ∧ win0_5.index t 0 = 0 ∧ win0_5.index t 1 = 0 ∧ win0_6.index t 0 = t.val ∧ win0_6.index t 1 = 0
      ∧ win0_7.index t 0 = t.val ∧ win0_7.index t 1 = 0 ∧ win0_8.index t 0 = 0 ∧ win0_8.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0
      ∧ win0_3.index t 0 = 1 ∧ win0_3.index t 1 = 0 ∧ win0_4.index t 0 = t.val ∧ win0_4.index t 1 = 0
      ∧ win0_5.index t 0 = 0 ∧ win0_5.index t 1 = 0 ∧ win0_6.index t 0 = t.val ∧ win0_6.index t 1 = 0
      ∧ win0_7.index t 0 = t.val ∧ win0_7.index t 1 = 0 ∧ win0_8.index t 0 = 0 ∧ win0_8.index t 1 = 0) t

theorem V_w : V m c main_v1 = truncf (F := Ideal) (s := S5632x1024) .bf16 (transpose S5632x1024 [1, 0] (m ((c.tc : Thread nD τ).loc main_arg2)) transposes_S1024x5632_S5632x1024_1_0) bitsLt_bf16_f32 := by
  rfl

/-- The arguments. -/
abbrev A : FVec Ideal S8192x2816 .bf16 := m ((c.tc : Thread nD τ).loc main_arg0)
abbrev B : FVec Ideal S8192x2816 .bf16 := m ((c.tc : Thread nD τ).loc main_arg1)
abbrev W : FVec Ideal S1024x5632 .f32 := m ((c.tc : Thread nD τ).loc main_arg2)
abbrev X : FVec Ideal S8192x1024 .f32 := m ((c.tc : Thread nD τ).loc main_arg3)
abbrev G : FVec Ideal S1x1024 .f32 := m ((c.tc : Thread nD τ).loc main_arg4)
abbrev Z : FVec Ideal S8192x1024 .f32 := m ((c.tc : Thread nD τ).loc main_arg5)

/-- Row `i` of block `t`. -/
abbrev row (t : Fin cfg0.N) (i : Fin 512) : Fin 8192 := ⟨512 * t.val + i.val, by have := t.isLt; have : cfg0.N = 16 := rfl; omega⟩

/-- The gradient of the normalised rows. -/
abbrev DY : FVec Ideal S8192x1024 .f32 := Cert.DhRefIdeal.Hand.dy (F := Ideal) (A m c) (B m c) (W m c)

/-- The sum of the two products is the product. -/
theorem dy_apply (t : Fin cfg0.N) (y : S512x1024.Idx) :
    k0_pay2 (F := Ideal) (iblk m c 0 t) (iblk m c 2 t) (iblk m c 1 t) (iblk m c 3 t) y
      = (DY m c (ix2 (n0 := 8192) (n1 := 1024) (row t (y 0)) (y 1)) : EReal) := by
  obtain ⟨a0, a0', a1, a1', a2, a2', a3, a3', -⟩ := idx t
  unfold k0_pay2 DY Cert.DhRefIdeal.Hand.dy
  pointwise
  blk_point [iblk, V_w, a0, a0', a1, a1', a2, a2', a3, a3']

theorem x_apply (t : Fin cfg0.N) (y : S512x1024.Idx) : (iblk m c 4 t y : EReal) = X m c (ix2 (n0 := 8192) (n1 := 1024) (row t (y 0)) (y 1)) := by
  obtain ⟨-, -, -, -, -, -, -, -, a4, a4', -⟩ := idx t
  blk_point [iblk, X, a4, a4']

theorem g_apply (t : Fin cfg0.N) (y : S1x1024.Idx) : (iblk m c 5 t y : EReal) = G m c (ix2 (n0 := 1) (n1 := 1024) 0 (y 1)) := by
  obtain ⟨-, -, -, -, -, -, -, -, -, -, a5, a5', -⟩ := idx t
  blk_point [iblk, G, a5, a5']

theorem z_apply (t : Fin cfg0.N) (y : S512x1024.Idx) : (iblk m c 6 t y : EReal) = Z m c (ix2 (n0 := 8192) (n1 := 1024) (row t (y 0)) (y 1)) := by
  obtain ⟨-, -, -, -, -, -, -, -, -, -, -, -, a6, a6', -⟩ := idx t
  blk_point [iblk, Z, a6, a6']

theorem dy_real (ha : ∀ i, IsR (A m c i)) (hb : ∀ i, IsR (B m c i)) (hw : ∀ i, IsR (W m c i)) (i : S8192x1024.Idx) : IsR (DY m c i) := by
  unfold DY Cert.DhRefIdeal.Hand.dy
  pointwise
  exact (IsR.sum fun k => (ha _).mul (hw _)).add (IsR.sum fun k => (hb _).mul (hw _))

/-- The reference's first result at an entry, as the launch writes it. -/
theorem out0_apply (hd : ∀ i, IsR (DY m c i)) (hx : ∀ i, IsR (X m c i)) (hg : ∀ i, IsR (G m c i)) (r : Fin 8192) (j : Fin 1024) :
    (Cert.DhRefIdeal.Hand.out0 (F := Ideal) (A m c) (B m c) (W m c) (X m c) (G m c) (Z m c) (ix2 (n0 := 8192) (n1 := 1024) r j) : EReal)
    = Z m c (ix2 (n0 := 8192) (n1 := 1024) r j) + rms (fun k => (X m c (ix2 (n0 := 8192) (n1 := 1024) r k) : EReal))
      * (DY m c (ix2 (n0 := 8192) (n1 := 1024) r j) * G m c (ix2 (n0 := 1) (n1 := 1024) 0 j) - X m c (ix2 (n0 := 8192) (n1 := 1024) r j)
        * rms (fun k => (X m c (ix2 (n0 := 8192) (n1 := 1024) r k) : EReal))
        * Ideal.div (∑ k : Fin 1024, DY m c (ix2 (n0 := 8192) (n1 := 1024) r k) * G m c (ix2 (n0 := 1) (n1 := 1024) 0 k)
          * (X m c (ix2 (n0 := 8192) (n1 := 1024) r k) * rms (fun k => (X m c (ix2 (n0 := 8192) (n1 := 1024) r k) : EReal)))) (Ideal.ofBits .f32 0x44800000#32)) := by
  unfold Cert.DhRefIdeal.Hand.out0 Cert.DhRefIdeal.Hand.back Cert.DhRefIdeal.Hand.dyg Cert.DhRefIdeal.Hand.var
  unfold DY at hd ⊢
  generalize Cert.DhRefIdeal.Hand.dy (F := Ideal) (A m c) (B m c) (W m c) = q at hd ⊢
  generalize X m c = x at hx ⊢
  generalize G m c = g at hg ⊢
  generalize Z m c = z
  pointwise
  simp only [Finset.univ_unique, Finset.sum_const, Finset.card_singleton, one_smul]
  exact (norm_bwd (fun k => x (ix2 (n0 := 8192) (n1 := 1024) r k)) (fun k => q (ix2 (n0 := 8192) (n1 := 1024) r k) * g (ix2 (n0 := 1) (n1 := 1024) 0 k))
    (fun k => hx _) (fun k => (hd _).mul (hg _)) j _).symm

theorem emb7 (t : Fin cfg0.N) (y : S512x1024.Idx) : (((View.whole main_v2_0).slice (win0_7.rect t)).emb y : S8192x1024.Idx) = ix2 (n0 := 8192) (n1 := 1024) (row t (y 0)) (y 1) := by
  obtain ⟨-, -, -, -, -, -, -, -, -, -, -, -, -, -, a7, a7', -⟩ := idx t
  have h := fun f : S8192x1024.Idx → ℕ => show f (((View.whole main_v2_0).slice (win0_7.rect t)).emb y) = f (ix2 (n0 := 8192) (n1 := 1024) (row t (y 0)) (y 1)) by
    blk_point [a7, a7']
  funext a
  fin_cases a
  · exact Fin.ext (h fun i => (i 0).val)
  · exact Fin.ext (h fun i => (i 1).val)

/-- The input's gradient. -/
theorem arr0 (ha : ∀ i, IsR (A m c i)) (hb : ∀ i, IsR (B m c i)) (hw : ∀ i, IsR (W m c i)) (hx : ∀ i, IsR (X m c i)) (hg : ∀ i, IsR (G m c i)) :
    (dats m 0 c).arrAt 7 cfg0.N = Cert.DhRefIdeal.Hand.out0 (F := Ideal) (A m c) (B m c) (W m c) (X m c) (G m c) (Z m c) := by
  refine (dats m 0 c).arrAt_eq_of_covers 7 _ (by decide +kernel) fun t hf y => ?_
  have he := dy_apply m c t
  blk_simp
  rw [after0_7]
  have e : (outsAt0 m c t.val t.isLt).1 = k0_pay5 (F := Ideal) (iblk m c 0 t) (iblk m c 2 t) (iblk m c 1 t) (iblk m c 3 t) (iblk m c 4 t) (iblk m c 5 t) (iblk m c 6 t) := by
    by_cases h0 : t.val % 16 = 0
    · rw [outsAt0_A m c t h0]
      funext y
      frame_out
    · rw [outsAt0_B m c t h0]
      funext y
      frame_out
  rw [e]
  refine Eq.trans ?_ ((congrArg (Cert.DhRefIdeal.Hand.out0 (F := Ideal) (A m c) (B m c) (W m c) (X m c) (G m c) (Z m c)) (emb7 t y)).trans
    (out0_apply m c (dy_real m c ha hb hw) hx hg (row t (y 0)) (y 1))).symm
  unfold k0_pay5 k0_pay4 k0_pay3
  generalize k0_pay2 (F := Ideal) (iblk m c 0 t) (iblk m c 2 t) (iblk m c 1 t) (iblk m c 3 t) = p at he ⊢
  generalize DY m c = q at he ⊢
  pointwise
  simp only [he, x_apply, g_apply, z_apply]
  rfl

theorem pay6_apply (t : Fin cfg0.N) (v : FVec Ideal S1x1024 .f32) (y : S1x1024.Idx) :
    k0_pay6 (F := Ideal) (iblk m c 0 t) (iblk m c 2 t) (iblk m c 1 t) (iblk m c 3 t) (iblk m c 4 t) v y
      = (v y + ∑ k : Fin 512, DY m c (ix2 (n0 := 8192) (n1 := 1024) (row t k) (y 1)) * (X m c (ix2 (n0 := 8192) (n1 := 1024) (row t k) (y 1))
          * rms (fun i => (X m c (ix2 (n0 := 8192) (n1 := 1024) (row t k) i) : EReal))) : EReal) := by
  have he := dy_apply m c t
  unfold k0_pay6 k0_pay4 k0_pay3
  generalize k0_pay2 (F := Ideal) (iblk m c 0 t) (iblk m c 2 t) (iblk m c 1 t) (iblk m c 3 t) = p at he ⊢
  generalize DY m c = q at he ⊢
  pointwise
  simp only [he, x_apply]
  rfl

/-- One stretch of rows' part of the weight's gradient. -/
def term (t : Fin cfg0.N) (y : S1x1024.Idx) : EReal :=
  ∑ k : Fin 512, DY m c (ix2 (n0 := 8192) (n1 := 1024) (row t k) (y 1)) * (X m c (ix2 (n0 := 8192) (n1 := 1024) (row t k) (y 1))
    * rms (fun i => (X m c (ix2 (n0 := 8192) (n1 := 1024) (row t k) i) : EReal)))

def held (n : ℕ) (h : n < cfg0.N) (y : S1x1024.Idx) : EReal := (outsAt0 m c n h).2 y

theorem held_first (t : Fin cfg0.N) (h : t.val % 16 = 0) (y : S1x1024.Idx) : held m c t.val t.isLt y = 0 + term m c t y := by
  rw [held, outsAt0_A m c t h]
  frame_out
  refine (pay6_apply m c t _ y).trans ?_
  unfold k0_pay1 term
  pointwise

theorem held_next (t : Fin cfg0.N) (h : ¬t.val % 16 = 0) (y : S1x1024.Idx) :
    held m c t.val t.isLt y = held m c (t.val - 1) (Nat.lt_of_le_of_lt (Nat.sub_le _ _) t.isLt) y + term m c t y := by
  rw [held, outsAt0_B m c t h]
  frame_out
  refine (pay6_apply m c t _ y).trans ?_
  rfl

/-- The weight's gradient. -/
theorem arr1 : (dats m 0 c).arrAt 8 cfg0.N = Cert.DhRefIdeal.Hand.out1 (F := Ideal) (A m c) (B m c) (W m c) (X m c) := by
  refine (dats m 0 c).arrAt_eq_of_covers 8 _ (by decide +kernel) fun t hf y => ?_
  have h3 := (flush0_8 t).mp hf
  have e := Pipeline.eq_sum_fin_of_reset_step_apply_of_flush (held m c) 16 (fun _ => 0) (term m c) (held_first m c) (held_next m c) t h3 y
  rw [held] at e
  obtain ⟨-, -, -, -, -, -, -, -, -, -, -, -, -, -, -, -, a8, a8'⟩ := idx t
  blk_simp
  rw [after0_8]
  refine e.trans ?_
  rw [zero_add]
  simp only [term]
  unfold Cert.DhRefIdeal.Hand.out1 Cert.DhRefIdeal.Hand.var
  generalize hq : Cert.DhRefIdeal.Hand.dy (F := Ideal) (A m c) (B m c) (W m c) = q
  simp only [DY, hq]
  pointwise
  refine Fin.sum_mul_add_congr (S := 16) (n := 512) fun s k hl => ?_
  have hr : row ⟨16 * (t.val / 16) + s.val, Pipeline.run_point_lt_of_flush t h3 s⟩ k = ⟨s.val * 512 + k.val, hl⟩ := by
    have := t.isLt
    have : cfg0.N = 16 := rfl
    apply Fin.ext
    simp only
    omega
  rw [hr]
  refine (EReal.mul_comm _ _).trans ?_
  unfold rms
  have hy : (((View.whole main_v2_1).slice (win0_8.rect t)).emb y 1).val = (y 1).val := by
    blk_point [a8, a8']
  rw [show ((View.whole main_v2_1).slice (win0_8.rect t)).emb y 1 = y 1 from Fin.ext hy]

end Cert.DhIdeal.Hand

namespace Cert.Proof

open Idealize.ShloMosaic Idealize.SL.Sem

theorem algebraic_dh : Cert.algebraic_DhIdeal_DhRefIdeal_pre_dh_finite := by
  intro m g m' g' hpre hagree
  refine ⟨_, _, Cert.DhIdeal.Value.run_blocks m g, ?_⟩
  refine (θ_run Cert.DhRefIdeal.defs _ _).mono (fun _ h c => ⟨(h c).1.trans ?_, (h c).2.1.trans ?_, (h c).2.2⟩)
    (Cert.DhRefIdeal.Value.run (F := Ideal) m' g')
  all_goals obtain ⟨e0, e1, e2, e3, e4, e5⟩ := hagree c
  · obtain ⟨ha, hb, hw, hx, hg⟩ := Cert.Pre_dh_finite.reals (congrFun (hpre c) (fun a => Fin.elim0 a))
    rw [Cert.DhIdeal.Hand.arr0 m c ha hb hw hx hg]
    dsimp only [Cert.DhIdeal.Hand.A, Cert.DhIdeal.Hand.B, Cert.DhIdeal.Hand.W, Cert.DhIdeal.Hand.X, Cert.DhIdeal.Hand.G, Cert.DhIdeal.Hand.Z]
    rw [← e0, ← e1, ← e2, ← e3, ← e4, ← e5]; rfl
  · rw [Cert.DhIdeal.Hand.arr1]
    dsimp only [Cert.DhIdeal.Hand.A, Cert.DhIdeal.Hand.B, Cert.DhIdeal.Hand.W, Cert.DhIdeal.Hand.X]
    rw [← e0, ← e1, ← e2, ← e3]; rfl

end Cert.Proof
end
-- ==== Proof.F.Dgu.lean ====
/-
  The gradient of the feed-forward block's first weight, transposed: eight stretches of rows are added up in a scratch,
  first for the gate's half, then for the other; the sum over all the rows is the reference's product.
-/
module

public import proofs.«01_k».proof.Defs
public import proofs.«01_k».proof.Proof.Gen.DguIdeal.Frame
public import proofs.«01_k».proof.Proof.Gen.DguRefIdeal.Run
public import Idealize.ShloMosaic.Lib.Pipeline.ValueKit
public import Idealize.ShloMosaic.Lib.Pipeline.ReadBack

@[expose] public section

set_option maxRecDepth 16384

noncomputable section

namespace Cert.DguRefIdeal.Hand

open Cert.DguRefIdeal Cert.DguRefIdeal.Gen Idealize.ShloMosaic

/-- The reference's result. -/
def out {F : FTy → Type} [FloatOps F] (h : FVec F S8192x1024 .bf16) (a b : FVec F S8192x2816 .bf16) : FVec F S5632x1024 .bf16 :=
  truncf .bf16 (transpose S5632x1024 [1, 0] (transpose S1024x5632 [1, 0] (Host.dotGeneral dot_S8192x5632_S8192x1024_S5632x1024_0_0_1_1_n_n none
    (extf .f32 (concatenate S8192x5632 1 [⟨S8192x2816, a⟩, ⟨S8192x2816, b⟩] concatenates_S8192x2816_S8192x2816_S8192x5632_d1) bitsLt_bf16_f32)
    (extf .f32 h bitsLt_bf16_f32)) transposes_S5632x1024_S1024x5632_1_0) transposes_S1024x5632_S5632x1024_1_0) bitsLt_bf16_f32

end Cert.DguRefIdeal.Hand

namespace Cert.DguIdeal.Hand

open Cert.DguIdeal Cert.DguIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 8 ∧ win0_0.index t 1 = 0 ∧ (t.val < 16 → win0_1.index t 0 = t.val % 8 ∧ win0_1.index t 1 = t.val / 8)
      ∧ (16 ≤ t.val → win0_2.index t 0 = t.val % 8 ∧ win0_2.index t 1 = t.val / 8 - 2) ∧ win0_3.index t 0 = t.val / 8 ∧ win0_3.index t 1 = 0 :=
  (by decide +kernel : ∀ t : Fin grid0.N, win0_0.index t 0 = t.val % 8 ∧ win0_0.index t 1 = 0 ∧ (t.val < 16 → win0_1.index t 0 = t.val % 8 ∧ win0_1.index t 1 = t.val / 8)
      ∧ (16 ≤ t.val → win0_2.index t 0 = t.val % 8 ∧ win0_2.index t 1 = t.val / 8 - 2) ∧ win0_3.index t 0 = t.val / 8 ∧ win0_3.index t 1 = 0) t

theorem prod_apply (a : Vec Ideal S1024x1408 .bf16) (h : Vec Ideal S1024x1024 .bf16) (i : S1408x1024.Idx) :
    k0_pay1 a h i = (∑ k : Fin 1024, (a (ix2 (n0 := 1024) (n1 := 1408) k (i 0)) : EReal) * h (ix2 (n0 := 1024) (n1 := 1024) k (i 1)) : EReal) := by
  unfold k0_pay1
  pointwise

/-- One stretch's product. -/
def term (t : Fin cfg0.N) (i : S1408x1024.Idx) : EReal :=
  if t.val < 16 then k0_pay1 (F := Ideal) (iblk m c 1 t) (iblk m c 0 t) i else k0_pay1 (F := Ideal) (iblk m c 2 t) (iblk m c 0 t) i

/-- What is being added up: the scratch, and at the last stretch what is written out. -/
def held (n : ℕ) (h : n < cfg0.N) (i : S1408x1024.Idx) : EReal := if n % 8 = 7 then (outsAt0 m c n h).1 i else (outsAt0 m c n h).2 i

theorem held_first (t : Fin cfg0.N) (h : t.val % 8 = 0) (i : S1408x1024.Idx) : held m c t.val t.isLt i = 0 + term m c t i := by
  rw [held, if_neg (by omega), zero_add, term]
  by_cases h16 : t.val < 16
  · rw [if_pos h16, outsAt0_A m c t h16 h (by omega) (by omega) (by omega)]
    frame_out
    unfold k0_pay2
    pointwise
  · rw [if_neg h16, outsAt0_D m c t h16 (by omega) h (by omega) (by omega)]
    frame_out
    unfold k0_pay6 k0_pay5
    pointwise
    exact (prod_apply _ _ i).symm

theorem held_next (t : Fin cfg0.N) (h : ¬t.val % 8 = 0) (i : S1408x1024.Idx) :
    held m c t.val t.isLt i = held m c (t.val - 1) (Nat.lt_of_le_of_lt (Nat.sub_le _ _) t.isLt) i + term m c t i := by
  rw [held, held, if_neg (by omega : ¬(t.val - 1) % 8 = 7), term]
  by_cases h16 : t.val < 16
  · rw [if_pos h16]
    by_cases h7 : t.val % 8 = 7
    · rw [if_pos h7, outsAt0_C m c t h16 h (by omega) h7 (by omega)]
      frame_out
      unfold k0_pay4
      pointwise
      simp only [read_unread_whole]
    · rw [if_neg h7, outsAt0_B m c t h16 h (by omega) h7 (by omega)]
      frame_out
      unfold k0_pay3
      pointwise
      simp only [read_unread_whole]
  · rw [if_neg h16]
    by_cases h7 : t.val % 8 = 7
    · rw [if_pos h7, outsAt0_F m c t h16 (by omega) h (by omega) h7]
      frame_out
      unfold k0_pay8
      pointwise
      simp only [read_unread_whole]
      rfl
    · rw [if_neg h7, outsAt0_E m c t h16 (by omega) h (by omega) h7]
      frame_out
      unfold k0_pay7
      pointwise
      simp only [read_unread_whole]
      rfl

/-- The array after the launch. -/
theorem arr : (dats m 0 c).arrAt 3 cfg0.N = Cert.DguRefIdeal.Hand.out (F := Ideal) (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  have h7 := (flush0_3 t).mp hf
  have e := Pipeline.eq_sum_fin_of_reset_step_apply_of_flush (held m c) 8 (fun _ => 0) (term m c) (held_first m c) (held_next m c) t h7 y
  rw [held, if_pos h7] at e
  obtain ⟨-, -, -, -, e3, e3'⟩ := idx t
  blk_simp
  rw [after0_3]
  refine e.trans ?_
  rw [zero_add]
  simp only [term, prod_apply]
  unfold Cert.DguRefIdeal.Hand.out
  pointwise
  have hz : (((View.whole main_v0).slice (win0_3.rect t)).emb y 0).val = win0_3.index t 0 * 1408 + 1 * (y 0).val := rfl
  rw [e3] at hz
  have hy0 : (y 0).val < 1408 := (y 0).isLt
  have ht : t.val < 32 := t.isLt
  by_cases h16 : t.val < 16
  · have hs : ∀ s : Fin 8, 8 * (t.val / 8) + s.val < 16 := fun s => by have := s.isLt; omega
    have hy : (((View.whole main_v0).slice (win0_3.rect t)).emb y 0).val < 2816 := by rw [hz]; omega
    simp only [hs, if_true, if_false, hy, dite_true, dite_false]
    refine Fin.sum_mul_add_congr (S := 8) (n := 1024) fun s k hl => ?_
    generalize hu : (⟨8 * (t.val / 8) + s.val, _⟩ : Fin cfg0.N) = u
    have hv : u.val = 8 * (t.val / 8) + s.val := by rw [← hu]
    obtain ⟨a0, a0', a1, a2, -, -⟩ := idx u
    obtain ⟨a, a'⟩ := a1 (by omega)
    blk_point [iblk, a0, a0', a, a', e3, e3']
  · have hs : ∀ s : Fin 8, ¬8 * (t.val / 8) + s.val < 16 := fun s => by have := s.isLt; omega
    have hy : ¬(((View.whole main_v0).slice (win0_3.rect t)).emb y 0).val < 2816 := by rw [hz]; omega
    simp only [hs, if_true, if_false, hy, dite_true, dite_false]
    refine Fin.sum_mul_add_congr (S := 8) (n := 1024) fun s k hl => ?_
    generalize hu : (⟨8 * (t.val / 8) + s.val, _⟩ : Fin cfg0.N) = u
    have hv : u.val = 8 * (t.val / 8) + s.val := by rw [← hu]
    obtain ⟨a0, a0', a1, a2, -, -⟩ := idx u
    obtain ⟨a, a'⟩ := a2 (by omega)
    blk_point [iblk, a0, a0', a, a', e3, e3']

/-- The run with the result's array after it named; the arguments are as launched. -/
theorem run_named (ρ : Dev nD → PrngReg) : θ_run defs (onTc (τ := τ) (main (F := Ideal))) ⟨m, fun _ => 0, ρ⟩ fun r => ∀ c : Dev nD,
    r.2.mem ((c : Thread nD τ).loc main_v0) = (dats m 0 c).arrAt 3 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1 3, ?_, ?_, ?_⟩) (run_main m ρ)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.DguIdeal.Hand

namespace Cert.Proof

open Idealize.ShloMosaic Idealize.SL.Sem

theorem algebraic_dgu : Cert.algebraic_DguIdeal_DguRefIdeal := by
  intro m g m' g' _ hagree
  refine ⟨_, Cert.DguIdeal.Hand.run_named m g, ?_⟩
  refine (θ_run Cert.DguRefIdeal.defs _ _).mono (fun _ h c => ⟨(h c).1.trans ?_, (h c).2⟩) (Cert.DguRefIdeal.Value.run (F := Ideal) m' g')
  obtain ⟨e0, e1, e2⟩ := hagree c
  rw [Cert.DguIdeal.Hand.arr, ← e0, ← e1, ← e2]
  rfl

end Cert.Proof
end
-- ==== Proof.F.Up.lean ====
/-
  The feed-forward block's first half: the normalised rows, their two products with the first weight's halves, and
  `silu(gate) · up`. Each of the four arrays after the launch is the reference's term, entry by entry.
-/
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.IdealHost

@[expose] public section

set_option maxRecDepth 16384

noncomputable section

namespace Cert.UpRefIdeal.Hand

open Cert.UpRefIdeal Cert.UpRefIdeal.Gen Idealize.ShloMosaic

variable {F : FTy → Type} [FloatOps F] (x : FVec F S8192x1024 .f32) (g : FVec F S1x1024 .f32) (w : FVec F S1024x5632 .f32)

/-- The rows, normalised. -/
def norm : FVec F S8192x1024 .f32 :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g)

/-- Their product with the weight. -/
def prod : FVec F S8192x5632 .f32 := Host.dotGeneral dot_S8192x1024_S1024x5632_S8192x5632_1_0_0_1_n_n none (norm x g) w

def gate : FVec F S8192x2816 .f32 := extractStridedSlice S8192x2816 ![0, 0] (prod x g w) slices_S8192x5632_S8192x2816_0_0
def up : FVec F S8192x2816 .f32 := extractStridedSlice S8192x2816 ![0, 2816] (prod x g w) slices_S8192x5632_S8192x2816_0_2816

/-- The four results. -/
def out0 : FVec F S8192x1024 .bf16 := truncf .bf16 (norm x g) bitsLt_bf16_f32
def out1 : FVec F S8192x2816 .bf16 := truncf .bf16 (gate x g w) bitsLt_bf16_f32
def out2 : FVec F S8192x2816 .bf16 := truncf .bf16 (up x g w) bitsLt_bf16_f32
def out3 : FVec F S8192x2816 .bf16 := truncf .bf16 (mulf (mulf (gate x g w) (Host.divf (broadcastInDim S8192x2816 ![] bcast_S_S8192x2816 (constant S_ .f32 0x3F800000#32))
  (addf (broadcastInDim S8192x2816 ![] bcast_S_S8192x2816 (constant S_ .f32 0x3F800000#32)) (Host.exp (Host.negf (gate x g w)))))) (up x g w)) bitsLt_bf16_f32

end Cert.UpRefIdeal.Hand

namespace Cert.UpIdeal.Hand

open Cert.UpIdeal Cert.UpIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0 ∧ win0_1.index t 0 = 0 ∧ win0_1.index t 1 = 0 ∧ win0_2.index t 0 = 0 ∧ win0_2.index t 1 = 0
      ∧ win0_3.index t 0 = t.val ∧ win0_3.index t 1 = 0 ∧ win0_4.index t 0 = t.val ∧ win0_4.index t 1 = 0
      ∧ win0_5.index t 0 = t.val ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0
      ∧ win0_3.index t 0 = t.val ∧ win0_3.index t 1 = 0 ∧ win0_4.index t 0 = t.val ∧ win0_4.index t 1 = 0
      ∧ win0_5.index t 0 = t.val ∧ win0_5.index t 1 = 0 ∧ win0_6.index t 0 = t.val ∧ win0_6.index t 1 = 0) t

theorem V_w : V m c main_v1 = truncf (F := Ideal) (s := S5632x1024) .bf16 (transpose S5632x1024 [1, 0] (m ((c.tc : Thread nD τ).loc main_arg2)) transposes_S1024x5632_S5632x1024_1_0) bitsLt_bf16_f32 := by
  rfl

/-- The normalised rows. -/
theorem arr0 : (dats m 0 c).arrAt 3 cfg0.N = Cert.UpRefIdeal.Hand.out0 (F := Ideal) (m ((c.tc : Thread nD τ).loc main_arg0))
    (m ((c.tc : Thread nD τ).loc main_arg1)) := by
  refine (dats m 0 c).arrAt_eq_of_covers 3 _ (by decide +kernel) fun t hf y => ?_
  obtain ⟨a0, a0', a1, a1', -, -, a3, a3', -⟩ := idx t
  blk_simp
  rw [after0_3]
  frame_out
  unfold k0_pay6 Cert.UpRefIdeal.Hand.out0 Cert.UpRefIdeal.Hand.norm
  pointwise
  blk_point [iblk, a0, a0', a1, a1', a3, a3']

theorem arr1 : (dats m 0 c).arrAt 4 cfg0.N = Cert.UpRefIdeal.Hand.out1 (F := Ideal) (m ((c.tc : Thread nD τ).loc main_arg0))
    (m ((c.tc : Thread nD τ).loc main_arg1)) (m ((c.tc : Thread nD τ).loc main_arg2)) := by
  refine (dats m 0 c).arrAt_eq_of_covers 4 _ (by decide +kernel) fun t hf y => ?_
  obtain ⟨a0, a0', a1, a1', a2, a2', -, -, a4, a4', -⟩ := idx t
  blk_simp
  rw [after0_4]
  canon_tiles x h using cover0_4 ..
  · unfold k0_pay3 k0_pay1 k0_pay12 k0_pay6 Cert.UpRefIdeal.Hand.out1 Cert.UpRefIdeal.Hand.gate Cert.UpRefIdeal.Hand.prod Cert.UpRefIdeal.Hand.norm
    frame_out
    pointwise
    blk_point [iblk, V_w, a0, a0', a1, a1', a2, a2', a4, a4']
  · unfold k0_pay9 k0_pay7 k0_pay6 Cert.UpRefIdeal.Hand.out1 Cert.UpRefIdeal.Hand.gate Cert.UpRefIdeal.Hand.prod Cert.UpRefIdeal.Hand.norm
    frame_out
    pointwise
    blk_point [iblk, V_w, a0, a0', a1, a1', a2, a2', a4, a4']

theorem arr2 : (dats m 0 c).arrAt 5 cfg0.N = Cert.UpRefIdeal.Hand.out2 (F := Ideal) (m ((c.tc : Thread nD τ).loc main_arg0))
    (m ((c.tc : Thread nD τ).loc main_arg1)) (m ((c.tc : Thread nD τ).loc main_arg2)) := by
  refine (dats m 0 c).arrAt_eq_of_covers 5 _ (by decide +kernel) fun t hf y => ?_
  obtain ⟨a0, a0', a1, a1', a2, a2', -, -, -, -, a4, a4', -⟩ := idx t
  blk_simp
  rw [after0_5]
  canon_tiles x h using cover0_5 ..
  · unfold k0_pay4 k0_pay2 k0_pay12 k0_pay6 Cert.UpRefIdeal.Hand.out2 Cert.UpRefIdeal.Hand.up Cert.UpRefIdeal.Hand.prod Cert.UpRefIdeal.Hand.norm
    frame_out
    pointwise
    blk_point [iblk, V_w, a0, a0', a1, a1', a2, a2', a4, a4']
  · unfold k0_pay10 k0_pay8 k0_pay6 Cert.UpRefIdeal.Hand.out2 Cert.UpRefIdeal.Hand.up Cert.UpRefIdeal.Hand.prod Cert.UpRefIdeal.Hand.norm
    frame_out
    pointwise
    blk_point [iblk, V_w, a0, a0', a1, a1', a2, a2', a4, a4']

theorem arr3 : (dats m 0 c).arrAt 6 cfg0.N = Cert.UpRefIdeal.Hand.out3 (F := Ideal) (m ((c.tc : Thread nD τ).loc main_arg0))
    (m ((c.tc : Thread nD τ).loc main_arg1)) (m ((c.tc : Thread nD τ).loc main_arg2)) := by
  refine (dats m 0 c).arrAt_eq_of_covers 6 _ (by decide +kernel) fun t hf y => ?_
  obtain ⟨a0, a0', a1, a1', a2, a2', -, -, -, -, -, -, a4, a4'⟩ := idx t
  blk_simp
  rw [after0_6]
  canon_tiles x h using cover0_6 ..
  · unfold k0_pay5 k0_pay1 k0_pay2 k0_pay12 k0_pay6 Cert.UpRefIdeal.Hand.out3 Cert.UpRefIdeal.Hand.gate Cert.UpRefIdeal.Hand.up Cert.UpRefIdeal.Hand.prod Cert.UpRefIdeal.Hand.norm
    frame_out
    pointwise
    simp only [Ideal.logistic, Ideal.ofBits_one_f32]
    blk_point [iblk, V_w, a0, a0', a1, a1', a2, a2', a4, a4']
  · unfold k0_pay11 k0_pay7 k0_pay8 k0_pay6 Cert.UpRefIdeal.Hand.out3 Cert.UpRefIdeal.Hand.gate Cert.UpRefIdeal.Hand.up Cert.UpRefIdeal.Hand.prod Cert.UpRefIdeal.Hand.norm
    frame_out
    pointwise
    simp only [Ideal.logistic, Ideal.ofBits_one_f32]
    blk_point [iblk, V_w, a0, a0', a1, a1', a2, a2', a4, a4']

end Cert.UpIdeal.Hand

namespace Cert.Proof

open Idealize.ShloMosaic Idealize.SL.Sem

theorem algebraic_up : Cert.algebraic_UpIdeal_UpRefIdeal := by
  intro m g m' g' _ hagree
  refine ⟨_, _, _, _, Cert.UpIdeal.Value.run_blocks m g, ?_⟩
  refine (θ_run Cert.UpRefIdeal.defs _ _).mono (fun _ h c => ⟨(h c).1.trans ?_, (h c).2.1.trans ?_, (h c).2.2.1.trans ?_, (h c).2.2.2.1.trans ?_, (h c).2.2.2.2⟩)
    (Cert.UpRefIdeal.Value.run (F := Ideal) m' g')
  all_goals obtain ⟨e0, e1, e2⟩ := hagree c
  · rw [Cert.UpIdeal.Hand.arr0, ← e0, ← e1]; rfl
  · rw [Cert.UpIdeal.Hand.arr1, ← e0, ← e1, ← e2]; rfl
  · rw [Cert.UpIdeal.Hand.arr2, ← e0, ← e1, ← e2]; rfl
  · rw [Cert.UpIdeal.Hand.arr3, ← e0, ← e1, ← e2]; rfl

end Cert.Proof
end
-- ==== Proof.F.Down.lean ====
/-
  The feed-forward block's second product: the launch's array is `x + (act · w) / 2`, the reference's term, entry by entry.
-/
module

public import proofs.«01_k».proof.Defs
public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

namespace Cert.DownRefIdeal.Hand

open Cert.DownRefIdeal Cert.DownRefIdeal.Gen Idealize.ShloMosaic

/-- The reference's result. -/
def out {F : FTy → Type} [FloatOps F] (a : FVec F S8192x2816 .bf16) (w : FVec F S2816x1024 .f32) (x : FVec F S8192x1024 .f32) : FVec F S8192x1024 .f32 :=
  addf x (mulf (broadcastInDim S8192x1024 ![] bcast_S_S8192x1024 (constant S_ .f32 0x3F000000#32))
    (Host.dotGeneral dot_S8192x2816_S2816x1024_S8192x1024_1_0_0_1_n_n none (extf .f32 a bitsLt_bf16_f32) w))

end Cert.DownRefIdeal.Hand

namespace Cert.DownIdeal.Hand

open Cert.DownIdeal Cert.DownIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = win0_3.index t 0 ∧ win0_0.index t 1 = 0 ∧ win0_1.index t 0 = 0 ∧ win0_1.index t 1 = 0
      ∧ win0_2.index t 0 = win0_3.index t 0 ∧ win0_2.index t 1 = 0 ∧ win0_3.index t 1 = 0 :=
  (by decide +kernel : ∀ t : Fin grid0.N, win0_0.index t 0 = win0_3.index t 0 ∧ win0_0.index t 1 = 0 ∧ win0_1.index t 0 = 0 ∧ win0_1.index t 1 = 0
      ∧ win0_2.index t 0 = win0_3.index t 0 ∧ win0_2.index t 1 = 0 ∧ win0_3.index t 1 = 0) t

theorem V_w : V m c main_v0 = truncf (F := Ideal) (s := S2816x1024) .bf16 (m ((c.tc : Thread nD τ).loc main_arg1)) bitsLt_bf16_f32 := by
  rfl

/-- The array after the launch. -/
theorem arr : (dats m 0 c).arrAt 3 cfg0.N = Cert.DownRefIdeal.Hand.out (F := Ideal) (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  obtain ⟨e0, e0', e1, e1', e2, e2', e3'⟩ := idx t
  blk_simp
  rw [after0_3]
  frame_out
  unfold k0_pay1 Cert.DownRefIdeal.Hand.out
  pointwise
  blk_point [iblk, V_w, e0, e0', e1, e1', e2, e2', e3']

end Cert.DownIdeal.Hand

namespace Cert.Proof

open Idealize.ShloMosaic Idealize.SL.Sem

theorem algebraic_down : Cert.algebraic_DownIdeal_DownRefIdeal := by
  intro m g m' g' _ hagree
  refine ⟨_, Cert.DownIdeal.Value.run_blocks m g, ?_⟩
  refine (θ_run Cert.DownRefIdeal.defs _ _).mono (fun _ h c => ⟨(h c).1.trans ?_, (h c).2⟩) (Cert.DownRefIdeal.Value.run (F := Ideal) m' g')
  obtain ⟨e0, e1, e2⟩ := hagree c
  rw [Cert.DownIdeal.Hand.arr, ← e0, ← e1, ← e2]
  rfl

end Cert.Proof
end
-- ==== Proof.F.Pin.lean ====
/-
  The pooling's first product: the normalised rows and their product with the weight are the reference's terms, entry by entry.
-/
module

public import proofs.«01_k».proof.Defs
public import proofs.«01_k».proof.Proof.Gen.PinIdeal.Value
public import proofs.«01_k».proof.Proof.Gen.PinRefIdeal.Run
public import Idealize.ShloMosaic.Lib.Pipeline.ValueKit

@[expose] public section

set_option maxRecDepth 16384

noncomputable section

namespace Cert.PinRefIdeal.Hand

open Cert.PinRefIdeal Cert.PinRefIdeal.Gen Idealize.ShloMosaic

variable {F : FTy → Type} [FloatOps F] (x : FVec F S8192x1024 .f32) (g : FVec F S1x1024 .f32) (w : FVec F S1024x1024 .f32)

/-- The rows, normalised. -/
def norm : FVec F S8192x1024 .f32 :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g)

/-- The two results. -/
def out0 : FVec F S8192x1024 .bf16 := truncf .bf16 (norm x g) bitsLt_bf16_f32
def out1 : FVec F S8192x1024 .f32 := Host.dotGeneral dot_S8192x1024_S1024x1024_S8192x1024_1_0_0_1_n_n none (norm x g) w

end Cert.PinRefIdeal.Hand

namespace Cert.PinIdeal.Hand

open Cert.PinIdeal Cert.PinIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = 0 ∧ win0_2.index t 1 = 0
      ∧ win0_3.index t 0 = t.val ∧ win0_3.index t 1 = 0
      ∧ win0_4.index t 0 = t.val ∧ win0_4.index t 1 = 0 :=
  (by decide +kernel : ∀ t : Fin grid0.N, win0_0.index t 0 = t.val ∧ win0_0.index t 1 = 0
      ∧ win0_1.index t 0 = 0 ∧ win0_1.index t 1 = 0
      ∧ win0_2.index t 0 = 0 ∧ win0_2.index t 1 = 0
      ∧ win0_3.index t 0 = t.val ∧ win0_3.index t 1 = 0
      ∧ win0_4.index t 0 = t.val ∧ win0_4.index t 1 = 0) t

theorem V_w : V m c main_v0 = truncf (F := Ideal) (s := S1024x1024) .bf16 (m ((c.tc : Thread nD τ).loc main_arg2)) bitsLt_bf16_f32 := by
  rfl

/-- The normalised rows. -/
theorem arr0 : (dats m 0 c).arrAt 3 cfg0.N = Cert.PinRefIdeal.Hand.out0 (F := Ideal) (m ((c.tc : Thread nD τ).loc main_arg0)) (m ((c.tc : Thread nD τ).loc main_arg1)) := by
  refine (dats m 0 c).arrAt_eq_of_covers 3 _ (by decide +kernel) fun t hf y => ?_
  obtain ⟨a0, a0', a1, a1', a2, a2', a3, a3', a4, a4'⟩ := idx t
  blk_simp
  rw [after0_3]
  unfold outsAt0
  frame_out
  unfold k0_pay1 Cert.PinRefIdeal.Hand.out0 Cert.PinRefIdeal.Hand.norm
  pointwise
  blk_point [iblk, a0, a0', a1, a1', a2, a2', a3, a3', a4, a4']

/-- Their product with the weight. -/
theorem arr1 : (dats m 0 c).arrAt 4 cfg0.N = Cert.PinRefIdeal.Hand.out1 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨a0, a0', a1, a1', a2, a2', a3, a3', a4, a4'⟩ := idx t
  blk_simp
  rw [after0_4]
  unfold outsAt0
  frame_out
  unfold k0_pay2 k0_pay1 Cert.PinRefIdeal.Hand.out1 Cert.PinRefIdeal.Hand.norm
  pointwise
  blk_point [iblk, V_w, a0, a0', a1, a1', a2, a2', a3, a3', a4, a4']

end Cert.PinIdeal.Hand

namespace Cert.Proof

open Idealize.ShloMosaic Idealize.SL.Sem

theorem algebraic_pin : Cert.algebraic_PinIdeal_PinRefIdeal := by
  intro m g m' g' _ hagree
  refine ⟨_, _, Cert.PinIdeal.Value.run_blocks m g, ?_⟩
  refine (θ_run Cert.PinRefIdeal.defs _ _).mono (fun _ h c => ⟨(h c).1.trans ?_, (h c).2.1.trans ?_, (h c).2.2⟩) (Cert.PinRefIdeal.Value.run (F := Ideal) m' g')
  all_goals obtain ⟨e0, e1, e2⟩ := hagree c
  · rw [Cert.PinIdeal.Hand.arr0, ← e0, ← e1]; rfl
  · rw [Cert.PinIdeal.Hand.arr1, ← e0, ← e1, ← e2]; rfl

end Cert.Proof
end
-- ==== Proof.F.Ao.lean ====
/-
  The attention's last product: the launch's array is `x + o · w`, the reference's term, entry by entry.
-/
module

public import proofs.«01_k».proof.Defs
public import proofs.«01_k».proof.Proof.Gen.AoIdeal.Value
public import proofs.«01_k».proof.Proof.Gen.AoRefIdeal.Run
public import Idealize.ShloMosaic.Lib.Pipeline.ValueKit

@[expose] public section

set_option maxRecDepth 16384

noncomputable section

namespace Cert.AoRefIdeal.Hand

open Cert.AoRefIdeal Cert.AoRefIdeal.Gen Idealize.ShloMosaic

/-- The reference's result. -/
def out {F : FTy → Type} [FloatOps F] (o : FVec F S8192x1024 .f32) (w : FVec F S1024x1024 .f32) (x : FVec F S8192x1024 .f32) : FVec F S8192x1024 .f32 :=
  addf x (Host.dotGeneral dot_S8192x1024_S1024x1024_S8192x1024_1_0_0_1_n_n none o w)

end Cert.AoRefIdeal.Hand

namespace Cert.AoIdeal.Hand

open Cert.AoIdeal Cert.AoIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = t.val ∧ win0_2.index t 1 = 0
      ∧ win0_3.index t 0 = t.val ∧ win0_3.index t 1 = 0 :=
  (by decide +kernel : ∀ t : Fin grid0.N, win0_0.index t 0 = t.val ∧ win0_0.index t 1 = 0
      ∧ win0_1.index t 0 = 0 ∧ win0_1.index t 1 = 0
      ∧ win0_2.index t 0 = t.val ∧ win0_2.index t 1 = 0
      ∧ win0_3.index t 0 = t.val ∧ win0_3.index t 1 = 0) t

theorem V_w : V m c main_v0 = truncf (F := Ideal) (s := S1024x1024) .bf16 (m ((c.tc : Thread nD τ).loc main_arg1)) bitsLt_bf16_f32 := by
  rfl

/-- The array after the launch. -/
theorem arr : (dats m 0 c).arrAt 3 cfg0.N = Cert.AoRefIdeal.Hand.out (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a0, a0', a1, a1', a2, a2', a3, a3'⟩ := idx t
  blk_simp
  rw [after0_3]
  frame_out
  unfold k0_pay1 Cert.AoRefIdeal.Hand.out
  pointwise
  blk_point [iblk, V_w, a0, a0', a1, a1', a2, a2', a3, a3']

end Cert.AoIdeal.Hand

namespace Cert.Proof

open Idealize.ShloMosaic Idealize.SL.Sem

theorem algebraic_ao : Cert.algebraic_AoIdeal_AoRefIdeal := by
  intro m g m' g' _ hagree
  refine ⟨_, Cert.AoIdeal.Value.run_blocks m g, ?_⟩
  refine (θ_run Cert.AoRefIdeal.defs _ _).mono (fun _ h c => ⟨(h c).1.trans ?_, (h c).2⟩) (Cert.AoRefIdeal.Value.run (F := Ideal) m' g')
  obtain ⟨e0, e1, e2⟩ := hagree c
  rw [Cert.AoIdeal.Hand.arr, ← e0, ← e1, ← e2]
  rfl

end Cert.Proof
end
-- ==== Proof.F.Aob.lean ====
/-
  The gradient at the attention's output: the launch's array is `dx · wᵀ`, the reference's term, entry by entry.
-/
module

public import proofs.«01_k».proof.Defs
public import proofs.«01_k».proof.Proof.Gen.AobIdeal.Value
public import proofs.«01_k».proof.Proof.Gen.AobRefIdeal.Run
public import Idealize.ShloMosaic.Lib.Pipeline.ValueKit

@[expose] public section

set_option maxRecDepth 16384

noncomputable section

namespace Cert.AobRefIdeal.Hand

open Cert.AobRefIdeal Cert.AobRefIdeal.Gen Idealize.ShloMosaic

/-- The reference's result. -/
def out {F : FTy → Type} [FloatOps F] (d : FVec F S8192x1024 .f32) (w : FVec F S1024x1024 .f32) : FVec F S8192x1024 .bf16 :=
  truncf .bf16 (Host.dotGeneral dot_S8192x1024_S1024x1024_S8192x1024_1_1_0_0_n_n none d w) bitsLt_bf16_f32

end Cert.AobRefIdeal.Hand

namespace Cert.AobIdeal.Hand

open Cert.AobIdeal Cert.AobIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = t.val ∧ win0_2.index t 1 = 0 :=
  (by decide +kernel : ∀ t : Fin grid0.N, win0_0.index t 0 = t.val ∧ win0_0.index t 1 = 0
      ∧ win0_1.index t 0 = 0 ∧ win0_1.index t 1 = 0
      ∧ win0_2.index t 0 = t.val ∧ win0_2.index t 1 = 0) t

theorem V_w : V m c main_v0 = truncf (F := Ideal) (s := S1024x1024) .bf16 (m ((c.tc : Thread nD τ).loc main_arg1)) bitsLt_bf16_f32 := by
  rfl

/-- The array after the launch. -/
theorem arr : (dats m 0 c).arrAt 2 cfg0.N = Cert.AobRefIdeal.Hand.out (F := Ideal) (m ((c.tc : Thread nD τ).loc main_arg0)) (m ((c.tc : Thread nD τ).loc main_arg1)) := by
  refine (dats m 0 c).arrAt_eq_of_covers 2 _ (by decide +kernel) fun t hf y => ?_
  obtain ⟨a0, a0', a1, a1', a2, a2'⟩ := idx t
  blk_simp
  rw [after0_2]
  frame_out
  unfold k0_pay1 Cert.AobRefIdeal.Hand.out
  pointwise
  blk_point [iblk, V_w, a0, a0', a1, a1', a2, a2']

end Cert.AobIdeal.Hand

namespace Cert.Proof

open Idealize.ShloMosaic Idealize.SL.Sem

theorem algebraic_aob : Cert.algebraic_AobIdeal_AobRefIdeal := by
  intro m g m' g' _ hagree
  refine ⟨_, Cert.AobIdeal.Value.run_blocks m g, ?_⟩
  refine (θ_run Cert.AobRefIdeal.defs _ _).mono (fun _ h c => ⟨(h c).1.trans ?_, (h c).2⟩) (Cert.AobRefIdeal.Value.run (F := Ideal) m' g')
  obtain ⟨e0, e1⟩ := hagree c
  rw [Cert.AobIdeal.Hand.arr, ← e0, ← e1]
  rfl

end Cert.Proof
end
-- ==== Proof.F.Gao.lean ====
/-
  The gradient of the attention's last weight: four stretches of rows are added up in a scratch, and the sum
  over all the rows is the reference's product.
-/
module

public import proofs.«01_k».proof.Defs
public import proofs.«01_k».proof.Proof.Gen.GaoIdeal.Value
public import proofs.«01_k».proof.Proof.Gen.GaoRefIdeal.Run
public import Idealize.ShloMosaic.Lib.Pipeline.ValueKit
public import Idealize.ShloMosaic.Lib.Pipeline.ReadBack

@[expose] public section

set_option maxRecDepth 16384

noncomputable section

namespace Cert.GaoRefIdeal.Hand

open Cert.GaoRefIdeal Cert.GaoRefIdeal.Gen Idealize.ShloMosaic

/-- The reference's result. -/
def out {F : FTy → Type} [FloatOps F] (h : FVec F S8192x1024 .f32) (d : FVec F S8192x1024 .f32) : FVec F S1024x1024 .bf16 :=
  truncf .bf16 (transpose S1024x1024 [1, 0] (Host.dotGeneral dot_S8192x1024_S8192x1024_S1024x1024_0_0_1_1_n_n none
    d h) transposes_S1024x1024_S1024x1024_1_0) bitsLt_bf16_f32

end Cert.GaoRefIdeal.Hand

namespace Cert.GaoIdeal.Hand

open Cert.GaoIdeal Cert.GaoIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 4 ∧ win0_0.index t 1 = 0
      ∧ win0_1.index t 0 = t.val % 4 ∧ win0_1.index t 1 = 0
      ∧ win0_2.index t 0 = 0 ∧ win0_2.index t 1 = 0 :=
  (by decide +kernel : ∀ t : Fin grid0.N, win0_0.index t 0 = t.val % 4 ∧ win0_0.index t 1 = 0
      ∧ win0_1.index t 0 = t.val % 4 ∧ win0_1.index t 1 = 0
      ∧ win0_2.index t 0 = 0 ∧ win0_2.index t 1 = 0) t

theorem prod_apply (h : Vec Ideal S2048x1024 .f32) (d : Vec Ideal S2048x1024 .f32) (i : S1024x1024.Idx) :
    k0_pay1 h d i = (∑ k : Fin 2048, (h (ix2 (n0 := 2048) (n1 := 1024) k (i 0)) : EReal) * d (ix2 (n0 := 2048) (n1 := 1024) k (i 1)) : EReal) := by
  unfold k0_pay1
  pointwise

/-- One stretch's product. -/
def term (t : Fin cfg0.N) (i : S1024x1024.Idx) : EReal := k0_pay1 (F := Ideal) (iblk m c 0 t) (iblk m c 1 t) i

/-- What is being added up: the scratch, and at the last stretch what is written out. -/
def held (n : ℕ) (h : n < cfg0.N) (i : S1024x1024.Idx) : EReal := if n % 4 = 3 then (outsAt0 m c n h).1 i else (outsAt0 m c n h).2 i

theorem held_first (t : Fin cfg0.N) (h : t.val % 4 = 0) (i : S1024x1024.Idx) : held m c t.val t.isLt i = 0 + term m c t i := by
  rw [held, if_neg (by omega), outsAt0_A m c t h (by omega) (by omega), zero_add]
  frame_out
  unfold k0_pay2
  pointwise
  rfl

theorem held_next (t : Fin cfg0.N) (h : ¬t.val % 4 = 0) (i : S1024x1024.Idx) :
    held m c t.val t.isLt i = held m c (t.val - 1) (Nat.lt_of_le_of_lt (Nat.sub_le _ _) t.isLt) i + term m c t i := by
  rw [held, held, if_neg (by omega : ¬(t.val - 1) % 4 = 3)]
  by_cases h3 : t.val % 4 = 3
  · rw [if_pos h3, outsAt0_C m c t h (by omega) h3]
    frame_out
    unfold k0_pay4
    pointwise
    simp only [read_unread_whole]
    rfl
  · rw [if_neg h3, outsAt0_B m c t h (by omega) h3]
    frame_out
    unfold k0_pay3
    pointwise
    simp only [read_unread_whole]
    rfl

/-- The array after the launch. -/
theorem arr : (dats m 0 c).arrAt 2 cfg0.N = Cert.GaoRefIdeal.Hand.out (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  have e := Pipeline.eq_sum_fin_of_reset_step_apply_of_flush (held m c) 4 (fun _ => 0) (term m c) (held_first m c) (held_next m c) t h3 y
  rw [held, if_pos h3] at e
  obtain ⟨-, -, -, -, e2, e2'⟩ := idx t
  blk_simp
  rw [after0_2]
  refine e.trans ?_
  rw [zero_add]
  simp only [term, prod_apply]
  unfold Cert.GaoRefIdeal.Hand.out
  pointwise
  refine Fin.sum_mul_add_congr (S := 4) (n := 2048) fun s k hl => ?_
  refine (EReal.mul_comm _ _).trans ?_
  generalize hu : (⟨4 * (t.val / 4) + s.val, _⟩ : Fin cfg0.N) = u
  have hv : u.val = 4 * (t.val / 4) + s.val := by rw [← hu]
  have ht : t.val < 4 := t.isLt
  obtain ⟨a0, a0', a1, a1', -, -⟩ := idx u
  blk_point [iblk, a0, a0', a1, a1', e2, e2']

end Cert.GaoIdeal.Hand

namespace Cert.Proof

open Idealize.ShloMosaic Idealize.SL.Sem

theorem algebraic_gao : Cert.algebraic_GaoIdeal_GaoRefIdeal := by
  intro m g m' g' _ hagree
  refine ⟨_, Cert.GaoIdeal.Value.run_blocks m g, ?_⟩
  refine (θ_run Cert.GaoRefIdeal.defs _ _).mono (fun _ h c => ⟨(h c).1.trans ?_, (h c).2⟩) (Cert.GaoRefIdeal.Value.run (F := Ideal) m' g')
  obtain ⟨e0, e1⟩ := hagree c
  rw [Cert.GaoIdeal.Hand.arr, ← e0, ← e1]
  rfl

end Cert.Proof
end
-- ==== Proof.F.Gqkv.lean ====
/-
  The gradient of the attention's first weight: four stretches of rows are added up in a scratch, and the sum
  over all the rows is the reference's product.
-/
module

public import proofs.«01_k».proof.Defs
public import proofs.«01_k».proof.Proof.Gen.GqkvIdeal.Value
public import proofs.«01_k».proof.Proof.Gen.GqkvRefIdeal.Run
public import Idealize.ShloMosaic.Lib.Pipeline.ValueKit
public import Idealize.ShloMosaic.Lib.Pipeline.ReadBack

@[expose] public section

set_option maxRecDepth 16384

noncomputable section

namespace Cert.GqkvRefIdeal.Hand

open Cert.GqkvRefIdeal Cert.GqkvRefIdeal.Gen Idealize.ShloMosaic

/-- The reference's result. -/
def out {F : FTy → Type} [FloatOps F] (h : FVec F S8192x1024 .bf16) (d : FVec F S8192x3072 .bf16) : FVec F S1024x3072 .bf16 :=
  truncf .bf16 (transpose S1024x3072 [1, 0] (Host.dotGeneral dot_S8192x3072_S8192x1024_S3072x1024_0_0_1_1_n_n none
    (extf .f32 d bitsLt_bf16_f32) (extf .f32 h bitsLt_bf16_f32)) transposes_S3072x1024_S1024x3072_1_0) bitsLt_bf16_f32

end Cert.GqkvRefIdeal.Hand

namespace Cert.GqkvIdeal.Hand

open Cert.GqkvIdeal Cert.GqkvIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 4 ∧ win0_0.index t 1 = 0
      ∧ win0_1.index t 0 = t.val % 4 ∧ win0_1.index t 1 = t.val / 4
      ∧ win0_2.index t 0 = 0 ∧ win0_2.index t 1 = t.val / 4 :=
  (by decide +kernel : ∀ t : Fin grid0.N, win0_0.index t 0 = t.val % 4 ∧ win0_0.index t 1 = 0
      ∧ win0_1.index t 0 = t.val % 4 ∧ win0_1.index t 1 = t.val / 4
      ∧ win0_2.index t 0 = 0 ∧ win0_2.index t 1 = t.val / 4) t

theorem prod_apply (h : Vec Ideal S2048x1024 .bf16) (d : Vec Ideal S2048x1024 .bf16) (i : S1024x1024.Idx) :
    k0_pay1 h d i = (∑ k : Fin 2048, (h (ix2 (n0 := 2048) (n1 := 1024) k (i 0)) : EReal) * d (ix2 (n0 := 2048) (n1 := 1024) k (i 1)) : EReal) := by
  unfold k0_pay1
  pointwise

/-- One stretch's product. -/
def term (t : Fin cfg0.N) (i : S1024x1024.Idx) : EReal := k0_pay1 (F := Ideal) (iblk m c 0 t) (iblk m c 1 t) i

/-- What is being added up: the scratch, and at the last stretch what is written out. -/
def held (n : ℕ) (h : n < cfg0.N) (i : S1024x1024.Idx) : EReal := if n % 4 = 3 then (outsAt0 m c n h).1 i else (outsAt0 m c n h).2 i

theorem held_first (t : Fin cfg0.N) (h : t.val % 4 = 0) (i : S1024x1024.Idx) : held m c t.val t.isLt i = 0 + term m c t i := by
  rw [held, if_neg (by omega), outsAt0_A m c t h (by omega) (by omega), zero_add]
  frame_out
  unfold k0_pay2
  pointwise
  rfl

theorem held_next (t : Fin cfg0.N) (h : ¬t.val % 4 = 0) (i : S1024x1024.Idx) :
    held m c t.val t.isLt i = held m c (t.val - 1) (Nat.lt_of_le_of_lt (Nat.sub_le _ _) t.isLt) i + term m c t i := by
  rw [held, held, if_neg (by omega : ¬(t.val - 1) % 4 = 3)]
  by_cases h3 : t.val % 4 = 3
  · rw [if_pos h3, outsAt0_C m c t h (by omega) h3]
    frame_out
    unfold k0_pay4
    pointwise
    simp only [read_unread_whole]
    rfl
  · rw [if_neg h3, outsAt0_B m c t h (by omega) h3]
    frame_out
    unfold k0_pay3
    pointwise
    simp only [read_unread_whole]
    rfl

/-- The array after the launch. -/
theorem arr : (dats m 0 c).arrAt 2 cfg0.N = Cert.GqkvRefIdeal.Hand.out (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  have e := Pipeline.eq_sum_fin_of_reset_step_apply_of_flush (held m c) 4 (fun _ => 0) (term m c) (held_first m c) (held_next m c) t h3 y
  rw [held, if_pos h3] at e
  obtain ⟨-, -, -, -, e2, e2'⟩ := idx t
  blk_simp
  rw [after0_2]
  refine e.trans ?_
  rw [zero_add]
  simp only [term, prod_apply]
  unfold Cert.GqkvRefIdeal.Hand.out
  pointwise
  refine Fin.sum_mul_add_congr (S := 4) (n := 2048) fun s k hl => ?_
  refine (EReal.mul_comm _ _).trans ?_
  generalize hu : (⟨4 * (t.val / 4) + s.val, _⟩ : Fin cfg0.N) = u
  have hv : u.val = 4 * (t.val / 4) + s.val := by rw [← hu]
  have ht : t.val < 12 := t.isLt
  obtain ⟨a0, a0', a1, a1', -, -⟩ := idx u
  blk_point [iblk, a0, a0', a1, a1', e2, e2']

end Cert.GqkvIdeal.Hand

namespace Cert.Proof

open Idealize.ShloMosaic Idealize.SL.Sem

theorem algebraic_gqkv : Cert.algebraic_GqkvIdeal_GqkvRefIdeal := by
  intro m g m' g' _ hagree
  refine ⟨_, Cert.GqkvIdeal.Value.run_blocks m g, ?_⟩
  refine (θ_run Cert.GqkvRefIdeal.defs _ _).mono (fun _ h c => ⟨(h c).1.trans ?_, (h c).2⟩) (Cert.GqkvRefIdeal.Value.run (F := Ideal) m' g')
  obtain ⟨e0, e1⟩ := hagree c
  rw [Cert.GqkvIdeal.Hand.arr, ← e0, ← e1]
  rfl

end Cert.Proof
end
-- ==== Proof.F.Gsq.lean ====
/-
  The gradient of the embedding's gate, and of the pooling's first weight: four stretches of rows are added up in a scratch, and the sum
  over all the rows is the reference's product.
-/
module

public import proofs.«01_k».proof.Defs
public import proofs.«01_k».proof.Proof.Gen.GsqIdeal.Value
public import proofs.«01_k».proof.Proof.Gen.GsqRefIdeal.Run
public import Idealize.ShloMosaic.Lib.Pipeline.ValueKit
public import Idealize.ShloMosaic.Lib.Pipeline.ReadBack

@[expose] public section

set_option maxRecDepth 16384

noncomputable section

namespace Cert.GsqRefIdeal.Hand

open Cert.GsqRefIdeal Cert.GsqRefIdeal.Gen Idealize.ShloMosaic

/-- The reference's result. -/
def out {F : FTy → Type} [FloatOps F] (h : FVec F S8192x1024 .bf16) (d : FVec F S8192x1024 .bf16) : FVec F S1024x1024 .bf16 :=
  truncf .bf16 (transpose S1024x1024 [1, 0] (Host.dotGeneral dot_S8192x1024_S8192x1024_S1024x1024_0_0_1_1_n_n none
    (extf .f32 d bitsLt_bf16_f32) (extf .f32 h bitsLt_bf16_f32)) transposes_S1024x1024_S1024x1024_1_0) bitsLt_bf16_f32

end Cert.GsqRefIdeal.Hand

namespace Cert.GsqIdeal.Hand

open Cert.GsqIdeal Cert.GsqIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 4 ∧ win0_0.index t 1 = 0
      ∧ win0_1.index t 0 = t.val % 4 ∧ win0_1.index t 1 = 0
      ∧ win0_2.index t 0 = 0 ∧ win0_2.index t 1 = 0 :=
  (by decide +kernel : ∀ t : Fin grid0.N, win0_0.index t 0 = t.val % 4 ∧ win0_0.index t 1 = 0
      ∧ win0_1.index t 0 = t.val % 4 ∧ win0_1.index t 1 = 0
      ∧ win0_2.index t 0 = 0 ∧ win0_2.index t 1 = 0) t

theorem prod_apply (h : Vec Ideal S2048x1024 .bf16) (d : Vec Ideal S2048x1024 .bf16) (i : S1024x1024.Idx) :
    k0_pay1 h d i = (∑ k : Fin 2048, (h (ix2 (n0 := 2048) (n1 := 1024) k (i 0)) : EReal) * d (ix2 (n0 := 2048) (n1 := 1024) k (i 1)) : EReal) := by
  unfold k0_pay1
  pointwise

/-- One stretch's product. -/
def term (t : Fin cfg0.N) (i : S1024x1024.Idx) : EReal := k0_pay1 (F := Ideal) (iblk m c 0 t) (iblk m c 1 t) i

/-- What is being added up: the scratch, and at the last stretch what is written out. -/
def held (n : ℕ) (h : n < cfg0.N) (i : S1024x1024.Idx) : EReal := if n % 4 = 3 then (outsAt0 m c n h).1 i else (outsAt0 m c n h).2 i

theorem held_first (t : Fin cfg0.N) (h : t.val % 4 = 0) (i : S1024x1024.Idx) : held m c t.val t.isLt i = 0 + term m c t i := by
  rw [held, if_neg (by omega), outsAt0_A m c t h (by omega) (by omega), zero_add]
  frame_out
  unfold k0_pay2
  pointwise
  rfl

theorem held_next (t : Fin cfg0.N) (h : ¬t.val % 4 = 0) (i : S1024x1024.Idx) :
    held m c t.val t.isLt i = held m c (t.val - 1) (Nat.lt_of_le_of_lt (Nat.sub_le _ _) t.isLt) i + term m c t i := by
  rw [held, held, if_neg (by omega : ¬(t.val - 1) % 4 = 3)]
  by_cases h3 : t.val % 4 = 3
  · rw [if_pos h3, outsAt0_C m c t h (by omega) h3]
    frame_out
    unfold k0_pay4
    pointwise
    simp only [read_unread_whole]
    rfl
  · rw [if_neg h3, outsAt0_B m c t h (by omega) h3]
    frame_out
    unfold k0_pay3
    pointwise
    simp only [read_unread_whole]
    rfl

/-- The array after the launch. -/
theorem arr : (dats m 0 c).arrAt 2 cfg0.N = Cert.GsqRefIdeal.Hand.out (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  have e := Pipeline.eq_sum_fin_of_reset_step_apply_of_flush (held m c) 4 (fun _ => 0) (term m c) (held_first m c) (held_next m c) t h3 y
  rw [held, if_pos h3] at e
  obtain ⟨-, -, -, -, e2, e2'⟩ := idx t
  blk_simp
  rw [after0_2]
  refine e.trans ?_
  rw [zero_add]
  simp only [term, prod_apply]
  unfold Cert.GsqRefIdeal.Hand.out
  pointwise
  refine Fin.sum_mul_add_congr (S := 4) (n := 2048) fun s k hl => ?_
  refine (EReal.mul_comm _ _).trans ?_
  generalize hu : (⟨4 * (t.val / 4) + s.val, _⟩ : Fin cfg0.N) = u
  have hv : u.val = 4 * (t.val / 4) + s.val := by rw [← hu]
  have ht : t.val < 4 := t.isLt
  obtain ⟨a0, a0', a1, a1', -, -⟩ := idx u
  blk_point [iblk, a0, a0', a1, a1', e2, e2']

end Cert.GsqIdeal.Hand

namespace Cert.Proof

open Idealize.ShloMosaic Idealize.SL.Sem

theorem algebraic_gsq : Cert.algebraic_GsqIdeal_GsqRefIdeal := by
  intro m g m' g' _ hagree
  refine ⟨_, Cert.GsqIdeal.Value.run_blocks m g, ?_⟩
  refine (θ_run Cert.GsqRefIdeal.defs _ _).mono (fun _ h c => ⟨(h c).1.trans ?_, (h c).2⟩) (Cert.GsqRefIdeal.Value.run (F := Ideal) m' g')
  obtain ⟨e0, e1⟩ := hagree c
  rw [Cert.GsqIdeal.Hand.arr, ← e0, ← e1]
  rfl

end Cert.Proof
end
-- ==== Proof.F.Gpp.lean ====
/-
  The gradient of the embedding's projection: four stretches of rows are added up in a scratch, and the sum
  over all the rows is the reference's product.
-/
module

public import proofs.«01_k».proof.Defs
public import proofs.«01_k».proof.Proof.Gen.GppIdeal.Value
public import proofs.«01_k».proof.Proof.Gen.GppRefIdeal.Run
public import Idealize.ShloMosaic.Lib.Pipeline.ValueKit
public import Idealize.ShloMosaic.Lib.Pipeline.ReadBack

@[expose] public section

set_option maxRecDepth 16384

noncomputable section

namespace Cert.GppRefIdeal.Hand

open Cert.GppRefIdeal Cert.GppRefIdeal.Gen Idealize.ShloMosaic

/-- The reference's result. -/
def out {F : FTy → Type} [FloatOps F] (h : FVec F S8192x256 .f32) (d : FVec F S8192x1024 .bf16) : FVec F S256x1024 .bf16 :=
  truncf .bf16 (transpose S256x1024 [1, 0] (Host.dotGeneral dot_S8192x1024_S8192x256_S1024x256_0_0_1_1_n_n none
    (extf .f32 d bitsLt_bf16_f32) h) transposes_S1024x256_S256x1024_1_0) bitsLt_bf16_f32

end Cert.GppRefIdeal.Hand

namespace Cert.GppIdeal.Hand

open Cert.GppIdeal Cert.GppIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val % 4 ∧ win0_0.index t 1 = 0
      ∧ win0_1.index t 0 = t.val % 4 ∧ win0_1.index t 1 = 0
      ∧ win0_2.index t 0 = 0 ∧ win0_2.index t 1 = 0 :=
  (by decide +kernel : ∀ t : Fin grid0.N, win0_0.index t 0 = t.val % 4 ∧ win0_0.index t 1 = 0
      ∧ win0_1.index t 0 = t.val % 4 ∧ win0_1.index t 1 = 0
      ∧ win0_2.index t 0 = 0 ∧ win0_2.index t 1 = 0) t

theorem prod_apply (h : Vec Ideal S2048x256 .f32) (d : Vec Ideal S2048x1024 .bf16) (i : S256x1024.Idx) :
    k0_pay1 h d i = (∑ k : Fin 2048, (h (ix2 (n0 := 2048) (n1 := 256) k (i 0)) : EReal) * d (ix2 (n0 := 2048) (n1 := 1024) k (i 1)) : EReal) := by
  unfold k0_pay1
  pointwise

/-- One stretch's product. -/
def term (t : Fin cfg0.N) (i : S256x1024.Idx) : EReal := k0_pay1 (F := Ideal) (iblk m c 0 t) (iblk m c 1 t) i

/-- What is being added up: the scratch, and at the last stretch what is written out. -/
def held (n : ℕ) (h : n < cfg0.N) (i : S256x1024.Idx) : EReal := if n % 4 = 3 then (outsAt0 m c n h).1 i else (outsAt0 m c n h).2 i

theorem held_first (t : Fin cfg0.N) (h : t.val % 4 = 0) (i : S256x1024.Idx) : held m c t.val t.isLt i = 0 + term m c t i := by
  rw [held, if_neg (by omega), outsAt0_A m c t h (by omega) (by omega), zero_add]
  frame_out
  unfold k0_pay2
  pointwise
  rfl

theorem held_next (t : Fin cfg0.N) (h : ¬t.val % 4 = 0) (i : S256x1024.Idx) :
    held m c t.val t.isLt i = held m c (t.val - 1) (Nat.lt_of_le_of_lt (Nat.sub_le _ _) t.isLt) i + term m c t i := by
  rw [held, held, if_neg (by omega : ¬(t.val - 1) % 4 = 3)]
  by_cases h3 : t.val % 4 = 3
  · rw [if_pos h3, outsAt0_C m c t h (by omega) h3]
    frame_out
    unfold k0_pay4
    pointwise
    simp only [read_unread_whole]
    rfl
  · rw [if_neg h3, outsAt0_B m c t h (by omega) h3]
    frame_out
    unfold k0_pay3
    pointwise
    simp only [read_unread_whole]
    rfl

/-- The array after the launch. -/
theorem arr : (dats m 0 c).arrAt 2 cfg0.N = Cert.GppRefIdeal.Hand.out (F := Ideal) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  have e := Pipeline.eq_sum_fin_of_reset_step_apply_of_flush (held m c) 4 (fun _ => 0) (term m c) (held_first m c) (held_next m c) t h3 y
  rw [held, if_pos h3] at e
  obtain ⟨-, -, -, -, e2, e2'⟩ := idx t
  blk_simp
  rw [after0_2]
  refine e.trans ?_
  rw [zero_add]
  simp only [term, prod_apply]
  unfold Cert.GppRefIdeal.Hand.out
  pointwise
  refine Fin.sum_mul_add_congr (S := 4) (n := 2048) fun s k hl => ?_
  refine (EReal.mul_comm _ _).trans ?_
  generalize hu : (⟨4 * (t.val / 4) + s.val, _⟩ : Fin cfg0.N) = u
  have hv : u.val = 4 * (t.val / 4) + s.val := by rw [← hu]
  have ht : t.val < 4 := t.isLt
  obtain ⟨a0, a0', a1, a1', -, -⟩ := idx u
  blk_point [iblk, a0, a0', a1, a1', e2, e2']

end Cert.GppIdeal.Hand

namespace Cert.Proof

open Idealize.ShloMosaic Idealize.SL.Sem

theorem algebraic_gpp : Cert.algebraic_GppIdeal_GppRefIdeal := by
  intro m g m' g' _ hagree
  refine ⟨_, Cert.GppIdeal.Value.run_blocks m g, ?_⟩
  refine (θ_run Cert.GppRefIdeal.defs _ _).mono (fun _ h c => ⟨(h c).1.trans ?_, (h c).2⟩) (Cert.GppRefIdeal.Value.run (F := Ideal) m' g')
  obtain ⟨e0, e1⟩ := hagree c
  rw [Cert.GppIdeal.Hand.arr, ← e0, ← e1]
  rfl

end Cert.Proof
end
-- ==== Proof.F.Qdh.lean ====
/-
  The gradient at the attention's input: the gradient's product with the first weight, carried back through the
  normalisation of the rows, added to the gradient that comes past the block; and the gradient of the normalisation's own
  weight, summed over the rows.
-/
module

public import proofs.«01_k».proof.Defs
public import proofs.«01_k».proof.Proof.F.NormBwd
public import proofs.«01_k».proof.Proof.Gen.QdhIdeal.Value
public import proofs.«01_k».proof.Proof.Gen.QdhRefIdeal.Run
public import Idealize.ShloMosaic.Lib.Pipeline.ValueKit
public import Idealize.ShloMosaic.Lib.Pipeline.ReadBack

@[expose] public section

set_option maxRecDepth 16384

noncomputable section

namespace Cert.Pre_qkv_dh_finite

open Idealize.ShloMosaic Cert.Fin

instance facts : Cert.Pre_qkv_dh_finite.Facts := ⟨by decide, by decide, by decide, by decide, by decide, by decide, by decide, by decide, by decide, by decide⟩

/-- Where the check is one, the arrays hold reals. -/
theorem reals {A : FVec Ideal S8192x3072 .bf16} {W : FVec Ideal S1024x3072 .f32} {X Z : FVec Ideal S8192x1024 .f32} {G : FVec Ideal S1x1024 .f32} {j : S_.Idx}
    (h : fn (F := Ideal) A W X G Z j = 1#1) :
    (∀ i, IsR (A i)) ∧ (∀ i, IsR (W i)) ∧ (∀ i, IsR (X i)) ∧ ∀ i, IsR (G i) := by
  dsimp only [fn, fn_part1] at h
  obtain ⟨h, hg⟩ := and_one h
  obtain ⟨h, hx⟩ := and_one h
  obtain ⟨ha, hw⟩ := and_one h
  exact ⟨isR_of_all ha, isR_of_all hw, isR_of_all hx, isR_of_all hg⟩

end Cert.Pre_qkv_dh_finite

namespace Cert.QdhRefIdeal.Hand

open Cert.QdhRefIdeal Cert.QdhRefIdeal.Gen Idealize.ShloMosaic

variable {F : FTy → Type} [FloatOps F] (a : FVec F S8192x3072 .bf16) (w : FVec F S1024x3072 .f32) (x : FVec F S8192x1024 .f32) (g : FVec F S1x1024 .f32) (z : FVec F S8192x1024 .f32)

/-- The gradient of the normalised rows. -/
def dy : FVec F S8192x1024 .f32 :=
  Host.dotGeneral dot_S8192x3072_S1024x3072_S8192x1024_1_1_0_0_n_n none (extf .f32 a bitsLt_bf16_f32) w

/-- The mean of the squares of each row, and a small number. -/
def var : FVec F S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The gradient, weighed. -/
def dyg : FVec F S8192x1024 .f32 := mulf (dy a w) (broadcastInDim S8192x1024 ![0, 1] bcast_S1x1024_S8192x1024_0_1 g)

/-- What the root mean square contributes to each entry of a row. -/
def back : FVec F S8192x1024 .f32 :=
  broadcastInDim S8192x1024 ![0] bcast_S8192_S8192x1024_0 (Host.reduceAdd (Host.divf (mulf (shapeCast _ (Host.reduceAdd (mulf x (dyg a w g))
    (constant S_ .f32 0x00000000#32) reducesTo_S8192x1024_S8192_d1 h_S_) shapeCasts_S8192_S8192x1) (mulf (broadcastInDim S8192x1 ![] bcast_S_S8192x1 (constant S_ .f32 0xBF000000#32))
      (Host.divf (Host.rsqrt (var x)) (var x)))) (broadcastInDim S8192x1 ![] bcast_S_S8192x1 (constant S_ .f32 0x44800000#32)))
        (constant S_ .f32 0x00000000#32) reducesTo_S8192x1_S8192_d1 h_S_)

/-- The two results. -/
def out0 : FVec F S8192x1024 .f32 :=
  addf z (addf (addf (mulf (dyg a w g) (broadcastInDim S8192x1024 ![0, 1] bcast_S8192x1_S8192x1024_0_1 (Host.rsqrt (var x)))) (mulf x (back a w x g))) (mulf (back a w x g) x))
def out1 : FVec F S1x1024 .f32 :=
  shapeCast _ (Host.reduceAdd (mulf (mulf x (broadcastInDim S8192x1024 ![0, 1] bcast_S8192x1_S8192x1024_0_1 (Host.rsqrt (var x)))) (dy a w))
    (constant S_ .f32 0x00000000#32) reducesTo_S8192x1024_S1024_d0 h_S_) shapeCasts_S1024_S1x1024

end Cert.QdhRefIdeal.Hand

namespace Cert.QdhIdeal.Hand

open Cert.QdhIdeal Cert.QdhIdeal.Gen Cert.Fin
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = t.val ∧ win0_2.index t 1 = 0
      ∧ win0_3.index t 0 = 0 ∧ win0_3.index t 1 = 0
      ∧ win0_4.index t 0 = t.val ∧ win0_4.index t 1 = 0
      ∧ win0_5.index t 0 = t.val ∧ win0_5.index t 1 = 0
      ∧ win0_6.index t 0 = 0 ∧ win0_6.index t 1 = 0 :=
  (by decide +kernel : ∀ t : Fin grid0.N, win0_0.index t 0 = t.val ∧ win0_0.index t 1 = 0
      ∧ win0_1.index t 0 = 0 ∧ win0_1.index t 1 = 0
      ∧ win0_2.index t 0 = t.val ∧ win0_2.index t 1 = 0
      ∧ win0_3.index t 0 = 0 ∧ win0_3.index t 1 = 0
      ∧ win0_4.index t 0 = t.val ∧ win0_4.index t 1 = 0
      ∧ win0_5.index t 0 = t.val ∧ win0_5.index t 1 = 0
      ∧ win0_6.index t 0 = 0 ∧ win0_6.index t 1 = 0) t

theorem V_w : V m c main_v0 = truncf (F := Ideal) (s := S1024x3072) .bf16 (m ((c.tc : Thread nD τ).loc main_arg1)) bitsLt_bf16_f32 := by
  rfl

/-- The arguments. -/
abbrev A : FVec Ideal S8192x3072 .bf16 := m ((c.tc : Thread nD τ).loc main_arg0)
abbrev W : FVec Ideal S1024x3072 .f32 := m ((c.tc : Thread nD τ).loc main_arg1)
abbrev X : FVec Ideal S8192x1024 .f32 := m ((c.tc : Thread nD τ).loc main_arg2)
abbrev G : FVec Ideal S1x1024 .f32 := m ((c.tc : Thread nD τ).loc main_arg3)
abbrev Z : FVec Ideal S8192x1024 .f32 := m ((c.tc : Thread nD τ).loc main_arg4)

/-- Row `i` of block `t`. -/
abbrev row (t : Fin cfg0.N) (i : Fin 512) : Fin 8192 := ⟨512 * t.val + i.val, by have := t.isLt; have : cfg0.N = 16 := rfl; omega⟩

/-- The gradient of the normalised rows. -/
abbrev DY : FVec Ideal S8192x1024 .f32 := Cert.QdhRefIdeal.Hand.dy (F := Ideal) (A m c) (W m c)

/-- The product. -/
theorem dy_apply (t : Fin cfg0.N) (y : S512x1024.Idx) :
    k0_pay2 (F := Ideal) (iblk m c 0 t) (iblk m c 1 t) y
      = (DY m c (ix2 (n0 := 8192) (n1 := 1024) (row t (y 0)) (y 1)) : EReal) := by
  obtain ⟨a0, a0', a1, a1', -⟩ := idx t
  unfold k0_pay2 DY Cert.QdhRefIdeal.Hand.dy
  pointwise
  blk_point [iblk, V_w, a0, a0', a1, a1']

theorem x_apply (t : Fin cfg0.N) (y : S512x1024.Idx) : (iblk m c 2 t y : EReal) = X m c (ix2 (n0 := 8192) (n1 := 1024) (row t (y 0)) (y 1)) := by
  obtain ⟨-, -, -, -, b2, b2', -⟩ := idx t
  blk_point [iblk, X, b2, b2']

theorem g_apply (t : Fin cfg0.N) (y : S1x1024.Idx) : (iblk m c 3 t y : EReal) = G m c (ix2 (n0 := 1) (n1 := 1024) 0 (y 1)) := by
  obtain ⟨-, -, -, -, -, -, b3, b3', -⟩ := idx t
  blk_point [iblk, G, b3, b3']

theorem z_apply (t : Fin cfg0.N) (y : S512x1024.Idx) : (iblk m c 4 t y : EReal) = Z m c (ix2 (n0 := 8192) (n1 := 1024) (row t (y 0)) (y 1)) := by
  obtain ⟨-, -, -, -, -, -, -, -, b4, b4', -⟩ := idx t
  blk_point [iblk, Z, b4, b4']

theorem dy_real (ha : ∀ i, IsR (A m c i)) (hw : ∀ i, IsR (W m c i)) (i : S8192x1024.Idx) : IsR (DY m c i) := by
  unfold DY Cert.QdhRefIdeal.Hand.dy
  pointwise
  exact IsR.sum fun k => (ha _).mul (hw _)

/-- The reference's first result at an entry, as the launch writes it. -/
theorem out0_apply (hd : ∀ i, IsR (DY m c i)) (hx : ∀ i, IsR (X m c i)) (hg : ∀ i, IsR (G m c i)) (r : Fin 8192) (j : Fin 1024) :
    (Cert.QdhRefIdeal.Hand.out0 (F := Ideal) (A m c) (W m c) (X m c) (G m c) (Z m c) (ix2 (n0 := 8192) (n1 := 1024) r j) : EReal)
    = Z m c (ix2 (n0 := 8192) (n1 := 1024) r j) + rms (fun k => (X m c (ix2 (n0 := 8192) (n1 := 1024) r k) : EReal))
      * (DY m c (ix2 (n0 := 8192) (n1 := 1024) r j) * G m c (ix2 (n0 := 1) (n1 := 1024) 0 j) - X m c (ix2 (n0 := 8192) (n1 := 1024) r j)
        * rms (fun k => (X m c (ix2 (n0 := 8192) (n1 := 1024) r k) : EReal))
        * Ideal.div (∑ k : Fin 1024, DY m c (ix2 (n0 := 8192) (n1 := 1024) r k) * G m c (ix2 (n0 := 1) (n1 := 1024) 0 k)
          * (X m c (ix2 (n0 := 8192) (n1 := 1024) r k) * rms (fun k => (X m c (ix2 (n0 := 8192) (n1 := 1024) r k) : EReal)))) (Ideal.ofBits .f32 0x44800000#32)) := by
  unfold Cert.QdhRefIdeal.Hand.out0 Cert.QdhRefIdeal.Hand.back Cert.QdhRefIdeal.Hand.dyg Cert.QdhRefIdeal.Hand.var
  unfold DY at hd ⊢
  generalize Cert.QdhRefIdeal.Hand.dy (F := Ideal) (A m c) (W m c) = q at hd ⊢
  generalize X m c = x at hx ⊢
  generalize G m c = g at hg ⊢
  generalize Z m c = z
  pointwise
  simp only [Finset.univ_unique, Finset.sum_const, Finset.card_singleton, one_smul]
  exact (norm_bwd (fun k => x (ix2 (n0 := 8192) (n1 := 1024) r k)) (fun k => q (ix2 (n0 := 8192) (n1 := 1024) r k) * g (ix2 (n0 := 1) (n1 := 1024) 0 k))
    (fun k => hx _) (fun k => (hd _).mul (hg _)) j _).symm

theorem emb5 (t : Fin cfg0.N) (y : S512x1024.Idx) : (((View.whole main_v1_0).slice (win0_5.rect t)).emb y : S8192x1024.Idx) = ix2 (n0 := 8192) (n1 := 1024) (row t (y 0)) (y 1) := by
  obtain ⟨-, -, -, -, -, -, -, -, -, -, b5, b5', -⟩ := idx t
  have h := fun f : S8192x1024.Idx → ℕ => show f (((View.whole main_v1_0).slice (win0_5.rect t)).emb y) = f (ix2 (n0 := 8192) (n1 := 1024) (row t (y 0)) (y 1)) by
    blk_point [b5, b5']
  funext a
  fin_cases a
  · exact Fin.ext (h fun i => (i 0).val)
  · exact Fin.ext (h fun i => (i 1).val)

/-- The input's gradient. -/
theorem arr0 (ha : ∀ i, IsR (A m c i)) (hw : ∀ i, IsR (W m c i)) (hx : ∀ i, IsR (X m c i)) (hg : ∀ i, IsR (G m c i)) :
    (dats m 0 c).arrAt 5 cfg0.N = Cert.QdhRefIdeal.Hand.out0 (F := Ideal) (A m c) (W m c) (X m c) (G m c) (Z m c) := by
  refine (dats m 0 c).arrAt_eq_of_covers 5 _ (by decide +kernel) fun t hf y => ?_
  have he := dy_apply m c t
  blk_simp
  rw [after0_5]
  have e : (outsAt0 m c t.val t.isLt).1 = k0_pay5 (F := Ideal) (iblk m c 0 t) (iblk m c 1 t) (iblk m c 2 t) (iblk m c 3 t) (iblk m c 4 t) := by
    by_cases h0 : t.val % 16 = 0
    · rw [outsAt0_A m c t h0]
      funext y
      frame_out
    · rw [outsAt0_B m c t h0]
      funext y
      frame_out
  rw [e]
  refine Eq.trans ?_ ((congrArg (Cert.QdhRefIdeal.Hand.out0 (F := Ideal) (A m c) (W m c) (X m c) (G m c) (Z m c)) (emb5 t y)).trans
    (out0_apply m c (dy_real m c ha hw) hx hg (row t (y 0)) (y 1))).symm
  unfold k0_pay5 k0_pay4 k0_pay3
  generalize k0_pay2 (F := Ideal) (iblk m c 0 t) (iblk m c 1 t) = p at he ⊢
  generalize DY m c = q at he ⊢
  pointwise
  simp only [he, x_apply, g_apply, z_apply]
  rfl

theorem pay6_apply (t : Fin cfg0.N) (v : FVec Ideal S1x1024 .f32) (y : S1x1024.Idx) :
    k0_pay6 (F := Ideal) (iblk m c 0 t) (iblk m c 1 t) (iblk m c 2 t) v y
      = (v y + ∑ k : Fin 512, DY m c (ix2 (n0 := 8192) (n1 := 1024) (row t k) (y 1)) * (X m c (ix2 (n0 := 8192) (n1 := 1024) (row t k) (y 1))
          * rms (fun i => (X m c (ix2 (n0 := 8192) (n1 := 1024) (row t k) i) : EReal))) : EReal) := by
  have he := dy_apply m c t
  unfold k0_pay6 k0_pay4 k0_pay3
  generalize k0_pay2 (F := Ideal) (iblk m c 0 t) (iblk m c 1 t) = p at he ⊢
  generalize DY m c = q at he ⊢
  pointwise
  simp only [he, x_apply]
  rfl

/-- One stretch of rows' part of the weight's gradient. -/
def term (t : Fin cfg0.N) (y : S1x1024.Idx) : EReal :=
  ∑ k : Fin 512, DY m c (ix2 (n0 := 8192) (n1 := 1024) (row t k) (y 1)) * (X m c (ix2 (n0 := 8192) (n1 := 1024) (row t k) (y 1))
    * rms (fun i => (X m c (ix2 (n0 := 8192) (n1 := 1024) (row t k) i) : EReal)))

def held (n : ℕ) (h : n < cfg0.N) (y : S1x1024.Idx) : EReal := (outsAt0 m c n h).2 y

theorem held_first (t : Fin cfg0.N) (h : t.val % 16 = 0) (y : S1x1024.Idx) : held m c t.val t.isLt y = 0 + term m c t y := by
  rw [held, outsAt0_A m c t h]
  frame_out
  refine (pay6_apply m c t _ y).trans ?_
  unfold k0_pay1 term
  pointwise

theorem held_next (t : Fin cfg0.N) (h : ¬t.val % 16 = 0) (y : S1x1024.Idx) :
    held m c t.val t.isLt y = held m c (t.val - 1) (Nat.lt_of_le_of_lt (Nat.sub_le _ _) t.isLt) y + term m c t y := by
  rw [held, outsAt0_B m c t h]
  frame_out
  refine (pay6_apply m c t _ y).trans ?_
  rfl

/-- The weight's gradient. -/
theorem arr1 : (dats m 0 c).arrAt 6 cfg0.N = Cert.QdhRefIdeal.Hand.out1 (F := Ideal) (A m c) (W m c) (X m c) := by
  refine (dats m 0 c).arrAt_eq_of_covers 6 _ (by decide +kernel) fun t hf y => ?_
  have h3 := (flush0_6 t).mp hf
  have e := Pipeline.eq_sum_fin_of_reset_step_apply_of_flush (held m c) 16 (fun _ => 0) (term m c) (held_first m c) (held_next m c) t h3 y
  rw [held] at e
  obtain ⟨-, -, -, -, -, -, -, -, -, -, -, -, b6, b6'⟩ := idx t
  blk_simp
  rw [after0_6]
  refine e.trans ?_
  rw [zero_add]
  simp only [term]
  unfold Cert.QdhRefIdeal.Hand.out1 Cert.QdhRefIdeal.Hand.var
  generalize hq : Cert.QdhRefIdeal.Hand.dy (F := Ideal) (A m c) (W m c) = q
  simp only [DY, hq]
  pointwise
  refine Fin.sum_mul_add_congr (S := 16) (n := 512) fun s k hl => ?_
  have hr : row ⟨16 * (t.val / 16) + s.val, Pipeline.run_point_lt_of_flush t h3 s⟩ k = ⟨s.val * 512 + k.val, hl⟩ := by
    have := t.isLt
    have : cfg0.N = 16 := rfl
    apply Fin.ext
    simp only
    omega
  rw [hr]
  refine (EReal.mul_comm _ _).trans ?_
  unfold rms
  have hy : (((View.whole main_v1_1).slice (win0_6.rect t)).emb y 1).val = (y 1).val := by
    blk_point [b6, b6']
  rw [show ((View.whole main_v1_1).slice (win0_6.rect t)).emb y 1 = y 1 from Fin.ext hy]

end Cert.QdhIdeal.Hand

namespace Cert.Proof

open Idealize.ShloMosaic Idealize.SL.Sem

theorem algebraic_qdh : Cert.algebraic_QdhIdeal_QdhRefIdeal_pre_qkv_dh_finite := by
  intro m g m' g' hpre hagree
  refine ⟨_, _, Cert.QdhIdeal.Value.run_blocks m g, ?_⟩
  refine (θ_run Cert.QdhRefIdeal.defs _ _).mono (fun _ h c => ⟨(h c).1.trans ?_, (h c).2.1.trans ?_, (h c).2.2⟩)
    (Cert.QdhRefIdeal.Value.run (F := Ideal) m' g')
  all_goals obtain ⟨e0, e1, e2, e3, e4⟩ := hagree c
  · obtain ⟨ha, hw, hx, hg⟩ := Cert.Pre_qkv_dh_finite.reals (congrFun (hpre c) (fun a => Fin.elim0 a))
    rw [Cert.QdhIdeal.Hand.arr0 m c ha hw hx hg]
    dsimp only [Cert.QdhIdeal.Hand.A, Cert.QdhIdeal.Hand.W, Cert.QdhIdeal.Hand.X, Cert.QdhIdeal.Hand.G, Cert.QdhIdeal.Hand.Z]
    rw [← e0, ← e1, ← e2, ← e3, ← e4]; rfl
  · rw [Cert.QdhIdeal.Hand.arr1]
    dsimp only [Cert.QdhIdeal.Hand.A, Cert.QdhIdeal.Hand.W, Cert.QdhIdeal.Hand.X]
    rw [← e0, ← e1, ← e2]; rfl

end Cert.Proof
end
-- ==== Proof.F.Sdh.lean ====
/-
  The gradient at the gated embedding's input, and at the pooling's: the gradient's product with the square weight, carried
  back through the normalisation of the rows, added to the gradient that comes past the block; and the gradient of the
  normalisation's own weight, summed over the rows.
-/
module

public import proofs.«01_k».proof.Defs
public import proofs.«01_k».proof.Proof.F.NormBwd
public import proofs.«01_k».proof.Proof.Gen.SdhIdeal.Value
public import proofs.«01_k».proof.Proof.Gen.SdhRefIdeal.Run
public import Idealize.ShloMosaic.Lib.Pipeline.ValueKit
public import Idealize.ShloMosaic.Lib.Pipeline.ReadBack

@[expose] public section

set_option maxRecDepth 16384

noncomputable section

namespace Cert.Pre_square_dh_finite

open Idealize.ShloMosaic Cert.Fin

instance facts : Cert.Pre_square_dh_finite.Facts := ⟨by decide, by decide, by decide, by decide, by decide, by decide, by decide, by decide⟩

/-- Where the check is one, the arrays hold reals. -/
theorem reals {A : FVec Ideal S8192x1024 .bf16} {W : FVec Ideal S1024x1024 .f32} {X Z : FVec Ideal S8192x1024 .f32} {G : FVec Ideal S1x1024 .f32} {j : S_.Idx}
    (h : fn (F := Ideal) A W X G Z j = 1#1) :
    (∀ i, IsR (A i)) ∧ (∀ i, IsR (W i)) ∧ (∀ i, IsR (X i)) ∧ ∀ i, IsR (G i) := by
  dsimp only [fn, fn_part1] at h
  obtain ⟨h, hg⟩ := and_one h
  obtain ⟨h, hx⟩ := and_one h
  obtain ⟨ha, hw⟩ := and_one h
  exact ⟨isR_of_all ha, isR_of_all hw, isR_of_all hx, isR_of_all hg⟩

end Cert.Pre_square_dh_finite

namespace Cert.SdhRefIdeal.Hand

open Cert.SdhRefIdeal Cert.SdhRefIdeal.Gen Idealize.ShloMosaic

variable {F : FTy → Type} [FloatOps F] (a : FVec F S8192x1024 .bf16) (w : FVec F S1024x1024 .f32) (x : FVec F S8192x1024 .f32) (g : FVec F S1x1024 .f32) (z : FVec F S8192x1024 .f32)

/-- The gradient of the normalised rows. -/
def dy : FVec F S8192x1024 .f32 :=
  Host.dotGeneral dot_S8192x1024_S1024x1024_S8192x1024_1_1_0_0_n_n none (extf .f32 a bitsLt_bf16_f32) w

/-- The mean of the squares of each row, and a small number. -/
def var : FVec F S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The gradient, weighed. -/
def dyg : FVec F S8192x1024 .f32 := mulf (dy a w) (broadcastInDim S8192x1024 ![0, 1] bcast_S1x1024_S8192x1024_0_1 g)

/-- What the root mean square contributes to each entry of a row. -/
def back : FVec F S8192x1024 .f32 :=
  broadcastInDim S8192x1024 ![0] bcast_S8192_S8192x1024_0 (Host.reduceAdd (Host.divf (mulf (shapeCast _ (Host.reduceAdd (mulf x (dyg a w g))
    (constant S_ .f32 0x00000000#32) reducesTo_S8192x1024_S8192_d1 h_S_) shapeCasts_S8192_S8192x1) (mulf (broadcastInDim S8192x1 ![] bcast_S_S8192x1 (constant S_ .f32 0xBF000000#32))
      (Host.divf (Host.rsqrt (var x)) (var x)))) (broadcastInDim S8192x1 ![] bcast_S_S8192x1 (constant S_ .f32 0x44800000#32)))
        (constant S_ .f32 0x00000000#32) reducesTo_S8192x1_S8192_d1 h_S_)

/-- The two results. -/
def out0 : FVec F S8192x1024 .f32 :=
  addf z (addf (addf (mulf (dyg a w g) (broadcastInDim S8192x1024 ![0, 1] bcast_S8192x1_S8192x1024_0_1 (Host.rsqrt (var x)))) (mulf x (back a w x g))) (mulf (back a w x g) x))
def out1 : FVec F S1x1024 .f32 :=
  shapeCast _ (Host.reduceAdd (mulf (mulf x (broadcastInDim S8192x1024 ![0, 1] bcast_S8192x1_S8192x1024_0_1 (Host.rsqrt (var x)))) (dy a w))
    (constant S_ .f32 0x00000000#32) reducesTo_S8192x1024_S1024_d0 h_S_) shapeCasts_S1024_S1x1024

end Cert.SdhRefIdeal.Hand

namespace Cert.SdhIdeal.Hand

open Cert.SdhIdeal Cert.SdhIdeal.Gen Cert.Fin
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = t.val ∧ win0_2.index t 1 = 0
      ∧ win0_3.index t 0 = 0 ∧ win0_3.index t 1 = 0
      ∧ win0_4.index t 0 = t.val ∧ win0_4.index t 1 = 0
      ∧ win0_5.index t 0 = t.val ∧ win0_5.index t 1 = 0
      ∧ win0_6.index t 0 = 0 ∧ win0_6.index t 1 = 0 :=
  (by decide +kernel : ∀ t : Fin grid0.N, win0_0.index t 0 = t.val ∧ win0_0.index t 1 = 0
      ∧ win0_1.index t 0 = 0 ∧ win0_1.index t 1 = 0
      ∧ win0_2.index t 0 = t.val ∧ win0_2.index t 1 = 0
      ∧ win0_3.index t 0 = 0 ∧ win0_3.index t 1 = 0
      ∧ win0_4.index t 0 = t.val ∧ win0_4.index t 1 = 0
      ∧ win0_5.index t 0 = t.val ∧ win0_5.index t 1 = 0
      ∧ win0_6.index t 0 = 0 ∧ win0_6.index t 1 = 0) t

theorem V_w : V m c main_v0 = truncf (F := Ideal) (s := S1024x1024) .bf16 (m ((c.tc : Thread nD τ).loc main_arg1)) bitsLt_bf16_f32 := by
  rfl

/-- The arguments. -/
abbrev A : FVec Ideal S8192x1024 .bf16 := m ((c.tc : Thread nD τ).loc main_arg0)
abbrev W : FVec Ideal S1024x1024 .f32 := m ((c.tc : Thread nD τ).loc main_arg1)
abbrev X : FVec Ideal S8192x1024 .f32 := m ((c.tc : Thread nD τ).loc main_arg2)
abbrev G : FVec Ideal S1x1024 .f32 := m ((c.tc : Thread nD τ).loc main_arg3)
abbrev Z : FVec Ideal S8192x1024 .f32 := m ((c.tc : Thread nD τ).loc main_arg4)

/-- Row `i` of block `t`. -/
abbrev row (t : Fin cfg0.N) (i : Fin 512) : Fin 8192 := ⟨512 * t.val + i.val, by have := t.isLt; have : cfg0.N = 16 := rfl; omega⟩

/-- The gradient of the normalised rows. -/
abbrev DY : FVec Ideal S8192x1024 .f32 := Cert.SdhRefIdeal.Hand.dy (F := Ideal) (A m c) (W m c)

/-- The product. -/
theorem dy_apply (t : Fin cfg0.N) (y : S512x1024.Idx) :
    k0_pay2 (F := Ideal) (iblk m c 0 t) (iblk m c 1 t) y
      = (DY m c (ix2 (n0 := 8192) (n1 := 1024) (row t (y 0)) (y 1)) : EReal) := by
  obtain ⟨a0, a0', a1, a1', -⟩ := idx t
  unfold k0_pay2 DY Cert.SdhRefIdeal.Hand.dy
  pointwise
  blk_point [iblk, V_w, a0, a0', a1, a1']

theorem x_apply (t : Fin cfg0.N) (y : S512x1024.Idx) : (iblk m c 2 t y : EReal) = X m c (ix2 (n0 := 8192) (n1 := 1024) (row t (y 0)) (y 1)) := by
  obtain ⟨-, -, -, -, b2, b2', -⟩ := idx t
  blk_point [iblk, X, b2, b2']

theorem g_apply (t : Fin cfg0.N) (y : S1x1024.Idx) : (iblk m c 3 t y : EReal) = G m c (ix2 (n0 := 1) (n1 := 1024) 0 (y 1)) := by
  obtain ⟨-, -, -, -, -, -, b3, b3', -⟩ := idx t
  blk_point [iblk, G, b3, b3']

theorem z_apply (t : Fin cfg0.N) (y : S512x1024.Idx) : (iblk m c 4 t y : EReal) = Z m c (ix2 (n0 := 8192) (n1 := 1024) (row t (y 0)) (y 1)) := by
  obtain ⟨-, -, -, -, -, -, -, -, b4, b4', -⟩ := idx t
  blk_point [iblk, Z, b4, b4']

theorem dy_real (ha : ∀ i, IsR (A m c i)) (hw : ∀ i, IsR (W m c i)) (i : S8192x1024.Idx) : IsR (DY m c i) := by
  unfold DY Cert.SdhRefIdeal.Hand.dy
  pointwise
  exact IsR.sum fun k => (ha _).mul (hw _)

/-- The reference's first result at an entry, as the launch writes it. -/
theorem out0_apply (hd : ∀ i, IsR (DY m c i)) (hx : ∀ i, IsR (X m c i)) (hg : ∀ i, IsR (G m c i)) (r : Fin 8192) (j : Fin 1024) :
    (Cert.SdhRefIdeal.Hand.out0 (F := Ideal) (A m c) (W m c) (X m c) (G m c) (Z m c) (ix2 (n0 := 8192) (n1 := 1024) r j) : EReal)
    = Z m c (ix2 (n0 := 8192) (n1 := 1024) r j) + rms (fun k => (X m c (ix2 (n0 := 8192) (n1 := 1024) r k) : EReal))
      * (DY m c (ix2 (n0 := 8192) (n1 := 1024) r j) * G m c (ix2 (n0 := 1) (n1 := 1024) 0 j) - X m c (ix2 (n0 := 8192) (n1 := 1024) r j)
        * rms (fun k => (X m c (ix2 (n0 := 8192) (n1 := 1024) r k) : EReal))
        * Ideal.div (∑ k : Fin 1024, DY m c (ix2 (n0 := 8192) (n1 := 1024) r k) * G m c (ix2 (n0 := 1) (n1 := 1024) 0 k)
          * (X m c (ix2 (n0 := 8192) (n1 := 1024) r k) * rms (fun k => (X m c (ix2 (n0 := 8192) (n1 := 1024) r k) : EReal)))) (Ideal.ofBits .f32 0x44800000#32)) := by
  unfold Cert.SdhRefIdeal.Hand.out0 Cert.SdhRefIdeal.Hand.back Cert.SdhRefIdeal.Hand.dyg Cert.SdhRefIdeal.Hand.var
  unfold DY at hd ⊢
  generalize Cert.SdhRefIdeal.Hand.dy (F := Ideal) (A m c) (W m c) = q at hd ⊢
  generalize X m c = x at hx ⊢
  generalize G m c = g at hg ⊢
  generalize Z m c = z
  pointwise
  simp only [Finset.univ_unique, Finset.sum_const, Finset.card_singleton, one_smul]
  exact (norm_bwd (fun k => x (ix2 (n0 := 8192) (n1 := 1024) r k)) (fun k => q (ix2 (n0 := 8192) (n1 := 1024) r k) * g (ix2 (n0 := 1) (n1 := 1024) 0 k))
    (fun k => hx _) (fun k => (hd _).mul (hg _)) j _).symm

theorem emb5 (t : Fin cfg0.N) (y : S512x1024.Idx) : (((View.whole main_v1_0).slice (win0_5.rect t)).emb y : S8192x1024.Idx) = ix2 (n0 := 8192) (n1 := 1024) (row t (y 0)) (y 1) := by
  obtain ⟨-, -, -, -, -, -, -, -, -, -, b5, b5', -⟩ := idx t
  have h := fun f : S8192x1024.Idx → ℕ => show f (((View.whole main_v1_0).slice (win0_5.rect t)).emb y) = f (ix2 (n0 := 8192) (n1 := 1024) (row t (y 0)) (y 1)) by
    blk_point [b5, b5']
  funext a
  fin_cases a
  · exact Fin.ext (h fun i => (i 0).val)
  · exact Fin.ext (h fun i => (i 1).val)

/-- The input's gradient. -/
theorem arr0 (ha : ∀ i, IsR (A m c i)) (hw : ∀ i, IsR (W m c i)) (hx : ∀ i, IsR (X m c i)) (hg : ∀ i, IsR (G m c i)) :
    (dats m 0 c).arrAt 5 cfg0.N = Cert.SdhRefIdeal.Hand.out0 (F := Ideal) (A m c) (W m c) (X m c) (G m c) (Z m c) := by
  refine (dats m 0 c).arrAt_eq_of_covers 5 _ (by decide +kernel) fun t hf y => ?_
  have he := dy_apply m c t
  blk_simp
  rw [after0_5]
  have e : (outsAt0 m c t.val t.isLt).1 = k0_pay5 (F := Ideal) (iblk m c 0 t) (iblk m c 1 t) (iblk m c 2 t) (iblk m c 3 t) (iblk m c 4 t) := by
    by_cases h0 : t.val % 16 = 0
    · rw [outsAt0_A m c t h0]
      funext y
      frame_out
    · rw [outsAt0_B m c t h0]
      funext y
      frame_out
  rw [e]
  refine Eq.trans ?_ ((congrArg (Cert.SdhRefIdeal.Hand.out0 (F := Ideal) (A m c) (W m c) (X m c) (G m c) (Z m c)) (emb5 t y)).trans
    (out0_apply m c (dy_real m c ha hw) hx hg (row t (y 0)) (y 1))).symm
  unfold k0_pay5 k0_pay4 k0_pay3
  generalize k0_pay2 (F := Ideal) (iblk m c 0 t) (iblk m c 1 t) = p at he ⊢
  generalize DY m c = q at he ⊢
  pointwise
  simp only [he, x_apply, g_apply, z_apply]
  rfl

theorem pay6_apply (t : Fin cfg0.N) (v : FVec Ideal S1x1024 .f32) (y : S1x1024.Idx) :
    k0_pay6 (F := Ideal) (iblk m c 0 t) (iblk m c 1 t) (iblk m c 2 t) v y
      = (v y + ∑ k : Fin 512, DY m c (ix2 (n0 := 8192) (n1 := 1024) (row t k) (y 1)) * (X m c (ix2 (n0 := 8192) (n1 := 1024) (row t k) (y 1))
          * rms (fun i => (X m c (ix2 (n0 := 8192) (n1 := 1024) (row t k) i) : EReal))) : EReal) := by
  have he := dy_apply m c t
  unfold k0_pay6 k0_pay4 k0_pay3
  generalize k0_pay2 (F := Ideal) (iblk m c 0 t) (iblk m c 1 t) = p at he ⊢
  generalize DY m c = q at he ⊢
  pointwise
  simp only [he, x_apply]
  rfl

/-- One stretch of rows' part of the weight's gradient. -/
def term (t : Fin cfg0.N) (y : S1x1024.Idx) : EReal :=
  ∑ k : Fin 512, DY m c (ix2 (n0 := 8192) (n1 := 1024) (row t k) (y 1)) * (X m c (ix2 (n0 := 8192) (n1 := 1024) (row t k) (y 1))
    * rms (fun i => (X m c (ix2 (n0 := 8192) (n1 := 1024) (row t k) i) : EReal)))

def held (n : ℕ) (h : n < cfg0.N) (y : S1x1024.Idx) : EReal := (outsAt0 m c n h).2 y

theorem held_first (t : Fin cfg0.N) (h : t.val % 16 = 0) (y : S1x1024.Idx) : held m c t.val t.isLt y = 0 + term m c t y := by
  rw [held, outsAt0_A m c t h]
  frame_out
  refine (pay6_apply m c t _ y).trans ?_
  unfold k0_pay1 term
  pointwise

theorem held_next (t : Fin cfg0.N) (h : ¬t.val % 16 = 0) (y : S1x1024.Idx) :
    held m c t.val t.isLt y = held m c (t.val - 1) (Nat.lt_of_le_of_lt (Nat.sub_le _ _) t.isLt) y + term m c t y := by
  rw [held, outsAt0_B m c t h]
  frame_out
  refine (pay6_apply m c t _ y).trans ?_
  rfl

/-- The weight's gradient. -/
theorem arr1 : (dats m 0 c).arrAt 6 cfg0.N = Cert.SdhRefIdeal.Hand.out1 (F := Ideal) (A m c) (W m c) (X m c) := by
  refine (dats m 0 c).arrAt_eq_of_covers 6 _ (by decide +kernel) fun t hf y => ?_
  have h3 := (flush0_6 t).mp hf
  have e := Pipeline.eq_sum_fin_of_reset_step_apply_of_flush (held m c) 16 (fun _ => 0) (term m c) (held_first m c) (held_next m c) t h3 y
  rw [held] at e
  obtain ⟨-, -, -, -, -, -, -, -, -, -, -, -, b6, b6'⟩ := idx t
  blk_simp
  rw [after0_6]
  refine e.trans ?_
  rw [zero_add]
  simp only [term]
  unfold Cert.SdhRefIdeal.Hand.out1 Cert.SdhRefIdeal.Hand.var
  generalize hq : Cert.SdhRefIdeal.Hand.dy (F := Ideal) (A m c) (W m c) = q
  simp only [DY, hq]
  pointwise
  refine Fin.sum_mul_add_congr (S := 16) (n := 512) fun s k hl => ?_
  have hr : row ⟨16 * (t.val / 16) + s.val, Pipeline.run_point_lt_of_flush t h3 s⟩ k = ⟨s.val * 512 + k.val, hl⟩ := by
    have := t.isLt
    have : cfg0.N = 16 := rfl
    apply Fin.ext
    simp only
    omega
  rw [hr]
  refine (EReal.mul_comm _ _).trans ?_
  unfold rms
  have hy : (((View.whole main_v1_1).slice (win0_6.rect t)).emb y 1).val = (y 1).val := by
    blk_point [b6, b6']
  rw [show ((View.whole main_v1_1).slice (win0_6.rect t)).emb y 1 = y 1 from Fin.ext hy]

end Cert.SdhIdeal.Hand

namespace Cert.Proof

open Idealize.ShloMosaic Idealize.SL.Sem

theorem algebraic_sdh : Cert.algebraic_SdhIdeal_SdhRefIdeal_pre_square_dh_finite := by
  intro m g m' g' hpre hagree
  refine ⟨_, _, Cert.SdhIdeal.Value.run_blocks m g, ?_⟩
  refine (θ_run Cert.SdhRefIdeal.defs _ _).mono (fun _ h c => ⟨(h c).1.trans ?_, (h c).2.1.trans ?_, (h c).2.2⟩)
    (Cert.SdhRefIdeal.Value.run (F := Ideal) m' g')
  all_goals obtain ⟨e0, e1, e2, e3, e4⟩ := hagree c
  · obtain ⟨ha, hw, hx, hg⟩ := Cert.Pre_square_dh_finite.reals (congrFun (hpre c) (fun a => Fin.elim0 a))
    rw [Cert.SdhIdeal.Hand.arr0 m c ha hw hx hg]
    dsimp only [Cert.SdhIdeal.Hand.A, Cert.SdhIdeal.Hand.W, Cert.SdhIdeal.Hand.X, Cert.SdhIdeal.Hand.G, Cert.SdhIdeal.Hand.Z]
    rw [← e0, ← e1, ← e2, ← e3, ← e4]; rfl
  · rw [Cert.SdhIdeal.Hand.arr1]
    dsimp only [Cert.SdhIdeal.Hand.A, Cert.SdhIdeal.Hand.W, Cert.SdhIdeal.Hand.X]
    rw [← e0, ← e1, ← e2]; rfl

end Cert.Proof
end
-- ==== Proof.F.Heads.lean ====
/-
  Sums over the 64 lanes of a head, as the product with a matrix of 128 by 128 that has one value at the pairs of lanes
  of one head and zero at the others.
-/
module

public import proofs.«01_k».proof.Proof.F.NormBwd
public import Idealize.ShloMosaic.Lib.Pipeline.ReadBack

@[expose] public section

noncomputable section

namespace Cert.Fin

open Idealize.ShloMosaic
open scoped BigOperators

/-- The patterns of 64 and of one over it. -/
theorem bits_64 : Ideal.ofBits .f32 0x42800000#32 = ((64 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num

/-- Lane `l` of the head that lane `j` lies in. -/
abbrev inHead (j : Fin 128) (l : Fin 64) : Fin 128 := ⟨j.val / 64 * 64 + l.val, by omega⟩

/-- A sum against the matrix's column is one over the head. -/
theorem head_sum (a : Fin 128 → EReal) (v : EReal) (j : Fin 128) :
    ∑ k : Fin 128, a k * (if k.val / 64 = j.val / 64 then v else 0) = ∑ l : Fin 64, a (inHead j l) * v := by
  have h := Fin.sum_univ_add (a := 64) (b := 64) fun k => a k * (if k.val / 64 = j.val / 64 then v else 0)
  refine h.trans ?_
  rcases Nat.lt_or_ge j.val 64 with hj | hj
  · have e : j.val / 64 = 0 := by omega
    rw [Finset.sum_eq_zero (s := Finset.univ) (f := fun i : Fin 64 => a (Fin.natAdd 64 i) * _), add_zero]
    · refine Finset.sum_congr rfl fun l _ => ?_
      have e1 : ((Fin.castAdd 64 l : Fin 128)).val / 64 = j.val / 64 := by simp [Fin.castAdd]; omega
      rw [if_pos e1]
      congr 2
      apply Fin.ext
      simp [e]
    · intro l _
      have e1 : ¬((Fin.natAdd 64 l : Fin 128)).val / 64 = j.val / 64 := by simp [Fin.natAdd]; omega
      rw [if_neg e1, mul_zero]
  · have e : j.val / 64 = 1 := by omega
    rw [Finset.sum_eq_zero (s := Finset.univ) (f := fun i : Fin 64 => a (Fin.castAdd 64 i) * _), zero_add]
    · refine Finset.sum_congr rfl fun l _ => ?_
      have e1 : ((Fin.natAdd 64 l : Fin 128)).val / 64 = j.val / 64 := by simp [Fin.natAdd]; omega
      rw [if_pos e1]
      congr 2
      apply Fin.ext
      simp [e]
      omega
    · intro l _
      have e1 : ¬((Fin.castAdd 64 l : Fin 128)).val / 64 = j.val / 64 := by simp [Fin.castAdd]; omega
      rw [if_neg e1, mul_zero]

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A multiple of a sum of squares is the sum of the multiples. -/
theorem sum_sq_mul {n : ℕ} (x : Fin n → EReal) (v : EReal) : ∑ i, x i * x i * v = (∑ i, x i * x i) * v := by
  have : ∀ s : Finset (Fin n), ∑ i ∈ s, x i * x i * v = (∑ i ∈ s, x i * x i) * v := by
    intro s
    induction s using Finset.induction_on with
    | empty => simp
    | insert i s hi ih =>
      rw [Finset.sum_insert hi, Finset.sum_insert hi, ih, EReal.right_distrib_of_nonneg (sq_nonneg _) (Finset.sum_nonneg fun i _ => sq_nonneg _)]
  exact this _

/-- The mean over a head of a sum of squares. -/
theorem head_mean_sq (x : Fin 128 → EReal) (j : Fin 128) :
    ∑ k : Fin 128, x k * x k * (if k.val / 64 = j.val / 64 then Ideal.ofBits .f32 0x3C800000#32 else 0)
      = Ideal.div (∑ l : Fin 64, x (inHead j l) * x (inHead j l)) (Ideal.ofBits .f32 0x42800000#32) := by
  rw [head_sum (fun k => x k * x k), sum_sq_mul (fun l => x (inHead j l)), bits_64, bits_64th, Ideal.div_coe (by norm_num)]

/-- One over the root mean square of a head. -/
def hrms (x : Fin 64 → EReal) : EReal :=
  Ideal.rsqrt (Ideal.div (∑ l, x l * x l) (Ideal.ofBits .f32 0x42800000#32) + Ideal.ofBits .f32 0x358637BD#32)

/-- Of reals it is the real that one expects. -/
theorem hrms_coe (x : Fin 64 → ℝ) : ∃ v r : ℝ, r * r * v = 1
    ∧ Ideal.div (∑ i, (x i : EReal) * (x i : EReal)) (Ideal.ofBits .f32 0x42800000#32) + Ideal.ofBits .f32 0x358637BD#32 = (v : EReal)
    ∧ hrms (fun i => (x i : EReal)) = (r : EReal) := by
  obtain ⟨e, he, hb⟩ := bits_eps
  have hv : Ideal.div (∑ i, (x i : EReal) * (x i : EReal)) (Ideal.ofBits .f32 0x42800000#32) + Ideal.ofBits .f32 0x358637BD#32
      = (((∑ i, x i * x i) * (1 / 64) + e : ℝ) : EReal) := by
    rw [hb, bits_64, Ideal.div_coe (by norm_num)]
    simp only [← EReal.coe_mul, ← coe_sum, ← EReal.coe_add]
  have h0 : 0 < (∑ i, x i * x i) * (1 / 64) + e := by
    have := Finset.sum_nonneg fun (i : Fin 64) (_ : i ∈ Finset.univ) => mul_self_nonneg (x i)
    positivity
  refine ⟨_, (Real.sqrt ((∑ i, x i * x i) * (1 / 64) + e))⁻¹, ?_, hv, ?_⟩
  · rw [← mul_inv, Real.mul_self_sqrt h0.le, inv_mul_cancel₀ h0.ne']
  · rw [hrms, hv, Ideal.rsqrt_coe, if_neg (not_lt.mpr h0.le), if_neg h0.ne']

/-- The two ways of writing the gradient at a head's entry. -/
theorem head_bwd (x b : Fin 64 → EReal) (hx : ∀ i, IsR (x i)) (hb : ∀ i, IsR (b i)) (j : Fin 64) :
    hrms x * (b j - x j * hrms x * ∑ i, b i * (x i * hrms x) * Ideal.ofBits .f32 0x3C800000#32)
    = (b j * hrms x + x j * Ideal.div ((∑ i, x i * b i) * (Ideal.ofBits .f32 0xBF000000#32 * Ideal.div (hrms x)
          (Ideal.div (∑ i, x i * x i) (Ideal.ofBits .f32 0x42800000#32) + Ideal.ofBits .f32 0x358637BD#32))) (Ideal.ofBits .f32 0x42800000#32))
        + Ideal.div ((∑ i, x i * b i) * (Ideal.ofBits .f32 0xBF000000#32 * Ideal.div (hrms x)
          (Ideal.div (∑ i, x i * x i) (Ideal.ofBits .f32 0x42800000#32) + Ideal.ofBits .f32 0x358637BD#32))) (Ideal.ofBits .f32 0x42800000#32) * x j := by
  choose u hu using hx
  choose w hw using hb
  obtain rfl := funext hu
  obtain rfl := funext hw
  obtain ⟨v, r, h1, hv, hr⟩ := hrms_coe u
  have h0 : v ≠ 0 := by rintro rfl; simp at h1
  rw [hr, hv, bits_64, bits_64th, bits_neg_half, Ideal.div_coe h0]
  simp only [Ideal.div_coe (show (64 : ℝ) ≠ 0 by norm_num)]
  simp only [← EReal.coe_mul, ← coe_sum, ← EReal.coe_sub, ← EReal.coe_add]
  congr 1
  have e1 : ∑ i, w i * (u i * r) * (1 / 64) = (∑ i, u i * w i) * r * (1 / 64) := by
    rw [Finset.sum_mul, Finset.sum_mul]
    exact Finset.sum_congr rfl fun i _ => by ring
  have e2 : 1 / v = r * r := by field_simp; linarith
  rw [e1, e2]
  ring

/-- Stores that are blocks of one value leave that value where they cover. -/
theorem canon_of_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rwa [List.append_nil] at e

end Cert.Fin

end
-- ==== Proof.F.HnbUnit.lean ====
/-
  The gradient of the norm of the heads, one unit of two heads at a time: the parts of a block of rows.
-/
module

public import proofs.«01_k».proof.Defs
public import proofs.«01_k».proof.Proof.F.Heads
public import proofs.«01_k».proof.Proof.Gen.HnbIdeal.Value
public import Idealize.ShloMosaic.Lib.Pipeline.ValueKit
public import Idealize.ShloMosaic.Lib.Pipeline.ReadBack
public import Idealize.ShloMosaic.Lib.IdealHost

@[expose] public section

set_option maxRecDepth 16384

noncomputable section

namespace Cert.HnbIdeal.Hand

open Cert.HnbIdeal Cert.HnbIdeal.Gen Cert.Fin
open Idealize.ShloMosaic Idealize.ShloMosaic.TcCoe Idealize.SL.Sem

abbrev hl (j : Fin 1024) (l : Fin 64) : Fin 1024 := ⟨j.val / 64 * 64 + l.val, by omega⟩
abbrev ln (j : Fin 1024) : Fin 64 := ⟨j.val % 64, by omega⟩

/-- The matrix of a head's mean. -/
abbrev mean : FVec Ideal S128x128 .f32 := k0_pay11 (F := Ideal) k0_pay7 (iota .tc S128x128 32 [1] iota_S128x128_d1_w32) 64#32 k0_pay8 k0_pay9 k0_pay10

theorem lane0 (i j : Fin 128) : k0_pay7 (ix2 (n0 := 128) (n1 := 128) i j) = BitVec.ofNat 32 (i.val / 64) :=
  (show k0_pay7 (ix2 (n0 := 128) (n1 := 128) i j) = k0_pay7 (ix2 (n0 := 128) (n1 := 128) i 0) from rfl).trans
    ((by decide +kernel : ∀ i : Fin 128, k0_pay7 (ix2 (n0 := 128) (n1 := 128) i 0) = BitVec.ofNat 32 (i.val / 64)) i)

/-- The head of a lane. -/
abbrev lanes : IVec S128x128 32 :=
  select (andi (cmpi .ne k0_pay9 k0_pay10) (cmpi .ne (remsi (iota .tc S128x128 32 [1] iota_S128x128_d1_w32) (broadcast S128x128 64#32)) (broadcast S128x128 0#32)))
    (subi k0_pay8 (broadcast S128x128 1#32)) k0_pay8

theorem lane1 (i j : Fin 128) : lanes (ix2 (n0 := 128) (n1 := 128) i j) = BitVec.ofNat 32 (j.val / 64) :=
  (show _ = lanes (ix2 (n0 := 128) (n1 := 128) 0 j) from rfl).trans
    ((by decide +kernel : ∀ j : Fin 128, lanes (ix2 (n0 := 128) (n1 := 128) 0 j) = BitVec.ofNat 32 (j.val / 64)) j)

theorem same : ∀ a b : Fin 2, IntOp.cmpi .eq (BitVec.ofNat 32 a.val) (BitVec.ofNat 32 b.val) = if a.val = b.val then 1#1 else 0#1 := by
  decide +kernel

theorem mean_apply (y : S128x128.Idx) : (mean y : EReal) = if (y 0).val / 64 = (y 1).val / 64 then Ideal.ofBits .f32 0x3C800000#32 else 0 := by
  obtain ⟨i, j, rfl⟩ : ∃ i j : Fin 128, y = ix2 (n0 := 128) (n1 := 128) i j := ⟨y 0, y 1, by funext a; fin_cases a <;> rfl⟩
  have h := same ⟨i.val / 64, by omega⟩ ⟨j.val / 64, by omega⟩
  dsimp only at h
  show Scalar.select (IntOp.cmpi .eq (k0_pay7 (ix2 (n0 := 128) (n1 := 128) i j)) (lanes (ix2 (n0 := 128) (n1 := 128) i j)))
    (Ideal.ofBits .f32 0x3C800000#32) (Ideal.ofBits .f32 0x00000000#32) = if i.val / 64 = j.val / 64 then _ else _
  rw [lane0, lane1, h, Ideal.ofBits_zero_f32]
  split <;> rfl

theorem inHead_inHead (j : Fin 128) (l i : Fin 64) : inHead (inHead j l) i = inHead j i := Fin.ext (by simp only [inHead]; omega)

/-- The root of a head's mean square, over one. -/
theorem root_apply (x : FVec Ideal S512x128 .f32) (y : S512x128.Idx) :
    (k0_pay16 (F := Ideal) mean x y : EReal) = hrms (fun l => x (ix2 (n0 := 512) (n1 := 128) (y 0) (inHead (y 1) l))) := by
  have e := head_mean_sq (fun k => x (ix2 (n0 := 512) (n1 := 128) (y 0) k)) (y 1)
  unfold k0_pay16 hrms
  rw [← e]
  have hM := mean_apply
  generalize mean = M at *
  pointwise
  simp only [hM]
  rfl

/-- What a unit adds to its gain's gradient. -/
theorem acc_apply (x a : FVec Ideal S512x128 .f32) (v : FVec Ideal S1x128 .f32) (j : Fin 128) :
    (k0_pay18 (F := Ideal) mean x a v (ix2 (n0 := 1) (n1 := 128) 0 j) : EReal) = v (ix2 (n0 := 1) (n1 := 128) 0 j)
      + ∑ i : Fin 512, a (ix2 (n0 := 512) (n1 := 128) i j) * (x (ix2 (n0 := 512) (n1 := 128) i j)
          * hrms (fun l => x (ix2 (n0 := 512) (n1 := 128) i (inHead j l)))) := by
  have h := root_apply x
  unfold k0_pay18 k0_pay17
  generalize k0_pay16 (F := Ideal) mean x = r at *
  pointwise
  simp only [h]
  rfl

/-- A unit's gradient. -/
theorem unit_apply (x a : FVec Ideal S512x128 .f32) (g : FVec Ideal S1x128 .f32) (i : Fin 512) (j : Fin 128) :
    (k0_pay19 (F := Ideal) mean x a g (ix2 (n0 := 512) (n1 := 128) i j) : EReal) = hrms (fun l => x (ix2 (n0 := 512) (n1 := 128) i (inHead j l)))
      * (a (ix2 (n0 := 512) (n1 := 128) i j) * g (ix2 (n0 := 1) (n1 := 128) 0 j) - x (ix2 (n0 := 512) (n1 := 128) i j) * hrms (fun l => x (ix2 (n0 := 512) (n1 := 128) i (inHead j l)))
        * ∑ l : Fin 64, a (ix2 (n0 := 512) (n1 := 128) i (inHead j l)) * g (ix2 (n0 := 1) (n1 := 128) 0 (inHead j l))
            * (x (ix2 (n0 := 512) (n1 := 128) i (inHead j l)) * hrms (fun l => x (ix2 (n0 := 512) (n1 := 128) i (inHead j l))))
            * Ideal.ofBits .f32 0x3C800000#32) := by
  have h := root_apply x
  have hM := mean_apply
  have e := head_sum (fun k => a (ix2 (n0 := 512) (n1 := 128) i k) * g (ix2 (n0 := 1) (n1 := 128) 0 k)
    * (x (ix2 (n0 := 512) (n1 := 128) i k) * hrms (fun l => x (ix2 (n0 := 512) (n1 := 128) i (inHead k l))))) (Ideal.ofBits .f32 0x3C800000#32) j
  simp only [inHead_inHead] at e
  rw [← e]
  unfold k0_pay19 k0_pay17
  generalize k0_pay16 (F := Ideal) mean x = r at *
  generalize mean = M at *
  pointwise
  simp only [h, hM]
  rfl

/-- A block's gradient. -/
def dxB (x a : FVec Ideal S512x1024 .f32) (g : FVec Ideal S1x1024 .f32) (i : Fin 512) (j : Fin 1024) : EReal :=
  hrms (fun l => x (ix2 (n0 := 512) (n1 := 1024) i (hl j l)))
    * (a (ix2 (n0 := 512) (n1 := 1024) i j) * g (ix2 (n0 := 1) (n1 := 1024) 0 j) - x (ix2 (n0 := 512) (n1 := 1024) i j) * hrms (fun l => x (ix2 (n0 := 512) (n1 := 1024) i (hl j l)))
      * ∑ l : Fin 64, a (ix2 (n0 := 512) (n1 := 1024) i (hl j l)) * g (ix2 (n0 := 1) (n1 := 1024) 0 (hl j l))
          * (x (ix2 (n0 := 512) (n1 := 1024) i (hl j l)) * hrms (fun l => x (ix2 (n0 := 512) (n1 := 1024) i (hl j l)))) * Ideal.ofBits .f32 0x3C800000#32)

/-- What a block adds to a gain's gradient in one of the columns. -/
def accB (x a : FVec Ideal S512x1024 .f32) (j : Fin 1024) : EReal :=
  ∑ i : Fin 512, a (ix2 (n0 := 512) (n1 := 1024) i j) * (x (ix2 (n0 := 512) (n1 := 1024) i j) * hrms (fun l => x (ix2 (n0 := 512) (n1 := 1024) i (hl j l))))

section

variable (o : ℕ) (h : ∀ a, (![0, o] : Fin 2 → ℕ) a + S512x128.size a ≤ S512x1024.size a) (h' : ∀ a, (![0, o] : Fin 2 → ℕ) a + S1x128.size a ≤ S1x1024.size a)

theorem at_unit (i : Fin 512) (j : Fin 128) (hj : o + j.val < 1024) :
    (Rect.unit (s := S512x1024) ![0, o] S512x128.size h).emb (ix2 (n0 := 512) (n1 := 128) i j) = ix2 (n0 := 512) (n1 := 1024) i ⟨o + j.val, hj⟩ := by
  funext a
  apply Fin.ext
  fin_cases a <;> simp [ValueKit.rect_emb_unit_val]

theorem at_gain (j : Fin 128) (hj : o + j.val < 1024) :
    (Rect.unit (s := S1x1024) ![0, o] S1x128.size h').emb (ix2 (n0 := 1) (n1 := 128) 0 j) = ix2 (n0 := 1) (n1 := 1024) 0 ⟨o + j.val, hj⟩ := by
  funext a
  apply Fin.ext
  fin_cases a <;> simp [ValueKit.rect_emb_unit_val]

theorem bound (h : ∀ a, (![0, o] : Fin 2 → ℕ) a + S512x128.size a ≤ S512x1024.size a) : o + 128 ≤ 1024 := h 1

theorem hl_unit (ho : o % 64 = 0) (j : Fin 128) (l : Fin 64) (hj : o + j.val < 1024) (hj' : o + (inHead j l).val < 1024) :
    (⟨o + (inHead j l).val, hj'⟩ : Fin 1024) = hl ⟨o + j.val, hj⟩ l := Fin.ext (by simp only [inHead, hl]; omega)

/-- A unit of a block. -/
theorem unit_block (x a : FVec Ideal S512x1024 .f32) (g : FVec Ideal S1x1024 .f32) (ho : o % 64 = 0) (i : Fin 512) (j : Fin 128) (hj : o + j.val < 1024) :
    (k0_pay19 (F := Ideal) mean (fun y => x ((Rect.unit (s := S512x1024) ![0, o] S512x128.size h).emb y))
      (fun y => a ((Rect.unit (s := S512x1024) ![0, o] S512x128.size h).emb y))
      (fun y => g ((Rect.unit (s := S1x1024) ![0, o] S1x128.size h').emb y)) (ix2 (n0 := 512) (n1 := 128) i j) : EReal) = dxB x a g i ⟨o + j.val, hj⟩ := by
  have hb := bound o h
  refine (unit_apply _ _ _ _ _).trans ?_
  have e : ∀ j : Fin 128, (Rect.unit (s := S512x1024) ![0, o] S512x128.size h).emb (ix2 (n0 := 512) (n1 := 128) i j) = ix2 (n0 := 512) (n1 := 1024) i ⟨o + j.val, by omega⟩ :=
    fun j => at_unit o h i j _
  have e' : ∀ j : Fin 128, (Rect.unit (s := S1x1024) ![0, o] S1x128.size h').emb (ix2 (n0 := 1) (n1 := 128) 0 j) = ix2 (n0 := 1) (n1 := 1024) 0 ⟨o + j.val, by omega⟩ :=
    fun j => at_gain o h' j _
  have e'' : ∀ l : Fin 64, (⟨o + (inHead j l).val, by omega⟩ : Fin 1024) = hl ⟨o + j.val, hj⟩ l := fun l => hl_unit o ho j l _ _
  show hrms (fun l => x ((Rect.unit (s := S512x1024) ![0, o] S512x128.size h).emb (ix2 (n0 := 512) (n1 := 128) i (inHead j l)))) * _ = _
  show _ * (a ((Rect.unit (s := S512x1024) ![0, o] S512x128.size h).emb (ix2 (n0 := 512) (n1 := 128) i j)) * g ((Rect.unit (s := S1x1024) ![0, o] S1x128.size h').emb (ix2 (n0 := 1) (n1 := 128) 0 j))
     - x ((Rect.unit (s := S512x1024) ![0, o] S512x128.size h).emb (ix2 (n0 := 512) (n1 := 128) i j)) * hrms (fun l => x ((Rect.unit (s := S512x1024) ![0, o] S512x128.size h).emb (ix2 (n0 := 512) (n1 := 128) i (inHead j l))))
      * ∑ l : Fin 64, a ((Rect.unit (s := S512x1024) ![0, o] S512x128.size h).emb (ix2 (n0 := 512) (n1 := 128) i (inHead j l))) * g ((Rect.unit (s := S1x1024) ![0, o] S1x128.size h').emb (ix2 (n0 := 1) (n1 := 128) 0 (inHead j l)))
        * (x ((Rect.unit (s := S512x1024) ![0, o] S512x128.size h).emb (ix2 (n0 := 512) (n1 := 128) i (inHead j l)))
          * hrms (fun l => x ((Rect.unit (s := S512x1024) ![0, o] S512x128.size h).emb (ix2 (n0 := 512) (n1 := 128) i (inHead j l))))) * Ideal.ofBits .f32 0x3C800000#32) = _
  simp only [e, e', e'']
  rfl

theorem acc_block (x a : FVec Ideal S512x1024 .f32) (v : FVec Ideal S1x128 .f32) (ho : o % 64 = 0) (j : Fin 128) (hj : o + j.val < 1024) :
    (k0_pay18 (F := Ideal) mean (fun y => x ((Rect.unit (s := S512x1024) ![0, o] S512x128.size h).emb y))
      (fun y => a ((Rect.unit (s := S512x1024) ![0, o] S512x128.size h).emb y)) v (ix2 (n0 := 1) (n1 := 128) 0 j) : EReal)
      = v (ix2 (n0 := 1) (n1 := 128) 0 j) + accB x a ⟨o + j.val, hj⟩ := by
  have hb := bound o h
  refine (acc_apply _ _ _ _).trans ?_
  have e : ∀ (i : Fin 512) (j : Fin 128), (Rect.unit (s := S512x1024) ![0, o] S512x128.size h).emb (ix2 (n0 := 512) (n1 := 128) i j) = ix2 (n0 := 512) (n1 := 1024) i ⟨o + j.val, by omega⟩ :=
    fun i j => at_unit o h i j _
  have e'' : ∀ l : Fin 64, (⟨o + (inHead j l).val, by omega⟩ : Fin 1024) = hl ⟨o + j.val, hj⟩ l := fun l => hl_unit o ho j l _ _
  refine congrArg (v _ + ·) (Finset.sum_congr rfl fun i _ => ?_)
  show a ((Rect.unit (s := S512x1024) ![0, o] S512x128.size h).emb (ix2 (n0 := 512) (n1 := 128) i j)) * (x ((Rect.unit (s := S512x1024) ![0, o] S512x128.size h).emb (ix2 (n0 := 512) (n1 := 128) i j))
    * hrms (fun l => x ((Rect.unit (s := S512x1024) ![0, o] S512x128.size h).emb (ix2 (n0 := 512) (n1 := 128) i (inHead j l))))) = _
  simp only [e, e'']

end

/-- Eight units of a block, added one by one. -/
def eight (x a : FVec Ideal S512x1024 .f32) (j : Fin 128) : EReal := ∑ u : Fin 8, accB x a ⟨128 * u.val + j.val, by omega⟩

/-- A lane within its head. -/
abbrev within (v : IVec S128x128 32) : IVec S128x128 32 :=
  select (andi (xori (cmpi .slt (remsi v (broadcast S128x128 (Scalar.select (Scalar.cmpi .eq 64#32 0#32) 1#32 64#32))) (broadcast S128x128 0#32))
      (broadcastTo S128x128 (broadcast S128x128 (Scalar.cmpi .slt (Scalar.select (Scalar.cmpi .eq 64#32 0#32) 1#32 64#32) 0#32)) broadcasts_S128x128_S128x128))
      (cmpi .ne (remsi v (broadcast S128x128 (Scalar.select (Scalar.cmpi .eq 64#32 0#32) 1#32 64#32))) (broadcast S128x128 0#32)))
    (addi (remsi v (broadcast S128x128 (Scalar.select (Scalar.cmpi .eq 64#32 0#32) 1#32 64#32))) (broadcast S128x128 (Scalar.select (Scalar.cmpi .eq 64#32 0#32) 1#32 64#32)))
    (remsi v (broadcast S128x128 (Scalar.select (Scalar.cmpi .eq 64#32 0#32) 1#32 64#32)))

abbrev within0 : IVec S128x128 32 := within (iota .tc S128x128 32 [0] iota_S128x128_d0_w32)
abbrev within1 : IVec S128x128 32 := within (iota .tc S128x128 32 [1] iota_S128x128_d1_w32)

theorem within0_apply (i j : Fin 128) : within0 (ix2 (n0 := 128) (n1 := 128) i j) = BitVec.ofNat 32 (i.val % 64) :=
  (show _ = within0 (ix2 (n0 := 128) (n1 := 128) i 0) from rfl).trans
    ((by decide +kernel : ∀ i : Fin 128, within0 (ix2 (n0 := 128) (n1 := 128) i 0) = BitVec.ofNat 32 (i.val % 64)) i)

theorem within1_apply (i j : Fin 128) : within1 (ix2 (n0 := 128) (n1 := 128) i j) = BitVec.ofNat 32 (j.val % 64) :=
  (show _ = within1 (ix2 (n0 := 128) (n1 := 128) 0 j) from rfl).trans
    ((by decide +kernel : ∀ j : Fin 128, within1 (ix2 (n0 := 128) (n1 := 128) 0 j) = BitVec.ofNat 32 (j.val % 64)) j)

theorem same_lane : ∀ a b : Fin 64, IntOp.cmpi .eq (BitVec.ofNat 32 a.val) (BitVec.ofNat 32 b.val) = if a.val = b.val then 1#1 else 0#1 := by
  decide +kernel

/-- The matrix that folds the two heads of a unit. -/
abbrev folding : FVec Ideal S128x128 .f32 :=
  select (cmpi .eq within0 within1) (broadcast S128x128 (Scalar.ofBits (F := Ideal) .f32 0x3F800000#32)) (broadcast S128x128 (Scalar.ofBits (F := Ideal) .f32 0x00000000#32))

theorem folding_apply (i j : Fin 128) : (folding (ix2 (n0 := 128) (n1 := 128) i j) : EReal) = if i.val % 64 = j.val % 64 then 1 else 0 := by
  have h := same_lane ⟨i.val % 64, by omega⟩ ⟨j.val % 64, by omega⟩
  dsimp only at h
  show Scalar.select (IntOp.cmpi .eq (within0 (ix2 (n0 := 128) (n1 := 128) i j)) (within1 (ix2 (n0 := 128) (n1 := 128) i j)))
    (Ideal.ofBits .f32 0x3F800000#32) (Ideal.ofBits .f32 0x00000000#32) = _
  rw [within0_apply, within1_apply, h, Ideal.ofBits_zero_f32, Ideal.ofBits_one_f32]
  split <;> rfl

theorem fold_sum (v : Fin 128 → EReal) (j : Fin 128) :
    ∑ k : Fin 128, v k * (if k.val % 64 = j.val % 64 then 1 else 0) = ∑ b : Fin 2, v ⟨b.val * 64 + j.val % 64, by omega⟩ := by
  refine (Fin.sum_mul_add_fin 2 64 fun k : Fin 128 => v k * (if k.val % 64 = j.val % 64 then (1 : EReal) else 0)).symm.trans ?_
  refine Finset.sum_congr rfl fun b _ => ?_
  rw [Finset.sum_eq_single (⟨j.val % 64, by omega⟩ : Fin 64)]
  · rw [if_pos (by simp only; omega), mul_one]
  · intro l _ hne
    rw [if_neg, mul_zero]
    intro e
    exact hne (Fin.ext (by simp only at e ⊢; omega))
  · intro h
    exact absurd (Finset.mem_univ _) h

theorem fold_apply (v : FVec Ideal S8x128 .f32) (i : Fin 8) (j : Fin 128) :
    (k0_pay4 (F := Ideal) v (ix2 (n0 := 8) (n1 := 128) i j) : EReal) = ∑ b : Fin 2, v (ix2 (n0 := 8) (n1 := 128) i ⟨b.val * 64 + j.val % 64, by omega⟩) := by
  refine Eq.trans ?_ (fold_sum (fun k => v (ix2 (n0 := 8) (n1 := 128) i k)) j)
  show matmul dot_S8x128_S128x128_S8x128_1_0_0_1_n_n (some .fp32) v folding (constant S8x128 .f32 0x00000000#32) (ix2 (n0 := 8) (n1 := 128) i j) = _
  have h := folding_apply
  generalize folding = M at *
  pointwise
  simp only [h]

theorem fold0_apply (v : FVec Ideal S8x128 .f32) (y : S8x128.Idx) :
    (k0_pay5 (F := Ideal) v y : EReal) = ∑ b : Fin 2, v (ix2 (n0 := 8) (n1 := 128) 0 ⟨b.val * 64 + (y 1).val % 64, by omega⟩) := by
  have h := fold_apply v 0 (y 1)
  refine Eq.trans ?_ h
  unfold k0_pay5
  generalize k0_pay4 (F := Ideal) v = w at *
  pointwise
  try rfl

theorem fold1_apply (v : FVec Ideal S8x128 .f32) (y : S8x128.Idx) :
    (k0_pay3 (F := Ideal) (k0_pay4 (F := Ideal) v) y : EReal) = ∑ b : Fin 2, v (ix2 (n0 := 8) (n1 := 128) 1 ⟨b.val * 64 + (y 1).val % 64, by omega⟩) := by
  have h := fold_apply v 1 (y 1)
  refine Eq.trans ?_ h
  unfold k0_pay3
  generalize k0_pay4 (F := Ideal) v = w at *
  pointwise
  try rfl

/-- The sums over points, units, halves and rows are the sum over rows and heads. -/
theorem regroup (f : Fin 8192 → Fin 1024 → EReal) (l : ℕ) (hl : l < 64) :
    ∑ b : Fin 2, ∑ s : Fin 16, ∑ u : Fin 8, ∑ i : Fin 512, f ⟨s.val * 512 + i.val, by omega⟩ ⟨128 * u.val + (b.val * 64 + l), by omega⟩
      = ∑ r : Fin 8192, ∑ h : Fin 16, f r ⟨h.val * 64 + l, by omega⟩ := by
  have e : ∀ r : Fin 8192, ∑ h : Fin 16, f r ⟨h.val * 64 + l, by omega⟩ = ∑ u : Fin 8, ∑ b : Fin 2, f r ⟨128 * u.val + (b.val * 64 + l), by omega⟩ := by
    intro r
    refine (Fin.sum_mul_add_congr (S := 8) (n := 2) fun u b h => ?_).symm
    exact congrArg (f r) (Fin.ext (by simp only; omega))
  simp only [e]
  refine Eq.trans ?_ (Fin.sum_mul_add_fin 16 512 fun r : Fin 8192 => ∑ u : Fin 8, ∑ b : Fin 2, f r ⟨128 * u.val + (b.val * 64 + l), by omega⟩)
  rw [Finset.sum_comm]
  refine Finset.sum_congr rfl fun s _ => ?_
  rw [Finset.sum_comm]
  calc _ = ∑ u : Fin 8, ∑ i : Fin 512, ∑ b : Fin 2, f ⟨s.val * 512 + i.val, by omega⟩ ⟨128 * u.val + (b.val * 64 + l), by omega⟩ :=
        Finset.sum_congr rfl fun u _ => Finset.sum_comm
    _ = _ := Finset.sum_comm

/-- A unit's columns of a block. -/
abbrev cols (x : FVec Ideal S512x1024 .f32) (o : ℕ) (h : ∀ a, (![0, o] : Fin 2 → ℕ) a + S512x128.size a ≤ S512x1024.size a) : FVec Ideal S512x128 .f32 :=
  fun y => x ((Rect.unit (s := S512x1024) ![0, o] S512x128.size h).emb y)

/-- The eight units one after another. -/
theorem chain (x a : FVec Ideal S512x1024 .f32) (v : FVec Ideal S1x128 .f32) (j : Fin 128) :
    (k0_pay18 (F := Ideal) mean (cols x 896 (by decide)) (cols a 896 (by decide)) (k0_pay18 (F := Ideal) mean (cols x 768 (by decide)) (cols a 768 (by decide))
      (k0_pay18 (F := Ideal) mean (cols x 640 (by decide)) (cols a 640 (by decide)) (k0_pay18 (F := Ideal) mean (cols x 512 (by decide)) (cols a 512 (by decide))
      (k0_pay18 (F := Ideal) mean (cols x 384 (by decide)) (cols a 384 (by decide)) (k0_pay18 (F := Ideal) mean (cols x 256 (by decide)) (cols a 256 (by decide))
      (k0_pay18 (F := Ideal) mean (cols x 128 (by decide)) (cols a 128 (by decide)) (k0_pay18 (F := Ideal) mean (cols x 0 (by decide)) (cols a 0 (by decide)) v)))))))
        (ix2 (n0 := 1) (n1 := 128) 0 j) : EReal) = v (ix2 (n0 := 1) (n1 := 128) 0 j) + eight x a j := by
  rw [acc_block 896 _ x a _ (by decide) j (by omega), acc_block 768 _ x a _ (by decide) j (by omega), acc_block 640 _ x a _ (by decide) j (by omega),
    acc_block 512 _ x a _ (by decide) j (by omega), acc_block 384 _ x a _ (by decide) j (by omega), acc_block 256 _ x a _ (by decide) j (by omega),
    acc_block 128 _ x a _ (by decide) j (by omega), acc_block 0 _ x a _ (by decide) j (by omega)]
  unfold eight
  rw [Fin.sum_univ_eight]
  simp only [add_assoc]
  rfl

/-- The three parts of a block of the first result. -/
def parts (x0 x1 a b z : FVec Ideal S512x1024 .f32) (g h : FVec Ideal S1x1024 .f32) (y : S512x3072.Idx) : EReal :=
  if h0 : (y 1).val < 1024 then dxB x0 a g (y 0) ⟨(y 1).val, h0⟩
  else if h1 : (y 1).val < 2048 then dxB x1 b h (y 0) ⟨(y 1).val - 1024, by omega⟩
  else z (ix2 (n0 := 512) (n1 := 1024) (y 0) ⟨(y 1).val - 2048, by have : (y 1).val < 3072 := (y 1).isLt; omega⟩)

section

variable (x0 x1 a b z : FVec Ideal S512x1024 .f32) (g h : FVec Ideal S1x1024 .f32) (o o' : ℕ)
  (hu : ∀ a, (![0, o] : Fin 2 → ℕ) a + S512x128.size a ≤ S512x1024.size a) (hg : ∀ a, (![0, o] : Fin 2 → ℕ) a + S1x128.size a ≤ S1x1024.size a)
  (hw : ∀ a, (![0, o'] : Fin 2 → ℕ) a + S512x128.size a ≤ S512x3072.size a) (ho : o % 64 = 0) (y : S512x128.Idx)

theorem emb_wide (i : Fin 512) (j : Fin 128) (hj : o' + j.val < 3072) :
    (Rect.unit (s := S512x3072) ![0, o'] S512x128.size hw).emb (ix2 (n0 := 512) (n1 := 128) i j) = ix2 (n0 := 512) (n1 := 3072) i ⟨o' + j.val, hj⟩ := by
  funext a
  apply Fin.ext
  fin_cases a <;> simp [ValueKit.rect_emb_unit_val]

include ho in
theorem piece_q (e : o' = o) :
    (k0_pay19 (F := Ideal) mean (cols x0 o hu) (cols a o hu) (fun y => g ((Rect.unit (s := S1x1024) ![0, o] S1x128.size hg).emb y)) y : EReal)
      = parts x0 x1 a b z g h ((Rect.unit (s := S512x3072) ![0, o'] S512x128.size hw).emb y) := by
  subst e
  obtain ⟨i, j, rfl⟩ : ∃ (i : Fin 512) (j : Fin 128), y = ix2 (n0 := 512) (n1 := 128) i j := ⟨y 0, y 1, by funext a; fin_cases a <;> rfl⟩
  have hb := bound o' hu
  rw [emb_wide o' hw i j (by omega)]
  refine (unit_block o' hu hg x0 a g ho i j (by omega)).trans ?_
  refine Eq.trans ?_ (dif_pos (show o' + j.val < 1024 by omega)).symm
  rfl

include ho in
theorem piece_k (e : o' = o + 1024) :
    (k0_pay19 (F := Ideal) mean (cols x1 o hu) (cols b o hu) (fun y => h ((Rect.unit (s := S1x1024) ![0, o] S1x128.size hg).emb y)) y : EReal)
      = parts x0 x1 a b z g h ((Rect.unit (s := S512x3072) ![0, o'] S512x128.size hw).emb y) := by
  subst e
  obtain ⟨i, j, rfl⟩ : ∃ (i : Fin 512) (j : Fin 128), y = ix2 (n0 := 512) (n1 := 128) i j := ⟨y 0, y 1, by funext a; fin_cases a <;> rfl⟩
  have hb := bound o hu
  rw [emb_wide (o + 1024) hw i j (by omega)]
  refine (unit_block o hu hg x1 b h ho i j (by omega)).trans ?_
  refine Eq.trans ?_ ((dif_neg (show ¬ o + 1024 + j.val < 1024 by omega)).trans (dif_pos (show o + 1024 + j.val < 2048 by omega))).symm
  exact congrArg (dxB x1 b h i) (Fin.ext (by show o + j.val = o + 1024 + j.val - 1024; omega))

theorem piece_v (hv : ∀ a, (![0, 2048] : Fin 2 → ℕ) a + S512x1024.size a ≤ S512x3072.size a) (w : S512x1024.Idx) :
    (k0_pay2 (F := Ideal) z w : EReal) = parts x0 x1 a b z g h ((Rect.unit (s := S512x3072) ![0, 2048] S512x1024.size hv).emb w) := by
  obtain ⟨i, j, rfl⟩ : ∃ (i : Fin 512) (j : Fin 1024), w = ix2 (n0 := 512) (n1 := 1024) i j := ⟨w 0, w 1, by funext a; fin_cases a <;> rfl⟩
  have e : (Rect.unit (s := S512x3072) ![0, 2048] S512x1024.size hv).emb (ix2 (n0 := 512) (n1 := 1024) i j) = ix2 (n0 := 512) (n1 := 3072) i ⟨2048 + j.val, by omega⟩ := by
    funext a
    apply Fin.ext
    fin_cases a <;> simp [ValueKit.rect_emb_unit_val]
  rw [e]
  refine Eq.trans ?_ ((dif_neg (show ¬ 2048 + j.val < 1024 by omega)).trans (dif_neg (show ¬ 2048 + j.val < 2048 by omega))).symm
  exact congrArg z (congrArg (ix2 (n0 := 512) (n1 := 1024) i) (Fin.ext (by show j.val = 2048 + j.val - 2048; omega)))

end

end Cert.HnbIdeal.Hand
end
-- ==== Proof.F.HnbRef.lean ====
/-
  The gradient of the norm of the heads of the queries and keys, as plain arrays have it.
-/
module

public import proofs.«01_k».proof.Defs
public import proofs.«01_k».proof.Proof.F.Heads
public import proofs.«01_k».proof.Proof.Gen.HnbRefIdeal.Run
public import Idealize.ShloMosaic.Lib.Pipeline.ValueKit
public import Idealize.ShloMosaic.Lib.IdealHost

@[expose] public section

set_option maxRecDepth 16384

noncomputable section

namespace Cert.Pre_qk_norm_finite

open Idealize.ShloMosaic Cert.Fin

instance facts : Cert.Pre_qk_norm_finite.Facts := ⟨by decide, by decide, by decide, by decide, by decide, by decide, by decide⟩

/-- Where the check is one, the arrays hold reals. -/
theorem reals {X : FVec Ideal S8192x3072 .f32} {A B Z : FVec Ideal S8192x1024 .f32} {G H : FVec Ideal S64 .f32} {j : S_.Idx}
    (h : fn (F := Ideal) X A B Z G H j = 1#1) :
    (∀ i, IsR (X i)) ∧ (∀ i, IsR (A i)) ∧ (∀ i, IsR (B i)) ∧ (∀ i, IsR (G i)) ∧ ∀ i, IsR (H i) := by
  dsimp only [fn, fn_part1] at h
  obtain ⟨h, hh⟩ := and_one h
  obtain ⟨h, hg⟩ := and_one h
  obtain ⟨h, hb⟩ := and_one h
  obtain ⟨hx, ha⟩ := and_one h
  exact ⟨isR_of_all hx, isR_of_all ha, isR_of_all hb, isR_of_all hg, isR_of_all hh⟩

end Cert.Pre_qk_norm_finite

namespace Cert.HnbRefIdeal.Hand

open Cert.HnbRefIdeal Cert.HnbRefIdeal.Gen Cert.Fin Idealize.ShloMosaic

section

variable {F : FTy → Type} [FloatOps F] (x a : FVec F S8192x1024 .f32) (g : FVec F S64 .f32)

/-- Rows by heads. -/
abbrev heads (x : FVec F S8192x1024 .f32) : FVec F S8192x16x64 .f32 := shapeCast _ x shapeCasts_S8192x1024_S8192x16x64

/-- The mean of the squares of each head, and a small number. -/
def var : FVec F S8192x16x1 .f32 :=
  addf (Host.divf (broadcastInDim S8192x16x1 ![0, 1] bcast_S8192x16_S8192x16x1_0_1 (Host.reduceAdd (mulf (heads x) (heads x))
    (constant S_ .f32 0x00000000#32) reducesTo_S8192x16x64_S8192x16_d2 h_S_)) (broadcastInDim S8192x16x1 ![] bcast_S_S8192x16x1 (constant S_ .f32 0x42800000#32)))
    (broadcastInDim S8192x16x1 ![] bcast_S_S8192x16x1 (constant S_ .f32 0x358637BD#32))

/-- The gradient, weighed. -/
def ag : FVec F S8192x16x64 .f32 :=
  mulf (heads a) (broadcastInDim S8192x16x64 ![0, 1, 2] bcast_S1x1x64_S8192x16x64_0_1_2 (broadcastInDim S1x1x64 ![2] bcast_S64_S1x1x64_2 g))

/-- What the root mean square contributes to each entry of a head. -/
def back : FVec F S8192x16x64 .f32 :=
  broadcastInDim S8192x16x64 ![0, 1] bcast_S8192x16_S8192x16x64_0_1 (Host.reduceAdd (Host.divf (mulf (shapeCast _ (Host.reduceAdd (mulf (heads x) (ag a g))
    (constant S_ .f32 0x00000000#32) reducesTo_S8192x16x64_S8192x16_d2 h_S_) shapeCasts_S8192x16_S8192x16x1) (mulf (broadcastInDim S8192x16x1 ![] bcast_S_S8192x16x1 (constant S_ .f32 0xBF000000#32))
      (Host.divf (Host.rsqrt (var x)) (var x)))) (broadcastInDim S8192x16x1 ![] bcast_S_S8192x16x1 (constant S_ .f32 0x42800000#32)))
        (constant S_ .f32 0x00000000#32) reducesTo_S8192x16x1_S8192x16_d2 h_S_)

/-- The gradient at the rows. -/
def dx : FVec F S8192x1024 .f32 :=
  shapeCast _ (addf (addf (mulf (ag a g) (broadcastInDim S8192x16x64 ![0, 1, 2] bcast_S8192x16x1_S8192x16x64_0_1_2 (Host.rsqrt (var x)))) (mulf (heads x) (back x a g)))
    (mulf (back x a g) (heads x))) shapeCasts_S8192x16x64_S8192x1024

/-- The gradient at the gain. -/
def dg : FVec F S64 .f32 :=
  Host.reduceAdd (shapeCast _ (Host.reduceAdd (mulf (mulf (heads x) (broadcastInDim S8192x16x64 ![0, 1, 2] bcast_S8192x16x1_S8192x16x64_0_1_2 (Host.rsqrt (var x)))) (heads a))
    (constant S_ .f32 0x00000000#32) reducesTo_S8192x16x64_S64_d0_1 h_S_) shapeCasts_S64_S1x1x64) (constant S_ .f32 0x00000000#32) reducesTo_S1x1x64_S64_d0_1 h_S_

end

section

variable {F : FTy → Type} [FloatOps F] (x : FVec F S8192x3072 .f32) (a b z : FVec F S8192x1024 .f32) (g h : FVec F S64 .f32)

abbrev xq : FVec F S8192x1024 .f32 := extractStridedSlice S8192x1024 ![0, 0] x slices_S8192x3072_S8192x1024_0_0
abbrev xk : FVec F S8192x1024 .f32 := extractStridedSlice S8192x1024 ![0, 1024] x slices_S8192x3072_S8192x1024_0_1024

/-- The three results. -/
def out0 : FVec F S8192x3072 .bf16 :=
  truncf .bf16 (concatenate S8192x3072 1 [⟨S8192x1024, dx (xq x) a g⟩, ⟨S8192x1024, dx (xk x) b h⟩, ⟨S8192x1024, z⟩]
    concatenates_S8192x1024_S8192x1024_S8192x1024_S8192x3072_d1) bitsLt_bf16_f32

/-- A gain's gradient, twice along each of eight rows. -/
def twice (v : FVec F S64 .f32) : FVec F S8x128 .f32 :=
  broadcastInDim S8x128 ![1] bcast_S128_S8x128_1 (shapeCast _ (broadcastInDim S2x64 ![0, 1] bcast_S1x64_S2x64_0_1 (shapeCast _ v shapeCasts_S64_S1x64)) shapeCasts_S2x64_S128)

def out1 : FVec F S8x128 .f32 := twice (dg (xq x) a)
def out2 : FVec F S8x128 .f32 := twice (dg (xk x) b)

end

/-- A sum over the first two of three axes. -/
theorem sum_first_two {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 (n0 := n2) j) = init + ∑ k : Fin n0, ∑ l : Fin n1, v (ix3 k l j) := by
  have hf : ∀ i : (⟨3, ![n0, n1, n2]⟩ : Shape).Idx, h.drop i = ix1 (n0 := n2) j ↔ ∃ k : Fin n0 × Fin n1, ix3 k.1 k.2 j = i := by
    intro i
    constructor
    · intro e
      refine ⟨(i 0, i 1), ?_⟩
      funext a
      apply Fin.ext
      fin_cases a
      · rfl
      · rfl
      · exact (congrArg Fin.val (congrFun e 0)).symm
    · rintro ⟨k, rfl⟩
      funext b
      apply Fin.ext
      fin_cases b
      rfl
  refine congrArg (init + ·) ((Finset.sum_filter_eq_sum_of_fiber _ (fun k : Fin n0 × Fin n1 => ix3 k.1 k.2 j)
    (fun _ _ e => Prod.ext (congrFun e 0) (congrFun e 1)) hf v).trans ?_)
  simp only [Fintype.sum_prod_type]

abbrev hl (j : Fin 1024) (l : Fin 64) : Fin 1024 := ⟨j.val / 64 * 64 + l.val, by omega⟩
abbrev ln (j : Fin 1024) : Fin 64 := ⟨j.val % 64, by omega⟩

/-- The gradient at an entry, as the launch writes it. -/
theorem dx_apply (x a : FVec Ideal S8192x1024 .f32) (g : FVec Ideal S64 .f32) (hx : ∀ i, IsR (x i)) (ha : ∀ i, IsR (a i)) (hg : ∀ i, IsR (g i))
    (r : Fin 8192) (j : Fin 1024) :
    (dx x a g (ix2 (n0 := 8192) (n1 := 1024) r j) : EReal) = hrms (fun l => x (ix2 (n0 := 8192) (n1 := 1024) r (hl j l)))
      * (a (ix2 (n0 := 8192) (n1 := 1024) r j) * g (ix1 (n0 := 64) (ln j)) - x (ix2 (n0 := 8192) (n1 := 1024) r j)
          * hrms (fun l => x (ix2 (n0 := 8192) (n1 := 1024) r (hl j l)))
        * ∑ l : Fin 64, a (ix2 (n0 := 8192) (n1 := 1024) r (hl j l)) * g (ix1 (n0 := 64) l)
            * (x (ix2 (n0 := 8192) (n1 := 1024) r (hl j l)) * hrms (fun l => x (ix2 (n0 := 8192) (n1 := 1024) r (hl j l)))) * Ideal.ofBits .f32 0x3C800000#32) := by
  have e := head_bwd (fun l => x (ix2 (n0 := 8192) (n1 := 1024) r (hl j l))) (fun l => a (ix2 (n0 := 8192) (n1 := 1024) r (hl j l)) * g (ix1 (n0 := 64) l))
    (fun l => hx _) (fun l => (ha _).mul (hg _)) (ln j)
  have ej : hl j (ln j) = j := Fin.ext (by simp only [hl, ln]; omega)
  simp only [ej] at e
  refine Eq.trans ?_ e.symm
  unfold dx back ag var
  pointwise
  simp only [Finset.univ_unique, Finset.sum_const, Finset.card_singleton, one_smul]
  rfl

theorem dg_apply (x a : FVec Ideal S8192x1024 .f32) (y : S8x128.Idx) :
    (twice (dg x a) y : EReal) = ∑ r : Fin 8192, ∑ h : Fin 16, x (ix2 (n0 := 8192) (n1 := 1024) r ⟨h.val * 64 + (y 1).val % 64, by omega⟩)
      * hrms (fun l => x (ix2 (n0 := 8192) (n1 := 1024) r ⟨h.val * 64 + l.val, by omega⟩)) * a (ix2 (n0 := 8192) (n1 := 1024) r ⟨h.val * 64 + (y 1).val % 64, by omega⟩) := by
  unfold twice dg var hrms
  pointwise
  rw [sum_first_two]
  pointwise
  rw [sum_first_two]
  pointwise
  simp only [Finset.univ_unique, Finset.sum_const, Finset.card_singleton, one_smul]

end Cert.HnbRefIdeal.Hand

end
-- ==== Proof.F.Hnb.lean ====
/-
  The gradient of the norm of the queries and the keys, as the launch computes it, against plain arrays.
-/
module

public import proofs.«01_k».proof.Defs
public import proofs.«01_k».proof.Proof.F.HnbUnit
public import proofs.«01_k».proof.Proof.F.HnbRef
public import proofs.«01_k».proof.Proof.Gen.HnbIdeal.Value
public import proofs.«01_k».proof.Proof.Gen.HnbRefIdeal.Run
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.HnbIdeal.Hand

open Cert.HnbIdeal Cert.HnbIdeal.Gen Cert.Fin
open Idealize.ShloMosaic Idealize.ShloMosaic.TcCoe Idealize.SL.Sem

variable (m : (ℓ : Loc nD τ sig) → Buf (Elt Ideal) ℓ) (c : Dev nD)

/-- The first two rows of what is being added up. -/
def held0 (n : ℕ) (h : n < cfg0.N) (j : Fin 128) : EReal := (outsAt0 m c n h).2.2.2 (ix2 (n0 := 8) (n1 := 128) 0 j)
def held1 (n : ℕ) (h : n < cfg0.N) (j : Fin 128) : EReal := (outsAt0 m c n h).2.2.2 (ix2 (n0 := 8) (n1 := 128) 1 j)

def term0 (t : Fin cfg0.N) (j : Fin 128) : EReal := eight (iblk m c 0 t) (iblk m c 2 t) j
def term1 (t : Fin cfg0.N) (j : Fin 128) : EReal := eight (iblk m c 1 t) (iblk m c 3 t) j

/-- What is left in a row that the last store, or the one before it, wrote. -/
theorem row_last {sig : RefSig} {κ : Kind} {sp : Space} (v : View sig κ sp S8x128 .f32) (f : v.ty.Contents (Elt Ideal)) (w : FVec Ideal S1x128 .f32)
    (L : List (View.Piece (Elt Ideal) S8x128 .f32)) (h : ∀ a, (![1, 0] : Fin 2 → ℕ) a + (![1, 128] : Fin 2 → ℕ) a ≤ S8x128.size a) (j : Fin 128) :
    (v.read (Elt Ideal) (v.writes (Elt Ideal) f (⟨Rect.unit (s := S8x128) ![1, 0] ![1, 128] h, w⟩ :: L)) (ix2 (n0 := 8) (n1 := 128) 1 j) : EReal)
      = w (ix2 (n0 := 1) (n1 := 128) 0 j) :=
  View.read_writes_cons_unit_of_mem v f h w L (ix2 (n0 := 8) (n1 := 128) 1 j) (ix2 (n0 := 1) (n1 := 128) 0 j) rfl (by
    intro a
    fin_cases a
    · rfl
    · exact (Nat.zero_add _).symm)

theorem row_before {sig : RefSig} {κ : Kind} {sp : Space} (v : View sig κ sp S8x128 .f32) (f : v.ty.Contents (Elt Ideal)) (w w' : FVec Ideal S1x128 .f32)
    (L : List (View.Piece (Elt Ideal) S8x128 .f32)) (h : ∀ a, (![1, 0] : Fin 2 → ℕ) a + (![1, 128] : Fin 2 → ℕ) a ≤ S8x128.size a)
    (h' : ∀ a, (![0, 0] : Fin 2 → ℕ) a + (![1, 128] : Fin 2 → ℕ) a ≤ S8x128.size a) (j : Fin 128) :
    (v.read (Elt Ideal) (v.writes (Elt Ideal) f (⟨Rect.unit (s := S8x128) ![1, 0] ![1, 128] h, w'⟩ :: ⟨Rect.unit (s := S8x128) ![0, 0] ![1, 128] h', w⟩ :: L))
        (ix2 (n0 := 8) (n1 := 128) 0 j) : EReal) = w (ix2 (n0 := 1) (n1 := 128) 0 j) :=
  (View.read_writes_cons_unit_of_not_mem v f h w' _ (ix2 (n0 := 8) (n1 := 128) 0 j) rfl 0 (Or.inl Nat.zero_lt_one)).trans
    (View.read_writes_cons_unit_of_mem v f h' w L (ix2 (n0 := 8) (n1 := 128) 0 j) (ix2 (n0 := 1) (n1 := 128) 0 j) rfl (by
      intro a
      fin_cases a
      · rfl
      · exact (Nat.zero_add _).symm))

theorem row_at (v : FVec Ideal S8x128 .f32) (n : Fin 8) (h : ∀ a, (![n.val, 0] : Fin 2 → ℕ) a + (![1, 128] : Fin 2 → ℕ) a ≤ S8x128.size a) (j : Fin 128) :
    (View.ld (Val := Elt Ideal) (S := S8x128) (e' := .f32) v (Rect.unit (s := S8x128) ![n.val, 0] ![1, 128] h) (ix2 (n0 := 1) (n1 := 128) 0 j) : EReal)
      = v (ix2 (n0 := 8) (n1 := 128) n j) := by
  refine congrArg v ?_
  funext a
  apply Fin.ext
  fin_cases a
  · rfl
  · show 0 + 1 * j.val = j.val
    omega

theorem next1 (t : Fin cfg0.N) (h : ¬t.val % 16 = 0) (j : Fin 128) :
    held1 m c t.val t.isLt j = held1 m c (t.val - 1) (Nat.lt_of_le_of_lt (Nat.sub_le _ _) t.isLt) j + term1 m c t j := by
  by_cases h1 : t.val % 16 = 15
  · rw [held1, outsAt0_C m c t h h1]
    frame_open
    simp (disch := decide) only [↓ View.readCov_skip, ↓ View.readCov_cons_toLoadRect, ↓ View.readCov_fill]
    refine (row_last _ _ _ _ _ j).trans ?_
    frame_out
    refine (chain (iblk m c 1 t) (iblk m c 3 t) _ j).trans ?_
    simp only [read_unread_whole]
    exact congrArg (· + term1 m c t j) (row_at _ 1 _ j)
  · rw [held1, outsAt0_B m c t h h1]
    frame_open
    simp (disch := decide) only [↓ View.readCov_skip, ↓ View.readCov_cons_toLoadRect, ↓ View.readCov_fill]
    refine (row_last _ _ _ _ _ j).trans ?_
    frame_out
    refine (chain (iblk m c 1 t) (iblk m c 3 t) _ j).trans ?_
    simp only [read_unread_whole]
    exact congrArg (· + term1 m c t j) (row_at _ 1 _ j)

theorem next0 (t : Fin cfg0.N) (h : ¬t.val % 16 = 0) (j : Fin 128) :
    held0 m c t.val t.isLt j = held0 m c (t.val - 1) (Nat.lt_of_le_of_lt (Nat.sub_le _ _) t.isLt) j + term0 m c t j := by
  by_cases h1 : t.val % 16 = 15
  · rw [held0, outsAt0_C m c t h h1]
    frame_open
    simp (disch := decide) only [↓ View.readCov_skip, ↓ View.readCov_cons_toLoadRect, ↓ View.readCov_fill]
    refine (row_before _ _ _ _ _ _ _ j).trans ?_
    frame_out
    refine (chain (iblk m c 0 t) (iblk m c 2 t) _ j).trans ?_
    simp only [read_unread_whole]
    exact congrArg (· + term0 m c t j) (row_at _ 0 _ j)
  · rw [held0, outsAt0_B m c t h h1]
    frame_open
    simp (disch := decide) only [↓ View.readCov_skip, ↓ View.readCov_cons_toLoadRect, ↓ View.readCov_fill]
    refine (row_before _ _ _ _ _ _ _ j).trans ?_
    frame_out
    refine (chain (iblk m c 0 t) (iblk m c 2 t) _ j).trans ?_
    simp only [read_unread_whole]
    exact congrArg (· + term0 m c t j) (row_at _ 0 _ j)

theorem first1 (t : Fin cfg0.N) (h : t.val % 16 = 0) (j : Fin 128) : held1 m c t.val t.isLt j = 0 + term1 m c t j := by
  rw [held1, outsAt0_A m c t h (by omega)]
  frame_open
  simp (disch := decide) only [↓ View.readCov_skip, ↓ View.readCov_cons_toLoadRect, ↓ View.readCov_fill]
  refine (row_last _ _ _ _ _ j).trans ?_
  frame_out
  refine (chain (iblk m c 1 t) (iblk m c 3 t) _ j).trans ?_
  exact congrArg (· + term1 m c t j) ((row_at _ 1 _ j).trans Ideal.ofBits_zero_f32)

theorem first0 (t : Fin cfg0.N) (h : t.val % 16 = 0) (j : Fin 128) : held0 m c t.val t.isLt j = 0 + term0 m c t j := by
  rw [held0, outsAt0_A m c t h (by omega)]
  frame_open
  simp (disch := decide) only [↓ View.readCov_skip, ↓ View.readCov_cons_toLoadRect, ↓ View.readCov_fill]
  refine (row_before _ _ _ _ _ _ _ j).trans ?_
  frame_out
  refine (chain (iblk m c 0 t) (iblk m c 2 t) _ j).trans ?_
  exact congrArg (· + term0 m c t j) ((row_at _ 0 _ j).trans Ideal.ofBits_zero_f32)

/-- A unit's gains. -/
abbrev gains (g : FVec Ideal S1x1024 .f32) (o : ℕ) (h : ∀ a, (![0, o] : Fin 2 → ℕ) a + S1x128.size a ≤ S1x1024.size a) : FVec Ideal S1x128 .f32 :=
  fun y => g ((Rect.unit (s := S1x1024) ![0, o] S1x128.size h).emb y)

/-- The stores of a block of the first result. -/
abbrev stores (x0 x1 a b z : FVec Ideal S512x1024 .f32) (g h : FVec Ideal S1x1024 .f32) : List (View.Piece (Elt Ideal) S512x3072 .bf16) :=
  [⟨Rect.unit (s := S512x3072) ![0, 2048] S512x1024.size (by decide), k0_pay2 (F := Ideal) z⟩,
    ⟨Rect.unit (s := S512x3072) ![0, 1920] S512x128.size (by decide), k0_pay19 (F := Ideal) mean (cols x1 896 (by decide)) (cols b 896 (by decide)) (gains h 896 (by decide))⟩,
    ⟨Rect.unit (s := S512x3072) ![0, 896] S512x128.size (by decide), k0_pay19 (F := Ideal) mean (cols x0 896 (by decide)) (cols a 896 (by decide)) (gains g 896 (by decide))⟩,
    ⟨Rect.unit (s := S512x3072) ![0, 1792] S512x128.size (by decide), k0_pay19 (F := Ideal) mean (cols x1 768 (by decide)) (cols b 768 (by decide)) (gains h 768 (by decide))⟩,
    ⟨Rect.unit (s := S512x3072) ![0, 768] S512x128.size (by decide), k0_pay19 (F := Ideal) mean (cols x0 768 (by decide)) (cols a 768 (by decide)) (gains g 768 (by decide))⟩,
    ⟨Rect.unit (s := S512x3072) ![0, 1664] S512x128.size (by decide), k0_pay19 (F := Ideal) mean (cols x1 640 (by decide)) (cols b 640 (by decide)) (gains h 640 (by decide))⟩,
    ⟨Rect.unit (s := S512x3072) ![0, 640] S512x128.size (by decide), k0_pay19 (F := Ideal) mean (cols x0 640 (by decide)) (cols a 640 (by decide)) (gains g 640 (by decide))⟩,
    ⟨Rect.unit (s := S512x3072) ![0, 1536] S512x128.size (by decide), k0_pay19 (F := Ideal) mean (cols x1 512 (by decide)) (cols b 512 (by decide)) (gains h 512 (by decide))⟩,
    ⟨Rect.unit (s := S512x3072) ![0, 512] S512x128.size (by decide), k0_pay19 (F := Ideal) mean (cols x0 512 (by decide)) (cols a 512 (by decide)) (gains g 512 (by decide))⟩,
    ⟨Rect.unit (s := S512x3072) ![0, 1408] S512x128.size (by decide), k0_pay19 (F := Ideal) mean (cols x1 384 (by decide)) (cols b 384 (by decide)) (gains h 384 (by decide))⟩,
    ⟨Rect.unit (s := S512x3072) ![0, 384] S512x128.size (by decide), k0_pay19 (F := Ideal) mean (cols x0 384 (by decide)) (cols a 384 (by decide)) (gains g 384 (by decide))⟩,
    ⟨Rect.unit (s := S512x3072) ![0, 1280] S512x128.size (by decide), k0_pay19 (F := Ideal) mean (cols x1 256 (by decide)) (cols b 256 (by decide)) (gains h 256 (by decide))⟩,
    ⟨Rect.unit (s := S512x3072) ![0, 256] S512x128.size (by decide), k0_pay19 (F := Ideal) mean (cols x0 256 (by decide)) (cols a 256 (by decide)) (gains g 256 (by decide))⟩,
    ⟨Rect.unit (s := S512x3072) ![0, 1152] S512x128.size (by decide), k0_pay19 (F := Ideal) mean (cols x1 128 (by decide)) (cols b 128 (by decide)) (gains h 128 (by decide))⟩,
    ⟨Rect.unit (s := S512x3072) ![0, 128] S512x128.size (by decide), k0_pay19 (F := Ideal) mean (cols x0 128 (by decide)) (cols a 128 (by decide)) (gains g 128 (by decide))⟩,
    ⟨Rect.unit (s := S512x3072) ![0, 1024] S512x128.size (by decide), k0_pay19 (F := Ideal) mean (cols x1 0 (by decide)) (cols b 0 (by decide)) (gains h 0 (by decide))⟩,
    ⟨Rect.unit (s := S512x3072) ![0, 0] S512x128.size (by decide), k0_pay19 (F := Ideal) mean (cols x0 0 (by decide)) (cols a 0 (by decide)) (gains g 0 (by decide))⟩]

theorem stores_canon (x0 x1 a b z : FVec Ideal S512x1024 .f32) (g h : FVec Ideal S1x1024 .f32) (y : S512x3072.Idx) :
    (View.canon (stores x0 x1 a b z g h) y : EReal) = parts x0 x1 a b z g h y := by
  refine canon_of_pieces (s := S512x3072) (e := .bf16) (fun y => (parts x0 x1 a b z g h y : EReal)) _ ?_ y (View.cover_of_tiledBy (s := S512x3072) _ ![512, 128] (by sl_kernel_rfl) y)
  exact ⟨fun x => piece_v x0 x1 a b z g h (by decide) x,
    fun x => piece_k x0 x1 a b z g h 896 1920 (by decide) (by decide) (by decide) (by decide) x rfl,
    fun x => piece_q x0 x1 a b z g h 896 896 (by decide) (by decide) (by decide) (by decide) x rfl,
    fun x => piece_k x0 x1 a b z g h 768 1792 (by decide) (by decide) (by decide) (by decide) x rfl,
    fun x => piece_q x0 x1 a b z g h 768 768 (by decide) (by decide) (by decide) (by decide) x rfl,
    fun x => piece_k x0 x1 a b z g h 640 1664 (by decide) (by decide) (by decide) (by decide) x rfl,
    fun x => piece_q x0 x1 a b z g h 640 640 (by decide) (by decide) (by decide) (by decide) x rfl,
    fun x => piece_k x0 x1 a b z g h 512 1536 (by decide) (by decide) (by decide) (by decide) x rfl,
    fun x => piece_q x0 x1 a b z g h 512 512 (by decide) (by decide) (by decide) (by decide) x rfl,
    fun x => piece_k x0 x1 a b z g h 384 1408 (by decide) (by decide) (by decide) (by decide) x rfl,
    fun x => piece_q x0 x1 a b z g h 384 384 (by decide) (by decide) (by decide) (by decide) x rfl,
    fun x => piece_k x0 x1 a b z g h 256 1280 (by decide) (by decide) (by decide) (by decide) x rfl,
    fun x => piece_q x0 x1 a b z g h 256 256 (by decide) (by decide) (by decide) (by decide) x rfl,
    fun x => piece_k x0 x1 a b z g h 128 1152 (by decide) (by decide) (by decide) (by decide) x rfl,
    fun x => piece_q x0 x1 a b z g h 128 128 (by decide) (by decide) (by decide) (by decide) x rfl,
    fun x => piece_k x0 x1 a b z g h 0 1024 (by decide) (by decide) (by decide) (by decide) x rfl,
    fun x => piece_q x0 x1 a b z g h 0 0 (by decide) (by decide) (by decide) (by decide) x rfl,
    trivial⟩

/-- The first result's block. -/
theorem out7 (t : Fin cfg0.N) (y : S512x3072.Idx) :
    ((outsAt0 m c t.val t.isLt).1 y : EReal) = parts (iblk m c 0 t) (iblk m c 1 t) (iblk m c 2 t) (iblk m c 3 t) (iblk m c 4 t) (iblk m c 5 t) (iblk m c 6 t) y := by
  by_cases h0 : t.val % 16 = 0
  · rw [outsAt0_A m c t h0 (by omega)]
    frame_out
    exact stores_canon (iblk m c 0 t) (iblk m c 1 t) (iblk m c 2 t) (iblk m c 3 t) (iblk m c 4 t) (iblk m c 5 t) (iblk m c 6 t) y
  · by_cases h1 : t.val % 16 = 15
    · rw [outsAt0_C m c t h0 h1]
      frame_out
      exact stores_canon (iblk m c 0 t) (iblk m c 1 t) (iblk m c 2 t) (iblk m c 3 t) (iblk m c 4 t) (iblk m c 5 t) (iblk m c 6 t) y
    · rw [outsAt0_B m c t h0 h1]
      frame_out
      exact stores_canon (iblk m c 0 t) (iblk m c 1 t) (iblk m c 2 t) (iblk m c 3 t) (iblk m c 4 t) (iblk m c 5 t) (iblk m c 6 t) y

/-- The two small results, from what was added up. -/
theorem out8 (t : Fin cfg0.N) (h : t.val % 16 = 15) : (outsAt0 m c t.val t.isLt).2.1 = k0_pay5 (F := Ideal) (outsAt0 m c t.val t.isLt).2.2.2 := by
  rw [outsAt0_C m c t (by omega) h]
  funext y
  frame_out

theorem out9 (t : Fin cfg0.N) (h : t.val % 16 = 15) :
    (outsAt0 m c t.val t.isLt).2.2.1 = k0_pay3 (F := Ideal) (k0_pay4 (F := Ideal) (outsAt0 m c t.val t.isLt).2.2.2) := by
  rw [outsAt0_C m c t (by omega) h]
  funext y
  frame_out

theorem idx (t : Fin cfg0.N) :
    win0_0.index t 0 = t.val ∧ win0_0.index t 1 = 0 ∧ win0_1.index t 0 = t.val ∧ win0_1.index t 1 = 1 ∧ win0_2.index t 0 = t.val ∧ win0_2.index t 1 = 0
      ∧ win0_3.index t 0 = t.val ∧ win0_3.index t 1 = 0 ∧ win0_4.index t 0 = t.val ∧ win0_4.index t 1 = 0 ∧ win0_5.index t 0 = 0 ∧ win0_5.index t 1 = 0
      ∧ win0_6.index t 0 = 0 ∧ win0_6.index t 1 = 0 ∧ win0_7.index t 0 = t.val ∧ win0_7.index t 1 = 0 ∧ win0_8.index t 0 = 0 ∧ win0_8.index t 1 = 0
      ∧ win0_9.index t 0 = 0 ∧ win0_9.index t 1 = 0 :=
  (by decide +kernel : ∀ t : Fin grid0.N, win0_0.index t 0 = t.val ∧ win0_0.index t 1 = 0 ∧ win0_1.index t 0 = t.val ∧ win0_1.index t 1 = 1 ∧ win0_2.index t 0 = t.val ∧ win0_2.index t 1 = 0
      ∧ win0_3.index t 0 = t.val ∧ win0_3.index t 1 = 0 ∧ win0_4.index t 0 = t.val ∧ win0_4.index t 1 = 0 ∧ win0_5.index t 0 = 0 ∧ win0_5.index t 1 = 0
      ∧ win0_6.index t 0 = 0 ∧ win0_6.index t 1 = 0 ∧ win0_7.index t 0 = t.val ∧ win0_7.index t 1 = 0 ∧ win0_8.index t 0 = 0 ∧ win0_8.index t 1 = 0
      ∧ win0_9.index t 0 = 0 ∧ win0_9.index t 1 = 0) t

/-- The arguments. -/
abbrev X : FVec Ideal S8192x3072 .f32 := m ((c.tc : Thread nD τ).loc main_arg0)
abbrev A : FVec Ideal S8192x1024 .f32 := m ((c.tc : Thread nD τ).loc main_arg1)
abbrev B : FVec Ideal S8192x1024 .f32 := m ((c.tc : Thread nD τ).loc main_arg2)
abbrev Z : FVec Ideal S8192x1024 .f32 := m ((c.tc : Thread nD τ).loc main_arg3)
abbrev QG : FVec Ideal S64 .f32 := m ((c.tc : Thread nD τ).loc main_arg4)
abbrev KG : FVec Ideal S64 .f32 := m ((c.tc : Thread nD τ).loc main_arg5)

/-- A gain, once for every head. -/
abbrev tiled (g : FVec Ideal S64 .f32) : FVec Ideal S1x1024 .f32 :=
  broadcastInDim S1x1024 ![1] bcast_S1024_S1x1024_1 (shapeCast _ (broadcastInDim S16x64 ![0, 1] bcast_S1x64_S16x64_0_1 (shapeCast _ g shapeCasts_S64_S1x64)) shapeCasts_S16x64_S1024)

theorem V_q : V m c main_v3 = tiled (QG m c) := by
  rfl
theorem V_k : V m c main_v7 = tiled (KG m c) := by
  rfl

theorem tiled_apply (g : FVec Ideal S64 .f32) (y : S1x1024.Idx) : (tiled g y : EReal) = g (ix1 (n0 := 64) (ln (y 1))) := by
  unfold tiled
  pointwise

abbrev row (t : Fin cfg0.N) (i : Fin 512) : Fin 8192 := ⟨t.val * 512 + i.val, by have : t.val < 16 := t.isLt; omega⟩

/-- The blocks that are read, as parts of the arrays. -/
theorem blk0 (t : Fin cfg0.N) (i : Fin 512) (j : Fin 1024) :
    (iblk m c 0 t (ix2 (n0 := 512) (n1 := 1024) i j) : EReal) = X m c (ix2 (n0 := 8192) (n1 := 3072) (row t i) ⟨j.val, by omega⟩) := by
  obtain ⟨a0, a0', -⟩ := idx t
  blk_point [iblk, X, a0, a0']

theorem blk1 (t : Fin cfg0.N) (i : Fin 512) (j : Fin 1024) :
    (iblk m c 1 t (ix2 (n0 := 512) (n1 := 1024) i j) : EReal) = X m c (ix2 (n0 := 8192) (n1 := 3072) (row t i) ⟨1024 + j.val, by omega⟩) := by
  obtain ⟨-, -, a1, a1', -⟩ := idx t
  blk_point [iblk, X, a1, a1']

theorem blk2 (t : Fin cfg0.N) (i : Fin 512) (j : Fin 1024) :
    (iblk m c 2 t (ix2 (n0 := 512) (n1 := 1024) i j) : EReal) = A m c (ix2 (n0 := 8192) (n1 := 1024) (row t i) j) := by
  obtain ⟨-, -, -, -, a2, a2', -⟩ := idx t
  blk_point [iblk, A, a2, a2']

theorem blk3 (t : Fin cfg0.N) (i : Fin 512) (j : Fin 1024) :
    (iblk m c 3 t (ix2 (n0 := 512) (n1 := 1024) i j) : EReal) = B m c (ix2 (n0 := 8192) (n1 := 1024) (row t i) j) := by
  obtain ⟨-, -, -, -, -, -, a3, a3', -⟩ := idx t
  blk_point [iblk, B, a3, a3']

theorem blk4 (t : Fin cfg0.N) (i : Fin 512) (j : Fin 1024) :
    (iblk m c 4 t (ix2 (n0 := 512) (n1 := 1024) i j) : EReal) = Z m c (ix2 (n0 := 8192) (n1 := 1024) (row t i) j) := by
  obtain ⟨-, -, -, -, -, -, -, -, a4, a4', -⟩ := idx t
  blk_point [iblk, Z, a4, a4']

theorem blk5 (t : Fin cfg0.N) (j : Fin 1024) :
    (iblk m c 5 t (ix2 (n0 := 1) (n1 := 1024) 0 j) : EReal) = QG m c (ix1 (n0 := 64) (ln j)) := by
  obtain ⟨-, -, -, -, -, -, -, -, -, -, a5, a5', -⟩ := idx t
  blk_point [iblk, V_q, tiled_apply, QG, a5, a5']

theorem blk6 (t : Fin cfg0.N) (j : Fin 1024) :
    (iblk m c 6 t (ix2 (n0 := 1) (n1 := 1024) 0 j) : EReal) = KG m c (ix1 (n0 := 64) (ln j)) := by
  obtain ⟨-, -, -, -, -, -, -, -, -, -, -, -, a6, a6', -⟩ := idx t
  blk_point [iblk, V_k, tiled_apply, KG, a6, a6']

/-- A block's gradient is the reference's. -/
theorem dx_eq (x0 a0 : FVec Ideal S512x1024 .f32) (g0 : FVec Ideal S1x1024 .f32) (x a : FVec Ideal S8192x1024 .f32) (g : FVec Ideal S64 .f32)
    (hx : ∀ i, IsR (x i)) (ha : ∀ i, IsR (a i)) (hg : ∀ i, IsR (g i)) (r : Fin 8192) (i : Fin 512)
    (ex : ∀ j, x0 (ix2 (n0 := 512) (n1 := 1024) i j) = x (ix2 (n0 := 8192) (n1 := 1024) r j))
    (ea : ∀ j, a0 (ix2 (n0 := 512) (n1 := 1024) i j) = a (ix2 (n0 := 8192) (n1 := 1024) r j))
    (eg : ∀ j, g0 (ix2 (n0 := 1) (n1 := 1024) 0 j) = g (ix1 (n0 := 64) (ln j))) (j : Fin 1024) :
    dxB x0 a0 g0 i j = Cert.HnbRefIdeal.Hand.dx (F := Ideal) x a g (ix2 (n0 := 8192) (n1 := 1024) r j) := by
  refine Eq.trans ?_ (Cert.HnbRefIdeal.Hand.dx_apply x a g hx ha hg r j).symm
  have el : ∀ l : Fin 64, ln (hl j l) = l := fun l => Fin.ext (by show (j.val / 64 * 64 + l.val) % 64 = l.val; omega)
  unfold dxB
  simp only [ex, ea, eg, el]

theorem xq_at (x : FVec Ideal S8192x3072 .f32) (r : Fin 8192) (j : Fin 1024) :
    (Cert.HnbRefIdeal.Hand.xq (F := Ideal) x (ix2 (n0 := 8192) (n1 := 1024) r j) : EReal) = x (ix2 (n0 := 8192) (n1 := 3072) r ⟨j.val, by omega⟩) := by
  pointwise

theorem xk_at (x : FVec Ideal S8192x3072 .f32) (r : Fin 8192) (j : Fin 1024) :
    (Cert.HnbRefIdeal.Hand.xk (F := Ideal) x (ix2 (n0 := 8192) (n1 := 1024) r j) : EReal) = x (ix2 (n0 := 8192) (n1 := 3072) r ⟨1024 + j.val, by omega⟩) := by
  pointwise

/-- The reference's first result: the gradients of q, of k and of v, side by side. -/
theorem out0_at (x : FVec Ideal S8192x3072 .f32) (a b z : FVec Ideal S8192x1024 .f32) (g h : FVec Ideal S64 .f32) (r : Fin 8192) (j : Fin 3072) :
    (Cert.HnbRefIdeal.Hand.out0 (F := Ideal) x a b z g h (ix2 (n0 := 8192) (n1 := 3072) r j) : EReal)
      = if h0 : j.val < 1024 then Cert.HnbRefIdeal.Hand.dx (F := Ideal) (Cert.HnbRefIdeal.Hand.xq x) a g (ix2 (n0 := 8192) (n1 := 1024) r ⟨j.val, h0⟩)
        else if h1 : j.val < 2048 then Cert.HnbRefIdeal.Hand.dx (F := Ideal) (Cert.HnbRefIdeal.Hand.xk x) b h (ix2 (n0 := 8192) (n1 := 1024) r ⟨j.val - 1024, by omega⟩)
        else z (ix2 (n0 := 8192) (n1 := 1024) r ⟨j.val - 2048, by omega⟩) := by
  unfold Cert.HnbRefIdeal.Hand.out0
  generalize Cert.HnbRefIdeal.Hand.dx (F := Ideal) (Cert.HnbRefIdeal.Hand.xq x) a g = p
  generalize Cert.HnbRefIdeal.Hand.dx (F := Ideal) (Cert.HnbRefIdeal.Hand.xk x) b h = q
  pointwise
  have e0 : (j.val - 1024 < 1024) = (j.val < 2048) := propext (by omega)
  simp only [e0, Nat.sub_sub]

/-- The gradient at the rows of q, k and v. -/
theorem arr0 (hx : ∀ i, IsR (X m c i)) (ha : ∀ i, IsR (A m c i)) (hb : ∀ i, IsR (B m c i)) (hg : ∀ i, IsR (QG m c i)) (hh : ∀ i, IsR (KG m c i)) :
    (dats m 0 c).arrAt 7 cfg0.N = Cert.HnbRefIdeal.Hand.out0 (F := Ideal) (X m c) (A m c) (B m c) (Z m c) (QG m c) (KG m c) := by
  refine (dats m 0 c).arrAt_eq_of_covers 7 _ (by decide +kernel) fun t hf y => ?_
  obtain ⟨i, j, rfl⟩ : ∃ (i : Fin 512) (j : Fin 3072), y = ix2 (n0 := 512) (n1 := 3072) i j := ⟨y 0, y 1, by funext a; fin_cases a <;> rfl⟩
  obtain ⟨-, -, -, -, -, -, -, -, -, -, -, -, -, -, a7, a7', -⟩ := idx t
  blk_simp
  rw [after0_7]
  refine (out7 m c t _).trans ?_
  have ey : ((View.whole main_v8_0).slice (win0_7.rect t)).emb (ix2 (n0 := 512) (n1 := 3072) i j) = ix2 (n0 := 8192) (n1 := 3072) (row t i) j := by
    funext a
    apply Fin.ext
    fin_cases a <;> blk_simp [a7, a7'] <;> rfl
  rw [ey]
  refine Eq.trans ?_ (out0_at (X m c) (A m c) (B m c) (Z m c) (QG m c) (KG m c) (row t i) j).symm
  by_cases h0 : j.val < 1024
  · refine (dif_pos (show (ix2 (n0 := 512) (n1 := 3072) i j 1).val < 1024 from h0)).trans (Eq.trans ?_ (dif_pos h0).symm)
    exact dx_eq _ _ _ (Cert.HnbRefIdeal.Hand.xq (X m c)) (A m c) (QG m c) (fun _ => hx _) ha hg (row t i) i
      (fun j => (blk0 m c t i j).trans (xq_at _ _ _).symm) (blk2 m c t i) (blk5 m c t) _
  refine (dif_neg (show ¬(ix2 (n0 := 512) (n1 := 3072) i j 1).val < 1024 from h0)).trans (Eq.trans ?_ (dif_neg h0).symm)
  by_cases h1 : j.val < 2048
  · refine (dif_pos (show (ix2 (n0 := 512) (n1 := 3072) i j 1).val < 2048 from h1)).trans (Eq.trans ?_ (dif_pos h1).symm)
    exact dx_eq _ _ _ (Cert.HnbRefIdeal.Hand.xk (X m c)) (B m c) (KG m c) (fun _ => hx _) hb hh (row t i) i
      (fun j => (blk1 m c t i j).trans (xk_at _ _ _).symm) (blk3 m c t i) (blk6 m c t) _
  refine (dif_neg (show ¬(ix2 (n0 := 512) (n1 := 3072) i j 1).val < 2048 from h1)).trans (Eq.trans ?_ (dif_neg h1).symm)
  exact blk4 m c t i _

/-- A gain's gradient over the blocks is the reference's. -/
theorem dg_eq (x a : FVec Ideal S8192x1024 .f32) (xb ab : Fin 16 → FVec Ideal S512x1024 .f32)
    (ex : ∀ s i j, xb s (ix2 (n0 := 512) (n1 := 1024) i j) = x (ix2 (n0 := 8192) (n1 := 1024) ⟨s.val * 512 + i.val, by omega⟩ j))
    (ea : ∀ s i j, ab s (ix2 (n0 := 512) (n1 := 1024) i j) = a (ix2 (n0 := 8192) (n1 := 1024) ⟨s.val * 512 + i.val, by omega⟩ j)) (y : S8x128.Idx) :
    ∑ b : Fin 2, ∑ s : Fin 16, eight (xb s) (ab s) ⟨b.val * 64 + (y 1).val % 64, by omega⟩
      = Cert.HnbRefIdeal.Hand.twice (F := Ideal) (Cert.HnbRefIdeal.Hand.dg x a) y := by
  refine Eq.trans ?_ (Cert.HnbRefIdeal.Hand.dg_apply x a y).symm
  refine Eq.trans ?_ ((regroup (fun r j => a (ix2 (n0 := 8192) (n1 := 1024) r j)
    * (x (ix2 (n0 := 8192) (n1 := 1024) r j) * hrms (fun l => x (ix2 (n0 := 8192) (n1 := 1024) r (hl j l))))) ((y 1).val % 64) (by omega)).trans ?_)
  · simp only [eight, accB, ex, ea]
  · refine Finset.sum_congr rfl fun r _ => Finset.sum_congr rfl fun h _ => ?_
    refine (EReal.mul_comm _ _).trans ?_
    have e : ∀ l : Fin 64, hl ⟨h.val * 64 + (y 1).val % 64, by omega⟩ l = ⟨h.val * 64 + l.val, by omega⟩ :=
      fun l => Fin.ext (by show (h.val * 64 + (y 1).val % 64) / 64 * 64 + l.val = h.val * 64 + l.val; omega)
    simp only [e]

theorem run_row (t : Fin cfg0.N) (h3 : t.val % 16 = 15) (s : Fin 16) (k : Fin 512) :
    row ⟨16 * (t.val / 16) + s.val, Pipeline.run_point_lt_of_flush t h3 s⟩ k = ⟨s.val * 512 + k.val, by omega⟩ := by
  have := t.isLt
  have : cfg0.N = 16 := rfl
  apply Fin.ext
  show (16 * (t.val / 16) + s.val) * 512 + k.val = s.val * 512 + k.val
  omega

/-- The gradient of q's gain. -/
theorem arr1 : (dats m 0 c).arrAt 8 cfg0.N = Cert.HnbRefIdeal.Hand.out1 (F := Ideal) (X m c) (A m c) := by
  refine (dats m 0 c).arrAt_eq_of_covers 8 _ (by decide +kernel) fun t hf y => ?_
  have h3 := (flush0_8 t).mp hf
  have e := fun j => Pipeline.eq_sum_fin_of_reset_step_apply_of_flush (held0 m c) 16 (fun _ => 0) (term0 m c) (first0 m c) (next0 m c) t h3 j
  obtain ⟨-, -, -, -, -, -, -, -, -, -, -, -, -, -, -, -, a8, a8', -⟩ := idx t
  have ey : ((View.whole main_v8_1).slice (win0_8.rect t)).emb y = y := by
    funext a
    apply Fin.ext
    fin_cases a <;> blk_simp [a8, a8']
  blk_simp
  rw [after0_8, out8 m c t h3, ey]
  refine (fold0_apply _ y).trans ?_
  refine Eq.trans ?_ (dg_eq (Cert.HnbRefIdeal.Hand.xq (X m c)) (A m c) (fun s => iblk m c 0 ⟨16 * (t.val / 16) + s.val, Pipeline.run_point_lt_of_flush t h3 s⟩)
    (fun s => iblk m c 2 ⟨16 * (t.val / 16) + s.val, Pipeline.run_point_lt_of_flush t h3 s⟩) (fun s i j => ?_) (fun s i j => ?_) y)
  · refine Finset.sum_congr rfl fun b _ => ?_
    refine (e _).trans ?_
    rw [zero_add]
    rfl
  · refine (blk0 m c _ i j).trans ?_
    rw [run_row t h3 s i]
    exact (xq_at _ _ _).symm
  · refine (blk2 m c _ i j).trans ?_
    rw [run_row t h3 s i]

/-- The gradient of k's gain. -/
theorem arr2 : (dats m 0 c).arrAt 9 cfg0.N = Cert.HnbRefIdeal.Hand.out2 (F := Ideal) (X m c) (B m c) := by
  refine (dats m 0 c).arrAt_eq_of_covers 9 _ (by decide +kernel) fun t hf y => ?_
  have h3 := (flush0_9 t).mp hf
  have e := fun j => Pipeline.eq_sum_fin_of_reset_step_apply_of_flush (held1 m c) 16 (fun _ => 0) (term1 m c) (first1 m c) (next1 m c) t h3 j
  obtain ⟨-, -, -, -, -, -, -, -, -, -, -, -, -, -, -, -, -, -, a9, a9'⟩ := idx t
  have ey : ((View.whole main_v8_2).slice (win0_9.rect t)).emb y = y := by
    funext a
    apply Fin.ext
    fin_cases a <;> blk_simp [a9, a9']
  blk_simp
  rw [after0_9, out9 m c t h3, ey]
  refine (fold1_apply _ y).trans ?_
  refine Eq.trans ?_ (dg_eq (Cert.HnbRefIdeal.Hand.xk (X m c)) (B m c) (fun s => iblk m c 1 ⟨16 * (t.val / 16) + s.val, Pipeline.run_point_lt_of_flush t h3 s⟩)
    (fun s => iblk m c 3 ⟨16 * (t.val / 16) + s.val, Pipeline.run_point_lt_of_flush t h3 s⟩) (fun s i j => ?_) (fun s i j => ?_) y)
  · refine Finset.sum_congr rfl fun b _ => ?_
    refine (e _).trans ?_
    rw [zero_add]
    rfl
  · refine (blk1 m c _ i j).trans ?_
    rw [run_row t h3 s i]
    exact (xk_at _ _ _).symm
  · refine (blk3 m c _ i j).trans ?_
    rw [run_row t h3 s i]

end Cert.HnbIdeal.Hand

namespace Cert.Proof

open Idealize.ShloMosaic Idealize.SL.Sem

theorem algebraic_hnb : Cert.algebraic_HnbIdeal_HnbRefIdeal_pre_qk_norm_finite := by
  intro m g m' g' hpre hagree
  refine ⟨_, _, _, Cert.HnbIdeal.Value.run_blocks m g, ?_⟩
  refine (θ_run Cert.HnbRefIdeal.defs _ _).mono (fun _ h c => ⟨(h c).1.trans ?_, (h c).2.1.trans ?_, (h c).2.2.1.trans ?_, (h c).2.2.2⟩)
    (Cert.HnbRefIdeal.Value.run (F := Ideal) m' g')
  all_goals obtain ⟨e0, e1, e2, e3, e4, e5⟩ := hagree c
  · obtain ⟨hx, ha, hb, hg, hh⟩ := Cert.Pre_qk_norm_finite.reals (congrFun (hpre c) (fun a => Fin.elim0 a))
    rw [Cert.HnbIdeal.Hand.arr0 m c hx ha hb hg hh]
    dsimp only [Cert.HnbIdeal.Hand.X, Cert.HnbIdeal.Hand.A, Cert.HnbIdeal.Hand.B, Cert.HnbIdeal.Hand.Z, Cert.HnbIdeal.Hand.QG, Cert.HnbIdeal.Hand.KG]
    rw [← e0, ← e1, ← e2, ← e3, ← e4, ← e5]; rfl
  · rw [Cert.HnbIdeal.Hand.arr1]
    dsimp only [Cert.HnbIdeal.Hand.X, Cert.HnbIdeal.Hand.A]
    rw [← e0, ← e1]; rfl
  · rw [Cert.HnbIdeal.Hand.arr2]
    dsimp only [Cert.HnbIdeal.Hand.X, Cert.HnbIdeal.Hand.B]
    rw [← e0, ← e2]; rfl

end Cert.Proof
end
-- ==== Proof.F.Hnm.lean ====
/-
  The norm of the queries and the keys: every head of 64 lanes is divided by its root mean square and multiplied by its
  gain; the queries are also scaled for the attention, and the values are rounded.
-/
module

public import proofs.«01_k».proof.Defs
public import proofs.«01_k».proof.Proof.F.Heads
public import proofs.«01_k».proof.Proof.Gen.HnmIdeal.Value
public import proofs.«01_k».proof.Proof.Gen.HnmRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.HnmRefIdeal.Hand

open Cert.HnmRefIdeal Cert.HnmRefIdeal.Gen Idealize.ShloMosaic

variable {F : FTy → Type} [FloatOps F]

/-- The heads of some rows, normed and multiplied by the gain. -/
def nrm (x : FVec F S8192x1024 .f32) (g : FVec F S64 .f32) : FVec F S8192x1024 .f32 :=
  shapeCast _ (mulf (mulf (shapeCast _ x shapeCasts_S8192x1024_S8192x16x64) (broadcastInDim S8192x16x64 ![0, 1, 2] bcast_S8192x16x1_S8192x16x64_0_1_2
    (Host.rsqrt (addf (Host.divf (broadcastInDim S8192x16x1 ![0, 1] bcast_S8192x16_S8192x16x1_0_1 (Host.reduceAdd (mulf (shapeCast _ x shapeCasts_S8192x1024_S8192x16x64)
      (shapeCast _ x shapeCasts_S8192x1024_S8192x16x64)) (constant S_ .f32 0x00000000#32) reducesTo_S8192x16x64_S8192x16_d2 h_S_))
        (broadcastInDim S8192x16x1 ![] bcast_S_S8192x16x1 (constant S_ .f32 0x42800000#32))) (broadcastInDim S8192x16x1 ![] bcast_S_S8192x16x1 (constant S_ .f32 0x358637BD#32))))))
    (broadcastInDim S8192x16x64 ![0, 1, 2] bcast_S1x1x64_S8192x16x64_0_1_2 (broadcastInDim S1x1x64 ![2] bcast_S64_S1x1x64_2 g))) shapeCasts_S8192x16x64_S8192x1024

variable (x : FVec F S8192x3072 .f32) (g : FVec F S64 .f32)

/-- The three results. -/
def out0 : FVec F S8192x1024 .bf16 :=
  truncf .bf16 (mulf (nrm (extractStridedSlice S8192x1024 ![0, 0] x slices_S8192x3072_S8192x1024_0_0) g) (broadcastInDim S8192x1024 ![] bcast_S_S8192x1024 (constant S_ .f32 0x3E000000#32))) bitsLt_bf16_f32
def out1 : FVec F S8192x1024 .bf16 :=
  truncf .bf16 (nrm (extractStridedSlice S8192x1024 ![0, 1024] x slices_S8192x3072_S8192x1024_0_1024) g) bitsLt_bf16_f32
def out2 : FVec F S8192x1024 .bf16 :=
  truncf .bf16 (extractStridedSlice S8192x1024 ![0, 2048] x slices_S8192x3072_S8192x1024_0_2048) bitsLt_bf16_f32

end Cert.HnmRefIdeal.Hand

namespace Cert.HnmIdeal.Hand

open Cert.HnmIdeal Cert.HnmIdeal.Gen Cert.Fin
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0 ∧ win0_1.index t 0 = t.val ∧ win0_1.index t 1 = 1 ∧ win0_2.index t 0 = t.val ∧ win0_2.index t 1 = 2
      ∧ win0_3.index t 0 = 0 ∧ win0_3.index t 1 = 0 ∧ win0_4.index t 0 = 0 ∧ win0_4.index t 1 = 0
      ∧ win0_5.index t 0 = t.val ∧ win0_5.index t 1 = 0 ∧ win0_6.index t 0 = t.val ∧ win0_6.index t 1 = 0 ∧ win0_7.index t 0 = t.val ∧ win0_7.index t 1 = 0 :=
  (by decide +kernel : ∀ t : Fin grid0.N, win0_0.index t 0 = t.val ∧ win0_0.index t 1 = 0 ∧ win0_1.index t 0 = t.val ∧ win0_1.index t 1 = 1 ∧ win0_2.index t 0 = t.val ∧ win0_2.index t 1 = 2
      ∧ win0_3.index t 0 = 0 ∧ win0_3.index t 1 = 0 ∧ win0_4.index t 0 = 0 ∧ win0_4.index t 1 = 0
      ∧ win0_5.index t 0 = t.val ∧ win0_5.index t 1 = 0 ∧ win0_6.index t 0 = t.val ∧ win0_6.index t 1 = 0 ∧ win0_7.index t 0 = t.val ∧ win0_7.index t 1 = 0) t

/-- The arguments. -/
abbrev X : FVec Ideal S8192x3072 .f32 := m ((c.tc : Thread nD τ).loc main_arg0)
abbrev QG : FVec Ideal S64 .f32 := m ((c.tc : Thread nD τ).loc main_arg1)
abbrev KG : FVec Ideal S64 .f32 := m ((c.tc : Thread nD τ).loc main_arg2)

/-- A gain, once for every head. -/
abbrev tiled (g : FVec Ideal S64 .f32) : FVec Ideal S1x1024 .f32 :=
  broadcastInDim S1x1024 ![1] bcast_S1024_S1x1024_1 (shapeCast _ (broadcastInDim S16x64 ![0, 1] bcast_S1x64_S16x64_0_1 (shapeCast _ g shapeCasts_S64_S1x64)) shapeCasts_S16x64_S1024)

theorem V_q : V m c main_v3 = tiled (QG m c) := by
  rfl
theorem V_k : V m c main_v7 = tiled (KG m c) := by
  rfl

abbrev hl (j : Fin 1024) (l : Fin 64) : Fin 1024 := ⟨j.val / 64 * 64 + l.val, by omega⟩
abbrev ln (j : Fin 1024) : Fin 64 := ⟨j.val % 64, by omega⟩

theorem tiled_apply (g : FVec Ideal S64 .f32) (y : S1x1024.Idx) : (tiled g y : EReal) = g (ix1 (n0 := 64) (ln (y 1))) := by
  unfold tiled
  pointwise

theorem nrm_apply (x : FVec Ideal S8192x1024 .f32) (g : FVec Ideal S64 .f32) (y : S8192x1024.Idx) :
    (Cert.HnmRefIdeal.Hand.nrm x g y : EReal) = x y * hrms (fun l => x (ix2 (n0 := 8192) (n1 := 1024) (y 0) (hl (y 1) l))) * g (ix1 (n0 := 64) (ln (y 1))) := by
  unfold Cert.HnmRefIdeal.Hand.nrm hrms
  pointwise

theorem lane0 (i j : Fin 128) : k0_pay4 (ix2 (n0 := 128) (n1 := 128) i j) = BitVec.ofNat 32 (i.val / 64) :=
  (show k0_pay4 (ix2 (n0 := 128) (n1 := 128) i j) = k0_pay4 (ix2 (n0 := 128) (n1 := 128) i 0) from rfl).trans
    ((by decide +kernel : ∀ i : Fin 128, k0_pay4 (ix2 (n0 := 128) (n1 := 128) i 0) = BitVec.ofNat 32 (i.val / 64)) i)

theorem lane1 (i j : Fin 128) : Scalar.select (IntOp.andi (k0_pay6 (ix2 (n0 := 128) (n1 := 128) i j)) (k0_pay7 (ix2 (n0 := 128) (n1 := 128) i j)))
    (IntOp.subi (k0_pay5 (ix2 (n0 := 128) (n1 := 128) i j)) 1#32) (k0_pay5 (ix2 (n0 := 128) (n1 := 128) i j)) = BitVec.ofNat 32 (j.val / 64) :=
  (show _ = Scalar.select (IntOp.andi (k0_pay6 (ix2 (n0 := 128) (n1 := 128) 0 j)) (k0_pay7 (ix2 (n0 := 128) (n1 := 128) 0 j)))
    (IntOp.subi (k0_pay5 (ix2 (n0 := 128) (n1 := 128) 0 j)) 1#32) (k0_pay5 (ix2 (n0 := 128) (n1 := 128) 0 j)) from rfl).trans
    ((by decide +kernel : ∀ j : Fin 128, Scalar.select (IntOp.andi (k0_pay6 (ix2 (n0 := 128) (n1 := 128) 0 j)) (k0_pay7 (ix2 (n0 := 128) (n1 := 128) 0 j)))
      (IntOp.subi (k0_pay5 (ix2 (n0 := 128) (n1 := 128) 0 j)) 1#32) (k0_pay5 (ix2 (n0 := 128) (n1 := 128) 0 j)) = BitVec.ofNat 32 (j.val / 64)) j)

theorem same : ∀ a b : Fin 2, IntOp.cmpi .eq (BitVec.ofNat 32 a.val) (BitVec.ofNat 32 b.val) = if a.val = b.val then 1#1 else 0#1 := by
  decide +kernel

/-- The matrix of a head's mean. -/
theorem mat_apply (x0 x1 x2 : FVec Ideal S512x1024 .f32) (x3 x4 : FVec Ideal S1x1024 .f32) (y : S128x128.Idx) :
    (k0_pay33 (F := Ideal) x0 x1 x2 x3 x4 y : EReal) = if (y 0).val / 64 = (y 1).val / 64 then Ideal.ofBits .f32 0x3C800000#32 else 0 := by
  obtain ⟨i, j, rfl⟩ : ∃ i j : Fin 128, y = ix2 (n0 := 128) (n1 := 128) i j := ⟨y 0, y 1, by funext a; fin_cases a <;> rfl⟩
  unfold k0_pay33 k0_pay8
  pointwise
  unfold k0_pay29 k0_pay30 k0_pay31 k0_pay32
  rw [lane0, lane1]
  have h := same ⟨i.val / 64, by omega⟩ ⟨j.val / 64, by omega⟩
  dsimp only at h
  rw [h]
  show _ = if i.val / 64 = j.val / 64 then _ else _
  split <;> rfl

/-- One unit of two heads. -/
theorem unit_q (M : FVec Ideal S128x128 .f32) (hM : ∀ y, (M y : EReal) = if (y 0).val / 64 = (y 1).val / 64 then Ideal.ofBits .f32 0x3C800000#32 else 0)
    (x : FVec Ideal S512x128 .f32) (g : FVec Ideal S1x128 .f32) (y : S512x128.Idx) :
    (k0_pay11 (F := Ideal) M x g y : EReal) = x y * hrms (fun l => x (ix2 (n0 := 512) (n1 := 128) (y 0) (inHead (y 1) l))) * g (ix2 (n0 := 1) (n1 := 128) 0 (y 1))
      * Ideal.ofBits .f32 0x3E000000#32 := by
  have e := head_mean_sq (fun k => x (ix2 (n0 := 512) (n1 := 128) (y 0) k)) (y 1)
  unfold k0_pay11 hrms
  rw [← e]
  pointwise
  simp only [hM]
  rfl

theorem unit_k (M : FVec Ideal S128x128 .f32) (hM : ∀ y, (M y : EReal) = if (y 0).val / 64 = (y 1).val / 64 then Ideal.ofBits .f32 0x3C800000#32 else 0)
    (x : FVec Ideal S512x128 .f32) (g : FVec Ideal S1x128 .f32) (y : S512x128.Idx) :
    (k0_pay2 (F := Ideal) M x g y : EReal) = x y * hrms (fun l => x (ix2 (n0 := 512) (n1 := 128) (y 0) (inHead (y 1) l))) * g (ix2 (n0 := 1) (n1 := 128) 0 (y 1)) := by
  have e := head_mean_sq (fun k => x (ix2 (n0 := 512) (n1 := 128) (y 0) k)) (y 1)
  unfold k0_pay2 hrms
  rw [← e]
  pointwise
  simp only [hM]
  rfl

/-- A block of normed rows. -/
def nrmB (x : FVec Ideal S512x1024 .f32) (g : FVec Ideal S1x1024 .f32) (y : S512x1024.Idx) : EReal :=
  x y * hrms (fun l => x (ix2 (n0 := 512) (n1 := 1024) (y 0) (hl (y 1) l))) * g (ix2 (n0 := 1) (n1 := 1024) 0 (y 1))

/-- A unit's columns, read through the unit or in the block. -/
theorem nrm_piece (x : FVec Ideal S512x1024 .f32) (g : FVec Ideal S1x1024 .f32) (o : ℕ) (ho : o % 64 = 0)
    (h : ∀ a, (![0, o] : Fin 2 → ℕ) a + S512x128.size a ≤ S512x1024.size a) (h' : ∀ a, (![0, o] : Fin 2 → ℕ) a + S1x128.size a ≤ S1x1024.size a)
    (y : S512x128.Idx) :
    (x ((Rect.unit (s := S512x1024) ![0, o] S512x128.size h).emb y) : EReal)
      * hrms (fun l => x ((Rect.unit (s := S512x1024) ![0, o] S512x128.size h).emb (ix2 (n0 := 512) (n1 := 128) (y 0) (inHead (y 1) l))))
      * g ((Rect.unit (s := S1x1024) ![0, o] S1x128.size h').emb (ix2 (n0 := 1) (n1 := 128) 0 (y 1)))
      = nrmB x g ((Rect.unit (s := S512x1024) ![0, o] S512x128.size h).emb y) := by
  have e1 : ∀ l : Fin 64, (Rect.unit (s := S512x1024) ![0, o] S512x128.size h).emb (ix2 (n0 := 512) (n1 := 128) (y 0) (inHead (y 1) l))
      = ix2 (n0 := 512) (n1 := 1024) ((Rect.unit (s := S512x1024) ![0, o] S512x128.size h).emb y 0)
          (hl ((Rect.unit (s := S512x1024) ![0, o] S512x128.size h).emb y 1) l) := by
    intro l
    funext a
    apply Fin.ext
    fin_cases a
    · simp [ValueKit.rect_emb_unit_val]
    · simp [ValueKit.rect_emb_unit_val]
      omega
  have e2 : (Rect.unit (s := S1x1024) ![0, o] S1x128.size h').emb (ix2 (n0 := 1) (n1 := 128) 0 (y 1))
      = ix2 (n0 := 1) (n1 := 1024) 0 ((Rect.unit (s := S512x1024) ![0, o] S512x128.size h).emb y 1) := by
    funext a
    apply Fin.ext
    fin_cases a
    · simp [ValueKit.rect_emb_unit_val]
    · simp [ValueKit.rect_emb_unit_val]
  exact congrArg₂ (· * ·) (congrArg₂ (· * ·) rfl (congrArg hrms (funext fun l => congrArg x (e1 l)))) (congrArg g e2)

theorem out5_apply (x0 x1 x2 : FVec Ideal S512x1024 .f32) (x3 x4 : FVec Ideal S1x1024 .f32) (y : S512x1024.Idx) :
    (out0_5 (F := Ideal) x0 x1 x2 x3 x4 y : EReal) = nrmB x0 x3 y * Ideal.ofBits .f32 0x3E000000#32 := by
  have hM := mat_apply x0 x1 x2 x3 x4
  unfold out0_5
  refine canon_of_pieces (s := S512x1024) (e := .bf16) (fun y => (nrmB x0 x3 y * Ideal.ofBits .f32 0x3E000000#32 : EReal)) _ ?_ y (cover0_5 _ _ _ _ _ _ _ _ y)
  refine ⟨fun x => ?_, fun x => ?_, fun x => ?_, fun x => ?_, fun x => ?_, fun x => ?_, fun x => ?_, fun x => ?_, trivial⟩
  all_goals
    refine (unit_q _ hM _ _ x).trans ?_
    exact congrArg (· * Ideal.ofBits .f32 0x3E000000#32) (nrm_piece x0 x3 _ (by decide) _ _ x)

theorem out6_apply (x0 x1 x2 : FVec Ideal S512x1024 .f32) (x3 x4 : FVec Ideal S1x1024 .f32) (y : S512x1024.Idx) :
    (out0_6 (F := Ideal) x0 x1 x2 x3 x4 y : EReal) = nrmB x1 x4 y := by
  have hM := mat_apply x0 x1 x2 x3 x4
  unfold out0_6
  refine canon_of_pieces (s := S512x1024) (e := .bf16) (fun y => (nrmB x1 x4 y : EReal)) _ ?_ y (cover0_6 _ _ _ _ _ _ _ _ y)
  refine ⟨fun x => ?_, fun x => ?_, fun x => ?_, fun x => ?_, fun x => ?_, fun x => ?_, fun x => ?_, fun x => ?_, trivial⟩
  all_goals
    refine (unit_k _ hM _ _ x).trans ?_
    exact nrm_piece x1 x4 _ (by decide) _ _ x

/-- The queries. -/
theorem arr0 : (dats m 0 c).arrAt 5 cfg0.N = Cert.HnmRefIdeal.Hand.out0 (F := Ideal) (X m c) (QG m c) := by
  refine (dats m 0 c).arrAt_eq_of_covers 5 _ (by decide +kernel) fun t hf y => ?_
  obtain ⟨a0, a0', a1, a1', a2, a2', a3, a3', a4, a4', a5, a5', a6, a6', a7, a7'⟩ := idx t
  blk_simp
  rw [after0_5]
  refine (out5_apply _ _ _ _ _ y).trans ?_
  unfold Cert.HnmRefIdeal.Hand.out0 nrmB
  pointwise
  simp only [nrm_apply]
  pointwise
  blk_point [iblk, V_q, tiled_apply, X, QG, a0, a0', a3, a3', a5, a5']
  all_goals blk_simp [a5, a5']

/-- The keys. -/
theorem arr1 : (dats m 0 c).arrAt 6 cfg0.N = Cert.HnmRefIdeal.Hand.out1 (F := Ideal) (X m c) (KG m c) := by
  refine (dats m 0 c).arrAt_eq_of_covers 6 _ (by decide +kernel) fun t hf y => ?_
  obtain ⟨a0, a0', a1, a1', a2, a2', a3, a3', a4, a4', a5, a5', a6, a6', a7, a7'⟩ := idx t
  blk_simp
  rw [after0_6]
  refine (out6_apply _ _ _ _ _ y).trans ?_
  unfold Cert.HnmRefIdeal.Hand.out1 nrmB
  pointwise
  simp only [nrm_apply]
  pointwise
  blk_point [iblk, V_k, tiled_apply, X, KG, a1, a1', a4, a4', a6, a6']
  all_goals blk_simp [a6, a6']

/-- The values. -/
theorem arr2 : (dats m 0 c).arrAt 7 cfg0.N = Cert.HnmRefIdeal.Hand.out2 (F := Ideal) (X m c) := by
  refine (dats m 0 c).arrAt_eq_of_covers 7 _ (by decide +kernel) fun t hf y => ?_
  obtain ⟨a0, a0', a1, a1', a2, a2', a3, a3', a4, a4', a5, a5', a6, a6', a7, a7'⟩ := idx t
  blk_simp
  rw [after0_7]
  unfold Cert.HnmRefIdeal.Hand.out2 out0_7
  rw [View.canon_unit_zero (h := by funext a; fin_cases a <;> rfl)]
  unfold k0_pay3
  pointwise
  blk_point [iblk, X, a2, a2', a7, a7']

end Cert.HnmIdeal.Hand

namespace Cert.Proof

open Idealize.ShloMosaic Idealize.SL.Sem

theorem algebraic_hnm : Cert.algebraic_HnmIdeal_HnmRefIdeal := by
  intro m g m' g' _ hagree
  refine ⟨_, _, _, Cert.HnmIdeal.Value.run_blocks m g, ?_⟩
  refine (θ_run Cert.HnmRefIdeal.defs _ _).mono (fun _ h c => ⟨(h c).1.trans ?_, (h c).2.1.trans ?_, (h c).2.2.1.trans ?_, (h c).2.2.2⟩)
    (Cert.HnmRefIdeal.Value.run (F := Ideal) m' g')
  all_goals obtain ⟨e0, e1, e2⟩ := hagree c
  · rw [Cert.HnmIdeal.Hand.arr0 m c]
    dsimp only [Cert.HnmIdeal.Hand.X, Cert.HnmIdeal.Hand.QG]
    rw [← e0, ← e1]; rfl
  · rw [Cert.HnmIdeal.Hand.arr1 m c]
    dsimp only [Cert.HnmIdeal.Hand.X, Cert.HnmIdeal.Hand.KG]
    rw [← e0, ← e2]; rfl
  · rw [Cert.HnmIdeal.Hand.arr2 m c]
    dsimp only [Cert.HnmIdeal.Hand.X]
    rw [← e0]; rfl

end Cert.Proof
end
-- ==== Proof.F.Ple.lean ====
/-
  The gated embedding: the normalised rows, the gate, the embedding's projection and the rows with their product added
  are the reference's terms, entry by entry.
-/
module

public import proofs.«01_k».proof.Defs
public import proofs.«01_k».proof.Proof.Gen.PleIdeal.Value
public import proofs.«01_k».proof.Proof.Gen.PleRefIdeal.Run
public import Idealize.ShloMosaic.Lib.Pipeline.ValueKit
public import Idealize.ShloMosaic.Lib.IdealHost

@[expose] public section

set_option maxRecDepth 16384

noncomputable section

namespace Cert.PleRefIdeal.Hand

open Cert.PleRefIdeal Cert.PleRefIdeal.Gen Idealize.ShloMosaic

variable {F : FTy → Type} [FloatOps F] (x : FVec F S8192x1024 .f32) (g : FVec F S1x1024 .f32) (w : FVec F S1024x1024 .f32) (p : FVec F S8192x256 .f32) (v : FVec F S256x1024 .f32)

/-- The rows, normalised. -/
def norm : FVec F S8192x1024 .f32 :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g)

/-- The gate and the projection. -/
def gate : FVec F S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (Host.dotGeneral dot_S8192x1024_S1024x1024_S8192x1024_1_0_0_1_n_n none (norm x g) w))))
def proj : FVec F S8192x1024 .f32 := Host.dotGeneral dot_S8192x256_S256x1024_S8192x1024_1_0_0_1_n_n none p v

/-- The four results. -/
def out0 : FVec F S8192x1024 .f32 := addf x (mulf (gate x g w) (proj p v))
def out1 : FVec F S8192x1024 .bf16 := truncf .bf16 (norm x g) bitsLt_bf16_f32
def out2 : FVec F S8192x1024 .bf16 := truncf .bf16 (gate x g w) bitsLt_bf16_f32
def out3 : FVec F S8192x1024 .bf16 := truncf .bf16 (proj p v) bitsLt_bf16_f32

end Cert.PleRefIdeal.Hand

namespace Cert.PleIdeal.Hand

open Cert.PleIdeal Cert.PleIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = 0 ∧ win0_1.index t 1 = 0
      ∧ win0_2.index t 0 = 0 ∧ win0_2.index t 1 = 0
      ∧ win0_3.index t 0 = t.val ∧ win0_3.index t 1 = 0
      ∧ win0_4.index t 0 = 0 ∧ win0_4.index t 1 = 0
      ∧ win0_5.index t 0 = t.val ∧ win0_5.index t 1 = 0
      ∧ win0_6.index t 0 = t.val ∧ win0_6.index t 1 = 0
      ∧ win0_7.index t 0 = t.val ∧ win0_7.index t 1 = 0
      ∧ win0_8.index t 0 = t.val ∧ win0_8.index t 1 = 0 :=
  (by decide +kernel : ∀ t : Fin grid0.N, win0_0.index t 0 = t.val ∧ win0_0.index t 1 = 0
      ∧ win0_1.index t 0 = 0 ∧ win0_1.index t 1 = 0
      ∧ win0_2.index t 0 = 0 ∧ win0_2.index t 1 = 0
      ∧ win0_3.index t 0 = t.val ∧ win0_3.index t 1 = 0
      ∧ win0_4.index t 0 = 0 ∧ win0_4.index t 1 = 0
      ∧ win0_5.index t 0 = t.val ∧ win0_5.index t 1 = 0
      ∧ win0_6.index t 0 = t.val ∧ win0_6.index t 1 = 0
      ∧ win0_7.index t 0 = t.val ∧ win0_7.index t 1 = 0
      ∧ win0_8.index t 0 = t.val ∧ win0_8.index t 1 = 0) t

theorem V_w : V m c main_v0 = truncf (F := Ideal) (s := S1024x1024) .bf16 (m ((c.tc : Thread nD τ).loc main_arg2)) bitsLt_bf16_f32 := by
  rfl

theorem V_p : V m c main_v1 = truncf (F := Ideal) (s := S256x1024) .bf16 (m ((c.tc : Thread nD τ).loc main_arg4)) bitsLt_bf16_f32 := by
  rfl

theorem arr0 : (dats m 0 c).arrAt 5 cfg0.N = Cert.PleRefIdeal.Hand.out0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  obtain ⟨a0, a0', a1, a1', a2, a2', a3, a3', a4, a4', a5, a5', a6, a6', a7, a7', a8, a8'⟩ := idx t
  blk_simp
  rw [after0_5]
  frame_out
  unfold k0_pay4 k0_pay3 k0_pay2 k0_pay1 Cert.PleRefIdeal.Hand.out0 Cert.PleRefIdeal.Hand.gate Cert.PleRefIdeal.Hand.proj Cert.PleRefIdeal.Hand.norm
  pointwise
  simp only [Ideal.logistic, Ideal.ofBits_one_f32]
  blk_point [iblk, V_w, V_p, a0, a0', a1, a1', a2, a2', a3, a3', a4, a4', a5, a5', a6, a6', a7, a7', a8, a8']

theorem arr1 : (dats m 0 c).arrAt 6 cfg0.N = Cert.PleRefIdeal.Hand.out1 (F := Ideal) (m ((c.tc : Thread nD τ).loc main_arg0)) (m ((c.tc : Thread nD τ).loc main_arg1)) := by
  refine (dats m 0 c).arrAt_eq_of_covers 6 _ (by decide +kernel) fun t hf y => ?_
  obtain ⟨a0, a0', a1, a1', a2, a2', a3, a3', a4, a4', a5, a5', a6, a6', a7, a7', a8, a8'⟩ := idx t
  blk_simp
  rw [after0_6]
  frame_out
  unfold k0_pay1 Cert.PleRefIdeal.Hand.out1 Cert.PleRefIdeal.Hand.norm
  pointwise
  blk_point [iblk, V_w, V_p, a0, a0', a1, a1', a2, a2', a3, a3', a4, a4', a5, a5', a6, a6', a7, a7', a8, a8']

theorem arr2 : (dats m 0 c).arrAt 7 cfg0.N = Cert.PleRefIdeal.Hand.out2 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  obtain ⟨a0, a0', a1, a1', a2, a2', a3, a3', a4, a4', a5, a5', a6, a6', a7, a7', a8, a8'⟩ := idx t
  blk_simp
  rw [after0_7]
  frame_out
  unfold k0_pay5 k0_pay2 k0_pay1 Cert.PleRefIdeal.Hand.out2 Cert.PleRefIdeal.Hand.gate Cert.PleRefIdeal.Hand.norm
  pointwise
  simp only [Ideal.logistic, Ideal.ofBits_one_f32]
  blk_point [iblk, V_w, V_p, a0, a0', a1, a1', a2, a2', a3, a3', a4, a4', a5, a5', a6, a6', a7, a7', a8, a8']

theorem arr3 : (dats m 0 c).arrAt 8 cfg0.N = Cert.PleRefIdeal.Hand.out3 (F := Ideal) (m ((c.tc : Thread nD τ).loc main_arg3)) (m ((c.tc : Thread nD τ).loc main_arg4)) := by
  refine (dats m 0 c).arrAt_eq_of_covers 8 _ (by decide +kernel) fun t hf y => ?_
  obtain ⟨a0, a0', a1, a1', a2, a2', a3, a3', a4, a4', a5, a5', a6, a6', a7, a7', a8, a8'⟩ := idx t
  blk_simp
  rw [after0_8]
  frame_out
  unfold k0_pay6 k0_pay3 Cert.PleRefIdeal.Hand.out3 Cert.PleRefIdeal.Hand.proj
  pointwise
  blk_point [iblk, V_w, V_p, a0, a0', a1, a1', a2, a2', a3, a3', a4, a4', a5, a5', a6, a6', a7, a7', a8, a8']

end Cert.PleIdeal.Hand

namespace Cert.Proof

open Idealize.ShloMosaic Idealize.SL.Sem

theorem algebraic_ple : Cert.algebraic_PleIdeal_PleRefIdeal := by
  intro m g m' g' _ hagree
  refine ⟨_, _, _, _, Cert.PleIdeal.Value.run_blocks m g, ?_⟩
  refine (θ_run Cert.PleRefIdeal.defs _ _).mono (fun _ h c => ⟨(h c).1.trans ?_, (h c).2.1.trans ?_, (h c).2.2.1.trans ?_, (h c).2.2.2.1.trans ?_, (h c).2.2.2.2⟩) (Cert.PleRefIdeal.Value.run (F := Ideal) m' g')
  all_goals obtain ⟨e0, e1, e2, e3, e4⟩ := hagree c
  · rw [Cert.PleIdeal.Hand.arr0, ← e0, ← e1, ← e2, ← e3, ← e4]; rfl
  · rw [Cert.PleIdeal.Hand.arr1, ← e0, ← e1]; rfl
  · rw [Cert.PleIdeal.Hand.arr2, ← e0, ← e1, ← e2]; rfl
  · rw [Cert.PleIdeal.Hand.arr3, ← e3, ← e4]; rfl

end Cert.Proof
end
-- ==== Proof.F.Pgt.lean ====
/-
  The gradients of the gate's argument and of the embedding's projection are the reference's, entry by entry.
-/
module

public import proofs.«01_k».proof.Defs
public import proofs.«01_k».proof.Proof.Gen.PgtIdeal.Value
public import proofs.«01_k».proof.Proof.Gen.PgtRefIdeal.Run
public import Idealize.ShloMosaic.Lib.Pipeline.ValueKit
public import Idealize.ShloMosaic.Lib.IdealHost

@[expose] public section

set_option maxRecDepth 16384

noncomputable section

namespace Cert.PgtRefIdeal.Hand

open Cert.PgtRefIdeal Cert.PgtRefIdeal.Gen Idealize.ShloMosaic

variable {F : FTy → Type} [FloatOps F] (d l : FVec F S8192x1024 .f32) (p : FVec F S8192x1024 .bf16)

/-- The gate. -/
def gate : FVec F S8192x1024 .f32 := Host.divf (broadcastInDim S8192x1024 ![] bcast_S_S8192x1024 (constant S_ .f32 0x3F800000#32)) (addf (broadcastInDim S8192x1024 ![] bcast_S_S8192x1024 (constant S_ .f32 0x3F800000#32)) (Host.exp (Host.negf l)))

/-- The two results. -/
def out0 : FVec F S8192x1024 .bf16 :=
  truncf .bf16 (mulf (mulf d (extf .f32 p bitsLt_bf16_f32)) (mulf (gate l) (subf (broadcastInDim S8192x1024 ![] bcast_S_S8192x1024 (constant S_ .f32 0x3F800000#32)) (gate l)))) bitsLt_bf16_f32
def out1 : FVec F S8192x1024 .bf16 := truncf .bf16 (mulf (gate l) d) bitsLt_bf16_f32

end Cert.PgtRefIdeal.Hand

namespace Cert.PgtIdeal.Hand

open Cert.PgtIdeal Cert.PgtIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = t.val ∧ win0_1.index t 1 = 0
      ∧ win0_2.index t 0 = t.val ∧ win0_2.index t 1 = 0
      ∧ win0_3.index t 0 = t.val ∧ win0_3.index t 1 = 0
      ∧ win0_4.index t 0 = t.val ∧ win0_4.index t 1 = 0 :=
  (by decide +kernel : ∀ t : Fin grid0.N, win0_0.index t 0 = t.val ∧ win0_0.index t 1 = 0
      ∧ win0_1.index t 0 = t.val ∧ win0_1.index t 1 = 0
      ∧ win0_2.index t 0 = t.val ∧ win0_2.index t 1 = 0
      ∧ win0_3.index t 0 = t.val ∧ win0_3.index t 1 = 0
      ∧ win0_4.index t 0 = t.val ∧ win0_4.index t 1 = 0) t

/-- The gate, as the host works it out. -/
def gate : FVec Ideal S8192x1024 .bf16 :=
  truncf .bf16 (Host.divf (broadcastInDim S8192x1024 ![] bcast_S_S8192x1024 (constant S_ .f32 0x3F800000#32)) (addf (broadcastInDim S8192x1024 ![] bcast_S_S8192x1024 (constant S_ .f32 0x3F800000#32)) (Host.exp (Host.negf (m ((c.tc : Thread nD τ).loc main_arg1)))))) bitsLt_bf16_f32

theorem V_s : V m c main_v6 = gate m c := by
  rfl

/-- The gate's argument. -/
abbrev L : FVec Ideal S8192x1024 .f32 := m ((c.tc : Thread nD τ).loc main_arg1)
abbrev D : FVec Ideal S8192x1024 .f32 := m ((c.tc : Thread nD τ).loc main_arg0)
abbrev P : FVec Ideal S8192x1024 .bf16 := m ((c.tc : Thread nD τ).loc main_arg2)

theorem gate_apply (i : S8192x1024.Idx) :
    (gate m c i : EReal) = Ideal.div 1 (1 + Ideal.exp (-(L m c i : EReal))) := by
  unfold gate
  pointwise

/-- Row `i` of block `t`. -/
abbrev row (t : Fin cfg0.N) (i : Fin 512) : Fin 8192 := ⟨512 * t.val + i.val, by have := t.isLt; have : cfg0.N = 16 := rfl; omega⟩

theorem d_apply (t : Fin cfg0.N) (y : S512x1024.Idx) : (iblk m c 0 t y : EReal) = D m c (ix2 (n0 := 8192) (n1 := 1024) (row t (y 0)) (y 1)) := by
  obtain ⟨a0, a0', -⟩ := idx t
  blk_point [iblk, D, a0, a0']

theorem p_apply (t : Fin cfg0.N) (y : S512x1024.Idx) : (iblk m c 2 t y : EReal) = P m c (ix2 (n0 := 8192) (n1 := 1024) (row t (y 0)) (y 1)) := by
  obtain ⟨-, -, -, -, a2, a2', -⟩ := idx t
  blk_point [iblk, P, a2, a2']

theorem s_apply (t : Fin cfg0.N) (y : S512x1024.Idx) : (iblk m c 1 t y : EReal) = gate m c (ix2 (n0 := 8192) (n1 := 1024) (row t (y 0)) (y 1)) := by
  obtain ⟨-, -, a1, a1', -⟩ := idx t
  have e := V_s m c
  generalize gate m c = q at e ⊢
  show (V m c main_v6 ((win0_1.blk t).view.emb y) : EReal) = _
  rw [e]
  blk_point [a1, a1']

theorem out0_apply (i : S8192x1024.Idx) : (Cert.PgtRefIdeal.Hand.out0 (F := Ideal) (D m c) (L m c) (P m c) i : EReal)
    = (D m c i : EReal) * P m c i * (Ideal.div 1 (1 + Ideal.exp (-(L m c i : EReal))) * (1 - Ideal.div 1 (1 + Ideal.exp (-(L m c i : EReal))))) := by
  unfold Cert.PgtRefIdeal.Hand.out0 Cert.PgtRefIdeal.Hand.gate
  pointwise

theorem out1_apply (i : S8192x1024.Idx) : (Cert.PgtRefIdeal.Hand.out1 (F := Ideal) (D m c) (L m c) i : EReal)
    = (D m c i : EReal) * Ideal.div 1 (1 + Ideal.exp (-(L m c i : EReal))) := by
  unfold Cert.PgtRefIdeal.Hand.out1 Cert.PgtRefIdeal.Hand.gate
  pointwise
  exact EReal.mul_comm _ _

theorem emb3 (t : Fin cfg0.N) (y : S512x1024.Idx) : (((View.whole main_v7_0).slice (win0_3.rect t)).emb y : S8192x1024.Idx) = ix2 (n0 := 8192) (n1 := 1024) (row t (y 0)) (y 1) := by
  obtain ⟨-, -, -, -, -, -, a, a', -⟩ := idx t
  have h := fun f : S8192x1024.Idx → ℕ => show f (((View.whole main_v7_0).slice (win0_3.rect t)).emb y) = f (ix2 (n0 := 8192) (n1 := 1024) (row t (y 0)) (y 1)) by
    blk_point [a, a']
  funext a
  fin_cases a
  · exact Fin.ext (h fun i => (i 0).val)
  · exact Fin.ext (h fun i => (i 1).val)

theorem arr0 : (dats m 0 c).arrAt 3 cfg0.N = Cert.PgtRefIdeal.Hand.out0 (F := Ideal) (D m c) (L m c) (P m c) := by
  refine (dats m 0 c).arrAt_eq_of_covers 3 _ (by decide +kernel) fun t hf y => ?_
  blk_simp
  rw [after0_3]
  refine Eq.trans ?_ ((congrArg (Cert.PgtRefIdeal.Hand.out0 (F := Ideal) (D m c) (L m c) (P m c)) (emb3 t y)).trans (out0_apply m c _)).symm
  frame_out
  unfold k0_pay2 k0_pay1
  pointwise
  simp only [d_apply, s_apply, p_apply, gate_apply]

theorem emb4 (t : Fin cfg0.N) (y : S512x1024.Idx) : (((View.whole main_v7_1).slice (win0_4.rect t)).emb y : S8192x1024.Idx) = ix2 (n0 := 8192) (n1 := 1024) (row t (y 0)) (y 1) := by
  obtain ⟨-, -, -, -, -, -, -, -, a, a'⟩ := idx t
  have h := fun f : S8192x1024.Idx → ℕ => show f (((View.whole main_v7_1).slice (win0_4.rect t)).emb y) = f (ix2 (n0 := 8192) (n1 := 1024) (row t (y 0)) (y 1)) by
    blk_point [a, a']
  funext a
  fin_cases a
  · exact Fin.ext (h fun i => (i 0).val)
  · exact Fin.ext (h fun i => (i 1).val)

theorem arr1 : (dats m 0 c).arrAt 4 cfg0.N = Cert.PgtRefIdeal.Hand.out1 (F := Ideal) (D m c) (L m c) := by
  refine (dats m 0 c).arrAt_eq_of_covers 4 _ (by decide +kernel) fun t hf y => ?_
  blk_simp
  rw [after0_4]
  refine Eq.trans ?_ ((congrArg (Cert.PgtRefIdeal.Hand.out1 (F := Ideal) (D m c) (L m c)) (emb4 t y)).trans (out1_apply m c _)).symm
  frame_out
  unfold k0_pay3 k0_pay1
  pointwise
  simp only [d_apply, s_apply, p_apply, gate_apply]

end Cert.PgtIdeal.Hand

namespace Cert.Proof

open Idealize.ShloMosaic Idealize.SL.Sem

theorem algebraic_pgt : Cert.algebraic_PgtIdeal_PgtRefIdeal := by
  intro m g m' g' _ hagree
  refine ⟨_, _, Cert.PgtIdeal.Value.run_blocks m g, ?_⟩
  refine (θ_run Cert.PgtRefIdeal.defs _ _).mono (fun _ h c => ⟨(h c).1.trans ?_, (h c).2.1.trans ?_, (h c).2.2⟩) (Cert.PgtRefIdeal.Value.run (F := Ideal) m' g')
  all_goals obtain ⟨e0, e1, e2⟩ := hagree c
  · rw [Cert.PgtIdeal.Hand.arr0]
    dsimp only [Cert.PgtIdeal.Hand.D, Cert.PgtIdeal.Hand.L, Cert.PgtIdeal.Hand.P]
    rw [← e0, ← e1, ← e2]; rfl
  · rw [Cert.PgtIdeal.Hand.arr1]
    dsimp only [Cert.PgtIdeal.Hand.D, Cert.PgtIdeal.Hand.L]
    rw [← e0, ← e1]; rfl

end Cert.Proof
end
-- ==== Proof.AI.Loop.lean ====
/-
  The sweep over the earlier key blocks, forward. `sweep n` is what the loop computes with `n` blocks left (blocks `n-1`,
  …, `0`): it stops when no block is left or when the largest carried sum is no longer above the bound, and otherwise adds
  block `n-1`'s weighted values and goes on. `spec_le` says the loop's function computes it, by induction on `n`.
-/
module

public import proofs.«01_k».proof.Proof.Gen.AttIdeal.Skeleton
public import proofs.«01_k».proof.Proof.Gen.AttIdeal.Launch
public import proofs.«01_k».proof.Proof.Rows

@[expose] public section

set_option maxRecDepth 16384

noncomputable section

namespace Cert.AttIdeal.Hand

open Cert.AttIdeal Cert.AttIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants: the trips a loop may still make. -/
abbrev trips : Variants := Variants.nat

/-- The loop's test on the largest carried sum. -/
def goes (mx : F .f32) : Prop := Scalar.cmpf .ogt mx (Named.named κ "log_zero" 0xC2D00000#32 : F .f32) = 1#1

instance (mx : F .f32) : Decidable (goes mx) := by unfold goes; infer_instance

section Sweep

variable (K V : Vec F S8192x128 .bf16) (q2 : FVec F S512x128 .bf16) (aft : FVec F S256x256 .bf16)

/-- The sweep with `n` key blocks left: from the largest carried sum, the carried sums and the output so far, the output
    at the end. -/
def sweep : ℕ → F .f32 → FVec F S512x1 .f32 → FVec F S512x128 .f32 → FVec F S512x128 .f32
  | 0, _, _, a => a
  | n + 1, mx, c, a =>
    if goes mx then
      sweep n (k0_pay6 q2 c (rowsOf K n)) (k0_pay4 q2 c (rowsOf K n)) (k0_pay5 q2 aft c a (rowsOf K n) (rowsOf V n))
    else a

end Sweep

/-! ### The counter -/

/-- The counter word with `n` blocks left. -/
def Ctr : ℕ → BitVec 32 → Prop
  | 0, a => ¬Scalar.cmpi .sge a 0#32 = 1#1
  | k + 1, a => k < 32 ∧ a = BitVec.ofNat 32 k

theorem ctr_test {k : ℕ} {a : BitVec 32} (h : Ctr (k + 1) a) : Scalar.cmpi .sge a 0#32 = 1#1 := by
  obtain ⟨hk, rfl⟩ := h
  exact (by decide : ∀ k : Fin 32, Scalar.cmpi .sge (BitVec.ofNat 32 k.val) 0#32 = 1#1) ⟨k, hk⟩

theorem ctr_next {k : ℕ} {a : BitVec 32} (h : Ctr (k + 1) a) : Ctr k (Scalar.subi a 1#32) := by
  obtain ⟨hk, rfl⟩ := h
  cases k with
  | zero => exact (by decide : ¬Scalar.cmpi .sge (Scalar.subi (BitVec.ofNat 32 0) 1#32) 0#32 = 1#1)
  | succ k =>
    exact ⟨by omega, (by decide : ∀ k : Fin 31, Scalar.subi (BitVec.ofNat 32 (k.val + 1)) 1#32 = BitVec.ofNat 32 k.val) ⟨k, by omega⟩⟩

theorem ctr_off {k : ℕ} {a : BitVec 32} (h : Ctr (k + 1) a) : k0_off3 a = ![256 * k, 0] := by
  obtain ⟨hk, rfl⟩ := h
  exact (by decide : ∀ k : Fin 32, k0_off3 (BitVec.ofNat 32 k.val) = ![256 * k.val, 0]) ⟨k, hk⟩

theorem ctr_chk {k : ℕ} {a : BitVec 32} (h : Ctr (k + 1) a) : k0_chk1 a := by
  have ho := ctr_off h
  obtain ⟨hk, rfl⟩ := h
  refine ⟨(by decide : ∀ k : Fin 32, 256 ∣ (k0_mult3 (BitVec.ofNat 32 k.val)).toNat) ⟨k, hk⟩, fun x => ?_⟩
  rw [ho]
  match x with
  | ⟨0, _⟩ => show 256 * k + 256 ≤ 8192; omega
  | ⟨1, _⟩ => show 0 + 128 ≤ 128; omega

theorem ctr_start (n : ℕ) (hn : n < 32) : Ctr (n - 1) (Scalar.subi (BitVec.ofNat 32 n) 2#32) := by
  match n with
  | 0 => exact (by decide : ¬Scalar.cmpi .sge (Scalar.subi (BitVec.ofNat 32 0) 2#32) 0#32 = 1#1)
  | 1 => exact (by decide : ¬Scalar.cmpi .sge (Scalar.subi (BitVec.ofNat 32 1) 2#32) 0#32 = 1#1)
  | n + 2 =>
    exact ⟨by omega, (by decide : ∀ k : Fin 30, Scalar.subi (BitVec.ofNat 32 (k.val + 2)) 2#32 = BitVec.ofNat 32 k.val) ⟨n, by omega⟩⟩

theorem andi_one (x : BitVec 1) : Scalar.andi 1#1 x = x := by revert x; decide

theorem andi_one_iff (x y : BitVec 1) (hx : ¬x = 1#1) : ¬Scalar.andi x y = 1#1 := by revert x y; decide

/-! ### The loop's function -/

section Label

variable (c : Dev nD) (i : grid0.Coords)
  (arg3 : Memref sig .tc .vmem S8192x128 .bf16) (harg3 : arg3.IsWhole) (arg4 : Memref sig .tc .vmem S8192x128 .bf16) (harg4 : arg4.IsWhole)
  (K V : Vec F S8192x128 .bf16) (q2 : FVec F S512x128 .bf16) (aft : FVec F S256x256 .bf16)

/-- The two arrays the loop reads, held whole. -/
def held : sProp 𝕄 :=
  iprop(owns (c : Thread nD τ) arg3 fullShare K ∗ owns (c : Thread nD τ) arg4 fullShare V)

/-- What the loop gives back: its last component the output, the arrays as they were. -/
def spec (R : FVec F S512x128 .f32) : sWPT 𝕄 (BitVec 32 × F .f32 × FVec F S512x1 .f32 × FVec F S512x128 .f32) := do
  sWPT.consume (held c arg3 arg4 K V)
  let r ← sWPT.arbitrary
  sWPT.assume (r.2.2.2 = R)
  sWPT.produce (held c arg3 arg4 K V)
  pure r

theorem spec_apply (R : FVec F S512x128 .f32) (Q : BitVec 32 × F .f32 × FVec F S512x1 .f32 × FVec F S512x128 .f32 → sProp 𝕄) :
    spec c arg3 arg4 K V R Q
      = iprop(held c arg3 arg4 K V ∗ ∀ r, ⌜r.2.2.2 = R⌝ -∗ (held c arg3 arg4 K V -∗ Q r)) := rfl

theorem spec_le (E : Set ℕ) :
    ∀ n w, Ctr n w → ∀ mx cr a Q, spec c arg3 arg4 K V (sweep K V q2 aft n mx cr a) Q
      ⊢ wp frame (wpE (defs₀ (F := F)) trips (c : Thread nD τ) (some n)) E
          (defs₀ (F := F) .tc 1 ⟨i, arg3, harg3, arg4, harg4, q2, aft, w, mx, cr, a⟩) Q := by
  intro n
  induction n with
  | zero =>
    intro w hw mx cr a Q
    rw [spec_apply]
    show _ ⊢ wp frame (wpE (defs₀ (F := F)) trips (c : Thread nD τ) (some 0)) E
      (cc0_while1 i arg3 harg3 arg4 harg4 q2 aft w mx cr a) Q
    simp only [cc0_while1_eq_skeleton]; unfold cc0_while1_skel
    have ht := andi_one_iff _ (Scalar.cmpf .ogt mx (Named.named κ "log_zero" 0xC2D00000#32 : F .f32)) hw
    simp only [ht, ↓reduceIte, Prog.pure_eq_ret]
    iintro ⟨H, Hk⟩
    rw [wp_ret]; imodintro
    iapply Hk
    · ipureintro; rfl
    · iexact H
  | succ n ih =>
    intro w hw mx cr a Q
    rw [spec_apply]
    show _ ⊢ wp frame (wpE (defs₀ (F := F)) trips (c : Thread nD τ) (some (n + 1))) E
      (cc0_while1 i arg3 harg3 arg4 harg4 q2 aft w mx cr a) Q
    simp only [cc0_while1_eq_skeleton]; unfold cc0_while1_skel
    by_cases hg : goes mx
    · have ht : Scalar.andi (Scalar.cmpi .sge w 0#32) (Scalar.cmpf .ogt mx (Named.named κ "log_zero" 0xC2D00000#32 : F .f32)) = 1#1 := by
        rw [ctr_test hw, andi_one]; exact hg
      have ho := ctr_off hw
      have hn : n < 32 := hw.1
      simp only [ht, ↓reduceIte, Prog.lift, Prog.bind_op, Prog.bind_ret, Prog.pure_eq_ret]
      unfold held
      iintro ⟨⟨HK, HV⟩, Hk⟩
      iapply (wp_assume trips (c : Thread nD τ) (some (n + 1)) E (ctr_chk hw))
      iapply (wp_load_rows trips (c : Thread nD τ) (some (n + 1)) E K n hn ho) $$ HK; iintro HK
      iapply (wp_load_rows trips (c : Thread nD τ) (some (n + 1)) E V n hn ho) $$ HV; iintro HV
      iapply (wp_call_spec trips (c : Thread nD τ) (some (n + 1)) E
        (spec c arg3 arg4 K V (sweep K V q2 aft n _ _ _)) n
        (fun u hu => by cases hu; exact Nat.lt_succ_self n) (ih _ (ctr_next hw) _ _ _))
      rw [spec_apply]; unfold held
      isplitl [HK HV]
      · isplitl [HK]; · iexact HK
        iexact HV
      iintro %r %hr H
      rw [wp_ret]; imodintro
      rw [sweep, if_pos hg]
      iapply Hk
      · ipureintro; exact hr
      · iexact H
    · have ht : ¬Scalar.andi (Scalar.cmpi .sge w 0#32) (Scalar.cmpf .ogt mx (Named.named κ "log_zero" 0xC2D00000#32 : F .f32)) = 1#1 := by
        rw [ctr_test hw, andi_one]; exact hg
      simp only [ht, ↓reduceIte, Prog.pure_eq_ret]
      iintro ⟨H, Hk⟩
      rw [wp_ret]; imodintro
      rw [sweep, if_neg hg]
      iapply Hk
      · ipureintro; rfl
      · iexact H

end Label

end Cert.AttIdeal.Hand

end
-- ==== Proof.AI.Run.lean ====
/-
  One grid point and the run. `point i q K V` is what the body leaves for query block `i`: from the block of the queries
  and the keys and values of the head pair, the output's block after the diagonal block, the block before it, and the sweep
  over the earlier ones. `body_wp` says the body computes it, so the program runs, ends with every counter at zero and the
  arguments unchanged (`frame`), and leaves the output array at what the points wrote back (`run_main`).
-/
module

public import proofs.«01_k».proof.Proof.AI.Loop
public import proofs.«01_k».proof.Proof.Gen.AttIdeal.Points
public import Idealize.ShloMosaic.Lib.Pipeline.FrameBody
public import Idealize.ShloMosaic.Lib.Claim

@[expose] public section

set_option maxRecDepth 16384

noncomputable section

namespace Cert.AttIdeal.Hand

open Cert.AttIdeal Cert.AttIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Point

variable (i : ℕ) (q : Vec F S256x128 .bf16) (K V : Vec F S8192x128 .bf16)

/-- The constant one of the diagonal block's logarithms. -/
abbrev one : F .f32 := Scalar.ofBits .f32 0x3F800000#32
/-- The constant zero of the next block's subtractions. -/
abbrev nil : F .f32 := Scalar.ofBits .f32 0x00000000#32

/-- The carried sums after the diagonal block. -/
def carry1 : FVec F S512x1 .f32 :=
  k0_pay18 k0_pay7 k0_pay10 (k0_pay14 q (rowsOf K i)) (k0_pay15 q (rowsOf K i)) one

/-- The output from the diagonal block. -/
def acc1 : FVec F S512x128 .f32 :=
  k0_pay19 k0_pay7 k0_pay8 k0_pay10 k0_pay11 (k0_pay12 (rowsOf V i)) (k0_pay13 q (rowsOf K i)) (k0_pay14 q (rowsOf K i)) (k0_pay15 q (rowsOf K i)) one

/-- The mask of the block before the diagonal: nothing at the first query block. -/
abbrev msk : IVec S512x256 1 := k0_pay20 (BitVec.ofNat 32 i)

/-- The carried sums after both blocks. -/
def carry2 : FVec F S512x1 .f32 :=
  k0_pay27 (carry1 i q K) (msk i) (k0_pay23 (k0_pay9 q) (rowsOf K (i - 1))) (k0_pay24 (k0_pay9 q) (rowsOf K (i - 1))) nil

/-- The output from both blocks. -/
def acc2 : FVec F S512x128 .f32 :=
  k0_pay28 k0_pay8 (carry1 i q K) (acc1 i q K V) (msk i) (k0_pay21 (rowsOf V (i - 1))) (k0_pay22 (k0_pay9 q) (rowsOf K (i - 1)))
    (k0_pay23 (k0_pay9 q) (rowsOf K (i - 1))) (k0_pay24 (k0_pay9 q) (rowsOf K (i - 1))) nil

/-- The largest carried sum after both blocks. -/
def top2 : F .f32 :=
  k0_pay29 (carry1 i q K) (msk i) (k0_pay23 (k0_pay9 q) (rowsOf K (i - 1))) (k0_pay24 (k0_pay9 q) (rowsOf K (i - 1))) nil

/-- The sweep over the blocks before those two. -/
def rest : FVec F S512x128 .f32 := sweep K V (k0_pay9 q) k0_pay8 (i - 1) (top2 i q K) (carry2 i q K) (acc2 i q K V)

/-- What the body leaves: the output's block. -/
def point : Vec F S256x128 .f32 := k0_pay30 (rest i q K V)

end Point

theorem off2_eq (i : grid0.Coords) : k0_off2 i = ![256 * ((i 1).val - 1), 0] :=
  (by decide : ∀ n : Fin 32, (![(Scalar.indexCast (Scalar.muli (Scalar.maxsi (Scalar.subi (BitVec.ofNat 32 n.val) 1#32) 0#32) 256#32)).toNat, (0#32 : BitVec 32).toNat] : Fin 2 → ℕ)
    = ![256 * (n.val - 1), 0]) (i 1)

section Wp

variable (c : Dev nD) (i : grid0.Coords)
  (arg2 : Memref sig .tc .vmem S256x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S256x128 .f32) (harg5 : arg5.IsWhole)
  (q : Vec F S256x128 .bf16) (K V : Vec F S8192x128 .bf16)

set_option maxHeartbeats 4000000 in
theorem body_wp (E : Set ℕ) (o : Vec F S256x128 .f32) (Q : PUnit → sProp 𝕄) :
    iprop(owns (c : Thread nD τ) arg2 fullShare q ∗ owns (c : Thread nD τ) arg3 fullShare K ∗ owns (c : Thread nD τ) arg4 fullShare V
      ∗ owns (c : Thread nD τ) arg5 fullShare o
      ∗ ((owns (c : Thread nD τ) arg2 fullShare q ∗ owns (c : Thread nD τ) arg3 fullShare K ∗ owns (c : Thread nD τ) arg4 fullShare V
        ∗ owns (c : Thread nD τ) arg5 fullShare (point (i 1).val q K V)) -∗ Q ⟨⟩))
      ⊢ wp frame (wpE (defs₀ (F := F)) trips (c : Thread nD τ) none) E
          (cc0_attention i arg2 harg2 arg3 harg3 arg4 harg4 arg5 harg5) Q := by
  have hi : (i 1).val < 32 := (i 1).isLt
  have ho1 := k0_off1_eq i
  have ho2 := off2_eq i
  simp only [cc0_attention_eq_skeleton]; unfold cc0_attention_skel
  simp only [k0_part3_eq_skeleton]; unfold k0_part3_skel
  simp only [k0_part1_eq_skeleton, k0_part2_eq_skeleton]
  unfold k0_part1_skel k0_part2_skel
  have hi' : (i 1).val - 1 < 32 := by omega
  simp only [Prog.lift, Prog.bind_op, Prog.bind_ret, Prog.pure_eq_ret]
  iintro ⟨H2, H3, H4, H5, Hk⟩
  iapply (wp_load_all trips (c : Thread nD τ) none E _) $$ H2; iintro H2
  iapply (wp_load_rows trips (c : Thread nD τ) none E _ (i 1).val hi ho1) $$ H3; iintro H3
  iapply (wp_load_rows trips (c : Thread nD τ) none E _ (i 1).val hi ho1) $$ H4; iintro H4
  iapply (wp_load_rows trips (c : Thread nD τ) none E _ ((i 1).val - 1) hi' ho2) $$ H3; iintro H3
  iapply (wp_load_rows trips (c : Thread nD τ) none E _ ((i 1).val - 1) hi' ho2) $$ H4; iintro H4
  iapply (wp_call_spec trips (c : Thread nD τ) none E
    (spec c arg3 arg4 K V (sweep K V _ _ ((i 1).val - 1) _ _ _)) ((i 1).val - 1)
    (fun u hu => nomatch hu) (spec_le c i arg3 harg3 arg4 harg4 K V _ _ E _ _ (ctr_start _ hi) _ _ _))
  rw [spec_apply]; unfold held
  isplitl [H3 H4]
  · isplitl [H3]; · iexact H3
    iexact H4
  iintro %r %hr ⟨H3, H4⟩
  rw [hr]
  iapply (wp_load_all trips (c : Thread nD τ) none E _) $$ H5; iintro H5
  iapply (wp_store_all trips (c : Thread nD τ) none E _) $$ H5; iintro H5
  rw [wp_ret]; imodintro
  iapply Hk
  isplitl [H2]; · iexact H2
  isplitl [H3]; · iexact H3
  isplitl [H4]; · iexact H4
  iexact H5

end Wp

variable (m : (ℓ : Loc nD τ sig) → Buf (Elt F) ℓ) (ρ : Dev nD → PrngReg)

/-- The arrays of core `c` as the grid finds them: the launch contents after every host operation. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program up to the grid. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide)))

/-- Window `w`'s block at point `t`, of its array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves at point `t`. -/
def outs (c : Dev nD) (t : Fin (cfg0 (F := F)).N) : Vec F S256x128 .f32 :=
  point (grid0.coords t 1).val (iblk m c 0 t) (iblk m c 1 t) (iblk m c 2 t)

/-- The pipeline's proof data: the inputs at their blocks, the output at `outs`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outs m c t
  Φ _ := Pipeline.ΦA spec0 c
  q _ := fullShare
  owed _ := 0

theorem A_eq (c : Dev nD) (w : Fin (cfg0 (F := F)).W) : (dats m 0 c).A w = V m c (Pipeline.arrRef spec0 w) := by
  (dsimp only [dats]) <;> rfl

theorem after0_0 (c : Dev nD) (t : Fin (cfg0 (F := F)).N) : (dats m 0 c).after 0 t = iblk m c 0 t := by (dsimp only [dats]) <;> rfl
theorem after0_1 (c : Dev nD) (t : Fin (cfg0 (F := F)).N) : (dats m 0 c).after 1 t = iblk m c 1 t := by (dsimp only [dats]) <;> rfl
theorem after0_2 (c : Dev nD) (t : Fin (cfg0 (F := F)).N) : (dats m 0 c).after 2 t = iblk m c 2 t := by (dsimp only [dats]) <;> rfl
theorem after0_3 (c : Dev nD) (t : Fin (cfg0 (F := F)).N) : (dats m 0 c).after 3 t = outs m c t := by (dsimp only [dats]) <;> rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
theorem sound_body (c : Dev nD) (t : Fin (cfg0 (F := F)).N) :
    bodyPre m c t ⊢ wp frame (wpE (defs₀ (F := F)) trips c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  unfold outs
  iapply (body_wp c (grid0.coords t) _ _ _ _ _ _ _ _ (iblk m c 0 t) (iblk m c 1 t) (iblk m c 2 t) Set.univ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The obligation the pipeline asks of the body, at every point. -/
theorem body_obligation (c : Dev nD) : BodyObligation (dats (F := F) m 0 c) (defs₀ (F := F)) trips () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
/-- Every execution ends with each array of the pipeline at what the points wrote back and every counter at zero. -/
theorem run_main_quiescent : θ_run defs (onTc (τ := τ) (main (F := F))) (s₀ m ρ)
    (fun r => (Pipeline.FramePost (cfgs (F := F)) (dats m) 0 (V m)) r ∧ r.2.sem = fun _ => 0) :=
  Pipeline.θ_run_frame (Q' := _) (cfgs (F := F)) (dats m) (0 : Fin 1) launch0 defs₀ trips m ρ main
    (hbody := fun c => (body_obligation m c).loose) (hshare := fun c => (dats m 0 c).share_full fun _ => rfl)
    (howed := fun _ _ => rfl) (V := V m) (hmain := hmain m trips) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide : ∀ w, (spec0 w).arr.view.ref ≠ main_arg0))).trans (V_main_arg0 m c),
      ((h c).2 main_arg1 (Pipeline.mem_restRefs_of main_arg1 (by decide) (by decide : ∀ w, (spec0 w).arr.view.ref ≠ main_arg1))).trans (V_main_arg1 m c),
      ((h c).2 main_arg2 (Pipeline.mem_restRefs_of main_arg2 (by decide) (by decide : ∀ w, (spec0 w).arr.view.ref ≠ main_arg2))).trans (V_main_arg2 m c)⟩) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_args m ρ) ((θ_run defs _ _).mono (fun _ h => h.2) (run_main_quiescent m ρ))

end Cert.AttIdeal.Hand

end
-- ==== Proof.AI.Step.lean ====
/-
  The forward step, over the reals where the scores are and over the extended reals where the values are. The three copies
  of the step that the body spells (the diagonal block, the one before it, the loop's) are one step under a mask, and that
  step's scores, logarithms and weights are those of the gradient's step (KI/Step.lean), which recomputes them.
-/
module

public import proofs.«01_k».proof.Proof.AI.Run
public import proofs.«01_k».proof.Proof.KI.Pair

@[expose] public section

set_option maxRecDepth 16384

noncomputable section

namespace Cert.AttIdeal.Hand

open Cert.AttIdeal Cert.AttIdeal.Gen Cert.Rows Cert.Rl
open Cert.KernelIdeal.Hand (zr aftR stayR wR zN wN blkR ones ones_is stay_eq blk_aft rowsOf_is lane_select)
open Idealize.ShloMosaic
open scoped BigOperators

/-- The scores of a block. -/
abbrev scr (q2 : FVec Ideal S512x128 .bf16) (K : Vec Ideal S256x128 .bf16) : FVec Ideal S512x256 .f32 := KernelIdeal.Gen.k0_pay41 q2 K
/-- Their softplus. -/
abbrev spl (q2 : FVec Ideal S512x128 .bf16) (K : Vec Ideal S256x128 .bf16) : FVec Ideal S512x256 .f32 := KernelIdeal.Gen.k0_pay42 q2 K
/-- The carried sums after a block. -/
abbrev car (msk : IVec S512x256 1) (q2 : FVec Ideal S512x128 .bf16) (c : FVec Ideal S512x1 .f32) (K : Vec Ideal S256x128 .bf16) : FVec Ideal S512x1 .f32 :=
  KernelIdeal.Gen.k0_pay2 c (KernelIdeal.Gen.k0_pay44 msk (spl q2 K) KernelIdeal.Gen.k0_pay43)
/-- The weights of a block. -/
abbrev wei (msk : IVec S512x256 1) (q2 : FVec Ideal S512x128 .bf16) (c : FVec Ideal S512x1 .f32) (K : Vec Ideal S256x128 .bf16) : FVec Ideal S512x256 .bf16 :=
  KernelIdeal.Gen.k0_pay46 KernelIdeal.Gen.k0_pay17 c msk (scr q2 K) (spl q2 K) KernelIdeal.Gen.k0_pay43
/-- The output after a block. -/
abbrev acc (msk : IVec S512x256 1) (q2 : FVec Ideal S512x128 .bf16) (c : FVec Ideal S512x1 .f32) (a : FVec Ideal S512x128 .f32)
    (K V : Vec Ideal S256x128 .bf16) : FVec Ideal S512x128 .f32 :=
  KernelIdeal.Gen.k0_pay4 a (KernelIdeal.Gen.k0_pay39 V) (wei msk q2 c K)

/-! ### The body's steps are that step -/

section Forms

variable (q : Vec Ideal S256x128 .bf16) (q2 : FVec Ideal S512x128 .bf16) (msk : IVec S512x256 1) (c : FVec Ideal S512x1 .f32) (a : FVec Ideal S512x128 .f32)
  (K V : Vec Ideal S256x128 .bf16)

theorem pay18_eq : k0_pay18 msk c (k0_pay14 q K) (k0_pay15 q K) (one (F := Ideal)) = car msk (k0_pay9 q) c K := rfl
theorem pay19_eq : k0_pay19 msk k0_pay8 c a (k0_pay12 V) (k0_pay13 q K) (k0_pay14 q K) (k0_pay15 q K) (one (F := Ideal)) = acc msk (k0_pay9 q) c a K V := rfl
theorem pay27_eq : k0_pay27 c msk (k0_pay23 q2 K) (k0_pay24 q2 K) (nil (F := Ideal)) = car msk q2 c K := rfl
theorem pay28_eq : k0_pay28 k0_pay8 c a msk (k0_pay21 V) (k0_pay22 q2 K) (k0_pay23 q2 K) (k0_pay24 q2 K) (nil (F := Ideal)) = acc msk q2 c a K V := rfl
theorem pay4_eq : k0_pay4 (F := Ideal) q2 c K = car ones q2 c K := by
  unfold car
  rw [← KernelIdeal.Hand.pay53_eq]; rfl
theorem pay5_eq : k0_pay5 (F := Ideal) q2 k0_pay8 c a K V = acc ones q2 c a K V := by
  unfold acc wei
  rw [← KernelIdeal.Hand.pay55_eq]; rfl

end Forms

/-! ### The loop's test -/

theorem goes_of_lt {x : Ideal .f32} (h : (⊥ : EReal) < x) : goes (F := Ideal) x := by
  show Scalar.cmpf .ogt x (Named.named κ "log_zero" 0xC2D00000#32 : Ideal .f32) = 1#1
  have e : (Named.named κ "log_zero" 0xC2D00000#32 : Ideal .f32) = (⊥ : EReal) := by
    simp [Named.named, κ]
  rw [e]
  show BitVec.ofBool (decide ((⊥ : EReal) < x)) = 1#1
  simp [h]

theorem pay6_goes {q2 : FVec Ideal S512x128 .bf16} {c : FVec Ideal S512x1 .f32} {K : Vec Ideal S256x128 .bf16} {x : ℕ → ℕ → ℝ}
    (h : Is2 (n := 512) (m := 1) (k0_pay4 (F := Ideal) q2 c K) x) : goes (F := Ideal) (k0_pay6 (F := Ideal) q2 c K) := by
  pointwise [k0_pay6]
  refine goes_of_lt ((Finset.lt_fold_max _).mpr (Or.inr ⟨(0, 0), Finset.mem_univ _, ?_⟩))
  show (⊥ : EReal) < k0_pay4 q2 c K (ix2 0 0)
  rw [h 0 0]; exact EReal.bot_lt_coe _

theorem pay29_goes {c : FVec Ideal S512x1 .f32} {msk : IVec S512x256 1} {A B : FVec Ideal S512x256 .f32} {x : ℕ → ℕ → ℝ}
    (h : Is2 (n := 512) (m := 1) (k0_pay27 (F := Ideal) c msk A B nil) x) : goes (F := Ideal) (k0_pay29 (F := Ideal) c msk A B nil) := by
  unfold k0_pay29
  generalize k0_pay27 (F := Ideal) c msk A B nil = C at h ⊢
  pointwise
  refine goes_of_lt ((Finset.lt_fold_max _).mpr (Or.inr ⟨(0, 0), Finset.mem_univ _, ?_⟩))
  show (⊥ : EReal) < C (ix2 0 0)
  rw [h 0 0]; exact EReal.bot_lt_coe _

/-! ### The invariant -/

theorem blk_sumE (f : ℕ → EReal) {n : ℕ} (hn : n < 32) :
    ∑ J ∈ Finset.Ico (256 * (n + 1)) 8192, f J + ∑ x : Fin 256, f (256 * n + x.val) = ∑ J ∈ Finset.Ico (256 * n) 8192, f J := by
  have e : ∑ x : Fin 256, f (256 * n + x.val) = ∑ J ∈ Finset.Ico (256 * n) (256 * (n + 1)), f J := by
    rw [Fin.sum_univ_eq_sum_range (fun x => f (256 * n + x)) 256, Finset.sum_Ico_eq_sum_range, show 256 * (n + 1) - 256 * n = 256 by omega]
  rw [e, add_comm, Finset.sum_Ico_consecutive _ (by omega) (by omega)]

section Inv

variable {q2 : FVec Ideal S512x128 .bf16} {K V : Vec Ideal S8192x128 .bf16} {q k : ℕ → ℕ → ℝ} {v : ℕ → ℕ → EReal} {I : ℕ → ℕ}

/-- The blocks from `n` on are done: the carried sums are real, the output so far is the weights' sum of the values. -/
structure Done (q k : ℕ → ℕ → ℝ) (v : ℕ → ℕ → EReal) (I : ℕ → ℕ) (n : ℕ) (c : FVec Ideal S512x1 .f32) (a : FVec Ideal S512x128 .f32) : Prop where
  c : Is2 (n := 512) (m := 1) c fun r _ => ∑ J ∈ Finset.Ico (256 * n) 8192, ls (I r) (zr q k r) J
  a : ∀ (r : Fin 512) (l : Fin 128), (a (ix2 r l) : EReal) = ∑ J ∈ Finset.Ico (256 * n) 8192, ((wt (I r) (zr q k r) J : ℝ) : EReal) * v J l.val

variable {msk : IVec S512x256 1} {M : ℕ → ℕ → Bool} {n : ℕ} {c : FVec Ideal S512x1 .f32} {a : FVec Ideal S512x128 .f32}

theorem weight_eq (hn : n < 32) (hM : ∀ r < 512, ∀ c < 256, M r c = decide (256 * n + c < I r)) {cc : ℕ → ℝ}
    (hc : ∀ r < 512, cc r = ∑ J ∈ Finset.Ico (256 * (n + 1)) 8192, ls (I r) (zr q k r) J) {r j : ℕ} (hr : r < 512) (hj : j < 256) :
    wN q k M n cc r j = wt (I r) (zr q k r) (256 * n + j) := by
  rw [wN, wR, wt, hM r hr j hj, KernelIdeal.Hand.zN_eq]
  simp only [decide_eq_true_eq]
  refine if_congr Iff.rfl ?_ rfl
  congr 1
  rw [add_assoc]; congr 1
  rw [Finset.sum_congr (s₁ := (Finset.univ : Finset (Fin 256))) rfl fun y _ => by rw [stay_eq hM hr y.isLt], blk_aft _ _ _ hj, hc r hr, af,
    Finset.sum_Ico_consecutive _ (by omega) (by omega)]

theorem acc_at {B W : Vec Ideal S256x128 .bf16} {w : ℕ → ℕ → ℝ} (h : Is2 (n := 512) (m := 256) (wei msk q2 c B) w) (r : Fin 512) (l : Fin 128) :
    (acc msk q2 c a B W (ix2 r l) : EReal) = a (ix2 r l) + ∑ x : Fin 256, ((w r.val x.val : ℝ) : EReal) * W (ix2 x l) := by
  unfold acc
  pointwise [KernelIdeal.Gen.k0_pay4, KernelIdeal.Gen.k0_pay39]
  simp only [h _ _]

/-- A step takes in its block. -/
theorem done_step (hn : n < 32) (hq : Is2 (n := 512) (m := 128) q2 q) (hK : Is2 (n := 8192) (m := 128) K k)
    (hv : ∀ (J : Fin 8192) (l : Fin 128), (V (ix2 J l) : EReal) = v J.val l.val) (hm : IsB (n := 512) (m := 256) msk M)
    (hM : ∀ r < 512, ∀ c < 256, M r c = decide (256 * n + c < I r)) (h : Done q k v I (n + 1) c a) :
    Done q k v I n (car msk q2 c (rowsOf K n)) (acc msk q2 c a (rowsOf K n) (rowsOf V n)) := by
  have hk := rowsOf_is hK hn
  have h41 := KernelIdeal.Hand.pay41_is hq hk
  have h42 := KernelIdeal.Hand.pay42_is hq hk
  have h46 := KernelIdeal.Hand.pay46_is KernelIdeal.Hand.pay17_is hm h41 h42 h.c
  refine ⟨(KernelIdeal.Hand.pay2_is h.c (KernelIdeal.Hand.pay44_is hm h42)).congr fun r hr _ _ => ?_, fun r l => ?_⟩
  · refine Eq.trans ?_ (KernelIdeal.Hand.ico_blk (fun J => ls (I r) (zr q k r) J) hn)
    exact congrArg (_ + ·) (Finset.sum_congr rfl fun y _ => stay_eq hM hr y.isLt)
  · rw [acc_at h46, h.a r l]
    refine Eq.trans ?_ (blk_sumE (fun J => ((wt (I r) (zr q k r) J : ℝ) : EReal) * v J l.val) hn)
    refine congrArg (_ + ·) (Finset.sum_congr rfl fun y _ => ?_)
    have hy := y.isLt
    rw [show (rowsOf V n (ix2 y l) : EReal) = v (256 * n + y.val) l.val from
      (hv ⟨(256 * n + y.val) % 8192, Nat.mod_lt _ (by norm_num)⟩ l).trans (by
        show v ((256 * n + y.val) % 8192) l.val = _
        rw [Nat.mod_eq_of_lt (by omega)])]
    refine congrArg (fun x : ℝ => (x : EReal) * _) ?_
    exact weight_eq hn hM (cc := fun r => ∑ J ∈ Finset.Ico (256 * (n + 1)) 8192, ls (I r) (zr q k r) J) (fun _ _ => rfl) r.isLt hy

/-- A step with everything masked changes nothing. -/
theorem done_off (hn : n < 32) (hq : Is2 (n := 512) (m := 128) q2 q) (hK : Is2 (n := 8192) (m := 128) K k)
    (hm : IsB (n := 512) (m := 256) msk fun _ _ => false) {p : ℕ} (h : Done q k v I p c a) :
    Done q k v I p (car msk q2 c (rowsOf K n)) (acc msk q2 c a (rowsOf K n) (rowsOf V n)) := by
  have hk := rowsOf_is hK hn
  have h41 := KernelIdeal.Hand.pay41_is hq hk
  have h42 := KernelIdeal.Hand.pay42_is hq hk
  have h46 := KernelIdeal.Hand.pay46_is KernelIdeal.Hand.pay17_is hm h41 h42 h.c
  refine ⟨(KernelIdeal.Hand.pay2_is h.c (KernelIdeal.Hand.pay44_is hm h42)).congr fun r hr _ _ => ?_, fun r l => ?_⟩
  · exact (congrArg (_ + ·) (Finset.sum_eq_zero fun y _ => rfl)).trans (add_zero _)
  · rw [acc_at h46, h.a r l]
    refine (congrArg (_ + ·) (Finset.sum_eq_zero fun y _ => ?_)).trans (add_zero _)
    show ((0 : ℝ) : EReal) * _ = 0
    rw [EReal.coe_zero, zero_mul]

/-- The sweep ends with the sums over all keys. -/
theorem sweep_is (hq : Is2 (n := 512) (m := 128) q2 q) (hK : Is2 (n := 8192) (m := 128) K k)
    (hv : ∀ (J : Fin 8192) (l : Fin 128), (V (ix2 J l) : EReal) = v J.val l.val) :
    ∀ n ≤ 32, (∀ r < 512, 256 * n ≤ I r) → ∀ c a (mx : Ideal .f32), goes mx → Done q k v I n c a →
      ∀ (r : Fin 512) (l : Fin 128), (sweep K V q2 k0_pay8 n mx c a (ix2 r l) : EReal)
        = ∑ J ∈ Finset.range 8192, ((wt (I r) (zr q k r) J : ℝ) : EReal) * v J l.val := by
  intro n
  induction n with
  | zero =>
    intro _ _ c a mx hg h r l
    rw [sweep, h.a r l, Finset.range_eq_Ico]
  | succ n ih =>
    intro hn hI c a mx hg h
    rw [sweep, if_pos hg]
    have hs := done_step (msk := ones) (by omega) hq hK hv ones_is
      (fun r hr c hc => by have := hI r hr; simp; omega) h
    refine ih (by omega) (fun r hr => by have := hI r hr; omega) _ _ _ (pay6_goes (pay4_eq q2 c (rowsOf K n) ▸ hs.c)) ?_
    rw [pay4_eq, pay5_eq]; exact hs

/-- A point ends with the sums over all keys. -/
theorem rest_is {i : ℕ} (hi : i < 32) {Q : Vec Ideal S256x128 .bf16} (hq : Is2 (n := 512) (m := 128) (k0_pay9 (F := Ideal) Q) q)
    (hK : Is2 (n := 8192) (m := 128) K k) (hv : ∀ (J : Fin 8192) (l : Fin 128), (V (ix2 J l) : EReal) = v J.val l.val)
    (hI : ∀ r < 512, I r = 256 * i + r % 256) (r : Fin 512) (l : Fin 128) :
    (rest i Q K V (ix2 r l) : EReal) = ∑ J ∈ Finset.range 8192, ((wt (I r) (zr q k r) J : ℝ) : EReal) * v J l.val := by
  have h0 : Done q k v I (i + 1) (k0_pay10 (F := Ideal)) (k0_pay11 (F := Ideal)) := by
    have hz : ∀ r < 512, ∀ J, 256 * (i + 1) ≤ J → I r ≤ J := fun r hr J hJ => by rw [hI r hr]; omega
    refine ⟨fun r _ => ?_, fun r l => ?_⟩
    · beta_reduce
      rw [Finset.sum_eq_zero fun J hJ => ls_off (hz r r.isLt J (Finset.mem_Ico.mp hJ).1)]
      exact KernelIdeal.Hand.pay22_is r 0
    · rw [Finset.sum_eq_zero fun J hJ => by rw [wt_off (hz r r.isLt J (Finset.mem_Ico.mp hJ).1), EReal.coe_zero, zero_mul]]
      exact (KernelIdeal.Hand.pay23_is r l).trans EReal.coe_zero
  have h1 : Done q k v I i (carry1 i Q K) (acc1 i Q K V) :=
    done_step (M := fun r c => decide (c < r % 256)) hi hq hK hv KernelIdeal.Hand.pay16_is (fun r hr c hc => by rw [hI r hr]; simp) h0
  have h2 : Done q k v I (i - 1) (carry2 i Q K) (acc2 i Q K V) := by
    have hm : IsB (n := 512) (m := 256) (msk i) fun _ _ => decide (0 < i) := KernelIdeal.Hand.pay38_is hi
    by_cases hp : 0 < i
    · have e := h1
      rw [show i = i - 1 + 1 by omega] at e
      refine done_step (by omega) hq hK hv hm (fun r hr c hc => by rw [hI r hr]; simp [hp]; omega) (n := i - 1) ?_
      rw [show i - 1 + 1 = i by omega]; exact h1
    · rw [show i - 1 = i by omega]
      refine done_off (by omega) hq hK (n := i - 1) ?_ h1
      intro r c
      rw [hm r c]; simp [hp]
  exact sweep_is hq hK hv (i - 1) (by omega) (fun r hr => by rw [hI r hr]; omega) _ _ _ (pay29_goes h2.c) h2 r l

end Inv

end Cert.AttIdeal.Hand
end
-- ==== Proof.AI.Value.lean ====
/-
  The forward attention's value claim. Its output's entry of query I at lane c is the sum over the keys J of the weight of J
  for I, in the head of c, times the value of J at c: the launch's points leave it block by block, and the reference reads so.
-/
module

public import proofs.«01_k».proof.Defs
public import proofs.«01_k».proof.Proof.AI.Step
public import proofs.«01_k».proof.Proof.F.Fin
public import proofs.«01_k».proof.Proof.Gen.AttRefIdeal.Run
public import Idealize.ShloMosaic.Lib.Pipeline.ValueKit
public import Idealize.ShloMosaic.Lib.Pipeline.Covers

@[expose] public section

set_option maxRecDepth 16384

noncomputable section

namespace Cert.Pre_attention_finite

open Idealize.ShloMosaic Cert.Fin

instance facts : Cert.Pre_attention_finite.Facts := ⟨by decide, by decide, by decide⟩

/-- Where the check is one, the queries and keys hold reals. -/
theorem reals {Q K V : FVec Ideal S8192x1024 .f32} {j : S_.Idx} (h : fn (F := Ideal) Q K V j = 1#1) : (∀ i, IsR (Q i)) ∧ ∀ i, IsR (K i) := by
  dsimp only [fn] at h
  obtain ⟨hq, hk⟩ := and_one h
  exact ⟨isR_of_all hq, isR_of_all hk⟩

end Cert.Pre_attention_finite

namespace Cert.AttIdeal.Hand

open Cert.AttIdeal Cert.AttIdeal.Gen Cert.Rows Cert.Rl
open Cert.KernelIdeal.Hand (zr lane_select bits_eighth)
open Idealize.ShloMosaic Idealize.ShloMosaic.TcCoe Idealize.SL.Sem
open scoped BigOperators

/-! ### Where the windows lie -/

theorem coords_at : ∀ t : Fin grid0.N, (grid0.coords t 1).val = t.val % 32 := by decide +kernel

theorem row0_0 : ∀ t : Fin grid0.N, win0_0.index t 0 = t.val % 32 := by decide +kernel
theorem col0_0 : ∀ t : Fin grid0.N, win0_0.index t 1 = t.val / 32 := by decide +kernel
theorem row0_1 : ∀ t : Fin grid0.N, win0_1.index t 0 = 0 := by decide +kernel
theorem col0_1 : ∀ t : Fin grid0.N, win0_1.index t 1 = t.val / 32 := by decide +kernel
theorem row0_2 : ∀ t : Fin grid0.N, win0_2.index t 0 = 0 := by decide +kernel
theorem col0_2 : ∀ t : Fin grid0.N, win0_2.index t 1 = t.val / 32 := by decide +kernel
theorem row0_3 : ∀ t : Fin grid0.N, win0_3.index t 0 = t.val % 32 := by decide +kernel
theorem col0_3 : ∀ t : Fin grid0.N, win0_3.index t 1 = t.val / 32 := by decide +kernel

section Blocks

variable {F : FTy → Type} [FloatOps F] [Named F]
variable (m : (ℓ : Loc nD τ sig) → Buf (Elt F) ℓ) (c : Dev nD) (t : Fin (cfg0 (F := F)).N) (l : Fin 128)

theorem iblk0_0 (r : Fin 256) (h1 : 256 * (t.val % 32) + r.val < 8192) (h2 : 128 * (t.val / 32) + l.val < 1024) :
    iblk m c 0 t (ix2 r l) = V m c main_v2 (ix2 ⟨256 * (t.val % 32) + r.val, h1⟩ ⟨128 * (t.val / 32) + l.val, h2⟩) := by
  unfold iblk
  blk_ext
  · exact (congrArg (fun x => x * 256 + r.val) (row0_0 t)).trans (by omega)
  · exact (congrArg (fun x => x * 128 + l.val) (col0_0 t)).trans (by omega)

theorem iblk0_1 (r : Fin 8192) (h2 : 128 * (t.val / 32) + l.val < 1024) :
    iblk m c 1 t (ix2 r l) = V m c main_v3 (ix2 r ⟨128 * (t.val / 32) + l.val, h2⟩) := by
  unfold iblk
  blk_ext
  · exact (congrArg (fun x => x * 8192 + r.val) (row0_1 t)).trans (by omega)
  · exact (congrArg (fun x => x * 128 + l.val) (col0_1 t)).trans (by omega)

theorem iblk0_2 (r : Fin 8192) (h2 : 128 * (t.val / 32) + l.val < 1024) :
    iblk m c 2 t (ix2 r l) = V m c main_v4 (ix2 r ⟨128 * (t.val / 32) + l.val, h2⟩) := by
  unfold iblk
  blk_ext
  · exact (congrArg (fun x => x * 8192 + r.val) (row0_2 t)).trans (by omega)
  · exact (congrArg (fun x => x * 128 + l.val) (col0_2 t)).trans (by omega)

theorem V_q : V m c main_v2 = truncf .bf16 (mulf (m ((c.tc : Thread nD τ).loc main_arg0) : FVec F S8192x1024 .f32)
    (broadcastInDim S8192x1024 ![] bcast_S_S8192x1024 (constant S_ .f32 0x3E000000#32))) bitsLt_bf16_f32 := by
  rfl
theorem V_k : V m c main_v3 = truncf .bf16 (m ((c.tc : Thread nD τ).loc main_arg1) : FVec F S8192x1024 .f32) bitsLt_bf16_f32 := by
  rfl
theorem V_v : V m c main_v4 = truncf .bf16 (m ((c.tc : Thread nD τ).loc main_arg2) : FVec F S8192x1024 .f32) bitsLt_bf16_f32 := by
  rfl

end Blocks

/-! ### One point -/

/-- The entry of query `I` at lane `c`. -/
def entry (q k : ℕ → ℕ → ℝ) (v : ℕ → ℕ → EReal) (I c : ℕ) : EReal :=
  ∑ J ∈ Finset.range 8192, ((wt I (zz q k (c / 64) I) J : ℝ) : EReal) * v J c

section Point

variable {h i : ℕ} {q k : ℕ → ℕ → ℝ} {v : ℕ → ℕ → EReal}

theorem pay30_at (A : FVec Ideal S512x128 .f32) (r : Fin 256) (l : Fin 128) :
    (k0_pay30 (F := Ideal) A (ix2 r l) : EReal) = A (ix2 (n0 := 512) ⟨256 * (l.val / 64) + r.val, by omega⟩ l) := by
  pointwise [k0_pay30]
  have hl := l.isLt
  rw [lane_select hl]
  by_cases e : l.val < 64
  · rw [if_pos e]
    exact congrArg (fun x => A (ix2 x l)) (Fin.ext (by show r.val = _; simp only []; omega))
  · rw [if_neg e]
    exact congrArg (fun x => A (ix2 x l)) (Fin.ext (by show 256 + r.val = _; simp only []; omega))

/-- Of blocks of the arrays a point leaves its block of the output. -/
theorem point_is (hi : i < 32) {Q : Vec Ideal S256x128 .bf16} {K V : Vec Ideal S8192x128 .bf16}
    (hQ : Is2 (n := 256) (m := 128) Q fun r l => eighth q (256 * i + r) (128 * h + l)) (hK : Is2 (n := 8192) (m := 128) K (lanes h k))
    (hV : ∀ (J : Fin 8192) (l : Fin 128), (V (ix2 J l) : EReal) = v J.val (128 * h + l.val)) (r : Fin 256) (l : Fin 128) :
    (point i Q K V (ix2 r l) : EReal) = entry q k v (256 * i + r.val) (128 * h + l.val) := by
  have hl := l.isLt
  have hr := r.isLt
  have e := rest_is (v := fun J l => v J (128 * h + l)) (I := fun r => 256 * i + r % 256) hi
    (KernelIdeal.Hand.pay19_tile hQ : Is2 (n := 512) (m := 128) (k0_pay9 (F := Ideal) Q) (tile h i (eighth q))) hK hV (fun _ _ => rfl)
    ⟨256 * (l.val / 64) + r.val, by omega⟩ l
  unfold point
  rw [pay30_at, e, entry]
  refine Finset.sum_congr rfl fun J _ => ?_
  have ez := tile_zz q k h i (r := 256 * (l.val / 64) + r.val) (by omega)
  rw [show (256 * (l.val / 64) + r.val) / 256 = l.val / 64 by omega, show (256 * (l.val / 64) + r.val) % 256 = r.val by omega,
    show 2 * h + l.val / 64 = (128 * h + l.val) / 64 by omega] at ez
  show ((wt (256 * i + (256 * (l.val / 64) + r.val) % 256) (fun J => ∑ l : Fin 128, tile h i (eighth q) (256 * (_ / 64) + r.val) l.val * lanes h k J l.val) J : ℝ) : EReal) * _ = _
  rw [ez, show (256 * (l.val / 64) + r.val) % 256 = r.val by omega]

end Point

/-! ### The launch -/

section Launch

variable {m : (ℓ : Loc nD τ sig) → Buf (Elt Ideal) ℓ} {c : Dev nD} {q k : ℕ → ℕ → ℝ} {v : ℕ → ℕ → EReal}

/-- The queries and keys are arrays of reals; the values are an array. -/
structure Reals (m : (ℓ : Loc nD τ sig) → Buf (Elt Ideal) ℓ) (c : Dev nD) (q k : ℕ → ℕ → ℝ) (v : ℕ → ℕ → EReal) : Prop where
  q : Is2 (n := 8192) (m := 1024) (m (c.tc.loc main_arg0)) q
  k : Is2 (n := 8192) (m := 1024) (m (c.tc.loc main_arg1)) k
  v : ∀ (J : Fin 8192) (l : Fin 1024), (m (c.tc.loc main_arg2) (ix2 J l) : EReal) = v J.val l.val

theorem cover0_3 : ((cfg0 (F := Ideal)).win 3).Covers := by
  refine ((cfg0 (F := Ideal)).win 3).covers_of_index_surj rfl (by decide) fun β => ?_
  have b0 : (β 0).val < 32 := (β 0).isLt
  have b1 : (β 1).val < 8 := (β 1).isLt
  refine ⟨⟨32 * (β 1).val + (β 0).val, Nat.lt_of_lt_of_eq (by omega) N_0.symm⟩, fun a => ?_⟩
  match a with
  | 0 => exact (row0_3 _).trans (by simp only []; omega)
  | 1 => exact (col0_3 _).trans (by simp only []; omega)

variable (H : Reals m c q k v)
include H

theorem in_q (t : Fin (cfg0 (F := Ideal)).N) :
    Is2 (n := 256) (m := 128) (iblk m c 0 t) fun r l => eighth q (256 * (t.val % 32) + r) (128 * (t.val / 32) + l) := by
  intro r l
  have hN : t.val < 256 := Nat.lt_of_lt_of_eq t.isLt N_0
  rw [iblk0_0 m c t l r (by omega) (by omega), V_q]
  have e := H.q ⟨256 * (t.val % 32) + r.val, by omega⟩ ⟨128 * (t.val / 32) + l.val, by omega⟩
  show (_ : EReal) * Ideal.ofBits .f32 0x3E000000#32 = ((q (256 * (t.val % 32) + r.val) (128 * (t.val / 32) + l.val) * 0.125 : ℝ) : EReal)
  rw [bits_eighth, EReal.coe_mul]
  exact congrArg (· * ((0.125 : ℝ) : EReal)) e

theorem in_k (t : Fin (cfg0 (F := Ideal)).N) : Is2 (n := 8192) (m := 128) (iblk m c 1 t) (lanes (t.val / 32) k) := by
  intro r l
  have hN : t.val < 256 := Nat.lt_of_lt_of_eq t.isLt N_0
  rw [iblk0_1 m c t l r (by omega), V_k]
  exact H.k r ⟨128 * (t.val / 32) + l.val, by omega⟩

theorem in_v (t : Fin (cfg0 (F := Ideal)).N) (J : Fin 8192) (l : Fin 128) :
    (iblk m c 2 t (ix2 J l) : EReal) = v J.val (128 * (t.val / 32) + l.val) := by
  have hN : t.val < 256 := Nat.lt_of_lt_of_eq t.isLt N_0
  rw [iblk0_2 m c t l J (by omega), V_v]
  exact H.v J ⟨128 * (t.val / 32) + l.val, by omega⟩

theorem outs_at (t : Fin (cfg0 (F := Ideal)).N) (r : Fin 256) (l : Fin 128) :
    (outs m c t (ix2 r l) : EReal) = entry q k v (256 * (t.val % 32) + r.val) (128 * (t.val / 32) + l.val) := by
  unfold outs
  rw [coords_at t]
  exact point_is (Nat.mod_lt _ (by decide)) (in_q H t) (in_k H t) (in_v H t) r l

theorem arr_o : (dats m 0 c).arrAt 3 (cfg0 (F := Ideal)).N = fun y => entry q k v (y 0).val (y 1).val := by
  refine (dats m 0 c).arrAt_eq_of_covers 3 _ cover0_3 fun t hf y => ?_
  blk_simp
  rw [after0_3]
  have e := outs_at H t (y 0) (y 1)
  rw [row0_3 t, col0_3 t, Nat.mul_comm _ 256, Nat.mul_comm _ 128]
  exact (congrArg _ (eq_ix2 y)).trans e

end Launch

variable (m : (ℓ : Loc nD τ sig) → Buf (Elt Ideal) ℓ) (ρ : Dev nD → PrngReg)

/-- The entries of an array by their coordinates. -/
def entries (x : FVec Ideal S8192x1024 .f32) (r l : ℕ) : EReal :=
  if h : r < 8192 ∧ l < 1024 then x (ix2 (n0 := 8192) (n1 := 1024) ⟨r, h.1⟩ ⟨l, h.2⟩) else 0

theorem entries_at (x : FVec Ideal S8192x1024 .f32) (r : Fin 8192) (l : Fin 1024) : (x (ix2 r l) : EReal) = entries x r.val l.val := by
  rw [entries, dif_pos ⟨r.isLt, l.isLt⟩]

theorem entries_is {x : FVec Ideal S8192x1024 .f32} (h : ∀ i, Cert.Fin.IsR (x i)) :
    Is2 (n := 8192) (m := 1024) x fun r l => (entries x r l).toReal := fun r l => by
  obtain ⟨y, hy⟩ := h (ix2 r l)
  show (x (ix2 r l) : EReal) = ((entries x r.val l.val).toReal : ℝ)
  rw [← entries_at, hy, EReal.toReal_coe]

theorem reals_of_pre (h : Cert.Pre_AttIdeal_attention_finite m) (c : Dev nD) :
    Reals m c (fun r l => (entries (m (c.tc.loc main_arg0)) r l).toReal) (fun r l => (entries (m (c.tc.loc main_arg1)) r l).toReal)
      (entries (m (c.tc.loc main_arg2))) := by
  obtain ⟨hq, hk⟩ := Cert.Pre_attention_finite.reals (congrFun (h c) (fun a => Fin.elim0 a))
  exact ⟨entries_is hq, entries_is hk, entries_at _⟩

/-- The launch leaves the output's array and the arguments as they were. -/
theorem run_arrays : θ_run defs (onTc (τ := τ) (main (F := Ideal))) ⟨m, fun _ => 0, ρ⟩ fun r => ∀ c : Dev nD,
      r.2.mem ((c.tc : Thread nD τ).loc main_v5) = (dats m 0 c).arrAt 3 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, h.2.1 c⟩) (θ_run_and (run_main m ρ) (frame m ρ))

end Cert.AttIdeal.Hand

/-! ### The reference -/

namespace Cert.AttRefIdeal.Hand

open Cert.AttRefIdeal Cert.AttRefIdeal.Gen Cert.Rl
open Cert.ReferenceIdeal.Hand (outp unhd hd wts zed A2 unhd_at hd_at wts_is zed_is)
open Idealize.ShloMosaic Idealize.ShloMosaic.TcCoe
open scoped BigOperators

set_option maxHeartbeats 4000000 in
theorem out_eq {F : FTy → Type} [FloatOps F] (m : (ℓ : Loc nD τ sig) → Buf (Elt F) ℓ) (c : Dev nD) :
    Value.res_out0 m c = outp (F := F) (m ((c.tc : Thread nD τ).loc main_arg0)) (m ((c.tc : Thread nD τ).loc main_arg1)) (m ((c.tc : Thread nD τ).loc main_arg2)) := rfl

theorem outp_at {Q K V : A2 Ideal} {q k : ℕ → ℕ → ℝ} {v : ℕ → ℕ → EReal} (hQ : Is2 Q q) (hK : Is2 K k)
    (hV : ∀ (J : Fin 8192) (l : Fin 1024), (V (ix2 J l) : EReal) = v J.val l.val) (I : Fin 8192) (c : Fin 1024) :
    (outp (F := Ideal) Q K V (ix2 I c) : EReal) = AttIdeal.Hand.entry q k v I.val c.val := by
  unfold outp
  rw [unhd_at]
  have hw := wts_is (zed_is hQ hK)
  generalize wts (F := Ideal) (zed Q K) = W at hw ⊢
  pointwise
  rw [AttIdeal.Hand.entry, ← Fin.sum_univ_eq_sum_range (fun J => ((wt I.val (zz q k (c.val / 64) I.val) J : ℝ) : EReal) * v J c.val) 8192]
  refine Finset.sum_congr rfl fun J _ => ?_
  rw [hw, hd_at, hV]
  simp only [Nat.div_add_mod]

end Cert.AttRefIdeal.Hand

namespace Cert.Proof

open Idealize.ShloMosaic Idealize.SL.Sem

theorem algebraic_att : Cert.algebraic_AttIdeal_AttRefIdeal_pre_attention_finite := by
  intro m g m' g' hpre hagree
  refine ⟨_, Cert.AttIdeal.Hand.run_arrays m g, ?_⟩
  refine (θ_run Cert.AttRefIdeal.defs _ _).mono (fun _ h c => ⟨(h c).1.trans ?_, (h c).2⟩) (Cert.AttRefIdeal.Value.run (F := Ideal) m' g')
  have H := Cert.AttIdeal.Hand.reals_of_pre m hpre c
  obtain ⟨e0, e1, e2⟩ := hagree c
  rw [Cert.AttIdeal.Hand.arr_o H]
  refine (Cert.AttRefIdeal.Hand.out_eq m' c).trans ?_
  rw [e0, e1, e2]
  funext y
  exact (congrArg _ (eq_ix2 y)).trans (Cert.AttRefIdeal.Hand.outp_at H.q H.k H.v (y 0) (y 1))

end Cert.Proof

end
-- ==== Proof.QI.Run.lean ====
/-
  The attention's first product. A row block is normalised at its first point and kept in the buffer its result is written
  back from, so at the later points of the block the product reads it there. The body meets the pipeline's obligation at
  every point, so the program runs, ends with every counter at zero and the arguments unchanged (`frame`), and leaves each
  output array at what the points wrote back (`run_main`).
-/
module

public import proofs.«01_k».proof.Proof.Gen.QkvIdeal.Skeleton
public import proofs.«01_k».proof.Proof.Gen.QkvIdeal.Launch
public import proofs.«01_k».proof.Proof.Gen.QkvIdeal.Points
public import proofs.«01_k».proof.Proof.Rows
public import Idealize.ShloMosaic.Lib.Pipeline.FrameBody
public import Idealize.ShloMosaic.Lib.WordCmp
public import Idealize.ShloMosaic.Lib.Claim

@[expose] public section

set_option maxRecDepth 16384

noncomputable section

namespace Cert.QkvIdeal.Hand

open Cert.QkvIdeal Cert.QkvIdeal.Gen Cert.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Wp

variable (c : Dev nD) (i : grid0.Coords)
  (arg2 : Memref sig .tc .vmem S512x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S512x1024 .bf16) (harg5 : arg5.IsWhole)
  (arg6 : Memref sig .tc .vmem S512x1024 .f32) (harg6 : arg6.IsWhole)
  (x : Vec F S512x1024 .f32) (g : Vec F S1x1024 .f32) (w : Vec F S1024x1024 .bf16) (h : Vec F S512x1024 .bf16) (y : Vec F S512x1024 .f32)

/-- The first point of a row block: the rows are normalised, then multiplied. -/
theorem body_first (hc : k0_cond1 i = 1#1) (E : Set ℕ) (Q : PUnit → sProp 𝕄) :
    iprop(owns (c : Thread nD τ) arg2 fullShare x ∗ owns (c : Thread nD τ) arg3 fullShare g ∗ owns (c : Thread nD τ) arg4 fullShare w
      ∗ owns (c : Thread nD τ) arg5 fullShare h ∗ owns (c : Thread nD τ) arg6 fullShare y
      ∗ ((owns (c : Thread nD τ) arg2 fullShare x ∗ owns (c : Thread nD τ) arg3 fullShare g ∗ owns (c : Thread nD τ) arg4 fullShare w
        ∗ owns (c : Thread nD τ) arg5 fullShare (k0_pay1 x g) ∗ owns (c : Thread nD τ) arg6 fullShare (k0_pay2 (k0_pay1 x g) w)) -∗ Q ⟨⟩))
      ⊢ wp frame (wpE (defs₀ (F := F)) Variants.none (c : Thread nD τ) none) E
          (cc0_qkv_proj i arg2 harg2 arg3 harg3 arg4 harg4 arg5 harg5 arg6 harg6) Q := by
  simp only [cc0_qkv_proj_eq_skeleton]; unfold cc0_qkv_proj_skel
  rw [dif_pos hc]
  simp only [Prog.lift, Prog.bind_op, Prog.bind_ret, Prog.pure_eq_ret]
  iintro ⟨H2, H3, H4, H5, H6, Hk⟩
  iapply (wp_load_all Variants.none (c : Thread nD τ) none E _) $$ H2; iintro H2
  iapply (wp_load_all Variants.none (c : Thread nD τ) none E _) $$ H3; iintro H3
  iapply (wp_load_all Variants.none (c : Thread nD τ) none E _) $$ H5; iintro H5
  iapply (wp_store_all Variants.none (c : Thread nD τ) none E _) $$ H5; iintro H5
  iapply (wp_load_all Variants.none (c : Thread nD τ) none E _) $$ H5; iintro H5
  iapply (wp_load_all Variants.none (c : Thread nD τ) none E _) $$ H4; iintro H4
  iapply (wp_load_all Variants.none (c : Thread nD τ) none E _) $$ H6; iintro H6
  iapply (wp_store_all Variants.none (c : Thread nD τ) none E _) $$ H6; iintro H6
  rw [wp_ret]; imodintro
  iapply Hk
  isplitl [H2]; · iexact H2
  isplitl [H3]; · iexact H3
  isplitl [H4]; · iexact H4
  isplitl [H5]; · iexact H5
  iexact H6

/-- A later point: the rows kept are multiplied. -/
theorem body_later (hc : ¬k0_cond1 i = 1#1) (E : Set ℕ) (Q : PUnit → sProp 𝕄) :
    iprop(owns (c : Thread nD τ) arg2 fullShare x ∗ owns (c : Thread nD τ) arg3 fullShare g ∗ owns (c : Thread nD τ) arg4 fullShare w
      ∗ owns (c : Thread nD τ) arg5 fullShare h ∗ owns (c : Thread nD τ) arg6 fullShare y
      ∗ ((owns (c : Thread nD τ) arg2 fullShare x ∗ owns (c : Thread nD τ) arg3 fullShare g ∗ owns (c : Thread nD τ) arg4 fullShare w
        ∗ owns (c : Thread nD τ) arg5 fullShare h ∗ owns (c : Thread nD τ) arg6 fullShare (k0_pay2 h w)) -∗ Q ⟨⟩))
      ⊢ wp frame (wpE (defs₀ (F := F)) Variants.none (c : Thread nD τ) none) E
          (cc0_qkv_proj i arg2 harg2 arg3 harg3 arg4 harg4 arg5 harg5 arg6 harg6) Q := by
  simp only [cc0_qkv_proj_eq_skeleton]; unfold cc0_qkv_proj_skel
  rw [dif_neg hc]
  simp only [Prog.lift, Prog.bind_op, Prog.bind_ret, Prog.pure_eq_ret]
  iintro ⟨H2, H3, H4, H5, H6, Hk⟩
  iapply (wp_load_all Variants.none (c : Thread nD τ) none E _) $$ H5; iintro H5
  iapply (wp_load_all Variants.none (c : Thread nD τ) none E _) $$ H4; iintro H4
  iapply (wp_load_all Variants.none (c : Thread nD τ) none E _) $$ H6; iintro H6
  iapply (wp_store_all Variants.none (c : Thread nD τ) none E _) $$ H6; iintro H6
  rw [wp_ret]; imodintro
  iapply Hk
  isplitl [H2]; · iexact H2
  isplitl [H3]; · iexact H3
  isplitl [H4]; · iexact H4
  isplitl [H5]; · iexact H5
  iexact H6

end Wp

variable (m : (ℓ : Loc nD τ sig) → Buf (Elt F) ℓ) (ρ : Dev nD → PrngReg)

/-- The arrays of core `c` as the grid finds them: the launch contents after the host operation. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program up to the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes, Finset.mem_singleton]
    exact StableHlo.devRef_ne_of_ne hb))

/-- Window `w`'s block at point `t`, of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The normalised rows of the block point `t` works on. -/
def rows (c : Dev nD) (t : Fin cfg0.N) : Vec F S512x1024 .bf16 := k0_pay1 (iblk m c 0 t) (iblk m c 1 t)

/-- The pipeline's proof data: the inputs at their blocks, the outputs at the rows and their product with the weight's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => k0_pay2 (rows m c t) (iblk m c 2 t)
  Φ _ := Pipeline.ΦA spec0 c
  q _ := fullShare
  owed _ := 0

theorem A_eq (c : Dev nD) (w : Fin cfg0.W) : (dats m 0 c).A w = V m c (Pipeline.arrRef spec0 w) := by
  (dsimp only [dats]) <;> rfl

theorem after0_0 (c : Dev nD) (t : Fin cfg0.N) : (dats m 0 c).after 0 t = iblk m c 0 t := by (dsimp only [dats]) <;> rfl
theorem after0_1 (c : Dev nD) (t : Fin cfg0.N) : (dats m 0 c).after 1 t = iblk m c 1 t := by (dsimp only [dats]) <;> rfl
theorem after0_2 (c : Dev nD) (t : Fin cfg0.N) : (dats m 0 c).after 2 t = iblk m c 2 t := by (dsimp only [dats]) <;> rfl
theorem after0_3 (c : Dev nD) (t : Fin cfg0.N) : (dats m 0 c).after 3 t = rows m c t := by (dsimp only [dats]) <;> rfl
theorem after0_4 (c : Dev nD) (t : Fin cfg0.N) : (dats m 0 c).after 4 t = k0_pay2 (rows m c t) (iblk m c 2 t) := by (dsimp only [dats]) <;> rfl

theorem fetched0_0 (c : Dev nD) (t : Fin cfg0.N) (d) : (dats m 0 c).fetched 0 t d = iblk m c 0 t := by
  unfold Dat.fetched Dat.blockOf iblk; rw [A_eq]; try rfl
theorem fetched0_1 (c : Dev nD) (t : Fin cfg0.N) (d) : (dats m 0 c).fetched 1 t d = iblk m c 1 t := by
  unfold Dat.fetched Dat.blockOf iblk; rw [A_eq]; try rfl
theorem fetched0_2 (c : Dev nD) (t : Fin cfg0.N) (d) : (dats m 0 c).fetched 2 t d = iblk m c 2 t := by
  unfold Dat.fetched Dat.blockOf iblk; rw [A_eq]; try rfl

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (fetched0_0 m c t d)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (fetched0_1 m c t d)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (fetched0_2 m c t d)

/-- The kernel's test picks the first of the three points of a row block. -/
theorem cond_iff (t : Fin cfg0.N) : k0_cond1 (grid0.coords t) = 1#1 ↔ t.val % 3 = 0 :=
  (by decide +kernel : ∀ t : Fin grid0.N, k0_cond1 (grid0.coords t) = 1#1 ↔ t.val % 3 = 0) t

/-- The point before `t`. -/
abbrev prev (t : Fin cfg0.N) : Fin cfg0.N := ⟨t.val - 1, Nat.lt_of_le_of_lt (Nat.sub_le _ _) t.isLt⟩

/-- Within a row block the rows are the same. -/
theorem rows_prev (c : Dev nD) (t : Fin cfg0.N) (ht : ¬t.val % 3 = 0) : rows m c (prev t) = rows m c t := by
  have f0 : (cfg0.win 0).fetch t = false := Bool.eq_false_iff.mpr fun h => ht ((fetch0_0 t).mp h)
  have f1 : (cfg0.win 1).fetch t = false := Bool.eq_false_iff.mpr fun h => by have := (fetch0_1 t).mp h; omega
  have i0 := (Pipeline.Window.index_eq_of_fetch (cfg0.win 0) rfl t f0).2
  have i1 := (Pipeline.Window.index_eq_of_fetch (cfg0.win 1) rfl t f1).2
  have e0 : iblk m c 0 (prev t) = iblk m c 0 t :=
    ((fetched0_0 m c (prev t) (iblk m c 0 t)).symm.trans ((dats m 0 c).fetched_congr 0 i0.symm rfl (iblk m c 0 t))).trans (fetched0_0 m c t (iblk m c 0 t))
  have e1 : iblk m c 1 (prev t) = iblk m c 1 t :=
    ((fetched0_1 m c (prev t) (iblk m c 1 t)).symm.trans ((dats m 0 c).fetched_congr 1 i1.symm rfl (iblk m c 1 t))).trans (fetched0_1 m c t (iblk m c 1 t))
  unfold rows
  rw [e0, e1]

theorem idle_first (t : Fin cfg0.N) (ht : t.val % 3 = 0) : cfg0.idle 3 (cfg0.grid.coords t) = false := by
  show (!(k0_cond1 (grid0.coords t) == 1#1)) = false
  rw [(cond_iff t).mpr ht]; rfl

theorem idle_later (t : Fin cfg0.N) (ht : ¬t.val % 3 = 0) : cfg0.idle 3 (cfg0.grid.coords t) = true := by
  have h : ¬k0_cond1 (grid0.coords t) = 1#1 := fun h => ht ((cond_iff t).mp h)
  show (!(k0_cond1 (grid0.coords t) == 1#1)) = true
  rw [Bool.not_eq_true', beq_eq_false_iff_ne]; exact h

theorem flush_not (t : Fin cfg0.N) (ht : ¬t.val % 3 = 2) : (cfg0.win 3).flush t = false :=
  Bool.eq_false_iff.mpr fun h => ht ((flush0_3 t).mp h)

/-- At the second point of a row block the rows' buffer holds what the first left. -/
theorem before_second (c : Dev nD) (t : Fin cfg0.N) (ht : t.val % 3 = 1) (d) : (dats m 0 c).before 3 t d = rows m c t := by
  have hp : (prev t).val % 3 = 0 := by show (t.val - 1) % 3 = 0; omega
  rw [(dats m 0 c).before_of_pos 3 t (by omega) ((cfg0.win 3).fetch_out rfl t),
    show (cfg0.win 3).flush ⟨t.val - 1, Nat.lt_of_le_of_lt (Nat.sub_le _ _) t.isLt⟩ = false from flush_not (prev t) (by omega),
    if_neg Bool.false_ne_true]
  unfold Dat.left
  rw [show cfg0.idle 3 (cfg0.grid.coords ⟨t.val - 1, Nat.lt_of_le_of_lt (Nat.sub_le _ _) t.isLt⟩) = false from idle_first (prev t) hp]
  show (dats m 0 c).kept 3 (prev t) d = rows m c t
  rw [← rows_prev m c t (by omega)]
  unfold Dat.kept
  rw [after0_3]
  rfl

/-- At each later one as well. -/
theorem before_later (c : Dev nD) (t : Fin cfg0.N) (ht : ¬t.val % 3 = 0) (d) : (dats m 0 c).before 3 t d = rows m c t := by
  by_cases h1 : t.val % 3 = 1
  · exact before_second m c t h1 d
  have hp : (prev t).val % 3 = 1 := by show (t.val - 1) % 3 = 1; omega
  rw [(dats m 0 c).before_of_pos 3 t (by omega) ((cfg0.win 3).fetch_out rfl t),
    show (cfg0.win 3).flush ⟨t.val - 1, Nat.lt_of_le_of_lt (Nat.sub_le _ _) t.isLt⟩ = false from flush_not (prev t) (by omega),
    if_neg Bool.false_ne_true]
  unfold Dat.left
  rw [show cfg0.idle 3 (cfg0.grid.coords ⟨t.val - 1, Nat.lt_of_le_of_lt (Nat.sub_le _ _) t.isLt⟩) = true from idle_later (prev t) (by omega)]
  show (dats m 0 c).before 3 (prev t) d = rows m c t
  rw [before_second m c (prev t) hp d, rows_prev m c t ht]

/-- The rows' buffer at the rows is what every point has to leave there. -/
theorem leaves_rows (c : Dev nD) (t : Fin cfg0.N) :
    (owns (c : Thread nD τ) (st0_3 t) fullShare (rows m c t) : sProp 𝕄) ⊢ (dats m 0 c).leavesExact 3 t := by
  unfold Dat.leavesExact
  by_cases h0 : t.val % 3 = 0
  · rw [idle_first t h0]
    show _ ⊢ (owns (c : Thread nD τ) (st0_3 t) fullShare ((dats m 0 c).after 3 t) : sProp 𝕄)
    rw [after0_3]
  rw [idle_later t h0]
  by_cases h2 : t.val % 3 = 2
  · rw [(flush0_3 t).mpr h2]
    show _ ⊢ (owns (c : Thread nD τ) (st0_3 t) fullShare ((dats m 0 c).after 3 t) : sProp 𝕄)
    rw [after0_3]
  · rw [flush_not t h2]
    show _ ⊢ (iprop(∃ d, owns (c : Thread nD τ) (st0_3 t) fullShare ((dats m 0 c).before 3 t d)) : sProp 𝕄)
    iintro H
    iexists (rows m c t)
    rw [before_later m c t h0]
    iexact H

/-! ### The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h0 : t.val % 3 = 0
  case' pos =>
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) _ _ ((cond_iff t).mpr h0) Set.univ _)
  case' neg =>
    simp only [before_later m c t h0]
    iintro ⟨HΦ, Ho, ⟨%d0, H0⟩, ⟨%d1, H1⟩, ⟨%d2, H2⟩, ⟨%d3, H3⟩, ⟨%d4, H4⟩⟩
    iapply (body_later c (grid0.coords t) _ _ _ _ _ _ _ _ _ _ (iblk m c 0 t) (iblk m c 1 t) (iblk m c 2 t) (rows m c t) _ (fun h => h0 ((cond_iff t).mp h)) Set.univ _)
  all_goals
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (leaves_rows m c t); unfold rows; iexact H3
    unfold rows
    iexact H4

theorem defs₀_row (t : Fin cfg0.N) :
    defs₀ (F := F) .tc cfg0.body (cfg0.bodyArgs t (cfg0.slots t)) = bodyAt0 t := by
  unfold defs₀; rw [Defs.onTc_tc]

/-- The obligation the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

-- the run's implicit arguments are found by unifying its conclusion with this one
set_option backward.isDefEq.respectTransparency.types false in
/-- Every execution ends with each array of the pipeline at what the points wrote back and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide : ∀ w, (spec0 w).arr.view.ref ≠ main_arg2))).trans (V_arg m c main_arg2 (by decide))⟩) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_args m ρ) ((θ_run defs _ _).mono (fun _ h => h.2) (run_main_quiescent m ρ))

end Cert.QkvIdeal.Hand

end
-- ==== Proof.F.Qkv.lean ====
/-
  The attention's first product: the normalised rows and their product with the weight are the reference's terms, entry by entry.
-/
module

public import proofs.«01_k».proof.Defs
public import proofs.«01_k».proof.Proof.QI.Run
public import proofs.«01_k».proof.Proof.Gen.QkvRefIdeal.Run
public import Idealize.ShloMosaic.Lib.Pipeline.ValueKit

@[expose] public section

set_option maxRecDepth 16384

noncomputable section

namespace Cert.QkvRefIdeal.Hand

open Cert.QkvRefIdeal Cert.QkvRefIdeal.Gen Idealize.ShloMosaic

variable {F : FTy → Type} [FloatOps F] (x : FVec F S8192x1024 .f32) (g : FVec F S1x1024 .f32) (w : FVec F S1024x3072 .f32)

/-- The rows, normalised. -/
def norm : FVec F S8192x1024 .f32 :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g)

/-- The two results. -/
def out0 : FVec F S8192x1024 .bf16 := truncf .bf16 (norm x g) bitsLt_bf16_f32
def out1 : FVec F S8192x3072 .f32 := Host.dotGeneral dot_S8192x1024_S1024x3072_S8192x3072_1_0_0_1_n_n none (norm x g) w

end Cert.QkvRefIdeal.Hand

namespace Cert.QkvIdeal.Hand

open Cert.QkvIdeal Cert.QkvIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val / 3 ∧ win0_0.index t 1 = 0
      ∧ win0_1.index t 0 = 0 ∧ win0_1.index t 1 = 0
      ∧ win0_2.index t 0 = 0 ∧ win0_2.index t 1 = t.val % 3
      ∧ win0_3.index t 0 = t.val / 3 ∧ win0_3.index t 1 = 0
      ∧ win0_4.index t 0 = t.val / 3 ∧ win0_4.index t 1 = t.val % 3 :=
  (by decide +kernel : ∀ t : Fin grid0.N, win0_0.index t 0 = t.val / 3 ∧ win0_0.index t 1 = 0
      ∧ win0_1.index t 0 = 0 ∧ win0_1.index t 1 = 0
      ∧ win0_2.index t 0 = 0 ∧ win0_2.index t 1 = t.val % 3
      ∧ win0_3.index t 0 = t.val / 3 ∧ win0_3.index t 1 = 0
      ∧ win0_4.index t 0 = t.val / 3 ∧ win0_4.index t 1 = t.val % 3) t

theorem V_x : V m c main_arg0 = m ((c.tc : Thread nD τ).loc main_arg0) := V_arg m c main_arg0 (by decide)
theorem V_g : V m c main_arg1 = m ((c.tc : Thread nD τ).loc main_arg1) := V_arg m c main_arg1 (by decide)
theorem V_w : V m c main_v0 = truncf (F := Ideal) (s := S1024x3072) .bf16 (m ((c.tc : Thread nD τ).loc main_arg2)) bitsLt_bf16_f32 := by
  rfl

/-- The normalised rows. -/
theorem arr0 : (dats m 0 c).arrAt 3 cfg0.N = Cert.QkvRefIdeal.Hand.out0 (F := Ideal) (m ((c.tc : Thread nD τ).loc main_arg0)) (m ((c.tc : Thread nD τ).loc main_arg1)) := by
  refine (dats m 0 c).arrAt_eq_of_covers 3 _ (by decide +kernel) fun t hf y => ?_
  obtain ⟨a0, a0', a1, a1', a2, a2', a3, a3', a4, a4'⟩ := idx t
  blk_simp
  rw [after0_3]
  unfold rows
  unfold k0_pay1 Cert.QkvRefIdeal.Hand.out0 Cert.QkvRefIdeal.Hand.norm
  pointwise
  blk_point [iblk, V_x, V_g, a0, a0', a1, a1', a2, a2', a3, a3', a4, a4']

/-- Their product with the weight. -/
theorem arr1 : (dats m 0 c).arrAt 4 cfg0.N = Cert.QkvRefIdeal.Hand.out1 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨a0, a0', a1, a1', a2, a2', a3, a3', a4, a4'⟩ := idx t
  blk_simp
  rw [after0_4]
  unfold rows
  unfold k0_pay2 k0_pay1 Cert.QkvRefIdeal.Hand.out1 Cert.QkvRefIdeal.Hand.norm
  pointwise
  blk_point [iblk, V_x, V_g, V_w, a0, a0', a1, a1', a2, a2', a3, a3', a4, a4']

/-- The launch leaves the outputs' arrays and the arguments as they were. -/
theorem run_arrays (ρ : Dev nD → PrngReg) : θ_run defs (onTc (τ := τ) (main (F := Ideal))) ⟨m, fun _ => 0, ρ⟩ fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, (h.1 c).1 4, h.2.1 c⟩) (θ_run_and (run_main m ρ) (frame m ρ))

end Cert.QkvIdeal.Hand

namespace Cert.Proof

open Idealize.ShloMosaic Idealize.SL.Sem

theorem algebraic_qkv : Cert.algebraic_QkvIdeal_QkvRefIdeal := by
  intro m g m' g' _ hagree
  refine ⟨_, _, Cert.QkvIdeal.Hand.run_arrays m g, ?_⟩
  refine (θ_run Cert.QkvRefIdeal.defs _ _).mono (fun _ h c => ⟨(h c).1.trans ?_, (h c).2.1.trans ?_, (h c).2.2⟩) (Cert.QkvRefIdeal.Value.run (F := Ideal) m' g')
  all_goals obtain ⟨e0, e1, e2⟩ := hagree c
  · rw [Cert.QkvIdeal.Hand.arr0, ← e0, ← e1]; rfl
  · rw [Cert.QkvIdeal.Hand.arr1, ← e0, ← e1, ← e2]; rfl

end Cert.Proof
end
-- ==== Proof.F.Pgr.lean ====
/-
  The gradients of the pooling's group projections: each of the four groups of channels is multiplied by its own matrix.
  The gradient of the pooled rows is written stretch by stretch; those of the matrices and of the scale are added up over
  the stretches.
-/
module

public import proofs.«01_k».proof.Defs
public import proofs.«01_k».proof.Proof.Gen.PgrIdeal.Value
public import proofs.«01_k».proof.Proof.Gen.PgrRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.PgrRefIdeal.Hand

open Cert.PgrRefIdeal Cert.PgrRefIdeal.Gen Idealize.ShloMosaic

variable {F : FTy → Type} [FloatOps F] (d : FVec F S8192x1024 .f32) (p : FVec F S8192x1024 .bf16) (w : FVec F S4x256x256 .f32) (s : FVec F S1x1024 .f32)

/-- The scaled gradient, group by group, and the pooled rows, group by group. -/
def dy : FVec F S4x256x8192 .f32 :=
  transpose S4x256x8192 [1, 2, 0] (shapeCast _ (mulf d (broadcastInDim S8192x1024 ![0, 1] bcast_S1x1024_S8192x1024_0_1 s)) shapeCasts_S8192x1024_S8192x4x256) transposes_S8192x4x256_S4x256x8192_1_2_0
def pg : FVec F S8192x4x256 .f32 := shapeCast _ (extf .f32 p bitsLt_bf16_f32) shapeCasts_S8192x1024_S8192x4x256

/-- The three results. -/
def out0 : FVec F S8192x1024 .f32 :=
  shapeCast _ (transpose S8192x4x256 [1, 0, 2] (Host.dotGeneral dot_S4x256x8192_S4x256x256_S4x8192x256_1_2_2_1_0_0 none (dy d s) w) transposes_S4x8192x256_S8192x4x256_1_0_2) shapeCasts_S8192x4x256_S8192x1024
def out1 : FVec F S4x256x256 .bf16 :=
  truncf .bf16 (transpose S4x256x256 [0, 2, 1] (Host.dotGeneral dot_S4x256x8192_S8192x4x256_S4x256x256_2_0_1_2_0_1 none (dy d s) (pg p)) transposes_S4x256x256_S4x256x256_0_2_1) bitsLt_bf16_f32
def out2 : FVec F S1x1024 .f32 :=
  shapeCast _ (Host.reduceAdd (mulf (shapeCast _ (transpose S8192x4x256 [2, 0, 1] (Host.dotGeneral dot_S4x256x256_S8192x4x256_S4x256x8192_1_2_2_0_0_1 none w (pg p)) transposes_S4x256x8192_S8192x4x256_2_0_1) shapeCasts_S8192x4x256_S8192x1024) d) (constant S_ .f32 0x00000000#32) reducesTo_S8192x1024_S1024_d0 h_S_) shapeCasts_S1024_S1x1024

end Cert.PgrRefIdeal.Hand

namespace Cert.PgrIdeal.Hand

open Cert.PgrIdeal Cert.PgrIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0 ∧ win0_1.index t 0 = t.val ∧ win0_1.index t 1 = 0
      ∧ win0_2.index t 0 = 0 ∧ win0_2.index t 1 = 0 ∧ win0_2.index t 2 = 0 ∧ win0_3.index t 0 = 0 ∧ win0_3.index t 1 = 0
      ∧ win0_4.index t 0 = t.val ∧ win0_4.index t 1 = 0
      ∧ win0_5.index t 0 = 0 ∧ win0_5.index t 1 = 0 ∧ win0_5.index t 2 = 0 ∧ win0_6.index t 0 = 0 ∧ win0_6.index t 1 = 0 :=
  (by decide +kernel : ∀ t : Fin grid0.N, win0_0.index t 0 = t.val ∧ win0_0.index t 1 = 0 ∧ win0_1.index t 0 = t.val ∧ win0_1.index t 1 = 0
      ∧ win0_2.index t 0 = 0 ∧ win0_2.index t 1 = 0 ∧ win0_2.index t 2 = 0 ∧ win0_3.index t 0 = 0 ∧ win0_3.index t 1 = 0
      ∧ win0_4.index t 0 = t.val ∧ win0_4.index t 1 = 0
      ∧ win0_5.index t 0 = 0 ∧ win0_5.index t 1 = 0 ∧ win0_5.index t 2 = 0 ∧ win0_6.index t 0 = 0 ∧ win0_6.index t 1 = 0) t

/-- The arguments. -/
abbrev D : FVec Ideal S8192x1024 .f32 := m ((c.tc : Thread nD τ).loc main_arg0)
abbrev P : FVec Ideal S8192x1024 .bf16 := m ((c.tc : Thread nD τ).loc main_arg1)
abbrev W : FVec Ideal S4x256x256 .f32 := m ((c.tc : Thread nD τ).loc main_arg2)
abbrev S : FVec Ideal S1x1024 .f32 := m ((c.tc : Thread nD τ).loc main_arg3)

theorem V_w : V m c main_v0 = truncf (F := Ideal) (s := S4x256x256) .bf16 (W m c) bitsLt_bf16_f32 := by
  rfl

/-- Channel `k` of the group that channel `j` lies in. -/
abbrev ch (j : Fin 1024) (k : Fin 256) : Fin 1024 := ⟨j.val / 256 * 256 + k.val, by omega⟩
abbrev gr (j : Fin 1024) : Fin 4 := ⟨j.val / 256, by omega⟩
abbrev lc (j : Fin 1024) : Fin 256 := ⟨j.val % 256, by omega⟩

/-- Channel `k` of group `g`. -/
abbrev gc (g : Fin 4) (k : Fin 256) : Fin 1024 := ⟨g.val * 256 + k.val, by omega⟩

theorem out0_apply (d : FVec Ideal S8192x1024 .f32) (w : FVec Ideal S4x256x256 .f32) (s : FVec Ideal S1x1024 .f32) (y : S8192x1024.Idx) :
    (Cert.PgrRefIdeal.Hand.out0 d w s y : EReal) = ∑ k : Fin 256, (d (ix2 (n0 := 8192) (n1 := 1024) (y 0) (ch (y 1) k)) : EReal) * s (ix2 (n0 := 1) (n1 := 1024) 0 (ch (y 1) k))
      * w (ix3 (n0 := 4) (n1 := 256) (n2 := 256) (gr (y 1)) (lc (y 1)) k) := by
  unfold Cert.PgrRefIdeal.Hand.out0 Cert.PgrRefIdeal.Hand.dy
  pointwise

theorem out1_apply (d : FVec Ideal S8192x1024 .f32) (p : FVec Ideal S8192x1024 .bf16) (s : FVec Ideal S1x1024 .f32) (y : S4x256x256.Idx) :
    (Cert.PgrRefIdeal.Hand.out1 d p s y : EReal) = ∑ r : Fin 8192, (p (ix2 (n0 := 8192) (n1 := 1024) r (gc (y 0) (y 1))) : EReal)
      * ((d (ix2 (n0 := 8192) (n1 := 1024) r (gc (y 0) (y 2))) : EReal) * s (ix2 (n0 := 1) (n1 := 1024) 0 (gc (y 0) (y 2)))) := by
  unfold Cert.PgrRefIdeal.Hand.out1 Cert.PgrRefIdeal.Hand.dy Cert.PgrRefIdeal.Hand.pg
  pointwise
  exact Finset.sum_congr rfl fun r _ => EReal.mul_comm _ _

theorem out2_apply (d : FVec Ideal S8192x1024 .f32) (p : FVec Ideal S8192x1024 .bf16) (w : FVec Ideal S4x256x256 .f32) (y : S1x1024.Idx) :
    (Cert.PgrRefIdeal.Hand.out2 d p w y : EReal) = ∑ r : Fin 8192, (d (ix2 (n0 := 8192) (n1 := 1024) r (y 1)) : EReal)
      * ∑ k : Fin 256, (p (ix2 (n0 := 8192) (n1 := 1024) r (ch (y 1) k)) : EReal) * w (ix3 (n0 := 4) (n1 := 256) (n2 := 256) (gr (y 1)) k (lc (y 1))) := by
  unfold Cert.PgrRefIdeal.Hand.out2 Cert.PgrRefIdeal.Hand.pg
  pointwise
  exact Finset.sum_congr rfl fun r _ => (EReal.mul_comm _ _).trans
    (congrArg (_ * ·) (Finset.sum_congr rfl fun k _ => EReal.mul_comm _ _))

/-- One stretch's sums. -/
abbrev Mat : Type := FVec Ideal S4x256x256 .f32

def wsum (p : FVec Ideal S256x1024 .bf16) (d : FVec Ideal S256x1024 .f32) (s : FVec Ideal S1x1024 .f32) (y : S4x256x256.Idx) : EReal :=
  ∑ r : Fin 256, (p (ix2 (n0 := 256) (n1 := 1024) r (gc (y 0) (y 1))) : EReal)
    * ((d (ix2 (n0 := 256) (n1 := 1024) r (gc (y 0) (y 2))) : EReal) * s (ix2 (n0 := 1) (n1 := 1024) 0 (gc (y 0) (y 2))))

/-- The four stores into the scratch. -/
abbrev wlist (p : FVec Ideal S256x1024 .bf16) (d : FVec Ideal S256x1024 .f32) (s : FVec Ideal S1x1024 .f32) (z : Mat) : List (View.Piece (Elt Ideal) S4x256x256 .f32) :=
  [⟨Rect.unit ![3, 0, 0] ![1, 256, 256] inb_S4x256x256_S1x256x256_3_0_0,
    k0_pay21 (F := Ideal) (View.ld (Val := Elt Ideal) (e' := .bf16) p (Rect.unit (s := S256x1024) ![0, 768] ![256, 256] inb_S256x1024_S256x256_0_768)) (View.ld (Val := Elt Ideal) (e' := .f32) d (Rect.unit (s := S256x1024) ![0, 768] ![256, 256] inb_S256x1024_S256x256_0_768))
      (View.ld (Val := Elt Ideal) (e' := .f32) s (Rect.unit (s := S1x1024) ![0, 768] ![1, 256] inb_S1x1024_S1x256_0_768)) (View.ld (Val := Elt Ideal) (e' := .f32) z (Rect.unit (s := S4x256x256) ![3, 0, 0] ![1, 256, 256] inb_S4x256x256_S1x256x256_3_0_0))⟩,
  ⟨Rect.unit ![2, 0, 0] ![1, 256, 256] inb_S4x256x256_S1x256x256_2_0_0,
    k0_pay17 (F := Ideal) (View.ld (Val := Elt Ideal) (e' := .bf16) p (Rect.unit (s := S256x1024) ![0, 512] ![256, 256] inb_S256x1024_S256x256_0_512)) (View.ld (Val := Elt Ideal) (e' := .f32) d (Rect.unit (s := S256x1024) ![0, 512] ![256, 256] inb_S256x1024_S256x256_0_512))
      (View.ld (Val := Elt Ideal) (e' := .f32) s (Rect.unit (s := S1x1024) ![0, 512] ![1, 256] inb_S1x1024_S1x256_0_512)) (View.ld (Val := Elt Ideal) (e' := .f32) z (Rect.unit (s := S4x256x256) ![2, 0, 0] ![1, 256, 256] inb_S4x256x256_S1x256x256_2_0_0))⟩,
  ⟨Rect.unit ![1, 0, 0] ![1, 256, 256] inb_S4x256x256_S1x256x256_1_0_0,
    k0_pay13 (F := Ideal) (k0_pay12 (View.ld (Val := Elt Ideal) (e' := .bf16) p (Rect.unit (s := S256x1024) ![0, 256] ![256, 256] inb_S256x1024_S256x256_0_256)) (View.ld (Val := Elt Ideal) (e' := .f32) d (Rect.unit (s := S256x1024) ![0, 256] ![256, 256] inb_S256x1024_S256x256_0_256))
      (View.ld (Val := Elt Ideal) (e' := .f32) s (Rect.unit (s := S1x1024) ![0, 256] ![1, 256] inb_S1x1024_S1x256_0_256)) (View.ld (Val := Elt Ideal) (e' := .f32) z (Rect.unit (s := S4x256x256) ![1, 0, 0] ![1, 256, 256] inb_S4x256x256_S1x256x256_1_0_0)))⟩,
  ⟨Rect.unit ![0, 0, 0] ![1, 256, 256] inb_S4x256x256_S1x256x256_0_0_0,
    k0_pay8 (F := Ideal) (k0_pay7 (View.ld (Val := Elt Ideal) (e' := .bf16) p (Rect.unit (s := S256x1024) ![0, 0] ![256, 256] inb_S256x1024_S256x256_0_0)) (View.ld (Val := Elt Ideal) (e' := .f32) d (Rect.unit (s := S256x1024) ![0, 0] ![256, 256] inb_S256x1024_S256x256_0_0))
      (View.ld (Val := Elt Ideal) (e' := .f32) s (Rect.unit (s := S1x1024) ![0, 0] ![1, 256] inb_S1x1024_S1x256_0_0)) (View.ld (Val := Elt Ideal) (e' := .f32) z (Rect.unit (s := S4x256x256) ![0, 0, 0] ![1, 256, 256] inb_S4x256x256_S1x256x256_0_0_0)))⟩]

theorem wlist_canon (p : FVec Ideal S256x1024 .bf16) (d : FVec Ideal S256x1024 .f32) (s : FVec Ideal S1x1024 .f32) (z : Mat)
    (L : List (View.Piece (Elt Ideal) S4x256x256 .f32)) (y : S4x256x256.Idx) :
    (View.canon (wlist p d s z ++ L) y : EReal) = z y + wsum p d s y := by
  refine View.canon_append_of_piecesOf (fun y => (z y + wsum p d s y : EReal)) L (wlist p d s z) ⟨fun x => ?_, fun x => ?_, fun x => ?_, fun x => ?_, trivial⟩ y
    (View.cover_of_tiledL (wlist p d s z) S1x256x256.size (by sl_kernel_rfl) y)
  · dsimp only
    unfold k0_pay21 k0_pay19 wsum
    pointwise
    blk_point []
    all_goals simp [ValueKit.rect_emb_unit_val]
  · dsimp only
    unfold k0_pay17 k0_pay15 wsum
    pointwise
    blk_point []
    all_goals simp [ValueKit.rect_emb_unit_val]
  · dsimp only
    unfold k0_pay13 k0_pay12 k0_pay10 wsum
    pointwise
    blk_point []
    all_goals simp [ValueKit.rect_emb_unit_val]
  · dsimp only
    unfold k0_pay8 k0_pay7 k0_pay5 wsum
    pointwise
    blk_point []
    all_goals simp [ValueKit.rect_emb_unit_val]

/-- One stretch's rows of the gradient in the pooled values. -/
def dsum (d : FVec Ideal S256x1024 .f32) (s : FVec Ideal S1x1024 .f32) (w : FVec Ideal S4x256x256 .bf16) (y : S256x1024.Idx) : EReal :=
  ∑ k : Fin 256, ((d (ix2 (n0 := 256) (n1 := 1024) (y 0) (ch (y 1) k)) : EReal) * s (ix2 (n0 := 1) (n1 := 1024) 0 (ch (y 1) k)))
    * w (ix3 (n0 := 4) (n1 := 256) (n2 := 256) (gr (y 1)) (lc (y 1)) k)

/-- The four stores into that block. -/
abbrev dlist (d : FVec Ideal S256x1024 .f32) (s : FVec Ideal S1x1024 .f32) (w : FVec Ideal S4x256x256 .bf16) : List (View.Piece (Elt Ideal) S256x1024 .f32) :=
  [⟨Rect.unit ![0, 768] ![256, 256] inb_S256x1024_S256x256_0_768,
    k0_pay20 (F := Ideal) (View.ld (Val := Elt Ideal) (e' := .f32) d (Rect.unit (s := S256x1024) ![0, 768] ![256, 256] inb_S256x1024_S256x256_0_768))
      (View.ld (Val := Elt Ideal) (e' := .f32) s (Rect.unit (s := S1x1024) ![0, 768] ![1, 256] inb_S1x1024_S1x256_0_768)) (View.ld (Val := Elt Ideal) (e' := .bf16) w (Rect.unit (s := S4x256x256) ![3, 0, 0] ![1, 256, 256] inb_S4x256x256_S1x256x256_3_0_0))⟩,
  ⟨Rect.unit ![0, 512] ![256, 256] inb_S256x1024_S256x256_0_512,
    k0_pay16 (F := Ideal) (View.ld (Val := Elt Ideal) (e' := .f32) d (Rect.unit (s := S256x1024) ![0, 512] ![256, 256] inb_S256x1024_S256x256_0_512))
      (View.ld (Val := Elt Ideal) (e' := .f32) s (Rect.unit (s := S1x1024) ![0, 512] ![1, 256] inb_S1x1024_S1x256_0_512)) (View.ld (Val := Elt Ideal) (e' := .bf16) w (Rect.unit (s := S4x256x256) ![2, 0, 0] ![1, 256, 256] inb_S4x256x256_S1x256x256_2_0_0))⟩,
  ⟨Rect.unit ![0, 256] ![256, 256] inb_S256x1024_S256x256_0_256,
    k0_pay11 (F := Ideal) (View.ld (Val := Elt Ideal) (e' := .f32) d (Rect.unit (s := S256x1024) ![0, 256] ![256, 256] inb_S256x1024_S256x256_0_256))
      (View.ld (Val := Elt Ideal) (e' := .f32) s (Rect.unit (s := S1x1024) ![0, 256] ![1, 256] inb_S1x1024_S1x256_0_256)) (View.ld (Val := Elt Ideal) (e' := .bf16) w (Rect.unit (s := S4x256x256) ![1, 0, 0] ![1, 256, 256] inb_S4x256x256_S1x256x256_1_0_0))⟩,
  ⟨Rect.unit ![0, 0] ![256, 256] inb_S256x1024_S256x256_0_0,
    k0_pay6 (F := Ideal) (View.ld (Val := Elt Ideal) (e' := .f32) d (Rect.unit (s := S256x1024) ![0, 0] ![256, 256] inb_S256x1024_S256x256_0_0))
      (View.ld (Val := Elt Ideal) (e' := .f32) s (Rect.unit (s := S1x1024) ![0, 0] ![1, 256] inb_S1x1024_S1x256_0_0)) (View.ld (Val := Elt Ideal) (e' := .bf16) w (Rect.unit (s := S4x256x256) ![0, 0, 0] ![1, 256, 256] inb_S4x256x256_S1x256x256_0_0_0))⟩]

theorem dlist_canon (d : FVec Ideal S256x1024 .f32) (s : FVec Ideal S1x1024 .f32) (w : FVec Ideal S4x256x256 .bf16)
    (L : List (View.Piece (Elt Ideal) S256x1024 .f32)) (y : S256x1024.Idx) :
    (View.canon (dlist d s w ++ L) y : EReal) = dsum d s w y := by
  refine View.canon_append_of_piecesOf (fun y => (dsum d s w y : EReal)) L (dlist d s w) ⟨fun x => ?_, fun x => ?_, fun x => ?_, fun x => ?_, trivial⟩ y
    (View.cover_of_tiledL (dlist d s w) S256x256.size (by sl_kernel_rfl) y)
  · dsimp only
    unfold k0_pay20 k0_pay19 dsum
    pointwise
    blk_point []
    all_goals (simp [ValueKit.rect_emb_unit_val]; omega)
  · dsimp only
    unfold k0_pay16 k0_pay15 dsum
    pointwise
    blk_point []
    all_goals (simp [ValueKit.rect_emb_unit_val]; omega)
  · dsimp only
    unfold k0_pay11 k0_pay10 dsum
    pointwise
    blk_point []
    all_goals (simp [ValueKit.rect_emb_unit_val]; omega)
  · dsimp only
    unfold k0_pay6 k0_pay5 dsum
    pointwise
    blk_point []
    all_goals (simp [ValueKit.rect_emb_unit_val]; omega)

/-- One stretch's sums of the gradient in the scale. -/
def csum (p : FVec Ideal S256x1024 .bf16) (d : FVec Ideal S256x1024 .f32) (w : FVec Ideal S4x256x256 .bf16) (y : S1x1024.Idx) : EReal :=
  ∑ r : Fin 256, (d (ix2 (n0 := 256) (n1 := 1024) r (y 1)) : EReal)
    * ∑ k : Fin 256, (p (ix2 (n0 := 256) (n1 := 1024) r (ch (y 1) k)) : EReal) * w (ix3 (n0 := 4) (n1 := 256) (n2 := 256) (gr (y 1)) k (lc (y 1)))

/-- The four stores into that row. -/
abbrev clist (p : FVec Ideal S256x1024 .bf16) (d : FVec Ideal S256x1024 .f32) (w : FVec Ideal S4x256x256 .bf16) (z : FVec Ideal S1x1024 .f32) : List (View.Piece (Elt Ideal) S1x1024 .f32) :=
  [⟨Rect.unit ![0, 768] ![1, 256] inb_S1x1024_S1x256_0_768,
    k0_pay18 (F := Ideal) (View.ld (Val := Elt Ideal) (e' := .bf16) p (Rect.unit (s := S256x1024) ![0, 768] ![256, 256] inb_S256x1024_S256x256_0_768)) (View.ld (Val := Elt Ideal) (e' := .f32) d (Rect.unit (s := S256x1024) ![0, 768] ![256, 256] inb_S256x1024_S256x256_0_768))
      (View.ld (Val := Elt Ideal) (e' := .bf16) w (Rect.unit (s := S4x256x256) ![3, 0, 0] ![1, 256, 256] inb_S4x256x256_S1x256x256_3_0_0)) (View.ld (Val := Elt Ideal) (e' := .f32) z (Rect.unit (s := S1x1024) ![0, 768] ![1, 256] inb_S1x1024_S1x256_0_768))⟩,
  ⟨Rect.unit ![0, 512] ![1, 256] inb_S1x1024_S1x256_0_512,
    k0_pay14 (F := Ideal) (View.ld (Val := Elt Ideal) (e' := .bf16) p (Rect.unit (s := S256x1024) ![0, 512] ![256, 256] inb_S256x1024_S256x256_0_512)) (View.ld (Val := Elt Ideal) (e' := .f32) d (Rect.unit (s := S256x1024) ![0, 512] ![256, 256] inb_S256x1024_S256x256_0_512))
      (View.ld (Val := Elt Ideal) (e' := .bf16) w (Rect.unit (s := S4x256x256) ![2, 0, 0] ![1, 256, 256] inb_S4x256x256_S1x256x256_2_0_0)) (View.ld (Val := Elt Ideal) (e' := .f32) z (Rect.unit (s := S1x1024) ![0, 512] ![1, 256] inb_S1x1024_S1x256_0_512))⟩,
  ⟨Rect.unit ![0, 256] ![1, 256] inb_S1x1024_S1x256_0_256,
    k0_pay9 (F := Ideal) (View.ld (Val := Elt Ideal) (e' := .bf16) p (Rect.unit (s := S256x1024) ![0, 256] ![256, 256] inb_S256x1024_S256x256_0_256)) (View.ld (Val := Elt Ideal) (e' := .f32) d (Rect.unit (s := S256x1024) ![0, 256] ![256, 256] inb_S256x1024_S256x256_0_256))
      (View.ld (Val := Elt Ideal) (e' := .bf16) w (Rect.unit (s := S4x256x256) ![1, 0, 0] ![1, 256, 256] inb_S4x256x256_S1x256x256_1_0_0)) (View.ld (Val := Elt Ideal) (e' := .f32) z (Rect.unit (s := S1x1024) ![0, 256] ![1, 256] inb_S1x1024_S1x256_0_256))⟩,
  ⟨Rect.unit ![0, 0] ![1, 256] inb_S1x1024_S1x256_0_0,
    k0_pay4 (F := Ideal) (View.ld (Val := Elt Ideal) (e' := .bf16) p (Rect.unit (s := S256x1024) ![0, 0] ![256, 256] inb_S256x1024_S256x256_0_0)) (View.ld (Val := Elt Ideal) (e' := .f32) d (Rect.unit (s := S256x1024) ![0, 0] ![256, 256] inb_S256x1024_S256x256_0_0))
      (View.ld (Val := Elt Ideal) (e' := .bf16) w (Rect.unit (s := S4x256x256) ![0, 0, 0] ![1, 256, 256] inb_S4x256x256_S1x256x256_0_0_0)) (View.ld (Val := Elt Ideal) (e' := .f32) z (Rect.unit (s := S1x1024) ![0, 0] ![1, 256] inb_S1x1024_S1x256_0_0))⟩]

theorem clist_canon (p : FVec Ideal S256x1024 .bf16) (d : FVec Ideal S256x1024 .f32) (w : FVec Ideal S4x256x256 .bf16) (z : FVec Ideal S1x1024 .f32)
    (L : List (View.Piece (Elt Ideal) S1x1024 .f32)) (y : S1x1024.Idx) :
    (View.canon (clist p d w z ++ L) y : EReal) = z y + csum p d w y := by
  refine View.canon_append_of_piecesOf (fun y => (z y + csum p d w y : EReal)) L (clist p d w z) ⟨fun x => ?_, fun x => ?_, fun x => ?_, fun x => ?_, trivial⟩ y
    (View.cover_of_tiledL (clist p d w z) S1x256.size (by sl_kernel_rfl) y)
  · dsimp only
    unfold k0_pay18 csum
    pointwise
    blk_point []
    all_goals (simp [ValueKit.rect_emb_unit_val]; omega)
  · dsimp only
    unfold k0_pay14 csum
    pointwise
    blk_point []
    all_goals (simp [ValueKit.rect_emb_unit_val]; omega)
  · dsimp only
    unfold k0_pay9 csum
    pointwise
    blk_point []
    all_goals (simp [ValueKit.rect_emb_unit_val]; omega)
  · dsimp only
    unfold k0_pay4 csum
    pointwise
    blk_point []
    all_goals (simp [ValueKit.rect_emb_unit_val]; omega)

theorem out_dp (t : Fin cfg0.N) (y : S256x1024.Idx) :
    ((outsAt0 m c t.val t.isLt).1 y : EReal) = dsum (iblk m c 0 t) (iblk m c 3 t) (iblk m c 2 t) y := by
  by_cases h0 : t.val % 32 = 0
  · rw [outsAt0_A m c t h0 (by omega)]
    frame_out
    exact dlist_canon (iblk m c 0 t) (iblk m c 3 t) (iblk m c 2 t) [] y
  · by_cases h1 : t.val % 32 = 31
    · rw [outsAt0_C m c t h0 h1]
      frame_out
      exact dlist_canon (iblk m c 0 t) (iblk m c 3 t) (iblk m c 2 t) [] y
    · rw [outsAt0_B m c t h0 h1]
      frame_out
      exact dlist_canon (iblk m c 0 t) (iblk m c 3 t) (iblk m c 2 t) [] y

/-- The gradient in the pooled values. -/
theorem arr0 : (dats m 0 c).arrAt 4 cfg0.N = Cert.PgrRefIdeal.Hand.out0 (F := Ideal) (D m c) (W m c) (S m c) := by
  refine (dats m 0 c).arrAt_eq_of_covers 4 _ (by decide +kernel) fun t hf y => ?_
  obtain ⟨a0, a0', a1, a1', a2, a2', a2'', a3, a3', a4, a4', -⟩ := idx t
  blk_simp
  rw [after0_4]
  refine (out_dp m c t y).trans (Eq.trans ?_ (out0_apply ..).symm)
  unfold dsum
  blk_point [iblk, V_w, D, W, S, a0, a0', a2, a2', a2'', a3, a3', a4, a4']
  all_goals blk_simp [a4, a4']

/-- What is being added up for the matrices. -/
def held (n : ℕ) (h : n < cfg0.N) (y : S4x256x256.Idx) : EReal := (outsAt0 m c n h).2.2.2 y

def term (t : Fin cfg0.N) (y : S4x256x256.Idx) : EReal := wsum (iblk m c 1 t) (iblk m c 0 t) (iblk m c 3 t) y

theorem held_first (t : Fin cfg0.N) (h : t.val % 32 = 0) (y : S4x256x256.Idx) : held m c t.val t.isLt y = 0 + term m c t y := by
  rw [held, outsAt0_A m c t h (by omega)]
  frame_open
  simp (disch := decide) only [↓ View.readCov_skip, ↓ View.readCov_cons_toLoadRect, ↓ View.readCov_fill]
  frame_out
  refine (wlist_canon (iblk m c 1 t) (iblk m c 0 t) (iblk m c 3 t) (k0_pay2 (F := Ideal)) [_] y).trans ?_
  unfold k0_pay2 term
  pointwise

theorem held_next (t : Fin cfg0.N) (h : ¬t.val % 32 = 0) (y : S4x256x256.Idx) :
    held m c t.val t.isLt y = held m c (t.val - 1) (Nat.lt_of_le_of_lt (Nat.sub_le _ _) t.isLt) y + term m c t y := by
  by_cases h1 : t.val % 32 = 31
  · rw [held, outsAt0_C m c t h h1]
    frame_out
    simp only [read_unread_whole]
    exact wlist_canon (iblk m c 1 t) (iblk m c 0 t) (iblk m c 3 t) (outsAt0 m c (t.val - 1) (Nat.lt_of_le_of_lt (Nat.sub_le _ _) t.isLt)).2.2.2 [] y
  · rw [held, outsAt0_B m c t h h1]
    frame_out
    simp only [read_unread_whole]
    exact wlist_canon (iblk m c 1 t) (iblk m c 0 t) (iblk m c 3 t) (outsAt0 m c (t.val - 1) (Nat.lt_of_le_of_lt (Nat.sub_le _ _) t.isLt)).2.2.2 [] y

/-- The gradient in the matrices. -/
theorem arr1 : (dats m 0 c).arrAt 5 cfg0.N = Cert.PgrRefIdeal.Hand.out1 (F := Ideal) (D m c) (P m c) (S m c) := by
  refine (dats m 0 c).arrAt_eq_of_covers 5 _ (by decide +kernel) fun t hf y => ?_
  have h5 := (flush0_5 t).mp hf
  have hz := (idx t).2.2.2.2.2.2.2.2.2.2.2
  have e := Pipeline.eq_sum_fin_of_reset_step_apply_of_flush (held m c) 32 (fun _ => 0) (term m c) (held_first m c) (held_next m c) t h5
  obtain ⟨b, b', b'', -⟩ := hz
  blk_simp
  rw [after0_5]
  have e5 : (outsAt0 m c t.val t.isLt).2.1 = k0_pay1 (F := Ideal) ((outsAt0 m c t.val t.isLt).2.2.2) := by
    rw [outsAt0_C m c t (by omega) h5]
    funext y
    frame_out
    simp only [read_unread_whole]
    refine congrFun (congrArg (k0_pay1 (F := Ideal)) ?_) y
    rw [View.readCov_eq_canon_ld _ _ _ fun y => View.cover_of_tiledL (wlist (iblk m c 1 t) (iblk m c 0 t) (iblk m c 3 t)
      (outsAt0 m c (t.val - 1) (Nat.lt_of_le_of_lt (Nat.sub_le _ _) t.isLt)).2.2.2) S1x256x256.size (by sl_kernel_rfl) y]
    funext y
    frame_out
  rw [e5]
  unfold held at e
  generalize (outsAt0 m c t.val t.isLt).2.2.2 = q at e ⊢
  refine Eq.trans ?_ (out1_apply ..).symm
  unfold k0_pay1
  pointwise
  rw [e, zero_add]
  simp only [term, wsum]
  refine Fin.sum_mul_add_congr (S := 32) (n := 256) fun s k hl => ?_
  generalize hu : (⟨32 * (t.val / 32) + s.val, _⟩ : Fin cfg0.N) = u
  have hv : u.val = 32 * (t.val / 32) + s.val := by rw [← hu]
  have ht : t.val < 32 := t.isLt
  obtain ⟨a0, a0', a1, a1', -, -, -, a3, a3', -⟩ := idx u
  blk_point [iblk, D, P, S, a0, a0', a1, a1', a3, a3', b, b', b'']
  all_goals blk_simp [b, b', b'']

/-- What is being added up for the scale. -/
def heldc (n : ℕ) (h : n < cfg0.N) (y : S1x1024.Idx) : EReal := (outsAt0 m c n h).2.2.1 y

def termc (t : Fin cfg0.N) (y : S1x1024.Idx) : EReal := csum (iblk m c 1 t) (iblk m c 0 t) (iblk m c 2 t) y

theorem heldc_first (t : Fin cfg0.N) (h : t.val % 32 = 0) (y : S1x1024.Idx) : heldc m c t.val t.isLt y = 0 + termc m c t y := by
  rw [heldc, outsAt0_A m c t h (by omega)]
  frame_open
  simp (disch := decide) only [↓ View.readCov_skip, ↓ View.readCov_cons_toLoadRect, ↓ View.readCov_fill]
  frame_out
  refine (clist_canon (iblk m c 1 t) (iblk m c 0 t) (iblk m c 2 t) (k0_pay3 (F := Ideal)) [_] y).trans ?_
  unfold k0_pay3 termc
  pointwise

theorem heldc_next (t : Fin cfg0.N) (h : ¬t.val % 32 = 0) (y : S1x1024.Idx) :
    heldc m c t.val t.isLt y = heldc m c (t.val - 1) (Nat.lt_of_le_of_lt (Nat.sub_le _ _) t.isLt) y + termc m c t y := by
  by_cases h1 : t.val % 32 = 31
  · rw [heldc, outsAt0_C m c t h h1]
    frame_out
    exact clist_canon (iblk m c 1 t) (iblk m c 0 t) (iblk m c 2 t) (outsAt0 m c (t.val - 1) (Nat.lt_of_le_of_lt (Nat.sub_le _ _) t.isLt)).2.2.1 [] y
  · rw [heldc, outsAt0_B m c t h h1]
    frame_out
    exact clist_canon (iblk m c 1 t) (iblk m c 0 t) (iblk m c 2 t) (outsAt0 m c (t.val - 1) (Nat.lt_of_le_of_lt (Nat.sub_le _ _) t.isLt)).2.2.1 [] y

/-- The gradient in the scale. -/
theorem arr2 : (dats m 0 c).arrAt 6 cfg0.N = Cert.PgrRefIdeal.Hand.out2 (F := Ideal) (D m c) (P m c) (W m c) := by
  refine (dats m 0 c).arrAt_eq_of_covers 6 _ (by decide +kernel) fun t hf y => ?_
  have h6 := (flush0_6 t).mp hf
  have e := Pipeline.eq_sum_fin_of_reset_step_apply_of_flush (heldc m c) 32 (fun _ => 0) (termc m c) (heldc_first m c) (heldc_next m c) t h6 y
  have hz := (idx t).2.2.2.2.2.2.2.2.2.2.2
  obtain ⟨-, -, -, b, b'⟩ := hz
  blk_simp
  rw [after0_6]
  refine Eq.trans e (Eq.trans ?_ (out2_apply ..).symm)
  rw [zero_add]
  simp only [termc, csum]
  refine Fin.sum_mul_add_congr (S := 32) (n := 256) fun s k hl => ?_
  generalize hu : (⟨32 * (t.val / 32) + s.val, _⟩ : Fin cfg0.N) = u
  have hv : u.val = 32 * (t.val / 32) + s.val := by rw [← hu]
  have ht : t.val < 32 := t.isLt
  obtain ⟨a0, a0', a1, a1', a2, a2', a2'', -⟩ := idx u
  blk_point [iblk, V_w, D, P, W, a0, a0', a1, a1', a2, a2', a2'', b, b']
  all_goals blk_simp [b, b']

end Cert.PgrIdeal.Hand

namespace Cert.Proof

open Idealize.ShloMosaic Idealize.SL.Sem

theorem algebraic_pgr : Cert.algebraic_PgrIdeal_PgrRefIdeal := by
  intro m g m' g' _ hagree
  refine ⟨_, _, _, Cert.PgrIdeal.Value.run_blocks m g, ?_⟩
  refine (θ_run Cert.PgrRefIdeal.defs _ _).mono (fun _ h c => ⟨(h c).1.trans ?_, (h c).2.1.trans ?_, (h c).2.2.1.trans ?_, (h c).2.2.2⟩)
    (Cert.PgrRefIdeal.Value.run (F := Ideal) m' g')
  all_goals obtain ⟨e0, e1, e2, e3⟩ := hagree c
  · rw [Cert.PgrIdeal.Hand.arr0]
    dsimp only [Cert.PgrIdeal.Hand.D, Cert.PgrIdeal.Hand.W, Cert.PgrIdeal.Hand.S]
    rw [← e0, ← e2, ← e3]; rfl
  · rw [Cert.PgrIdeal.Hand.arr1]
    dsimp only [Cert.PgrIdeal.Hand.D, Cert.PgrIdeal.Hand.P, Cert.PgrIdeal.Hand.S]
    rw [← e0, ← e1, ← e3]; rfl
  · rw [Cert.PgrIdeal.Hand.arr2]
    dsimp only [Cert.PgrIdeal.Hand.D, Cert.PgrIdeal.Hand.P, Cert.PgrIdeal.Hand.W]
    rw [← e0, ← e1, ← e2]; rfl

end Cert.Proof
end
-- ==== Proof.F.Los.lean ====
/-
  The loss head: the gradient of the loss entry by entry, and the loss itself, whose mean squares are added up over sixteen
  stretches of rows.
-/
module

public import proofs.«01_k».proof.Defs
public import proofs.«01_k».proof.Proof.F.NormBwd
public import proofs.«01_k».proof.Proof.Gen.LosIdeal.Value
public import proofs.«01_k».proof.Proof.Gen.LosRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.LosRefIdeal.Hand

open Cert.LosRefIdeal Cert.LosRefIdeal.Gen Idealize.ShloMosaic

variable {F : FTy → Type} [FloatOps F] (y t : FVec F S8192x1024 .f32)

/-- The loss's gradient and the loss in every entry of a tile. -/
def out0 : FVec F S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf y t))
def out1 : FVec F S8x128 .f32 :=
  broadcastInDim S8x128 ![] bcast_S_S8x128 (mulf (constant S_ .f32 0x3F000000#32) (Host.reduceAdd (Host.divf (Host.reduceAdd (mulf (subf y t) (subf y t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

end Cert.LosRefIdeal.Hand

namespace Cert.LosIdeal.Hand

open Cert.LosIdeal Cert.LosIdeal.Gen
open Idealize.ShloMosaic Idealize.ShloMosaic.TcCoe Idealize.SL.Sem

variable (m : (ℓ : Loc nD τ sig) → Buf (Elt Ideal) ℓ) (c : Dev nD)

theorem idx (t : Fin cfg0.N) :
    win0_0.index t 0 = t.val ∧ win0_0.index t 1 = 0
      ∧ win0_1.index t 0 = t.val ∧ win0_1.index t 1 = 0
      ∧ win0_2.index t 0 = t.val ∧ win0_2.index t 1 = 0
      ∧ win0_3.index t 0 = 0 ∧ win0_3.index t 1 = 0 :=
  (by decide +kernel : ∀ t : Fin grid0.N, win0_0.index t 0 = t.val ∧ win0_0.index t 1 = 0
      ∧ win0_1.index t 0 = t.val ∧ win0_1.index t 1 = 0
      ∧ win0_2.index t 0 = t.val ∧ win0_2.index t 1 = 0
      ∧ win0_3.index t 0 = 0 ∧ win0_3.index t 1 = 0) t

/-- The output and the target. -/
abbrev Y : FVec Ideal S8192x1024 .f32 := m ((c.tc : Thread nD τ).loc main_arg0)
abbrev T : FVec Ideal S8192x1024 .f32 := m ((c.tc : Thread nD τ).loc main_arg1)

/-- A half of twice a 1024th is a 1024th. -/
theorem scale (e : EReal) :
    Ideal.div (Ideal.ofBits .f32 0x3F000000#32) (Ideal.ofBits .f32 0x44800000#32) * (Ideal.ofBits .f32 0x40000000#32 * e)
      = e * Ideal.ofBits .f32 0x3A800000#32 := by
  have h2 : Ideal.ofBits .f32 0x40000000#32 = ((2 : ℝ) : EReal) := by
    simp [Ideal.ofBits, Ideal.ieee, -EReal.coe_mul]; norm_num
  have hh : Ideal.ofBits .f32 0x3F000000#32 = ((2⁻¹ : ℝ) : EReal) := by
    simp [Ideal.ofBits, Ideal.ieee, -EReal.coe_mul]; norm_num
  have hs : Ideal.ofBits .f32 0x3A800000#32 = ((1024⁻¹ : ℝ) : EReal) := by
    simp [Ideal.ofBits, Ideal.ieee, -EReal.coe_mul]; norm_num
  rw [h2, hh, hs, Cert.Fin.bits_1024, Ideal.div_coe (by norm_num), ← mul_assoc, mul_comm e]
  congr 1
  norm_cast
  norm_num

/-- The gradient. -/
theorem arr0 : (dats m 0 c).arrAt 2 cfg0.N = Cert.LosRefIdeal.Hand.out0 (F := Ideal) (Y m c) (T m c) := by
  refine (dats m 0 c).arrAt_eq_of_covers 2 _ (by decide +kernel) fun t hf y => ?_
  obtain ⟨a0, a0', a1, a1', a2, a2', -⟩ := idx t
  blk_simp
  rw [after0_2]
  have e : (outsAt0 m c t.val t.isLt).1 = k0_pay3 (F := Ideal) (iblk m c 0 t) (iblk m c 1 t) := by
    by_cases h0 : t.val % 16 = 0
    · rw [outsAt0_A m c t h0 (by omega)]
      funext y
      frame_out
    · by_cases h1 : t.val % 16 = 15
      · rw [outsAt0_C m c t h0 h1]
        funext y
        frame_out
      · rw [outsAt0_B m c t h0 h1]
        funext y
        frame_out
  rw [e]
  unfold Cert.LosRefIdeal.Hand.out0 k0_pay3 k0_pay2
  pointwise
  refine Eq.trans ?_ (scale _).symm
  blk_point [iblk, Y, T, a0, a0', a1, a1', a2, a2']

/-- One stretch of rows' part of the loss, before it is halved. -/
def part (a b : FVec Ideal S512x1024 .f32) : EReal :=
  ∑ k : Fin 512, Ideal.div (∑ j : Fin 1024, ((a (ix2 (n0 := 512) (n1 := 1024) k j) : EReal) - b (ix2 (n0 := 512) (n1 := 1024) k j))
    * ((a (ix2 (n0 := 512) (n1 := 1024) k j) : EReal) - b (ix2 (n0 := 512) (n1 := 1024) k j))) (Ideal.ofBits .f32 0x44800000#32)

def term (t : Fin cfg0.N) (_ : S8x128.Idx) : EReal := part (iblk m c 0 t) (iblk m c 1 t)

theorem pay4_apply (t : Fin cfg0.N) (v : FVec Ideal S8x128 .f32) (y : S8x128.Idx) :
    k0_pay4 (F := Ideal) (iblk m c 0 t) (iblk m c 1 t) v y = (v y + term m c t y : EReal) := by
  unfold k0_pay4 k0_pay2 term part
  pointwise

/-- What is being added up. -/
def held (n : ℕ) (h : n < cfg0.N) (y : S8x128.Idx) : EReal := (outsAt0 m c n h).2.2 y

theorem held_first (t : Fin cfg0.N) (h : t.val % 16 = 0) (y : S8x128.Idx) : held m c t.val t.isLt y = 0 + term m c t y := by
  rw [held, outsAt0_A m c t h (by omega)]
  frame_out
  refine (pay4_apply m c t _ y).trans ?_
  unfold k0_pay1
  pointwise

theorem held_next (t : Fin cfg0.N) (h : ¬t.val % 16 = 0) (y : S8x128.Idx) :
    held m c t.val t.isLt y = held m c (t.val - 1) (Nat.lt_of_le_of_lt (Nat.sub_le _ _) t.isLt) y + term m c t y := by
  by_cases h1 : t.val % 16 = 15
  · rw [held, outsAt0_C m c t h h1]
    frame_out
    refine (pay4_apply m c t _ y).trans ?_
    simp only [read_unread_whole]
    rfl
  · rw [held, outsAt0_B m c t h h1]
    frame_out
    refine (pay4_apply m c t _ y).trans ?_
    simp only [read_unread_whole]
    rfl

/-- The loss. -/
theorem arr1 : (dats m 0 c).arrAt 3 cfg0.N = Cert.LosRefIdeal.Hand.out1 (F := Ideal) (Y m c) (T m c) := by
  refine (dats m 0 c).arrAt_eq_of_covers 3 _ (by decide +kernel) fun t hf y => ?_
  have h3 := (flush0_3 t).mp hf
  have e := Pipeline.eq_sum_fin_of_reset_step_apply_of_flush (held m c) 16 (fun _ => 0) (term m c) (held_first m c) (held_next m c) t h3 y
  blk_simp
  rw [after0_3]
  have e5 : (outsAt0 m c t.val t.isLt).2.1 = k0_pay5 (F := Ideal) ((outsAt0 m c t.val t.isLt).2.2) := by
    rw [outsAt0_C m c t (by omega) h3]
    funext y
    frame_out
  rw [e5]
  unfold held at e
  generalize (outsAt0 m c t.val t.isLt).2.2 = q at e ⊢
  unfold Cert.LosRefIdeal.Hand.out1 k0_pay5
  pointwise
  rw [e, zero_add]
  refine congrArg (_ * ·) ?_
  simp only [term, part]
  refine Fin.sum_mul_add_congr (S := 16) (n := 512) fun s k hl => ?_
  refine congrArg (Ideal.div · _) (Finset.sum_congr rfl fun j _ => ?_)
  generalize hu : (⟨16 * (t.val / 16) + s.val, _⟩ : Fin cfg0.N) = u
  have hv : u.val = 16 * (t.val / 16) + s.val := by rw [← hu]
  have ht : t.val < 16 := t.isLt
  obtain ⟨a0, a0', a1, a1', -⟩ := idx u
  blk_point [iblk, Y, T, a0, a0', a1, a1']

end Cert.LosIdeal.Hand

namespace Cert.Proof

open Idealize.ShloMosaic Idealize.SL.Sem

theorem algebraic_los : Cert.algebraic_LosIdeal_LosRefIdeal := by
  intro m g m' g' _ hagree
  refine ⟨_, _, Cert.LosIdeal.Value.run_blocks m g, ?_⟩
  refine (θ_run Cert.LosRefIdeal.defs _ _).mono (fun _ h c => ⟨(h c).1.trans ?_, (h c).2.1.trans ?_, (h c).2.2⟩)
    (Cert.LosRefIdeal.Value.run (F := Ideal) m' g')
  all_goals obtain ⟨e0, e1⟩ := hagree c
  · rw [Cert.LosIdeal.Hand.arr0]
    dsimp only [Cert.LosIdeal.Hand.Y, Cert.LosIdeal.Hand.T]
    rw [← e0, ← e1]; rfl
  · rw [Cert.LosIdeal.Hand.arr1]
    dsimp only [Cert.LosIdeal.Hand.Y, Cert.LosIdeal.Hand.T]
    rw [← e0, ← e1]; rfl

end Cert.Proof
end
-- ==== Proof.F.Ads.lean ====
/-
  One step of the optimiser on the small parameters. The gradient is the sum of the eight devices' parts, which the kernel
  adds one after the other and the reference as one sum; the moments and the update are the same operations of it.
-/
module

public import proofs.«01_k».proof.Defs
public import proofs.«01_k».proof.Proof.Gen.AdsIdeal.Value
public import proofs.«01_k».proof.Proof.Gen.AdsRefIdeal.Run
public import Idealize.ShloMosaic.Lib.Pipeline.ValueKit
public import Idealize.ShloMosaic.Lib.IdealHost

@[expose] public section

set_option maxRecDepth 16384

noncomputable section

namespace Cert.AdsIdeal.Hand

open Cert.AdsIdeal Cert.AdsIdeal.Gen
open Idealize.ShloMosaic

variable (p : Vec Ideal S192x1024 .f32) (w u v : Vec Ideal S24x1024 .f32)

/-- The reference's gradient. -/
def grad : FVec Ideal S24x1024 .f32 :=
  Host.reduceAdd (shapeCast _ p Cert.AdsRefIdeal.Gen.shapeCasts_S192x1024_S8x24x1024) (constant Cert.AdsRefIdeal.S_ .f32 0x00000000#32) Cert.AdsRefIdeal.Gen.reducesTo_S8x24x1024_S24x1024_d0 Cert.AdsRefIdeal.Gen.h_S_

theorem grad_apply (y : S24x1024.Idx) :
    (grad p y : EReal) = ∑ k : Fin 8, (p (ix2 (n0 := 192) (n1 := 1024) ⟨24 * k.val + (y 0).val, by have := k.isLt; have : (y 0).val < 24 := (y 0).isLt; omega⟩ (y 1)) : EReal) := by
  unfold grad
  pointwise
  exact Finset.sum_congr rfl fun k _ => by simp only [Nat.mul_comm k.val 24]

theorem grad_eq : Value.G4 p w u v = grad p := by
  funext y
  refine Eq.trans ?_ (grad_apply p y).symm
  unfold Value.G4 k0_pay2
  pointwise
  simp only [Fin.sum_univ_eight]
  simp

/-- The reference's moments and update, from its gradient `g`. -/
def mom (g : FVec Ideal S24x1024 .f32) : FVec Ideal S24x1024 .f32 :=
  addf (mulf (broadcastInDim Cert.AdsRefIdeal.S24x1024 ![] Cert.AdsRefIdeal.Gen.bcast_S_S24x1024 (constant Cert.AdsRefIdeal.S_ .f32 0x3F666666#32)) u)
    (mulf (broadcastInDim Cert.AdsRefIdeal.S24x1024 ![] Cert.AdsRefIdeal.Gen.bcast_S_S24x1024 (constant Cert.AdsRefIdeal.S_ .f32 0x3DCCCCCD#32)) g)
def sq (g : FVec Ideal S24x1024 .f32) : FVec Ideal S24x1024 .f32 :=
  addf (mulf (broadcastInDim Cert.AdsRefIdeal.S24x1024 ![] Cert.AdsRefIdeal.Gen.bcast_S_S24x1024 (constant Cert.AdsRefIdeal.S_ .f32 0x3F7FBE77#32)) v)
    (mulf (broadcastInDim Cert.AdsRefIdeal.S24x1024 ![] Cert.AdsRefIdeal.Gen.bcast_S_S24x1024 (constant Cert.AdsRefIdeal.S_ .f32 0x3A83126F#32)) (mulf g g))
def delta (g : FVec Ideal S24x1024 .f32) : FVec Ideal S24x1024 .f32 :=
  mulf (broadcastInDim Cert.AdsRefIdeal.S24x1024 ![] Cert.AdsRefIdeal.Gen.bcast_S_S24x1024 (constant Cert.AdsRefIdeal.S_ .f32 0xBA83126F#32))
    (addf (Host.divf (Host.divf (mom u g) (broadcastInDim Cert.AdsRefIdeal.S24x1024 ![] Cert.AdsRefIdeal.Gen.bcast_S_S24x1024 (constant Cert.AdsRefIdeal.S_ .f32 0x3F26BD02#32)))
      (addf (Host.sqrt (Host.divf (sq v g) (broadcastInDim Cert.AdsRefIdeal.S24x1024 ![] Cert.AdsRefIdeal.Gen.bcast_S_S24x1024 (constant Cert.AdsRefIdeal.S_ .f32 0x3C231ACC#32))))
        (broadcastInDim Cert.AdsRefIdeal.S24x1024 ![] Cert.AdsRefIdeal.Gen.bcast_S_S24x1024 (constant Cert.AdsRefIdeal.S_ .f32 0x322BCC77#32))))
      (mulf (broadcastInDim Cert.AdsRefIdeal.S24x1024 ![] Cert.AdsRefIdeal.Gen.bcast_S_S24x1024 (constant Cert.AdsRefIdeal.S_ .f32 0x3C23D70A#32)) w))

theorem mom_eq : Value.G6 p w u v = mom u (grad p) := by
  have h := grad_eq p w u v
  unfold Value.G4 at h
  unfold Value.G6 k0_pay3 mom
  rw [h]
  generalize grad p = g
  funext y
  pointwise

theorem sq_eq : Value.G7 p w u v = sq v (grad p) := by
  have h := grad_eq p w u v
  unfold Value.G4 at h
  unfold Value.G7 k0_pay7 k0_pay4 sq
  rw [h]
  generalize grad p = g
  funext y
  pointwise

theorem delta_eq : Value.G5 p w u v = delta w u v (grad p) := by
  have h6 := mom_eq p w u v
  have h7 := sq_eq p w u v
  unfold Value.G6 at h6
  unfold Value.G7 at h7
  unfold Value.G5 k0_pay1 k0_pay5 k0_pay6 delta
  rw [h6, h7]
  generalize mom u (grad p) = a
  generalize sq v (grad p) = b
  funext y
  pointwise

end Cert.AdsIdeal.Hand

namespace Cert.Proof

open Idealize.ShloMosaic Idealize.SL.Sem

theorem algebraic_ads : Cert.algebraic_AdsIdeal_AdsRefIdeal := by
  intro m g m' g' _ hagree
  refine ⟨_, _, _, _, Cert.AdsIdeal.Value.run m g, ?_⟩
  refine (θ_run Cert.AdsRefIdeal.defs _ _).mono (fun _ h c => ⟨(h c).1.trans ?_, (h c).2.1.trans ?_, (h c).2.2.1.trans ?_, (h c).2.2.2.1.trans ?_, (h c).2.2.2.2⟩) (Cert.AdsRefIdeal.Value.run (F := Ideal) m' g')
  all_goals obtain ⟨e0, e1, e2, e3⟩ := hagree c
  · rw [Cert.AdsIdeal.Hand.grad_eq, ← e0]; rfl
  · rw [Cert.AdsIdeal.Hand.delta_eq, ← e0, ← e1, ← e2, ← e3]; rfl
  · rw [Cert.AdsIdeal.Hand.mom_eq, ← e0, ← e2]; rfl
  · rw [Cert.AdsIdeal.Hand.sq_eq, ← e0, ← e3]; rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Value
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Dwd
public import proofs.«01_k».proof.Proof.Gen.Dwd.Skeleton
public import proofs.«01_k».proof.Proof.Gen.Dwd.Launch
public import proofs.«01_k».proof.Proof.Gen.Dwd.Points
public import proofs.«01_k».proof.Proof.Gen.Dwd.Frame
public import proofs.«01_k».proof.Proof.Gen.DwdIdeal
public import proofs.«01_k».proof.Proof.Gen.DwdIdeal.Skeleton
public import proofs.«01_k».proof.Proof.Gen.DwdIdeal.Launch
public import proofs.«01_k».proof.Proof.Gen.DwdIdeal.Points
public import proofs.«01_k».proof.Proof.Gen.DwdIdeal.Frame
public import proofs.«01_k».proof.Proof.Gen.DwdIdeal.Value
public import proofs.«01_k».proof.Proof.Gen.DwdRefIdeal
public import proofs.«01_k».proof.Proof.Gen.DwdRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.Dgu
public import proofs.«01_k».proof.Proof.Gen.Dgu.Skeleton
public import proofs.«01_k».proof.Proof.Gen.Dgu.Launch
public import proofs.«01_k».proof.Proof.Gen.Dgu.Points
public import proofs.«01_k».proof.Proof.Gen.Dgu.Frame
public import proofs.«01_k».proof.Proof.Gen.DguIdeal
public import proofs.«01_k».proof.Proof.Gen.DguIdeal.Skeleton
public import proofs.«01_k».proof.Proof.Gen.DguIdeal.Launch
public import proofs.«01_k».proof.Proof.Gen.DguIdeal.Points
public import proofs.«01_k».proof.Proof.Gen.DguIdeal.Frame
public import proofs.«01_k».proof.Proof.Gen.DguRefIdeal
public import proofs.«01_k».proof.Proof.Gen.DguRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Pin
public import proofs.«01_k».proof.Proof.Gen.Pin.Skeleton
public import proofs.«01_k».proof.Proof.Gen.Pin.Launch
public import proofs.«01_k».proof.Proof.Gen.Pin.Points
public import proofs.«01_k».proof.Proof.Gen.Pin.Frame
public import proofs.«01_k».proof.Proof.Gen.PinIdeal
public import proofs.«01_k».proof.Proof.Gen.PinIdeal.Skeleton
public import proofs.«01_k».proof.Proof.Gen.PinIdeal.Launch
public import proofs.«01_k».proof.Proof.Gen.PinIdeal.Points
public import proofs.«01_k».proof.Proof.Gen.PinIdeal.Frame
public import proofs.«01_k».proof.Proof.Gen.PinIdeal.Value
public import proofs.«01_k».proof.Proof.Gen.PinRefIdeal
public import proofs.«01_k».proof.Proof.Gen.PinRefIdeal.Run
public import proofs.«01_k».proof.Proof.Gen.Ao
public import proofs.«01_k».proof.Proof.Gen.Ao.Skeleton
public import proofs.«01_k».proof.Proof.Gen.Ao.Launch
public import proofs.«01_k».proof.Proof.Gen.Ao.Points
public import proofs.«01_k».proof.Proof.Gen.Ao.Frame
public import proofs.«01_k».proof.Proof.Gen.AoIdeal
public import proofs.«01_k».proof.Proof.Gen.AoIdeal.Skeleton
public import proofs.«01_k».proof.Proof.Gen.AoIdeal.Launch
public import proofs.«01_k».proof.Proof.Gen.AoIdeal.Points
public import proofs.«01_k».proof.Proof.Gen.AoIdeal.Frame
public import proofs.«01_k».proof.Proof.Gen.AoIdeal.Value
public import proofs.«01_k».proof.Proof.Gen.AoRefIdeal
public import proofs.«01_k».proof.Proof.Gen.AoRefIdeal.Run
public import proofs.«01_k».proof.Proof.Gen.Aob
public import proofs.«01_k».proof.Proof.Gen.Aob.Skeleton
public import proofs.«01_k».proof.Proof.Gen.Aob.Launch
public import proofs.«01_k».proof.Proof.Gen.Aob.Points
public import proofs.«01_k».proof.Proof.Gen.Aob.Frame
public import proofs.«01_k».proof.Proof.Gen.AobIdeal
public import proofs.«01_k».proof.Proof.Gen.AobIdeal.Skeleton
public import proofs.«01_k».proof.Proof.Gen.AobIdeal.Launch
public import proofs.«01_k».proof.Proof.Gen.AobIdeal.Points
public import proofs.«01_k».proof.Proof.Gen.AobIdeal.Frame
public import proofs.«01_k».proof.Proof.Gen.AobIdeal.Value
public import proofs.«01_k».proof.Proof.Gen.AobRefIdeal
public import proofs.«01_k».proof.Proof.Gen.AobRefIdeal.Run
public import proofs.«01_k».proof.Proof.Gen.Gao
public import proofs.«01_k».proof.Proof.Gen.Gao.Skeleton
public import proofs.«01_k».proof.Proof.Gen.Gao.Launch
public import proofs.«01_k».proof.Proof.Gen.Gao.Points
public import proofs.«01_k».proof.Proof.Gen.Gao.Frame
public import proofs.«01_k».proof.Proof.Gen.GaoIdeal
public import proofs.«01_k».proof.Proof.Gen.GaoIdeal.Skeleton
public import proofs.«01_k».proof.Proof.Gen.GaoIdeal.Launch
public import proofs.«01_k».proof.Proof.Gen.GaoIdeal.Points
public import proofs.«01_k».proof.Proof.Gen.GaoIdeal.Frame
public import proofs.«01_k».proof.Proof.Gen.GaoIdeal.Value
public import proofs.«01_k».proof.Proof.Gen.GaoRefIdeal
public import proofs.«01_k».proof.Proof.Gen.GaoRefIdeal.Run
public import proofs.«01_k».proof.Proof.Gen.Gqkv
public import proofs.«01_k».proof.Proof.Gen.Gqkv.Skeleton
public import proofs.«01_k».proof.Proof.Gen.Gqkv.Launch
public import proofs.«01_k».proof.Proof.Gen.Gqkv.Points
public import proofs.«01_k».proof.Proof.Gen.Gqkv.Frame
public import proofs.«01_k».proof.Proof.Gen.GqkvIdeal
public import proofs.«01_k».proof.Proof.Gen.GqkvIdeal.Skeleton
public import proofs.«01_k».proof.Proof.Gen.GqkvIdeal.Launch
public import proofs.«01_k».proof.Proof.Gen.GqkvIdeal.Points
public import proofs.«01_k».proof.Proof.Gen.GqkvIdeal.Frame
public import proofs.«01_k».proof.Proof.Gen.GqkvIdeal.Value
public import proofs.«01_k».proof.Proof.Gen.GqkvRefIdeal
public import proofs.«01_k».proof.Proof.Gen.GqkvRefIdeal.Run
public import proofs.«01_k».proof.Proof.Gen.Gsq
public import proofs.«01_k».proof.Proof.Gen.Gsq.Skeleton
public import proofs.«01_k».proof.Proof.Gen.Gsq.Launch
public import proofs.«01_k».proof.Proof.Gen.Gsq.Points
public import proofs.«01_k».proof.Proof.Gen.Gsq.Frame
public import proofs.«01_k».proof.Proof.Gen.GsqIdeal
public import proofs.«01_k».proof.Proof.Gen.GsqIdeal.Skeleton
public import proofs.«01_k».proof.Proof.Gen.GsqIdeal.Launch
public import proofs.«01_k».proof.Proof.Gen.GsqIdeal.Points
public import proofs.«01_k».proof.Proof.Gen.GsqIdeal.Frame
public import proofs.«01_k».proof.Proof.Gen.GsqIdeal.Value
public import proofs.«01_k».proof.Proof.Gen.GsqRefIdeal
public import proofs.«01_k».proof.Proof.Gen.GsqRefIdeal.Run
public import proofs.«01_k».proof.Proof.Gen.Gpp
public import proofs.«01_k».proof.Proof.Gen.Gpp.Skeleton
public import proofs.«01_k».proof.Proof.Gen.Gpp.Launch
public import proofs.«01_k».proof.Proof.Gen.Gpp.Points
public import proofs.«01_k».proof.Proof.Gen.Gpp.Frame
public import proofs.«01_k».proof.Proof.Gen.GppIdeal
public import proofs.«01_k».proof.Proof.Gen.GppIdeal.Skeleton
public import proofs.«01_k».proof.Proof.Gen.GppIdeal.Launch
public import proofs.«01_k».proof.Proof.Gen.GppIdeal.Points
public import proofs.«01_k».proof.Proof.Gen.GppIdeal.Frame
public import proofs.«01_k».proof.Proof.Gen.GppIdeal.Value
public import proofs.«01_k».proof.Proof.Gen.GppRefIdeal
public import proofs.«01_k».proof.Proof.Gen.GppRefIdeal.Run
public import proofs.«01_k».proof.Proof.Gen.Qdh
public import proofs.«01_k».proof.Proof.Gen.Qdh.Skeleton
public import proofs.«01_k».proof.Proof.Gen.Qdh.Launch
public import proofs.«01_k».proof.Proof.Gen.Qdh.Points
public import proofs.«01_k».proof.Proof.Gen.Qdh.Frame
public import proofs.«01_k».proof.Proof.Gen.QdhIdeal
public import proofs.«01_k».proof.Proof.Gen.QdhIdeal.Skeleton
public import proofs.«01_k».proof.Proof.Gen.QdhIdeal.Launch
public import proofs.«01_k».proof.Proof.Gen.QdhIdeal.Points
public import proofs.«01_k».proof.Proof.Gen.QdhIdeal.Frame
public import proofs.«01_k».proof.Proof.Gen.QdhIdeal.Value
public import proofs.«01_k».proof.Proof.Gen.QdhRefIdeal
public import proofs.«01_k».proof.Proof.Gen.QdhRefIdeal.Run
public import proofs.«01_k».proof.Proof.Gen.Sdh
public import proofs.«01_k».proof.Proof.Gen.Sdh.Skeleton
public import proofs.«01_k».proof.Proof.Gen.Sdh.Launch
public import proofs.«01_k».proof.Proof.Gen.Sdh.Points
public import proofs.«01_k».proof.Proof.Gen.Sdh.Frame
public import proofs.«01_k».proof.Proof.Gen.SdhIdeal
public import proofs.«01_k».proof.Proof.Gen.SdhIdeal.Skeleton
public import proofs.«01_k».proof.Proof.Gen.SdhIdeal.Launch
public import proofs.«01_k».proof.Proof.Gen.SdhIdeal.Points
public import proofs.«01_k».proof.Proof.Gen.SdhIdeal.Frame
public import proofs.«01_k».proof.Proof.Gen.SdhIdeal.Value
public import proofs.«01_k».proof.Proof.Gen.SdhRefIdeal
public import proofs.«01_k».proof.Proof.Gen.SdhRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.Pgt
public import proofs.«01_k».proof.Proof.Gen.Pgt.Skeleton
public import proofs.«01_k».proof.Proof.Gen.Pgt.Launch
public import proofs.«01_k».proof.Proof.Gen.Pgt.Points
public import proofs.«01_k».proof.Proof.Gen.Pgt.Frame
public import proofs.«01_k».proof.Proof.Gen.PgtIdeal
public import proofs.«01_k».proof.Proof.Gen.PgtIdeal.Skeleton
public import proofs.«01_k».proof.Proof.Gen.PgtIdeal.Launch
public import proofs.«01_k».proof.Proof.Gen.PgtIdeal.Points
public import proofs.«01_k».proof.Proof.Gen.PgtIdeal.Frame
public import proofs.«01_k».proof.Proof.Gen.PgtIdeal.Value
public import proofs.«01_k».proof.Proof.Gen.PgtRefIdeal
public import proofs.«01_k».proof.Proof.Gen.PgtRefIdeal.Run
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttRefIdeal
public import proofs.«01_k».proof.Proof.Gen.AttRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvRefIdeal
public import proofs.«01_k».proof.Proof.Gen.QkvRefIdeal.Run
public import proofs.«01_k».proof.Proof.Gen.Pgr
public import proofs.«01_k».proof.Proof.Gen.Pgr.Skeleton
public import proofs.«01_k».proof.Proof.Gen.Pgr.Launch
public import proofs.«01_k».proof.Proof.Gen.Pgr.Points
public import proofs.«01_k».proof.Proof.Gen.Pgr.Frame
public import proofs.«01_k».proof.Proof.Gen.PgrIdeal
public import proofs.«01_k».proof.Proof.Gen.PgrIdeal.Skeleton
public import proofs.«01_k».proof.Proof.Gen.PgrIdeal.Launch
public import proofs.«01_k».proof.Proof.Gen.PgrIdeal.Points
public import proofs.«01_k».proof.Proof.Gen.PgrIdeal.Frame
public import proofs.«01_k».proof.Proof.Gen.PgrIdeal.Value
public import proofs.«01_k».proof.Proof.Gen.PgrRefIdeal
public import proofs.«01_k».proof.Proof.Gen.PgrRefIdeal.Run
public import proofs.«01_k».proof.Proof.Gen.Los
public import proofs.«01_k».proof.Proof.Gen.Los.Skeleton
public import proofs.«01_k».proof.Proof.Gen.Los.Launch
public import proofs.«01_k».proof.Proof.Gen.Los.Points
public import proofs.«01_k».proof.Proof.Gen.Los.Frame
public import proofs.«01_k».proof.Proof.Gen.LosIdeal
public import proofs.«01_k».proof.Proof.Gen.LosIdeal.Skeleton
public import proofs.«01_k».proof.Proof.Gen.LosIdeal.Launch
public import proofs.«01_k».proof.Proof.Gen.LosIdeal.Points
public import proofs.«01_k».proof.Proof.Gen.LosIdeal.Frame
public import proofs.«01_k».proof.Proof.Gen.LosIdeal.Value
public import proofs.«01_k».proof.Proof.Gen.LosRefIdeal
public import proofs.«01_k».proof.Proof.Gen.LosRefIdeal.Run
public import proofs.«01_k».proof.Proof.Gen.Ads
public import proofs.«01_k».proof.Proof.Gen.Ads.Skeleton
public import proofs.«01_k».proof.Proof.Gen.Ads.Launch
public import proofs.«01_k».proof.Proof.Gen.Ads.Points
public import proofs.«01_k».proof.Proof.Gen.Ads.Frame
public import proofs.«01_k».proof.Proof.Gen.AdsIdeal
public import proofs.«01_k».proof.Proof.Gen.AdsIdeal.Skeleton
public import proofs.«01_k».proof.Proof.Gen.AdsIdeal.Launch
public import proofs.«01_k».proof.Proof.Gen.AdsIdeal.Points
public import proofs.«01_k».proof.Proof.Gen.AdsIdeal.Frame
public import proofs.«01_k».proof.Proof.Gen.AdsIdeal.Value
public import proofs.«01_k».proof.Proof.Gen.AdsRefIdeal
public import proofs.«01_k».proof.Proof.Gen.AdsRefIdeal.Run
public import proofs.«01_k».proof.Proof.Gen.Hnm
public import proofs.«01_k».proof.Proof.Gen.Hnm.Skeleton
public import proofs.«01_k».proof.Proof.Gen.Hnm.Launch
public import proofs.«01_k».proof.Proof.Gen.Hnm.Points
public import proofs.«01_k».proof.Proof.Gen.Hnm.Frame
public import proofs.«01_k».proof.Proof.Gen.HnmIdeal
public import proofs.«01_k».proof.Proof.Gen.HnmIdeal.Skeleton
public import proofs.«01_k».proof.Proof.Gen.HnmIdeal.Launch
public import proofs.«01_k».proof.Proof.Gen.HnmIdeal.Points
public import proofs.«01_k».proof.Proof.Gen.HnmIdeal.Frame
public import proofs.«01_k».proof.Proof.Gen.HnmIdeal.Value
public import proofs.«01_k».proof.Proof.Gen.HnmRefIdeal
public import proofs.«01_k».proof.Proof.Gen.HnmRefIdeal.Run
public import proofs.«01_k».proof.Proof.Gen.Hnb
public import proofs.«01_k».proof.Proof.Gen.Hnb.Skeleton
public import proofs.«01_k».proof.Proof.Gen.Hnb.Launch
public import proofs.«01_k».proof.Proof.Gen.Hnb.Points
public import proofs.«01_k».proof.Proof.Gen.Hnb.Frame
public import proofs.«01_k».proof.Proof.Gen.HnbIdeal
public import proofs.«01_k».proof.Proof.Gen.HnbIdeal.Skeleton
public import proofs.«01_k».proof.Proof.Gen.HnbIdeal.Launch
public import proofs.«01_k».proof.Proof.Gen.HnbIdeal.Points
public import proofs.«01_k».proof.Proof.Gen.HnbIdeal.Frame
public import proofs.«01_k».proof.Proof.Gen.HnbIdeal.Value
public import proofs.«01_k».proof.Proof.Gen.HnbRefIdeal
public import proofs.«01_k».proof.Proof.Gen.HnbRefIdeal.Run
public import proofs.«01_k».proof.Proof.F.Act
public import proofs.«01_k».proof.Proof.F.Dwd
public import proofs.«01_k».proof.Proof.F.Dh
public import proofs.«01_k».proof.Proof.F.Dgu
public import proofs.«01_k».proof.Proof.F.Up
public import proofs.«01_k».proof.Proof.F.Down
public import proofs.«01_k».proof.Proof.F.Pin
public import proofs.«01_k».proof.Proof.F.Ao
public import proofs.«01_k».proof.Proof.F.Aob
public import proofs.«01_k».proof.Proof.F.Gao
public import proofs.«01_k».proof.Proof.F.Gqkv
public import proofs.«01_k».proof.Proof.F.Gsq
public import proofs.«01_k».proof.Proof.F.Gpp
public import proofs.«01_k».proof.Proof.F.Qdh
public import proofs.«01_k».proof.Proof.F.Sdh
public import proofs.«01_k».proof.Proof.F.Hnb
public import proofs.«01_k».proof.Proof.F.Hnm
public import proofs.«01_k».proof.Proof.F.Ple
public import proofs.«01_k».proof.Proof.F.Pgt
public import proofs.«01_k».proof.Proof.A.Run
public import proofs.«01_k».proof.Proof.AI.Value
public import proofs.«01_k».proof.Proof.Q.Run
public import proofs.«01_k».proof.Proof.F.Qkv
public import proofs.«01_k».proof.Proof.F.Pgr
public import proofs.«01_k».proof.Proof.F.Los
public import proofs.«01_k».proof.Proof.F.Ads
public import Idealize.ShloMosaic.Adequacy
public import Idealize.ShloMosaic.Init

@[expose] public section

noncomputable section

namespace Cert.Proof

open Idealize.ShloMosaic Idealize.SL.Sem Cert.Kernel

theorem frame_ri (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run _ _ _).mono (fun r h => ⟨fun c => (h c).2.2.2, Idealize.ShloMosaic.sem_eq_zero_of_no_sems (by decide) r.2⟩)
    (Cert.ReferenceIdeal.Value.run m g)

theorem frame_act_ri : Cert.quiescent_ActRefIdeal := fun m g _ =>
  (θ_run _ _ _).mono (fun r h => ⟨fun c => (h c).2.2, Idealize.ShloMosaic.sem_eq_zero_of_no_sems (by decide) r.2⟩)
    (Cert.ActRefIdeal.Value.run m g)

theorem frame_dwd_ri : Cert.quiescent_DwdRefIdeal := fun m g _ =>
  (θ_run _ _ _).mono (fun r h => ⟨fun c => (h c).2, Idealize.ShloMosaic.sem_eq_zero_of_no_sems (by decide) r.2⟩)
    (Cert.DwdRefIdeal.Value.run m g)

theorem frame_dh_ri : Cert.quiescent_DhRefIdeal := fun m g _ =>
  (θ_run _ _ _).mono (fun r h => ⟨fun c => (h c).2.2, Idealize.ShloMosaic.sem_eq_zero_of_no_sems (by decide) r.2⟩)
    (Cert.DhRefIdeal.Value.run m g)

theorem frame_dgu_ri : Cert.quiescent_DguRefIdeal := fun m g _ =>
  (θ_run _ _ _).mono (fun r h => ⟨fun c => (h c).2, Idealize.ShloMosaic.sem_eq_zero_of_no_sems (by decide) r.2⟩)
    (Cert.DguRefIdeal.Value.run m g)

theorem frame_up_ri : Cert.quiescent_UpRefIdeal := fun m g _ =>
  (θ_run _ _ _).mono (fun r h => ⟨fun c => (h c).2.2.2.2, Idealize.ShloMosaic.sem_eq_zero_of_no_sems (by decide) r.2⟩)
    (Cert.UpRefIdeal.Value.run m g)

theorem frame_down_ri : Cert.quiescent_DownRefIdeal := fun m g _ =>
  (θ_run _ _ _).mono (fun r h => ⟨fun c => (h c).2, Idealize.ShloMosaic.sem_eq_zero_of_no_sems (by decide) r.2⟩)
    (Cert.DownRefIdeal.Value.run m g)

theorem frame_pin_ri : Cert.quiescent_PinRefIdeal := fun m g _ =>
  (θ_run _ _ _).mono (fun r h => ⟨fun c => (h c).2.2, Idealize.ShloMosaic.sem_eq_zero_of_no_sems (by decide) r.2⟩)
    (Cert.PinRefIdeal.Value.run m g)

theorem frame_ao_ri : Cert.quiescent_AoRefIdeal := fun m g _ =>
  (θ_run _ _ _).mono (fun r h => ⟨fun c => (h c).2, Idealize.ShloMosaic.sem_eq_zero_of_no_sems (by decide) r.2⟩)
    (Cert.AoRefIdeal.Value.run m g)

theorem frame_aob_ri : Cert.quiescent_AobRefIdeal := fun m g _ =>
  (θ_run _ _ _).mono (fun r h => ⟨fun c => (h c).2, Idealize.ShloMosaic.sem_eq_zero_of_no_sems (by decide) r.2⟩)
    (Cert.AobRefIdeal.Value.run m g)

theorem frame_gao_ri : Cert.quiescent_GaoRefIdeal := fun m g _ =>
  (θ_run _ _ _).mono (fun r h => ⟨fun c => (h c).2, Idealize.ShloMosaic.sem_eq_zero_of_no_sems (by decide) r.2⟩)
    (Cert.GaoRefIdeal.Value.run m g)

theorem frame_gqkv_ri : Cert.quiescent_GqkvRefIdeal := fun m g _ =>
  (θ_run _ _ _).mono (fun r h => ⟨fun c => (h c).2, Idealize.ShloMosaic.sem_eq_zero_of_no_sems (by decide) r.2⟩)
    (Cert.GqkvRefIdeal.Value.run m g)

theorem frame_gsq_ri : Cert.quiescent_GsqRefIdeal := fun m g _ =>
  (θ_run _ _ _).mono (fun r h => ⟨fun c => (h c).2, Idealize.ShloMosaic.sem_eq_zero_of_no_sems (by decide) r.2⟩)
    (Cert.GsqRefIdeal.Value.run m g)

theorem frame_gpp_ri : Cert.quiescent_GppRefIdeal := fun m g _ =>
  (θ_run _ _ _).mono (fun r h => ⟨fun c => (h c).2, Idealize.ShloMosaic.sem_eq_zero_of_no_sems (by decide) r.2⟩)
    (Cert.GppRefIdeal.Value.run m g)

theorem frame_qdh_ri : Cert.quiescent_QdhRefIdeal := fun m g _ =>
  (θ_run _ _ _).mono (fun r h => ⟨fun c => (h c).2.2, Idealize.ShloMosaic.sem_eq_zero_of_no_sems (by decide) r.2⟩)
    (Cert.QdhRefIdeal.Value.run m g)

theorem frame_sdh_ri : Cert.quiescent_SdhRefIdeal := fun m g _ =>
  (θ_run _ _ _).mono (fun r h => ⟨fun c => (h c).2.2, Idealize.ShloMosaic.sem_eq_zero_of_no_sems (by decide) r.2⟩)
    (Cert.SdhRefIdeal.Value.run m g)

theorem frame_ple_ri : Cert.quiescent_PleRefIdeal := fun m g _ =>
  (θ_run _ _ _).mono (fun r h => ⟨fun c => (h c).2.2.2.2, Idealize.ShloMosaic.sem_eq_zero_of_no_sems (by decide) r.2⟩)
    (Cert.PleRefIdeal.Value.run m g)

theorem frame_pgt_ri : Cert.quiescent_PgtRefIdeal := fun m g _ =>
  (θ_run _ _ _).mono (fun r h => ⟨fun c => (h c).2.2, Idealize.ShloMosaic.sem_eq_zero_of_no_sems (by decide) r.2⟩)
    (Cert.PgtRefIdeal.Value.run m g)

theorem frame_att_ri : Cert.quiescent_AttRefIdeal := fun m g _ =>
  (θ_run _ _ _).mono (fun r h => ⟨fun c => (h c).2, Idealize.ShloMosaic.sem_eq_zero_of_no_sems (by decide) r.2⟩)
    (Cert.AttRefIdeal.Value.run m g)

theorem frame_qkv_ri : Cert.quiescent_QkvRefIdeal := fun m g _ =>
  (θ_run _ _ _).mono (fun r h => ⟨fun c => (h c).2.2, Idealize.ShloMosaic.sem_eq_zero_of_no_sems (by decide) r.2⟩)
    (Cert.QkvRefIdeal.Value.run m g)

theorem frame_pgr_ri : Cert.quiescent_PgrRefIdeal := fun m g _ =>
  (θ_run _ _ _).mono (fun r h => ⟨fun c => (h c).2.2.2, Idealize.ShloMosaic.sem_eq_zero_of_no_sems (by decide) r.2⟩)
    (Cert.PgrRefIdeal.Value.run m g)

theorem frame_los_ri : Cert.quiescent_LosRefIdeal := fun m g _ =>
  (θ_run _ _ _).mono (fun r h => ⟨fun c => (h c).2.2, Idealize.ShloMosaic.sem_eq_zero_of_no_sems (by decide) r.2⟩)
    (Cert.LosRefIdeal.Value.run m g)

theorem frame_ads_ri : Cert.quiescent_AdsRefIdeal := fun m g _ =>
  (θ_run _ _ _).mono (fun r h => ⟨fun c => (h c).2.2.2.2, Idealize.ShloMosaic.sem_eq_zero_of_no_sems (by decide) r.2⟩)
    (Cert.AdsRefIdeal.Value.run m g)

theorem frame_hnm_ri : Cert.quiescent_HnmRefIdeal := fun m g _ =>
  (θ_run _ _ _).mono (fun r h => ⟨fun c => (h c).2.2.2, Idealize.ShloMosaic.sem_eq_zero_of_no_sems (by decide) r.2⟩)
    (Cert.HnmRefIdeal.Value.run m g)

theorem frame_hnb_ri : Cert.quiescent_HnbRefIdeal := fun m g _ =>
  (θ_run _ _ _).mono (fun r h => ⟨fun c => (h c).2.2.2, Idealize.ShloMosaic.sem_eq_zero_of_no_sems (by decide) r.2⟩)
    (Cert.HnbRefIdeal.Value.run m g)

theorem claim : Cert.Claim := ⟨Cert.Kernel.Gen.facts, Cert.KernelIdeal.Gen.facts, Cert.ReferenceIdeal.Gen.facts,
  Cert.Act.Gen.facts, Cert.ActIdeal.Gen.facts, Cert.ActRefIdeal.Gen.facts,
  Cert.Dwd.Gen.facts, Cert.DwdIdeal.Gen.facts, Cert.DwdRefIdeal.Gen.facts,
  Cert.Dh.Gen.facts, Cert.DhIdeal.Gen.facts, Cert.DhRefIdeal.Gen.facts,
  Cert.Dgu.Gen.facts, Cert.DguIdeal.Gen.facts, Cert.DguRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Pin.Gen.facts, Cert.PinIdeal.Gen.facts, Cert.PinRefIdeal.Gen.facts,
  Cert.Ao.Gen.facts, Cert.AoIdeal.Gen.facts, Cert.AoRefIdeal.Gen.facts,
  Cert.Aob.Gen.facts, Cert.AobIdeal.Gen.facts, Cert.AobRefIdeal.Gen.facts,
  Cert.Gao.Gen.facts, Cert.GaoIdeal.Gen.facts, Cert.GaoRefIdeal.Gen.facts,
  Cert.Gqkv.Gen.facts, Cert.GqkvIdeal.Gen.facts, Cert.GqkvRefIdeal.Gen.facts,
  Cert.Gsq.Gen.facts, Cert.GsqIdeal.Gen.facts, Cert.GsqRefIdeal.Gen.facts,
  Cert.Gpp.Gen.facts, Cert.GppIdeal.Gen.facts, Cert.GppRefIdeal.Gen.facts,
  Cert.Qdh.Gen.facts, Cert.QdhIdeal.Gen.facts, Cert.QdhRefIdeal.Gen.facts,
  Cert.Sdh.Gen.facts, Cert.SdhIdeal.Gen.facts, Cert.SdhRefIdeal.Gen.facts,
  Cert.Ple.Gen.facts, Cert.PleIdeal.Gen.facts, Cert.PleRefIdeal.Gen.facts,
  Cert.Pgt.Gen.facts, Cert.PgtIdeal.Gen.facts, Cert.PgtRefIdeal.Gen.facts,
  Cert.Att.Gen.facts, Cert.AttIdeal.Gen.facts, Cert.AttRefIdeal.Gen.facts,
  Cert.Qkv.Gen.facts, Cert.QkvIdeal.Gen.facts, Cert.QkvRefIdeal.Gen.facts,
  Cert.Pgr.Gen.facts, Cert.PgrIdeal.Gen.facts, Cert.PgrRefIdeal.Gen.facts,
  Cert.Los.Gen.facts, Cert.LosIdeal.Gen.facts, Cert.LosRefIdeal.Gen.facts,
  Cert.Ads.Gen.facts, Cert.AdsIdeal.Gen.facts, Cert.AdsRefIdeal.Gen.facts,
  Cert.Hnm.Gen.facts, Cert.HnmIdeal.Gen.facts, Cert.HnmRefIdeal.Gen.facts,
  Cert.Hnb.Gen.facts, Cert.HnbIdeal.Gen.facts, Cert.HnbRefIdeal.Gen.facts,
  Cert.Finite.facts, Cert.Pre_act_finite.facts, Cert.Pre_dh_finite.facts, Cert.Pre_qkv_dh_finite.facts, Cert.Pre_square_dh_finite.facts, Cert.Pre_attention_finite.facts, Cert.Pre_qk_norm_finite.facts,
  fun m g _ => Cert.Kernel.Hand.frame m g, fun m g _ => Cert.KernelIdeal.Hand.frame m g, fun m g _ => Cert.KernelIdeal.Hand.frame m g,
  fun m g _ => frame_ri m g, fun m g _ => frame_ri m g,
  fun m g _ => Cert.Act.Gen.frame m g, fun m g _ => Cert.ActIdeal.Gen.frame m g, fun m g _ => Cert.ActIdeal.Gen.frame m g, frame_act_ri, fun m g _ => frame_act_ri m g (by trivial),
  fun m g _ => Cert.Dwd.Gen.frame m g, fun m g _ => Cert.DwdIdeal.Gen.frame m g, frame_dwd_ri,
  fun m g _ => Cert.Dh.Gen.frame m g, fun m g _ => Cert.DhIdeal.Gen.frame m g, fun m g _ => Cert.DhIdeal.Gen.frame m g, frame_dh_ri, fun m g _ => frame_dh_ri m g (by trivial),
  fun m g _ => Cert.Dgu.Gen.frame m g, fun m g _ => Cert.DguIdeal.Gen.frame m g, frame_dgu_ri,
  fun m g _ => Cert.Up.Gen.frame m g, fun m g _ => Cert.UpIdeal.Gen.frame m g, frame_up_ri,
  fun m g _ => Cert.Down.Gen.frame m g, fun m g _ => Cert.DownIdeal.Gen.frame m g, frame_down_ri,
  fun m g _ => Cert.Pin.Gen.frame m g, fun m g _ => Cert.PinIdeal.Gen.frame m g, frame_pin_ri,
  fun m g _ => Cert.Ao.Gen.frame m g, fun m g _ => Cert.AoIdeal.Gen.frame m g, frame_ao_ri,
  fun m g _ => Cert.Aob.Gen.frame m g, fun m g _ => Cert.AobIdeal.Gen.frame m g, frame_aob_ri,
  fun m g _ => Cert.Gao.Gen.frame m g, fun m g _ => Cert.GaoIdeal.Gen.frame m g, frame_gao_ri,
  fun m g _ => Cert.Gqkv.Gen.frame m g, fun m g _ => Cert.GqkvIdeal.Gen.frame m g, frame_gqkv_ri,
  fun m g _ => Cert.Gsq.Gen.frame m g, fun m g _ => Cert.GsqIdeal.Gen.frame m g, frame_gsq_ri,
  fun m g _ => Cert.Gpp.Gen.frame m g, fun m g _ => Cert.GppIdeal.Gen.frame m g, frame_gpp_ri,
  fun m g _ => Cert.Qdh.Gen.frame m g, fun m g _ => Cert.QdhIdeal.Gen.frame m g, fun m g _ => Cert.QdhIdeal.Gen.frame m g, frame_qdh_ri, fun m g _ => frame_qdh_ri m g (by trivial),
  fun m g _ => Cert.Sdh.Gen.frame m g, fun m g _ => Cert.SdhIdeal.Gen.frame m g, fun m g _ => Cert.SdhIdeal.Gen.frame m g, frame_sdh_ri, fun m g _ => frame_sdh_ri m g (by trivial),
  fun m g _ => Cert.Ple.Gen.frame m g, fun m g _ => Cert.PleIdeal.Gen.frame m g, frame_ple_ri,
  fun m g _ => Cert.Pgt.Gen.frame m g, fun m g _ => Cert.PgtIdeal.Gen.frame m g, frame_pgt_ri,
  fun m g _ => Cert.Att.Hand.frame m g, fun m g _ => Cert.AttIdeal.Hand.frame m g, fun m g _ => Cert.AttIdeal.Hand.frame m g, frame_att_ri, fun m g _ => frame_att_ri m g (by trivial),
  fun m g _ => Cert.Qkv.Hand.frame m g, fun m g _ => Cert.QkvIdeal.Hand.frame m g, frame_qkv_ri,
  fun m g _ => Cert.Pgr.Gen.frame m g, fun m g _ => Cert.PgrIdeal.Gen.frame m g, frame_pgr_ri,
  fun m g _ => Cert.Los.Gen.frame m g, fun m g _ => Cert.LosIdeal.Gen.frame m g, frame_los_ri,
  fun m g _ => Cert.Ads.Gen.frame m g, fun m g _ => Cert.AdsIdeal.Gen.frame m g, frame_ads_ri,
  fun m g _ => Cert.Hnm.Gen.frame m g, fun m g _ => Cert.HnmIdeal.Gen.frame m g, frame_hnm_ri,
  fun m g _ => Cert.Hnb.Gen.frame m g, fun m g _ => Cert.HnbIdeal.Gen.frame m g, fun m g _ => Cert.HnbIdeal.Gen.frame m g, frame_hnb_ri, fun m g _ => frame_hnb_ri m g (by trivial),
  IdealRules.named_const.statement _ _ _ _ _ (by simp [Cert.KernelIdeal.κ]), algebraic,
  trivial, algebraic_act, trivial, algebraic_dwd, trivial, algebraic_dh, trivial, algebraic_dgu, trivial, algebraic_up, trivial, algebraic_down,
  trivial, algebraic_pin, trivial, algebraic_ao, trivial, algebraic_aob, trivial, algebraic_gao, trivial, algebraic_gqkv, trivial, algebraic_gsq, trivial, algebraic_gpp, trivial, algebraic_qdh, trivial, algebraic_sdh, trivial, algebraic_ple, trivial, algebraic_pgt,
  IdealRules.named_const.statement _ _ _ _ _ (by simp [Cert.AttIdeal.κ]), algebraic_att,
  trivial, algebraic_qkv, trivial, algebraic_pgr, trivial, algebraic_los, trivial, algebraic_ads, trivial, algebraic_hnm, trivial, algebraic_hnb⟩

end Cert.Proof

end
